-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_AdamwFfKernel (m : (ℓ : Loc Cert.AdamwFfKernel.nD Cert.AdamwFfKernel.τ Cert.AdamwFfKernel.sig) → Buf (Elt Bits) ℓ) : Prop :=
  True

def Pre_AdamwFfKernelIdeal (m : (ℓ : Loc Cert.AdamwFfKernelIdeal.nD Cert.AdamwFfKernelIdeal.τ Cert.AdamwFfKernelIdeal.sig) → Buf (Elt Ideal) ℓ) : Prop :=
  True

def Pre_AdamwFfReferenceIdeal (m : (ℓ : Loc Cert.AdamwFfReferenceIdeal.nD Cert.AdamwFfReferenceIdeal.τ Cert.AdamwFfReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SumsKernel (m : (ℓ : Loc Cert.SumsKernel.nD Cert.SumsKernel.τ Cert.SumsKernel.sig) → Buf (Elt Bits) ℓ) : Prop :=
  True

def Pre_SumsKernelIdeal (m : (ℓ : Loc Cert.SumsKernelIdeal.nD Cert.SumsKernelIdeal.τ Cert.SumsKernelIdeal.sig) → Buf (Elt Ideal) ℓ) : Prop :=
  True

def Pre_SumsReferenceIdeal (m : (ℓ : Loc Cert.SumsReferenceIdeal.nD Cert.SumsReferenceIdeal.τ Cert.SumsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3)
      ∧ r.2.mem ((c.tc : Thread Cert.AdamwKernel.nD Cert.AdamwKernel.τ).loc Cert.AdamwKernel.main_arg4) = m ((c.tc : Thread Cert.AdamwKernel.nD Cert.AdamwKernel.τ).loc Cert.AdamwKernel.main_arg4)
      ∧ r.2.mem ((c.tc : Thread Cert.AdamwKernel.nD Cert.AdamwKernel.τ).loc Cert.AdamwKernel.main_arg5) = m ((c.tc : Thread Cert.AdamwKernel.nD Cert.AdamwKernel.τ).loc Cert.AdamwKernel.main_arg5)
      ∧ r.2.mem ((c.tc : Thread Cert.AdamwKernel.nD Cert.AdamwKernel.τ).loc Cert.AdamwKernel.main_arg6) = m ((c.tc : Thread Cert.AdamwKernel.nD Cert.AdamwKernel.τ).loc Cert.AdamwKernel.main_arg6)
      ∧ r.2.mem ((c.tc : Thread Cert.AdamwKernel.nD Cert.AdamwKernel.τ).loc Cert.AdamwKernel.main_arg7) = m ((c.tc : Thread Cert.AdamwKernel.nD Cert.AdamwKernel.τ).loc Cert.AdamwKernel.main_arg7)
      ∧ r.2.mem ((c.tc : Thread Cert.AdamwKernel.nD Cert.AdamwKernel.τ).loc Cert.AdamwKernel.main_arg8) = m ((c.tc : Thread Cert.AdamwKernel.nD Cert.AdamwKernel.τ).loc Cert.AdamwKernel.main_arg8)
      ∧ r.2.mem ((c.tc : Thread Cert.AdamwKernel.nD Cert.AdamwKernel.τ).loc Cert.AdamwKernel.main_arg9) = m ((c.tc : Thread Cert.AdamwKernel.nD Cert.AdamwKernel.τ).loc Cert.AdamwKernel.main_arg9)
      ∧ r.2.mem ((c.tc : Thread Cert.AdamwKernel.nD Cert.AdamwKernel.τ).loc Cert.AdamwKernel.main_arg10) = m ((c.tc : Thread Cert.AdamwKernel.nD Cert.AdamwKernel.τ).loc Cert.AdamwKernel.main_arg10)
      ∧ r.2.mem ((c.tc : Thread Cert.AdamwKernel.nD Cert.AdamwKernel.τ).loc Cert.AdamwKernel.main_arg11) = m ((c.tc : Thread Cert.AdamwKernel.nD Cert.AdamwKernel.τ).loc Cert.AdamwKernel.main_arg11)
      ∧ r.2.mem ((c.tc : Thread Cert.AdamwKernel.nD Cert.AdamwKernel.τ).loc Cert.AdamwKernel.main_arg12) = m ((c.tc : Thread Cert.AdamwKernel.nD Cert.AdamwKernel.τ).loc Cert.AdamwKernel.main_arg12)
      ∧ r.2.mem ((c.tc : Thread Cert.AdamwKernel.nD Cert.AdamwKernel.τ).loc Cert.AdamwKernel.main_arg13) = m ((c.tc : Thread Cert.AdamwKernel.nD Cert.AdamwKernel.τ).loc Cert.AdamwKernel.main_arg13)
      ∧ r.2.mem ((c.tc : Thread Cert.AdamwKernel.nD Cert.AdamwKernel.τ).loc Cert.AdamwKernel.main_arg14) = m ((c.tc : Thread Cert.AdamwKernel.nD Cert.AdamwKernel.τ).loc Cert.AdamwKernel.main_arg14)
      ∧ r.2.mem ((c.tc : Thread Cert.AdamwKernel.nD Cert.AdamwKernel.τ).loc Cert.AdamwKernel.main_arg15) = m ((c.tc : Thread Cert.AdamwKernel.nD Cert.AdamwKernel.τ).loc Cert.AdamwKernel.main_arg15)
      ∧ r.2.mem ((c.tc : Thread Cert.AdamwKernel.nD Cert.AdamwKernel.τ).loc Cert.AdamwKernel.main_arg16) = m ((c.tc : Thread Cert.AdamwKernel.nD Cert.AdamwKernel.τ).loc Cert.AdamwKernel.main_arg16)
      ∧ r.2.mem ((c.tc : Thread Cert.AdamwKernel.nD Cert.AdamwKernel.τ).loc Cert.AdamwKernel.main_arg17) = m ((c.tc : Thread Cert.AdamwKernel.nD Cert.AdamwKernel.τ).loc Cert.AdamwKernel.main_arg17)
      ∧ r.2.mem ((c.tc : Thread Cert.AdamwKernel.nD Cert.AdamwKernel.τ).loc Cert.AdamwKernel.main_arg18) = m ((c.tc : Thread Cert.AdamwKernel.nD Cert.AdamwKernel.τ).loc Cert.AdamwKernel.main_arg18)
      ∧ r.2.mem ((c.tc : Thread Cert.AdamwKernel.nD Cert.AdamwKernel.τ).loc Cert.AdamwKernel.main_arg19) = m ((c.tc : Thread Cert.AdamwKernel.nD Cert.AdamwKernel.τ).loc Cert.AdamwKernel.main_arg19))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3)
      ∧ r.2.mem ((c.tc : Thread Cert.AdamwKernelIdeal.nD Cert.AdamwKernelIdeal.τ).loc Cert.AdamwKernelIdeal.main_arg4) = m ((c.tc : Thread Cert.AdamwKernelIdeal.nD Cert.AdamwKernelIdeal.τ).loc Cert.AdamwKernelIdeal.main_arg4)
      ∧ r.2.mem ((c.tc : Thread Cert.AdamwKernelIdeal.nD Cert.AdamwKernelIdeal.τ).loc Cert.AdamwKernelIdeal.main_arg5) = m ((c.tc : Thread Cert.AdamwKernelIdeal.nD Cert.AdamwKernelIdeal.τ).loc Cert.AdamwKernelIdeal.main_arg5)
      ∧ r.2.mem ((c.tc : Thread Cert.AdamwKernelIdeal.nD Cert.AdamwKernelIdeal.τ).loc Cert.AdamwKernelIdeal.main_arg6) = m ((c.tc : Thread Cert.AdamwKernelIdeal.nD Cert.AdamwKernelIdeal.τ).loc Cert.AdamwKernelIdeal.main_arg6)
      ∧ r.2.mem ((c.tc : Thread Cert.AdamwKernelIdeal.nD Cert.AdamwKernelIdeal.τ).loc Cert.AdamwKernelIdeal.main_arg7) = m ((c.tc : Thread Cert.AdamwKernelIdeal.nD Cert.AdamwKernelIdeal.τ).loc Cert.AdamwKernelIdeal.main_arg7)
      ∧ r.2.mem ((c.tc : Thread Cert.AdamwKernelIdeal.nD Cert.AdamwKernelIdeal.τ).loc Cert.AdamwKernelIdeal.main_arg8) = m ((c.tc : Thread Cert.AdamwKernelIdeal.nD Cert.AdamwKernelIdeal.τ).loc Cert.AdamwKernelIdeal.main_arg8)
      ∧ r.2.mem ((c.tc : Thread Cert.AdamwKernelIdeal.nD Cert.AdamwKernelIdeal.τ).loc Cert.AdamwKernelIdeal.main_arg9) = m ((c.tc : Thread Cert.AdamwKernelIdeal.nD Cert.AdamwKernelIdeal.τ).loc Cert.AdamwKernelIdeal.main_arg9)
      ∧ r.2.mem ((c.tc : Thread Cert.AdamwKernelIdeal.nD Cert.AdamwKernelIdeal.τ).loc Cert.AdamwKernelIdeal.main_arg10) = m ((c.tc : Thread Cert.AdamwKernelIdeal.nD Cert.AdamwKernelIdeal.τ).loc Cert.AdamwKernelIdeal.main_arg10)
      ∧ r.2.mem ((c.tc : Thread Cert.AdamwKernelIdeal.nD Cert.AdamwKernelIdeal.τ).loc Cert.AdamwKernelIdeal.main_arg11) = m ((c.tc : Thread Cert.AdamwKernelIdeal.nD Cert.AdamwKernelIdeal.τ).loc Cert.AdamwKernelIdeal.main_arg11)
      ∧ r.2.mem ((c.tc : Thread Cert.AdamwKernelIdeal.nD Cert.AdamwKernelIdeal.τ).loc Cert.AdamwKernelIdeal.main_arg12) = m ((c.tc : Thread Cert.AdamwKernelIdeal.nD Cert.AdamwKernelIdeal.τ).loc Cert.AdamwKernelIdeal.main_arg12)
      ∧ r.2.mem ((c.tc : Thread Cert.AdamwKernelIdeal.nD Cert.AdamwKernelIdeal.τ).loc Cert.AdamwKernelIdeal.main_arg13) = m ((c.tc : Thread Cert.AdamwKernelIdeal.nD Cert.AdamwKernelIdeal.τ).loc Cert.AdamwKernelIdeal.main_arg13)
      ∧ r.2.mem ((c.tc : Thread Cert.AdamwKernelIdeal.nD Cert.AdamwKernelIdeal.τ).loc Cert.AdamwKernelIdeal.main_arg14) = m ((c.tc : Thread Cert.AdamwKernelIdeal.nD Cert.AdamwKernelIdeal.τ).loc Cert.AdamwKernelIdeal.main_arg14)
      ∧ r.2.mem ((c.tc : Thread Cert.AdamwKernelIdeal.nD Cert.AdamwKernelIdeal.τ).loc Cert.AdamwKernelIdeal.main_arg15) = m ((c.tc : Thread Cert.AdamwKernelIdeal.nD Cert.AdamwKernelIdeal.τ).loc Cert.AdamwKernelIdeal.main_arg15)
      ∧ r.2.mem ((c.tc : Thread Cert.AdamwKernelIdeal.nD Cert.AdamwKernelIdeal.τ).loc Cert.AdamwKernelIdeal.main_arg16) = m ((c.tc : Thread Cert.AdamwKernelIdeal.nD Cert.AdamwKernelIdeal.τ).loc Cert.AdamwKernelIdeal.main_arg16)
      ∧ r.2.mem ((c.tc : Thread Cert.AdamwKernelIdeal.nD Cert.AdamwKernelIdeal.τ).loc Cert.AdamwKernelIdeal.main_arg17) = m ((c.tc : Thread Cert.AdamwKernelIdeal.nD Cert.AdamwKernelIdeal.τ).loc Cert.AdamwKernelIdeal.main_arg17)
      ∧ r.2.mem ((c.tc : Thread Cert.AdamwKernelIdeal.nD Cert.AdamwKernelIdeal.τ).loc Cert.AdamwKernelIdeal.main_arg18) = m ((c.tc : Thread Cert.AdamwKernelIdeal.nD Cert.AdamwKernelIdeal.τ).loc Cert.AdamwKernelIdeal.main_arg18)
      ∧ r.2.mem ((c.tc : Thread Cert.AdamwKernelIdeal.nD Cert.AdamwKernelIdeal.τ).loc Cert.AdamwKernelIdeal.main_arg19) = m ((c.tc : Thread Cert.AdamwKernelIdeal.nD Cert.AdamwKernelIdeal.τ).loc Cert.AdamwKernelIdeal.main_arg19))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3)
      ∧ r.2.mem ((c.tc : Thread Cert.AdamwReferenceIdeal.nD Cert.AdamwReferenceIdeal.τ).loc Cert.AdamwReferenceIdeal.main_arg4) = m ((c.tc : Thread Cert.AdamwReferenceIdeal.nD Cert.AdamwReferenceIdeal.τ).loc Cert.AdamwReferenceIdeal.main_arg4)
      ∧ r.2.mem ((c.tc : Thread Cert.AdamwReferenceIdeal.nD Cert.AdamwReferenceIdeal.τ).loc Cert.AdamwReferenceIdeal.main_arg5) = m ((c.tc : Thread Cert.AdamwReferenceIdeal.nD Cert.AdamwReferenceIdeal.τ).loc Cert.AdamwReferenceIdeal.main_arg5)
      ∧ r.2.mem ((c.tc : Thread Cert.AdamwReferenceIdeal.nD Cert.AdamwReferenceIdeal.τ).loc Cert.AdamwReferenceIdeal.main_arg6) = m ((c.tc : Thread Cert.AdamwReferenceIdeal.nD Cert.AdamwReferenceIdeal.τ).loc Cert.AdamwReferenceIdeal.main_arg6)
      ∧ r.2.mem ((c.tc : Thread Cert.AdamwReferenceIdeal.nD Cert.AdamwReferenceIdeal.τ).loc Cert.AdamwReferenceIdeal.main_arg7) = m ((c.tc : Thread Cert.AdamwReferenceIdeal.nD Cert.AdamwReferenceIdeal.τ).loc Cert.AdamwReferenceIdeal.main_arg7)
      ∧ r.2.mem ((c.tc : Thread Cert.AdamwReferenceIdeal.nD Cert.AdamwReferenceIdeal.τ).loc Cert.AdamwReferenceIdeal.main_arg8) = m ((c.tc : Thread Cert.AdamwReferenceIdeal.nD Cert.AdamwReferenceIdeal.τ).loc Cert.AdamwReferenceIdeal.main_arg8)
      ∧ r.2.mem ((c.tc : Thread Cert.AdamwReferenceIdeal.nD Cert.AdamwReferenceIdeal.τ).loc Cert.AdamwReferenceIdeal.main_arg9) = m ((c.tc : Thread Cert.AdamwReferenceIdeal.nD Cert.AdamwReferenceIdeal.τ).loc Cert.AdamwReferenceIdeal.main_arg9)
      ∧ r.2.mem ((c.tc : Thread Cert.AdamwReferenceIdeal.nD Cert.AdamwReferenceIdeal.τ).loc Cert.AdamwReferenceIdeal.main_arg10) = m ((c.tc : Thread Cert.AdamwReferenceIdeal.nD Cert.AdamwReferenceIdeal.τ).loc Cert.AdamwReferenceIdeal.main_arg10)
      ∧ r.2.mem ((c.tc : Thread Cert.AdamwReferenceIdeal.nD Cert.AdamwReferenceIdeal.τ).loc Cert.AdamwReferenceIdeal.main_arg11) = m ((c.tc : Thread Cert.AdamwReferenceIdeal.nD Cert.AdamwReferenceIdeal.τ).loc Cert.AdamwReferenceIdeal.main_arg11)
      ∧ r.2.mem ((c.tc : Thread Cert.AdamwReferenceIdeal.nD Cert.AdamwReferenceIdeal.τ).loc Cert.AdamwReferenceIdeal.main_arg12) = m ((c.tc : Thread Cert.AdamwReferenceIdeal.nD Cert.AdamwReferenceIdeal.τ).loc Cert.AdamwReferenceIdeal.main_arg12)
      ∧ r.2.mem ((c.tc : Thread Cert.AdamwReferenceIdeal.nD Cert.AdamwReferenceIdeal.τ).loc Cert.AdamwReferenceIdeal.main_arg13) = m ((c.tc : Thread Cert.AdamwReferenceIdeal.nD Cert.AdamwReferenceIdeal.τ).loc Cert.AdamwReferenceIdeal.main_arg13)
      ∧ r.2.mem ((c.tc : Thread Cert.AdamwReferenceIdeal.nD Cert.AdamwReferenceIdeal.τ).loc Cert.AdamwReferenceIdeal.main_arg14) = m ((c.tc : Thread Cert.AdamwReferenceIdeal.nD Cert.AdamwReferenceIdeal.τ).loc Cert.AdamwReferenceIdeal.main_arg14)
      ∧ r.2.mem ((c.tc : Thread Cert.AdamwReferenceIdeal.nD Cert.AdamwReferenceIdeal.τ).loc Cert.AdamwReferenceIdeal.main_arg15) = m ((c.tc : Thread Cert.AdamwReferenceIdeal.nD Cert.AdamwReferenceIdeal.τ).loc Cert.AdamwReferenceIdeal.main_arg15)
      ∧ r.2.mem ((c.tc : Thread Cert.AdamwReferenceIdeal.nD Cert.AdamwReferenceIdeal.τ).loc Cert.AdamwReferenceIdeal.main_arg16) = m ((c.tc : Thread Cert.AdamwReferenceIdeal.nD Cert.AdamwReferenceIdeal.τ).loc Cert.AdamwReferenceIdeal.main_arg16)
      ∧ r.2.mem ((c.tc : Thread Cert.AdamwReferenceIdeal.nD Cert.AdamwReferenceIdeal.τ).loc Cert.AdamwReferenceIdeal.main_arg17) = m ((c.tc : Thread Cert.AdamwReferenceIdeal.nD Cert.AdamwReferenceIdeal.τ).loc Cert.AdamwReferenceIdeal.main_arg17)
      ∧ r.2.mem ((c.tc : Thread Cert.AdamwReferenceIdeal.nD Cert.AdamwReferenceIdeal.τ).loc Cert.AdamwReferenceIdeal.main_arg18) = m ((c.tc : Thread Cert.AdamwReferenceIdeal.nD Cert.AdamwReferenceIdeal.τ).loc Cert.AdamwReferenceIdeal.main_arg18)
      ∧ r.2.mem ((c.tc : Thread Cert.AdamwReferenceIdeal.nD Cert.AdamwReferenceIdeal.τ).loc Cert.AdamwReferenceIdeal.main_arg19) = m ((c.tc : Thread Cert.AdamwReferenceIdeal.nD Cert.AdamwReferenceIdeal.τ).loc Cert.AdamwReferenceIdeal.main_arg19))
      ∧ r.2.sem = fun _ => 0)

def quiescent_AdamwFfKernel [hAdamwFfKernel : Cert.AdamwFfKernel.Facts] : Prop :=
  ∀ (m : (ℓ : Loc Cert.AdamwFfKernel.nD Cert.AdamwFfKernel.τ Cert.AdamwFfKernel.sig) → Buf (Elt Bits) ℓ) (g : Dev Cert.AdamwFfKernel.nD → PrngReg), Pre_AdamwFfKernel m →
    θ_run (Cert.AdamwFfKernel.defs (F := Bits)) (onTc (τ := Cert.AdamwFfKernel.τ) (Cert.AdamwFfKernel.main (F := Bits))) ⟨m, fun _ => 0, g⟩ (fun r => (∀ c : Dev Cert.AdamwFfKernel.nD,
      r.2.mem ((c.tc : Thread Cert.AdamwFfKernel.nD Cert.AdamwFfKernel.τ).loc Cert.AdamwFfKernel.main_arg0) = m ((c.tc : Thread Cert.AdamwFfKernel.nD Cert.AdamwFfKernel.τ).loc Cert.AdamwFfKernel.main_arg0)
      ∧ r.2.mem ((c.tc : Thread Cert.AdamwFfKernel.nD Cert.AdamwFfKernel.τ).loc Cert.AdamwFfKernel.main_arg1) = m ((c.tc : Thread Cert.AdamwFfKernel.nD Cert.AdamwFfKernel.τ).loc Cert.AdamwFfKernel.main_arg1)
      ∧ r.2.mem ((c.tc : Thread Cert.AdamwFfKernel.nD Cert.AdamwFfKernel.τ).loc Cert.AdamwFfKernel.main_arg2) = m ((c.tc : Thread Cert.AdamwFfKernel.nD Cert.AdamwFfKernel.τ).loc Cert.AdamwFfKernel.main_arg2)
      ∧ r.2.mem ((c.tc : Thread Cert.AdamwFfKernel.nD Cert.AdamwFfKernel.τ).loc Cert.AdamwFfKernel.main_arg3) = m ((c.tc : Thread Cert.AdamwFfKernel.nD Cert.AdamwFfKernel.τ).loc Cert.AdamwFfKernel.main_arg3)
      ∧ r.2.mem ((c.tc : Thread Cert.AdamwFfKernel.nD Cert.AdamwFfKernel.τ).loc Cert.AdamwFfKernel.main_arg4) = m ((c.tc : Thread Cert.AdamwFfKernel.nD Cert.AdamwFfKernel.τ).loc Cert.AdamwFfKernel.main_arg4)
      ∧ r.2.mem ((c.tc : Thread Cert.AdamwFfKernel.nD Cert.AdamwFfKernel.τ).loc Cert.AdamwFfKernel.main_arg5) = m ((c.tc : Thread Cert.AdamwFfKernel.nD Cert.AdamwFfKernel.τ).loc Cert.AdamwFfKernel.main_arg5)
      ∧ r.2.mem ((c.tc : Thread Cert.AdamwFfKernel.nD Cert.AdamwFfKernel.τ).loc Cert.AdamwFfKernel.main_arg6) = m ((c.tc : Thread Cert.AdamwFfKernel.nD Cert.AdamwFfKernel.τ).loc Cert.AdamwFfKernel.main_arg6)
      ∧ r.2.mem ((c.tc : Thread Cert.AdamwFfKernel.nD Cert.AdamwFfKernel.τ).loc Cert.AdamwFfKernel.main_arg7) = m ((c.tc : Thread Cert.AdamwFfKernel.nD Cert.AdamwFfKernel.τ).loc Cert.AdamwFfKernel.main_arg7)
      ∧ r.2.mem ((c.tc : Thread Cert.AdamwFfKernel.nD Cert.AdamwFfKernel.τ).loc Cert.AdamwFfKernel.main_arg8) = m ((c.tc : Thread Cert.AdamwFfKernel.nD Cert.AdamwFfKernel.τ).loc Cert.AdamwFfKernel.main_arg8)
      ∧ r.2.mem ((c.tc : Thread Cert.AdamwFfKernel.nD Cert.AdamwFfKernel.τ).loc Cert.AdamwFfKernel.main_arg9) = m ((c.tc : Thread Cert.AdamwFfKernel.nD Cert.AdamwFfKernel.τ).loc Cert.AdamwFfKernel.main_arg9)
      ∧ r.2.mem ((c.tc : Thread Cert.AdamwFfKernel.nD Cert.AdamwFfKernel.τ).loc Cert.AdamwFfKernel.main_arg10) = m ((c.tc : Thread Cert.AdamwFfKernel.nD Cert.AdamwFfKernel.τ).loc Cert.AdamwFfKernel.main_arg10)
      ∧ r.2.mem ((c.tc : Thread Cert.AdamwFfKernel.nD Cert.AdamwFfKernel.τ).loc Cert.AdamwFfKernel.main_arg11) = m ((c.tc : Thread Cert.AdamwFfKernel.nD Cert.AdamwFfKernel.τ).loc Cert.AdamwFfKernel.main_arg11)
      ∧ r.2.mem ((c.tc : Thread Cert.AdamwFfKernel.nD Cert.AdamwFfKernel.τ).loc Cert.AdamwFfKernel.main_arg12) = m ((c.tc : Thread Cert.AdamwFfKernel.nD Cert.AdamwFfKernel.τ).loc Cert.AdamwFfKernel.main_arg12)
      ∧ r.2.mem ((c.tc : Thread Cert.AdamwFfKernel.nD Cert.AdamwFfKernel.τ).loc Cert.AdamwFfKernel.main_arg13) = m ((c.tc : Thread Cert.AdamwFfKernel.nD Cert.AdamwFfKernel.τ).loc Cert.AdamwFfKernel.main_arg13)
      ∧ r.2.mem ((c.tc : Thread Cert.AdamwFfKernel.nD Cert.AdamwFfKernel.τ).loc Cert.AdamwFfKernel.main_arg14) = m ((c.tc : Thread Cert.AdamwFfKernel.nD Cert.AdamwFfKernel.τ).loc Cert.AdamwFfKernel.main_arg14)
      ∧ r.2.mem ((c.tc : Thread Cert.AdamwFfKernel.nD Cert.AdamwFfKernel.τ).loc Cert.AdamwFfKernel.main_arg15) = m ((c.tc : Thread Cert.AdamwFfKernel.nD Cert.AdamwFfKernel.τ).loc Cert.AdamwFfKernel.main_arg15)
      ∧ r.2.mem ((c.tc : Thread Cert.AdamwFfKernel.nD Cert.AdamwFfKernel.τ).loc Cert.AdamwFfKernel.main_arg16) = m ((c.tc : Thread Cert.AdamwFfKernel.nD Cert.AdamwFfKernel.τ).loc Cert.AdamwFfKernel.main_arg16)
      ∧ r.2.mem ((c.tc : Thread Cert.AdamwFfKernel.nD Cert.AdamwFfKernel.τ).loc Cert.AdamwFfKernel.main_arg17) = m ((c.tc : Thread Cert.AdamwFfKernel.nD Cert.AdamwFfKernel.τ).loc Cert.AdamwFfKernel.main_arg17)
      ∧ r.2.mem ((c.tc : Thread Cert.AdamwFfKernel.nD Cert.AdamwFfKernel.τ).loc Cert.AdamwFfKernel.main_arg18) = m ((c.tc : Thread Cert.AdamwFfKernel.nD Cert.AdamwFfKernel.τ).loc Cert.AdamwFfKernel.main_arg18)
      ∧ r.2.mem ((c.tc : Thread Cert.AdamwFfKernel.nD Cert.AdamwFfKernel.τ).loc Cert.AdamwFfKernel.main_arg19) = m ((c.tc : Thread Cert.AdamwFfKernel.nD Cert.AdamwFfKernel.τ).loc Cert.AdamwFfKernel.main_arg19)
      ∧ r.2.mem ((c.tc : Thread Cert.AdamwFfKernel.nD Cert.AdamwFfKernel.τ).loc Cert.AdamwFfKernel.main_arg20) = m ((c.tc : Thread Cert.AdamwFfKernel.nD Cert.AdamwFfKernel.τ).loc Cert.AdamwFfKernel.main_arg20)
      ∧ r.2.mem ((c.tc : Thread Cert.AdamwFfKernel.nD Cert.AdamwFfKernel.τ).loc Cert.AdamwFfKernel.main_arg21) = m ((c.tc : Thread Cert.AdamwFfKernel.nD Cert.AdamwFfKernel.τ).loc Cert.AdamwFfKernel.main_arg21)
      ∧ r.2.mem ((c.tc : Thread Cert.AdamwFfKernel.nD Cert.AdamwFfKernel.τ).loc Cert.AdamwFfKernel.main_arg22) = m ((c.tc : Thread Cert.AdamwFfKernel.nD Cert.AdamwFfKernel.τ).loc Cert.AdamwFfKernel.main_arg22)
      ∧ r.2.mem ((c.tc : Thread Cert.AdamwFfKernel.nD Cert.AdamwFfKernel.τ).loc Cert.AdamwFfKernel.main_arg23) = m ((c.tc : Thread Cert.AdamwFfKernel.nD Cert.AdamwFfKernel.τ).loc Cert.AdamwFfKernel.main_arg23))
      ∧ r.2.sem = fun _ => 0)

def quiescent_AdamwFfKernelIdeal [hAdamwFfKernelIdeal : Cert.AdamwFfKernelIdeal.Facts] : Prop :=
  ∀ (m : (ℓ : Loc Cert.AdamwFfKernelIdeal.nD Cert.AdamwFfKernelIdeal.τ Cert.AdamwFfKernelIdeal.sig) → Buf (Elt Ideal) ℓ) (g : Dev Cert.AdamwFfKernelIdeal.nD → PrngReg), Pre_AdamwFfKernelIdeal m →
    θ_run (Cert.AdamwFfKernelIdeal.defs (F := Ideal)) (onTc (τ := Cert.AdamwFfKernelIdeal.τ) (Cert.AdamwFfKernelIdeal.main (F := Ideal))) ⟨m, fun _ => 0, g⟩ (fun r => (∀ c : Dev Cert.AdamwFfKernelIdeal.nD,
      r.2.mem ((c.tc : Thread Cert.AdamwFfKernelIdeal.nD Cert.AdamwFfKernelIdeal.τ).loc Cert.AdamwFfKernelIdeal.main_arg0) = m ((c.tc : Thread Cert.AdamwFfKernelIdeal.nD Cert.AdamwFfKernelIdeal.τ).loc Cert.AdamwFfKernelIdeal.main_arg0)
      ∧ r.2.mem ((c.tc : Thread Cert.AdamwFfKernelIdeal.nD Cert.AdamwFfKernelIdeal.τ).loc Cert.AdamwFfKernelIdeal.main_arg1) = m ((c.tc : Thread Cert.AdamwFfKernelIdeal.nD Cert.AdamwFfKernelIdeal.τ).loc Cert.AdamwFfKernelIdeal.main_arg1)
      ∧ r.2.mem ((c.tc : Thread Cert.AdamwFfKernelIdeal.nD Cert.AdamwFfKernelIdeal.τ).loc Cert.AdamwFfKernelIdeal.main_arg2) = m ((c.tc : Thread Cert.AdamwFfKernelIdeal.nD Cert.AdamwFfKernelIdeal.τ).loc Cert.AdamwFfKernelIdeal.main_arg2)
      ∧ r.2.mem ((c.tc : Thread Cert.AdamwFfKernelIdeal.nD Cert.AdamwFfKernelIdeal.τ).loc Cert.AdamwFfKernelIdeal.main_arg3) = m ((c.tc : Thread Cert.AdamwFfKernelIdeal.nD Cert.AdamwFfKernelIdeal.τ).loc Cert.AdamwFfKernelIdeal.main_arg3)
      ∧ r.2.mem ((c.tc : Thread Cert.AdamwFfKernelIdeal.nD Cert.AdamwFfKernelIdeal.τ).loc Cert.AdamwFfKernelIdeal.main_arg4) = m ((c.tc : Thread Cert.AdamwFfKernelIdeal.nD Cert.AdamwFfKernelIdeal.τ).loc Cert.AdamwFfKernelIdeal.main_arg4)
      ∧ r.2.mem ((c.tc : Thread Cert.AdamwFfKernelIdeal.nD Cert.AdamwFfKernelIdeal.τ).loc Cert.AdamwFfKernelIdeal.main_arg5) = m ((c.tc : Thread Cert.AdamwFfKernelIdeal.nD Cert.AdamwFfKernelIdeal.τ).loc Cert.AdamwFfKernelIdeal.main_arg5)
      ∧ r.2.mem ((c.tc : Thread Cert.AdamwFfKernelIdeal.nD Cert.AdamwFfKernelIdeal.τ).loc Cert.AdamwFfKernelIdeal.main_arg6) = m ((c.tc : Thread Cert.AdamwFfKernelIdeal.nD Cert.AdamwFfKernelIdeal.τ).loc Cert.AdamwFfKernelIdeal.main_arg6)
      ∧ r.2.mem ((c.tc : Thread Cert.AdamwFfKernelIdeal.nD Cert.AdamwFfKernelIdeal.τ).loc Cert.AdamwFfKernelIdeal.main_arg7) = m ((c.tc : Thread Cert.AdamwFfKernelIdeal.nD Cert.AdamwFfKernelIdeal.τ).loc Cert.AdamwFfKernelIdeal.main_arg7)
      ∧ r.2.mem ((c.tc : Thread Cert.AdamwFfKernelIdeal.nD Cert.AdamwFfKernelIdeal.τ).loc Cert.AdamwFfKernelIdeal.main_arg8) = m ((c.tc : Thread Cert.AdamwFfKernelIdeal.nD Cert.AdamwFfKernelIdeal.τ).loc Cert.AdamwFfKernelIdeal.main_arg8)
      ∧ r.2.mem ((c.tc : Thread Cert.AdamwFfKernelIdeal.nD Cert.AdamwFfKernelIdeal.τ).loc Cert.AdamwFfKernelIdeal.main_arg9) = m ((c.tc : Thread Cert.AdamwFfKernelIdeal.nD Cert.AdamwFfKernelIdeal.τ).loc Cert.AdamwFfKernelIdeal.main_arg9)
      ∧ r.2.mem ((c.tc : Thread Cert.AdamwFfKernelIdeal.nD Cert.AdamwFfKernelIdeal.τ).loc Cert.AdamwFfKernelIdeal.main_arg10) = m ((c.tc : Thread Cert.AdamwFfKernelIdeal.nD Cert.AdamwFfKernelIdeal.τ).loc Cert.AdamwFfKernelIdeal.main_arg10)
      ∧ r.2.mem ((c.tc : Thread Cert.AdamwFfKernelIdeal.nD Cert.AdamwFfKernelIdeal.τ).loc Cert.AdamwFfKernelIdeal.main_arg11) = m ((c.tc : Thread Cert.AdamwFfKernelIdeal.nD Cert.AdamwFfKernelIdeal.τ).loc Cert.AdamwFfKernelIdeal.main_arg11)
      ∧ r.2.mem ((c.tc : Thread Cert.AdamwFfKernelIdeal.nD Cert.AdamwFfKernelIdeal.τ).loc Cert.AdamwFfKernelIdeal.main_arg12) = m ((c.tc : Thread Cert.AdamwFfKernelIdeal.nD Cert.AdamwFfKernelIdeal.τ).loc Cert.AdamwFfKernelIdeal.main_arg12)
      ∧ r.2.mem ((c.tc : Thread Cert.AdamwFfKernelIdeal.nD Cert.AdamwFfKernelIdeal.τ).loc Cert.AdamwFfKernelIdeal.main_arg13) = m ((c.tc : Thread Cert.AdamwFfKernelIdeal.nD Cert.AdamwFfKernelIdeal.τ).loc Cert.AdamwFfKernelIdeal.main_arg13)
      ∧ r.2.mem ((c.tc : Thread Cert.AdamwFfKernelIdeal.nD Cert.AdamwFfKernelIdeal.τ).loc Cert.AdamwFfKernelIdeal.main_arg14) = m ((c.tc : Thread Cert.AdamwFfKernelIdeal.nD Cert.AdamwFfKernelIdeal.τ).loc Cert.AdamwFfKernelIdeal.main_arg14)
      ∧ r.2.mem ((c.tc : Thread Cert.AdamwFfKernelIdeal.nD Cert.AdamwFfKernelIdeal.τ).loc Cert.AdamwFfKernelIdeal.main_arg15) = m ((c.tc : Thread Cert.AdamwFfKernelIdeal.nD Cert.AdamwFfKernelIdeal.τ).loc Cert.AdamwFfKernelIdeal.main_arg15)
      ∧ r.2.mem ((c.tc : Thread Cert.AdamwFfKernelIdeal.nD Cert.AdamwFfKernelIdeal.τ).loc Cert.AdamwFfKernelIdeal.main_arg16) = m ((c.tc : Thread Cert.AdamwFfKernelIdeal.nD Cert.AdamwFfKernelIdeal.τ).loc Cert.AdamwFfKernelIdeal.main_arg16)
      ∧ r.2.mem ((c.tc : Thread Cert.AdamwFfKernelIdeal.nD Cert.AdamwFfKernelIdeal.τ).loc Cert.AdamwFfKernelIdeal.main_arg17) = m ((c.tc : Thread Cert.AdamwFfKernelIdeal.nD Cert.AdamwFfKernelIdeal.τ).loc Cert.AdamwFfKernelIdeal.main_arg17)
      ∧ r.2.mem ((c.tc : Thread Cert.AdamwFfKernelIdeal.nD Cert.AdamwFfKernelIdeal.τ).loc Cert.AdamwFfKernelIdeal.main_arg18) = m ((c.tc : Thread Cert.AdamwFfKernelIdeal.nD Cert.AdamwFfKernelIdeal.τ).loc Cert.AdamwFfKernelIdeal.main_arg18)
      ∧ r.2.mem ((c.tc : Thread Cert.AdamwFfKernelIdeal.nD Cert.AdamwFfKernelIdeal.τ).loc Cert.AdamwFfKernelIdeal.main_arg19) = m ((c.tc : Thread Cert.AdamwFfKernelIdeal.nD Cert.AdamwFfKernelIdeal.τ).loc Cert.AdamwFfKernelIdeal.main_arg19)
      ∧ r.2.mem ((c.tc : Thread Cert.AdamwFfKernelIdeal.nD Cert.AdamwFfKernelIdeal.τ).loc Cert.AdamwFfKernelIdeal.main_arg20) = m ((c.tc : Thread Cert.AdamwFfKernelIdeal.nD Cert.AdamwFfKernelIdeal.τ).loc Cert.AdamwFfKernelIdeal.main_arg20)
      ∧ r.2.mem ((c.tc : Thread Cert.AdamwFfKernelIdeal.nD Cert.AdamwFfKernelIdeal.τ).loc Cert.AdamwFfKernelIdeal.main_arg21) = m ((c.tc : Thread Cert.AdamwFfKernelIdeal.nD Cert.AdamwFfKernelIdeal.τ).loc Cert.AdamwFfKernelIdeal.main_arg21)
      ∧ r.2.mem ((c.tc : Thread Cert.AdamwFfKernelIdeal.nD Cert.AdamwFfKernelIdeal.τ).loc Cert.AdamwFfKernelIdeal.main_arg22) = m ((c.tc : Thread Cert.AdamwFfKernelIdeal.nD Cert.AdamwFfKernelIdeal.τ).loc Cert.AdamwFfKernelIdeal.main_arg22)
      ∧ r.2.mem ((c.tc : Thread Cert.AdamwFfKernelIdeal.nD Cert.AdamwFfKernelIdeal.τ).loc Cert.AdamwFfKernelIdeal.main_arg23) = m ((c.tc : Thread Cert.AdamwFfKernelIdeal.nD Cert.AdamwFfKernelIdeal.τ).loc Cert.AdamwFfKernelIdeal.main_arg23))
      ∧ r.2.sem = fun _ => 0)

def quiescent_AdamwFfReferenceIdeal [hAdamwFfReferenceIdeal : Cert.AdamwFfReferenceIdeal.Facts] : Prop :=
  ∀ (m : (ℓ : Loc Cert.AdamwFfReferenceIdeal.nD Cert.AdamwFfReferenceIdeal.τ Cert.AdamwFfReferenceIdeal.sig) → Buf (Elt Ideal) ℓ) (g : Dev Cert.AdamwFfReferenceIdeal.nD → PrngReg), Pre_AdamwFfReferenceIdeal m →
    θ_run (Cert.AdamwFfReferenceIdeal.defs (F := Ideal)) (onTc (τ := Cert.AdamwFfReferenceIdeal.τ) (Cert.AdamwFfReferenceIdeal.main (F := Ideal))) ⟨m, fun _ => 0, g⟩ (fun r => (∀ c : Dev Cert.AdamwFfReferenceIdeal.nD,
      r.2.mem ((c.tc : Thread Cert.AdamwFfReferenceIdeal.nD Cert.AdamwFfReferenceIdeal.τ).loc Cert.AdamwFfReferenceIdeal.main_arg0) = m ((c.tc : Thread Cert.AdamwFfReferenceIdeal.nD Cert.AdamwFfReferenceIdeal.τ).loc Cert.AdamwFfReferenceIdeal.main_arg0)
      ∧ r.2.mem ((c.tc : Thread Cert.AdamwFfReferenceIdeal.nD Cert.AdamwFfReferenceIdeal.τ).loc Cert.AdamwFfReferenceIdeal.main_arg1) = m ((c.tc : Thread Cert.AdamwFfReferenceIdeal.nD Cert.AdamwFfReferenceIdeal.τ).loc Cert.AdamwFfReferenceIdeal.main_arg1)
      ∧ r.2.mem ((c.tc : Thread Cert.AdamwFfReferenceIdeal.nD Cert.AdamwFfReferenceIdeal.τ).loc Cert.AdamwFfReferenceIdeal.main_arg2) = m ((c.tc : Thread Cert.AdamwFfReferenceIdeal.nD Cert.AdamwFfReferenceIdeal.τ).loc Cert.AdamwFfReferenceIdeal.main_arg2)
      ∧ r.2.mem ((c.tc : Thread Cert.AdamwFfReferenceIdeal.nD Cert.AdamwFfReferenceIdeal.τ).loc Cert.AdamwFfReferenceIdeal.main_arg3) = m ((c.tc : Thread Cert.AdamwFfReferenceIdeal.nD Cert.AdamwFfReferenceIdeal.τ).loc Cert.AdamwFfReferenceIdeal.main_arg3)
      ∧ r.2.mem ((c.tc : Thread Cert.AdamwFfReferenceIdeal.nD Cert.AdamwFfReferenceIdeal.τ).loc Cert.AdamwFfReferenceIdeal.main_arg4) = m ((c.tc : Thread Cert.AdamwFfReferenceIdeal.nD Cert.AdamwFfReferenceIdeal.τ).loc Cert.AdamwFfReferenceIdeal.main_arg4)
      ∧ r.2.mem ((c.tc : Thread Cert.AdamwFfReferenceIdeal.nD Cert.AdamwFfReferenceIdeal.τ).loc Cert.AdamwFfReferenceIdeal.main_arg5) = m ((c.tc : Thread Cert.AdamwFfReferenceIdeal.nD Cert.AdamwFfReferenceIdeal.τ).loc Cert.AdamwFfReferenceIdeal.main_arg5)
      ∧ r.2.mem ((c.tc : Thread Cert.AdamwFfReferenceIdeal.nD Cert.AdamwFfReferenceIdeal.τ).loc Cert.AdamwFfReferenceIdeal.main_arg6) = m ((c.tc : Thread Cert.AdamwFfReferenceIdeal.nD Cert.AdamwFfReferenceIdeal.τ).loc Cert.AdamwFfReferenceIdeal.main_arg6)
      ∧ r.2.mem ((c.tc : Thread Cert.AdamwFfReferenceIdeal.nD Cert.AdamwFfReferenceIdeal.τ).loc Cert.AdamwFfReferenceIdeal.main_arg7) = m ((c.tc : Thread Cert.AdamwFfReferenceIdeal.nD Cert.AdamwFfReferenceIdeal.τ).loc Cert.AdamwFfReferenceIdeal.main_arg7)
      ∧ r.2.mem ((c.tc : Thread Cert.AdamwFfReferenceIdeal.nD Cert.AdamwFfReferenceIdeal.τ).loc Cert.AdamwFfReferenceIdeal.main_arg8) = m ((c.tc : Thread Cert.AdamwFfReferenceIdeal.nD Cert.AdamwFfReferenceIdeal.τ).loc Cert.AdamwFfReferenceIdeal.main_arg8)
      ∧ r.2.mem ((c.tc : Thread Cert.AdamwFfReferenceIdeal.nD Cert.AdamwFfReferenceIdeal.τ).loc Cert.AdamwFfReferenceIdeal.main_arg9) = m ((c.tc : Thread Cert.AdamwFfReferenceIdeal.nD Cert.AdamwFfReferenceIdeal.τ).loc Cert.AdamwFfReferenceIdeal.main_arg9)
      ∧ r.2.mem ((c.tc : Thread Cert.AdamwFfReferenceIdeal.nD Cert.AdamwFfReferenceIdeal.τ).loc Cert.AdamwFfReferenceIdeal.main_arg10) = m ((c.tc : Thread Cert.AdamwFfReferenceIdeal.nD Cert.AdamwFfReferenceIdeal.τ).loc Cert.AdamwFfReferenceIdeal.main_arg10)
      ∧ r.2.mem ((c.tc : Thread Cert.AdamwFfReferenceIdeal.nD Cert.AdamwFfReferenceIdeal.τ).loc Cert.AdamwFfReferenceIdeal.main_arg11) = m ((c.tc : Thread Cert.AdamwFfReferenceIdeal.nD Cert.AdamwFfReferenceIdeal.τ).loc Cert.AdamwFfReferenceIdeal.main_arg11)
      ∧ r.2.mem ((c.tc : Thread Cert.AdamwFfReferenceIdeal.nD Cert.AdamwFfReferenceIdeal.τ).loc Cert.AdamwFfReferenceIdeal.main_arg12) = m ((c.tc : Thread Cert.AdamwFfReferenceIdeal.nD Cert.AdamwFfReferenceIdeal.τ).loc Cert.AdamwFfReferenceIdeal.main_arg12)
      ∧ r.2.mem ((c.tc : Thread Cert.AdamwFfReferenceIdeal.nD Cert.AdamwFfReferenceIdeal.τ).loc Cert.AdamwFfReferenceIdeal.main_arg13) = m ((c.tc : Thread Cert.AdamwFfReferenceIdeal.nD Cert.AdamwFfReferenceIdeal.τ).loc Cert.AdamwFfReferenceIdeal.main_arg13)
      ∧ r.2.mem ((c.tc : Thread Cert.AdamwFfReferenceIdeal.nD Cert.AdamwFfReferenceIdeal.τ).loc Cert.AdamwFfReferenceIdeal.main_arg14) = m ((c.tc : Thread Cert.AdamwFfReferenceIdeal.nD Cert.AdamwFfReferenceIdeal.τ).loc Cert.AdamwFfReferenceIdeal.main_arg14)
      ∧ r.2.mem ((c.tc : Thread Cert.AdamwFfReferenceIdeal.nD Cert.AdamwFfReferenceIdeal.τ).loc Cert.AdamwFfReferenceIdeal.main_arg15) = m ((c.tc : Thread Cert.AdamwFfReferenceIdeal.nD Cert.AdamwFfReferenceIdeal.τ).loc Cert.AdamwFfReferenceIdeal.main_arg15)
      ∧ r.2.mem ((c.tc : Thread Cert.AdamwFfReferenceIdeal.nD Cert.AdamwFfReferenceIdeal.τ).loc Cert.AdamwFfReferenceIdeal.main_arg16) = m ((c.tc : Thread Cert.AdamwFfReferenceIdeal.nD Cert.AdamwFfReferenceIdeal.τ).loc Cert.AdamwFfReferenceIdeal.main_arg16)
      ∧ r.2.mem ((c.tc : Thread Cert.AdamwFfReferenceIdeal.nD Cert.AdamwFfReferenceIdeal.τ).loc Cert.AdamwFfReferenceIdeal.main_arg17) = m ((c.tc : Thread Cert.AdamwFfReferenceIdeal.nD Cert.AdamwFfReferenceIdeal.τ).loc Cert.AdamwFfReferenceIdeal.main_arg17)
      ∧ r.2.mem ((c.tc : Thread Cert.AdamwFfReferenceIdeal.nD Cert.AdamwFfReferenceIdeal.τ).loc Cert.AdamwFfReferenceIdeal.main_arg18) = m ((c.tc : Thread Cert.AdamwFfReferenceIdeal.nD Cert.AdamwFfReferenceIdeal.τ).loc Cert.AdamwFfReferenceIdeal.main_arg18)
      ∧ r.2.mem ((c.tc : Thread Cert.AdamwFfReferenceIdeal.nD Cert.AdamwFfReferenceIdeal.τ).loc Cert.AdamwFfReferenceIdeal.main_arg19) = m ((c.tc : Thread Cert.AdamwFfReferenceIdeal.nD Cert.AdamwFfReferenceIdeal.τ).loc Cert.AdamwFfReferenceIdeal.main_arg19)
      ∧ r.2.mem ((c.tc : Thread Cert.AdamwFfReferenceIdeal.nD Cert.AdamwFfReferenceIdeal.τ).loc Cert.AdamwFfReferenceIdeal.main_arg20) = m ((c.tc : Thread Cert.AdamwFfReferenceIdeal.nD Cert.AdamwFfReferenceIdeal.τ).loc Cert.AdamwFfReferenceIdeal.main_arg20)
      ∧ r.2.mem ((c.tc : Thread Cert.AdamwFfReferenceIdeal.nD Cert.AdamwFfReferenceIdeal.τ).loc Cert.AdamwFfReferenceIdeal.main_arg21) = m ((c.tc : Thread Cert.AdamwFfReferenceIdeal.nD Cert.AdamwFfReferenceIdeal.τ).loc Cert.AdamwFfReferenceIdeal.main_arg21)
      ∧ r.2.mem ((c.tc : Thread Cert.AdamwFfReferenceIdeal.nD Cert.AdamwFfReferenceIdeal.τ).loc Cert.AdamwFfReferenceIdeal.main_arg22) = m ((c.tc : Thread Cert.AdamwFfReferenceIdeal.nD Cert.AdamwFfReferenceIdeal.τ).loc Cert.AdamwFfReferenceIdeal.main_arg22)
      ∧ r.2.mem ((c.tc : Thread Cert.AdamwFfReferenceIdeal.nD Cert.AdamwFfReferenceIdeal.τ).loc Cert.AdamwFfReferenceIdeal.main_arg23) = m ((c.tc : Thread Cert.AdamwFfReferenceIdeal.nD Cert.AdamwFfReferenceIdeal.τ).loc Cert.AdamwFfReferenceIdeal.main_arg23))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13)
      ∧ r.2.mem ((c.tc : Thread Cert.SmallKernel.nD Cert.SmallKernel.τ).loc Cert.SmallKernel.main_arg14) = m ((c.tc : Thread Cert.SmallKernel.nD Cert.SmallKernel.τ).loc Cert.SmallKernel.main_arg14)
      ∧ r.2.mem ((c.tc : Thread Cert.SmallKernel.nD Cert.SmallKernel.τ).loc Cert.SmallKernel.main_arg15) = m ((c.tc : Thread Cert.SmallKernel.nD Cert.SmallKernel.τ).loc Cert.SmallKernel.main_arg15)
      ∧ r.2.mem ((c.tc : Thread Cert.SmallKernel.nD Cert.SmallKernel.τ).loc Cert.SmallKernel.main_arg16) = m ((c.tc : Thread Cert.SmallKernel.nD Cert.SmallKernel.τ).loc Cert.SmallKernel.main_arg16)
      ∧ r.2.mem ((c.tc : Thread Cert.SmallKernel.nD Cert.SmallKernel.τ).loc Cert.SmallKernel.main_arg17) = m ((c.tc : Thread Cert.SmallKernel.nD Cert.SmallKernel.τ).loc Cert.SmallKernel.main_arg17)
      ∧ r.2.mem ((c.tc : Thread Cert.SmallKernel.nD Cert.SmallKernel.τ).loc Cert.SmallKernel.main_arg18) = m ((c.tc : Thread Cert.SmallKernel.nD Cert.SmallKernel.τ).loc Cert.SmallKernel.main_arg18)
      ∧ r.2.mem ((c.tc : Thread Cert.SmallKernel.nD Cert.SmallKernel.τ).loc Cert.SmallKernel.main_arg19) = m ((c.tc : Thread Cert.SmallKernel.nD Cert.SmallKernel.τ).loc Cert.SmallKernel.main_arg19)
      ∧ r.2.mem ((c.tc : Thread Cert.SmallKernel.nD Cert.SmallKernel.τ).loc Cert.SmallKernel.main_arg20) = m ((c.tc : Thread Cert.SmallKernel.nD Cert.SmallKernel.τ).loc Cert.SmallKernel.main_arg20)
      ∧ r.2.mem ((c.tc : Thread Cert.SmallKernel.nD Cert.SmallKernel.τ).loc Cert.SmallKernel.main_arg21) = m ((c.tc : Thread Cert.SmallKernel.nD Cert.SmallKernel.τ).loc Cert.SmallKernel.main_arg21)
      ∧ r.2.mem ((c.tc : Thread Cert.SmallKernel.nD Cert.SmallKernel.τ).loc Cert.SmallKernel.main_arg22) = m ((c.tc : Thread Cert.SmallKernel.nD Cert.SmallKernel.τ).loc Cert.SmallKernel.main_arg22)
      ∧ r.2.mem ((c.tc : Thread Cert.SmallKernel.nD Cert.SmallKernel.τ).loc Cert.SmallKernel.main_arg23) = m ((c.tc : Thread Cert.SmallKernel.nD Cert.SmallKernel.τ).loc Cert.SmallKernel.main_arg23)
      ∧ r.2.mem ((c.tc : Thread Cert.SmallKernel.nD Cert.SmallKernel.τ).loc Cert.SmallKernel.main_arg24) = m ((c.tc : Thread Cert.SmallKernel.nD Cert.SmallKernel.τ).loc Cert.SmallKernel.main_arg24)
      ∧ r.2.mem ((c.tc : Thread Cert.SmallKernel.nD Cert.SmallKernel.τ).loc Cert.SmallKernel.main_arg25) = m ((c.tc : Thread Cert.SmallKernel.nD Cert.SmallKernel.τ).loc Cert.SmallKernel.main_arg25)
      ∧ r.2.mem ((c.tc : Thread Cert.SmallKernel.nD Cert.SmallKernel.τ).loc Cert.SmallKernel.main_arg26) = m ((c.tc : Thread Cert.SmallKernel.nD Cert.SmallKernel.τ).loc Cert.SmallKernel.main_arg26)
      ∧ r.2.mem ((c.tc : Thread Cert.SmallKernel.nD Cert.SmallKernel.τ).loc Cert.SmallKernel.main_arg27) = m ((c.tc : Thread Cert.SmallKernel.nD Cert.SmallKernel.τ).loc Cert.SmallKernel.main_arg27)
      ∧ r.2.mem ((c.tc : Thread Cert.SmallKernel.nD Cert.SmallKernel.τ).loc Cert.SmallKernel.main_arg28) = m ((c.tc : Thread Cert.SmallKernel.nD Cert.SmallKernel.τ).loc Cert.SmallKernel.main_arg28)
      ∧ r.2.mem ((c.tc : Thread Cert.SmallKernel.nD Cert.SmallKernel.τ).loc Cert.SmallKernel.main_arg29) = m ((c.tc : Thread Cert.SmallKernel.nD Cert.SmallKernel.τ).loc Cert.SmallKernel.main_arg29)
      ∧ r.2.mem ((c.tc : Thread Cert.SmallKernel.nD Cert.SmallKernel.τ).loc Cert.SmallKernel.main_arg30) = m ((c.tc : Thread Cert.SmallKernel.nD Cert.SmallKernel.τ).loc Cert.SmallKernel.main_arg30)
      ∧ r.2.mem ((c.tc : Thread Cert.SmallKernel.nD Cert.SmallKernel.τ).loc Cert.SmallKernel.main_arg31) = m ((c.tc : Thread Cert.SmallKernel.nD Cert.SmallKernel.τ).loc Cert.SmallKernel.main_arg31)
      ∧ r.2.mem ((c.tc : Thread Cert.SmallKernel.nD Cert.SmallKernel.τ).loc Cert.SmallKernel.main_arg32) = m ((c.tc : Thread Cert.SmallKernel.nD Cert.SmallKernel.τ).loc Cert.SmallKernel.main_arg32)
      ∧ r.2.mem ((c.tc : Thread Cert.SmallKernel.nD Cert.SmallKernel.τ).loc Cert.SmallKernel.main_arg33) = m ((c.tc : Thread Cert.SmallKernel.nD Cert.SmallKernel.τ).loc Cert.SmallKernel.main_arg33)
      ∧ r.2.mem ((c.tc : Thread Cert.SmallKernel.nD Cert.SmallKernel.τ).loc Cert.SmallKernel.main_arg34) = m ((c.tc : Thread Cert.SmallKernel.nD Cert.SmallKernel.τ).loc Cert.SmallKernel.main_arg34)
      ∧ r.2.mem ((c.tc : Thread Cert.SmallKernel.nD Cert.SmallKernel.τ).loc Cert.SmallKernel.main_arg35) = m ((c.tc : Thread Cert.SmallKernel.nD Cert.SmallKernel.τ).loc Cert.SmallKernel.main_arg35)
      ∧ r.2.mem ((c.tc : Thread Cert.SmallKernel.nD Cert.SmallKernel.τ).loc Cert.SmallKernel.main_arg36) = m ((c.tc : Thread Cert.SmallKernel.nD Cert.SmallKernel.τ).loc Cert.SmallKernel.main_arg36)
      ∧ r.2.mem ((c.tc : Thread Cert.SmallKernel.nD Cert.SmallKernel.τ).loc Cert.SmallKernel.main_arg37) = m ((c.tc : Thread Cert.SmallKernel.nD Cert.SmallKernel.τ).loc Cert.SmallKernel.main_arg37)
      ∧ r.2.mem ((c.tc : Thread Cert.SmallKernel.nD Cert.SmallKernel.τ).loc Cert.SmallKernel.main_arg38) = m ((c.tc : Thread Cert.SmallKernel.nD Cert.SmallKernel.τ).loc Cert.SmallKernel.main_arg38)
      ∧ r.2.mem ((c.tc : Thread Cert.SmallKernel.nD Cert.SmallKernel.τ).loc Cert.SmallKernel.main_arg39) = m ((c.tc : Thread Cert.SmallKernel.nD Cert.SmallKernel.τ).loc Cert.SmallKernel.main_arg39)
      ∧ r.2.mem ((c.tc : Thread Cert.SmallKernel.nD Cert.SmallKernel.τ).loc Cert.SmallKernel.main_arg40) = m ((c.tc : Thread Cert.SmallKernel.nD Cert.SmallKernel.τ).loc Cert.SmallKernel.main_arg40)
      ∧ r.2.mem ((c.tc : Thread Cert.SmallKernel.nD Cert.SmallKernel.τ).loc Cert.SmallKernel.main_arg41) = m ((c.tc : Thread Cert.SmallKernel.nD Cert.SmallKernel.τ).loc Cert.SmallKernel.main_arg41)
      ∧ r.2.mem ((c.tc : Thread Cert.SmallKernel.nD Cert.SmallKernel.τ).loc Cert.SmallKernel.main_arg42) = m ((c.tc : Thread Cert.SmallKernel.nD Cert.SmallKernel.τ).loc Cert.SmallKernel.main_arg42)
      ∧ r.2.mem ((c.tc : Thread Cert.SmallKernel.nD Cert.SmallKernel.τ).loc Cert.SmallKernel.main_arg43) = m ((c.tc : Thread Cert.SmallKernel.nD Cert.SmallKernel.τ).loc Cert.SmallKernel.main_arg43)
      ∧ r.2.mem ((c.tc : Thread Cert.SmallKernel.nD Cert.SmallKernel.τ).loc Cert.SmallKernel.main_arg44) = m ((c.tc : Thread Cert.SmallKernel.nD Cert.SmallKernel.τ).loc Cert.SmallKernel.main_arg44)
      ∧ r.2.mem ((c.tc : Thread Cert.SmallKernel.nD Cert.SmallKernel.τ).loc Cert.SmallKernel.main_arg45) = m ((c.tc : Thread Cert.SmallKernel.nD Cert.SmallKernel.τ).loc Cert.SmallKernel.main_arg45)
      ∧ r.2.mem ((c.tc : Thread Cert.SmallKernel.nD Cert.SmallKernel.τ).loc Cert.SmallKernel.main_arg46) = m ((c.tc : Thread Cert.SmallKernel.nD Cert.SmallKernel.τ).loc Cert.SmallKernel.main_arg46)
      ∧ r.2.mem ((c.tc : Thread Cert.SmallKernel.nD Cert.SmallKernel.τ).loc Cert.SmallKernel.main_arg47) = m ((c.tc : Thread Cert.SmallKernel.nD Cert.SmallKernel.τ).loc Cert.SmallKernel.main_arg47)
      ∧ r.2.mem ((c.tc : Thread Cert.SmallKernel.nD Cert.SmallKernel.τ).loc Cert.SmallKernel.main_arg48) = m ((c.tc : Thread Cert.SmallKernel.nD Cert.SmallKernel.τ).loc Cert.SmallKernel.main_arg48)
      ∧ r.2.mem ((c.tc : Thread Cert.SmallKernel.nD Cert.SmallKernel.τ).loc Cert.SmallKernel.main_arg49) = m ((c.tc : Thread Cert.SmallKernel.nD Cert.SmallKernel.τ).loc Cert.SmallKernel.main_arg49)
      ∧ r.2.mem ((c.tc : Thread Cert.SmallKernel.nD Cert.SmallKernel.τ).loc Cert.SmallKernel.main_arg50) = m ((c.tc : Thread Cert.SmallKernel.nD Cert.SmallKernel.τ).loc Cert.SmallKernel.main_arg50)
      ∧ r.2.mem ((c.tc : Thread Cert.SmallKernel.nD Cert.SmallKernel.τ).loc Cert.SmallKernel.main_arg51) = m ((c.tc : Thread Cert.SmallKernel.nD Cert.SmallKernel.τ).loc Cert.SmallKernel.main_arg51)
      ∧ r.2.mem ((c.tc : Thread Cert.SmallKernel.nD Cert.SmallKernel.τ).loc Cert.SmallKernel.main_arg52) = m ((c.tc : Thread Cert.SmallKernel.nD Cert.SmallKernel.τ).loc Cert.SmallKernel.main_arg52)
      ∧ r.2.mem ((c.tc : Thread Cert.SmallKernel.nD Cert.SmallKernel.τ).loc Cert.SmallKernel.main_arg53) = m ((c.tc : Thread Cert.SmallKernel.nD Cert.SmallKernel.τ).loc Cert.SmallKernel.main_arg53)
      ∧ r.2.mem ((c.tc : Thread Cert.SmallKernel.nD Cert.SmallKernel.τ).loc Cert.SmallKernel.main_arg54) = m ((c.tc : Thread Cert.SmallKernel.nD Cert.SmallKernel.τ).loc Cert.SmallKernel.main_arg54)
      ∧ r.2.mem ((c.tc : Thread Cert.SmallKernel.nD Cert.SmallKernel.τ).loc Cert.SmallKernel.main_arg55) = m ((c.tc : Thread Cert.SmallKernel.nD Cert.SmallKernel.τ).loc Cert.SmallKernel.main_arg55)
      ∧ r.2.mem ((c.tc : Thread Cert.SmallKernel.nD Cert.SmallKernel.τ).loc Cert.SmallKernel.main_arg56) = m ((c.tc : Thread Cert.SmallKernel.nD Cert.SmallKernel.τ).loc Cert.SmallKernel.main_arg56)
      ∧ r.2.mem ((c.tc : Thread Cert.SmallKernel.nD Cert.SmallKernel.τ).loc Cert.SmallKernel.main_arg57) = m ((c.tc : Thread Cert.SmallKernel.nD Cert.SmallKernel.τ).loc Cert.SmallKernel.main_arg57)
      ∧ r.2.mem ((c.tc : Thread Cert.SmallKernel.nD Cert.SmallKernel.τ).loc Cert.SmallKernel.main_arg58) = m ((c.tc : Thread Cert.SmallKernel.nD Cert.SmallKernel.τ).loc Cert.SmallKernel.main_arg58)
      ∧ r.2.mem ((c.tc : Thread Cert.SmallKernel.nD Cert.SmallKernel.τ).loc Cert.SmallKernel.main_arg59) = m ((c.tc : Thread Cert.SmallKernel.nD Cert.SmallKernel.τ).loc Cert.SmallKernel.main_arg59)
      ∧ r.2.mem ((c.tc : Thread Cert.SmallKernel.nD Cert.SmallKernel.τ).loc Cert.SmallKernel.main_arg60) = m ((c.tc : Thread Cert.SmallKernel.nD Cert.SmallKernel.τ).loc Cert.SmallKernel.main_arg60)
      ∧ r.2.mem ((c.tc : Thread Cert.SmallKernel.nD Cert.SmallKernel.τ).loc Cert.SmallKernel.main_arg61) = m ((c.tc : Thread Cert.SmallKernel.nD Cert.SmallKernel.τ).loc Cert.SmallKernel.main_arg61)
      ∧ r.2.mem ((c.tc : Thread Cert.SmallKernel.nD Cert.SmallKernel.τ).loc Cert.SmallKernel.main_arg62) = m ((c.tc : Thread Cert.SmallKernel.nD Cert.SmallKernel.τ).loc Cert.SmallKernel.main_arg62)
      ∧ r.2.mem ((c.tc : Thread Cert.SmallKernel.nD Cert.SmallKernel.τ).loc Cert.SmallKernel.main_arg63) = m ((c.tc : Thread Cert.SmallKernel.nD Cert.SmallKernel.τ).loc Cert.SmallKernel.main_arg63))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
      ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
      ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
      ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
      ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
      ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
      ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
      ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
      ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
      ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
      ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
      ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24)
      ∧ r.2.mem ((c.tc : Thread Cert.SmallKernelIdeal.nD Cert.SmallKernelIdeal.τ).loc Cert.SmallKernelIdeal.main_arg25) = m ((c.tc : Thread Cert.SmallKernelIdeal.nD Cert.SmallKernelIdeal.τ).loc Cert.SmallKernelIdeal.main_arg25)
      ∧ r.2.mem ((c.tc : Thread Cert.SmallKernelIdeal.nD Cert.SmallKernelIdeal.τ).loc Cert.SmallKernelIdeal.main_arg26) = m ((c.tc : Thread Cert.SmallKernelIdeal.nD Cert.SmallKernelIdeal.τ).loc Cert.SmallKernelIdeal.main_arg26)
      ∧ r.2.mem ((c.tc : Thread Cert.SmallKernelIdeal.nD Cert.SmallKernelIdeal.τ).loc Cert.SmallKernelIdeal.main_arg27) = m ((c.tc : Thread Cert.SmallKernelIdeal.nD Cert.SmallKernelIdeal.τ).loc Cert.SmallKernelIdeal.main_arg27)
      ∧ r.2.mem ((c.tc : Thread Cert.SmallKernelIdeal.nD Cert.SmallKernelIdeal.τ).loc Cert.SmallKernelIdeal.main_arg28) = m ((c.tc : Thread Cert.SmallKernelIdeal.nD Cert.SmallKernelIdeal.τ).loc Cert.SmallKernelIdeal.main_arg28)
      ∧ r.2.mem ((c.tc : Thread Cert.SmallKernelIdeal.nD Cert.SmallKernelIdeal.τ).loc Cert.SmallKernelIdeal.main_arg29) = m ((c.tc : Thread Cert.SmallKernelIdeal.nD Cert.SmallKernelIdeal.τ).loc Cert.SmallKernelIdeal.main_arg29)
      ∧ r.2.mem ((c.tc : Thread Cert.SmallKernelIdeal.nD Cert.SmallKernelIdeal.τ).loc Cert.SmallKernelIdeal.main_arg30) = m ((c.tc : Thread Cert.SmallKernelIdeal.nD Cert.SmallKernelIdeal.τ).loc Cert.SmallKernelIdeal.main_arg30)
      ∧ r.2.mem ((c.tc : Thread Cert.SmallKernelIdeal.nD Cert.SmallKernelIdeal.τ).loc Cert.SmallKernelIdeal.main_arg31) = m ((c.tc : Thread Cert.SmallKernelIdeal.nD Cert.SmallKernelIdeal.τ).loc Cert.SmallKernelIdeal.main_arg31)
      ∧ r.2.mem ((c.tc : Thread Cert.SmallKernelIdeal.nD Cert.SmallKernelIdeal.τ).loc Cert.SmallKernelIdeal.main_arg32) = m ((c.tc : Thread Cert.SmallKernelIdeal.nD Cert.SmallKernelIdeal.τ).loc Cert.SmallKernelIdeal.main_arg32)
      ∧ r.2.mem ((c.tc : Thread Cert.SmallKernelIdeal.nD Cert.SmallKernelIdeal.τ).loc Cert.SmallKernelIdeal.main_arg33) = m ((c.tc : Thread Cert.SmallKernelIdeal.nD Cert.SmallKernelIdeal.τ).loc Cert.SmallKernelIdeal.main_arg33)
      ∧ r.2.mem ((c.tc : Thread Cert.SmallKernelIdeal.nD Cert.SmallKernelIdeal.τ).loc Cert.SmallKernelIdeal.main_arg34) = m ((c.tc : Thread Cert.SmallKernelIdeal.nD Cert.SmallKernelIdeal.τ).loc Cert.SmallKernelIdeal.main_arg34)
      ∧ r.2.mem ((c.tc : Thread Cert.SmallKernelIdeal.nD Cert.SmallKernelIdeal.τ).loc Cert.SmallKernelIdeal.main_arg35) = m ((c.tc : Thread Cert.SmallKernelIdeal.nD Cert.SmallKernelIdeal.τ).loc Cert.SmallKernelIdeal.main_arg35)
      ∧ r.2.mem ((c.tc : Thread Cert.SmallKernelIdeal.nD Cert.SmallKernelIdeal.τ).loc Cert.SmallKernelIdeal.main_arg36) = m ((c.tc : Thread Cert.SmallKernelIdeal.nD Cert.SmallKernelIdeal.τ).loc Cert.SmallKernelIdeal.main_arg36)
      ∧ r.2.mem ((c.tc : Thread Cert.SmallKernelIdeal.nD Cert.SmallKernelIdeal.τ).loc Cert.SmallKernelIdeal.main_arg37) = m ((c.tc : Thread Cert.SmallKernelIdeal.nD Cert.SmallKernelIdeal.τ).loc Cert.SmallKernelIdeal.main_arg37)
      ∧ r.2.mem ((c.tc : Thread Cert.SmallKernelIdeal.nD Cert.SmallKernelIdeal.τ).loc Cert.SmallKernelIdeal.main_arg38) = m ((c.tc : Thread Cert.SmallKernelIdeal.nD Cert.SmallKernelIdeal.τ).loc Cert.SmallKernelIdeal.main_arg38)
      ∧ r.2.mem ((c.tc : Thread Cert.SmallKernelIdeal.nD Cert.SmallKernelIdeal.τ).loc Cert.SmallKernelIdeal.main_arg39) = m ((c.tc : Thread Cert.SmallKernelIdeal.nD Cert.SmallKernelIdeal.τ).loc Cert.SmallKernelIdeal.main_arg39)
      ∧ r.2.mem ((c.tc : Thread Cert.SmallKernelIdeal.nD Cert.SmallKernelIdeal.τ).loc Cert.SmallKernelIdeal.main_arg40) = m ((c.tc : Thread Cert.SmallKernelIdeal.nD Cert.SmallKernelIdeal.τ).loc Cert.SmallKernelIdeal.main_arg40)
      ∧ r.2.mem ((c.tc : Thread Cert.SmallKernelIdeal.nD Cert.SmallKernelIdeal.τ).loc Cert.SmallKernelIdeal.main_arg41) = m ((c.tc : Thread Cert.SmallKernelIdeal.nD Cert.SmallKernelIdeal.τ).loc Cert.SmallKernelIdeal.main_arg41)
      ∧ r.2.mem ((c.tc : Thread Cert.SmallKernelIdeal.nD Cert.SmallKernelIdeal.τ).loc Cert.SmallKernelIdeal.main_arg42) = m ((c.tc : Thread Cert.SmallKernelIdeal.nD Cert.SmallKernelIdeal.τ).loc Cert.SmallKernelIdeal.main_arg42)
      ∧ r.2.mem ((c.tc : Thread Cert.SmallKernelIdeal.nD Cert.SmallKernelIdeal.τ).loc Cert.SmallKernelIdeal.main_arg43) = m ((c.tc : Thread Cert.SmallKernelIdeal.nD Cert.SmallKernelIdeal.τ).loc Cert.SmallKernelIdeal.main_arg43)
      ∧ r.2.mem ((c.tc : Thread Cert.SmallKernelIdeal.nD Cert.SmallKernelIdeal.τ).loc Cert.SmallKernelIdeal.main_arg44) = m ((c.tc : Thread Cert.SmallKernelIdeal.nD Cert.SmallKernelIdeal.τ).loc Cert.SmallKernelIdeal.main_arg44)
      ∧ r.2.mem ((c.tc : Thread Cert.SmallKernelIdeal.nD Cert.SmallKernelIdeal.τ).loc Cert.SmallKernelIdeal.main_arg45) = m ((c.tc : Thread Cert.SmallKernelIdeal.nD Cert.SmallKernelIdeal.τ).loc Cert.SmallKernelIdeal.main_arg45)
      ∧ r.2.mem ((c.tc : Thread Cert.SmallKernelIdeal.nD Cert.SmallKernelIdeal.τ).loc Cert.SmallKernelIdeal.main_arg46) = m ((c.tc : Thread Cert.SmallKernelIdeal.nD Cert.SmallKernelIdeal.τ).loc Cert.SmallKernelIdeal.main_arg46)
      ∧ r.2.mem ((c.tc : Thread Cert.SmallKernelIdeal.nD Cert.SmallKernelIdeal.τ).loc Cert.SmallKernelIdeal.main_arg47) = m ((c.tc : Thread Cert.SmallKernelIdeal.nD Cert.SmallKernelIdeal.τ).loc Cert.SmallKernelIdeal.main_arg47)
      ∧ r.2.mem ((c.tc : Thread Cert.SmallKernelIdeal.nD Cert.SmallKernelIdeal.τ).loc Cert.SmallKernelIdeal.main_arg48) = m ((c.tc : Thread Cert.SmallKernelIdeal.nD Cert.SmallKernelIdeal.τ).loc Cert.SmallKernelIdeal.main_arg48)
      ∧ r.2.mem ((c.tc : Thread Cert.SmallKernelIdeal.nD Cert.SmallKernelIdeal.τ).loc Cert.SmallKernelIdeal.main_arg49) = m ((c.tc : Thread Cert.SmallKernelIdeal.nD Cert.SmallKernelIdeal.τ).loc Cert.SmallKernelIdeal.main_arg49)
      ∧ r.2.mem ((c.tc : Thread Cert.SmallKernelIdeal.nD Cert.SmallKernelIdeal.τ).loc Cert.SmallKernelIdeal.main_arg50) = m ((c.tc : Thread Cert.SmallKernelIdeal.nD Cert.SmallKernelIdeal.τ).loc Cert.SmallKernelIdeal.main_arg50)
      ∧ r.2.mem ((c.tc : Thread Cert.SmallKernelIdeal.nD Cert.SmallKernelIdeal.τ).loc Cert.SmallKernelIdeal.main_arg51) = m ((c.tc : Thread Cert.SmallKernelIdeal.nD Cert.SmallKernelIdeal.τ).loc Cert.SmallKernelIdeal.main_arg51)
      ∧ r.2.mem ((c.tc : Thread Cert.SmallKernelIdeal.nD Cert.SmallKernelIdeal.τ).loc Cert.SmallKernelIdeal.main_arg52) = m ((c.tc : Thread Cert.SmallKernelIdeal.nD Cert.SmallKernelIdeal.τ).loc Cert.SmallKernelIdeal.main_arg52)
      ∧ r.2.mem ((c.tc : Thread Cert.SmallKernelIdeal.nD Cert.SmallKernelIdeal.τ).loc Cert.SmallKernelIdeal.main_arg53) = m ((c.tc : Thread Cert.SmallKernelIdeal.nD Cert.SmallKernelIdeal.τ).loc Cert.SmallKernelIdeal.main_arg53)
      ∧ r.2.mem ((c.tc : Thread Cert.SmallKernelIdeal.nD Cert.SmallKernelIdeal.τ).loc Cert.SmallKernelIdeal.main_arg54) = m ((c.tc : Thread Cert.SmallKernelIdeal.nD Cert.SmallKernelIdeal.τ).loc Cert.SmallKernelIdeal.main_arg54)
      ∧ r.2.mem ((c.tc : Thread Cert.SmallKernelIdeal.nD Cert.SmallKernelIdeal.τ).loc Cert.SmallKernelIdeal.main_arg55) = m ((c.tc : Thread Cert.SmallKernelIdeal.nD Cert.SmallKernelIdeal.τ).loc Cert.SmallKernelIdeal.main_arg55)
      ∧ r.2.mem ((c.tc : Thread Cert.SmallKernelIdeal.nD Cert.SmallKernelIdeal.τ).loc Cert.SmallKernelIdeal.main_arg56) = m ((c.tc : Thread Cert.SmallKernelIdeal.nD Cert.SmallKernelIdeal.τ).loc Cert.SmallKernelIdeal.main_arg56)
      ∧ r.2.mem ((c.tc : Thread Cert.SmallKernelIdeal.nD Cert.SmallKernelIdeal.τ).loc Cert.SmallKernelIdeal.main_arg57) = m ((c.tc : Thread Cert.SmallKernelIdeal.nD Cert.SmallKernelIdeal.τ).loc Cert.SmallKernelIdeal.main_arg57)
      ∧ r.2.mem ((c.tc : Thread Cert.SmallKernelIdeal.nD Cert.SmallKernelIdeal.τ).loc Cert.SmallKernelIdeal.main_arg58) = m ((c.tc : Thread Cert.SmallKernelIdeal.nD Cert.SmallKernelIdeal.τ).loc Cert.SmallKernelIdeal.main_arg58)
      ∧ r.2.mem ((c.tc : Thread Cert.SmallKernelIdeal.nD Cert.SmallKernelIdeal.τ).loc Cert.SmallKernelIdeal.main_arg59) = m ((c.tc : Thread Cert.SmallKernelIdeal.nD Cert.SmallKernelIdeal.τ).loc Cert.SmallKernelIdeal.main_arg59)
      ∧ r.2.mem ((c.tc : Thread Cert.SmallKernelIdeal.nD Cert.SmallKernelIdeal.τ).loc Cert.SmallKernelIdeal.main_arg60) = m ((c.tc : Thread Cert.SmallKernelIdeal.nD Cert.SmallKernelIdeal.τ).loc Cert.SmallKernelIdeal.main_arg60)
      ∧ r.2.mem ((c.tc : Thread Cert.SmallKernelIdeal.nD Cert.SmallKernelIdeal.τ).loc Cert.SmallKernelIdeal.main_arg61) = m ((c.tc : Thread Cert.SmallKernelIdeal.nD Cert.SmallKernelIdeal.τ).loc Cert.SmallKernelIdeal.main_arg61)
      ∧ r.2.mem ((c.tc : Thread Cert.SmallKernelIdeal.nD Cert.SmallKernelIdeal.τ).loc Cert.SmallKernelIdeal.main_arg62) = m ((c.tc : Thread Cert.SmallKernelIdeal.nD Cert.SmallKernelIdeal.τ).loc Cert.SmallKernelIdeal.main_arg62)
      ∧ r.2.mem ((c.tc : Thread Cert.SmallKernelIdeal.nD Cert.SmallKernelIdeal.τ).loc Cert.SmallKernelIdeal.main_arg63) = m ((c.tc : Thread Cert.SmallKernelIdeal.nD Cert.SmallKernelIdeal.τ).loc Cert.SmallKernelIdeal.main_arg63))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29)
      ∧ r.2.mem ((c.tc : Thread Cert.SmallReferenceIdeal.nD Cert.SmallReferenceIdeal.τ).loc Cert.SmallReferenceIdeal.main_arg30) = m ((c.tc : Thread Cert.SmallReferenceIdeal.nD Cert.SmallReferenceIdeal.τ).loc Cert.SmallReferenceIdeal.main_arg30)
      ∧ r.2.mem ((c.tc : Thread Cert.SmallReferenceIdeal.nD Cert.SmallReferenceIdeal.τ).loc Cert.SmallReferenceIdeal.main_arg31) = m ((c.tc : Thread Cert.SmallReferenceIdeal.nD Cert.SmallReferenceIdeal.τ).loc Cert.SmallReferenceIdeal.main_arg31)
      ∧ r.2.mem ((c.tc : Thread Cert.SmallReferenceIdeal.nD Cert.SmallReferenceIdeal.τ).loc Cert.SmallReferenceIdeal.main_arg32) = m ((c.tc : Thread Cert.SmallReferenceIdeal.nD Cert.SmallReferenceIdeal.τ).loc Cert.SmallReferenceIdeal.main_arg32)
      ∧ r.2.mem ((c.tc : Thread Cert.SmallReferenceIdeal.nD Cert.SmallReferenceIdeal.τ).loc Cert.SmallReferenceIdeal.main_arg33) = m ((c.tc : Thread Cert.SmallReferenceIdeal.nD Cert.SmallReferenceIdeal.τ).loc Cert.SmallReferenceIdeal.main_arg33)
      ∧ r.2.mem ((c.tc : Thread Cert.SmallReferenceIdeal.nD Cert.SmallReferenceIdeal.τ).loc Cert.SmallReferenceIdeal.main_arg34) = m ((c.tc : Thread Cert.SmallReferenceIdeal.nD Cert.SmallReferenceIdeal.τ).loc Cert.SmallReferenceIdeal.main_arg34)
      ∧ r.2.mem ((c.tc : Thread Cert.SmallReferenceIdeal.nD Cert.SmallReferenceIdeal.τ).loc Cert.SmallReferenceIdeal.main_arg35) = m ((c.tc : Thread Cert.SmallReferenceIdeal.nD Cert.SmallReferenceIdeal.τ).loc Cert.SmallReferenceIdeal.main_arg35)
      ∧ r.2.mem ((c.tc : Thread Cert.SmallReferenceIdeal.nD Cert.SmallReferenceIdeal.τ).loc Cert.SmallReferenceIdeal.main_arg36) = m ((c.tc : Thread Cert.SmallReferenceIdeal.nD Cert.SmallReferenceIdeal.τ).loc Cert.SmallReferenceIdeal.main_arg36)
      ∧ r.2.mem ((c.tc : Thread Cert.SmallReferenceIdeal.nD Cert.SmallReferenceIdeal.τ).loc Cert.SmallReferenceIdeal.main_arg37) = m ((c.tc : Thread Cert.SmallReferenceIdeal.nD Cert.SmallReferenceIdeal.τ).loc Cert.SmallReferenceIdeal.main_arg37)
      ∧ r.2.mem ((c.tc : Thread Cert.SmallReferenceIdeal.nD Cert.SmallReferenceIdeal.τ).loc Cert.SmallReferenceIdeal.main_arg38) = m ((c.tc : Thread Cert.SmallReferenceIdeal.nD Cert.SmallReferenceIdeal.τ).loc Cert.SmallReferenceIdeal.main_arg38)
      ∧ r.2.mem ((c.tc : Thread Cert.SmallReferenceIdeal.nD Cert.SmallReferenceIdeal.τ).loc Cert.SmallReferenceIdeal.main_arg39) = m ((c.tc : Thread Cert.SmallReferenceIdeal.nD Cert.SmallReferenceIdeal.τ).loc Cert.SmallReferenceIdeal.main_arg39)
      ∧ r.2.mem ((c.tc : Thread Cert.SmallReferenceIdeal.nD Cert.SmallReferenceIdeal.τ).loc Cert.SmallReferenceIdeal.main_arg40) = m ((c.tc : Thread Cert.SmallReferenceIdeal.nD Cert.SmallReferenceIdeal.τ).loc Cert.SmallReferenceIdeal.main_arg40)
      ∧ r.2.mem ((c.tc : Thread Cert.SmallReferenceIdeal.nD Cert.SmallReferenceIdeal.τ).loc Cert.SmallReferenceIdeal.main_arg41) = m ((c.tc : Thread Cert.SmallReferenceIdeal.nD Cert.SmallReferenceIdeal.τ).loc Cert.SmallReferenceIdeal.main_arg41)
      ∧ r.2.mem ((c.tc : Thread Cert.SmallReferenceIdeal.nD Cert.SmallReferenceIdeal.τ).loc Cert.SmallReferenceIdeal.main_arg42) = m ((c.tc : Thread Cert.SmallReferenceIdeal.nD Cert.SmallReferenceIdeal.τ).loc Cert.SmallReferenceIdeal.main_arg42)
      ∧ r.2.mem ((c.tc : Thread Cert.SmallReferenceIdeal.nD Cert.SmallReferenceIdeal.τ).loc Cert.SmallReferenceIdeal.main_arg43) = m ((c.tc : Thread Cert.SmallReferenceIdeal.nD Cert.SmallReferenceIdeal.τ).loc Cert.SmallReferenceIdeal.main_arg43)
      ∧ r.2.mem ((c.tc : Thread Cert.SmallReferenceIdeal.nD Cert.SmallReferenceIdeal.τ).loc Cert.SmallReferenceIdeal.main_arg44) = m ((c.tc : Thread Cert.SmallReferenceIdeal.nD Cert.SmallReferenceIdeal.τ).loc Cert.SmallReferenceIdeal.main_arg44)
      ∧ r.2.mem ((c.tc : Thread Cert.SmallReferenceIdeal.nD Cert.SmallReferenceIdeal.τ).loc Cert.SmallReferenceIdeal.main_arg45) = m ((c.tc : Thread Cert.SmallReferenceIdeal.nD Cert.SmallReferenceIdeal.τ).loc Cert.SmallReferenceIdeal.main_arg45)
      ∧ r.2.mem ((c.tc : Thread Cert.SmallReferenceIdeal.nD Cert.SmallReferenceIdeal.τ).loc Cert.SmallReferenceIdeal.main_arg46) = m ((c.tc : Thread Cert.SmallReferenceIdeal.nD Cert.SmallReferenceIdeal.τ).loc Cert.SmallReferenceIdeal.main_arg46)
      ∧ r.2.mem ((c.tc : Thread Cert.SmallReferenceIdeal.nD Cert.SmallReferenceIdeal.τ).loc Cert.SmallReferenceIdeal.main_arg47) = m ((c.tc : Thread Cert.SmallReferenceIdeal.nD Cert.SmallReferenceIdeal.τ).loc Cert.SmallReferenceIdeal.main_arg47)
      ∧ r.2.mem ((c.tc : Thread Cert.SmallReferenceIdeal.nD Cert.SmallReferenceIdeal.τ).loc Cert.SmallReferenceIdeal.main_arg48) = m ((c.tc : Thread Cert.SmallReferenceIdeal.nD Cert.SmallReferenceIdeal.τ).loc Cert.SmallReferenceIdeal.main_arg48)
      ∧ r.2.mem ((c.tc : Thread Cert.SmallReferenceIdeal.nD Cert.SmallReferenceIdeal.τ).loc Cert.SmallReferenceIdeal.main_arg49) = m ((c.tc : Thread Cert.SmallReferenceIdeal.nD Cert.SmallReferenceIdeal.τ).loc Cert.SmallReferenceIdeal.main_arg49)
      ∧ r.2.mem ((c.tc : Thread Cert.SmallReferenceIdeal.nD Cert.SmallReferenceIdeal.τ).loc Cert.SmallReferenceIdeal.main_arg50) = m ((c.tc : Thread Cert.SmallReferenceIdeal.nD Cert.SmallReferenceIdeal.τ).loc Cert.SmallReferenceIdeal.main_arg50)
      ∧ r.2.mem ((c.tc : Thread Cert.SmallReferenceIdeal.nD Cert.SmallReferenceIdeal.τ).loc Cert.SmallReferenceIdeal.main_arg51) = m ((c.tc : Thread Cert.SmallReferenceIdeal.nD Cert.SmallReferenceIdeal.τ).loc Cert.SmallReferenceIdeal.main_arg51)
      ∧ r.2.mem ((c.tc : Thread Cert.SmallReferenceIdeal.nD Cert.SmallReferenceIdeal.τ).loc Cert.SmallReferenceIdeal.main_arg52) = m ((c.tc : Thread Cert.SmallReferenceIdeal.nD Cert.SmallReferenceIdeal.τ).loc Cert.SmallReferenceIdeal.main_arg52)
      ∧ r.2.mem ((c.tc : Thread Cert.SmallReferenceIdeal.nD Cert.SmallReferenceIdeal.τ).loc Cert.SmallReferenceIdeal.main_arg53) = m ((c.tc : Thread Cert.SmallReferenceIdeal.nD Cert.SmallReferenceIdeal.τ).loc Cert.SmallReferenceIdeal.main_arg53)
      ∧ r.2.mem ((c.tc : Thread Cert.SmallReferenceIdeal.nD Cert.SmallReferenceIdeal.τ).loc Cert.SmallReferenceIdeal.main_arg54) = m ((c.tc : Thread Cert.SmallReferenceIdeal.nD Cert.SmallReferenceIdeal.τ).loc Cert.SmallReferenceIdeal.main_arg54)
      ∧ r.2.mem ((c.tc : Thread Cert.SmallReferenceIdeal.nD Cert.SmallReferenceIdeal.τ).loc Cert.SmallReferenceIdeal.main_arg55) = m ((c.tc : Thread Cert.SmallReferenceIdeal.nD Cert.SmallReferenceIdeal.τ).loc Cert.SmallReferenceIdeal.main_arg55)
      ∧ r.2.mem ((c.tc : Thread Cert.SmallReferenceIdeal.nD Cert.SmallReferenceIdeal.τ).loc Cert.SmallReferenceIdeal.main_arg56) = m ((c.tc : Thread Cert.SmallReferenceIdeal.nD Cert.SmallReferenceIdeal.τ).loc Cert.SmallReferenceIdeal.main_arg56)
      ∧ r.2.mem ((c.tc : Thread Cert.SmallReferenceIdeal.nD Cert.SmallReferenceIdeal.τ).loc Cert.SmallReferenceIdeal.main_arg57) = m ((c.tc : Thread Cert.SmallReferenceIdeal.nD Cert.SmallReferenceIdeal.τ).loc Cert.SmallReferenceIdeal.main_arg57)
      ∧ r.2.mem ((c.tc : Thread Cert.SmallReferenceIdeal.nD Cert.SmallReferenceIdeal.τ).loc Cert.SmallReferenceIdeal.main_arg58) = m ((c.tc : Thread Cert.SmallReferenceIdeal.nD Cert.SmallReferenceIdeal.τ).loc Cert.SmallReferenceIdeal.main_arg58)
      ∧ r.2.mem ((c.tc : Thread Cert.SmallReferenceIdeal.nD Cert.SmallReferenceIdeal.τ).loc Cert.SmallReferenceIdeal.main_arg59) = m ((c.tc : Thread Cert.SmallReferenceIdeal.nD Cert.SmallReferenceIdeal.τ).loc Cert.SmallReferenceIdeal.main_arg59)
      ∧ r.2.mem ((c.tc : Thread Cert.SmallReferenceIdeal.nD Cert.SmallReferenceIdeal.τ).loc Cert.SmallReferenceIdeal.main_arg60) = m ((c.tc : Thread Cert.SmallReferenceIdeal.nD Cert.SmallReferenceIdeal.τ).loc Cert.SmallReferenceIdeal.main_arg60)
      ∧ r.2.mem ((c.tc : Thread Cert.SmallReferenceIdeal.nD Cert.SmallReferenceIdeal.τ).loc Cert.SmallReferenceIdeal.main_arg61) = m ((c.tc : Thread Cert.SmallReferenceIdeal.nD Cert.SmallReferenceIdeal.τ).loc Cert.SmallReferenceIdeal.main_arg61)
      ∧ r.2.mem ((c.tc : Thread Cert.SmallReferenceIdeal.nD Cert.SmallReferenceIdeal.τ).loc Cert.SmallReferenceIdeal.main_arg62) = m ((c.tc : Thread Cert.SmallReferenceIdeal.nD Cert.SmallReferenceIdeal.τ).loc Cert.SmallReferenceIdeal.main_arg62)
      ∧ r.2.mem ((c.tc : Thread Cert.SmallReferenceIdeal.nD Cert.SmallReferenceIdeal.τ).loc Cert.SmallReferenceIdeal.main_arg63) = m ((c.tc : Thread Cert.SmallReferenceIdeal.nD Cert.SmallReferenceIdeal.τ).loc Cert.SmallReferenceIdeal.main_arg63))
      ∧ r.2.sem = fun _ => 0)

def quiescent_SumsKernel [hSumsKernel : Cert.SumsKernel.Facts] : Prop :=
  ∀ (m : (ℓ : Loc Cert.SumsKernel.nD Cert.SumsKernel.τ Cert.SumsKernel.sig) → Buf (Elt Bits) ℓ) (g : Dev Cert.SumsKernel.nD → PrngReg), Pre_SumsKernel m →
    θ_run (Cert.SumsKernel.defs (F := Bits)) (onTc (τ := Cert.SumsKernel.τ) (Cert.SumsKernel.main (F := Bits))) ⟨m, fun _ => 0, g⟩ (fun r => (∀ c : Dev Cert.SumsKernel.nD,
      r.2.mem ((c.tc : Thread Cert.SumsKernel.nD Cert.SumsKernel.τ).loc Cert.SumsKernel.main_arg0) = m ((c.tc : Thread Cert.SumsKernel.nD Cert.SumsKernel.τ).loc Cert.SumsKernel.main_arg0)
      ∧ r.2.mem ((c.tc : Thread Cert.SumsKernel.nD Cert.SumsKernel.τ).loc Cert.SumsKernel.main_arg1) = m ((c.tc : Thread Cert.SumsKernel.nD Cert.SumsKernel.τ).loc Cert.SumsKernel.main_arg1))
      ∧ r.2.sem = fun _ => 0)

def quiescent_SumsKernelIdeal [hSumsKernelIdeal : Cert.SumsKernelIdeal.Facts] : Prop :=
  ∀ (m : (ℓ : Loc Cert.SumsKernelIdeal.nD Cert.SumsKernelIdeal.τ Cert.SumsKernelIdeal.sig) → Buf (Elt Ideal) ℓ) (g : Dev Cert.SumsKernelIdeal.nD → PrngReg), Pre_SumsKernelIdeal m →
    θ_run (Cert.SumsKernelIdeal.defs (F := Ideal)) (onTc (τ := Cert.SumsKernelIdeal.τ) (Cert.SumsKernelIdeal.main (F := Ideal))) ⟨m, fun _ => 0, g⟩ (fun r => (∀ c : Dev Cert.SumsKernelIdeal.nD,
      r.2.mem ((c.tc : Thread Cert.SumsKernelIdeal.nD Cert.SumsKernelIdeal.τ).loc Cert.SumsKernelIdeal.main_arg0) = m ((c.tc : Thread Cert.SumsKernelIdeal.nD Cert.SumsKernelIdeal.τ).loc Cert.SumsKernelIdeal.main_arg0)
      ∧ r.2.mem ((c.tc : Thread Cert.SumsKernelIdeal.nD Cert.SumsKernelIdeal.τ).loc Cert.SumsKernelIdeal.main_arg1) = m ((c.tc : Thread Cert.SumsKernelIdeal.nD Cert.SumsKernelIdeal.τ).loc Cert.SumsKernelIdeal.main_arg1))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0)
      ∧ r.2.mem ((c.tc : Thread Cert.SumsReferenceIdeal.nD Cert.SumsReferenceIdeal.τ).loc Cert.SumsReferenceIdeal.main_arg1) = m ((c.tc : Thread Cert.SumsReferenceIdeal.nD Cert.SumsReferenceIdeal.τ).loc Cert.SumsReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v1)) (v1 : (c : Dev Cert.MlpKernelIdeal.nD) → Buf (Elt Ideal) ((c.tc : Thread Cert.MlpKernelIdeal.nD Cert.MlpKernelIdeal.τ).loc Cert.MlpKernelIdeal.main_v4)) (v2 : (c : Dev Cert.MlpKernelIdeal.nD) → Buf (Elt Ideal) ((c.tc : Thread Cert.MlpKernelIdeal.nD Cert.MlpKernelIdeal.τ).loc Cert.MlpKernelIdeal.main_v5)) (v3 : (c : Dev Cert.MlpKernelIdeal.nD) → Buf (Elt Ideal) ((c.tc : Thread Cert.MlpKernelIdeal.nD Cert.MlpKernelIdeal.τ).loc Cert.MlpKernelIdeal.main_v3)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v1) = v0 c
          ∧ r.2.mem ((c.tc : Thread Cert.MlpKernelIdeal.nD Cert.MlpKernelIdeal.τ).loc Cert.MlpKernelIdeal.main_v4) = v1 c
          ∧ r.2.mem ((c.tc : Thread Cert.MlpKernelIdeal.nD Cert.MlpKernelIdeal.τ).loc Cert.MlpKernelIdeal.main_v5) = v2 c
          ∧ r.2.mem ((c.tc : Thread Cert.MlpKernelIdeal.nD Cert.MlpKernelIdeal.τ).loc Cert.MlpKernelIdeal.main_v3) = v3 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v11) = v0 c
          ∧ r.2.mem ((c.tc : Thread Cert.MlpReferenceIdeal.nD Cert.MlpReferenceIdeal.τ).loc Cert.MlpReferenceIdeal.main_v21) = v1 c
          ∧ r.2.mem ((c.tc : Thread Cert.MlpReferenceIdeal.nD Cert.MlpReferenceIdeal.τ).loc Cert.MlpReferenceIdeal.main_v24) = v2 c
          ∧ r.2.mem ((c.tc : Thread Cert.MlpReferenceIdeal.nD Cert.MlpReferenceIdeal.τ).loc Cert.MlpReferenceIdeal.main_v25) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v0)) (v1 : (c : Dev Cert.ProjKernelIdeal.nD) → Buf (Elt Ideal) ((c.tc : Thread Cert.ProjKernelIdeal.nD Cert.ProjKernelIdeal.τ).loc Cert.ProjKernelIdeal.main_v1)) (v2 : (c : Dev Cert.ProjKernelIdeal.nD) → Buf (Elt Ideal) ((c.tc : Thread Cert.ProjKernelIdeal.nD Cert.ProjKernelIdeal.τ).loc Cert.ProjKernelIdeal.main_v2)) (v3 : (c : Dev Cert.ProjKernelIdeal.nD) → Buf (Elt Ideal) ((c.tc : Thread Cert.ProjKernelIdeal.nD Cert.ProjKernelIdeal.τ).loc Cert.ProjKernelIdeal.main_v3)) (v4 : (c : Dev Cert.ProjKernelIdeal.nD) → Buf (Elt Ideal) ((c.tc : Thread Cert.ProjKernelIdeal.nD Cert.ProjKernelIdeal.τ).loc Cert.ProjKernelIdeal.main_v4)) (v5 : (c : Dev Cert.ProjKernelIdeal.nD) → Buf (Elt Ideal) ((c.tc : Thread Cert.ProjKernelIdeal.nD Cert.ProjKernelIdeal.τ).loc Cert.ProjKernelIdeal.main_v5)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_v1) = v1 c
          ∧ r.2.mem ((c.tc : Thread Cert.ProjKernelIdeal.nD Cert.ProjKernelIdeal.τ).loc Cert.ProjKernelIdeal.main_v2) = v2 c
          ∧ r.2.mem ((c.tc : Thread Cert.ProjKernelIdeal.nD Cert.ProjKernelIdeal.τ).loc Cert.ProjKernelIdeal.main_v3) = v3 c
          ∧ r.2.mem ((c.tc : Thread Cert.ProjKernelIdeal.nD Cert.ProjKernelIdeal.τ).loc Cert.ProjKernelIdeal.main_v4) = v4 c
          ∧ r.2.mem ((c.tc : Thread Cert.ProjKernelIdeal.nD Cert.ProjKernelIdeal.τ).loc Cert.ProjKernelIdeal.main_v5) = v5 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v14) = v0 c
          ∧ r.2.mem ((c.tc : Thread Cert.ProjReferenceIdeal.nD Cert.ProjReferenceIdeal.τ).loc Cert.ProjReferenceIdeal.main_v5) = v1 c
          ∧ r.2.mem ((c.tc : Thread Cert.ProjReferenceIdeal.nD Cert.ProjReferenceIdeal.τ).loc Cert.ProjReferenceIdeal.main_v13) = v2 c
          ∧ r.2.mem ((c.tc : Thread Cert.ProjReferenceIdeal.nD Cert.ProjReferenceIdeal.τ).loc Cert.ProjReferenceIdeal.main_v15) = v3 c
          ∧ r.2.mem ((c.tc : Thread Cert.ProjReferenceIdeal.nD Cert.ProjReferenceIdeal.τ).loc Cert.ProjReferenceIdeal.main_v9) = v4 c
          ∧ r.2.mem ((c.tc : Thread Cert.ProjReferenceIdeal.nD Cert.ProjReferenceIdeal.τ).loc Cert.ProjReferenceIdeal.main_v16) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)
      ∧ m' ((c.tc : Thread Cert.AdamwReferenceIdeal.nD Cert.AdamwReferenceIdeal.τ).loc Cert.AdamwReferenceIdeal.main_arg4) = m ((c.tc : Thread Cert.AdamwKernelIdeal.nD Cert.AdamwKernelIdeal.τ).loc Cert.AdamwKernelIdeal.main_arg4)
      ∧ m' ((c.tc : Thread Cert.AdamwReferenceIdeal.nD Cert.AdamwReferenceIdeal.τ).loc Cert.AdamwReferenceIdeal.main_arg5) = m ((c.tc : Thread Cert.AdamwKernelIdeal.nD Cert.AdamwKernelIdeal.τ).loc Cert.AdamwKernelIdeal.main_arg5)
      ∧ m' ((c.tc : Thread Cert.AdamwReferenceIdeal.nD Cert.AdamwReferenceIdeal.τ).loc Cert.AdamwReferenceIdeal.main_arg6) = m ((c.tc : Thread Cert.AdamwKernelIdeal.nD Cert.AdamwKernelIdeal.τ).loc Cert.AdamwKernelIdeal.main_arg6)
      ∧ m' ((c.tc : Thread Cert.AdamwReferenceIdeal.nD Cert.AdamwReferenceIdeal.τ).loc Cert.AdamwReferenceIdeal.main_arg7) = m ((c.tc : Thread Cert.AdamwKernelIdeal.nD Cert.AdamwKernelIdeal.τ).loc Cert.AdamwKernelIdeal.main_arg7)
      ∧ m' ((c.tc : Thread Cert.AdamwReferenceIdeal.nD Cert.AdamwReferenceIdeal.τ).loc Cert.AdamwReferenceIdeal.main_arg8) = m ((c.tc : Thread Cert.AdamwKernelIdeal.nD Cert.AdamwKernelIdeal.τ).loc Cert.AdamwKernelIdeal.main_arg8)
      ∧ m' ((c.tc : Thread Cert.AdamwReferenceIdeal.nD Cert.AdamwReferenceIdeal.τ).loc Cert.AdamwReferenceIdeal.main_arg9) = m ((c.tc : Thread Cert.AdamwKernelIdeal.nD Cert.AdamwKernelIdeal.τ).loc Cert.AdamwKernelIdeal.main_arg9)
      ∧ m' ((c.tc : Thread Cert.AdamwReferenceIdeal.nD Cert.AdamwReferenceIdeal.τ).loc Cert.AdamwReferenceIdeal.main_arg10) = m ((c.tc : Thread Cert.AdamwKernelIdeal.nD Cert.AdamwKernelIdeal.τ).loc Cert.AdamwKernelIdeal.main_arg10)
      ∧ m' ((c.tc : Thread Cert.AdamwReferenceIdeal.nD Cert.AdamwReferenceIdeal.τ).loc Cert.AdamwReferenceIdeal.main_arg11) = m ((c.tc : Thread Cert.AdamwKernelIdeal.nD Cert.AdamwKernelIdeal.τ).loc Cert.AdamwKernelIdeal.main_arg11)
      ∧ m' ((c.tc : Thread Cert.AdamwReferenceIdeal.nD Cert.AdamwReferenceIdeal.τ).loc Cert.AdamwReferenceIdeal.main_arg12) = m ((c.tc : Thread Cert.AdamwKernelIdeal.nD Cert.AdamwKernelIdeal.τ).loc Cert.AdamwKernelIdeal.main_arg12)
      ∧ m' ((c.tc : Thread Cert.AdamwReferenceIdeal.nD Cert.AdamwReferenceIdeal.τ).loc Cert.AdamwReferenceIdeal.main_arg13) = m ((c.tc : Thread Cert.AdamwKernelIdeal.nD Cert.AdamwKernelIdeal.τ).loc Cert.AdamwKernelIdeal.main_arg13)
      ∧ m' ((c.tc : Thread Cert.AdamwReferenceIdeal.nD Cert.AdamwReferenceIdeal.τ).loc Cert.AdamwReferenceIdeal.main_arg14) = m ((c.tc : Thread Cert.AdamwKernelIdeal.nD Cert.AdamwKernelIdeal.τ).loc Cert.AdamwKernelIdeal.main_arg14)
      ∧ m' ((c.tc : Thread Cert.AdamwReferenceIdeal.nD Cert.AdamwReferenceIdeal.τ).loc Cert.AdamwReferenceIdeal.main_arg15) = m ((c.tc : Thread Cert.AdamwKernelIdeal.nD Cert.AdamwKernelIdeal.τ).loc Cert.AdamwKernelIdeal.main_arg15)
      ∧ m' ((c.tc : Thread Cert.AdamwReferenceIdeal.nD Cert.AdamwReferenceIdeal.τ).loc Cert.AdamwReferenceIdeal.main_arg16) = m ((c.tc : Thread Cert.AdamwKernelIdeal.nD Cert.AdamwKernelIdeal.τ).loc Cert.AdamwKernelIdeal.main_arg16)
      ∧ m' ((c.tc : Thread Cert.AdamwReferenceIdeal.nD Cert.AdamwReferenceIdeal.τ).loc Cert.AdamwReferenceIdeal.main_arg17) = m ((c.tc : Thread Cert.AdamwKernelIdeal.nD Cert.AdamwKernelIdeal.τ).loc Cert.AdamwKernelIdeal.main_arg17)
      ∧ m' ((c.tc : Thread Cert.AdamwReferenceIdeal.nD Cert.AdamwReferenceIdeal.τ).loc Cert.AdamwReferenceIdeal.main_arg18) = m ((c.tc : Thread Cert.AdamwKernelIdeal.nD Cert.AdamwKernelIdeal.τ).loc Cert.AdamwKernelIdeal.main_arg18)
      ∧ m' ((c.tc : Thread Cert.AdamwReferenceIdeal.nD Cert.AdamwReferenceIdeal.τ).loc Cert.AdamwReferenceIdeal.main_arg19) = m ((c.tc : Thread Cert.AdamwKernelIdeal.nD Cert.AdamwKernelIdeal.τ).loc Cert.AdamwKernelIdeal.main_arg19)) →
    ∃ (v0 : (c : Dev Cert.AdamwKernelIdeal.nD) → Buf (Elt Ideal) ((c.tc : Thread Cert.AdamwKernelIdeal.nD Cert.AdamwKernelIdeal.τ).loc Cert.AdamwKernelIdeal.main_v0_0)) (v1 : (c : Dev Cert.AdamwKernelIdeal.nD) → Buf (Elt Ideal) ((c.tc : Thread Cert.AdamwKernelIdeal.nD Cert.AdamwKernelIdeal.τ).loc Cert.AdamwKernelIdeal.main_v0_1)) (v2 : (c : Dev Cert.AdamwKernelIdeal.nD) → Buf (Elt Ideal) ((c.tc : Thread Cert.AdamwKernelIdeal.nD Cert.AdamwKernelIdeal.τ).loc Cert.AdamwKernelIdeal.main_v0_2)) (v3 : (c : Dev Cert.AdamwKernelIdeal.nD) → Buf (Elt Ideal) ((c.tc : Thread Cert.AdamwKernelIdeal.nD Cert.AdamwKernelIdeal.τ).loc Cert.AdamwKernelIdeal.main_v0_3)) (v4 : (c : Dev Cert.AdamwKernelIdeal.nD) → Buf (Elt Ideal) ((c.tc : Thread Cert.AdamwKernelIdeal.nD Cert.AdamwKernelIdeal.τ).loc Cert.AdamwKernelIdeal.main_v1_0)) (v5 : (c : Dev Cert.AdamwKernelIdeal.nD) → Buf (Elt Ideal) ((c.tc : Thread Cert.AdamwKernelIdeal.nD Cert.AdamwKernelIdeal.τ).loc Cert.AdamwKernelIdeal.main_v1_1)) (v6 : (c : Dev Cert.AdamwKernelIdeal.nD) → Buf (Elt Ideal) ((c.tc : Thread Cert.AdamwKernelIdeal.nD Cert.AdamwKernelIdeal.τ).loc Cert.AdamwKernelIdeal.main_v1_2)) (v7 : (c : Dev Cert.AdamwKernelIdeal.nD) → Buf (Elt Ideal) ((c.tc : Thread Cert.AdamwKernelIdeal.nD Cert.AdamwKernelIdeal.τ).loc Cert.AdamwKernelIdeal.main_v1_3)) (v8 : (c : Dev Cert.AdamwKernelIdeal.nD) → Buf (Elt Ideal) ((c.tc : Thread Cert.AdamwKernelIdeal.nD Cert.AdamwKernelIdeal.τ).loc Cert.AdamwKernelIdeal.main_v2_0)) (v9 : (c : Dev Cert.AdamwKernelIdeal.nD) → Buf (Elt Ideal) ((c.tc : Thread Cert.AdamwKernelIdeal.nD Cert.AdamwKernelIdeal.τ).loc Cert.AdamwKernelIdeal.main_v2_1)) (v10 : (c : Dev Cert.AdamwKernelIdeal.nD) → Buf (Elt Ideal) ((c.tc : Thread Cert.AdamwKernelIdeal.nD Cert.AdamwKernelIdeal.τ).loc Cert.AdamwKernelIdeal.main_v2_2)) (v11 : (c : Dev Cert.AdamwKernelIdeal.nD) → Buf (Elt Ideal) ((c.tc : Thread Cert.AdamwKernelIdeal.nD Cert.AdamwKernelIdeal.τ).loc Cert.AdamwKernelIdeal.main_v2_3)) (v12 : (c : Dev Cert.AdamwKernelIdeal.nD) → Buf (Elt Ideal) ((c.tc : Thread Cert.AdamwKernelIdeal.nD Cert.AdamwKernelIdeal.τ).loc Cert.AdamwKernelIdeal.main_v3_0)) (v13 : (c : Dev Cert.AdamwKernelIdeal.nD) → Buf (Elt Ideal) ((c.tc : Thread Cert.AdamwKernelIdeal.nD Cert.AdamwKernelIdeal.τ).loc Cert.AdamwKernelIdeal.main_v3_1)) (v14 : (c : Dev Cert.AdamwKernelIdeal.nD) → Buf (Elt Ideal) ((c.tc : Thread Cert.AdamwKernelIdeal.nD Cert.AdamwKernelIdeal.τ).loc Cert.AdamwKernelIdeal.main_v3_2)) (v15 : (c : Dev Cert.AdamwKernelIdeal.nD) → Buf (Elt Ideal) ((c.tc : Thread Cert.AdamwKernelIdeal.nD Cert.AdamwKernelIdeal.τ).loc Cert.AdamwKernelIdeal.main_v3_3)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v0_0) = v0 c
          ∧ r.2.mem ((c.tc : Thread Cert.AdamwKernelIdeal.nD Cert.AdamwKernelIdeal.τ).loc Cert.AdamwKernelIdeal.main_v0_1) = v1 c
          ∧ r.2.mem ((c.tc : Thread Cert.AdamwKernelIdeal.nD Cert.AdamwKernelIdeal.τ).loc Cert.AdamwKernelIdeal.main_v0_2) = v2 c
          ∧ r.2.mem ((c.tc : Thread Cert.AdamwKernelIdeal.nD Cert.AdamwKernelIdeal.τ).loc Cert.AdamwKernelIdeal.main_v0_3) = v3 c
          ∧ r.2.mem ((c.tc : Thread Cert.AdamwKernelIdeal.nD Cert.AdamwKernelIdeal.τ).loc Cert.AdamwKernelIdeal.main_v1_0) = v4 c
          ∧ r.2.mem ((c.tc : Thread Cert.AdamwKernelIdeal.nD Cert.AdamwKernelIdeal.τ).loc Cert.AdamwKernelIdeal.main_v1_1) = v5 c
          ∧ r.2.mem ((c.tc : Thread Cert.AdamwKernelIdeal.nD Cert.AdamwKernelIdeal.τ).loc Cert.AdamwKernelIdeal.main_v1_2) = v6 c
          ∧ r.2.mem ((c.tc : Thread Cert.AdamwKernelIdeal.nD Cert.AdamwKernelIdeal.τ).loc Cert.AdamwKernelIdeal.main_v1_3) = v7 c
          ∧ r.2.mem ((c.tc : Thread Cert.AdamwKernelIdeal.nD Cert.AdamwKernelIdeal.τ).loc Cert.AdamwKernelIdeal.main_v2_0) = v8 c
          ∧ r.2.mem ((c.tc : Thread Cert.AdamwKernelIdeal.nD Cert.AdamwKernelIdeal.τ).loc Cert.AdamwKernelIdeal.main_v2_1) = v9 c
          ∧ r.2.mem ((c.tc : Thread Cert.AdamwKernelIdeal.nD Cert.AdamwKernelIdeal.τ).loc Cert.AdamwKernelIdeal.main_v2_2) = v10 c
          ∧ r.2.mem ((c.tc : Thread Cert.AdamwKernelIdeal.nD Cert.AdamwKernelIdeal.τ).loc Cert.AdamwKernelIdeal.main_v2_3) = v11 c
          ∧ r.2.mem ((c.tc : Thread Cert.AdamwKernelIdeal.nD Cert.AdamwKernelIdeal.τ).loc Cert.AdamwKernelIdeal.main_v3_0) = v12 c
          ∧ r.2.mem ((c.tc : Thread Cert.AdamwKernelIdeal.nD Cert.AdamwKernelIdeal.τ).loc Cert.AdamwKernelIdeal.main_v3_1) = v13 c
          ∧ r.2.mem ((c.tc : Thread Cert.AdamwKernelIdeal.nD Cert.AdamwKernelIdeal.τ).loc Cert.AdamwKernelIdeal.main_v3_2) = v14 c
          ∧ r.2.mem ((c.tc : Thread Cert.AdamwKernelIdeal.nD Cert.AdamwKernelIdeal.τ).loc Cert.AdamwKernelIdeal.main_v3_3) = v15 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3)
          ∧ r.2.mem ((c.tc : Thread Cert.AdamwKernelIdeal.nD Cert.AdamwKernelIdeal.τ).loc Cert.AdamwKernelIdeal.main_arg4) = m ((c.tc : Thread Cert.AdamwKernelIdeal.nD Cert.AdamwKernelIdeal.τ).loc Cert.AdamwKernelIdeal.main_arg4)
          ∧ r.2.mem ((c.tc : Thread Cert.AdamwKernelIdeal.nD Cert.AdamwKernelIdeal.τ).loc Cert.AdamwKernelIdeal.main_arg5) = m ((c.tc : Thread Cert.AdamwKernelIdeal.nD Cert.AdamwKernelIdeal.τ).loc Cert.AdamwKernelIdeal.main_arg5)
          ∧ r.2.mem ((c.tc : Thread Cert.AdamwKernelIdeal.nD Cert.AdamwKernelIdeal.τ).loc Cert.AdamwKernelIdeal.main_arg6) = m ((c.tc : Thread Cert.AdamwKernelIdeal.nD Cert.AdamwKernelIdeal.τ).loc Cert.AdamwKernelIdeal.main_arg6)
          ∧ r.2.mem ((c.tc : Thread Cert.AdamwKernelIdeal.nD Cert.AdamwKernelIdeal.τ).loc Cert.AdamwKernelIdeal.main_arg7) = m ((c.tc : Thread Cert.AdamwKernelIdeal.nD Cert.AdamwKernelIdeal.τ).loc Cert.AdamwKernelIdeal.main_arg7)
          ∧ r.2.mem ((c.tc : Thread Cert.AdamwKernelIdeal.nD Cert.AdamwKernelIdeal.τ).loc Cert.AdamwKernelIdeal.main_arg8) = m ((c.tc : Thread Cert.AdamwKernelIdeal.nD Cert.AdamwKernelIdeal.τ).loc Cert.AdamwKernelIdeal.main_arg8)
          ∧ r.2.mem ((c.tc : Thread Cert.AdamwKernelIdeal.nD Cert.AdamwKernelIdeal.τ).loc Cert.AdamwKernelIdeal.main_arg9) = m ((c.tc : Thread Cert.AdamwKernelIdeal.nD Cert.AdamwKernelIdeal.τ).loc Cert.AdamwKernelIdeal.main_arg9)
          ∧ r.2.mem ((c.tc : Thread Cert.AdamwKernelIdeal.nD Cert.AdamwKernelIdeal.τ).loc Cert.AdamwKernelIdeal.main_arg10) = m ((c.tc : Thread Cert.AdamwKernelIdeal.nD Cert.AdamwKernelIdeal.τ).loc Cert.AdamwKernelIdeal.main_arg10)
          ∧ r.2.mem ((c.tc : Thread Cert.AdamwKernelIdeal.nD Cert.AdamwKernelIdeal.τ).loc Cert.AdamwKernelIdeal.main_arg11) = m ((c.tc : Thread Cert.AdamwKernelIdeal.nD Cert.AdamwKernelIdeal.τ).loc Cert.AdamwKernelIdeal.main_arg11)
          ∧ r.2.mem ((c.tc : Thread Cert.AdamwKernelIdeal.nD Cert.AdamwKernelIdeal.τ).loc Cert.AdamwKernelIdeal.main_arg12) = m ((c.tc : Thread Cert.AdamwKernelIdeal.nD Cert.AdamwKernelIdeal.τ).loc Cert.AdamwKernelIdeal.main_arg12)
          ∧ r.2.mem ((c.tc : Thread Cert.AdamwKernelIdeal.nD Cert.AdamwKernelIdeal.τ).loc Cert.AdamwKernelIdeal.main_arg13) = m ((c.tc : Thread Cert.AdamwKernelIdeal.nD Cert.AdamwKernelIdeal.τ).loc Cert.AdamwKernelIdeal.main_arg13)
          ∧ r.2.mem ((c.tc : Thread Cert.AdamwKernelIdeal.nD Cert.AdamwKernelIdeal.τ).loc Cert.AdamwKernelIdeal.main_arg14) = m ((c.tc : Thread Cert.AdamwKernelIdeal.nD Cert.AdamwKernelIdeal.τ).loc Cert.AdamwKernelIdeal.main_arg14)
          ∧ r.2.mem ((c.tc : Thread Cert.AdamwKernelIdeal.nD Cert.AdamwKernelIdeal.τ).loc Cert.AdamwKernelIdeal.main_arg15) = m ((c.tc : Thread Cert.AdamwKernelIdeal.nD Cert.AdamwKernelIdeal.τ).loc Cert.AdamwKernelIdeal.main_arg15)
          ∧ r.2.mem ((c.tc : Thread Cert.AdamwKernelIdeal.nD Cert.AdamwKernelIdeal.τ).loc Cert.AdamwKernelIdeal.main_arg16) = m ((c.tc : Thread Cert.AdamwKernelIdeal.nD Cert.AdamwKernelIdeal.τ).loc Cert.AdamwKernelIdeal.main_arg16)
          ∧ r.2.mem ((c.tc : Thread Cert.AdamwKernelIdeal.nD Cert.AdamwKernelIdeal.τ).loc Cert.AdamwKernelIdeal.main_arg17) = m ((c.tc : Thread Cert.AdamwKernelIdeal.nD Cert.AdamwKernelIdeal.τ).loc Cert.AdamwKernelIdeal.main_arg17)
          ∧ r.2.mem ((c.tc : Thread Cert.AdamwKernelIdeal.nD Cert.AdamwKernelIdeal.τ).loc Cert.AdamwKernelIdeal.main_arg18) = m ((c.tc : Thread Cert.AdamwKernelIdeal.nD Cert.AdamwKernelIdeal.τ).loc Cert.AdamwKernelIdeal.main_arg18)
          ∧ r.2.mem ((c.tc : Thread Cert.AdamwKernelIdeal.nD Cert.AdamwKernelIdeal.τ).loc Cert.AdamwKernelIdeal.main_arg19) = m ((c.tc : Thread Cert.AdamwKernelIdeal.nD Cert.AdamwKernelIdeal.τ).loc Cert.AdamwKernelIdeal.main_arg19))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v4) = v0 c
          ∧ r.2.mem ((c.tc : Thread Cert.AdamwReferenceIdeal.nD Cert.AdamwReferenceIdeal.τ).loc Cert.AdamwReferenceIdeal.main_v28) = v1 c
          ∧ r.2.mem ((c.tc : Thread Cert.AdamwReferenceIdeal.nD Cert.AdamwReferenceIdeal.τ).loc Cert.AdamwReferenceIdeal.main_v9) = v2 c
          ∧ r.2.mem ((c.tc : Thread Cert.AdamwReferenceIdeal.nD Cert.AdamwReferenceIdeal.τ).loc Cert.AdamwReferenceIdeal.main_v15) = v3 c
          ∧ r.2.mem ((c.tc : Thread Cert.AdamwReferenceIdeal.nD Cert.AdamwReferenceIdeal.τ).loc Cert.AdamwReferenceIdeal.main_v33) = v4 c
          ∧ r.2.mem ((c.tc : Thread Cert.AdamwReferenceIdeal.nD Cert.AdamwReferenceIdeal.τ).loc Cert.AdamwReferenceIdeal.main_v57) = v5 c
          ∧ r.2.mem ((c.tc : Thread Cert.AdamwReferenceIdeal.nD Cert.AdamwReferenceIdeal.τ).loc Cert.AdamwReferenceIdeal.main_v38) = v6 c
          ∧ r.2.mem ((c.tc : Thread Cert.AdamwReferenceIdeal.nD Cert.AdamwReferenceIdeal.τ).loc Cert.AdamwReferenceIdeal.main_v44) = v7 c
          ∧ r.2.mem ((c.tc : Thread Cert.AdamwReferenceIdeal.nD Cert.AdamwReferenceIdeal.τ).loc Cert.AdamwReferenceIdeal.main_v62) = v8 c
          ∧ r.2.mem ((c.tc : Thread Cert.AdamwReferenceIdeal.nD Cert.AdamwReferenceIdeal.τ).loc Cert.AdamwReferenceIdeal.main_v86) = v9 c
          ∧ r.2.mem ((c.tc : Thread Cert.AdamwReferenceIdeal.nD Cert.AdamwReferenceIdeal.τ).loc Cert.AdamwReferenceIdeal.main_v67) = v10 c
          ∧ r.2.mem ((c.tc : Thread Cert.AdamwReferenceIdeal.nD Cert.AdamwReferenceIdeal.τ).loc Cert.AdamwReferenceIdeal.main_v73) = v11 c
          ∧ r.2.mem ((c.tc : Thread Cert.AdamwReferenceIdeal.nD Cert.AdamwReferenceIdeal.τ).loc Cert.AdamwReferenceIdeal.main_v91) = v12 c
          ∧ r.2.mem ((c.tc : Thread Cert.AdamwReferenceIdeal.nD Cert.AdamwReferenceIdeal.τ).loc Cert.AdamwReferenceIdeal.main_v115) = v13 c
          ∧ r.2.mem ((c.tc : Thread Cert.AdamwReferenceIdeal.nD Cert.AdamwReferenceIdeal.τ).loc Cert.AdamwReferenceIdeal.main_v96) = v14 c
          ∧ r.2.mem ((c.tc : Thread Cert.AdamwReferenceIdeal.nD Cert.AdamwReferenceIdeal.τ).loc Cert.AdamwReferenceIdeal.main_v102) = v15 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3)
          ∧ r.2.mem ((c.tc : Thread Cert.AdamwReferenceIdeal.nD Cert.AdamwReferenceIdeal.τ).loc Cert.AdamwReferenceIdeal.main_arg4) = m' ((c.tc : Thread Cert.AdamwReferenceIdeal.nD Cert.AdamwReferenceIdeal.τ).loc Cert.AdamwReferenceIdeal.main_arg4)
          ∧ r.2.mem ((c.tc : Thread Cert.AdamwReferenceIdeal.nD Cert.AdamwReferenceIdeal.τ).loc Cert.AdamwReferenceIdeal.main_arg5) = m' ((c.tc : Thread Cert.AdamwReferenceIdeal.nD Cert.AdamwReferenceIdeal.τ).loc Cert.AdamwReferenceIdeal.main_arg5)
          ∧ r.2.mem ((c.tc : Thread Cert.AdamwReferenceIdeal.nD Cert.AdamwReferenceIdeal.τ).loc Cert.AdamwReferenceIdeal.main_arg6) = m' ((c.tc : Thread Cert.AdamwReferenceIdeal.nD Cert.AdamwReferenceIdeal.τ).loc Cert.AdamwReferenceIdeal.main_arg6)
          ∧ r.2.mem ((c.tc : Thread Cert.AdamwReferenceIdeal.nD Cert.AdamwReferenceIdeal.τ).loc Cert.AdamwReferenceIdeal.main_arg7) = m' ((c.tc : Thread Cert.AdamwReferenceIdeal.nD Cert.AdamwReferenceIdeal.τ).loc Cert.AdamwReferenceIdeal.main_arg7)
          ∧ r.2.mem ((c.tc : Thread Cert.AdamwReferenceIdeal.nD Cert.AdamwReferenceIdeal.τ).loc Cert.AdamwReferenceIdeal.main_arg8) = m' ((c.tc : Thread Cert.AdamwReferenceIdeal.nD Cert.AdamwReferenceIdeal.τ).loc Cert.AdamwReferenceIdeal.main_arg8)
          ∧ r.2.mem ((c.tc : Thread Cert.AdamwReferenceIdeal.nD Cert.AdamwReferenceIdeal.τ).loc Cert.AdamwReferenceIdeal.main_arg9) = m' ((c.tc : Thread Cert.AdamwReferenceIdeal.nD Cert.AdamwReferenceIdeal.τ).loc Cert.AdamwReferenceIdeal.main_arg9)
          ∧ r.2.mem ((c.tc : Thread Cert.AdamwReferenceIdeal.nD Cert.AdamwReferenceIdeal.τ).loc Cert.AdamwReferenceIdeal.main_arg10) = m' ((c.tc : Thread Cert.AdamwReferenceIdeal.nD Cert.AdamwReferenceIdeal.τ).loc Cert.AdamwReferenceIdeal.main_arg10)
          ∧ r.2.mem ((c.tc : Thread Cert.AdamwReferenceIdeal.nD Cert.AdamwReferenceIdeal.τ).loc Cert.AdamwReferenceIdeal.main_arg11) = m' ((c.tc : Thread Cert.AdamwReferenceIdeal.nD Cert.AdamwReferenceIdeal.τ).loc Cert.AdamwReferenceIdeal.main_arg11)
          ∧ r.2.mem ((c.tc : Thread Cert.AdamwReferenceIdeal.nD Cert.AdamwReferenceIdeal.τ).loc Cert.AdamwReferenceIdeal.main_arg12) = m' ((c.tc : Thread Cert.AdamwReferenceIdeal.nD Cert.AdamwReferenceIdeal.τ).loc Cert.AdamwReferenceIdeal.main_arg12)
          ∧ r.2.mem ((c.tc : Thread Cert.AdamwReferenceIdeal.nD Cert.AdamwReferenceIdeal.τ).loc Cert.AdamwReferenceIdeal.main_arg13) = m' ((c.tc : Thread Cert.AdamwReferenceIdeal.nD Cert.AdamwReferenceIdeal.τ).loc Cert.AdamwReferenceIdeal.main_arg13)
          ∧ r.2.mem ((c.tc : Thread Cert.AdamwReferenceIdeal.nD Cert.AdamwReferenceIdeal.τ).loc Cert.AdamwReferenceIdeal.main_arg14) = m' ((c.tc : Thread Cert.AdamwReferenceIdeal.nD Cert.AdamwReferenceIdeal.τ).loc Cert.AdamwReferenceIdeal.main_arg14)
          ∧ r.2.mem ((c.tc : Thread Cert.AdamwReferenceIdeal.nD Cert.AdamwReferenceIdeal.τ).loc Cert.AdamwReferenceIdeal.main_arg15) = m' ((c.tc : Thread Cert.AdamwReferenceIdeal.nD Cert.AdamwReferenceIdeal.τ).loc Cert.AdamwReferenceIdeal.main_arg15)
          ∧ r.2.mem ((c.tc : Thread Cert.AdamwReferenceIdeal.nD Cert.AdamwReferenceIdeal.τ).loc Cert.AdamwReferenceIdeal.main_arg16) = m' ((c.tc : Thread Cert.AdamwReferenceIdeal.nD Cert.AdamwReferenceIdeal.τ).loc Cert.AdamwReferenceIdeal.main_arg16)
          ∧ r.2.mem ((c.tc : Thread Cert.AdamwReferenceIdeal.nD Cert.AdamwReferenceIdeal.τ).loc Cert.AdamwReferenceIdeal.main_arg17) = m' ((c.tc : Thread Cert.AdamwReferenceIdeal.nD Cert.AdamwReferenceIdeal.τ).loc Cert.AdamwReferenceIdeal.main_arg17)
          ∧ r.2.mem ((c.tc : Thread Cert.AdamwReferenceIdeal.nD Cert.AdamwReferenceIdeal.τ).loc Cert.AdamwReferenceIdeal.main_arg18) = m' ((c.tc : Thread Cert.AdamwReferenceIdeal.nD Cert.AdamwReferenceIdeal.τ).loc Cert.AdamwReferenceIdeal.main_arg18)
          ∧ r.2.mem ((c.tc : Thread Cert.AdamwReferenceIdeal.nD Cert.AdamwReferenceIdeal.τ).loc Cert.AdamwReferenceIdeal.main_arg19) = m' ((c.tc : Thread Cert.AdamwReferenceIdeal.nD Cert.AdamwReferenceIdeal.τ).loc Cert.AdamwReferenceIdeal.main_arg19))

def preserves_AdamwFfKernel_AdamwFfKernelIdeal : Prop :=
  True

def algebraic_AdamwFfKernelIdeal_AdamwFfReferenceIdeal [hAdamwFfKernelIdeal : Cert.AdamwFfKernelIdeal.Facts] [hAdamwFfReferenceIdeal : Cert.AdamwFfReferenceIdeal.Facts] : Prop :=
  ∀ (m : (ℓ : Loc Cert.AdamwFfKernelIdeal.nD Cert.AdamwFfKernelIdeal.τ Cert.AdamwFfKernelIdeal.sig) → Buf (Elt Ideal) ℓ) (g : Dev Cert.AdamwFfKernelIdeal.nD → PrngReg)
    (m' : (ℓ : Loc Cert.AdamwFfReferenceIdeal.nD Cert.AdamwFfReferenceIdeal.τ Cert.AdamwFfReferenceIdeal.sig) → Buf (Elt Ideal) ℓ) (g' : Dev Cert.AdamwFfReferenceIdeal.nD → PrngReg), Pre_AdamwFfKernelIdeal m →
    (∀ c : Dev Cert.AdamwFfKernelIdeal.nD,
      m' ((c.tc : Thread Cert.AdamwFfReferenceIdeal.nD Cert.AdamwFfReferenceIdeal.τ).loc Cert.AdamwFfReferenceIdeal.main_arg0) = m ((c.tc : Thread Cert.AdamwFfKernelIdeal.nD Cert.AdamwFfKernelIdeal.τ).loc Cert.AdamwFfKernelIdeal.main_arg0)
      ∧ m' ((c.tc : Thread Cert.AdamwFfReferenceIdeal.nD Cert.AdamwFfReferenceIdeal.τ).loc Cert.AdamwFfReferenceIdeal.main_arg1) = m ((c.tc : Thread Cert.AdamwFfKernelIdeal.nD Cert.AdamwFfKernelIdeal.τ).loc Cert.AdamwFfKernelIdeal.main_arg1)
      ∧ m' ((c.tc : Thread Cert.AdamwFfReferenceIdeal.nD Cert.AdamwFfReferenceIdeal.τ).loc Cert.AdamwFfReferenceIdeal.main_arg2) = m ((c.tc : Thread Cert.AdamwFfKernelIdeal.nD Cert.AdamwFfKernelIdeal.τ).loc Cert.AdamwFfKernelIdeal.main_arg2)
      ∧ m' ((c.tc : Thread Cert.AdamwFfReferenceIdeal.nD Cert.AdamwFfReferenceIdeal.τ).loc Cert.AdamwFfReferenceIdeal.main_arg3) = m ((c.tc : Thread Cert.AdamwFfKernelIdeal.nD Cert.AdamwFfKernelIdeal.τ).loc Cert.AdamwFfKernelIdeal.main_arg3)
      ∧ m' ((c.tc : Thread Cert.AdamwFfReferenceIdeal.nD Cert.AdamwFfReferenceIdeal.τ).loc Cert.AdamwFfReferenceIdeal.main_arg4) = m ((c.tc : Thread Cert.AdamwFfKernelIdeal.nD Cert.AdamwFfKernelIdeal.τ).loc Cert.AdamwFfKernelIdeal.main_arg4)
      ∧ m' ((c.tc : Thread Cert.AdamwFfReferenceIdeal.nD Cert.AdamwFfReferenceIdeal.τ).loc Cert.AdamwFfReferenceIdeal.main_arg5) = m ((c.tc : Thread Cert.AdamwFfKernelIdeal.nD Cert.AdamwFfKernelIdeal.τ).loc Cert.AdamwFfKernelIdeal.main_arg5)
      ∧ m' ((c.tc : Thread Cert.AdamwFfReferenceIdeal.nD Cert.AdamwFfReferenceIdeal.τ).loc Cert.AdamwFfReferenceIdeal.main_arg6) = m ((c.tc : Thread Cert.AdamwFfKernelIdeal.nD Cert.AdamwFfKernelIdeal.τ).loc Cert.AdamwFfKernelIdeal.main_arg6)
      ∧ m' ((c.tc : Thread Cert.AdamwFfReferenceIdeal.nD Cert.AdamwFfReferenceIdeal.τ).loc Cert.AdamwFfReferenceIdeal.main_arg7) = m ((c.tc : Thread Cert.AdamwFfKernelIdeal.nD Cert.AdamwFfKernelIdeal.τ).loc Cert.AdamwFfKernelIdeal.main_arg7)
      ∧ m' ((c.tc : Thread Cert.AdamwFfReferenceIdeal.nD Cert.AdamwFfReferenceIdeal.τ).loc Cert.AdamwFfReferenceIdeal.main_arg8) = m ((c.tc : Thread Cert.AdamwFfKernelIdeal.nD Cert.AdamwFfKernelIdeal.τ).loc Cert.AdamwFfKernelIdeal.main_arg8)
      ∧ m' ((c.tc : Thread Cert.AdamwFfReferenceIdeal.nD Cert.AdamwFfReferenceIdeal.τ).loc Cert.AdamwFfReferenceIdeal.main_arg9) = m ((c.tc : Thread Cert.AdamwFfKernelIdeal.nD Cert.AdamwFfKernelIdeal.τ).loc Cert.AdamwFfKernelIdeal.main_arg9)
      ∧ m' ((c.tc : Thread Cert.AdamwFfReferenceIdeal.nD Cert.AdamwFfReferenceIdeal.τ).loc Cert.AdamwFfReferenceIdeal.main_arg10) = m ((c.tc : Thread Cert.AdamwFfKernelIdeal.nD Cert.AdamwFfKernelIdeal.τ).loc Cert.AdamwFfKernelIdeal.main_arg10)
      ∧ m' ((c.tc : Thread Cert.AdamwFfReferenceIdeal.nD Cert.AdamwFfReferenceIdeal.τ).loc Cert.AdamwFfReferenceIdeal.main_arg11) = m ((c.tc : Thread Cert.AdamwFfKernelIdeal.nD Cert.AdamwFfKernelIdeal.τ).loc Cert.AdamwFfKernelIdeal.main_arg11)
      ∧ m' ((c.tc : Thread Cert.AdamwFfReferenceIdeal.nD Cert.AdamwFfReferenceIdeal.τ).loc Cert.AdamwFfReferenceIdeal.main_arg12) = m ((c.tc : Thread Cert.AdamwFfKernelIdeal.nD Cert.AdamwFfKernelIdeal.τ).loc Cert.AdamwFfKernelIdeal.main_arg12)
      ∧ m' ((c.tc : Thread Cert.AdamwFfReferenceIdeal.nD Cert.AdamwFfReferenceIdeal.τ).loc Cert.AdamwFfReferenceIdeal.main_arg13) = m ((c.tc : Thread Cert.AdamwFfKernelIdeal.nD Cert.AdamwFfKernelIdeal.τ).loc Cert.AdamwFfKernelIdeal.main_arg13)
      ∧ m' ((c.tc : Thread Cert.AdamwFfReferenceIdeal.nD Cert.AdamwFfReferenceIdeal.τ).loc Cert.AdamwFfReferenceIdeal.main_arg14) = m ((c.tc : Thread Cert.AdamwFfKernelIdeal.nD Cert.AdamwFfKernelIdeal.τ).loc Cert.AdamwFfKernelIdeal.main_arg14)
      ∧ m' ((c.tc : Thread Cert.AdamwFfReferenceIdeal.nD Cert.AdamwFfReferenceIdeal.τ).loc Cert.AdamwFfReferenceIdeal.main_arg15) = m ((c.tc : Thread Cert.AdamwFfKernelIdeal.nD Cert.AdamwFfKernelIdeal.τ).loc Cert.AdamwFfKernelIdeal.main_arg15)
      ∧ m' ((c.tc : Thread Cert.AdamwFfReferenceIdeal.nD Cert.AdamwFfReferenceIdeal.τ).loc Cert.AdamwFfReferenceIdeal.main_arg16) = m ((c.tc : Thread Cert.AdamwFfKernelIdeal.nD Cert.AdamwFfKernelIdeal.τ).loc Cert.AdamwFfKernelIdeal.main_arg16)
      ∧ m' ((c.tc : Thread Cert.AdamwFfReferenceIdeal.nD Cert.AdamwFfReferenceIdeal.τ).loc Cert.AdamwFfReferenceIdeal.main_arg17) = m ((c.tc : Thread Cert.AdamwFfKernelIdeal.nD Cert.AdamwFfKernelIdeal.τ).loc Cert.AdamwFfKernelIdeal.main_arg17)
      ∧ m' ((c.tc : Thread Cert.AdamwFfReferenceIdeal.nD Cert.AdamwFfReferenceIdeal.τ).loc Cert.AdamwFfReferenceIdeal.main_arg18) = m ((c.tc : Thread Cert.AdamwFfKernelIdeal.nD Cert.AdamwFfKernelIdeal.τ).loc Cert.AdamwFfKernelIdeal.main_arg18)
      ∧ m' ((c.tc : Thread Cert.AdamwFfReferenceIdeal.nD Cert.AdamwFfReferenceIdeal.τ).loc Cert.AdamwFfReferenceIdeal.main_arg19) = m ((c.tc : Thread Cert.AdamwFfKernelIdeal.nD Cert.AdamwFfKernelIdeal.τ).loc Cert.AdamwFfKernelIdeal.main_arg19)
      ∧ m' ((c.tc : Thread Cert.AdamwFfReferenceIdeal.nD Cert.AdamwFfReferenceIdeal.τ).loc Cert.AdamwFfReferenceIdeal.main_arg20) = m ((c.tc : Thread Cert.AdamwFfKernelIdeal.nD Cert.AdamwFfKernelIdeal.τ).loc Cert.AdamwFfKernelIdeal.main_arg20)
      ∧ m' ((c.tc : Thread Cert.AdamwFfReferenceIdeal.nD Cert.AdamwFfReferenceIdeal.τ).loc Cert.AdamwFfReferenceIdeal.main_arg21) = m ((c.tc : Thread Cert.AdamwFfKernelIdeal.nD Cert.AdamwFfKernelIdeal.τ).loc Cert.AdamwFfKernelIdeal.main_arg21)
      ∧ m' ((c.tc : Thread Cert.AdamwFfReferenceIdeal.nD Cert.AdamwFfReferenceIdeal.τ).loc Cert.AdamwFfReferenceIdeal.main_arg22) = m ((c.tc : Thread Cert.AdamwFfKernelIdeal.nD Cert.AdamwFfKernelIdeal.τ).loc Cert.AdamwFfKernelIdeal.main_arg22)
      ∧ m' ((c.tc : Thread Cert.AdamwFfReferenceIdeal.nD Cert.AdamwFfReferenceIdeal.τ).loc Cert.AdamwFfReferenceIdeal.main_arg23) = m ((c.tc : Thread Cert.AdamwFfKernelIdeal.nD Cert.AdamwFfKernelIdeal.τ).loc Cert.AdamwFfKernelIdeal.main_arg23)) →
    ∃ (v0 : (c : Dev Cert.AdamwFfKernelIdeal.nD) → Buf (Elt Ideal) ((c.tc : Thread Cert.AdamwFfKernelIdeal.nD Cert.AdamwFfKernelIdeal.τ).loc Cert.AdamwFfKernelIdeal.main_v0_0)) (v1 : (c : Dev Cert.AdamwFfKernelIdeal.nD) → Buf (Elt Ideal) ((c.tc : Thread Cert.AdamwFfKernelIdeal.nD Cert.AdamwFfKernelIdeal.τ).loc Cert.AdamwFfKernelIdeal.main_v0_1)) (v2 : (c : Dev Cert.AdamwFfKernelIdeal.nD) → Buf (Elt Ideal) ((c.tc : Thread Cert.AdamwFfKernelIdeal.nD Cert.AdamwFfKernelIdeal.τ).loc Cert.AdamwFfKernelIdeal.main_v0_2)) (v3 : (c : Dev Cert.AdamwFfKernelIdeal.nD) → Buf (Elt Ideal) ((c.tc : Thread Cert.AdamwFfKernelIdeal.nD Cert.AdamwFfKernelIdeal.τ).loc Cert.AdamwFfKernelIdeal.main_v0_3)) (v4 : (c : Dev Cert.AdamwFfKernelIdeal.nD) → Buf (Elt Ideal) ((c.tc : Thread Cert.AdamwFfKernelIdeal.nD Cert.AdamwFfKernelIdeal.τ).loc Cert.AdamwFfKernelIdeal.main_v1_0)) (v5 : (c : Dev Cert.AdamwFfKernelIdeal.nD) → Buf (Elt Ideal) ((c.tc : Thread Cert.AdamwFfKernelIdeal.nD Cert.AdamwFfKernelIdeal.τ).loc Cert.AdamwFfKernelIdeal.main_v1_1)) (v6 : (c : Dev Cert.AdamwFfKernelIdeal.nD) → Buf (Elt Ideal) ((c.tc : Thread Cert.AdamwFfKernelIdeal.nD Cert.AdamwFfKernelIdeal.τ).loc Cert.AdamwFfKernelIdeal.main_v1_2)) (v7 : (c : Dev Cert.AdamwFfKernelIdeal.nD) → Buf (Elt Ideal) ((c.tc : Thread Cert.AdamwFfKernelIdeal.nD Cert.AdamwFfKernelIdeal.τ).loc Cert.AdamwFfKernelIdeal.main_v1_3)) (v8 : (c : Dev Cert.AdamwFfKernelIdeal.nD) → Buf (Elt Ideal) ((c.tc : Thread Cert.AdamwFfKernelIdeal.nD Cert.AdamwFfKernelIdeal.τ).loc Cert.AdamwFfKernelIdeal.main_v2_0)) (v9 : (c : Dev Cert.AdamwFfKernelIdeal.nD) → Buf (Elt Ideal) ((c.tc : Thread Cert.AdamwFfKernelIdeal.nD Cert.AdamwFfKernelIdeal.τ).loc Cert.AdamwFfKernelIdeal.main_v2_1)) (v10 : (c : Dev Cert.AdamwFfKernelIdeal.nD) → Buf (Elt Ideal) ((c.tc : Thread Cert.AdamwFfKernelIdeal.nD Cert.AdamwFfKernelIdeal.τ).loc Cert.AdamwFfKernelIdeal.main_v2_2)) (v11 : (c : Dev Cert.AdamwFfKernelIdeal.nD) → Buf (Elt Ideal) ((c.tc : Thread Cert.AdamwFfKernelIdeal.nD Cert.AdamwFfKernelIdeal.τ).loc Cert.AdamwFfKernelIdeal.main_v2_3)) (v12 : (c : Dev Cert.AdamwFfKernelIdeal.nD) → Buf (Elt Ideal) ((c.tc : Thread Cert.AdamwFfKernelIdeal.nD Cert.AdamwFfKernelIdeal.τ).loc Cert.AdamwFfKernelIdeal.main_v3_0)) (v13 : (c : Dev Cert.AdamwFfKernelIdeal.nD) → Buf (Elt Ideal) ((c.tc : Thread Cert.AdamwFfKernelIdeal.nD Cert.AdamwFfKernelIdeal.τ).loc Cert.AdamwFfKernelIdeal.main_v3_1)) (v14 : (c : Dev Cert.AdamwFfKernelIdeal.nD) → Buf (Elt Ideal) ((c.tc : Thread Cert.AdamwFfKernelIdeal.nD Cert.AdamwFfKernelIdeal.τ).loc Cert.AdamwFfKernelIdeal.main_v3_2)) (v15 : (c : Dev Cert.AdamwFfKernelIdeal.nD) → Buf (Elt Ideal) ((c.tc : Thread Cert.AdamwFfKernelIdeal.nD Cert.AdamwFfKernelIdeal.τ).loc Cert.AdamwFfKernelIdeal.main_v3_3)) (v16 : (c : Dev Cert.AdamwFfKernelIdeal.nD) → Buf (Elt Ideal) ((c.tc : Thread Cert.AdamwFfKernelIdeal.nD Cert.AdamwFfKernelIdeal.τ).loc Cert.AdamwFfKernelIdeal.main_v4_0)) (v17 : (c : Dev Cert.AdamwFfKernelIdeal.nD) → Buf (Elt Ideal) ((c.tc : Thread Cert.AdamwFfKernelIdeal.nD Cert.AdamwFfKernelIdeal.τ).loc Cert.AdamwFfKernelIdeal.main_v4_1)) (v18 : (c : Dev Cert.AdamwFfKernelIdeal.nD) → Buf (Elt Ideal) ((c.tc : Thread Cert.AdamwFfKernelIdeal.nD Cert.AdamwFfKernelIdeal.τ).loc Cert.AdamwFfKernelIdeal.main_v4_2)) (v19 : (c : Dev Cert.AdamwFfKernelIdeal.nD) → Buf (Elt Ideal) ((c.tc : Thread Cert.AdamwFfKernelIdeal.nD Cert.AdamwFfKernelIdeal.τ).loc Cert.AdamwFfKernelIdeal.main_v4_3)),
      θ_run (Cert.AdamwFfKernelIdeal.defs (F := Ideal)) (onTc (τ := Cert.AdamwFfKernelIdeal.τ) (Cert.AdamwFfKernelIdeal.main (F := Ideal))) ⟨m, fun _ => 0, g⟩ (fun r => ∀ c : Dev Cert.AdamwFfKernelIdeal.nD,
          r.2.mem ((c.tc : Thread Cert.AdamwFfKernelIdeal.nD Cert.AdamwFfKernelIdeal.τ).loc Cert.AdamwFfKernelIdeal.main_v0_0) = v0 c
          ∧ r.2.mem ((c.tc : Thread Cert.AdamwFfKernelIdeal.nD Cert.AdamwFfKernelIdeal.τ).loc Cert.AdamwFfKernelIdeal.main_v0_1) = v1 c
          ∧ r.2.mem ((c.tc : Thread Cert.AdamwFfKernelIdeal.nD Cert.AdamwFfKernelIdeal.τ).loc Cert.AdamwFfKernelIdeal.main_v0_2) = v2 c
          ∧ r.2.mem ((c.tc : Thread Cert.AdamwFfKernelIdeal.nD Cert.AdamwFfKernelIdeal.τ).loc Cert.AdamwFfKernelIdeal.main_v0_3) = v3 c
          ∧ r.2.mem ((c.tc : Thread Cert.AdamwFfKernelIdeal.nD Cert.AdamwFfKernelIdeal.τ).loc Cert.AdamwFfKernelIdeal.main_v1_0) = v4 c
          ∧ r.2.mem ((c.tc : Thread Cert.AdamwFfKernelIdeal.nD Cert.AdamwFfKernelIdeal.τ).loc Cert.AdamwFfKernelIdeal.main_v1_1) = v5 c
          ∧ r.2.mem ((c.tc : Thread Cert.AdamwFfKernelIdeal.nD Cert.AdamwFfKernelIdeal.τ).loc Cert.AdamwFfKernelIdeal.main_v1_2) = v6 c
          ∧ r.2.mem ((c.tc : Thread Cert.AdamwFfKernelIdeal.nD Cert.AdamwFfKernelIdeal.τ).loc Cert.AdamwFfKernelIdeal.main_v1_3) = v7 c
          ∧ r.2.mem ((c.tc : Thread Cert.AdamwFfKernelIdeal.nD Cert.AdamwFfKernelIdeal.τ).loc Cert.AdamwFfKernelIdeal.main_v2_0) = v8 c
          ∧ r.2.mem ((c.tc : Thread Cert.AdamwFfKernelIdeal.nD Cert.AdamwFfKernelIdeal.τ).loc Cert.AdamwFfKernelIdeal.main_v2_1) = v9 c
          ∧ r.2.mem ((c.tc : Thread Cert.AdamwFfKernelIdeal.nD Cert.AdamwFfKernelIdeal.τ).loc Cert.AdamwFfKernelIdeal.main_v2_2) = v10 c
          ∧ r.2.mem ((c.tc : Thread Cert.AdamwFfKernelIdeal.nD Cert.AdamwFfKernelIdeal.τ).loc Cert.AdamwFfKernelIdeal.main_v2_3) = v11 c
          ∧ r.2.mem ((c.tc : Thread Cert.AdamwFfKernelIdeal.nD Cert.AdamwFfKernelIdeal.τ).loc Cert.AdamwFfKernelIdeal.main_v3_0) = v12 c
          ∧ r.2.mem ((c.tc : Thread Cert.AdamwFfKernelIdeal.nD Cert.AdamwFfKernelIdeal.τ).loc Cert.AdamwFfKernelIdeal.main_v3_1) = v13 c
          ∧ r.2.mem ((c.tc : Thread Cert.AdamwFfKernelIdeal.nD Cert.AdamwFfKernelIdeal.τ).loc Cert.AdamwFfKernelIdeal.main_v3_2) = v14 c
          ∧ r.2.mem ((c.tc : Thread Cert.AdamwFfKernelIdeal.nD Cert.AdamwFfKernelIdeal.τ).loc Cert.AdamwFfKernelIdeal.main_v3_3) = v15 c
          ∧ r.2.mem ((c.tc : Thread Cert.AdamwFfKernelIdeal.nD Cert.AdamwFfKernelIdeal.τ).loc Cert.AdamwFfKernelIdeal.main_v4_0) = v16 c
          ∧ r.2.mem ((c.tc : Thread Cert.AdamwFfKernelIdeal.nD Cert.AdamwFfKernelIdeal.τ).loc Cert.AdamwFfKernelIdeal.main_v4_1) = v17 c
          ∧ r.2.mem ((c.tc : Thread Cert.AdamwFfKernelIdeal.nD Cert.AdamwFfKernelIdeal.τ).loc Cert.AdamwFfKernelIdeal.main_v4_2) = v18 c
          ∧ r.2.mem ((c.tc : Thread Cert.AdamwFfKernelIdeal.nD Cert.AdamwFfKernelIdeal.τ).loc Cert.AdamwFfKernelIdeal.main_v4_3) = v19 c
          ∧ r.2.mem ((c.tc : Thread Cert.AdamwFfKernelIdeal.nD Cert.AdamwFfKernelIdeal.τ).loc Cert.AdamwFfKernelIdeal.main_arg0) = m ((c.tc : Thread Cert.AdamwFfKernelIdeal.nD Cert.AdamwFfKernelIdeal.τ).loc Cert.AdamwFfKernelIdeal.main_arg0)
          ∧ r.2.mem ((c.tc : Thread Cert.AdamwFfKernelIdeal.nD Cert.AdamwFfKernelIdeal.τ).loc Cert.AdamwFfKernelIdeal.main_arg1) = m ((c.tc : Thread Cert.AdamwFfKernelIdeal.nD Cert.AdamwFfKernelIdeal.τ).loc Cert.AdamwFfKernelIdeal.main_arg1)
          ∧ r.2.mem ((c.tc : Thread Cert.AdamwFfKernelIdeal.nD Cert.AdamwFfKernelIdeal.τ).loc Cert.AdamwFfKernelIdeal.main_arg2) = m ((c.tc : Thread Cert.AdamwFfKernelIdeal.nD Cert.AdamwFfKernelIdeal.τ).loc Cert.AdamwFfKernelIdeal.main_arg2)
          ∧ r.2.mem ((c.tc : Thread Cert.AdamwFfKernelIdeal.nD Cert.AdamwFfKernelIdeal.τ).loc Cert.AdamwFfKernelIdeal.main_arg3) = m ((c.tc : Thread Cert.AdamwFfKernelIdeal.nD Cert.AdamwFfKernelIdeal.τ).loc Cert.AdamwFfKernelIdeal.main_arg3)
          ∧ r.2.mem ((c.tc : Thread Cert.AdamwFfKernelIdeal.nD Cert.AdamwFfKernelIdeal.τ).loc Cert.AdamwFfKernelIdeal.main_arg4) = m ((c.tc : Thread Cert.AdamwFfKernelIdeal.nD Cert.AdamwFfKernelIdeal.τ).loc Cert.AdamwFfKernelIdeal.main_arg4)
          ∧ r.2.mem ((c.tc : Thread Cert.AdamwFfKernelIdeal.nD Cert.AdamwFfKernelIdeal.τ).loc Cert.AdamwFfKernelIdeal.main_arg5) = m ((c.tc : Thread Cert.AdamwFfKernelIdeal.nD Cert.AdamwFfKernelIdeal.τ).loc Cert.AdamwFfKernelIdeal.main_arg5)
          ∧ r.2.mem ((c.tc : Thread Cert.AdamwFfKernelIdeal.nD Cert.AdamwFfKernelIdeal.τ).loc Cert.AdamwFfKernelIdeal.main_arg6) = m ((c.tc : Thread Cert.AdamwFfKernelIdeal.nD Cert.AdamwFfKernelIdeal.τ).loc Cert.AdamwFfKernelIdeal.main_arg6)
          ∧ r.2.mem ((c.tc : Thread Cert.AdamwFfKernelIdeal.nD Cert.AdamwFfKernelIdeal.τ).loc Cert.AdamwFfKernelIdeal.main_arg7) = m ((c.tc : Thread Cert.AdamwFfKernelIdeal.nD Cert.AdamwFfKernelIdeal.τ).loc Cert.AdamwFfKernelIdeal.main_arg7)
          ∧ r.2.mem ((c.tc : Thread Cert.AdamwFfKernelIdeal.nD Cert.AdamwFfKernelIdeal.τ).loc Cert.AdamwFfKernelIdeal.main_arg8) = m ((c.tc : Thread Cert.AdamwFfKernelIdeal.nD Cert.AdamwFfKernelIdeal.τ).loc Cert.AdamwFfKernelIdeal.main_arg8)
          ∧ r.2.mem ((c.tc : Thread Cert.AdamwFfKernelIdeal.nD Cert.AdamwFfKernelIdeal.τ).loc Cert.AdamwFfKernelIdeal.main_arg9) = m ((c.tc : Thread Cert.AdamwFfKernelIdeal.nD Cert.AdamwFfKernelIdeal.τ).loc Cert.AdamwFfKernelIdeal.main_arg9)
          ∧ r.2.mem ((c.tc : Thread Cert.AdamwFfKernelIdeal.nD Cert.AdamwFfKernelIdeal.τ).loc Cert.AdamwFfKernelIdeal.main_arg10) = m ((c.tc : Thread Cert.AdamwFfKernelIdeal.nD Cert.AdamwFfKernelIdeal.τ).loc Cert.AdamwFfKernelIdeal.main_arg10)
          ∧ r.2.mem ((c.tc : Thread Cert.AdamwFfKernelIdeal.nD Cert.AdamwFfKernelIdeal.τ).loc Cert.AdamwFfKernelIdeal.main_arg11) = m ((c.tc : Thread Cert.AdamwFfKernelIdeal.nD Cert.AdamwFfKernelIdeal.τ).loc Cert.AdamwFfKernelIdeal.main_arg11)
          ∧ r.2.mem ((c.tc : Thread Cert.AdamwFfKernelIdeal.nD Cert.AdamwFfKernelIdeal.τ).loc Cert.AdamwFfKernelIdeal.main_arg12) = m ((c.tc : Thread Cert.AdamwFfKernelIdeal.nD Cert.AdamwFfKernelIdeal.τ).loc Cert.AdamwFfKernelIdeal.main_arg12)
          ∧ r.2.mem ((c.tc : Thread Cert.AdamwFfKernelIdeal.nD Cert.AdamwFfKernelIdeal.τ).loc Cert.AdamwFfKernelIdeal.main_arg13) = m ((c.tc : Thread Cert.AdamwFfKernelIdeal.nD Cert.AdamwFfKernelIdeal.τ).loc Cert.AdamwFfKernelIdeal.main_arg13)
          ∧ r.2.mem ((c.tc : Thread Cert.AdamwFfKernelIdeal.nD Cert.AdamwFfKernelIdeal.τ).loc Cert.AdamwFfKernelIdeal.main_arg14) = m ((c.tc : Thread Cert.AdamwFfKernelIdeal.nD Cert.AdamwFfKernelIdeal.τ).loc Cert.AdamwFfKernelIdeal.main_arg14)
          ∧ r.2.mem ((c.tc : Thread Cert.AdamwFfKernelIdeal.nD Cert.AdamwFfKernelIdeal.τ).loc Cert.AdamwFfKernelIdeal.main_arg15) = m ((c.tc : Thread Cert.AdamwFfKernelIdeal.nD Cert.AdamwFfKernelIdeal.τ).loc Cert.AdamwFfKernelIdeal.main_arg15)
          ∧ r.2.mem ((c.tc : Thread Cert.AdamwFfKernelIdeal.nD Cert.AdamwFfKernelIdeal.τ).loc Cert.AdamwFfKernelIdeal.main_arg16) = m ((c.tc : Thread Cert.AdamwFfKernelIdeal.nD Cert.AdamwFfKernelIdeal.τ).loc Cert.AdamwFfKernelIdeal.main_arg16)
          ∧ r.2.mem ((c.tc : Thread Cert.AdamwFfKernelIdeal.nD Cert.AdamwFfKernelIdeal.τ).loc Cert.AdamwFfKernelIdeal.main_arg17) = m ((c.tc : Thread Cert.AdamwFfKernelIdeal.nD Cert.AdamwFfKernelIdeal.τ).loc Cert.AdamwFfKernelIdeal.main_arg17)
          ∧ r.2.mem ((c.tc : Thread Cert.AdamwFfKernelIdeal.nD Cert.AdamwFfKernelIdeal.τ).loc Cert.AdamwFfKernelIdeal.main_arg18) = m ((c.tc : Thread Cert.AdamwFfKernelIdeal.nD Cert.AdamwFfKernelIdeal.τ).loc Cert.AdamwFfKernelIdeal.main_arg18)
          ∧ r.2.mem ((c.tc : Thread Cert.AdamwFfKernelIdeal.nD Cert.AdamwFfKernelIdeal.τ).loc Cert.AdamwFfKernelIdeal.main_arg19) = m ((c.tc : Thread Cert.AdamwFfKernelIdeal.nD Cert.AdamwFfKernelIdeal.τ).loc Cert.AdamwFfKernelIdeal.main_arg19)
          ∧ r.2.mem ((c.tc : Thread Cert.AdamwFfKernelIdeal.nD Cert.AdamwFfKernelIdeal.τ).loc Cert.AdamwFfKernelIdeal.main_arg20) = m ((c.tc : Thread Cert.AdamwFfKernelIdeal.nD Cert.AdamwFfKernelIdeal.τ).loc Cert.AdamwFfKernelIdeal.main_arg20)
          ∧ r.2.mem ((c.tc : Thread Cert.AdamwFfKernelIdeal.nD Cert.AdamwFfKernelIdeal.τ).loc Cert.AdamwFfKernelIdeal.main_arg21) = m ((c.tc : Thread Cert.AdamwFfKernelIdeal.nD Cert.AdamwFfKernelIdeal.τ).loc Cert.AdamwFfKernelIdeal.main_arg21)
          ∧ r.2.mem ((c.tc : Thread Cert.AdamwFfKernelIdeal.nD Cert.AdamwFfKernelIdeal.τ).loc Cert.AdamwFfKernelIdeal.main_arg22) = m ((c.tc : Thread Cert.AdamwFfKernelIdeal.nD Cert.AdamwFfKernelIdeal.τ).loc Cert.AdamwFfKernelIdeal.main_arg22)
          ∧ r.2.mem ((c.tc : Thread Cert.AdamwFfKernelIdeal.nD Cert.AdamwFfKernelIdeal.τ).loc Cert.AdamwFfKernelIdeal.main_arg23) = m ((c.tc : Thread Cert.AdamwFfKernelIdeal.nD Cert.AdamwFfKernelIdeal.τ).loc Cert.AdamwFfKernelIdeal.main_arg23))
      ∧ θ_run (Cert.AdamwFfReferenceIdeal.defs (F := Ideal)) (onTc (τ := Cert.AdamwFfReferenceIdeal.τ) (Cert.AdamwFfReferenceIdeal.main (F := Ideal))) ⟨m', fun _ => 0, g'⟩ (fun r => ∀ c : Dev Cert.AdamwFfReferenceIdeal.nD,
          r.2.mem ((c.tc : Thread Cert.AdamwFfReferenceIdeal.nD Cert.AdamwFfReferenceIdeal.τ).loc Cert.AdamwFfReferenceIdeal.main_v4) = v0 c
          ∧ r.2.mem ((c.tc : Thread Cert.AdamwFfReferenceIdeal.nD Cert.AdamwFfReferenceIdeal.τ).loc Cert.AdamwFfReferenceIdeal.main_v28) = v1 c
          ∧ r.2.mem ((c.tc : Thread Cert.AdamwFfReferenceIdeal.nD Cert.AdamwFfReferenceIdeal.τ).loc Cert.AdamwFfReferenceIdeal.main_v9) = v2 c
          ∧ r.2.mem ((c.tc : Thread Cert.AdamwFfReferenceIdeal.nD Cert.AdamwFfReferenceIdeal.τ).loc Cert.AdamwFfReferenceIdeal.main_v15) = v3 c
          ∧ r.2.mem ((c.tc : Thread Cert.AdamwFfReferenceIdeal.nD Cert.AdamwFfReferenceIdeal.τ).loc Cert.AdamwFfReferenceIdeal.main_v33) = v4 c
          ∧ r.2.mem ((c.tc : Thread Cert.AdamwFfReferenceIdeal.nD Cert.AdamwFfReferenceIdeal.τ).loc Cert.AdamwFfReferenceIdeal.main_v57) = v5 c
          ∧ r.2.mem ((c.tc : Thread Cert.AdamwFfReferenceIdeal.nD Cert.AdamwFfReferenceIdeal.τ).loc Cert.AdamwFfReferenceIdeal.main_v38) = v6 c
          ∧ r.2.mem ((c.tc : Thread Cert.AdamwFfReferenceIdeal.nD Cert.AdamwFfReferenceIdeal.τ).loc Cert.AdamwFfReferenceIdeal.main_v44) = v7 c
          ∧ r.2.mem ((c.tc : Thread Cert.AdamwFfReferenceIdeal.nD Cert.AdamwFfReferenceIdeal.τ).loc Cert.AdamwFfReferenceIdeal.main_v60) = v8 c
          ∧ r.2.mem ((c.tc : Thread Cert.AdamwFfReferenceIdeal.nD Cert.AdamwFfReferenceIdeal.τ).loc Cert.AdamwFfReferenceIdeal.main_v84) = v9 c
          ∧ r.2.mem ((c.tc : Thread Cert.AdamwFfReferenceIdeal.nD Cert.AdamwFfReferenceIdeal.τ).loc Cert.AdamwFfReferenceIdeal.main_v65) = v10 c
          ∧ r.2.mem ((c.tc : Thread Cert.AdamwFfReferenceIdeal.nD Cert.AdamwFfReferenceIdeal.τ).loc Cert.AdamwFfReferenceIdeal.main_v71) = v11 c
          ∧ r.2.mem ((c.tc : Thread Cert.AdamwFfReferenceIdeal.nD Cert.AdamwFfReferenceIdeal.τ).loc Cert.AdamwFfReferenceIdeal.main_v87) = v12 c
          ∧ r.2.mem ((c.tc : Thread Cert.AdamwFfReferenceIdeal.nD Cert.AdamwFfReferenceIdeal.τ).loc Cert.AdamwFfReferenceIdeal.main_v111) = v13 c
          ∧ r.2.mem ((c.tc : Thread Cert.AdamwFfReferenceIdeal.nD Cert.AdamwFfReferenceIdeal.τ).loc Cert.AdamwFfReferenceIdeal.main_v92) = v14 c
          ∧ r.2.mem ((c.tc : Thread Cert.AdamwFfReferenceIdeal.nD Cert.AdamwFfReferenceIdeal.τ).loc Cert.AdamwFfReferenceIdeal.main_v98) = v15 c
          ∧ r.2.mem ((c.tc : Thread Cert.AdamwFfReferenceIdeal.nD Cert.AdamwFfReferenceIdeal.τ).loc Cert.AdamwFfReferenceIdeal.main_v112) = v16 c
          ∧ r.2.mem ((c.tc : Thread Cert.AdamwFfReferenceIdeal.nD Cert.AdamwFfReferenceIdeal.τ).loc Cert.AdamwFfReferenceIdeal.main_v136) = v17 c
          ∧ r.2.mem ((c.tc : Thread Cert.AdamwFfReferenceIdeal.nD Cert.AdamwFfReferenceIdeal.τ).loc Cert.AdamwFfReferenceIdeal.main_v117) = v18 c
          ∧ r.2.mem ((c.tc : Thread Cert.AdamwFfReferenceIdeal.nD Cert.AdamwFfReferenceIdeal.τ).loc Cert.AdamwFfReferenceIdeal.main_v123) = v19 c
          ∧ r.2.mem ((c.tc : Thread Cert.AdamwFfReferenceIdeal.nD Cert.AdamwFfReferenceIdeal.τ).loc Cert.AdamwFfReferenceIdeal.main_arg0) = m' ((c.tc : Thread Cert.AdamwFfReferenceIdeal.nD Cert.AdamwFfReferenceIdeal.τ).loc Cert.AdamwFfReferenceIdeal.main_arg0)
          ∧ r.2.mem ((c.tc : Thread Cert.AdamwFfReferenceIdeal.nD Cert.AdamwFfReferenceIdeal.τ).loc Cert.AdamwFfReferenceIdeal.main_arg1) = m' ((c.tc : Thread Cert.AdamwFfReferenceIdeal.nD Cert.AdamwFfReferenceIdeal.τ).loc Cert.AdamwFfReferenceIdeal.main_arg1)
          ∧ r.2.mem ((c.tc : Thread Cert.AdamwFfReferenceIdeal.nD Cert.AdamwFfReferenceIdeal.τ).loc Cert.AdamwFfReferenceIdeal.main_arg2) = m' ((c.tc : Thread Cert.AdamwFfReferenceIdeal.nD Cert.AdamwFfReferenceIdeal.τ).loc Cert.AdamwFfReferenceIdeal.main_arg2)
          ∧ r.2.mem ((c.tc : Thread Cert.AdamwFfReferenceIdeal.nD Cert.AdamwFfReferenceIdeal.τ).loc Cert.AdamwFfReferenceIdeal.main_arg3) = m' ((c.tc : Thread Cert.AdamwFfReferenceIdeal.nD Cert.AdamwFfReferenceIdeal.τ).loc Cert.AdamwFfReferenceIdeal.main_arg3)
          ∧ r.2.mem ((c.tc : Thread Cert.AdamwFfReferenceIdeal.nD Cert.AdamwFfReferenceIdeal.τ).loc Cert.AdamwFfReferenceIdeal.main_arg4) = m' ((c.tc : Thread Cert.AdamwFfReferenceIdeal.nD Cert.AdamwFfReferenceIdeal.τ).loc Cert.AdamwFfReferenceIdeal.main_arg4)
          ∧ r.2.mem ((c.tc : Thread Cert.AdamwFfReferenceIdeal.nD Cert.AdamwFfReferenceIdeal.τ).loc Cert.AdamwFfReferenceIdeal.main_arg5) = m' ((c.tc : Thread Cert.AdamwFfReferenceIdeal.nD Cert.AdamwFfReferenceIdeal.τ).loc Cert.AdamwFfReferenceIdeal.main_arg5)
          ∧ r.2.mem ((c.tc : Thread Cert.AdamwFfReferenceIdeal.nD Cert.AdamwFfReferenceIdeal.τ).loc Cert.AdamwFfReferenceIdeal.main_arg6) = m' ((c.tc : Thread Cert.AdamwFfReferenceIdeal.nD Cert.AdamwFfReferenceIdeal.τ).loc Cert.AdamwFfReferenceIdeal.main_arg6)
          ∧ r.2.mem ((c.tc : Thread Cert.AdamwFfReferenceIdeal.nD Cert.AdamwFfReferenceIdeal.τ).loc Cert.AdamwFfReferenceIdeal.main_arg7) = m' ((c.tc : Thread Cert.AdamwFfReferenceIdeal.nD Cert.AdamwFfReferenceIdeal.τ).loc Cert.AdamwFfReferenceIdeal.main_arg7)
          ∧ r.2.mem ((c.tc : Thread Cert.AdamwFfReferenceIdeal.nD Cert.AdamwFfReferenceIdeal.τ).loc Cert.AdamwFfReferenceIdeal.main_arg8) = m' ((c.tc : Thread Cert.AdamwFfReferenceIdeal.nD Cert.AdamwFfReferenceIdeal.τ).loc Cert.AdamwFfReferenceIdeal.main_arg8)
          ∧ r.2.mem ((c.tc : Thread Cert.AdamwFfReferenceIdeal.nD Cert.AdamwFfReferenceIdeal.τ).loc Cert.AdamwFfReferenceIdeal.main_arg9) = m' ((c.tc : Thread Cert.AdamwFfReferenceIdeal.nD Cert.AdamwFfReferenceIdeal.τ).loc Cert.AdamwFfReferenceIdeal.main_arg9)
          ∧ r.2.mem ((c.tc : Thread Cert.AdamwFfReferenceIdeal.nD Cert.AdamwFfReferenceIdeal.τ).loc Cert.AdamwFfReferenceIdeal.main_arg10) = m' ((c.tc : Thread Cert.AdamwFfReferenceIdeal.nD Cert.AdamwFfReferenceIdeal.τ).loc Cert.AdamwFfReferenceIdeal.main_arg10)
          ∧ r.2.mem ((c.tc : Thread Cert.AdamwFfReferenceIdeal.nD Cert.AdamwFfReferenceIdeal.τ).loc Cert.AdamwFfReferenceIdeal.main_arg11) = m' ((c.tc : Thread Cert.AdamwFfReferenceIdeal.nD Cert.AdamwFfReferenceIdeal.τ).loc Cert.AdamwFfReferenceIdeal.main_arg11)
          ∧ r.2.mem ((c.tc : Thread Cert.AdamwFfReferenceIdeal.nD Cert.AdamwFfReferenceIdeal.τ).loc Cert.AdamwFfReferenceIdeal.main_arg12) = m' ((c.tc : Thread Cert.AdamwFfReferenceIdeal.nD Cert.AdamwFfReferenceIdeal.τ).loc Cert.AdamwFfReferenceIdeal.main_arg12)
          ∧ r.2.mem ((c.tc : Thread Cert.AdamwFfReferenceIdeal.nD Cert.AdamwFfReferenceIdeal.τ).loc Cert.AdamwFfReferenceIdeal.main_arg13) = m' ((c.tc : Thread Cert.AdamwFfReferenceIdeal.nD Cert.AdamwFfReferenceIdeal.τ).loc Cert.AdamwFfReferenceIdeal.main_arg13)
          ∧ r.2.mem ((c.tc : Thread Cert.AdamwFfReferenceIdeal.nD Cert.AdamwFfReferenceIdeal.τ).loc Cert.AdamwFfReferenceIdeal.main_arg14) = m' ((c.tc : Thread Cert.AdamwFfReferenceIdeal.nD Cert.AdamwFfReferenceIdeal.τ).loc Cert.AdamwFfReferenceIdeal.main_arg14)
          ∧ r.2.mem ((c.tc : Thread Cert.AdamwFfReferenceIdeal.nD Cert.AdamwFfReferenceIdeal.τ).loc Cert.AdamwFfReferenceIdeal.main_arg15) = m' ((c.tc : Thread Cert.AdamwFfReferenceIdeal.nD Cert.AdamwFfReferenceIdeal.τ).loc Cert.AdamwFfReferenceIdeal.main_arg15)
          ∧ r.2.mem ((c.tc : Thread Cert.AdamwFfReferenceIdeal.nD Cert.AdamwFfReferenceIdeal.τ).loc Cert.AdamwFfReferenceIdeal.main_arg16) = m' ((c.tc : Thread Cert.AdamwFfReferenceIdeal.nD Cert.AdamwFfReferenceIdeal.τ).loc Cert.AdamwFfReferenceIdeal.main_arg16)
          ∧ r.2.mem ((c.tc : Thread Cert.AdamwFfReferenceIdeal.nD Cert.AdamwFfReferenceIdeal.τ).loc Cert.AdamwFfReferenceIdeal.main_arg17) = m' ((c.tc : Thread Cert.AdamwFfReferenceIdeal.nD Cert.AdamwFfReferenceIdeal.τ).loc Cert.AdamwFfReferenceIdeal.main_arg17)
          ∧ r.2.mem ((c.tc : Thread Cert.AdamwFfReferenceIdeal.nD Cert.AdamwFfReferenceIdeal.τ).loc Cert.AdamwFfReferenceIdeal.main_arg18) = m' ((c.tc : Thread Cert.AdamwFfReferenceIdeal.nD Cert.AdamwFfReferenceIdeal.τ).loc Cert.AdamwFfReferenceIdeal.main_arg18)
          ∧ r.2.mem ((c.tc : Thread Cert.AdamwFfReferenceIdeal.nD Cert.AdamwFfReferenceIdeal.τ).loc Cert.AdamwFfReferenceIdeal.main_arg19) = m' ((c.tc : Thread Cert.AdamwFfReferenceIdeal.nD Cert.AdamwFfReferenceIdeal.τ).loc Cert.AdamwFfReferenceIdeal.main_arg19)
          ∧ r.2.mem ((c.tc : Thread Cert.AdamwFfReferenceIdeal.nD Cert.AdamwFfReferenceIdeal.τ).loc Cert.AdamwFfReferenceIdeal.main_arg20) = m' ((c.tc : Thread Cert.AdamwFfReferenceIdeal.nD Cert.AdamwFfReferenceIdeal.τ).loc Cert.AdamwFfReferenceIdeal.main_arg20)
          ∧ r.2.mem ((c.tc : Thread Cert.AdamwFfReferenceIdeal.nD Cert.AdamwFfReferenceIdeal.τ).loc Cert.AdamwFfReferenceIdeal.main_arg21) = m' ((c.tc : Thread Cert.AdamwFfReferenceIdeal.nD Cert.AdamwFfReferenceIdeal.τ).loc Cert.AdamwFfReferenceIdeal.main_arg21)
          ∧ r.2.mem ((c.tc : Thread Cert.AdamwFfReferenceIdeal.nD Cert.AdamwFfReferenceIdeal.τ).loc Cert.AdamwFfReferenceIdeal.main_arg22) = m' ((c.tc : Thread Cert.AdamwFfReferenceIdeal.nD Cert.AdamwFfReferenceIdeal.τ).loc Cert.AdamwFfReferenceIdeal.main_arg22)
          ∧ r.2.mem ((c.tc : Thread Cert.AdamwFfReferenceIdeal.nD Cert.AdamwFfReferenceIdeal.τ).loc Cert.AdamwFfReferenceIdeal.main_arg23) = m' ((c.tc : Thread Cert.AdamwFfReferenceIdeal.nD Cert.AdamwFfReferenceIdeal.τ).loc Cert.AdamwFfReferenceIdeal.main_arg23))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)
      ∧ m' ((c.tc : Thread Cert.SmallReferenceIdeal.nD Cert.SmallReferenceIdeal.τ).loc Cert.SmallReferenceIdeal.main_arg14) = m ((c.tc : Thread Cert.SmallKernelIdeal.nD Cert.SmallKernelIdeal.τ).loc Cert.SmallKernelIdeal.main_arg14)
      ∧ m' ((c.tc : Thread Cert.SmallReferenceIdeal.nD Cert.SmallReferenceIdeal.τ).loc Cert.SmallReferenceIdeal.main_arg15) = m ((c.tc : Thread Cert.SmallKernelIdeal.nD Cert.SmallKernelIdeal.τ).loc Cert.SmallKernelIdeal.main_arg15)
      ∧ m' ((c.tc : Thread Cert.SmallReferenceIdeal.nD Cert.SmallReferenceIdeal.τ).loc Cert.SmallReferenceIdeal.main_arg16) = m ((c.tc : Thread Cert.SmallKernelIdeal.nD Cert.SmallKernelIdeal.τ).loc Cert.SmallKernelIdeal.main_arg16)
      ∧ m' ((c.tc : Thread Cert.SmallReferenceIdeal.nD Cert.SmallReferenceIdeal.τ).loc Cert.SmallReferenceIdeal.main_arg17) = m ((c.tc : Thread Cert.SmallKernelIdeal.nD Cert.SmallKernelIdeal.τ).loc Cert.SmallKernelIdeal.main_arg17)
      ∧ m' ((c.tc : Thread Cert.SmallReferenceIdeal.nD Cert.SmallReferenceIdeal.τ).loc Cert.SmallReferenceIdeal.main_arg18) = m ((c.tc : Thread Cert.SmallKernelIdeal.nD Cert.SmallKernelIdeal.τ).loc Cert.SmallKernelIdeal.main_arg18)
      ∧ m' ((c.tc : Thread Cert.SmallReferenceIdeal.nD Cert.SmallReferenceIdeal.τ).loc Cert.SmallReferenceIdeal.main_arg19) = m ((c.tc : Thread Cert.SmallKernelIdeal.nD Cert.SmallKernelIdeal.τ).loc Cert.SmallKernelIdeal.main_arg19)
      ∧ m' ((c.tc : Thread Cert.SmallReferenceIdeal.nD Cert.SmallReferenceIdeal.τ).loc Cert.SmallReferenceIdeal.main_arg20) = m ((c.tc : Thread Cert.SmallKernelIdeal.nD Cert.SmallKernelIdeal.τ).loc Cert.SmallKernelIdeal.main_arg20)
      ∧ m' ((c.tc : Thread Cert.SmallReferenceIdeal.nD Cert.SmallReferenceIdeal.τ).loc Cert.SmallReferenceIdeal.main_arg21) = m ((c.tc : Thread Cert.SmallKernelIdeal.nD Cert.SmallKernelIdeal.τ).loc Cert.SmallKernelIdeal.main_arg21)
      ∧ m' ((c.tc : Thread Cert.SmallReferenceIdeal.nD Cert.SmallReferenceIdeal.τ).loc Cert.SmallReferenceIdeal.main_arg22) = m ((c.tc : Thread Cert.SmallKernelIdeal.nD Cert.SmallKernelIdeal.τ).loc Cert.SmallKernelIdeal.main_arg22)
      ∧ m' ((c.tc : Thread Cert.SmallReferenceIdeal.nD Cert.SmallReferenceIdeal.τ).loc Cert.SmallReferenceIdeal.main_arg23) = m ((c.tc : Thread Cert.SmallKernelIdeal.nD Cert.SmallKernelIdeal.τ).loc Cert.SmallKernelIdeal.main_arg23)
      ∧ m' ((c.tc : Thread Cert.SmallReferenceIdeal.nD Cert.SmallReferenceIdeal.τ).loc Cert.SmallReferenceIdeal.main_arg24) = m ((c.tc : Thread Cert.SmallKernelIdeal.nD Cert.SmallKernelIdeal.τ).loc Cert.SmallKernelIdeal.main_arg24)
      ∧ m' ((c.tc : Thread Cert.SmallReferenceIdeal.nD Cert.SmallReferenceIdeal.τ).loc Cert.SmallReferenceIdeal.main_arg25) = m ((c.tc : Thread Cert.SmallKernelIdeal.nD Cert.SmallKernelIdeal.τ).loc Cert.SmallKernelIdeal.main_arg25)
      ∧ m' ((c.tc : Thread Cert.SmallReferenceIdeal.nD Cert.SmallReferenceIdeal.τ).loc Cert.SmallReferenceIdeal.main_arg26) = m ((c.tc : Thread Cert.SmallKernelIdeal.nD Cert.SmallKernelIdeal.τ).loc Cert.SmallKernelIdeal.main_arg26)
      ∧ m' ((c.tc : Thread Cert.SmallReferenceIdeal.nD Cert.SmallReferenceIdeal.τ).loc Cert.SmallReferenceIdeal.main_arg27) = m ((c.tc : Thread Cert.SmallKernelIdeal.nD Cert.SmallKernelIdeal.τ).loc Cert.SmallKernelIdeal.main_arg27)
      ∧ m' ((c.tc : Thread Cert.SmallReferenceIdeal.nD Cert.SmallReferenceIdeal.τ).loc Cert.SmallReferenceIdeal.main_arg28) = m ((c.tc : Thread Cert.SmallKernelIdeal.nD Cert.SmallKernelIdeal.τ).loc Cert.SmallKernelIdeal.main_arg28)
      ∧ m' ((c.tc : Thread Cert.SmallReferenceIdeal.nD Cert.SmallReferenceIdeal.τ).loc Cert.SmallReferenceIdeal.main_arg29) = m ((c.tc : Thread Cert.SmallKernelIdeal.nD Cert.SmallKernelIdeal.τ).loc Cert.SmallKernelIdeal.main_arg29)
      ∧ m' ((c.tc : Thread Cert.SmallReferenceIdeal.nD Cert.SmallReferenceIdeal.τ).loc Cert.SmallReferenceIdeal.main_arg30) = m ((c.tc : Thread Cert.SmallKernelIdeal.nD Cert.SmallKernelIdeal.τ).loc Cert.SmallKernelIdeal.main_arg30)
      ∧ m' ((c.tc : Thread Cert.SmallReferenceIdeal.nD Cert.SmallReferenceIdeal.τ).loc Cert.SmallReferenceIdeal.main_arg31) = m ((c.tc : Thread Cert.SmallKernelIdeal.nD Cert.SmallKernelIdeal.τ).loc Cert.SmallKernelIdeal.main_arg31)
      ∧ m' ((c.tc : Thread Cert.SmallReferenceIdeal.nD Cert.SmallReferenceIdeal.τ).loc Cert.SmallReferenceIdeal.main_arg32) = m ((c.tc : Thread Cert.SmallKernelIdeal.nD Cert.SmallKernelIdeal.τ).loc Cert.SmallKernelIdeal.main_arg32)
      ∧ m' ((c.tc : Thread Cert.SmallReferenceIdeal.nD Cert.SmallReferenceIdeal.τ).loc Cert.SmallReferenceIdeal.main_arg33) = m ((c.tc : Thread Cert.SmallKernelIdeal.nD Cert.SmallKernelIdeal.τ).loc Cert.SmallKernelIdeal.main_arg33)
      ∧ m' ((c.tc : Thread Cert.SmallReferenceIdeal.nD Cert.SmallReferenceIdeal.τ).loc Cert.SmallReferenceIdeal.main_arg34) = m ((c.tc : Thread Cert.SmallKernelIdeal.nD Cert.SmallKernelIdeal.τ).loc Cert.SmallKernelIdeal.main_arg34)
      ∧ m' ((c.tc : Thread Cert.SmallReferenceIdeal.nD Cert.SmallReferenceIdeal.τ).loc Cert.SmallReferenceIdeal.main_arg35) = m ((c.tc : Thread Cert.SmallKernelIdeal.nD Cert.SmallKernelIdeal.τ).loc Cert.SmallKernelIdeal.main_arg35)
      ∧ m' ((c.tc : Thread Cert.SmallReferenceIdeal.nD Cert.SmallReferenceIdeal.τ).loc Cert.SmallReferenceIdeal.main_arg36) = m ((c.tc : Thread Cert.SmallKernelIdeal.nD Cert.SmallKernelIdeal.τ).loc Cert.SmallKernelIdeal.main_arg36)
      ∧ m' ((c.tc : Thread Cert.SmallReferenceIdeal.nD Cert.SmallReferenceIdeal.τ).loc Cert.SmallReferenceIdeal.main_arg37) = m ((c.tc : Thread Cert.SmallKernelIdeal.nD Cert.SmallKernelIdeal.τ).loc Cert.SmallKernelIdeal.main_arg37)
      ∧ m' ((c.tc : Thread Cert.SmallReferenceIdeal.nD Cert.SmallReferenceIdeal.τ).loc Cert.SmallReferenceIdeal.main_arg38) = m ((c.tc : Thread Cert.SmallKernelIdeal.nD Cert.SmallKernelIdeal.τ).loc Cert.SmallKernelIdeal.main_arg38)
      ∧ m' ((c.tc : Thread Cert.SmallReferenceIdeal.nD Cert.SmallReferenceIdeal.τ).loc Cert.SmallReferenceIdeal.main_arg39) = m ((c.tc : Thread Cert.SmallKernelIdeal.nD Cert.SmallKernelIdeal.τ).loc Cert.SmallKernelIdeal.main_arg39)
      ∧ m' ((c.tc : Thread Cert.SmallReferenceIdeal.nD Cert.SmallReferenceIdeal.τ).loc Cert.SmallReferenceIdeal.main_arg40) = m ((c.tc : Thread Cert.SmallKernelIdeal.nD Cert.SmallKernelIdeal.τ).loc Cert.SmallKernelIdeal.main_arg40)
      ∧ m' ((c.tc : Thread Cert.SmallReferenceIdeal.nD Cert.SmallReferenceIdeal.τ).loc Cert.SmallReferenceIdeal.main_arg41) = m ((c.tc : Thread Cert.SmallKernelIdeal.nD Cert.SmallKernelIdeal.τ).loc Cert.SmallKernelIdeal.main_arg41)
      ∧ m' ((c.tc : Thread Cert.SmallReferenceIdeal.nD Cert.SmallReferenceIdeal.τ).loc Cert.SmallReferenceIdeal.main_arg42) = m ((c.tc : Thread Cert.SmallKernelIdeal.nD Cert.SmallKernelIdeal.τ).loc Cert.SmallKernelIdeal.main_arg42)
      ∧ m' ((c.tc : Thread Cert.SmallReferenceIdeal.nD Cert.SmallReferenceIdeal.τ).loc Cert.SmallReferenceIdeal.main_arg43) = m ((c.tc : Thread Cert.SmallKernelIdeal.nD Cert.SmallKernelIdeal.τ).loc Cert.SmallKernelIdeal.main_arg43)
      ∧ m' ((c.tc : Thread Cert.SmallReferenceIdeal.nD Cert.SmallReferenceIdeal.τ).loc Cert.SmallReferenceIdeal.main_arg44) = m ((c.tc : Thread Cert.SmallKernelIdeal.nD Cert.SmallKernelIdeal.τ).loc Cert.SmallKernelIdeal.main_arg44)
      ∧ m' ((c.tc : Thread Cert.SmallReferenceIdeal.nD Cert.SmallReferenceIdeal.τ).loc Cert.SmallReferenceIdeal.main_arg45) = m ((c.tc : Thread Cert.SmallKernelIdeal.nD Cert.SmallKernelIdeal.τ).loc Cert.SmallKernelIdeal.main_arg45)
      ∧ m' ((c.tc : Thread Cert.SmallReferenceIdeal.nD Cert.SmallReferenceIdeal.τ).loc Cert.SmallReferenceIdeal.main_arg46) = m ((c.tc : Thread Cert.SmallKernelIdeal.nD Cert.SmallKernelIdeal.τ).loc Cert.SmallKernelIdeal.main_arg46)
      ∧ m' ((c.tc : Thread Cert.SmallReferenceIdeal.nD Cert.SmallReferenceIdeal.τ).loc Cert.SmallReferenceIdeal.main_arg47) = m ((c.tc : Thread Cert.SmallKernelIdeal.nD Cert.SmallKernelIdeal.τ).loc Cert.SmallKernelIdeal.main_arg47)
      ∧ m' ((c.tc : Thread Cert.SmallReferenceIdeal.nD Cert.SmallReferenceIdeal.τ).loc Cert.SmallReferenceIdeal.main_arg48) = m ((c.tc : Thread Cert.SmallKernelIdeal.nD Cert.SmallKernelIdeal.τ).loc Cert.SmallKernelIdeal.main_arg48)
      ∧ m' ((c.tc : Thread Cert.SmallReferenceIdeal.nD Cert.SmallReferenceIdeal.τ).loc Cert.SmallReferenceIdeal.main_arg49) = m ((c.tc : Thread Cert.SmallKernelIdeal.nD Cert.SmallKernelIdeal.τ).loc Cert.SmallKernelIdeal.main_arg49)
      ∧ m' ((c.tc : Thread Cert.SmallReferenceIdeal.nD Cert.SmallReferenceIdeal.τ).loc Cert.SmallReferenceIdeal.main_arg50) = m ((c.tc : Thread Cert.SmallKernelIdeal.nD Cert.SmallKernelIdeal.τ).loc Cert.SmallKernelIdeal.main_arg50)
      ∧ m' ((c.tc : Thread Cert.SmallReferenceIdeal.nD Cert.SmallReferenceIdeal.τ).loc Cert.SmallReferenceIdeal.main_arg51) = m ((c.tc : Thread Cert.SmallKernelIdeal.nD Cert.SmallKernelIdeal.τ).loc Cert.SmallKernelIdeal.main_arg51)
      ∧ m' ((c.tc : Thread Cert.SmallReferenceIdeal.nD Cert.SmallReferenceIdeal.τ).loc Cert.SmallReferenceIdeal.main_arg52) = m ((c.tc : Thread Cert.SmallKernelIdeal.nD Cert.SmallKernelIdeal.τ).loc Cert.SmallKernelIdeal.main_arg52)
      ∧ m' ((c.tc : Thread Cert.SmallReferenceIdeal.nD Cert.SmallReferenceIdeal.τ).loc Cert.SmallReferenceIdeal.main_arg53) = m ((c.tc : Thread Cert.SmallKernelIdeal.nD Cert.SmallKernelIdeal.τ).loc Cert.SmallKernelIdeal.main_arg53)
      ∧ m' ((c.tc : Thread Cert.SmallReferenceIdeal.nD Cert.SmallReferenceIdeal.τ).loc Cert.SmallReferenceIdeal.main_arg54) = m ((c.tc : Thread Cert.SmallKernelIdeal.nD Cert.SmallKernelIdeal.τ).loc Cert.SmallKernelIdeal.main_arg54)
      ∧ m' ((c.tc : Thread Cert.SmallReferenceIdeal.nD Cert.SmallReferenceIdeal.τ).loc Cert.SmallReferenceIdeal.main_arg55) = m ((c.tc : Thread Cert.SmallKernelIdeal.nD Cert.SmallKernelIdeal.τ).loc Cert.SmallKernelIdeal.main_arg55)
      ∧ m' ((c.tc : Thread Cert.SmallReferenceIdeal.nD Cert.SmallReferenceIdeal.τ).loc Cert.SmallReferenceIdeal.main_arg56) = m ((c.tc : Thread Cert.SmallKernelIdeal.nD Cert.SmallKernelIdeal.τ).loc Cert.SmallKernelIdeal.main_arg56)
      ∧ m' ((c.tc : Thread Cert.SmallReferenceIdeal.nD Cert.SmallReferenceIdeal.τ).loc Cert.SmallReferenceIdeal.main_arg57) = m ((c.tc : Thread Cert.SmallKernelIdeal.nD Cert.SmallKernelIdeal.τ).loc Cert.SmallKernelIdeal.main_arg57)
      ∧ m' ((c.tc : Thread Cert.SmallReferenceIdeal.nD Cert.SmallReferenceIdeal.τ).loc Cert.SmallReferenceIdeal.main_arg58) = m ((c.tc : Thread Cert.SmallKernelIdeal.nD Cert.SmallKernelIdeal.τ).loc Cert.SmallKernelIdeal.main_arg58)
      ∧ m' ((c.tc : Thread Cert.SmallReferenceIdeal.nD Cert.SmallReferenceIdeal.τ).loc Cert.SmallReferenceIdeal.main_arg59) = m ((c.tc : Thread Cert.SmallKernelIdeal.nD Cert.SmallKernelIdeal.τ).loc Cert.SmallKernelIdeal.main_arg59)
      ∧ m' ((c.tc : Thread Cert.SmallReferenceIdeal.nD Cert.SmallReferenceIdeal.τ).loc Cert.SmallReferenceIdeal.main_arg60) = m ((c.tc : Thread Cert.SmallKernelIdeal.nD Cert.SmallKernelIdeal.τ).loc Cert.SmallKernelIdeal.main_arg60)
      ∧ m' ((c.tc : Thread Cert.SmallReferenceIdeal.nD Cert.SmallReferenceIdeal.τ).loc Cert.SmallReferenceIdeal.main_arg61) = m ((c.tc : Thread Cert.SmallKernelIdeal.nD Cert.SmallKernelIdeal.τ).loc Cert.SmallKernelIdeal.main_arg61)
      ∧ m' ((c.tc : Thread Cert.SmallReferenceIdeal.nD Cert.SmallReferenceIdeal.τ).loc Cert.SmallReferenceIdeal.main_arg62) = m ((c.tc : Thread Cert.SmallKernelIdeal.nD Cert.SmallKernelIdeal.τ).loc Cert.SmallKernelIdeal.main_arg62)
      ∧ m' ((c.tc : Thread Cert.SmallReferenceIdeal.nD Cert.SmallReferenceIdeal.τ).loc Cert.SmallReferenceIdeal.main_arg63) = m ((c.tc : Thread Cert.SmallKernelIdeal.nD Cert.SmallKernelIdeal.τ).loc Cert.SmallKernelIdeal.main_arg63)) →
    ∃ (v0 : (c : Dev Cert.SmallKernelIdeal.nD) → Buf (Elt Ideal) ((c.tc : Thread Cert.SmallKernelIdeal.nD Cert.SmallKernelIdeal.τ).loc Cert.SmallKernelIdeal.main_v75)) (v1 : (c : Dev Cert.SmallKernelIdeal.nD) → Buf (Elt Ideal) ((c.tc : Thread Cert.SmallKernelIdeal.nD Cert.SmallKernelIdeal.τ).loc Cert.SmallKernelIdeal.main_v77)) (v2 : (c : Dev Cert.SmallKernelIdeal.nD) → Buf (Elt Ideal) ((c.tc : Thread Cert.SmallKernelIdeal.nD Cert.SmallKernelIdeal.τ).loc Cert.SmallKernelIdeal.main_v79)) (v3 : (c : Dev Cert.SmallKernelIdeal.nD) → Buf (Elt Ideal) ((c.tc : Thread Cert.SmallKernelIdeal.nD Cert.SmallKernelIdeal.τ).loc Cert.SmallKernelIdeal.main_v81)) (v4 : (c : Dev Cert.SmallKernelIdeal.nD) → Buf (Elt Ideal) ((c.tc : Thread Cert.SmallKernelIdeal.nD Cert.SmallKernelIdeal.τ).loc Cert.SmallKernelIdeal.main_v83)) (v5 : (c : Dev Cert.SmallKernelIdeal.nD) → Buf (Elt Ideal) ((c.tc : Thread Cert.SmallKernelIdeal.nD Cert.SmallKernelIdeal.τ).loc Cert.SmallKernelIdeal.main_v85)) (v6 : (c : Dev Cert.SmallKernelIdeal.nD) → Buf (Elt Ideal) ((c.tc : Thread Cert.SmallKernelIdeal.nD Cert.SmallKernelIdeal.τ).loc Cert.SmallKernelIdeal.main_v87)) (v7 : (c : Dev Cert.SmallKernelIdeal.nD) → Buf (Elt Ideal) ((c.tc : Thread Cert.SmallKernelIdeal.nD Cert.SmallKernelIdeal.τ).loc Cert.SmallKernelIdeal.main_v89)) (v8 : (c : Dev Cert.SmallKernelIdeal.nD) → Buf (Elt Ideal) ((c.tc : Thread Cert.SmallKernelIdeal.nD Cert.SmallKernelIdeal.τ).loc Cert.SmallKernelIdeal.main_v91)) (v9 : (c : Dev Cert.SmallKernelIdeal.nD) → Buf (Elt Ideal) ((c.tc : Thread Cert.SmallKernelIdeal.nD Cert.SmallKernelIdeal.τ).loc Cert.SmallKernelIdeal.main_v93)) (v10 : (c : Dev Cert.SmallKernelIdeal.nD) → Buf (Elt Ideal) ((c.tc : Thread Cert.SmallKernelIdeal.nD Cert.SmallKernelIdeal.τ).loc Cert.SmallKernelIdeal.main_v95)) (v11 : (c : Dev Cert.SmallKernelIdeal.nD) → Buf (Elt Ideal) ((c.tc : Thread Cert.SmallKernelIdeal.nD Cert.SmallKernelIdeal.τ).loc Cert.SmallKernelIdeal.main_v97)) (v12 : (c : Dev Cert.SmallKernelIdeal.nD) → Buf (Elt Ideal) ((c.tc : Thread Cert.SmallKernelIdeal.nD Cert.SmallKernelIdeal.τ).loc Cert.SmallKernelIdeal.main_v99)) (v13 : (c : Dev Cert.SmallKernelIdeal.nD) → Buf (Elt Ideal) ((c.tc : Thread Cert.SmallKernelIdeal.nD Cert.SmallKernelIdeal.τ).loc Cert.SmallKernelIdeal.main_v101)) (v14 : (c : Dev Cert.SmallKernelIdeal.nD) → Buf (Elt Ideal) ((c.tc : Thread Cert.SmallKernelIdeal.nD Cert.SmallKernelIdeal.τ).loc Cert.SmallKernelIdeal.main_v103)) (v15 : (c : Dev Cert.SmallKernelIdeal.nD) → Buf (Elt Ideal) ((c.tc : Thread Cert.SmallKernelIdeal.nD Cert.SmallKernelIdeal.τ).loc Cert.SmallKernelIdeal.main_v105)) (v16 : (c : Dev Cert.SmallKernelIdeal.nD) → Buf (Elt Ideal) ((c.tc : Thread Cert.SmallKernelIdeal.nD Cert.SmallKernelIdeal.τ).loc Cert.SmallKernelIdeal.main_v107)) (v17 : (c : Dev Cert.SmallKernelIdeal.nD) → Buf (Elt Ideal) ((c.tc : Thread Cert.SmallKernelIdeal.nD Cert.SmallKernelIdeal.τ).loc Cert.SmallKernelIdeal.main_v109)) (v18 : (c : Dev Cert.SmallKernelIdeal.nD) → Buf (Elt Ideal) ((c.tc : Thread Cert.SmallKernelIdeal.nD Cert.SmallKernelIdeal.τ).loc Cert.SmallKernelIdeal.main_v111)) (v19 : (c : Dev Cert.SmallKernelIdeal.nD) → Buf (Elt Ideal) ((c.tc : Thread Cert.SmallKernelIdeal.nD Cert.SmallKernelIdeal.τ).loc Cert.SmallKernelIdeal.main_v113)) (v20 : (c : Dev Cert.SmallKernelIdeal.nD) → Buf (Elt Ideal) ((c.tc : Thread Cert.SmallKernelIdeal.nD Cert.SmallKernelIdeal.τ).loc Cert.SmallKernelIdeal.main_v115)) (v21 : (c : Dev Cert.SmallKernelIdeal.nD) → Buf (Elt Ideal) ((c.tc : Thread Cert.SmallKernelIdeal.nD Cert.SmallKernelIdeal.τ).loc Cert.SmallKernelIdeal.main_v117)) (v22 : (c : Dev Cert.SmallKernelIdeal.nD) → Buf (Elt Ideal) ((c.tc : Thread Cert.SmallKernelIdeal.nD Cert.SmallKernelIdeal.τ).loc Cert.SmallKernelIdeal.main_v119)) (v23 : (c : Dev Cert.SmallKernelIdeal.nD) → Buf (Elt Ideal) ((c.tc : Thread Cert.SmallKernelIdeal.nD Cert.SmallKernelIdeal.τ).loc Cert.SmallKernelIdeal.main_v121)) (v24 : (c : Dev Cert.SmallKernelIdeal.nD) → Buf (Elt Ideal) ((c.tc : Thread Cert.SmallKernelIdeal.nD Cert.SmallKernelIdeal.τ).loc Cert.SmallKernelIdeal.main_v123)) (v25 : (c : Dev Cert.SmallKernelIdeal.nD) → Buf (Elt Ideal) ((c.tc : Thread Cert.SmallKernelIdeal.nD Cert.SmallKernelIdeal.τ).loc Cert.SmallKernelIdeal.main_v125)) (v26 : (c : Dev Cert.SmallKernelIdeal.nD) → Buf (Elt Ideal) ((c.tc : Thread Cert.SmallKernelIdeal.nD Cert.SmallKernelIdeal.τ).loc Cert.SmallKernelIdeal.main_v127)) (v27 : (c : Dev Cert.SmallKernelIdeal.nD) → Buf (Elt Ideal) ((c.tc : Thread Cert.SmallKernelIdeal.nD Cert.SmallKernelIdeal.τ).loc Cert.SmallKernelIdeal.main_v129)) (v28 : (c : Dev Cert.SmallKernelIdeal.nD) → Buf (Elt Ideal) ((c.tc : Thread Cert.SmallKernelIdeal.nD Cert.SmallKernelIdeal.τ).loc Cert.SmallKernelIdeal.main_v131)) (v29 : (c : Dev Cert.SmallKernelIdeal.nD) → Buf (Elt Ideal) ((c.tc : Thread Cert.SmallKernelIdeal.nD Cert.SmallKernelIdeal.τ).loc Cert.SmallKernelIdeal.main_v133)) (v30 : (c : Dev Cert.SmallKernelIdeal.nD) → Buf (Elt Ideal) ((c.tc : Thread Cert.SmallKernelIdeal.nD Cert.SmallKernelIdeal.τ).loc Cert.SmallKernelIdeal.main_v135)) (v31 : (c : Dev Cert.SmallKernelIdeal.nD) → Buf (Elt Ideal) ((c.tc : Thread Cert.SmallKernelIdeal.nD Cert.SmallKernelIdeal.τ).loc Cert.SmallKernelIdeal.main_v137)) (v32 : (c : Dev Cert.SmallKernelIdeal.nD) → Buf (Elt Ideal) ((c.tc : Thread Cert.SmallKernelIdeal.nD Cert.SmallKernelIdeal.τ).loc Cert.SmallKernelIdeal.main_v139)) (v33 : (c : Dev Cert.SmallKernelIdeal.nD) → Buf (Elt Ideal) ((c.tc : Thread Cert.SmallKernelIdeal.nD Cert.SmallKernelIdeal.τ).loc Cert.SmallKernelIdeal.main_v141)) (v34 : (c : Dev Cert.SmallKernelIdeal.nD) → Buf (Elt Ideal) ((c.tc : Thread Cert.SmallKernelIdeal.nD Cert.SmallKernelIdeal.τ).loc Cert.SmallKernelIdeal.main_v143)) (v35 : (c : Dev Cert.SmallKernelIdeal.nD) → Buf (Elt Ideal) ((c.tc : Thread Cert.SmallKernelIdeal.nD Cert.SmallKernelIdeal.τ).loc Cert.SmallKernelIdeal.main_v145)) (v36 : (c : Dev Cert.SmallKernelIdeal.nD) → Buf (Elt Ideal) ((c.tc : Thread Cert.SmallKernelIdeal.nD Cert.SmallKernelIdeal.τ).loc Cert.SmallKernelIdeal.main_v147)) (v37 : (c : Dev Cert.SmallKernelIdeal.nD) → Buf (Elt Ideal) ((c.tc : Thread Cert.SmallKernelIdeal.nD Cert.SmallKernelIdeal.τ).loc Cert.SmallKernelIdeal.main_v149)) (v38 : (c : Dev Cert.SmallKernelIdeal.nD) → Buf (Elt Ideal) ((c.tc : Thread Cert.SmallKernelIdeal.nD Cert.SmallKernelIdeal.τ).loc Cert.SmallKernelIdeal.main_v151)) (v39 : (c : Dev Cert.SmallKernelIdeal.nD) → Buf (Elt Ideal) ((c.tc : Thread Cert.SmallKernelIdeal.nD Cert.SmallKernelIdeal.τ).loc Cert.SmallKernelIdeal.main_v153)) (v40 : (c : Dev Cert.SmallKernelIdeal.nD) → Buf (Elt Ideal) ((c.tc : Thread Cert.SmallKernelIdeal.nD Cert.SmallKernelIdeal.τ).loc Cert.SmallKernelIdeal.main_v155)) (v41 : (c : Dev Cert.SmallKernelIdeal.nD) → Buf (Elt Ideal) ((c.tc : Thread Cert.SmallKernelIdeal.nD Cert.SmallKernelIdeal.τ).loc Cert.SmallKernelIdeal.main_v157)) (v42 : (c : Dev Cert.SmallKernelIdeal.nD) → Buf (Elt Ideal) ((c.tc : Thread Cert.SmallKernelIdeal.nD Cert.SmallKernelIdeal.τ).loc Cert.SmallKernelIdeal.main_v159)) (v43 : (c : Dev Cert.SmallKernelIdeal.nD) → Buf (Elt Ideal) ((c.tc : Thread Cert.SmallKernelIdeal.nD Cert.SmallKernelIdeal.τ).loc Cert.SmallKernelIdeal.main_v161)) (v44 : (c : Dev Cert.SmallKernelIdeal.nD) → Buf (Elt Ideal) ((c.tc : Thread Cert.SmallKernelIdeal.nD Cert.SmallKernelIdeal.τ).loc Cert.SmallKernelIdeal.main_v163)) (v45 : (c : Dev Cert.SmallKernelIdeal.nD) → Buf (Elt Ideal) ((c.tc : Thread Cert.SmallKernelIdeal.nD Cert.SmallKernelIdeal.τ).loc Cert.SmallKernelIdeal.main_v165)) (v46 : (c : Dev Cert.SmallKernelIdeal.nD) → Buf (Elt Ideal) ((c.tc : Thread Cert.SmallKernelIdeal.nD Cert.SmallKernelIdeal.τ).loc Cert.SmallKernelIdeal.main_v167)) (v47 : (c : Dev Cert.SmallKernelIdeal.nD) → Buf (Elt Ideal) ((c.tc : Thread Cert.SmallKernelIdeal.nD Cert.SmallKernelIdeal.τ).loc Cert.SmallKernelIdeal.main_v169)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v75) = v0 c
          ∧ r.2.mem ((c.tc : Thread Cert.SmallKernelIdeal.nD Cert.SmallKernelIdeal.τ).loc Cert.SmallKernelIdeal.main_v77) = v1 c
          ∧ r.2.mem ((c.tc : Thread Cert.SmallKernelIdeal.nD Cert.SmallKernelIdeal.τ).loc Cert.SmallKernelIdeal.main_v79) = v2 c
          ∧ r.2.mem ((c.tc : Thread Cert.SmallKernelIdeal.nD Cert.SmallKernelIdeal.τ).loc Cert.SmallKernelIdeal.main_v81) = v3 c
          ∧ r.2.mem ((c.tc : Thread Cert.SmallKernelIdeal.nD Cert.SmallKernelIdeal.τ).loc Cert.SmallKernelIdeal.main_v83) = v4 c
          ∧ r.2.mem ((c.tc : Thread Cert.SmallKernelIdeal.nD Cert.SmallKernelIdeal.τ).loc Cert.SmallKernelIdeal.main_v85) = v5 c
          ∧ r.2.mem ((c.tc : Thread Cert.SmallKernelIdeal.nD Cert.SmallKernelIdeal.τ).loc Cert.SmallKernelIdeal.main_v87) = v6 c
          ∧ r.2.mem ((c.tc : Thread Cert.SmallKernelIdeal.nD Cert.SmallKernelIdeal.τ).loc Cert.SmallKernelIdeal.main_v89) = v7 c
          ∧ r.2.mem ((c.tc : Thread Cert.SmallKernelIdeal.nD Cert.SmallKernelIdeal.τ).loc Cert.SmallKernelIdeal.main_v91) = v8 c
          ∧ r.2.mem ((c.tc : Thread Cert.SmallKernelIdeal.nD Cert.SmallKernelIdeal.τ).loc Cert.SmallKernelIdeal.main_v93) = v9 c
          ∧ r.2.mem ((c.tc : Thread Cert.SmallKernelIdeal.nD Cert.SmallKernelIdeal.τ).loc Cert.SmallKernelIdeal.main_v95) = v10 c
          ∧ r.2.mem ((c.tc : Thread Cert.SmallKernelIdeal.nD Cert.SmallKernelIdeal.τ).loc Cert.SmallKernelIdeal.main_v97) = v11 c
          ∧ r.2.mem ((c.tc : Thread Cert.SmallKernelIdeal.nD Cert.SmallKernelIdeal.τ).loc Cert.SmallKernelIdeal.main_v99) = v12 c
          ∧ r.2.mem ((c.tc : Thread Cert.SmallKernelIdeal.nD Cert.SmallKernelIdeal.τ).loc Cert.SmallKernelIdeal.main_v101) = v13 c
          ∧ r.2.mem ((c.tc : Thread Cert.SmallKernelIdeal.nD Cert.SmallKernelIdeal.τ).loc Cert.SmallKernelIdeal.main_v103) = v14 c
          ∧ r.2.mem ((c.tc : Thread Cert.SmallKernelIdeal.nD Cert.SmallKernelIdeal.τ).loc Cert.SmallKernelIdeal.main_v105) = v15 c
          ∧ r.2.mem ((c.tc : Thread Cert.SmallKernelIdeal.nD Cert.SmallKernelIdeal.τ).loc Cert.SmallKernelIdeal.main_v107) = v16 c
          ∧ r.2.mem ((c.tc : Thread Cert.SmallKernelIdeal.nD Cert.SmallKernelIdeal.τ).loc Cert.SmallKernelIdeal.main_v109) = v17 c
          ∧ r.2.mem ((c.tc : Thread Cert.SmallKernelIdeal.nD Cert.SmallKernelIdeal.τ).loc Cert.SmallKernelIdeal.main_v111) = v18 c
          ∧ r.2.mem ((c.tc : Thread Cert.SmallKernelIdeal.nD Cert.SmallKernelIdeal.τ).loc Cert.SmallKernelIdeal.main_v113) = v19 c
          ∧ r.2.mem ((c.tc : Thread Cert.SmallKernelIdeal.nD Cert.SmallKernelIdeal.τ).loc Cert.SmallKernelIdeal.main_v115) = v20 c
          ∧ r.2.mem ((c.tc : Thread Cert.SmallKernelIdeal.nD Cert.SmallKernelIdeal.τ).loc Cert.SmallKernelIdeal.main_v117) = v21 c
          ∧ r.2.mem ((c.tc : Thread Cert.SmallKernelIdeal.nD Cert.SmallKernelIdeal.τ).loc Cert.SmallKernelIdeal.main_v119) = v22 c
          ∧ r.2.mem ((c.tc : Thread Cert.SmallKernelIdeal.nD Cert.SmallKernelIdeal.τ).loc Cert.SmallKernelIdeal.main_v121) = v23 c
          ∧ r.2.mem ((c.tc : Thread Cert.SmallKernelIdeal.nD Cert.SmallKernelIdeal.τ).loc Cert.SmallKernelIdeal.main_v123) = v24 c
          ∧ r.2.mem ((c.tc : Thread Cert.SmallKernelIdeal.nD Cert.SmallKernelIdeal.τ).loc Cert.SmallKernelIdeal.main_v125) = v25 c
          ∧ r.2.mem ((c.tc : Thread Cert.SmallKernelIdeal.nD Cert.SmallKernelIdeal.τ).loc Cert.SmallKernelIdeal.main_v127) = v26 c
          ∧ r.2.mem ((c.tc : Thread Cert.SmallKernelIdeal.nD Cert.SmallKernelIdeal.τ).loc Cert.SmallKernelIdeal.main_v129) = v27 c
          ∧ r.2.mem ((c.tc : Thread Cert.SmallKernelIdeal.nD Cert.SmallKernelIdeal.τ).loc Cert.SmallKernelIdeal.main_v131) = v28 c
          ∧ r.2.mem ((c.tc : Thread Cert.SmallKernelIdeal.nD Cert.SmallKernelIdeal.τ).loc Cert.SmallKernelIdeal.main_v133) = v29 c
          ∧ r.2.mem ((c.tc : Thread Cert.SmallKernelIdeal.nD Cert.SmallKernelIdeal.τ).loc Cert.SmallKernelIdeal.main_v135) = v30 c
          ∧ r.2.mem ((c.tc : Thread Cert.SmallKernelIdeal.nD Cert.SmallKernelIdeal.τ).loc Cert.SmallKernelIdeal.main_v137) = v31 c
          ∧ r.2.mem ((c.tc : Thread Cert.SmallKernelIdeal.nD Cert.SmallKernelIdeal.τ).loc Cert.SmallKernelIdeal.main_v139) = v32 c
          ∧ r.2.mem ((c.tc : Thread Cert.SmallKernelIdeal.nD Cert.SmallKernelIdeal.τ).loc Cert.SmallKernelIdeal.main_v141) = v33 c
          ∧ r.2.mem ((c.tc : Thread Cert.SmallKernelIdeal.nD Cert.SmallKernelIdeal.τ).loc Cert.SmallKernelIdeal.main_v143) = v34 c
          ∧ r.2.mem ((c.tc : Thread Cert.SmallKernelIdeal.nD Cert.SmallKernelIdeal.τ).loc Cert.SmallKernelIdeal.main_v145) = v35 c
          ∧ r.2.mem ((c.tc : Thread Cert.SmallKernelIdeal.nD Cert.SmallKernelIdeal.τ).loc Cert.SmallKernelIdeal.main_v147) = v36 c
          ∧ r.2.mem ((c.tc : Thread Cert.SmallKernelIdeal.nD Cert.SmallKernelIdeal.τ).loc Cert.SmallKernelIdeal.main_v149) = v37 c
          ∧ r.2.mem ((c.tc : Thread Cert.SmallKernelIdeal.nD Cert.SmallKernelIdeal.τ).loc Cert.SmallKernelIdeal.main_v151) = v38 c
          ∧ r.2.mem ((c.tc : Thread Cert.SmallKernelIdeal.nD Cert.SmallKernelIdeal.τ).loc Cert.SmallKernelIdeal.main_v153) = v39 c
          ∧ r.2.mem ((c.tc : Thread Cert.SmallKernelIdeal.nD Cert.SmallKernelIdeal.τ).loc Cert.SmallKernelIdeal.main_v155) = v40 c
          ∧ r.2.mem ((c.tc : Thread Cert.SmallKernelIdeal.nD Cert.SmallKernelIdeal.τ).loc Cert.SmallKernelIdeal.main_v157) = v41 c
          ∧ r.2.mem ((c.tc : Thread Cert.SmallKernelIdeal.nD Cert.SmallKernelIdeal.τ).loc Cert.SmallKernelIdeal.main_v159) = v42 c
          ∧ r.2.mem ((c.tc : Thread Cert.SmallKernelIdeal.nD Cert.SmallKernelIdeal.τ).loc Cert.SmallKernelIdeal.main_v161) = v43 c
          ∧ r.2.mem ((c.tc : Thread Cert.SmallKernelIdeal.nD Cert.SmallKernelIdeal.τ).loc Cert.SmallKernelIdeal.main_v163) = v44 c
          ∧ r.2.mem ((c.tc : Thread Cert.SmallKernelIdeal.nD Cert.SmallKernelIdeal.τ).loc Cert.SmallKernelIdeal.main_v165) = v45 c
          ∧ r.2.mem ((c.tc : Thread Cert.SmallKernelIdeal.nD Cert.SmallKernelIdeal.τ).loc Cert.SmallKernelIdeal.main_v167) = v46 c
          ∧ r.2.mem ((c.tc : Thread Cert.SmallKernelIdeal.nD Cert.SmallKernelIdeal.τ).loc Cert.SmallKernelIdeal.main_v169) = v47 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
          ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
          ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
          ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
          ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
          ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
          ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
          ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
          ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
          ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
          ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
          ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24)
          ∧ r.2.mem ((c.tc : Thread Cert.SmallKernelIdeal.nD Cert.SmallKernelIdeal.τ).loc Cert.SmallKernelIdeal.main_arg25) = m ((c.tc : Thread Cert.SmallKernelIdeal.nD Cert.SmallKernelIdeal.τ).loc Cert.SmallKernelIdeal.main_arg25)
          ∧ r.2.mem ((c.tc : Thread Cert.SmallKernelIdeal.nD Cert.SmallKernelIdeal.τ).loc Cert.SmallKernelIdeal.main_arg26) = m ((c.tc : Thread Cert.SmallKernelIdeal.nD Cert.SmallKernelIdeal.τ).loc Cert.SmallKernelIdeal.main_arg26)
          ∧ r.2.mem ((c.tc : Thread Cert.SmallKernelIdeal.nD Cert.SmallKernelIdeal.τ).loc Cert.SmallKernelIdeal.main_arg27) = m ((c.tc : Thread Cert.SmallKernelIdeal.nD Cert.SmallKernelIdeal.τ).loc Cert.SmallKernelIdeal.main_arg27)
          ∧ r.2.mem ((c.tc : Thread Cert.SmallKernelIdeal.nD Cert.SmallKernelIdeal.τ).loc Cert.SmallKernelIdeal.main_arg28) = m ((c.tc : Thread Cert.SmallKernelIdeal.nD Cert.SmallKernelIdeal.τ).loc Cert.SmallKernelIdeal.main_arg28)
          ∧ r.2.mem ((c.tc : Thread Cert.SmallKernelIdeal.nD Cert.SmallKernelIdeal.τ).loc Cert.SmallKernelIdeal.main_arg29) = m ((c.tc : Thread Cert.SmallKernelIdeal.nD Cert.SmallKernelIdeal.τ).loc Cert.SmallKernelIdeal.main_arg29)
          ∧ r.2.mem ((c.tc : Thread Cert.SmallKernelIdeal.nD Cert.SmallKernelIdeal.τ).loc Cert.SmallKernelIdeal.main_arg30) = m ((c.tc : Thread Cert.SmallKernelIdeal.nD Cert.SmallKernelIdeal.τ).loc Cert.SmallKernelIdeal.main_arg30)
          ∧ r.2.mem ((c.tc : Thread Cert.SmallKernelIdeal.nD Cert.SmallKernelIdeal.τ).loc Cert.SmallKernelIdeal.main_arg31) = m ((c.tc : Thread Cert.SmallKernelIdeal.nD Cert.SmallKernelIdeal.τ).loc Cert.SmallKernelIdeal.main_arg31)
          ∧ r.2.mem ((c.tc : Thread Cert.SmallKernelIdeal.nD Cert.SmallKernelIdeal.τ).loc Cert.SmallKernelIdeal.main_arg32) = m ((c.tc : Thread Cert.SmallKernelIdeal.nD Cert.SmallKernelIdeal.τ).loc Cert.SmallKernelIdeal.main_arg32)
          ∧ r.2.mem ((c.tc : Thread Cert.SmallKernelIdeal.nD Cert.SmallKernelIdeal.τ).loc Cert.SmallKernelIdeal.main_arg33) = m ((c.tc : Thread Cert.SmallKernelIdeal.nD Cert.SmallKernelIdeal.τ).loc Cert.SmallKernelIdeal.main_arg33)
          ∧ r.2.mem ((c.tc : Thread Cert.SmallKernelIdeal.nD Cert.SmallKernelIdeal.τ).loc Cert.SmallKernelIdeal.main_arg34) = m ((c.tc : Thread Cert.SmallKernelIdeal.nD Cert.SmallKernelIdeal.τ).loc Cert.SmallKernelIdeal.main_arg34)
          ∧ r.2.mem ((c.tc : Thread Cert.SmallKernelIdeal.nD Cert.SmallKernelIdeal.τ).loc Cert.SmallKernelIdeal.main_arg35) = m ((c.tc : Thread Cert.SmallKernelIdeal.nD Cert.SmallKernelIdeal.τ).loc Cert.SmallKernelIdeal.main_arg35)
          ∧ r.2.mem ((c.tc : Thread Cert.SmallKernelIdeal.nD Cert.SmallKernelIdeal.τ).loc Cert.SmallKernelIdeal.main_arg36) = m ((c.tc : Thread Cert.SmallKernelIdeal.nD Cert.SmallKernelIdeal.τ).loc Cert.SmallKernelIdeal.main_arg36)
          ∧ r.2.mem ((c.tc : Thread Cert.SmallKernelIdeal.nD Cert.SmallKernelIdeal.τ).loc Cert.SmallKernelIdeal.main_arg37) = m ((c.tc : Thread Cert.SmallKernelIdeal.nD Cert.SmallKernelIdeal.τ).loc Cert.SmallKernelIdeal.main_arg37)
          ∧ r.2.mem ((c.tc : Thread Cert.SmallKernelIdeal.nD Cert.SmallKernelIdeal.τ).loc Cert.SmallKernelIdeal.main_arg38) = m ((c.tc : Thread Cert.SmallKernelIdeal.nD Cert.SmallKernelIdeal.τ).loc Cert.SmallKernelIdeal.main_arg38)
          ∧ r.2.mem ((c.tc : Thread Cert.SmallKernelIdeal.nD Cert.SmallKernelIdeal.τ).loc Cert.SmallKernelIdeal.main_arg39) = m ((c.tc : Thread Cert.SmallKernelIdeal.nD Cert.SmallKernelIdeal.τ).loc Cert.SmallKernelIdeal.main_arg39)
          ∧ r.2.mem ((c.tc : Thread Cert.SmallKernelIdeal.nD Cert.SmallKernelIdeal.τ).loc Cert.SmallKernelIdeal.main_arg40) = m ((c.tc : Thread Cert.SmallKernelIdeal.nD Cert.SmallKernelIdeal.τ).loc Cert.SmallKernelIdeal.main_arg40)
          ∧ r.2.mem ((c.tc : Thread Cert.SmallKernelIdeal.nD Cert.SmallKernelIdeal.τ).loc Cert.SmallKernelIdeal.main_arg41) = m ((c.tc : Thread Cert.SmallKernelIdeal.nD Cert.SmallKernelIdeal.τ).loc Cert.SmallKernelIdeal.main_arg41)
          ∧ r.2.mem ((c.tc : Thread Cert.SmallKernelIdeal.nD Cert.SmallKernelIdeal.τ).loc Cert.SmallKernelIdeal.main_arg42) = m ((c.tc : Thread Cert.SmallKernelIdeal.nD Cert.SmallKernelIdeal.τ).loc Cert.SmallKernelIdeal.main_arg42)
          ∧ r.2.mem ((c.tc : Thread Cert.SmallKernelIdeal.nD Cert.SmallKernelIdeal.τ).loc Cert.SmallKernelIdeal.main_arg43) = m ((c.tc : Thread Cert.SmallKernelIdeal.nD Cert.SmallKernelIdeal.τ).loc Cert.SmallKernelIdeal.main_arg43)
          ∧ r.2.mem ((c.tc : Thread Cert.SmallKernelIdeal.nD Cert.SmallKernelIdeal.τ).loc Cert.SmallKernelIdeal.main_arg44) = m ((c.tc : Thread Cert.SmallKernelIdeal.nD Cert.SmallKernelIdeal.τ).loc Cert.SmallKernelIdeal.main_arg44)
          ∧ r.2.mem ((c.tc : Thread Cert.SmallKernelIdeal.nD Cert.SmallKernelIdeal.τ).loc Cert.SmallKernelIdeal.main_arg45) = m ((c.tc : Thread Cert.SmallKernelIdeal.nD Cert.SmallKernelIdeal.τ).loc Cert.SmallKernelIdeal.main_arg45)
          ∧ r.2.mem ((c.tc : Thread Cert.SmallKernelIdeal.nD Cert.SmallKernelIdeal.τ).loc Cert.SmallKernelIdeal.main_arg46) = m ((c.tc : Thread Cert.SmallKernelIdeal.nD Cert.SmallKernelIdeal.τ).loc Cert.SmallKernelIdeal.main_arg46)
          ∧ r.2.mem ((c.tc : Thread Cert.SmallKernelIdeal.nD Cert.SmallKernelIdeal.τ).loc Cert.SmallKernelIdeal.main_arg47) = m ((c.tc : Thread Cert.SmallKernelIdeal.nD Cert.SmallKernelIdeal.τ).loc Cert.SmallKernelIdeal.main_arg47)
          ∧ r.2.mem ((c.tc : Thread Cert.SmallKernelIdeal.nD Cert.SmallKernelIdeal.τ).loc Cert.SmallKernelIdeal.main_arg48) = m ((c.tc : Thread Cert.SmallKernelIdeal.nD Cert.SmallKernelIdeal.τ).loc Cert.SmallKernelIdeal.main_arg48)
          ∧ r.2.mem ((c.tc : Thread Cert.SmallKernelIdeal.nD Cert.SmallKernelIdeal.τ).loc Cert.SmallKernelIdeal.main_arg49) = m ((c.tc : Thread Cert.SmallKernelIdeal.nD Cert.SmallKernelIdeal.τ).loc Cert.SmallKernelIdeal.main_arg49)
          ∧ r.2.mem ((c.tc : Thread Cert.SmallKernelIdeal.nD Cert.SmallKernelIdeal.τ).loc Cert.SmallKernelIdeal.main_arg50) = m ((c.tc : Thread Cert.SmallKernelIdeal.nD Cert.SmallKernelIdeal.τ).loc Cert.SmallKernelIdeal.main_arg50)
          ∧ r.2.mem ((c.tc : Thread Cert.SmallKernelIdeal.nD Cert.SmallKernelIdeal.τ).loc Cert.SmallKernelIdeal.main_arg51) = m ((c.tc : Thread Cert.SmallKernelIdeal.nD Cert.SmallKernelIdeal.τ).loc Cert.SmallKernelIdeal.main_arg51)
          ∧ r.2.mem ((c.tc : Thread Cert.SmallKernelIdeal.nD Cert.SmallKernelIdeal.τ).loc Cert.SmallKernelIdeal.main_arg52) = m ((c.tc : Thread Cert.SmallKernelIdeal.nD Cert.SmallKernelIdeal.τ).loc Cert.SmallKernelIdeal.main_arg52)
          ∧ r.2.mem ((c.tc : Thread Cert.SmallKernelIdeal.nD Cert.SmallKernelIdeal.τ).loc Cert.SmallKernelIdeal.main_arg53) = m ((c.tc : Thread Cert.SmallKernelIdeal.nD Cert.SmallKernelIdeal.τ).loc Cert.SmallKernelIdeal.main_arg53)
          ∧ r.2.mem ((c.tc : Thread Cert.SmallKernelIdeal.nD Cert.SmallKernelIdeal.τ).loc Cert.SmallKernelIdeal.main_arg54) = m ((c.tc : Thread Cert.SmallKernelIdeal.nD Cert.SmallKernelIdeal.τ).loc Cert.SmallKernelIdeal.main_arg54)
          ∧ r.2.mem ((c.tc : Thread Cert.SmallKernelIdeal.nD Cert.SmallKernelIdeal.τ).loc Cert.SmallKernelIdeal.main_arg55) = m ((c.tc : Thread Cert.SmallKernelIdeal.nD Cert.SmallKernelIdeal.τ).loc Cert.SmallKernelIdeal.main_arg55)
          ∧ r.2.mem ((c.tc : Thread Cert.SmallKernelIdeal.nD Cert.SmallKernelIdeal.τ).loc Cert.SmallKernelIdeal.main_arg56) = m ((c.tc : Thread Cert.SmallKernelIdeal.nD Cert.SmallKernelIdeal.τ).loc Cert.SmallKernelIdeal.main_arg56)
          ∧ r.2.mem ((c.tc : Thread Cert.SmallKernelIdeal.nD Cert.SmallKernelIdeal.τ).loc Cert.SmallKernelIdeal.main_arg57) = m ((c.tc : Thread Cert.SmallKernelIdeal.nD Cert.SmallKernelIdeal.τ).loc Cert.SmallKernelIdeal.main_arg57)
          ∧ r.2.mem ((c.tc : Thread Cert.SmallKernelIdeal.nD Cert.SmallKernelIdeal.τ).loc Cert.SmallKernelIdeal.main_arg58) = m ((c.tc : Thread Cert.SmallKernelIdeal.nD Cert.SmallKernelIdeal.τ).loc Cert.SmallKernelIdeal.main_arg58)
          ∧ r.2.mem ((c.tc : Thread Cert.SmallKernelIdeal.nD Cert.SmallKernelIdeal.τ).loc Cert.SmallKernelIdeal.main_arg59) = m ((c.tc : Thread Cert.SmallKernelIdeal.nD Cert.SmallKernelIdeal.τ).loc Cert.SmallKernelIdeal.main_arg59)
          ∧ r.2.mem ((c.tc : Thread Cert.SmallKernelIdeal.nD Cert.SmallKernelIdeal.τ).loc Cert.SmallKernelIdeal.main_arg60) = m ((c.tc : Thread Cert.SmallKernelIdeal.nD Cert.SmallKernelIdeal.τ).loc Cert.SmallKernelIdeal.main_arg60)
          ∧ r.2.mem ((c.tc : Thread Cert.SmallKernelIdeal.nD Cert.SmallKernelIdeal.τ).loc Cert.SmallKernelIdeal.main_arg61) = m ((c.tc : Thread Cert.SmallKernelIdeal.nD Cert.SmallKernelIdeal.τ).loc Cert.SmallKernelIdeal.main_arg61)
          ∧ r.2.mem ((c.tc : Thread Cert.SmallKernelIdeal.nD Cert.SmallKernelIdeal.τ).loc Cert.SmallKernelIdeal.main_arg62) = m ((c.tc : Thread Cert.SmallKernelIdeal.nD Cert.SmallKernelIdeal.τ).loc Cert.SmallKernelIdeal.main_arg62)
          ∧ r.2.mem ((c.tc : Thread Cert.SmallKernelIdeal.nD Cert.SmallKernelIdeal.τ).loc Cert.SmallKernelIdeal.main_arg63) = m ((c.tc : Thread Cert.SmallKernelIdeal.nD Cert.SmallKernelIdeal.τ).loc Cert.SmallKernelIdeal.main_arg63))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v47) = v1 c
          ∧ r.2.mem ((c.tc : Thread Cert.SmallReferenceIdeal.nD Cert.SmallReferenceIdeal.τ).loc Cert.SmallReferenceIdeal.main_v71) = v2 c
          ∧ r.2.mem ((c.tc : Thread Cert.SmallReferenceIdeal.nD Cert.SmallReferenceIdeal.τ).loc Cert.SmallReferenceIdeal.main_v95) = v3 c
          ∧ r.2.mem ((c.tc : Thread Cert.SmallReferenceIdeal.nD Cert.SmallReferenceIdeal.τ).loc Cert.SmallReferenceIdeal.main_v119) = v4 c
          ∧ r.2.mem ((c.tc : Thread Cert.SmallReferenceIdeal.nD Cert.SmallReferenceIdeal.τ).loc Cert.SmallReferenceIdeal.main_v143) = v5 c
          ∧ r.2.mem ((c.tc : Thread Cert.SmallReferenceIdeal.nD Cert.SmallReferenceIdeal.τ).loc Cert.SmallReferenceIdeal.main_v167) = v6 c
          ∧ r.2.mem ((c.tc : Thread Cert.SmallReferenceIdeal.nD Cert.SmallReferenceIdeal.τ).loc Cert.SmallReferenceIdeal.main_v191) = v7 c
          ∧ r.2.mem ((c.tc : Thread Cert.SmallReferenceIdeal.nD Cert.SmallReferenceIdeal.τ).loc Cert.SmallReferenceIdeal.main_v215) = v8 c
          ∧ r.2.mem ((c.tc : Thread Cert.SmallReferenceIdeal.nD Cert.SmallReferenceIdeal.τ).loc Cert.SmallReferenceIdeal.main_v239) = v9 c
          ∧ r.2.mem ((c.tc : Thread Cert.SmallReferenceIdeal.nD Cert.SmallReferenceIdeal.τ).loc Cert.SmallReferenceIdeal.main_v263) = v10 c
          ∧ r.2.mem ((c.tc : Thread Cert.SmallReferenceIdeal.nD Cert.SmallReferenceIdeal.τ).loc Cert.SmallReferenceIdeal.main_v287) = v11 c
          ∧ r.2.mem ((c.tc : Thread Cert.SmallReferenceIdeal.nD Cert.SmallReferenceIdeal.τ).loc Cert.SmallReferenceIdeal.main_v311) = v12 c
          ∧ r.2.mem ((c.tc : Thread Cert.SmallReferenceIdeal.nD Cert.SmallReferenceIdeal.τ).loc Cert.SmallReferenceIdeal.main_v335) = v13 c
          ∧ r.2.mem ((c.tc : Thread Cert.SmallReferenceIdeal.nD Cert.SmallReferenceIdeal.τ).loc Cert.SmallReferenceIdeal.main_v359) = v14 c
          ∧ r.2.mem ((c.tc : Thread Cert.SmallReferenceIdeal.nD Cert.SmallReferenceIdeal.τ).loc Cert.SmallReferenceIdeal.main_v383) = v15 c
          ∧ r.2.mem ((c.tc : Thread Cert.SmallReferenceIdeal.nD Cert.SmallReferenceIdeal.τ).loc Cert.SmallReferenceIdeal.main_v4) = v16 c
          ∧ r.2.mem ((c.tc : Thread Cert.SmallReferenceIdeal.nD Cert.SmallReferenceIdeal.τ).loc Cert.SmallReferenceIdeal.main_v28) = v17 c
          ∧ r.2.mem ((c.tc : Thread Cert.SmallReferenceIdeal.nD Cert.SmallReferenceIdeal.τ).loc Cert.SmallReferenceIdeal.main_v52) = v18 c
          ∧ r.2.mem ((c.tc : Thread Cert.SmallReferenceIdeal.nD Cert.SmallReferenceIdeal.τ).loc Cert.SmallReferenceIdeal.main_v76) = v19 c
          ∧ r.2.mem ((c.tc : Thread Cert.SmallReferenceIdeal.nD Cert.SmallReferenceIdeal.τ).loc Cert.SmallReferenceIdeal.main_v100) = v20 c
          ∧ r.2.mem ((c.tc : Thread Cert.SmallReferenceIdeal.nD Cert.SmallReferenceIdeal.τ).loc Cert.SmallReferenceIdeal.main_v124) = v21 c
          ∧ r.2.mem ((c.tc : Thread Cert.SmallReferenceIdeal.nD Cert.SmallReferenceIdeal.τ).loc Cert.SmallReferenceIdeal.main_v148) = v22 c
          ∧ r.2.mem ((c.tc : Thread Cert.SmallReferenceIdeal.nD Cert.SmallReferenceIdeal.τ).loc Cert.SmallReferenceIdeal.main_v172) = v23 c
          ∧ r.2.mem ((c.tc : Thread Cert.SmallReferenceIdeal.nD Cert.SmallReferenceIdeal.τ).loc Cert.SmallReferenceIdeal.main_v196) = v24 c
          ∧ r.2.mem ((c.tc : Thread Cert.SmallReferenceIdeal.nD Cert.SmallReferenceIdeal.τ).loc Cert.SmallReferenceIdeal.main_v220) = v25 c
          ∧ r.2.mem ((c.tc : Thread Cert.SmallReferenceIdeal.nD Cert.SmallReferenceIdeal.τ).loc Cert.SmallReferenceIdeal.main_v244) = v26 c
          ∧ r.2.mem ((c.tc : Thread Cert.SmallReferenceIdeal.nD Cert.SmallReferenceIdeal.τ).loc Cert.SmallReferenceIdeal.main_v268) = v27 c
          ∧ r.2.mem ((c.tc : Thread Cert.SmallReferenceIdeal.nD Cert.SmallReferenceIdeal.τ).loc Cert.SmallReferenceIdeal.main_v292) = v28 c
          ∧ r.2.mem ((c.tc : Thread Cert.SmallReferenceIdeal.nD Cert.SmallReferenceIdeal.τ).loc Cert.SmallReferenceIdeal.main_v316) = v29 c
          ∧ r.2.mem ((c.tc : Thread Cert.SmallReferenceIdeal.nD Cert.SmallReferenceIdeal.τ).loc Cert.SmallReferenceIdeal.main_v340) = v30 c
          ∧ r.2.mem ((c.tc : Thread Cert.SmallReferenceIdeal.nD Cert.SmallReferenceIdeal.τ).loc Cert.SmallReferenceIdeal.main_v364) = v31 c
          ∧ r.2.mem ((c.tc : Thread Cert.SmallReferenceIdeal.nD Cert.SmallReferenceIdeal.τ).loc Cert.SmallReferenceIdeal.main_v10) = v32 c
          ∧ r.2.mem ((c.tc : Thread Cert.SmallReferenceIdeal.nD Cert.SmallReferenceIdeal.τ).loc Cert.SmallReferenceIdeal.main_v34) = v33 c
          ∧ r.2.mem ((c.tc : Thread Cert.SmallReferenceIdeal.nD Cert.SmallReferenceIdeal.τ).loc Cert.SmallReferenceIdeal.main_v58) = v34 c
          ∧ r.2.mem ((c.tc : Thread Cert.SmallReferenceIdeal.nD Cert.SmallReferenceIdeal.τ).loc Cert.SmallReferenceIdeal.main_v82) = v35 c
          ∧ r.2.mem ((c.tc : Thread Cert.SmallReferenceIdeal.nD Cert.SmallReferenceIdeal.τ).loc Cert.SmallReferenceIdeal.main_v106) = v36 c
          ∧ r.2.mem ((c.tc : Thread Cert.SmallReferenceIdeal.nD Cert.SmallReferenceIdeal.τ).loc Cert.SmallReferenceIdeal.main_v130) = v37 c
          ∧ r.2.mem ((c.tc : Thread Cert.SmallReferenceIdeal.nD Cert.SmallReferenceIdeal.τ).loc Cert.SmallReferenceIdeal.main_v154) = v38 c
          ∧ r.2.mem ((c.tc : Thread Cert.SmallReferenceIdeal.nD Cert.SmallReferenceIdeal.τ).loc Cert.SmallReferenceIdeal.main_v178) = v39 c
          ∧ r.2.mem ((c.tc : Thread Cert.SmallReferenceIdeal.nD Cert.SmallReferenceIdeal.τ).loc Cert.SmallReferenceIdeal.main_v202) = v40 c
          ∧ r.2.mem ((c.tc : Thread Cert.SmallReferenceIdeal.nD Cert.SmallReferenceIdeal.τ).loc Cert.SmallReferenceIdeal.main_v226) = v41 c
          ∧ r.2.mem ((c.tc : Thread Cert.SmallReferenceIdeal.nD Cert.SmallReferenceIdeal.τ).loc Cert.SmallReferenceIdeal.main_v250) = v42 c
          ∧ r.2.mem ((c.tc : Thread Cert.SmallReferenceIdeal.nD Cert.SmallReferenceIdeal.τ).loc Cert.SmallReferenceIdeal.main_v274) = v43 c
          ∧ r.2.mem ((c.tc : Thread Cert.SmallReferenceIdeal.nD Cert.SmallReferenceIdeal.τ).loc Cert.SmallReferenceIdeal.main_v298) = v44 c
          ∧ r.2.mem ((c.tc : Thread Cert.SmallReferenceIdeal.nD Cert.SmallReferenceIdeal.τ).loc Cert.SmallReferenceIdeal.main_v322) = v45 c
          ∧ r.2.mem ((c.tc : Thread Cert.SmallReferenceIdeal.nD Cert.SmallReferenceIdeal.τ).loc Cert.SmallReferenceIdeal.main_v346) = v46 c
          ∧ r.2.mem ((c.tc : Thread Cert.SmallReferenceIdeal.nD Cert.SmallReferenceIdeal.τ).loc Cert.SmallReferenceIdeal.main_v370) = v47 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24)
          ∧ r.2.mem ((c.tc : Thread Cert.SmallReferenceIdeal.nD Cert.SmallReferenceIdeal.τ).loc Cert.SmallReferenceIdeal.main_arg25) = m' ((c.tc : Thread Cert.SmallReferenceIdeal.nD Cert.SmallReferenceIdeal.τ).loc Cert.SmallReferenceIdeal.main_arg25)
          ∧ r.2.mem ((c.tc : Thread Cert.SmallReferenceIdeal.nD Cert.SmallReferenceIdeal.τ).loc Cert.SmallReferenceIdeal.main_arg26) = m' ((c.tc : Thread Cert.SmallReferenceIdeal.nD Cert.SmallReferenceIdeal.τ).loc Cert.SmallReferenceIdeal.main_arg26)
          ∧ r.2.mem ((c.tc : Thread Cert.SmallReferenceIdeal.nD Cert.SmallReferenceIdeal.τ).loc Cert.SmallReferenceIdeal.main_arg27) = m' ((c.tc : Thread Cert.SmallReferenceIdeal.nD Cert.SmallReferenceIdeal.τ).loc Cert.SmallReferenceIdeal.main_arg27)
          ∧ r.2.mem ((c.tc : Thread Cert.SmallReferenceIdeal.nD Cert.SmallReferenceIdeal.τ).loc Cert.SmallReferenceIdeal.main_arg28) = m' ((c.tc : Thread Cert.SmallReferenceIdeal.nD Cert.SmallReferenceIdeal.τ).loc Cert.SmallReferenceIdeal.main_arg28)
          ∧ r.2.mem ((c.tc : Thread Cert.SmallReferenceIdeal.nD Cert.SmallReferenceIdeal.τ).loc Cert.SmallReferenceIdeal.main_arg29) = m' ((c.tc : Thread Cert.SmallReferenceIdeal.nD Cert.SmallReferenceIdeal.τ).loc Cert.SmallReferenceIdeal.main_arg29)
          ∧ r.2.mem ((c.tc : Thread Cert.SmallReferenceIdeal.nD Cert.SmallReferenceIdeal.τ).loc Cert.SmallReferenceIdeal.main_arg30) = m' ((c.tc : Thread Cert.SmallReferenceIdeal.nD Cert.SmallReferenceIdeal.τ).loc Cert.SmallReferenceIdeal.main_arg30)
          ∧ r.2.mem ((c.tc : Thread Cert.SmallReferenceIdeal.nD Cert.SmallReferenceIdeal.τ).loc Cert.SmallReferenceIdeal.main_arg31) = m' ((c.tc : Thread Cert.SmallReferenceIdeal.nD Cert.SmallReferenceIdeal.τ).loc Cert.SmallReferenceIdeal.main_arg31)
          ∧ r.2.mem ((c.tc : Thread Cert.SmallReferenceIdeal.nD Cert.SmallReferenceIdeal.τ).loc Cert.SmallReferenceIdeal.main_arg32) = m' ((c.tc : Thread Cert.SmallReferenceIdeal.nD Cert.SmallReferenceIdeal.τ).loc Cert.SmallReferenceIdeal.main_arg32)
          ∧ r.2.mem ((c.tc : Thread Cert.SmallReferenceIdeal.nD Cert.SmallReferenceIdeal.τ).loc Cert.SmallReferenceIdeal.main_arg33) = m' ((c.tc : Thread Cert.SmallReferenceIdeal.nD Cert.SmallReferenceIdeal.τ).loc Cert.SmallReferenceIdeal.main_arg33)
          ∧ r.2.mem ((c.tc : Thread Cert.SmallReferenceIdeal.nD Cert.SmallReferenceIdeal.τ).loc Cert.SmallReferenceIdeal.main_arg34) = m' ((c.tc : Thread Cert.SmallReferenceIdeal.nD Cert.SmallReferenceIdeal.τ).loc Cert.SmallReferenceIdeal.main_arg34)
          ∧ r.2.mem ((c.tc : Thread Cert.SmallReferenceIdeal.nD Cert.SmallReferenceIdeal.τ).loc Cert.SmallReferenceIdeal.main_arg35) = m' ((c.tc : Thread Cert.SmallReferenceIdeal.nD Cert.SmallReferenceIdeal.τ).loc Cert.SmallReferenceIdeal.main_arg35)
          ∧ r.2.mem ((c.tc : Thread Cert.SmallReferenceIdeal.nD Cert.SmallReferenceIdeal.τ).loc Cert.SmallReferenceIdeal.main_arg36) = m' ((c.tc : Thread Cert.SmallReferenceIdeal.nD Cert.SmallReferenceIdeal.τ).loc Cert.SmallReferenceIdeal.main_arg36)
          ∧ r.2.mem ((c.tc : Thread Cert.SmallReferenceIdeal.nD Cert.SmallReferenceIdeal.τ).loc Cert.SmallReferenceIdeal.main_arg37) = m' ((c.tc : Thread Cert.SmallReferenceIdeal.nD Cert.SmallReferenceIdeal.τ).loc Cert.SmallReferenceIdeal.main_arg37)
          ∧ r.2.mem ((c.tc : Thread Cert.SmallReferenceIdeal.nD Cert.SmallReferenceIdeal.τ).loc Cert.SmallReferenceIdeal.main_arg38) = m' ((c.tc : Thread Cert.SmallReferenceIdeal.nD Cert.SmallReferenceIdeal.τ).loc Cert.SmallReferenceIdeal.main_arg38)
          ∧ r.2.mem ((c.tc : Thread Cert.SmallReferenceIdeal.nD Cert.SmallReferenceIdeal.τ).loc Cert.SmallReferenceIdeal.main_arg39) = m' ((c.tc : Thread Cert.SmallReferenceIdeal.nD Cert.SmallReferenceIdeal.τ).loc Cert.SmallReferenceIdeal.main_arg39)
          ∧ r.2.mem ((c.tc : Thread Cert.SmallReferenceIdeal.nD Cert.SmallReferenceIdeal.τ).loc Cert.SmallReferenceIdeal.main_arg40) = m' ((c.tc : Thread Cert.SmallReferenceIdeal.nD Cert.SmallReferenceIdeal.τ).loc Cert.SmallReferenceIdeal.main_arg40)
          ∧ r.2.mem ((c.tc : Thread Cert.SmallReferenceIdeal.nD Cert.SmallReferenceIdeal.τ).loc Cert.SmallReferenceIdeal.main_arg41) = m' ((c.tc : Thread Cert.SmallReferenceIdeal.nD Cert.SmallReferenceIdeal.τ).loc Cert.SmallReferenceIdeal.main_arg41)
          ∧ r.2.mem ((c.tc : Thread Cert.SmallReferenceIdeal.nD Cert.SmallReferenceIdeal.τ).loc Cert.SmallReferenceIdeal.main_arg42) = m' ((c.tc : Thread Cert.SmallReferenceIdeal.nD Cert.SmallReferenceIdeal.τ).loc Cert.SmallReferenceIdeal.main_arg42)
          ∧ r.2.mem ((c.tc : Thread Cert.SmallReferenceIdeal.nD Cert.SmallReferenceIdeal.τ).loc Cert.SmallReferenceIdeal.main_arg43) = m' ((c.tc : Thread Cert.SmallReferenceIdeal.nD Cert.SmallReferenceIdeal.τ).loc Cert.SmallReferenceIdeal.main_arg43)
          ∧ r.2.mem ((c.tc : Thread Cert.SmallReferenceIdeal.nD Cert.SmallReferenceIdeal.τ).loc Cert.SmallReferenceIdeal.main_arg44) = m' ((c.tc : Thread Cert.SmallReferenceIdeal.nD Cert.SmallReferenceIdeal.τ).loc Cert.SmallReferenceIdeal.main_arg44)
          ∧ r.2.mem ((c.tc : Thread Cert.SmallReferenceIdeal.nD Cert.SmallReferenceIdeal.τ).loc Cert.SmallReferenceIdeal.main_arg45) = m' ((c.tc : Thread Cert.SmallReferenceIdeal.nD Cert.SmallReferenceIdeal.τ).loc Cert.SmallReferenceIdeal.main_arg45)
          ∧ r.2.mem ((c.tc : Thread Cert.SmallReferenceIdeal.nD Cert.SmallReferenceIdeal.τ).loc Cert.SmallReferenceIdeal.main_arg46) = m' ((c.tc : Thread Cert.SmallReferenceIdeal.nD Cert.SmallReferenceIdeal.τ).loc Cert.SmallReferenceIdeal.main_arg46)
          ∧ r.2.mem ((c.tc : Thread Cert.SmallReferenceIdeal.nD Cert.SmallReferenceIdeal.τ).loc Cert.SmallReferenceIdeal.main_arg47) = m' ((c.tc : Thread Cert.SmallReferenceIdeal.nD Cert.SmallReferenceIdeal.τ).loc Cert.SmallReferenceIdeal.main_arg47)
          ∧ r.2.mem ((c.tc : Thread Cert.SmallReferenceIdeal.nD Cert.SmallReferenceIdeal.τ).loc Cert.SmallReferenceIdeal.main_arg48) = m' ((c.tc : Thread Cert.SmallReferenceIdeal.nD Cert.SmallReferenceIdeal.τ).loc Cert.SmallReferenceIdeal.main_arg48)
          ∧ r.2.mem ((c.tc : Thread Cert.SmallReferenceIdeal.nD Cert.SmallReferenceIdeal.τ).loc Cert.SmallReferenceIdeal.main_arg49) = m' ((c.tc : Thread Cert.SmallReferenceIdeal.nD Cert.SmallReferenceIdeal.τ).loc Cert.SmallReferenceIdeal.main_arg49)
          ∧ r.2.mem ((c.tc : Thread Cert.SmallReferenceIdeal.nD Cert.SmallReferenceIdeal.τ).loc Cert.SmallReferenceIdeal.main_arg50) = m' ((c.tc : Thread Cert.SmallReferenceIdeal.nD Cert.SmallReferenceIdeal.τ).loc Cert.SmallReferenceIdeal.main_arg50)
          ∧ r.2.mem ((c.tc : Thread Cert.SmallReferenceIdeal.nD Cert.SmallReferenceIdeal.τ).loc Cert.SmallReferenceIdeal.main_arg51) = m' ((c.tc : Thread Cert.SmallReferenceIdeal.nD Cert.SmallReferenceIdeal.τ).loc Cert.SmallReferenceIdeal.main_arg51)
          ∧ r.2.mem ((c.tc : Thread Cert.SmallReferenceIdeal.nD Cert.SmallReferenceIdeal.τ).loc Cert.SmallReferenceIdeal.main_arg52) = m' ((c.tc : Thread Cert.SmallReferenceIdeal.nD Cert.SmallReferenceIdeal.τ).loc Cert.SmallReferenceIdeal.main_arg52)
          ∧ r.2.mem ((c.tc : Thread Cert.SmallReferenceIdeal.nD Cert.SmallReferenceIdeal.τ).loc Cert.SmallReferenceIdeal.main_arg53) = m' ((c.tc : Thread Cert.SmallReferenceIdeal.nD Cert.SmallReferenceIdeal.τ).loc Cert.SmallReferenceIdeal.main_arg53)
          ∧ r.2.mem ((c.tc : Thread Cert.SmallReferenceIdeal.nD Cert.SmallReferenceIdeal.τ).loc Cert.SmallReferenceIdeal.main_arg54) = m' ((c.tc : Thread Cert.SmallReferenceIdeal.nD Cert.SmallReferenceIdeal.τ).loc Cert.SmallReferenceIdeal.main_arg54)
          ∧ r.2.mem ((c.tc : Thread Cert.SmallReferenceIdeal.nD Cert.SmallReferenceIdeal.τ).loc Cert.SmallReferenceIdeal.main_arg55) = m' ((c.tc : Thread Cert.SmallReferenceIdeal.nD Cert.SmallReferenceIdeal.τ).loc Cert.SmallReferenceIdeal.main_arg55)
          ∧ r.2.mem ((c.tc : Thread Cert.SmallReferenceIdeal.nD Cert.SmallReferenceIdeal.τ).loc Cert.SmallReferenceIdeal.main_arg56) = m' ((c.tc : Thread Cert.SmallReferenceIdeal.nD Cert.SmallReferenceIdeal.τ).loc Cert.SmallReferenceIdeal.main_arg56)
          ∧ r.2.mem ((c.tc : Thread Cert.SmallReferenceIdeal.nD Cert.SmallReferenceIdeal.τ).loc Cert.SmallReferenceIdeal.main_arg57) = m' ((c.tc : Thread Cert.SmallReferenceIdeal.nD Cert.SmallReferenceIdeal.τ).loc Cert.SmallReferenceIdeal.main_arg57)
          ∧ r.2.mem ((c.tc : Thread Cert.SmallReferenceIdeal.nD Cert.SmallReferenceIdeal.τ).loc Cert.SmallReferenceIdeal.main_arg58) = m' ((c.tc : Thread Cert.SmallReferenceIdeal.nD Cert.SmallReferenceIdeal.τ).loc Cert.SmallReferenceIdeal.main_arg58)
          ∧ r.2.mem ((c.tc : Thread Cert.SmallReferenceIdeal.nD Cert.SmallReferenceIdeal.τ).loc Cert.SmallReferenceIdeal.main_arg59) = m' ((c.tc : Thread Cert.SmallReferenceIdeal.nD Cert.SmallReferenceIdeal.τ).loc Cert.SmallReferenceIdeal.main_arg59)
          ∧ r.2.mem ((c.tc : Thread Cert.SmallReferenceIdeal.nD Cert.SmallReferenceIdeal.τ).loc Cert.SmallReferenceIdeal.main_arg60) = m' ((c.tc : Thread Cert.SmallReferenceIdeal.nD Cert.SmallReferenceIdeal.τ).loc Cert.SmallReferenceIdeal.main_arg60)
          ∧ r.2.mem ((c.tc : Thread Cert.SmallReferenceIdeal.nD Cert.SmallReferenceIdeal.τ).loc Cert.SmallReferenceIdeal.main_arg61) = m' ((c.tc : Thread Cert.SmallReferenceIdeal.nD Cert.SmallReferenceIdeal.τ).loc Cert.SmallReferenceIdeal.main_arg61)
          ∧ r.2.mem ((c.tc : Thread Cert.SmallReferenceIdeal.nD Cert.SmallReferenceIdeal.τ).loc Cert.SmallReferenceIdeal.main_arg62) = m' ((c.tc : Thread Cert.SmallReferenceIdeal.nD Cert.SmallReferenceIdeal.τ).loc Cert.SmallReferenceIdeal.main_arg62)
          ∧ r.2.mem ((c.tc : Thread Cert.SmallReferenceIdeal.nD Cert.SmallReferenceIdeal.τ).loc Cert.SmallReferenceIdeal.main_arg63) = m' ((c.tc : Thread Cert.SmallReferenceIdeal.nD Cert.SmallReferenceIdeal.τ).loc Cert.SmallReferenceIdeal.main_arg63))

def preserves_SumsKernel_SumsKernelIdeal : Prop :=
  True

def algebraic_SumsKernelIdeal_SumsReferenceIdeal [hSumsKernelIdeal : Cert.SumsKernelIdeal.Facts] [hSumsReferenceIdeal : Cert.SumsReferenceIdeal.Facts] : Prop :=
  ∀ (m : (ℓ : Loc Cert.SumsKernelIdeal.nD Cert.SumsKernelIdeal.τ Cert.SumsKernelIdeal.sig) → Buf (Elt Ideal) ℓ) (g : Dev Cert.SumsKernelIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsKernelIdeal m →
    (∀ c : Dev Cert.SumsKernelIdeal.nD,
      m' ((c.tc : Thread Cert.SumsReferenceIdeal.nD Cert.SumsReferenceIdeal.τ).loc Cert.SumsReferenceIdeal.main_arg0) = m ((c.tc : Thread Cert.SumsKernelIdeal.nD Cert.SumsKernelIdeal.τ).loc Cert.SumsKernelIdeal.main_arg0)
      ∧ m' ((c.tc : Thread Cert.SumsReferenceIdeal.nD Cert.SumsReferenceIdeal.τ).loc Cert.SumsReferenceIdeal.main_arg1) = m ((c.tc : Thread Cert.SumsKernelIdeal.nD Cert.SumsKernelIdeal.τ).loc Cert.SumsKernelIdeal.main_arg1)) →
    ∃ (v0 : (c : Dev Cert.SumsKernelIdeal.nD) → Buf (Elt Ideal) ((c.tc : Thread Cert.SumsKernelIdeal.nD Cert.SumsKernelIdeal.τ).loc Cert.SumsKernelIdeal.main_v42)) (v1 : (c : Dev Cert.SumsKernelIdeal.nD) → Buf (Elt Ideal) ((c.tc : Thread Cert.SumsKernelIdeal.nD Cert.SumsKernelIdeal.τ).loc Cert.SumsKernelIdeal.main_v45)) (v2 : (c : Dev Cert.SumsKernelIdeal.nD) → Buf (Elt Ideal) ((c.tc : Thread Cert.SumsKernelIdeal.nD Cert.SumsKernelIdeal.τ).loc Cert.SumsKernelIdeal.main_v48)) (v3 : (c : Dev Cert.SumsKernelIdeal.nD) → Buf (Elt Ideal) ((c.tc : Thread Cert.SumsKernelIdeal.nD Cert.SumsKernelIdeal.τ).loc Cert.SumsKernelIdeal.main_v51)) (v4 : (c : Dev Cert.SumsKernelIdeal.nD) → Buf (Elt Ideal) ((c.tc : Thread Cert.SumsKernelIdeal.nD Cert.SumsKernelIdeal.τ).loc Cert.SumsKernelIdeal.main_v54)) (v5 : (c : Dev Cert.SumsKernelIdeal.nD) → Buf (Elt Ideal) ((c.tc : Thread Cert.SumsKernelIdeal.nD Cert.SumsKernelIdeal.τ).loc Cert.SumsKernelIdeal.main_v57)) (v6 : (c : Dev Cert.SumsKernelIdeal.nD) → Buf (Elt Ideal) ((c.tc : Thread Cert.SumsKernelIdeal.nD Cert.SumsKernelIdeal.τ).loc Cert.SumsKernelIdeal.main_v60)) (v7 : (c : Dev Cert.SumsKernelIdeal.nD) → Buf (Elt Ideal) ((c.tc : Thread Cert.SumsKernelIdeal.nD Cert.SumsKernelIdeal.τ).loc Cert.SumsKernelIdeal.main_v63)) (v8 : (c : Dev Cert.SumsKernelIdeal.nD) → Buf (Elt Ideal) ((c.tc : Thread Cert.SumsKernelIdeal.nD Cert.SumsKernelIdeal.τ).loc Cert.SumsKernelIdeal.main_v66)) (v9 : (c : Dev Cert.SumsKernelIdeal.nD) → Buf (Elt Ideal) ((c.tc : Thread Cert.SumsKernelIdeal.nD Cert.SumsKernelIdeal.τ).loc Cert.SumsKernelIdeal.main_v69)) (v10 : (c : Dev Cert.SumsKernelIdeal.nD) → Buf (Elt Ideal) ((c.tc : Thread Cert.SumsKernelIdeal.nD Cert.SumsKernelIdeal.τ).loc Cert.SumsKernelIdeal.main_v72)) (v11 : (c : Dev Cert.SumsKernelIdeal.nD) → Buf (Elt Ideal) ((c.tc : Thread Cert.SumsKernelIdeal.nD Cert.SumsKernelIdeal.τ).loc Cert.SumsKernelIdeal.main_v75)) (v12 : (c : Dev Cert.SumsKernelIdeal.nD) → Buf (Elt Ideal) ((c.tc : Thread Cert.SumsKernelIdeal.nD Cert.SumsKernelIdeal.τ).loc Cert.SumsKernelIdeal.main_v78)) (v13 : (c : Dev Cert.SumsKernelIdeal.nD) → Buf (Elt Ideal) ((c.tc : Thread Cert.SumsKernelIdeal.nD Cert.SumsKernelIdeal.τ).loc Cert.SumsKernelIdeal.main_v81)) (v14 : (c : Dev Cert.SumsKernelIdeal.nD) → Buf (Elt Ideal) ((c.tc : Thread Cert.SumsKernelIdeal.nD Cert.SumsKernelIdeal.τ).loc Cert.SumsKernelIdeal.main_v19)) (v15 : (c : Dev Cert.SumsKernelIdeal.nD) → Buf (Elt Ideal) ((c.tc : Thread Cert.SumsKernelIdeal.nD Cert.SumsKernelIdeal.τ).loc Cert.SumsKernelIdeal.main_v82)),
      θ_run (Cert.SumsKernelIdeal.defs (F := Ideal)) (onTc (τ := Cert.SumsKernelIdeal.τ) (Cert.SumsKernelIdeal.main (F := Ideal))) ⟨m, fun _ => 0, g⟩ (fun r => ∀ c : Dev Cert.SumsKernelIdeal.nD,
          r.2.mem ((c.tc : Thread Cert.SumsKernelIdeal.nD Cert.SumsKernelIdeal.τ).loc Cert.SumsKernelIdeal.main_v42) = v0 c
          ∧ r.2.mem ((c.tc : Thread Cert.SumsKernelIdeal.nD Cert.SumsKernelIdeal.τ).loc Cert.SumsKernelIdeal.main_v45) = v1 c
          ∧ r.2.mem ((c.tc : Thread Cert.SumsKernelIdeal.nD Cert.SumsKernelIdeal.τ).loc Cert.SumsKernelIdeal.main_v48) = v2 c
          ∧ r.2.mem ((c.tc : Thread Cert.SumsKernelIdeal.nD Cert.SumsKernelIdeal.τ).loc Cert.SumsKernelIdeal.main_v51) = v3 c
          ∧ r.2.mem ((c.tc : Thread Cert.SumsKernelIdeal.nD Cert.SumsKernelIdeal.τ).loc Cert.SumsKernelIdeal.main_v54) = v4 c
          ∧ r.2.mem ((c.tc : Thread Cert.SumsKernelIdeal.nD Cert.SumsKernelIdeal.τ).loc Cert.SumsKernelIdeal.main_v57) = v5 c
          ∧ r.2.mem ((c.tc : Thread Cert.SumsKernelIdeal.nD Cert.SumsKernelIdeal.τ).loc Cert.SumsKernelIdeal.main_v60) = v6 c
          ∧ r.2.mem ((c.tc : Thread Cert.SumsKernelIdeal.nD Cert.SumsKernelIdeal.τ).loc Cert.SumsKernelIdeal.main_v63) = v7 c
          ∧ r.2.mem ((c.tc : Thread Cert.SumsKernelIdeal.nD Cert.SumsKernelIdeal.τ).loc Cert.SumsKernelIdeal.main_v66) = v8 c
          ∧ r.2.mem ((c.tc : Thread Cert.SumsKernelIdeal.nD Cert.SumsKernelIdeal.τ).loc Cert.SumsKernelIdeal.main_v69) = v9 c
          ∧ r.2.mem ((c.tc : Thread Cert.SumsKernelIdeal.nD Cert.SumsKernelIdeal.τ).loc Cert.SumsKernelIdeal.main_v72) = v10 c
          ∧ r.2.mem ((c.tc : Thread Cert.SumsKernelIdeal.nD Cert.SumsKernelIdeal.τ).loc Cert.SumsKernelIdeal.main_v75) = v11 c
          ∧ r.2.mem ((c.tc : Thread Cert.SumsKernelIdeal.nD Cert.SumsKernelIdeal.τ).loc Cert.SumsKernelIdeal.main_v78) = v12 c
          ∧ r.2.mem ((c.tc : Thread Cert.SumsKernelIdeal.nD Cert.SumsKernelIdeal.τ).loc Cert.SumsKernelIdeal.main_v81) = v13 c
          ∧ r.2.mem ((c.tc : Thread Cert.SumsKernelIdeal.nD Cert.SumsKernelIdeal.τ).loc Cert.SumsKernelIdeal.main_v19) = v14 c
          ∧ r.2.mem ((c.tc : Thread Cert.SumsKernelIdeal.nD Cert.SumsKernelIdeal.τ).loc Cert.SumsKernelIdeal.main_v82) = v15 c
          ∧ r.2.mem ((c.tc : Thread Cert.SumsKernelIdeal.nD Cert.SumsKernelIdeal.τ).loc Cert.SumsKernelIdeal.main_arg0) = m ((c.tc : Thread Cert.SumsKernelIdeal.nD Cert.SumsKernelIdeal.τ).loc Cert.SumsKernelIdeal.main_arg0)
          ∧ r.2.mem ((c.tc : Thread Cert.SumsKernelIdeal.nD Cert.SumsKernelIdeal.τ).loc Cert.SumsKernelIdeal.main_arg1) = m ((c.tc : Thread Cert.SumsKernelIdeal.nD Cert.SumsKernelIdeal.τ).loc Cert.SumsKernelIdeal.main_arg1))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v8) = v0 c
          ∧ r.2.mem ((c.tc : Thread Cert.SumsReferenceIdeal.nD Cert.SumsReferenceIdeal.τ).loc Cert.SumsReferenceIdeal.main_v13) = v1 c
          ∧ r.2.mem ((c.tc : Thread Cert.SumsReferenceIdeal.nD Cert.SumsReferenceIdeal.τ).loc Cert.SumsReferenceIdeal.main_v18) = v2 c
          ∧ r.2.mem ((c.tc : Thread Cert.SumsReferenceIdeal.nD Cert.SumsReferenceIdeal.τ).loc Cert.SumsReferenceIdeal.main_v23) = v3 c
          ∧ r.2.mem ((c.tc : Thread Cert.SumsReferenceIdeal.nD Cert.SumsReferenceIdeal.τ).loc Cert.SumsReferenceIdeal.main_v28) = v4 c
          ∧ r.2.mem ((c.tc : Thread Cert.SumsReferenceIdeal.nD Cert.SumsReferenceIdeal.τ).loc Cert.SumsReferenceIdeal.main_v33) = v5 c
          ∧ r.2.mem ((c.tc : Thread Cert.SumsReferenceIdeal.nD Cert.SumsReferenceIdeal.τ).loc Cert.SumsReferenceIdeal.main_v38) = v6 c
          ∧ r.2.mem ((c.tc : Thread Cert.SumsReferenceIdeal.nD Cert.SumsReferenceIdeal.τ).loc Cert.SumsReferenceIdeal.main_v43) = v7 c
          ∧ r.2.mem ((c.tc : Thread Cert.SumsReferenceIdeal.nD Cert.SumsReferenceIdeal.τ).loc Cert.SumsReferenceIdeal.main_v48) = v8 c
          ∧ r.2.mem ((c.tc : Thread Cert.SumsReferenceIdeal.nD Cert.SumsReferenceIdeal.τ).loc Cert.SumsReferenceIdeal.main_v53) = v9 c
          ∧ r.2.mem ((c.tc : Thread Cert.SumsReferenceIdeal.nD Cert.SumsReferenceIdeal.τ).loc Cert.SumsReferenceIdeal.main_v58) = v10 c
          ∧ r.2.mem ((c.tc : Thread Cert.SumsReferenceIdeal.nD Cert.SumsReferenceIdeal.τ).loc Cert.SumsReferenceIdeal.main_v65) = v11 c
          ∧ r.2.mem ((c.tc : Thread Cert.SumsReferenceIdeal.nD Cert.SumsReferenceIdeal.τ).loc Cert.SumsReferenceIdeal.main_v72) = v12 c
          ∧ r.2.mem ((c.tc : Thread Cert.SumsReferenceIdeal.nD Cert.SumsReferenceIdeal.τ).loc Cert.SumsReferenceIdeal.main_v79) = v13 c
          ∧ r.2.mem ((c.tc : Thread Cert.SumsReferenceIdeal.nD Cert.SumsReferenceIdeal.τ).loc Cert.SumsReferenceIdeal.main_v80) = v14 c
          ∧ r.2.mem ((c.tc : Thread Cert.SumsReferenceIdeal.nD Cert.SumsReferenceIdeal.τ).loc Cert.SumsReferenceIdeal.main_v82) = v15 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0)
          ∧ r.2.mem ((c.tc : Thread Cert.SumsReferenceIdeal.nD Cert.SumsReferenceIdeal.τ).loc Cert.SumsReferenceIdeal.main_arg1) = m' ((c.tc : Thread Cert.SumsReferenceIdeal.nD Cert.SumsReferenceIdeal.τ).loc Cert.SumsReferenceIdeal.main_arg1))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hProjKernel : Cert.ProjKernel.Facts) (hProjKernelIdeal : Cert.ProjKernelIdeal.Facts) (hProjReferenceIdeal : Cert.ProjReferenceIdeal.Facts) (hAdamwKernel : Cert.AdamwKernel.Facts) (hAdamwKernelIdeal : Cert.AdamwKernelIdeal.Facts) (hAdamwReferenceIdeal : Cert.AdamwReferenceIdeal.Facts) (hAdamwFfKernel : Cert.AdamwFfKernel.Facts) (hAdamwFfKernelIdeal : Cert.AdamwFfKernelIdeal.Facts) (hAdamwFfReferenceIdeal : Cert.AdamwFfReferenceIdeal.Facts) (hSmallKernel : Cert.SmallKernel.Facts) (hSmallKernelIdeal : Cert.SmallKernelIdeal.Facts) (hSmallReferenceIdeal : Cert.SmallReferenceIdeal.Facts) (hSumsKernel : Cert.SumsKernel.Facts) (hSumsKernelIdeal : Cert.SumsKernelIdeal.Facts) (hSumsReferenceIdeal : Cert.SumsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_AdamwFfKernel (hAdamwFfKernel := hAdamwFfKernel)
    ∧ quiescent_AdamwFfKernelIdeal (hAdamwFfKernelIdeal := hAdamwFfKernelIdeal)
    ∧ quiescent_AdamwFfReferenceIdeal (hAdamwFfReferenceIdeal := hAdamwFfReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_SumsKernel (hSumsKernel := hSumsKernel)
    ∧ quiescent_SumsKernelIdeal (hSumsKernelIdeal := hSumsKernelIdeal)
    ∧ quiescent_SumsReferenceIdeal (hSumsReferenceIdeal := hSumsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpKernel_MlpKernelIdeal
    ∧ algebraic_MlpKernelIdeal_MlpReferenceIdeal (hMlpKernelIdeal := hMlpKernelIdeal) (hMlpReferenceIdeal := hMlpReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_AdamwFfKernel_AdamwFfKernelIdeal
    ∧ algebraic_AdamwFfKernelIdeal_AdamwFfReferenceIdeal (hAdamwFfKernelIdeal := hAdamwFfKernelIdeal) (hAdamwFfReferenceIdeal := hAdamwFfReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_SumsKernel_SumsKernelIdeal
    ∧ algebraic_SumsKernelIdeal_SumsReferenceIdeal (hSumsKernelIdeal := hSumsKernelIdeal) (hSumsReferenceIdeal := hSumsReferenceIdeal)
-- ==== Pre_finite.lean ====
abbrev S2x2304x512 : Shape := ⟨3, ![2, 2304, 512]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel

variable [Facts]

def fn_part1 {F : FTy → Type} [FloatOps F] (main_arg4 : FVec F S2x2304x512 .f32) (main_arg5 : FVec F S2x2304x512 .f32) (main_v13 : IVec S_ 1) (main_v16 : IVec S2x2304x512 1) : IVec S_ 1 :=
  let main_c_5 : IVec S_ 1 := constantI S_ 1 1#1
  let main_v17 : IVec S_ 1 := (fun x v => Host.reduce IntOp.andi x v reducesTo_S2x2304x512_S_d0_1_2 h_S_) main_v16 main_c_5
  let main_v18 : IVec S_ 1 := andi main_v13 main_v17
  let main_v19 : FVec F S2x2304x512 .f32 := Host.absf main_arg4
  let main_cst_6 : FVec F S_ .f32 := constant S_ .f32 0x7F800000#32
  let main_v20 : FVec F S2x2304x512 .f32 := broadcastInDim S2x2304x512 ![] bcast_S_S2x2304x512 main_cst_6
  let main_v21 : IVec S2x2304x512 1 := cmpf .olt main_v19 main_v20
  let main_c_7 : IVec S_ 1 := constantI S_ 1 1#1
  let main_v22 : IVec S_ 1 := (fun x v => Host.reduce IntOp.andi x v reducesTo_S2x2304x512_S_d0_1_2 h_S_) main_v21 main_c_7
  let main_v23 : IVec S_ 1 := andi main_v18 main_v22
  let main_v24 : FVec F S2x2304x512 .f32 := Host.absf main_arg5
  let main_cst_8 : FVec F S_ .f32 := constant S_ .f32 0x7F800000#32
  let main_v25 : FVec F S2x2304x512 .f32 := broadcastInDim S2x2304x512 ![] bcast_S_S2x2304x512 main_cst_8
  let main_v26 : IVec S2x2304x512 1 := cmpf .olt main_v24 main_v25
  let main_c_9 : IVec S_ 1 := constantI S_ 1 1#1
  let main_v27 : IVec S_ 1 := (fun x v => Host.reduce IntOp.andi x v reducesTo_S2x2304x512_S_d0_1_2 h_S_) main_v26 main_c_9
  let main_v28 : IVec S_ 1 := andi main_v23 main_v27
  main_v28

def fn {F : FTy → Type} [FloatOps F] (main_arg0 : FVec F S2x2304x512 .f32) (main_arg1 : FVec F S2x2304x512 .f32) (main_arg2 : FVec F S2x2304x512 .f32) (main_arg3 : FVec F S2x2304x512 .f32) (main_arg4 : FVec F S2x2304x512 .f32) (main_arg5 : FVec F S2x2304x512 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := Host.absf main_arg1
  let main_cst_0 : FVec F S_ .f32 := constant S_ .f32 0x7F800000#32
  let main_v5 : FVec F S2x2304x512 .f32 := broadcastInDim S2x2304x512 ![] bcast_S_S2x2304x512 main_cst_0
  let main_v6 : IVec S2x2304x512 1 := cmpf .olt main_v4 main_v5
  let main_c_1 : IVec S_ 1 := constantI S_ 1 1#1
  let main_v7 : IVec S_ 1 := (fun x v => Host.reduce IntOp.andi x v reducesTo_S2x2304x512_S_d0_1_2 h_S_) main_v6 main_c_1
  let main_v8 : IVec S_ 1 := andi main_v3 main_v7
  let main_v9 : FVec F S2x2304x512 .f32 := Host.absf main_arg2
  let main_cst_2 : FVec F S_ .f32 := constant S_ .f32 0x7F800000#32
  let main_v10 : FVec F S2x2304x512 .f32 := broadcastInDim S2x2304x512 ![] bcast_S_S2x2304x512 main_cst_2
  let main_v11 : IVec S2x2304x512 1 := cmpf .olt main_v9 main_v10
  let main_c_3 : IVec S_ 1 := constantI S_ 1 1#1
  let main_v12 : IVec S_ 1 := (fun x v => Host.reduce IntOp.andi x v reducesTo_S2x2304x512_S_d0_1_2 h_S_) main_v11 main_c_3
  let main_v13 : IVec S_ 1 := andi main_v8 main_v12
  let main_v14 : FVec F S2x2304x512 .f32 := Host.absf main_arg3
  let main_cst_4 : FVec F S_ .f32 := constant S_ .f32 0x7F800000#32
  let main_v15 : FVec F S2x2304x512 .f32 := broadcastInDim S2x2304x512 ![] bcast_S_S2x2304x512 main_cst_4
  let main_v16 : IVec S2x2304x512 1 := cmpf .olt main_v14 main_v15
  fn_part1 (F := F) main_arg4 main_arg5 main_v13 main_v16
-- ==== Kernel.lean ====
abbrev S2x2304x512 : Shape := ⟨3, ![2, 2304, 512]⟩
abbrev S1x2304x256 : Shape := ⟨3, ![1, 2304, 256]⟩
abbrev S2304x256 : Shape := ⟨2, ![2304, 256]⟩
abbrev S1x256 : Shape := ⟨2, ![1, 256]⟩
abbrev S8x256 : Shape := ⟨2, ![8, 256]⟩
abbrev S1x2304x128 : Shape := ⟨3, ![1, 2304, 128]⟩
abbrev S2304x128 : Shape := ⟨2, ![2304, 128]⟩
abbrev S1x128 : Shape := ⟨2, ![1, 128]⟩
abbrev S8x128 : Shape := ⟨2, ![8, 128]⟩

abbrev nBuf : Space → Nat
  | .hbm => 12
  | .vmem => 44
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S2x2304x512, .f32⟩
  | .hbm, ⟨5, _⟩ => ⟨S2x2304x512, .f32⟩
  | .hbm, ⟨6, _⟩ => ⟨S2x2304x512, .f32⟩
  | .hbm, ⟨7, _⟩ => ⟨S2x2304x512, .f32⟩
  | .hbm, ⟨8, _⟩ => ⟨S2x2304x512, .f32⟩
  | .hbm, ⟨9, _⟩ => ⟨S2x2304x512, .f32⟩
  | .hbm, ⟨10, _⟩ => ⟨S2x2304x512, .f32⟩
  | .hbm, ⟨11, _⟩ => ⟨S2x2304x512, .f32⟩
  | .local _ .vmem, ⟨0, _⟩ => ⟨S1x2304x256, .f32⟩
  | .local _ .vmem, ⟨1, _⟩ => ⟨S1x2304x256, .f32⟩
  | .local _ .vmem, ⟨2, _⟩ => ⟨S1x2304x256, .f32⟩
  | .local _ .vmem, ⟨3, _⟩ => ⟨S1x2304x256, .f32⟩
  | .local _ .vmem, ⟨4, _⟩ => ⟨S1x2304x256, .f32⟩
  | .local _ .vmem, ⟨5, _⟩ => ⟨S1x2304x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .f32⟩
  | .local _ .vmem, ⟨9, _⟩ => ⟨S1x2304x256, .f32⟩
  | .local _ .vmem, ⟨10, _⟩ => ⟨S1x2304x256, .f32⟩
  | .local _ .vmem, ⟨11, _⟩ => ⟨S1x2304x256, .f32⟩
  | .local _ .vmem, ⟨12, _⟩ => ⟨S2304x256, .f32⟩
  | .local _ .vmem, ⟨13, _⟩ => ⟨S2304x256, .f32⟩
  | .local _ .vmem, ⟨14, _⟩ => ⟨S2304x256, .f32⟩
  | .local _ .vmem, ⟨15, _⟩ => ⟨S2304x256, .f32⟩
  | .local _ .vmem, ⟨16, _⟩ => ⟨S2304x256, .f32⟩
  | .local _ .vmem, ⟨17, _⟩ => ⟨S2304x256, .f32⟩
  | .local _ .vmem, ⟨18, _⟩ => ⟨S1x2304x128, .f32⟩
  | .local _ .vmem, ⟨19, _⟩ => ⟨S1x2304x128, .f32⟩
  | .local _ .vmem, ⟨20, _⟩ => ⟨S1x2304x128, .f32⟩
  | .local _ .vmem, ⟨21, _⟩ => ⟨S1x2304x128, .f32⟩
  | .local _ .vmem, ⟨22, _⟩ => ⟨S1x2304x128, .f32⟩
  | .local _ .vmem, ⟨23, _⟩ => ⟨S1x2304x128, .f32⟩
  | .local _ .vmem, ⟨24, _⟩ => ⟨S1x2304x128, .f32⟩
  | .local _ .vmem, ⟨25, _⟩ => ⟨S1x2304x128, .f32⟩
  | .local _ .vmem, ⟨26, _⟩ => ⟨S1x2304x128, .f32⟩
  | .local _ .vmem, ⟨27, _⟩ => ⟨S1x2304x128, .f32⟩
  | .local _ .vmem, ⟨28, _⟩ => ⟨S1x2304x128, .f32⟩
  | .local _ .vmem, ⟨29, _⟩ => ⟨S1x2304x128, .f32⟩
  | .local _ .vmem, ⟨30, _⟩ => ⟨S1x2304x128, .f32⟩
  | .local _ .vmem, ⟨31, _⟩ => ⟨S1x2304x128, .f32⟩
  | .local _ .vmem, ⟨32, _⟩ => ⟨S1x2304x128, .f32⟩
  | .local _ .vmem, ⟨33, _⟩ => ⟨S1x2304x128, .f32⟩
  | .local _ .vmem, ⟨34, _⟩ => ⟨S1x2304x128, .f32⟩
  | .local _ .vmem, ⟨35, _⟩ => ⟨S1x2304x128, .f32⟩
  | .local _ .vmem, ⟨36, _⟩ => ⟨S1x2304x128, .f32⟩
  | .local _ .vmem, ⟨37, _⟩ => ⟨S1x2304x128, .f32⟩
  | .local _ .vmem, ⟨38, _⟩ => ⟨S2304x128, .f32⟩
  | .local _ .vmem, ⟨39, _⟩ => ⟨S2304x128, .f32⟩
  | .local _ .vmem, ⟨40, _⟩ => ⟨S2304x128, .f32⟩
  | .local _ .vmem, ⟨41, _⟩ => ⟨S2304x128, .f32⟩
  | .local _ .vmem, ⟨42, _⟩ => ⟨S2304x128, .f32⟩
  | .local _ .vmem, ⟨43, _⟩ => ⟨S2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_scratch0 : Ref sig .tc := ⟨.vmem, 38, rfl⟩
abbrev cc1_scratch1 : Ref sig .tc := ⟨.vmem, 39, rfl⟩
abbrev cc1_scratch2 : Ref sig .tc := ⟨.vmem, 40, rfl⟩
abbrev cc1_scratch3 : Ref sig .tc := ⟨.vmem, 41, rfl⟩
abbrev cc1_scratch4 : Ref sig .tc := ⟨.vmem, 42, rfl⟩
abbrev cc1_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_33 : BitVec 32 := 0#32
  let c288_i32 : BitVec 32 := 288#32
  let v92 : BitVec 32 := Scalar.addi c0_i32_33 c288_i32
  let c1_i32_34 : BitVec 32 := 1#32
  ⟨c0_i32_33, v92, c1_i32_34⟩
def k0_mult1 (k0_t1 : Fin k0_t1_loop.trips) : BitVec 32 :=
  let c0_i32_33 : BitVec 32 := 0#32
  let c1_i32_34 : BitVec 32 := 1#32
  let arg14 : BitVec 32 := Scf.iv c0_i32_33 c1_i32_34 k0_t1
  let c8_i32_54 : BitVec 32 := 8#32
  let v110 : BitVec 32 := Scalar.muli arg14 c8_i32_54
  v110
def k0_off1 (k0_t1 : Fin k0_t1_loop.trips) : Fin 2 → Nat :=
  let c0_i32_33 : BitVec 32 := 0#32
  let c1_i32_34 : BitVec 32 := 1#32
  let arg14 : BitVec 32 := Scf.iv c0_i32_33 c1_i32_34 k0_t1
  let c8_i32_54 : BitVec 32 := 8#32
  let v110 : BitVec 32 := Scalar.muli arg14 c8_i32_54
  let v111 : BitVec 32 := v110
  let v114 : Index := Scalar.indexCast v111
  let c0_55 : Index := 0#32
  ![v114.toNat, 0]
def k0_off2 (k0_t1 : Fin k0_t1_loop.trips) : Fin 2 → Nat :=
  let c0_i32_33 : BitVec 32 := 0#32
  let c1_i32_34 : BitVec 32 := 1#32
  let arg14 : BitVec 32 := Scf.iv c0_i32_33 c1_i32_34 k0_t1
  let c8_i32_54 : BitVec 32 := 8#32
  let v110 : BitVec 32 := Scalar.muli arg14 c8_i32_54
  let v111 : BitVec 32 := v110
  let c7_i32_56 : BitVec 32 := 7#32
  let v118 : BitVec 32 := Scalar.addi v111 c7_i32_56
  let v119 : Index := Scalar.indexCast v118
  let c0_57 : Index := 0#32
  ![v119.toNat, 0]
def k0_mult2 (k0_t1 : Fin k0_t1_loop.trips) : BitVec 32 :=
  let c287_i32 : BitVec 32 := 287#32
  let c0_i32_33 : BitVec 32 := 0#32
  let c1_i32_34 : BitVec 32 := 1#32
  let arg14 : BitVec 32 := Scf.iv c0_i32_33 c1_i32_34 k0_t1
  let v125 : BitVec 32 := Scalar.subi c287_i32 arg14
  let c8_i32_59 : BitVec 32 := 8#32
  let v126 : BitVec 32 := Scalar.muli v125 c8_i32_59
  v126
def k0_off3 (k0_t1 : Fin k0_t1_loop.trips) : Fin 2 → Nat :=
  let c287_i32 : BitVec 32 := 287#32
  let c0_i32_33 : BitVec 32 := 0#32
  let c1_i32_34 : BitVec 32 := 1#32
  let arg14 : BitVec 32 := Scf.iv c0_i32_33 c1_i32_34 k0_t1
  let v125 : BitVec 32 := Scalar.subi c287_i32 arg14
  let c8_i32_59 : BitVec 32 := 8#32
  let v126 : BitVec 32 := Scalar.muli v125 c8_i32_59
  let v127 : BitVec 32 := v126
  let v130 : Index := Scalar.indexCast v127
  let c0_60 : Index := 0#32
  ![v130.toNat, 0]
def k0_off4 (k0_t1 : Fin k0_t1_loop.trips) : Fin 2 → Nat :=
  let c287_i32 : BitVec 32 := 287#32
  let c0_i32_33 : BitVec 32 := 0#32
  let c1_i32_34 : BitVec 32 := 1#32
  let arg14 : BitVec 32 := Scf.iv c0_i32_33 c1_i32_34 k0_t1
  let v125 : BitVec 32 := Scalar.subi c287_i32 arg14
  let c8_i32_59 : BitVec 32 := 8#32
  let v126 : BitVec 32 := Scalar.muli v125 c8_i32_59
  let v127 : BitVec 32 := v126
  let c0_i32_61 : BitVec 32 := 0#32
  let v134 : BitVec 32 := Scalar.addi v127 c0_i32_61
  let v135 : Index := Scalar.indexCast v134
  let c0_62 : Index := 0#32
  ![v135.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

@[reducible] def k1_t1_loop : Scf.Loop 32 :=
  let c0_i32_39 : BitVec 32 := 0#32
  let c288_i32 : BitVec 32 := 288#32
  let v104 : BitVec 32 := Scalar.addi c0_i32_39 c288_i32
  let c1_i32_40 : BitVec 32 := 1#32
  ⟨c0_i32_39, v104, c1_i32_40⟩
def k1_mult1 (k1_t1 : Fin k1_t1_loop.trips) : BitVec 32 :=
  let c287_i32 : BitVec 32 := 287#32
  let c0_i32_39 : BitVec 32 := 0#32
  let c1_i32_40 : BitVec 32 := 1#32
  let arg18 : BitVec 32 := Scf.iv c0_i32_39 c1_i32_40 k1_t1
  let v146 : BitVec 32 := Scalar.subi c287_i32 arg18
  let c8_i32_78 : BitVec 32 := 8#32
  let v147 : BitVec 32 := Scalar.muli v146 c8_i32_78
  v147
def k1_off1 (k1_t1 : Fin k1_t1_loop.trips) : Fin 2 → Nat :=
  let c287_i32 : BitVec 32 := 287#32
  let c0_i32_39 : BitVec 32 := 0#32
  let c1_i32_40 : BitVec 32 := 1#32
  let arg18 : BitVec 32 := Scf.iv c0_i32_39 c1_i32_40 k1_t1
  let v146 : BitVec 32 := Scalar.subi c287_i32 arg18
  let c8_i32_78 : BitVec 32 := 8#32
  let v147 : BitVec 32 := Scalar.muli v146 c8_i32_78
  let v148 : BitVec 32 := v147
  let v151 : Index := Scalar.indexCast v148
  let c0_79 : Index := 0#32
  ![v151.toNat, 0]
def k1_off2 (k1_t1 : Fin k1_t1_loop.trips) : Fin 2 → Nat :=
  let c287_i32 : BitVec 32 := 287#32
  let c0_i32_39 : BitVec 32 := 0#32
  let c1_i32_40 : BitVec 32 := 1#32
  let arg18 : BitVec 32 := Scf.iv c0_i32_39 c1_i32_40 k1_t1
  let v146 : BitVec 32 := Scalar.subi c287_i32 arg18
  let c8_i32_78 : BitVec 32 := 8#32
  let v147 : BitVec 32 := Scalar.muli v146 c8_i32_78
  let v148 : BitVec 32 := v147
  let c0_i32_80 : BitVec 32 := 0#32
  let v155 : BitVec 32 := Scalar.addi v148 c0_i32_80
  let v156 : Index := Scalar.indexCast v155
  let c0_81 : Index := 0#32
  ![v156.toNat, 0]
def k1_mult2 (k1_t1 : Fin k1_t1_loop.trips) : BitVec 32 :=
  let c0_i32_39 : BitVec 32 := 0#32
  let c1_i32_40 : BitVec 32 := 1#32
  let arg18 : BitVec 32 := Scf.iv c0_i32_39 c1_i32_40 k1_t1
  let c8_i32_83 : BitVec 32 := 8#32
  let v162 : BitVec 32 := Scalar.muli arg18 c8_i32_83
  v162
def k1_off3 (k1_t1 : Fin k1_t1_loop.trips) : Fin 2 → Nat :=
  let c0_i32_39 : BitVec 32 := 0#32
  let c1_i32_40 : BitVec 32 := 1#32
  let arg18 : BitVec 32 := Scf.iv c0_i32_39 c1_i32_40 k1_t1
  let c8_i32_83 : BitVec 32 := 8#32
  let v162 : BitVec 32 := Scalar.muli arg18 c8_i32_83
  let v163 : BitVec 32 := v162
  let v166 : Index := Scalar.indexCast v163
  let c0_84 : Index := 0#32
  ![v166.toNat, 0]
def k1_off4 (k1_t1 : Fin k1_t1_loop.trips) : Fin 2 → Nat :=
  let c0_i32_39 : BitVec 32 := 0#32
  let c1_i32_40 : BitVec 32 := 1#32
  let arg18 : BitVec 32 := Scf.iv c0_i32_39 c1_i32_40 k1_t1
  let c8_i32_83 : BitVec 32 := 8#32
  let v162 : BitVec 32 := Scalar.muli arg18 c8_i32_83
  let v163 : BitVec 32 := v162
  let c7_i32_85 : BitVec 32 := 7#32
  let v170 : BitVec 32 := Scalar.addi v163 c7_i32_85
  let v171 : Index := Scalar.indexCast v170
  let c0_86 : Index := 0#32
  ![v171.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2304x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2304x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2304x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2304x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2304x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2304x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2304x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2304x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x2304x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x2304x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S2x2304x512 : Shape := ⟨3, ![2, 2304, 512]⟩
abbrev S_ : Shape := ⟨0, ![]⟩
abbrev S2x512 : Shape := ⟨2, ![2, 512]⟩
abbrev S2304x2x512 : Shape := ⟨3, ![2304, 2, 512]⟩
abbrev S1x2x512 : Shape := ⟨3, ![1, 2, 512]⟩

abbrev nBuf : Space → Nat
  | .hbm => 170
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S2x2304x512, .f32⟩
  | 5 => ⟨S2x2304x512, .f32⟩
  | 6 => ⟨S_, .f32⟩
  | 7 => ⟨S2x512, .f32⟩
  | 8 => ⟨S2304x2x512, .f32⟩
  | 9 => ⟨S2304x2x512, .f32⟩
  | 10 => ⟨S2304x2x512, .f32⟩
  | 11 => ⟨S2304x2x512, .f32⟩
  | 12 => ⟨S2304x2x512, .f32⟩
  | 13 => ⟨S2304x2x512, .f32⟩
  | 14 => ⟨S_, .f32⟩
  | 15 => ⟨S2304x2x512, .f32⟩
  | 16 => ⟨S_, .f32⟩
  | 17 => ⟨S2304x2x512, .f32⟩
  | 18 => ⟨S_, .f32⟩
  | 19 => ⟨S2304x2x512, .f32⟩
  | 20 => ⟨S_, .f32⟩
  | 21 => ⟨S2304x2x512, .f32⟩
  | 22 => ⟨S_, .i32⟩
  | 23 => ⟨S2304x2x512, .f32⟩
  | 24 => ⟨S2304x2x512, .f32⟩
  | 25 => ⟨S2304x2x512, .f32⟩
  | 26 => ⟨S2304x2x512, .f32⟩
  | 27 => ⟨S_, .i32⟩
  | 28 => ⟨S2x512, .f32⟩
  | 29 => ⟨S2x512, .f32⟩
  | 30 => ⟨S2304x2x512, .f32⟩
  | 31 => ⟨S2304x2x512, .f32⟩
  | 32 => ⟨S2304x2x512, .f32⟩
  | 33 => ⟨S2304x2x512, .f32⟩
  | 34 => ⟨S_, .i32⟩
  | 35 => ⟨S_, .i1⟩
  | 36 => ⟨S_, .i32⟩
  | 37 => ⟨S_, .i32⟩
  | 38 => ⟨S1x2x512, .f32⟩
  | 39 => ⟨S2x512, .f32⟩
  | 40 => ⟨S_, .i32⟩
  | 41 => ⟨S_, .i32⟩
  | 42 => ⟨S1x2x512, .f32⟩
  | 43 => ⟨S2x512, .f32⟩
  | 44 => ⟨S_, .i32⟩
  | 45 => ⟨S_, .i32⟩
  | 46 => ⟨S1x2x512, .f32⟩
  | 47 => ⟨S2x512, .f32⟩
  | 48 => ⟨S_, .i32⟩
  | 49 => ⟨S_, .i32⟩
  | 50 => ⟨S1x2x512, .f32⟩
  | 51 => ⟨S2x512, .f32⟩
  | 52 => ⟨S2x512, .f32⟩
  | 53 => ⟨S2x512, .f32⟩
  | 54 => ⟨S2x512, .f32⟩
  | 55 => ⟨S2x512, .f32⟩
  | 56 => ⟨S1x2x512, .f32⟩
  | 57 => ⟨S_, .i32⟩
  | 58 => ⟨S_, .i32⟩
  | 59 => ⟨S2304x2x512, .f32⟩
  | 60 => ⟨S1x2x512, .f32⟩
  | 61 => ⟨S_, .i32⟩
  | 62 => ⟨S_, .i32⟩
  | 63 => ⟨S2304x2x512, .f32⟩
  | 64 => ⟨S1x2x512, .f32⟩
  | 65 => ⟨S_, .i32⟩
  | 66 => ⟨S_, .i32⟩
  | 67 => ⟨S2304x2x512, .f32⟩
  | 68 => ⟨S1x2x512, .f32⟩
  | 69 => ⟨S_, .i32⟩
  | 70 => ⟨S_, .i32⟩
  | 71 => ⟨S2304x2x512, .f32⟩
  | 72 => ⟨S_, .i32⟩
  | 73 => ⟨S_, .i32⟩
  | 74 => ⟨S2x2304x512, .f32⟩
  | 75 => ⟨S2304x2x512, .f32⟩
  | 76 => ⟨S2x2304x512, .f32⟩
  | 77 => ⟨S_, .f32⟩
  | 78 => ⟨S2x512, .f32⟩
  | 79 => ⟨S_, .f32⟩
  | 80 => ⟨S2x512, .f32⟩
  | 81 => ⟨S2304x2x512, .f32⟩
  | 82 => ⟨S2304x2x512, .f32⟩
  | 83 => ⟨S2304x2x512, .f32⟩
  | 84 => ⟨S_, .f32⟩
  | 85 => ⟨S2x512, .f32⟩
  | 86 => ⟨S_, .f32⟩
  | 87 => ⟨S2x512, .f32⟩
  | 88 => ⟨S_, .f32⟩
  | 89 => ⟨S2304x2x512, .f32⟩
  | 90 => ⟨S_, .f32⟩
  | 91 => ⟨S2304x2x512, .f32⟩
  | 92 => ⟨S_, .f32⟩
  | 93 => ⟨S2304x2x512, .f32⟩
  | 94 => ⟨S_, .f32⟩
  | 95 => ⟨S2304x2x512, .f32⟩
  | 96 => ⟨S_, .i32⟩
  | 97 => ⟨S2304x2x512, .f32⟩
  | 98 => ⟨S2304x2x512, .f32⟩
  | 99 => ⟨S2304x2x512, .f32⟩
  | 100 => ⟨S2304x2x512, .f32⟩
  | 101 => ⟨S2304x2x512, .f32⟩
  | 102 => ⟨S2304x2x512, .f32⟩
  | 103 => ⟨S_, .i32⟩
  | 104 => ⟨S2x512, .f32⟩
  | 105 => ⟨S2x512, .f32⟩
  | 106 => ⟨S2304x2x512, .f32⟩
  | 107 => ⟨S2304x2x512, .f32⟩
  | 108 => ⟨S2304x2x512, .f32⟩
  | 109 => ⟨S2304x2x512, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S1x2x512, .f32⟩
  | 119 => ⟨S2x512, .f32⟩
  | 120 => ⟨S_, .i32⟩
  | 121 => ⟨S_, .i32⟩
  | 122 => ⟨S1x2x512, .f32⟩
  | 123 => ⟨S2x512, .f32⟩
  | 124 => ⟨S_, .i32⟩
  | 125 => ⟨S_, .i32⟩
  | 126 => ⟨S1x2x512, .f32⟩
  | 127 => ⟨S2x512, .f32⟩
  | _ => ⟨S2x2304x512, .f32⟩

abbrev hbmTy0_1 (i : Nat) : BufTy := match i % 128 with
  | 0 => ⟨S_, .i32⟩
  | 1 => ⟨S_, .i32⟩
  | 2 => ⟨S1x2x512, .f32⟩
  | 3 => ⟨S2x512, .f32⟩
  | 4 => ⟨S_, .i32⟩
  | 5 => ⟨S_, .i32⟩
  | 6 => ⟨S1x2x512, .f32⟩
  | 7 => ⟨S2x512, .f32⟩
  | 8 => ⟨S_, .i32⟩
  | 9 => ⟨S_, .i32⟩
  | 10 => ⟨S1x2x512, .f32⟩
  | 11 => ⟨S2x512, .f32⟩
  | 12 => ⟨S2x512, .f32⟩
  | 13 => ⟨S2x512, .f32⟩
  | 14 => ⟨S2x512, .f32⟩
  | 15 => ⟨S2x512, .f32⟩
  | 16 => ⟨S2x512, .f32⟩
  | 17 => ⟨S2x512, .f32⟩
  | 18 => ⟨S1x2x512, .f32⟩
  | 19 => ⟨S_, .i32⟩
  | 20 => ⟨S_, .i32⟩
  | 21 => ⟨S2304x2x512, .f32⟩
  | 22 => ⟨S1x2x512, .f32⟩
  | 23 => ⟨S_, .i32⟩
  | 24 => ⟨S_, .i32⟩
  | 25 => ⟨S2304x2x512, .f32⟩
  | 26 => ⟨S1x2x512, .f32⟩
  | 27 => ⟨S_, .i32⟩
  | 28 => ⟨S_, .i32⟩
  | 29 => ⟨S2304x2x512, .f32⟩
  | 30 => ⟨S1x2x512, .f32⟩
  | 31 => ⟨S_, .i32⟩
  | 32 => ⟨S_, .i32⟩
  | 33 => ⟨S2304x2x512, .f32⟩
  | 34 => ⟨S_, .i32⟩
  | 35 => ⟨S_, .i32⟩
  | 36 => ⟨S2304x2x512, .f32⟩
  | 37 => ⟨S2x2304x512, .f32⟩
  | 38 => ⟨S2304x2x512, .f32⟩
  | 39 => ⟨S2x2304x512, .f32⟩
  | 40 => ⟨S2x2304x512, .f32⟩
  | 41 => ⟨S2x2304x512, .f32⟩
  | _ => ⟨S2x2304x512, .f32⟩

abbrev hbmTy (i : Nat) : BufTy := match i / 128 with
  | 0 => hbmTy0_0 i
  | 1 => hbmTy0_1 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_c : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev main_v11_8 : Ref sig .tc := ⟨.hbm, 31, rfl⟩
abbrev main_v11_9 : Ref sig .tc := ⟨.hbm, 32, rfl⟩
abbrev main_v11_10 : Ref sig .tc := ⟨.hbm, 33, rfl⟩
abbrev main_while0c_c_23 : Ref sig .tc := ⟨.hbm, 34, rfl⟩
abbrev main_while0c_v33 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v33 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_v0 : Ref sig .tc := ⟨.hbm, 42, rfl⟩
abbrev main_while0b_v34 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_v0 : Ref sig .tc := ⟨.hbm, 46, rfl⟩
abbrev main_while0b_v35 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_v0 : Ref sig .tc := ⟨.hbm, 50, rfl⟩
abbrev main_while0b_v36 : Ref sig .tc := ⟨.hbm, 51, rfl⟩
abbrev main_while0b_v37 : Ref sig .tc := ⟨.hbm, 52, rfl⟩
abbrev main_while0b_v38 : Ref sig .tc := ⟨.hbm, 53, rfl⟩
abbrev main_while0b_v39 : Ref sig .tc := ⟨.hbm, 54, rfl⟩
abbrev main_while0b_v40 : Ref sig .tc := ⟨.hbm, 55, rfl⟩
abbrev main_while0b_call4_v0 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_v41 : Ref sig .tc := ⟨.hbm, 59, rfl⟩
abbrev main_while0b_call5_v0 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_v42 : Ref sig .tc := ⟨.hbm, 63, rfl⟩
abbrev main_while0b_call6_v0 : Ref sig .tc := ⟨.hbm, 64, rfl⟩
abbrev main_while0b_call6_c : Ref sig .tc := ⟨.hbm, 65, rfl⟩
abbrev main_while0b_call6_c_0 : Ref sig .tc := ⟨.hbm, 66, rfl⟩
abbrev main_while0b_v43 : Ref sig .tc := ⟨.hbm, 67, rfl⟩
abbrev main_while0b_call7_v0 : Ref sig .tc := ⟨.hbm, 68, rfl⟩
abbrev main_while0b_call7_c : Ref sig .tc := ⟨.hbm, 69, rfl⟩
abbrev main_while0b_call7_c_0 : Ref sig .tc := ⟨.hbm, 70, rfl⟩
abbrev main_while0b_v44 : Ref sig .tc := ⟨.hbm, 71, rfl⟩
abbrev main_while0b_c_23 : Ref sig .tc := ⟨.hbm, 72, rfl⟩
abbrev main_while0b_v45 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_cst_4 : Ref sig .tc := ⟨.hbm, 77, rfl⟩
abbrev main_v15 : Ref sig .tc := ⟨.hbm, 78, rfl⟩
abbrev main_cst_5 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_cst_6 : Ref sig .tc := ⟨.hbm, 84, rfl⟩
abbrev main_v20 : Ref sig .tc := ⟨.hbm, 85, rfl⟩
abbrev main_cst_7 : Ref sig .tc := ⟨.hbm, 86, rfl⟩
abbrev main_v21 : Ref sig .tc := ⟨.hbm, 87, rfl⟩
abbrev main_cst_8 : Ref sig .tc := ⟨.hbm, 88, rfl⟩
abbrev main_v22 : Ref sig .tc := ⟨.hbm, 89, rfl⟩
abbrev main_cst_9 : Ref sig .tc := ⟨.hbm, 90, rfl⟩
abbrev main_v23 : Ref sig .tc := ⟨.hbm, 91, rfl⟩
abbrev main_cst_10 : Ref sig .tc := ⟨.hbm, 92, rfl⟩
abbrev main_v24 : Ref sig .tc := ⟨.hbm, 93, rfl⟩
abbrev main_cst_11 : Ref sig .tc := ⟨.hbm, 94, rfl⟩
abbrev main_v25 : Ref sig .tc := ⟨.hbm, 95, rfl⟩
abbrev main_c_12 : Ref sig .tc := ⟨.hbm, 96, rfl⟩
abbrev main_v26_0 : Ref sig .tc := ⟨.hbm, 97, rfl⟩
abbrev main_v26_1 : Ref sig .tc := ⟨.hbm, 98, rfl⟩
abbrev main_v26_2 : Ref sig .tc := ⟨.hbm, 99, rfl⟩
abbrev main_v26_3 : Ref sig .tc := ⟨.hbm, 100, rfl⟩
abbrev main_v26_4 : Ref sig .tc := ⟨.hbm, 101, rfl⟩
abbrev main_v26_5 : Ref sig .tc := ⟨.hbm, 102, rfl⟩
abbrev main_v26_6 : Ref sig .tc := ⟨.hbm, 103, rfl⟩
abbrev main_v26_7 : Ref sig .tc := ⟨.hbm, 104, rfl⟩
abbrev main_v26_8 : Ref sig .tc := ⟨.hbm, 105, rfl⟩
abbrev main_v26_9 : Ref sig .tc := ⟨.hbm, 106, rfl⟩
abbrev main_v26_10 : Ref sig .tc := ⟨.hbm, 107, rfl⟩
abbrev main_v26_11 : Ref sig .tc := ⟨.hbm, 108, rfl⟩
abbrev main_v26_12 : Ref sig .tc := ⟨.hbm, 109, rfl⟩
abbrev main_while1c_c_25 : Ref sig .tc := ⟨.hbm, 110, rfl⟩
abbrev main_while1c_v33 : Ref sig .tc := ⟨.hbm, 111, rfl⟩
abbrev main_while1b_c_25 : Ref sig .tc := ⟨.hbm, 112, rfl⟩
abbrev main_while1b_v33 : Ref sig .tc := ⟨.hbm, 113, rfl⟩
abbrev main_while1b_c_26 : Ref sig .tc := ⟨.hbm, 114, rfl⟩
abbrev main_while1b_v34 : Ref sig .tc := ⟨.hbm, 115, rfl⟩
abbrev main_while1b_call8_c : Ref sig .tc := ⟨.hbm, 116, rfl⟩
abbrev main_while1b_call8_c_0 : Ref sig .tc := ⟨.hbm, 117, rfl⟩
abbrev main_while1b_call8_v0 : Ref sig .tc := ⟨.hbm, 118, rfl⟩
abbrev main_while1b_v35 : Ref sig .tc := ⟨.hbm, 119, rfl⟩
abbrev main_while1b_call9_c : Ref sig .tc := ⟨.hbm, 120, rfl⟩
abbrev main_while1b_call9_c_0 : Ref sig .tc := ⟨.hbm, 121, rfl⟩
abbrev main_while1b_call9_v0 : Ref sig .tc := ⟨.hbm, 122, rfl⟩
abbrev main_while1b_v36 : Ref sig .tc := ⟨.hbm, 123, rfl⟩
abbrev main_while1b_call10_c : Ref sig .tc := ⟨.hbm, 124, rfl⟩
abbrev main_while1b_call10_c_0 : Ref sig .tc := ⟨.hbm, 125, rfl⟩
abbrev main_while1b_call10_v0 : Ref sig .tc := ⟨.hbm, 126, rfl⟩
abbrev main_while1b_v37 : Ref sig .tc := ⟨.hbm, 127, rfl⟩
abbrev main_while1b_call11_c : Ref sig .tc := ⟨.hbm, 128, rfl⟩
abbrev main_while1b_call11_c_0 : Ref sig .tc := ⟨.hbm, 129, rfl⟩
abbrev main_while1b_call11_v0 : Ref sig .tc := ⟨.hbm, 130, rfl⟩
abbrev main_while1b_v38 : Ref sig .tc := ⟨.hbm, 131, rfl⟩
abbrev main_while1b_call12_c : Ref sig .tc := ⟨.hbm, 132, rfl⟩
abbrev main_while1b_call12_c_0 : Ref sig .tc := ⟨.hbm, 133, rfl⟩
abbrev main_while1b_call12_v0 : Ref sig .tc := ⟨.hbm, 134, rfl⟩
abbrev main_while1b_v39 : Ref sig .tc := ⟨.hbm, 135, rfl⟩
abbrev main_while1b_call13_c : Ref sig .tc := ⟨.hbm, 136, rfl⟩
abbrev main_while1b_call13_c_0 : Ref sig .tc := ⟨.hbm, 137, rfl⟩
abbrev main_while1b_call13_v0 : Ref sig .tc := ⟨.hbm, 138, rfl⟩
abbrev main_while1b_v40 : Ref sig .tc := ⟨.hbm, 139, rfl⟩
abbrev main_while1b_v41 : Ref sig .tc := ⟨.hbm, 140, rfl⟩
abbrev main_while1b_v42 : Ref sig .tc := ⟨.hbm, 141, rfl⟩
abbrev main_while1b_v43 : Ref sig .tc := ⟨.hbm, 142, rfl⟩
abbrev main_while1b_v44 : Ref sig .tc := ⟨.hbm, 143, rfl⟩
abbrev main_while1b_v45 : Ref sig .tc := ⟨.hbm, 144, rfl⟩
abbrev main_while1b_v46 : Ref sig .tc := ⟨.hbm, 145, rfl⟩
abbrev main_while1b_call14_v0 : Ref sig .tc := ⟨.hbm, 146, rfl⟩
abbrev main_while1b_call14_c : Ref sig .tc := ⟨.hbm, 147, rfl⟩
abbrev main_while1b_call14_c_0 : Ref sig .tc := ⟨.hbm, 148, rfl⟩
abbrev main_while1b_v47 : Ref sig .tc := ⟨.hbm, 149, rfl⟩
abbrev main_while1b_call15_v0 : Ref sig .tc := ⟨.hbm, 150, rfl⟩
abbrev main_while1b_call15_c : Ref sig .tc := ⟨.hbm, 151, rfl⟩
abbrev main_while1b_call15_c_0 : Ref sig .tc := ⟨.hbm, 152, rfl⟩
abbrev main_while1b_v48 : Ref sig .tc := ⟨.hbm, 153, rfl⟩
abbrev main_while1b_call16_v0 : Ref sig .tc := ⟨.hbm, 154, rfl⟩
abbrev main_while1b_call16_c : Ref sig .tc := ⟨.hbm, 155, rfl⟩
abbrev main_while1b_call16_c_0 : Ref sig .tc := ⟨.hbm, 156, rfl⟩
abbrev main_while1b_v49 : Ref sig .tc := ⟨.hbm, 157, rfl⟩
abbrev main_while1b_call17_v0 : Ref sig .tc := ⟨.hbm, 158, rfl⟩
abbrev main_while1b_call17_c : Ref sig .tc := ⟨.hbm, 159, rfl⟩
abbrev main_while1b_call17_c_0 : Ref sig .tc := ⟨.hbm, 160, rfl⟩
abbrev main_while1b_v50 : Ref sig .tc := ⟨.hbm, 161, rfl⟩
abbrev main_while1b_c_27 : Ref sig .tc := ⟨.hbm, 162, rfl⟩
abbrev main_while1b_v51 : Ref sig .tc := ⟨.hbm, 163, rfl⟩
abbrev main_v27 : Ref sig .tc := ⟨.hbm, 164, rfl⟩
abbrev main_v28 : Ref sig .tc := ⟨.hbm, 165, rfl⟩
abbrev main_v29 : Ref sig .tc := ⟨.hbm, 166, rfl⟩
abbrev main_v30 : Ref sig .tc := ⟨.hbm, 167, rfl⟩
abbrev main_v31 : Ref sig .tc := ⟨.hbm, 168, rfl⟩
abbrev main_v32 : Ref sig .tc := ⟨.hbm, 169, rfl⟩

abbrev nD : Nat := 1
abbrev τ : Topo := Topo.v7x

variable {F : FTy → Type} [FloatOps F]

abbrev main_while0_count : Scf.Loop 32 := ⟨0#32, 2304#32, 1#32⟩

abbrev main_while1_count : Scf.Loop 32 := ⟨0#32, 2304#32, 1#32⟩
-- ==== MlpKernel.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S1152x1024 : Shape := ⟨2, ![1152, 1024]⟩
abbrev S1024x2048 : Shape := ⟨2, ![1024, 2048]⟩
abbrev S1152x2048 : Shape := ⟨2, ![1152, 2048]⟩
abbrev S1152x4096 : Shape := ⟨2, ![1152, 4096]⟩
abbrev S2048x1024 : Shape := ⟨2, ![2048, 1024]⟩
abbrev S1024x1024 : Shape := ⟨2, ![1024, 1024]⟩
abbrev S8x1024x512 : Shape := ⟨3, ![8, 1024, 512]⟩
abbrev S4608x512 : Shape := ⟨2, ![4608, 512]⟩
abbrev S1x1024x512 : Shape := ⟨3, ![1, 1024, 512]⟩
abbrev S1024x512 : Shape := ⟨2, ![1024, 512]⟩

abbrev nBuf : Space → Nat
  | .hbm => 11
  | .vmem => 36
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .bf16⟩
  | .hbm, ⟨2, _⟩ => ⟨S4096x1024, .bf16⟩
  | .hbm, ⟨3, _⟩ => ⟨S4608x1024, .bf16⟩
  | .hbm, ⟨4, _⟩ => ⟨S4608x4096, .bf16⟩
  | .hbm, ⟨5, _⟩ => ⟨S4608x4096, .bf16⟩
  | .hbm, ⟨6, _⟩ => ⟨S4608x1024, .f32⟩
  | .hbm, ⟨7, _⟩ => ⟨S4608x4096, .bf16⟩
  | .hbm, ⟨8, _⟩ => ⟨S4096x1024, .bf16⟩
  | .hbm, ⟨9, _⟩ => ⟨S4608x1024, .f32⟩
  | .hbm, ⟨10, _⟩ => ⟨S8x1024x512, .bf16⟩
  | .local _ .vmem, ⟨0, _⟩ => ⟨S1152x1024, .bf16⟩
  | .local _ .vmem, ⟨1, _⟩ => ⟨S1152x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1152x2048, .bf16⟩
  | .local _ .vmem, ⟨5, _⟩ => ⟨S1152x2048, .bf16⟩
  | .local _ .vmem, ⟨6, _⟩ => ⟨S1152x2048, .bf16⟩
  | .local _ .vmem, ⟨7, _⟩ => ⟨S1152x2048, .bf16⟩
  | .local _ .vmem, ⟨8, _⟩ => ⟨S1152x4096, .bf16⟩
  | .local _ .vmem, ⟨9, _⟩ => ⟨S1152x4096, .bf16⟩
  | .local _ .vmem, ⟨10, _⟩ => ⟨S4096x1024, .bf16⟩
  | .local _ .vmem, ⟨11, _⟩ => ⟨S1152x1024, .f32⟩
  | .local _ .vmem, ⟨12, _⟩ => ⟨S1152x1024, .f32⟩
  | .local _ .vmem, ⟨13, _⟩ => ⟨S1152x1024, .bf16⟩
  | .local _ .vmem, ⟨14, _⟩ => ⟨S1152x1024, .bf16⟩
  | .local _ .vmem, ⟨15, _⟩ => ⟨S2048x1024, .bf16⟩
  | .local _ .vmem, ⟨16, _⟩ => ⟨S2048x1024, .bf16⟩
  | .local _ .vmem, ⟨17, _⟩ => ⟨S1152x2048, .bf16⟩
  | .local _ .vmem, ⟨18, _⟩ => ⟨S1152x2048, .bf16⟩
  | .local _ .vmem, ⟨19, _⟩ => ⟨S1152x2048, .bf16⟩
  | .local _ .vmem, ⟨20, _⟩ => ⟨S1152x2048, .bf16⟩
  | .local _ .vmem, ⟨21, _⟩ => ⟨S4608x1024, .bf16⟩
  | .local _ .vmem, ⟨22, _⟩ => ⟨S4608x1024, .bf16⟩
  | .local _ .vmem, ⟨23, _⟩ => ⟨S4608x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1152x4096, .bf16⟩
  | .local _ .vmem, ⟨27, _⟩ => ⟨S1152x4096, .bf16⟩
  | .local _ .vmem, ⟨28, _⟩ => ⟨S1024x4096, .bf16⟩
  | .local _ .vmem, ⟨29, _⟩ => ⟨S1152x1024, .f32⟩
  | .local _ .vmem, ⟨30, _⟩ => ⟨S1152x1024, .f32⟩
  | .local _ .vmem, ⟨31, _⟩ => ⟨S4608x1024, .bf16⟩
  | .local _ .vmem, ⟨32, _⟩ => ⟨S4608x512, .bf16⟩
  | .local _ .vmem, ⟨33, _⟩ => ⟨S4608x512, .bf16⟩
  | .local _ .vmem, ⟨34, _⟩ => ⟨S1x1024x512, .bf16⟩
  | .local _ .vmem, ⟨35, _⟩ => ⟨S1x1024x512, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1152x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1152x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1152x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1152x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1152x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1152x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1152x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S4608x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S4608x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1152x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1152x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 1 → Memref sig .tc .vmem S4608x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 2 → Memref sig .tc .vmem S4608x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== MlpReferenceIdeal.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 36
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .bf16⟩
  | .hbm, ⟨2, _⟩ => ⟨S4096x1024, .bf16⟩
  | .hbm, ⟨3, _⟩ => ⟨S4608x1024, .bf16⟩
  | .hbm, ⟨4, _⟩ => ⟨S4608x1024, .f32⟩
  | .hbm, ⟨5, _⟩ => ⟨S1024x4096, .f32⟩
  | .hbm, ⟨6, _⟩ => ⟨S4096x1024, .f32⟩
  | .hbm, ⟨7, _⟩ => ⟨S4608x4096, .f32⟩
  | .hbm, ⟨8, _⟩ => ⟨S_, .f32⟩
  | .hbm, ⟨9, _⟩ => ⟨S4608x4096, .f32⟩
  | .hbm, ⟨10, _⟩ => ⟨S4608x4096, .f32⟩
  | .hbm, ⟨11, _⟩ => ⟨S_, .f32⟩
  | .hbm, ⟨12, _⟩ => ⟨S4608x4096, .f32⟩
  | .hbm, ⟨13, _⟩ => ⟨S4608x4096, .i1⟩
  | .hbm, ⟨14, _⟩ => ⟨S_, .f32⟩
  | .hbm, ⟨15, _⟩ => ⟨S4608x4096, .f32⟩
  | .hbm, ⟨16, _⟩ => ⟨S4608x4096, .f32⟩
  | .hbm, ⟨17, _⟩ => ⟨S_, .f32⟩
  | .hbm, ⟨18, _⟩ => ⟨S4608x4096, .f32⟩
  | .hbm, ⟨19, _⟩ => ⟨S4608x4096, .f32⟩
  | .hbm, ⟨20, _⟩ => ⟨S4608x1024, .f32⟩
  | .hbm, ⟨21, _⟩ => ⟨S4608x1024, .f32⟩
  | .hbm, ⟨22, _⟩ => ⟨S1024x4096, .f32⟩
  | .hbm, ⟨23, _⟩ => ⟨S4096x1024, .f32⟩
  | .hbm, ⟨24, _⟩ => ⟨S4608x4096, .f32⟩
  | .hbm, ⟨25, _⟩ => ⟨S4608x4096, .f32⟩
  | .hbm, ⟨26, _⟩ => ⟨S_, .f32⟩
  | .hbm, ⟨27, _⟩ => ⟨S4608x4096, .f32⟩
  | .hbm, ⟨28, _⟩ => ⟨S4608x4096, .f32⟩
  | .hbm, ⟨29, _⟩ => ⟨S4096x1024, .f32⟩
  | .hbm, ⟨30, _⟩ => ⟨S1024x4096, .f32⟩
  | .hbm, ⟨31, _⟩ => ⟨S4608x1024, .f32⟩
  | .hbm, ⟨32, _⟩ => ⟨S1024x8x512, .f32⟩
  | .hbm, ⟨33, _⟩ => ⟨S8x1024x512, .f32⟩
  | .hbm, ⟨34, _⟩ => ⟨S8x1024x512, .bf16⟩
  | .hbm, ⟨35, _⟩ => ⟨S4096x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ProjKernel.lean ====
abbrev S4608x1024 : Shape := ⟨2, ![4608, 1024]⟩
abbrev S1024x3072 : Shape := ⟨2, ![1024, 3072]⟩
abbrev S4608x3072 : Shape := ⟨2, ![4608, 3072]⟩
abbrev S4608x1536 : Shape := ⟨2, ![4608, 1536]⟩
abbrev S1536x1024 : Shape := ⟨2, ![1536, 1024]⟩
abbrev S1152x1024 : Shape := ⟨2, ![1152, 1024]⟩
abbrev S1024x1536 : Shape := ⟨2, ![1024, 1536]⟩
abbrev S1152x1536 : Shape := ⟨2, ![1152, 1536]⟩
abbrev S4608x768 : Shape := ⟨2, ![4608, 768]⟩
abbrev S768x1024 : Shape := ⟨2, ![768, 1024]⟩
abbrev S1152x3072 : Shape := ⟨2, ![1152, 3072]⟩
abbrev S1024x1024 : Shape := ⟨2, ![1024, 1024]⟩

abbrev nBuf : Space → Nat
  | .hbm => 12
  | .vmem => 31
  | .smem => 0
  | _ => 0

abbrev bufTy : (tb : Table) → Fin (tcTables nBuf tb) → BufTy
  | .hbm, ⟨0, _⟩ => ⟨S4608x1024, .bf16⟩
  | .hbm, ⟨1, _⟩ => ⟨S1024x3072, .bf16⟩
  | .hbm, ⟨2, _⟩ => ⟨S4608x3072, .bf16⟩
  | .hbm, ⟨3, _⟩ => ⟨S4608x1536, .bf16⟩
  | .hbm, ⟨4, _⟩ => ⟨S1536x1024, .bf16⟩
  | .hbm, ⟨5, _⟩ => ⟨S4608x1024, .bf16⟩
  | .hbm, ⟨6, _⟩ => ⟨S4608x3072, .bf16⟩
  | .hbm, ⟨7, _⟩ => ⟨S4608x1024, .f32⟩
  | .hbm, ⟨8, _⟩ => ⟨S4608x1536, .f32⟩
  | .hbm, ⟨9, _⟩ => ⟨S1536x1024, .bf16⟩
  | .hbm, ⟨10, _⟩ => ⟨S4608x1024, .f32⟩
  | .hbm, ⟨11, _⟩ => ⟨S1024x3072, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1152x1536, .bf16⟩
  | .local _ .vmem, ⟨5, _⟩ => ⟨S1152x1536, .bf16⟩
  | .local _ .vmem, ⟨6, _⟩ => ⟨S1152x1536, .bf16⟩
  | .local _ .vmem, ⟨7, _⟩ => ⟨S1152x1536, .bf16⟩
  | .local _ .vmem, ⟨8, _⟩ => ⟨S1536x1024, .bf16⟩
  | .local _ .vmem, ⟨9, _⟩ => ⟨S1152x1024, .f32⟩
  | .local _ .vmem, ⟨10, _⟩ => ⟨S1152x1024, .f32⟩
  | .local _ .vmem, ⟨11, _⟩ => ⟨S1152x1024, .bf16⟩
  | .local _ .vmem, ⟨12, _⟩ => ⟨S1152x1024, .bf16⟩
  | .local _ .vmem, ⟨13, _⟩ => ⟨S1536x1024, .bf16⟩
  | .local _ .vmem, ⟨14, _⟩ => ⟨S1152x1536, .f32⟩
  | .local _ .vmem, ⟨15, _⟩ => ⟨S1152x1536, .f32⟩
  | .local _ .vmem, ⟨16, _⟩ => ⟨S4608x768, .bf16⟩
  | .local _ .vmem, ⟨17, _⟩ => ⟨S4608x768, .bf16⟩
  | .local _ .vmem, ⟨18, _⟩ => ⟨S4608x1024, .bf16⟩
  | .local _ .vmem, ⟨19, _⟩ => ⟨S768x1024, .bf16⟩
  | .local _ .vmem, ⟨20, _⟩ => ⟨S768x1024, .bf16⟩
  | .local _ .vmem, ⟨21, _⟩ => ⟨S1152x3072, .bf16⟩
  | .local _ .vmem, ⟨22, _⟩ => ⟨S1152x3072, .bf16⟩
  | .local _ .vmem, ⟨23, _⟩ => ⟨S1024x3072, .bf16⟩
  | .local _ .vmem, ⟨24, _⟩ => ⟨S1152x1024, .f32⟩
  | .local _ .vmem, ⟨25, _⟩ => ⟨S1152x1024, .f32⟩
  | .local _ .vmem, ⟨26, _⟩ => ⟨S4608x1024, .bf16⟩
  | .local _ .vmem, ⟨27, _⟩ => ⟨S4608x1024, .bf16⟩
  | .local _ .vmem, ⟨28, _⟩ => ⟨S4608x1024, .bf16⟩
  | .local _ .vmem, ⟨29, _⟩ => ⟨S1024x1024, .bf16⟩
  | .local _ .vmem, ⟨30, _⟩ => ⟨S1024x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem1_1 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1152x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1152x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1536x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1152x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1152x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1536x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S1152x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S4608x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S4608x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S768x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1152x3072 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x3072 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1152x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![3, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 1 → Memref sig .tc .vmem S4608x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 2 → Memref sig .tc .vmem S4608x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== ProjReferenceIdeal.lean ====
abbrev S4608x1024 : Shape := ⟨2, ![4608, 1024]⟩
abbrev S1024x3072 : Shape := ⟨2, ![1024, 3072]⟩
abbrev S4608x3072 : Shape := ⟨2, ![4608, 3072]⟩
abbrev S4608x1536 : Shape := ⟨2, ![4608, 1536]⟩
abbrev S1536x1024 : Shape := ⟨2, ![1536, 1024]⟩
abbrev S3072x1024 : Shape := ⟨2, ![3072, 1024]⟩
abbrev S1024x1536 : Shape := ⟨2, ![1024, 1536]⟩

abbrev nBuf : Space → Nat
  | .hbm => 23
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x3072, .bf16⟩
  | .hbm, ⟨2, _⟩ => ⟨S4608x3072, .bf16⟩
  | .hbm, ⟨3, _⟩ => ⟨S4608x1536, .bf16⟩
  | .hbm, ⟨4, _⟩ => ⟨S1536x1024, .bf16⟩
  | .hbm, ⟨5, _⟩ => ⟨S4608x1024, .bf16⟩
  | .hbm, ⟨6, _⟩ => ⟨S4608x1024, .f32⟩
  | .hbm, ⟨7, _⟩ => ⟨S1024x3072, .f32⟩
  | .hbm, ⟨8, _⟩ => ⟨S4608x3072, .f32⟩
  | .hbm, ⟨9, _⟩ => ⟨S4608x1536, .f32⟩
  | .hbm, ⟨10, _⟩ => ⟨S1536x1024, .f32⟩
  | .hbm, ⟨11, _⟩ => ⟨S4608x1024, .f32⟩
  | .hbm, ⟨12, _⟩ => ⟨S4608x3072, .f32⟩
  | .hbm, ⟨13, _⟩ => ⟨S3072x1024, .f32⟩
  | .hbm, ⟨14, _⟩ => ⟨S1024x3072, .f32⟩
  | .hbm, ⟨15, _⟩ => ⟨S4608x1024, .f32⟩
  | .hbm, ⟨16, _⟩ => ⟨S4608x1024, .f32⟩
  | .hbm, ⟨17, _⟩ => ⟨S1024x1536, .f32⟩
  | .hbm, ⟨18, _⟩ => ⟨S1536x1024, .f32⟩
  | .hbm, ⟨19, _⟩ => ⟨S4608x1536, .f32⟩
  | .hbm, ⟨20, _⟩ => ⟨S4608x3072, .bf16⟩
  | .hbm, ⟨21, _⟩ => ⟨S1536x1024, .bf16⟩
  | .hbm, ⟨22, _⟩ => ⟨S1024x3072, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== AdamwKernel.lean ====
abbrev S8x1024x276 : Shape := ⟨3, ![8, 1024, 276]⟩
abbrev S2048x276 : Shape := ⟨2, ![2048, 276]⟩
abbrev S8x256x96 : Shape := ⟨3, ![8, 256, 96]⟩
abbrev S512x96 : Shape := ⟨2, ![512, 96]⟩
abbrev S8x128x128 : Shape := ⟨3, ![8, 128, 128]⟩
abbrev S256x128 : Shape := ⟨2, ![256, 128]⟩
abbrev S8x192x1024 : Shape := ⟨3, ![8, 192, 1024]⟩
abbrev S384x1024 : Shape := ⟨2, ![384, 1024]⟩
abbrev S8x256x276 : Shape := ⟨3, ![8, 256, 276]⟩
abbrev S256x276 : Shape := ⟨2, ![256, 276]⟩
abbrev S1x256x276 : Shape := ⟨3, ![1, 256, 276]⟩
abbrev S256x96 : Shape := ⟨2, ![256, 96]⟩
abbrev S1x256x96 : Shape := ⟨3, ![1, 256, 96]⟩
abbrev S128x128 : Shape := ⟨2, ![128, 128]⟩
abbrev S1x128x128 : Shape := ⟨3, ![1, 128, 128]⟩
abbrev S192x1024 : Shape := ⟨2, ![192, 1024]⟩
abbrev S1x192x1024 : Shape := ⟨3, ![1, 192, 1024]⟩

abbrev nBuf : Space → Nat
  | .hbm => 36
  | .vmem => 72
  | .smem => 0
  | _ => 0

abbrev bufTy : (tb : Table) → Fin (tcTables nBuf tb) → BufTy
  | .hbm, ⟨0, _⟩ => ⟨S8x1024x276, .bf16⟩
  | .hbm, ⟨1, _⟩ => ⟨S8x1024x276, .bf16⟩
  | .hbm, ⟨2, _⟩ => ⟨S2048x276, .f32⟩
  | .hbm, ⟨3, _⟩ => ⟨S2048x276, .f32⟩
  | .hbm, ⟨4, _⟩ => ⟨S2048x276, .f32⟩
  | .hbm, ⟨5, _⟩ => ⟨S8x256x96, .bf16⟩
  | .hbm, ⟨6, _⟩ => ⟨S8x256x96, .bf16⟩
  | .hbm, ⟨7, _⟩ => ⟨S512x96, .f32⟩
  | .hbm, ⟨8, _⟩ => ⟨S512x96, .f32⟩
  | .hbm, ⟨9, _⟩ => ⟨S512x96, .f32⟩
  | .hbm, ⟨10, _⟩ => ⟨S8x128x128, .bf16⟩
  | .hbm, ⟨11, _⟩ => ⟨S8x128x128, .bf16⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S8x192x1024, .bf16⟩
  | .hbm, ⟨16, _⟩ => ⟨S8x192x1024, .bf16⟩
  | .hbm, ⟨17, _⟩ => ⟨S384x1024, .f32⟩
  | .hbm, ⟨18, _⟩ => ⟨S384x1024, .f32⟩
  | .hbm, ⟨19, _⟩ => ⟨S384x1024, .f32⟩
  | .hbm, ⟨20, _⟩ => ⟨S2048x276, .f32⟩
  | .hbm, ⟨21, _⟩ => ⟨S2048x276, .f32⟩
  | .hbm, ⟨22, _⟩ => ⟨S2048x276, .f32⟩
  | .hbm, ⟨23, _⟩ => ⟨S2048x276, .f32⟩
  | .hbm, ⟨24, _⟩ => ⟨S512x96, .f32⟩
  | .hbm, ⟨25, _⟩ => ⟨S512x96, .f32⟩
  | .hbm, ⟨26, _⟩ => ⟨S512x96, .f32⟩
  | .hbm, ⟨27, _⟩ => ⟨S512x96, .f32⟩
  | .hbm, ⟨28, _⟩ => ⟨S256x128, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S384x1024, .f32⟩
  | .hbm, ⟨33, _⟩ => ⟨S384x1024, .f32⟩
  | .hbm, ⟨34, _⟩ => ⟨S384x1024, .f32⟩
  | .hbm, ⟨35, _⟩ => ⟨S384x1024, .f32⟩
  | .local _ .vmem, ⟨0, _⟩ => ⟨S8x256x276, .bf16⟩
  | .local _ .vmem, ⟨1, _⟩ => ⟨S8x256x276, .bf16⟩
  | .local _ .vmem, ⟨2, _⟩ => ⟨S8x256x276, .bf16⟩
  | .local _ .vmem, ⟨3, _⟩ => ⟨S8x256x276, .bf16⟩
  | .local _ .vmem, ⟨4, _⟩ => ⟨S256x276, .f32⟩
  | .local _ .vmem, ⟨5, _⟩ => ⟨S256x276, .f32⟩
  | .local _ .vmem, ⟨6, _⟩ => ⟨S256x276, .f32⟩
  | .local _ .vmem, ⟨7, _⟩ => ⟨S256x276, .f32⟩
  | .local _ .vmem, ⟨8, _⟩ => ⟨S256x276, .f32⟩
  | .local _ .vmem, ⟨9, _⟩ => ⟨S256x276, .f32⟩
  | .local _ .vmem, ⟨10, _⟩ => ⟨S256x276, .f32⟩
  | .local _ .vmem, ⟨11, _⟩ => ⟨S256x276, .f32⟩
  | .local _ .vmem, ⟨12, _⟩ => ⟨S256x276, .f32⟩
  | .local _ .vmem, ⟨13, _⟩ => ⟨S256x276, .f32⟩
  | .local _ .vmem, ⟨14, _⟩ => ⟨S256x276, .f32⟩
  | .local _ .vmem, ⟨15, _⟩ => ⟨S256x276, .f32⟩
  | .local _ .vmem, ⟨16, _⟩ => ⟨S256x276, .f32⟩
  | .local _ .vmem, ⟨17, _⟩ => ⟨S256x276, .f32⟩
  | .local _ .vmem, ⟨18, _⟩ => ⟨S8x256x96, .bf16⟩
  | .local _ .vmem, ⟨19, _⟩ => ⟨S8x256x96, .bf16⟩
  | .local _ .vmem, ⟨20, _⟩ => ⟨S8x256x96, .bf16⟩
  | .local _ .vmem, ⟨21, _⟩ => ⟨S8x256x96, .bf16⟩
  | .local _ .vmem, ⟨22, _⟩ => ⟨S256x96, .f32⟩
  | .local _ .vmem, ⟨23, _⟩ => ⟨S256x96, .f32⟩
  | .local _ .vmem, ⟨24, _⟩ => ⟨S256x96, .f32⟩
  | .local _ .vmem, ⟨25, _⟩ => ⟨S256x96, .f32⟩
  | .local _ .vmem, ⟨26, _⟩ => ⟨S256x96, .f32⟩
  | .local _ .vmem, ⟨27, _⟩ => ⟨S256x96, .f32⟩
  | .local _ .vmem, ⟨28, _⟩ => ⟨S256x96, .f32⟩
  | .local _ .vmem, ⟨29, _⟩ => ⟨S256x96, .f32⟩
  | .local _ .vmem, ⟨30, _⟩ => ⟨S256x96, .f32⟩
  | .local _ .vmem, ⟨31, _⟩ => ⟨S256x96, .f32⟩
  | .local _ .vmem, ⟨32, _⟩ => ⟨S256x96, .f32⟩
  | .local _ .vmem, ⟨33, _⟩ => ⟨S256x96, .f32⟩
  | .local _ .vmem, ⟨34, _⟩ => ⟨S256x96, .f32⟩
  | .local _ .vmem, ⟨35, _⟩ => ⟨S256x96, .f32⟩
  | .local _ .vmem, ⟨36, _⟩ => ⟨S8x128x128, .bf16⟩
  | .local _ .vmem, ⟨37, _⟩ => ⟨S8x128x128, .bf16⟩
  | .local _ .vmem, ⟨38, _⟩ => ⟨S8x128x128, .bf16⟩
  | .local _ .vmem, ⟨39, _⟩ => ⟨S8x128x128, .bf16⟩
  | .local _ .vmem, ⟨40, _⟩ => ⟨S128x128, .f32⟩
  | .local _ .vmem, ⟨41, _⟩ => ⟨S128x128, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S128x128, .f32⟩
  | .local _ .vmem, ⟨46, _⟩ => ⟨S128x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S128x128, .f32⟩
  | .local _ .vmem, ⟨52, _⟩ => ⟨S128x128, .f32⟩
  | .local _ .vmem, ⟨53, _⟩ => ⟨S128x128, .f32⟩
  | .local _ .vmem, ⟨54, _⟩ => ⟨S8x192x1024, .bf16⟩
  | .local _ .vmem, ⟨55, _⟩ => ⟨S8x192x1024, .bf16⟩
  | .local _ .vmem, ⟨56, _⟩ => ⟨S8x192x1024, .bf16⟩
  | .local _ .vmem, ⟨57, _⟩ => ⟨S8x192x1024, .bf16⟩
  | .local _ .vmem, ⟨58, _⟩ => ⟨S192x1024, .f32⟩
  | .local _ .vmem, ⟨59, _⟩ => ⟨S192x1024, .f32⟩
  | .local _ .vmem, ⟨60, _⟩ => ⟨S192x1024, .f32⟩
  | .local _ .vmem, ⟨61, _⟩ => ⟨S192x1024, .f32⟩
  | .local _ .vmem, ⟨62, _⟩ => ⟨S192x1024, .f32⟩
  | .local _ .vmem, ⟨63, _⟩ => ⟨S192x1024, .f32⟩
  | .local _ .vmem, ⟨64, _⟩ => ⟨S192x1024, .f32⟩
  | .local _ .vmem, ⟨65, _⟩ => ⟨S192x1024, .f32⟩
  | .local _ .vmem, ⟨66, _⟩ => ⟨S192x1024, .f32⟩
  | .local _ .vmem, ⟨67, _⟩ => ⟨S192x1024, .f32⟩
  | .local _ .vmem, ⟨68, _⟩ => ⟨S192x1024, .f32⟩
  | .local _ .vmem, ⟨69, _⟩ => ⟨S192x1024, .f32⟩
  | .local _ .vmem, ⟨70, _⟩ => ⟨S192x1024, .f32⟩
  | .local _ .vmem, ⟨71, _⟩ => ⟨S192x1024, .f32⟩
  | _, _ => ⟨S8x1024x276, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_v1_3 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev main_v2_3 : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x276 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x276 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x276 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x276 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x276 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x276 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x276 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x276 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x276 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 1], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S8x256x96 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 1], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_8 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S8x128x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x128x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S128x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S128x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 1], ![false, false]⟩

def k3_cond1 (i : grid3.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc3_transform_2 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc3_transform_6 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc3_transform_7 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc3_transform_8 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S8x192x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x192x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S192x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S192x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S192x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S192x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S192x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S192x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S192x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== AdamwReferenceIdeal.lean ====
abbrev S8x1024x276 : Shape := ⟨3, ![8, 1024, 276]⟩
abbrev S2048x276 : Shape := ⟨2, ![2048, 276]⟩
abbrev S8x256x96 : Shape := ⟨3, ![8, 256, 96]⟩
abbrev S512x96 : Shape := ⟨2, ![512, 96]⟩
abbrev S8x128x128 : Shape := ⟨3, ![8, 128, 128]⟩
abbrev S256x128 : Shape := ⟨2, ![256, 128]⟩
abbrev S8x192x1024 : Shape := ⟨3, ![8, 192, 1024]⟩
abbrev S384x1024 : Shape := ⟨2, ![384, 1024]⟩
abbrev S_ : Shape := ⟨0, ![]⟩
abbrev S1024x276 : Shape := ⟨2, ![1024, 276]⟩
abbrev S256x96 : Shape := ⟨2, ![256, 96]⟩
abbrev S128x128 : Shape := ⟨2, ![128, 128]⟩
abbrev S192x1024 : Shape := ⟨2, ![192, 1024]⟩

abbrev nBuf : Space → Nat
  | .hbm => 180
  | .vmem => 0
  | .smem => 0
  | _ => 0

abbrev hbmTy0_0 (i : Nat) : BufTy := match i % 128 with
  | 0 => ⟨S8x1024x276, .bf16⟩
  | 1 => ⟨S8x1024x276, .bf16⟩
  | 2 => ⟨S2048x276, .f32⟩
  | 3 => ⟨S2048x276, .f32⟩
  | 4 => ⟨S2048x276, .f32⟩
  | 5 => ⟨S8x256x96, .bf16⟩
  | 6 => ⟨S8x256x96, .bf16⟩
  | 7 => ⟨S512x96, .f32⟩
  | 8 => ⟨S512x96, .f32⟩
  | 9 => ⟨S512x96, .f32⟩
  | 10 => ⟨S8x128x128, .bf16⟩
  | 11 => ⟨S8x128x128, .bf16⟩
  | 12 => ⟨S256x128, .f32⟩
  | 13 => ⟨S256x128, .f32⟩
  | 14 => ⟨S256x128, .f32⟩
  | 15 => ⟨S8x192x1024, .bf16⟩
  | 16 => ⟨S8x192x1024, .bf16⟩
  | 17 => ⟨S384x1024, .f32⟩
  | 18 => ⟨S384x1024, .f32⟩
  | 19 => ⟨S384x1024, .f32⟩
  | 20 => ⟨S8x1024x276, .f32⟩
  | 21 => ⟨S_, .f32⟩
  | 22 => ⟨S1024x276, .f32⟩
  | 23 => ⟨S8x1024x276, .f32⟩
  | 24 => ⟨S_, .f32⟩
  | 25 => ⟨S1024x276, .f32⟩
  | 26 => ⟨S2048x276, .f32⟩
  | 27 => ⟨S_, .f32⟩
  | 28 => ⟨S2048x276, .f32⟩
  | 29 => ⟨S2048x276, .f32⟩
  | 30 => ⟨S_, .f32⟩
  | 31 => ⟨S2048x276, .f32⟩
  | 32 => ⟨S2048x276, .f32⟩
  | 33 => ⟨S2048x276, .f32⟩
  | 34 => ⟨S_, .f32⟩
  | 35 => ⟨S2048x276, .f32⟩
  | 36 => ⟨S2048x276, .f32⟩
  | 37 => ⟨S2048x276, .f32⟩
  | 38 => ⟨S_, .f32⟩
  | 39 => ⟨S2048x276, .f32⟩
  | 40 => ⟨S2048x276, .f32⟩
  | 41 => ⟨S2048x276, .f32⟩
  | 42 => ⟨S_, .f32⟩
  | 43 => ⟨S2048x276, .f32⟩
  | 44 => ⟨S2048x276, .f32⟩
  | 45 => ⟨S_, .f32⟩
  | 46 => ⟨S2048x276, .f32⟩
  | 47 => ⟨S2048x276, .f32⟩
  | 48 => ⟨S2048x276, .f32⟩
  | 49 => ⟨S_, .f32⟩
  | 50 => ⟨S2048x276, .f32⟩
  | 51 => ⟨S2048x276, .f32⟩
  | 52 => ⟨S2048x276, .f32⟩
  | 53 => ⟨S_, .f32⟩
  | 54 => ⟨S2048x276, .f32⟩
  | 55 => ⟨S2048x276, .f32⟩
  | 56 => ⟨S2048x276, .f32⟩
  | 57 => ⟨S_, .f32⟩
  | 58 => ⟨S2048x276, .f32⟩
  | 59 => ⟨S2048x276, .f32⟩
  | 60 => ⟨S8x256x96, .f32⟩
  | 61 => ⟨S_, .f32⟩
  | 62 => ⟨S256x96, .f32⟩
  | 63 => ⟨S8x256x96, .f32⟩
  | 64 => ⟨S_, .f32⟩
  | 65 => ⟨S256x96, .f32⟩
  | 66 => ⟨S512x96, .f32⟩
  | 67 => ⟨S_, .f32⟩
  | 68 => ⟨S512x96, .f32⟩
  | 69 => ⟨S512x96, .f32⟩
  | 70 => ⟨S_, .f32⟩
  | 71 => ⟨S512x96, .f32⟩
  | 72 => ⟨S512x96, .f32⟩
  | 73 => ⟨S512x96, .f32⟩
  | 74 => ⟨S_, .f32⟩
  | 75 => ⟨S512x96, .f32⟩
  | 76 => ⟨S512x96, .f32⟩
  | 77 => ⟨S512x96, .f32⟩
  | 78 => ⟨S_, .f32⟩
  | 79 => ⟨S512x96, .f32⟩
  | 80 => ⟨S512x96, .f32⟩
  | 81 => ⟨S512x96, .f32⟩
  | 82 => ⟨S_, .f32⟩
  | 83 => ⟨S512x96, .f32⟩
  | 84 => ⟨S512x96, .f32⟩
  | 85 => ⟨S_, .f32⟩
  | 86 => ⟨S512x96, .f32⟩
  | 87 => ⟨S512x96, .f32⟩
  | 88 => ⟨S512x96, .f32⟩
  | 89 => ⟨S_, .f32⟩
  | 90 => ⟨S512x96, .f32⟩
  | 91 => ⟨S512x96, .f32⟩
  | 92 => ⟨S512x96, .f32⟩
  | 93 => ⟨S_, .f32⟩
  | 94 => ⟨S512x96, .f32⟩
  | 95 => ⟨S512x96, .f32⟩
  | 96 => ⟨S512x96, .f32⟩
  | 97 => ⟨S_, .f32⟩
  | 98 => ⟨S512x96, .f32⟩
  | 99 => ⟨S512x96, .f32⟩
  | 100 => ⟨S8x128x128, .f32⟩
  | 101 => ⟨S_, .f32⟩
  | 102 => ⟨S128x128, .f32⟩
  | 103 => ⟨S8x128x128, .f32⟩
  | 104 => ⟨S_, .f32⟩
  | 105 => ⟨S128x128, .f32⟩
  | 106 => ⟨S256x128, .f32⟩
  | 107 => ⟨S_, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S256x128, .f32⟩
  | 114 => ⟨S_, .f32⟩
  | 115 => ⟨S256x128, .f32⟩
  | 116 => ⟨S256x128, .f32⟩
  | 117 => ⟨S256x128, .f32⟩
  | 118 => ⟨S_, .f32⟩
  | 119 => ⟨S256x128, .f32⟩
  | 120 => ⟨S256x128, .f32⟩
  | 121 => ⟨S256x128, .f32⟩
  | 122 => ⟨S_, .f32⟩
  | 123 => ⟨S256x128, .f32⟩
  | 124 => ⟨S256x128, .f32⟩
  | 125 => ⟨S_, .f32⟩
  | 126 => ⟨S256x128, .f32⟩
  | 127 => ⟨S256x128, .f32⟩
  | _ => ⟨S8x1024x276, .bf16⟩

abbrev hbmTy0_1 (i : Nat) : BufTy := match i % 128 with
  | 0 => ⟨S256x128, .f32⟩
  | 1 => ⟨S_, .f32⟩
  | 2 => ⟨S256x128, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S256x128, .f32⟩
  | 9 => ⟨S_, .f32⟩
  | 10 => ⟨S256x128, .f32⟩
  | 11 => ⟨S256x128, .f32⟩
  | 12 => ⟨S8x192x1024, .f32⟩
  | 13 => ⟨S_, .f32⟩
  | 14 => ⟨S192x1024, .f32⟩
  | 15 => ⟨S8x192x1024, .f32⟩
  | 16 => ⟨S_, .f32⟩
  | 17 => ⟨S192x1024, .f32⟩
  | 18 => ⟨S384x1024, .f32⟩
  | 19 => ⟨S_, .f32⟩
  | 20 => ⟨S384x1024, .f32⟩
  | 21 => ⟨S384x1024, .f32⟩
  | 22 => ⟨S_, .f32⟩
  | 23 => ⟨S384x1024, .f32⟩
  | 24 => ⟨S384x1024, .f32⟩
  | 25 => ⟨S384x1024, .f32⟩
  | 26 => ⟨S_, .f32⟩
  | 27 => ⟨S384x1024, .f32⟩
  | 28 => ⟨S384x1024, .f32⟩
  | 29 => ⟨S384x1024, .f32⟩
  | 30 => ⟨S_, .f32⟩
  | 31 => ⟨S384x1024, .f32⟩
  | 32 => ⟨S384x1024, .f32⟩
  | 33 => ⟨S384x1024, .f32⟩
  | 34 => ⟨S_, .f32⟩
  | 35 => ⟨S384x1024, .f32⟩
  | 36 => ⟨S384x1024, .f32⟩
  | 37 => ⟨S_, .f32⟩
  | 38 => ⟨S384x1024, .f32⟩
  | 39 => ⟨S384x1024, .f32⟩
  | 40 => ⟨S384x1024, .f32⟩
  | 41 => ⟨S_, .f32⟩
  | 42 => ⟨S384x1024, .f32⟩
  | 43 => ⟨S384x1024, .f32⟩
  | 44 => ⟨S384x1024, .f32⟩
  | 45 => ⟨S_, .f32⟩
  | 46 => ⟨S384x1024, .f32⟩
  | 47 => ⟨S384x1024, .f32⟩
  | 48 => ⟨S384x1024, .f32⟩
  | 49 => ⟨S_, .f32⟩
  | 50 => ⟨S384x1024, .f32⟩
  | 51 => ⟨S384x1024, .f32⟩
  | _ => ⟨S8x1024x276, .bf16⟩

abbrev hbmTy (i : Nat) : BufTy := match i / 128 with
  | 0 => hbmTy0_0 i
  | 1 => hbmTy0_1 i
  | _ => ⟨S8x1024x276, .bf16⟩

abbrev bufTy : (tb : Table) → Fin (tcTables nBuf tb) → BufTy
  | .hbm, ⟨i, _⟩ => hbmTy i
  | _, _ => ⟨S8x1024x276, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_3 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_7 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_9 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_10 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_cst_12 : Ref sig .tc := ⟨.hbm, 67, rfl⟩
abbrev main_v34 : Ref sig .tc := ⟨.hbm, 68, rfl⟩
abbrev main_v35 : Ref sig .tc := ⟨.hbm, 69, rfl⟩
abbrev main_cst_13 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_14 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_15 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_16 : Ref sig .tc := ⟨.hbm, 82, rfl⟩
abbrev main_v45 : Ref sig .tc := ⟨.hbm, 83, rfl⟩
abbrev main_v46 : Ref sig .tc := ⟨.hbm, 84, rfl⟩
abbrev main_cst_17 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_cst_23 : Ref sig .tc := ⟨.hbm, 107, rfl⟩
abbrev main_v63 : Ref sig .tc := ⟨.hbm, 108, rfl⟩
abbrev main_v64 : Ref sig .tc := ⟨.hbm, 109, rfl⟩
abbrev main_cst_24 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_25 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_26 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_cst_28 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_29 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_30 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_cst_33 : Ref sig .tc := ⟨.hbm, 144, rfl⟩
abbrev main_v90 : Ref sig .tc := ⟨.hbm, 145, rfl⟩
abbrev main_v91 : Ref sig .tc := ⟨.hbm, 146, rfl⟩
abbrev main_cst_34 : Ref sig .tc := ⟨.hbm, 147, rfl⟩
abbrev main_v92 : Ref sig .tc := ⟨.hbm, 148, rfl⟩
abbrev main_v93 : Ref sig .tc := ⟨.hbm, 149, rfl⟩
abbrev main_cst_35 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_36 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_37 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_38 : Ref sig .tc := ⟨.hbm, 162, rfl⟩
abbrev main_v103 : Ref sig .tc := ⟨.hbm, 163, rfl⟩
abbrev main_v104 : Ref sig .tc := ⟨.hbm, 164, rfl⟩
abbrev main_cst_39 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_40 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_41 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_42 : Ref sig .tc := ⟨.hbm, 177, rfl⟩
abbrev main_v114 : Ref sig .tc := ⟨.hbm, 178, rfl⟩
abbrev main_v115 : Ref sig .tc := ⟨.hbm, 179, rfl⟩

abbrev nD : Nat := 1
abbrev τ : Topo := Topo.v7x

variable {F : FTy → Type} [FloatOps F]
-- ==== AdamwFfKernel.lean ====
abbrev S8x1024x512 : Shape := ⟨3, ![8, 1024, 512]⟩
abbrev S2048x512 : Shape := ⟨2, ![2048, 512]⟩
abbrev S8x512x1024 : Shape := ⟨3, ![8, 512, 1024]⟩
abbrev S1024x1024 : Shape := ⟨2, ![1024, 1024]⟩
abbrev S8x2048x64 : Shape := ⟨3, ![8, 2048, 64]⟩
abbrev S4096x64 : Shape := ⟨2, ![4096, 64]⟩
abbrev S1x1024x768 : Shape := ⟨3, ![1, 1024, 768]⟩
abbrev S2048x768 : Shape := ⟨2, ![2048, 768]⟩
abbrev S1x32x1024 : Shape := ⟨3, ![1, 32, 1024]⟩
abbrev S32x1024 : Shape := ⟨2, ![32, 1024]⟩
abbrev S8x256x512 : Shape := ⟨3, ![8, 256, 512]⟩
abbrev S256x512 : Shape := ⟨2, ![256, 512]⟩
abbrev S1x256x512 : Shape := ⟨3, ![1, 256, 512]⟩
abbrev S8x256x1024 : Shape := ⟨3, ![8, 256, 1024]⟩
abbrev S256x1024 : Shape := ⟨2, ![256, 1024]⟩
abbrev S1x256x1024 : Shape := ⟨3, ![1, 256, 1024]⟩
abbrev S8x256x64 : Shape := ⟨3, ![8, 256, 64]⟩
abbrev S256x64 : Shape := ⟨2, ![256, 64]⟩
abbrev S1x256x64 : Shape := ⟨3, ![1, 256, 64]⟩
abbrev S1x256x768 : Shape := ⟨3, ![1, 256, 768]⟩
abbrev S256x768 : Shape := ⟨2, ![256, 768]⟩

abbrev nBuf : Space → Nat
  | .hbm => 44
  | .vmem => 80
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S8x512x1024, .bf16⟩
  | .hbm, ⟨6, _⟩ => ⟨S8x512x1024, .bf16⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S8x2048x64, .f32⟩
  | .hbm, ⟨11, _⟩ => ⟨S8x2048x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S1x1024x768, .f32⟩
  | .hbm, ⟨16, _⟩ => ⟨S1x1024x768, .f32⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S1x32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S32x1024, .f32⟩
  | .hbm, ⟨41, _⟩ => ⟨S32x1024, .f32⟩
  | .hbm, ⟨42, _⟩ => ⟨S32x1024, .f32⟩
  | .hbm, ⟨43, _⟩ => ⟨S32x1024, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x256x1024, .bf16⟩
  | .local _ .vmem, ⟨19, _⟩ => ⟨S8x256x1024, .bf16⟩
  | .local _ .vmem, ⟨20, _⟩ => ⟨S8x256x1024, .bf16⟩
  | .local _ .vmem, ⟨21, _⟩ => ⟨S8x256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S8x256x64, .f32⟩
  | .local _ .vmem, ⟨37, _⟩ => ⟨S8x256x64, .f32⟩
  | .local _ .vmem, ⟨38, _⟩ => ⟨S8x256x64, .f32⟩
  | .local _ .vmem, ⟨39, _⟩ => ⟨S8x256x64, .f32⟩
  | .local _ .vmem, ⟨40, _⟩ => ⟨S256x64, .f32⟩
  | .local _ .vmem, ⟨41, _⟩ => ⟨S256x64, .f32⟩
  | .local _ .vmem, ⟨42, _⟩ => ⟨S256x64, .f32⟩
  | .local _ .vmem, ⟨43, _⟩ => ⟨S256x64, .f32⟩
  | .local _ .vmem, ⟨44, _⟩ => ⟨S256x64, .f32⟩
  | .local _ .vmem, ⟨45, _⟩ => ⟨S256x64, .f32⟩
  | .local _ .vmem, ⟨46, _⟩ => ⟨S256x64, .f32⟩
  | .local _ .vmem, ⟨47, _⟩ => ⟨S256x64, .f32⟩
  | .local _ .vmem, ⟨48, _⟩ => ⟨S256x64, .f32⟩
  | .local _ .vmem, ⟨49, _⟩ => ⟨S256x64, .f32⟩
  | .local _ .vmem, ⟨50, _⟩ => ⟨S256x64, .f32⟩
  | .local _ .vmem, ⟨51, _⟩ => ⟨S256x64, .f32⟩
  | .local _ .vmem, ⟨52, _⟩ => ⟨S256x64, .f32⟩
  | .local _ .vmem, ⟨53, _⟩ => ⟨S256x64, .f32⟩
  | .local _ .vmem, ⟨54, _⟩ => ⟨S1x256x768, .f32⟩
  | .local _ .vmem, ⟨55, _⟩ => ⟨S1x256x768, .f32⟩
  | .local _ .vmem, ⟨56, _⟩ => ⟨S1x256x768, .f32⟩
  | .local _ .vmem, ⟨57, _⟩ => ⟨S1x256x768, .f32⟩
  | .local _ .vmem, ⟨58, _⟩ => ⟨S256x768, .f32⟩
  | .local _ .vmem, ⟨59, _⟩ => ⟨S256x768, .f32⟩
  | .local _ .vmem, ⟨60, _⟩ => ⟨S256x768, .f32⟩
  | .local _ .vmem, ⟨61, _⟩ => ⟨S256x768, .f32⟩
  | .local _ .vmem, ⟨62, _⟩ => ⟨S256x768, .f32⟩
  | .local _ .vmem, ⟨63, _⟩ => ⟨S256x768, .f32⟩
  | .local _ .vmem, ⟨64, _⟩ => ⟨S256x768, .f32⟩
  | .local _ .vmem, ⟨65, _⟩ => ⟨S256x768, .f32⟩
  | .local _ .vmem, ⟨66, _⟩ => ⟨S256x768, .f32⟩
  | .local _ .vmem, ⟨67, _⟩ => ⟨S256x768, .f32⟩
  | .local _ .vmem, ⟨68, _⟩ => ⟨S256x768, .f32⟩
  | .local _ .vmem, ⟨69, _⟩ => ⟨S256x768, .f32⟩
  | .local _ .vmem, ⟨70, _⟩ => ⟨S256x768, .f32⟩
  | .local _ .vmem, ⟨71, _⟩ => ⟨S256x768, .f32⟩
  | .local _ .vmem, ⟨72, _⟩ => ⟨S1x32x1024, .f32⟩
  | .local _ .vmem, ⟨73, _⟩ => ⟨S32x1024, .f32⟩
  | .local _ .vmem, ⟨74, _⟩ => ⟨S32x1024, .f32⟩
  | .local _ .vmem, ⟨75, _⟩ => ⟨S32x1024, .f32⟩
  | .local _ .vmem, ⟨76, _⟩ => ⟨S32x1024, .f32⟩
  | .local _ .vmem, ⟨77, _⟩ => ⟨S32x1024, .f32⟩
  | .local _ .vmem, ⟨78, _⟩ => ⟨S32x1024, .f32⟩
  | .local _ .vmem, ⟨79, _⟩ => ⟨S32x1024, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_v2_0 : Ref sig .tc := ⟨.hbm, 32, rfl⟩
abbrev main_v2_1 : Ref sig .tc := ⟨.hbm, 33, rfl⟩
abbrev main_v2_2 : Ref sig .tc := ⟨.hbm, 34, rfl⟩
abbrev main_v2_3 : Ref sig .tc := ⟨.hbm, 35, rfl⟩
abbrev main_v3_0 : Ref sig .tc := ⟨.hbm, 36, rfl⟩
abbrev main_v3_1 : Ref sig .tc := ⟨.hbm, 37, rfl⟩
abbrev main_v3_2 : Ref sig .tc := ⟨.hbm, 38, rfl⟩
abbrev main_v3_3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc4_stg0_0 : Ref sig .tc := ⟨.vmem, 72, rfl⟩
abbrev cc4_stg1_0 : Ref sig .tc := ⟨.vmem, 73, rfl⟩
abbrev cc4_stg2_0 : Ref sig .tc := ⟨.vmem, 74, rfl⟩
abbrev cc4_stg3_0 : Ref sig .tc := ⟨.vmem, 75, rfl⟩
abbrev cc4_stg4_0 : Ref sig .tc := ⟨.vmem, 76, rfl⟩
abbrev cc4_stg5_0 : Ref sig .tc := ⟨.vmem, 77, rfl⟩
abbrev cc4_stg6_0 : Ref sig .tc := ⟨.vmem, 78, rfl⟩
abbrev cc4_stg7_0 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71
abbrev cc4_sem0_0 : DmaSem sig := 72
abbrev cc4_sem1_0 : DmaSem sig := 73
abbrev cc4_sem2_0 : DmaSem sig := 74
abbrev cc4_sem3_0 : DmaSem sig := 75
abbrev cc4_sem4_0 : DmaSem sig := 76
abbrev cc4_sem5_0 : DmaSem sig := 77
abbrev cc4_sem6_0 : DmaSem sig := 78
abbrev cc4_sem7_0 : DmaSem sig := 79

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 2], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 8], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c7_i32 : BitVec 32 := 7#32
  let c0_i32_1 : BitVec 32 := 0#32
  let v2 : BitVec 32 := Scalar.select v1 c7_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c7_i32 : BitVec 32 := 7#32
  let c0_i32 : BitVec 32 := 0#32
  let v2 : BitVec 32 := Scalar.select v1 c7_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_8 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S8x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S256x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 4], ![false, false]⟩

def k3_cond1 (i : grid3.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_6 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_7 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_8 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S1x256x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S256x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S256x768 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S256x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S256x768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S256x768 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S256x768 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev grid4 : Pipeline.Grid := ⟨2, ![1, 1], ![false, false]⟩

def k4_cond1 (i : grid4.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc4_transform_1 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc4_transform_4 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc4_transform_5 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc4_transform_6 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc4_transform_7 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage4_0 : Fin 1 → Memref sig .tc .vmem S1x32x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, true]

abbrev stage4_1 : Fin 1 → Memref sig .tc .vmem S32x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true]

abbrev stage4_2 : Fin 1 → Memref sig .tc .vmem S32x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev stage4_3 : Fin 1 → Memref sig .tc .vmem S32x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true]

abbrev stage4_4 : Fin 1 → Memref sig .tc .vmem S32x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, true]

abbrev stage4_5 : Fin 1 → Memref sig .tc .vmem S32x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, true]

abbrev stage4_6 : Fin 1 → Memref sig .tc .vmem S32x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true, true]

abbrev stage4_7 : Fin 1 → Memref sig .tc .vmem S32x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true, true]
-- ==== AdamwFfReferenceIdeal.lean ====
abbrev S8x1024x512 : Shape := ⟨3, ![8, 1024, 512]⟩
abbrev S2048x512 : Shape := ⟨2, ![2048, 512]⟩
abbrev S8x512x1024 : Shape := ⟨3, ![8, 512, 1024]⟩
abbrev S1024x1024 : Shape := ⟨2, ![1024, 1024]⟩
abbrev S8x2048x64 : Shape := ⟨3, ![8, 2048, 64]⟩
abbrev S4096x64 : Shape := ⟨2, ![4096, 64]⟩
abbrev S1x1024x768 : Shape := ⟨3, ![1, 1024, 768]⟩
abbrev S2048x768 : Shape := ⟨2, ![2048, 768]⟩
abbrev S1x32x1024 : Shape := ⟨3, ![1, 32, 1024]⟩
abbrev S32x1024 : Shape := ⟨2, ![32, 1024]⟩
abbrev S_ : Shape := ⟨0, ![]⟩
abbrev S1024x512 : Shape := ⟨2, ![1024, 512]⟩
abbrev S512x1024 : Shape := ⟨2, ![512, 1024]⟩
abbrev S2048x64 : Shape := ⟨2, ![2048, 64]⟩
abbrev S1024x768 : Shape := ⟨2, ![1024, 768]⟩

abbrev nBuf : Space → Nat
  | .hbm => 214
  | .vmem => 0
  | .smem => 0
  | _ => 0

abbrev hbmTy0_0 (i : Nat) : BufTy := match i % 128 with
  | 0 => ⟨S8x1024x512, .bf16⟩
  | 1 => ⟨S8x1024x512, .bf16⟩
  | 2 => ⟨S2048x512, .f32⟩
  | 3 => ⟨S2048x512, .f32⟩
  | 4 => ⟨S2048x512, .f32⟩
  | 5 => ⟨S8x512x1024, .bf16⟩
  | 6 => ⟨S8x512x1024, .bf16⟩
  | 7 => ⟨S1024x1024, .f32⟩
  | 8 => ⟨S1024x1024, .f32⟩
  | 9 => ⟨S1024x1024, .f32⟩
  | 10 => ⟨S8x2048x64, .f32⟩
  | 11 => ⟨S8x2048x64, .f32⟩
  | 12 => ⟨S4096x64, .f32⟩
  | 13 => ⟨S4096x64, .f32⟩
  | 14 => ⟨S4096x64, .f32⟩
  | 15 => ⟨S1x1024x768, .f32⟩
  | 16 => ⟨S1x1024x768, .f32⟩
  | 17 => ⟨S2048x768, .f32⟩
  | 18 => ⟨S2048x768, .f32⟩
  | 19 => ⟨S2048x768, .f32⟩
  | 20 => ⟨S1x32x1024, .f32⟩
  | 21 => ⟨S32x1024, .f32⟩
  | 22 => ⟨S32x1024, .f32⟩
  | 23 => ⟨S32x1024, .f32⟩
  | 24 => ⟨S8x1024x512, .f32⟩
  | 25 => ⟨S_, .f32⟩
  | 26 => ⟨S1024x512, .f32⟩
  | 27 => ⟨S8x1024x512, .f32⟩
  | 28 => ⟨S_, .f32⟩
  | 29 => ⟨S1024x512, .f32⟩
  | 30 => ⟨S2048x512, .f32⟩
  | 31 => ⟨S_, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S2048x512, .f32⟩
  | 38 => ⟨S_, .f32⟩
  | 39 => ⟨S2048x512, .f32⟩
  | 40 => ⟨S2048x512, .f32⟩
  | 41 => ⟨S2048x512, .f32⟩
  | 42 => ⟨S_, .f32⟩
  | 43 => ⟨S2048x512, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S2048x512, .f32⟩
  | 57 => ⟨S_, .f32⟩
  | 58 => ⟨S2048x512, .f32⟩
  | 59 => ⟨S2048x512, .f32⟩
  | 60 => ⟨S2048x512, .f32⟩
  | 61 => ⟨S_, .f32⟩
  | 62 => ⟨S2048x512, .f32⟩
  | 63 => ⟨S2048x512, .f32⟩
  | 64 => ⟨S8x512x1024, .f32⟩
  | 65 => ⟨S_, .f32⟩
  | 66 => ⟨S512x1024, .f32⟩
  | 67 => ⟨S8x512x1024, .f32⟩
  | 68 => ⟨S_, .f32⟩
  | 69 => ⟨S512x1024, .f32⟩
  | 70 => ⟨S1024x1024, .f32⟩
  | 71 => ⟨S_, .f32⟩
  | 72 => ⟨S1024x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S_, .f32⟩
  | 79 => ⟨S1024x1024, .f32⟩
  | 80 => ⟨S1024x1024, .f32⟩
  | 81 => ⟨S1024x1024, .f32⟩
  | 82 => ⟨S_, .f32⟩
  | 83 => ⟨S1024x1024, .f32⟩
  | 84 => ⟨S1024x1024, .f32⟩
  | 85 => ⟨S1024x1024, .f32⟩
  | 86 => ⟨S_, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S_, .f32⟩
  | 94 => ⟨S1024x1024, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S1024x1024, .f32⟩
  | 101 => ⟨S_, .f32⟩
  | 102 => ⟨S1024x1024, .f32⟩
  | 103 => ⟨S1024x1024, .f32⟩
  | 104 => ⟨S_, .f32⟩
  | 105 => ⟨S2048x64, .f32⟩
  | 106 => ⟨S_, .f32⟩
  | 107 => ⟨S2048x64, .f32⟩
  | 108 => ⟨S4096x64, .f32⟩
  | 109 => ⟨S_, .f32⟩
  | 110 => ⟨S4096x64, .f32⟩
  | 111 => ⟨S4096x64, .f32⟩
  | 112 => ⟨S_, .f32⟩
  | 113 => ⟨S4096x64, .f32⟩
  | 114 => ⟨S4096x64, .f32⟩
  | 115 => ⟨S4096x64, .f32⟩
  | 116 => ⟨S_, .f32⟩
  | 117 => ⟨S4096x64, .f32⟩
  | 118 => ⟨S4096x64, .f32⟩
  | 119 => ⟨S4096x64, .f32⟩
  | 120 => ⟨S_, .f32⟩
  | 121 => ⟨S4096x64, .f32⟩
  | 122 => ⟨S4096x64, .f32⟩
  | 123 => ⟨S4096x64, .f32⟩
  | 124 => ⟨S_, .f32⟩
  | 125 => ⟨S4096x64, .f32⟩
  | 126 => ⟨S4096x64, .f32⟩
  | 127 => ⟨S_, .f32⟩
  | _ => ⟨S8x1024x512, .bf16⟩

abbrev hbmTy0_1 (i : Nat) : BufTy := match i % 128 with
  | 0 => ⟨S4096x64, .f32⟩
  | 1 => ⟨S4096x64, .f32⟩
  | 2 => ⟨S4096x64, .f32⟩
  | 3 => ⟨S_, .f32⟩
  | 4 => ⟨S4096x64, .f32⟩
  | 5 => ⟨S4096x64, .f32⟩
  | 6 => ⟨S4096x64, .f32⟩
  | 7 => ⟨S_, .f32⟩
  | 8 => ⟨S4096x64, .f32⟩
  | 9 => ⟨S4096x64, .f32⟩
  | 10 => ⟨S4096x64, .f32⟩
  | 11 => ⟨S_, .f32⟩
  | 12 => ⟨S4096x64, .f32⟩
  | 13 => ⟨S4096x64, .f32⟩
  | 14 => ⟨S_, .f32⟩
  | 15 => ⟨S1024x768, .f32⟩
  | 16 => ⟨S_, .f32⟩
  | 17 => ⟨S1024x768, .f32⟩
  | 18 => ⟨S2048x768, .f32⟩
  | 19 => ⟨S_, .f32⟩
  | 20 => ⟨S2048x768, .f32⟩
  | 21 => ⟨S2048x768, .f32⟩
  | 22 => ⟨S_, .f32⟩
  | 23 => ⟨S2048x768, .f32⟩
  | 24 => ⟨S2048x768, .f32⟩
  | 25 => ⟨S2048x768, .f32⟩
  | 26 => ⟨S_, .f32⟩
  | 27 => ⟨S2048x768, .f32⟩
  | 28 => ⟨S2048x768, .f32⟩
  | 29 => ⟨S2048x768, .f32⟩
  | 30 => ⟨S_, .f32⟩
  | 31 => ⟨S2048x768, .f32⟩
  | 32 => ⟨S2048x768, .f32⟩
  | 33 => ⟨S2048x768, .f32⟩
  | 34 => ⟨S_, .f32⟩
  | 35 => ⟨S2048x768, .f32⟩
  | 36 => ⟨S2048x768, .f32⟩
  | 37 => ⟨S_, .f32⟩
  | 38 => ⟨S2048x768, .f32⟩
  | 39 => ⟨S2048x768, .f32⟩
  | 40 => ⟨S2048x768, .f32⟩
  | 41 => ⟨S_, .f32⟩
  | 42 => ⟨S2048x768, .f32⟩
  | 43 => ⟨S2048x768, .f32⟩
  | 44 => ⟨S2048x768, .f32⟩
  | 45 => ⟨S_, .f32⟩
  | 46 => ⟨S2048x768, .f32⟩
  | 47 => ⟨S2048x768, .f32⟩
  | 48 => ⟨S2048x768, .f32⟩
  | 49 => ⟨S_, .f32⟩
  | 50 => ⟨S2048x768, .f32⟩
  | 51 => ⟨S2048x768, .f32⟩
  | 52 => ⟨S32x1024, .f32⟩
  | 53 => ⟨S_, .f32⟩
  | 54 => ⟨S32x1024, .f32⟩
  | 55 => ⟨S32x1024, .f32⟩
  | 56 => ⟨S_, .f32⟩
  | 57 => ⟨S32x1024, .f32⟩
  | 58 => ⟨S32x1024, .f32⟩
  | 59 => ⟨S32x1024, .f32⟩
  | 60 => ⟨S_, .f32⟩
  | 61 => ⟨S32x1024, .f32⟩
  | 62 => ⟨S32x1024, .f32⟩
  | 63 => ⟨S32x1024, .f32⟩
  | 64 => ⟨S_, .f32⟩
  | 65 => ⟨S32x1024, .f32⟩
  | 66 => ⟨S32x1024, .f32⟩
  | 67 => ⟨S32x1024, .f32⟩
  | 68 => ⟨S_, .f32⟩
  | 69 => ⟨S32x1024, .f32⟩
  | 70 => ⟨S32x1024, .f32⟩
  | 71 => ⟨S_, .f32⟩
  | 72 => ⟨S32x1024, .f32⟩
  | 73 => ⟨S32x1024, .f32⟩
  | 74 => ⟨S32x1024, .f32⟩
  | 75 => ⟨S_, .f32⟩
  | 76 => ⟨S32x1024, .f32⟩
  | 77 => ⟨S32x1024, .f32⟩
  | 78 => ⟨S32x1024, .f32⟩
  | 79 => ⟨S_, .f32⟩
  | 80 => ⟨S32x1024, .f32⟩
  | 81 => ⟨S32x1024, .f32⟩
  | 82 => ⟨S32x1024, .f32⟩
  | 83 => ⟨S_, .f32⟩
  | 84 => ⟨S32x1024, .f32⟩
  | 85 => ⟨S32x1024, .f32⟩
  | _ => ⟨S8x1024x512, .bf16⟩

abbrev hbmTy (i : Nat) : BufTy := match i / 128 with
  | 0 => hbmTy0_0 i
  | 1 => hbmTy0_1 i
  | _ => ⟨S8x1024x512, .bf16⟩

abbrev bufTy : (tb : Table) → Fin (tcTables nBuf tb) → BufTy
  | .hbm, ⟨i, _⟩ => hbmTy i
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_cst_2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_cst_6 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_7 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_9 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_10 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_cst_12 : Ref sig .tc := ⟨.hbm, 71, rfl⟩
abbrev main_v34 : Ref sig .tc := ⟨.hbm, 72, rfl⟩
abbrev main_v35 : Ref sig .tc := ⟨.hbm, 73, rfl⟩
abbrev main_cst_13 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_15 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_16 : Ref sig .tc := ⟨.hbm, 86, rfl⟩
abbrev main_v45 : Ref sig .tc := ⟨.hbm, 87, rfl⟩
abbrev main_v46 : Ref sig .tc := ⟨.hbm, 88, rfl⟩
abbrev main_cst_17 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_cst_21 : Ref sig .tc := ⟨.hbm, 104, rfl⟩
abbrev main_v58 : Ref sig .tc := ⟨.hbm, 105, rfl⟩
abbrev main_cst_22 : Ref sig .tc := ⟨.hbm, 106, rfl⟩
abbrev main_v59 : Ref sig .tc := ⟨.hbm, 107, rfl⟩
abbrev main_v60 : Ref sig .tc := ⟨.hbm, 108, rfl⟩
abbrev main_cst_23 : Ref sig .tc := ⟨.hbm, 109, rfl⟩
abbrev main_v61 : Ref sig .tc := ⟨.hbm, 110, rfl⟩
abbrev main_v62 : Ref sig .tc := ⟨.hbm, 111, rfl⟩
abbrev main_cst_24 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_25 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_26 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_27 : Ref sig .tc := ⟨.hbm, 124, rfl⟩
abbrev main_v72 : Ref sig .tc := ⟨.hbm, 125, rfl⟩
abbrev main_v73 : Ref sig .tc := ⟨.hbm, 126, rfl⟩
abbrev main_cst_28 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_29 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_30 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_31 : Ref sig .tc := ⟨.hbm, 139, rfl⟩
abbrev main_v83 : Ref sig .tc := ⟨.hbm, 140, rfl⟩
abbrev main_v84 : Ref sig .tc := ⟨.hbm, 141, rfl⟩
abbrev main_cst_32 : Ref sig .tc := ⟨.hbm, 142, rfl⟩
abbrev main_v85 : Ref sig .tc := ⟨.hbm, 143, rfl⟩
abbrev main_cst_33 : Ref sig .tc := ⟨.hbm, 144, rfl⟩
abbrev main_v86 : Ref sig .tc := ⟨.hbm, 145, rfl⟩
abbrev main_v87 : Ref sig .tc := ⟨.hbm, 146, rfl⟩
abbrev main_cst_34 : Ref sig .tc := ⟨.hbm, 147, rfl⟩
abbrev main_v88 : Ref sig .tc := ⟨.hbm, 148, rfl⟩
abbrev main_v89 : Ref sig .tc := ⟨.hbm, 149, rfl⟩
abbrev main_cst_35 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_36 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_37 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_38 : Ref sig .tc := ⟨.hbm, 162, rfl⟩
abbrev main_v99 : Ref sig .tc := ⟨.hbm, 163, rfl⟩
abbrev main_v100 : Ref sig .tc := ⟨.hbm, 164, rfl⟩
abbrev main_cst_39 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_40 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_41 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_42 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_43 : Ref sig .tc := ⟨.hbm, 181, rfl⟩
abbrev main_v113 : Ref sig .tc := ⟨.hbm, 182, rfl⟩
abbrev main_v114 : Ref sig .tc := ⟨.hbm, 183, rfl⟩
abbrev main_cst_44 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_45 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_46 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_47 : Ref sig .tc := ⟨.hbm, 196, rfl⟩
abbrev main_v124 : Ref sig .tc := ⟨.hbm, 197, rfl⟩
abbrev main_v125 : Ref sig .tc := ⟨.hbm, 198, rfl⟩
abbrev main_cst_48 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_cst_49 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_cst_50 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_cst_51 : Ref sig .tc := ⟨.hbm, 211, rfl⟩
abbrev main_v135 : Ref sig .tc := ⟨.hbm, 212, rfl⟩
abbrev main_v136 : Ref sig .tc := ⟨.hbm, 213, rfl⟩

abbrev nD : Nat := 1
abbrev τ : Topo := Topo.v7x

variable {F : FTy → Type} [FloatOps F]
-- ==== SmallKernel.lean ====
abbrev S1024 : Shape := ⟨1, ![1024]⟩
abbrev S2x6144 : Shape := ⟨2, ![2, 6144]⟩
abbrev S2x1024 : Shape := ⟨2, ![2, 1024]⟩
abbrev S2x256 : Shape := ⟨2, ![2, 256]⟩
abbrev S2x128 : Shape := ⟨2, ![2, 128]⟩
abbrev S2x96 : Shape := ⟨2, ![2, 96]⟩
abbrev S2x4x64 : Shape := ⟨3, ![2, 4, 64]⟩
abbrev S2x512 : Shape := ⟨2, ![2, 512]⟩
abbrev S2x2x2x64 : Shape := ⟨4, ![2, 2, 2, 64]⟩
abbrev S2x2x64 : Shape := ⟨3, ![2, 2, 64]⟩
abbrev S2x64 : Shape := ⟨2, ![2, 64]⟩
abbrev S2x8 : Shape := ⟨2, ![2, 8]⟩
abbrev S2x1536 : Shape := ⟨2, ![2, 1536]⟩
abbrev S12288 : Shape := ⟨1, ![12288]⟩
abbrev S2048 : Shape := ⟨1, ![2048]⟩
abbrev S512 : Shape := ⟨1, ![512]⟩
abbrev S256 : Shape := ⟨1, ![256]⟩
abbrev S192 : Shape := ⟨1, ![192]⟩
abbrev S128 : Shape := ⟨1, ![128]⟩
abbrev S16 : Shape := ⟨1, ![16]⟩
abbrev S3072 : Shape := ⟨1, ![3072]⟩
abbrev S24208 : Shape := ⟨1, ![24208]⟩
abbrev S_ : Shape := ⟨0, ![]⟩
abbrev S32768 : Shape := ⟨1, ![32768]⟩
abbrev S32x1024 : Shape := ⟨2, ![32, 1024]⟩
abbrev S1x32x1024 : Shape := ⟨3, ![1, 32, 1024]⟩

abbrev nBuf : Space → Nat
  | .hbm => 245
  | .vmem => 8
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x256, .f32⟩
  | 4 => ⟨S2x128, .f32⟩
  | 5 => ⟨S2x96, .f32⟩
  | 6 => ⟨S2x96, .f32⟩
  | 7 => ⟨S2x4x64, .f32⟩
  | 8 => ⟨S2x512, .f32⟩
  | 9 => ⟨S2x2x2x64, .f32⟩
  | 10 => ⟨S2x2x64, .f32⟩
  | 11 => ⟨S2x64, .f32⟩
  | 12 => ⟨S2x64, .f32⟩
  | 13 => ⟨S2x8, .f32⟩
  | 14 => ⟨S2x1536, .f32⟩
  | 15 => ⟨S2x1024, .f32⟩
  | 16 => ⟨S1024, .f32⟩
  | 17 => ⟨S2x6144, .f32⟩
  | 18 => ⟨S2x1024, .f32⟩
  | 19 => ⟨S2x256, .f32⟩
  | 20 => ⟨S2x128, .f32⟩
  | 21 => ⟨S2x96, .f32⟩
  | 22 => ⟨S2x96, .f32⟩
  | 23 => ⟨S2x4x64, .f32⟩
  | 24 => ⟨S2x512, .f32⟩
  | 25 => ⟨S2x2x2x64, .f32⟩
  | 26 => ⟨S2x2x64, .f32⟩
  | 27 => ⟨S2x64, .f32⟩
  | 28 => ⟨S2x64, .f32⟩
  | 29 => ⟨S2x8, .f32⟩
  | 30 => ⟨S2x1536, .f32⟩
  | 31 => ⟨S2x1024, .f32⟩
  | 32 => ⟨S1024, .f32⟩
  | 33 => ⟨S2x6144, .f32⟩
  | 34 => ⟨S2x1024, .f32⟩
  | 35 => ⟨S2x256, .f32⟩
  | 36 => ⟨S2x128, .f32⟩
  | 37 => ⟨S2x96, .f32⟩
  | 38 => ⟨S2x96, .f32⟩
  | 39 => ⟨S2x4x64, .f32⟩
  | 40 => ⟨S2x512, .f32⟩
  | 41 => ⟨S2x2x2x64, .f32⟩
  | 42 => ⟨S2x2x64, .f32⟩
  | 43 => ⟨S2x64, .f32⟩
  | 44 => ⟨S2x64, .f32⟩
  | 45 => ⟨S2x8, .f32⟩
  | 46 => ⟨S2x1536, .f32⟩
  | 47 => ⟨S2x1024, .f32⟩
  | 48 => ⟨S1024, .f32⟩
  | 49 => ⟨S2x6144, .f32⟩
  | 50 => ⟨S2x1024, .f32⟩
  | 51 => ⟨S2x256, .f32⟩
  | 52 => ⟨S2x128, .f32⟩
  | 53 => ⟨S2x96, .f32⟩
  | 54 => ⟨S2x96, .f32⟩
  | 55 => ⟨S2x4x64, .f32⟩
  | 56 => ⟨S2x512, .f32⟩
  | 57 => ⟨S2x2x2x64, .f32⟩
  | 58 => ⟨S2x2x64, .f32⟩
  | 59 => ⟨S2x64, .f32⟩
  | 60 => ⟨S2x64, .f32⟩
  | 61 => ⟨S2x8, .f32⟩
  | 62 => ⟨S2x1536, .f32⟩
  | 63 => ⟨S2x1024, .f32⟩
  | 64 => ⟨S12288, .f32⟩
  | 65 => ⟨S2048, .f32⟩
  | 66 => ⟨S512, .f32⟩
  | 67 => ⟨S256, .f32⟩
  | 68 => ⟨S192, .f32⟩
  | 69 => ⟨S192, .f32⟩
  | 70 => ⟨S512, .f32⟩
  | 71 => ⟨S1024, .f32⟩
  | 72 => ⟨S512, .f32⟩
  | 73 => ⟨S256, .f32⟩
  | 74 => ⟨S128, .f32⟩
  | 75 => ⟨S128, .f32⟩
  | 76 => ⟨S16, .f32⟩
  | 77 => ⟨S3072, .f32⟩
  | 78 => ⟨S2048, .f32⟩
  | 79 => ⟨S24208, .f32⟩
  | 80 => ⟨S_, .i32⟩
  | 81 => ⟨S_, .f32⟩
  | 82 => ⟨S32768, .f32⟩
  | 83 => ⟨S32x1024, .f32⟩
  | 84 => ⟨S1x32x1024, .f32⟩
  | 85 => ⟨S12288, .f32⟩
  | 86 => ⟨S2048, .f32⟩
  | 87 => ⟨S512, .f32⟩
  | 88 => ⟨S256, .f32⟩
  | 89 => ⟨S192, .f32⟩
  | 90 => ⟨S192, .f32⟩
  | 91 => ⟨S512, .f32⟩
  | 92 => ⟨S1024, .f32⟩
  | 93 => ⟨S512, .f32⟩
  | 94 => ⟨S256, .f32⟩
  | 95 => ⟨S128, .f32⟩
  | 96 => ⟨S128, .f32⟩
  | 97 => ⟨S16, .f32⟩
  | 98 => ⟨S3072, .f32⟩
  | 99 => ⟨S2048, .f32⟩
  | 100 => ⟨S24208, .f32⟩
  | 101 => ⟨S_, .i32⟩
  | 102 => ⟨S_, .f32⟩
  | 103 => ⟨S32768, .f32⟩
  | 104 => ⟨S32x1024, .f32⟩
  | 105 => ⟨S12288, .f32⟩
  | 106 => ⟨S2048, .f32⟩
  | 107 => ⟨S512, .f32⟩
  | 108 => ⟨S256, .f32⟩
  | 109 => ⟨S192, .f32⟩
  | 110 => ⟨S192, .f32⟩
  | 111 => ⟨S512, .f32⟩
  | 112 => ⟨S1024, .f32⟩
  | 113 => ⟨S512, .f32⟩
  | 114 => ⟨S256, .f32⟩
  | 115 => ⟨S128, .f32⟩
  | 116 => ⟨S128, .f32⟩
  | 117 => ⟨S16, .f32⟩
  | 118 => ⟨S3072, .f32⟩
  | 119 => ⟨S2048, .f32⟩
  | 120 => ⟨S24208, .f32⟩
  | 121 => ⟨S_, .i32⟩
  | 122 => ⟨S_, .f32⟩
  | 123 => ⟨S32768, .f32⟩
  | 124 => ⟨S32x1024, .f32⟩
  | 125 => ⟨S12288, .f32⟩
  | 126 => ⟨S2048, .f32⟩
  | 127 => ⟨S512, .f32⟩
  | _ => ⟨S1024, .f32⟩

abbrev hbmTy0_1 (i : Nat) : BufTy := match i % 128 with
  | 0 => ⟨S256, .f32⟩
  | 1 => ⟨S192, .f32⟩
  | 2 => ⟨S192, .f32⟩
  | 3 => ⟨S512, .f32⟩
  | 4 => ⟨S1024, .f32⟩
  | 5 => ⟨S512, .f32⟩
  | 6 => ⟨S256, .f32⟩
  | 7 => ⟨S128, .f32⟩
  | 8 => ⟨S128, .f32⟩
  | 9 => ⟨S16, .f32⟩
  | 10 => ⟨S3072, .f32⟩
  | 11 => ⟨S2048, .f32⟩
  | 12 => ⟨S24208, .f32⟩
  | 13 => ⟨S_, .i32⟩
  | 14 => ⟨S_, .f32⟩
  | 15 => ⟨S32768, .f32⟩
  | 16 => ⟨S32x1024, .f32⟩
  | 17 => ⟨S32x1024, .f32⟩
  | 18 => ⟨S32x1024, .f32⟩
  | 19 => ⟨S32x1024, .f32⟩
  | 20 => ⟨S32x1024, .f32⟩
  | 21 => ⟨S32768, .f32⟩
  | 22 => ⟨S1024, .f32⟩
  | 23 => ⟨S12288, .f32⟩
  | 24 => ⟨S2x6144, .f32⟩
  | 25 => ⟨S2048, .f32⟩
  | 26 => ⟨S2x1024, .f32⟩
  | 27 => ⟨S512, .f32⟩
  | 28 => ⟨S2x256, .f32⟩
  | 29 => ⟨S256, .f32⟩
  | 30 => ⟨S2x128, .f32⟩
  | 31 => ⟨S192, .f32⟩
  | 32 => ⟨S2x96, .f32⟩
  | 33 => ⟨S192, .f32⟩
  | 34 => ⟨S2x96, .f32⟩
  | 35 => ⟨S512, .f32⟩
  | 36 => ⟨S2x4x64, .f32⟩
  | 37 => ⟨S1024, .f32⟩
  | 38 => ⟨S2x512, .f32⟩
  | 39 => ⟨S512, .f32⟩
  | 40 => ⟨S2x2x2x64, .f32⟩
  | 41 => ⟨S256, .f32⟩
  | 42 => ⟨S2x2x64, .f32⟩
  | 43 => ⟨S128, .f32⟩
  | 44 => ⟨S2x64, .f32⟩
  | 45 => ⟨S128, .f32⟩
  | 46 => ⟨S2x64, .f32⟩
  | 47 => ⟨S16, .f32⟩
  | 48 => ⟨S2x8, .f32⟩
  | 49 => ⟨S3072, .f32⟩
  | 50 => ⟨S2x1536, .f32⟩
  | 51 => ⟨S2048, .f32⟩
  | 52 => ⟨S2x1024, .f32⟩
  | 53 => ⟨S32768, .f32⟩
  | 54 => ⟨S1024, .f32⟩
  | 55 => ⟨S12288, .f32⟩
  | 56 => ⟨S2x6144, .f32⟩
  | 57 => ⟨S2048, .f32⟩
  | 58 => ⟨S2x1024, .f32⟩
  | 59 => ⟨S512, .f32⟩
  | 60 => ⟨S2x256, .f32⟩
  | 61 => ⟨S256, .f32⟩
  | 62 => ⟨S2x128, .f32⟩
  | 63 => ⟨S192, .f32⟩
  | 64 => ⟨S2x96, .f32⟩
  | 65 => ⟨S192, .f32⟩
  | 66 => ⟨S2x96, .f32⟩
  | 67 => ⟨S512, .f32⟩
  | 68 => ⟨S2x4x64, .f32⟩
  | 69 => ⟨S1024, .f32⟩
  | 70 => ⟨S2x512, .f32⟩
  | 71 => ⟨S512, .f32⟩
  | 72 => ⟨S2x2x2x64, .f32⟩
  | 73 => ⟨S256, .f32⟩
  | 74 => ⟨S2x2x64, .f32⟩
  | 75 => ⟨S128, .f32⟩
  | 76 => ⟨S2x64, .f32⟩
  | 77 => ⟨S128, .f32⟩
  | 78 => ⟨S2x64, .f32⟩
  | 79 => ⟨S16, .f32⟩
  | 80 => ⟨S2x8, .f32⟩
  | 81 => ⟨S3072, .f32⟩
  | 82 => ⟨S2x1536, .f32⟩
  | 83 => ⟨S2048, .f32⟩
  | 84 => ⟨S2x1024, .f32⟩
  | 85 => ⟨S32768, .f32⟩
  | 86 => ⟨S1024, .f32⟩
  | 87 => ⟨S12288, .f32⟩
  | 88 => ⟨S2x6144, .f32⟩
  | 89 => ⟨S2048, .f32⟩
  | 90 => ⟨S2x1024, .f32⟩
  | 91 => ⟨S512, .f32⟩
  | 92 => ⟨S2x256, .f32⟩
  | 93 => ⟨S256, .f32⟩
  | 94 => ⟨S2x128, .f32⟩
  | 95 => ⟨S192, .f32⟩
  | 96 => ⟨S2x96, .f32⟩
  | 97 => ⟨S192, .f32⟩
  | 98 => ⟨S2x96, .f32⟩
  | 99 => ⟨S512, .f32⟩
  | 100 => ⟨S2x4x64, .f32⟩
  | 101 => ⟨S1024, .f32⟩
  | 102 => ⟨S2x512, .f32⟩
  | 103 => ⟨S512, .f32⟩
  | 104 => ⟨S2x2x2x64, .f32⟩
  | 105 => ⟨S256, .f32⟩
  | 106 => ⟨S2x2x64, .f32⟩
  | 107 => ⟨S128, .f32⟩
  | 108 => ⟨S2x64, .f32⟩
  | 109 => ⟨S128, .f32⟩
  | 110 => ⟨S2x64, .f32⟩
  | 111 => ⟨S16, .f32⟩
  | 112 => ⟨S2x8, .f32⟩
  | 113 => ⟨S3072, .f32⟩
  | 114 => ⟨S2x1536, .f32⟩
  | 115 => ⟨S2048, .f32⟩
  | 116 => ⟨S2x1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S1x32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_v0 : Ref sig .tc := ⟨.hbm, 64, rfl⟩
abbrev main_v1 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_c : Ref sig .tc := ⟨.hbm, 80, rfl⟩
abbrev main_call0_v0 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_c_0 : Ref sig .tc := ⟨.hbm, 101, rfl⟩
abbrev main_call1_v0 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_c_1 : Ref sig .tc := ⟨.hbm, 121, rfl⟩
abbrev main_call2_v0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_c_2 : Ref sig .tc := ⟨.hbm, 141, rfl⟩
abbrev main_call3_v0 : Ref sig .tc := ⟨.hbm, 142, rfl⟩
abbrev main_v71 : Ref sig .tc := ⟨.hbm, 143, rfl⟩
abbrev main_v72 : Ref sig .tc := ⟨.hbm, 144, rfl⟩
abbrev main_v73_0 : Ref sig .tc := ⟨.hbm, 145, rfl⟩
abbrev main_v73_1 : Ref sig .tc := ⟨.hbm, 146, rfl⟩
abbrev main_v73_2 : Ref sig .tc := ⟨.hbm, 147, rfl⟩
abbrev main_v73_3 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== SmallReferenceIdeal.lean ====
abbrev S1024 : Shape := ⟨1, ![1024]⟩
abbrev S2x6144 : Shape := ⟨2, ![2, 6144]⟩
abbrev S2x1024 : Shape := ⟨2, ![2, 1024]⟩
abbrev S2x256 : Shape := ⟨2, ![2, 256]⟩
abbrev S2x128 : Shape := ⟨2, ![2, 128]⟩
abbrev S2x96 : Shape := ⟨2, ![2, 96]⟩
abbrev S2x4x64 : Shape := ⟨3, ![2, 4, 64]⟩
abbrev S2x512 : Shape := ⟨2, ![2, 512]⟩
abbrev S2x2x2x64 : Shape := ⟨4, ![2, 2, 2, 64]⟩
abbrev S2x2x64 : Shape := ⟨3, ![2, 2, 64]⟩
abbrev S2x64 : Shape := ⟨2, ![2, 64]⟩
abbrev S2x8 : Shape := ⟨2, ![2, 8]⟩
abbrev S2x1536 : Shape := ⟨2, ![2, 1536]⟩
abbrev S_ : Shape := ⟨0, ![]⟩

abbrev nBuf : Space → Nat
  | .hbm => 592
  | .vmem => 0
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x256, .f32⟩
  | 4 => ⟨S2x128, .f32⟩
  | 5 => ⟨S2x96, .f32⟩
  | 6 => ⟨S2x96, .f32⟩
  | 7 => ⟨S2x4x64, .f32⟩
  | 8 => ⟨S2x512, .f32⟩
  | 9 => ⟨S2x2x2x64, .f32⟩
  | 10 => ⟨S2x2x64, .f32⟩
  | 11 => ⟨S2x64, .f32⟩
  | 12 => ⟨S2x64, .f32⟩
  | 13 => ⟨S2x8, .f32⟩
  | 14 => ⟨S2x1536, .f32⟩
  | 15 => ⟨S2x1024, .f32⟩
  | 16 => ⟨S1024, .f32⟩
  | 17 => ⟨S2x6144, .f32⟩
  | 18 => ⟨S2x1024, .f32⟩
  | 19 => ⟨S2x256, .f32⟩
  | 20 => ⟨S2x128, .f32⟩
  | 21 => ⟨S2x96, .f32⟩
  | 22 => ⟨S2x96, .f32⟩
  | 23 => ⟨S2x4x64, .f32⟩
  | 24 => ⟨S2x512, .f32⟩
  | 25 => ⟨S2x2x2x64, .f32⟩
  | 26 => ⟨S2x2x64, .f32⟩
  | 27 => ⟨S2x64, .f32⟩
  | 28 => ⟨S2x64, .f32⟩
  | 29 => ⟨S2x8, .f32⟩
  | 30 => ⟨S2x1536, .f32⟩
  | 31 => ⟨S2x1024, .f32⟩
  | 32 => ⟨S1024, .f32⟩
  | 33 => ⟨S2x6144, .f32⟩
  | 34 => ⟨S2x1024, .f32⟩
  | 35 => ⟨S2x256, .f32⟩
  | 36 => ⟨S2x128, .f32⟩
  | 37 => ⟨S2x96, .f32⟩
  | 38 => ⟨S2x96, .f32⟩
  | 39 => ⟨S2x4x64, .f32⟩
  | 40 => ⟨S2x512, .f32⟩
  | 41 => ⟨S2x2x2x64, .f32⟩
  | 42 => ⟨S2x2x64, .f32⟩
  | 43 => ⟨S2x64, .f32⟩
  | 44 => ⟨S2x64, .f32⟩
  | 45 => ⟨S2x8, .f32⟩
  | 46 => ⟨S2x1536, .f32⟩
  | 47 => ⟨S2x1024, .f32⟩
  | 48 => ⟨S1024, .f32⟩
  | 49 => ⟨S2x6144, .f32⟩
  | 50 => ⟨S2x1024, .f32⟩
  | 51 => ⟨S2x256, .f32⟩
  | 52 => ⟨S2x128, .f32⟩
  | 53 => ⟨S2x96, .f32⟩
  | 54 => ⟨S2x96, .f32⟩
  | 55 => ⟨S2x4x64, .f32⟩
  | 56 => ⟨S2x512, .f32⟩
  | 57 => ⟨S2x2x2x64, .f32⟩
  | 58 => ⟨S2x2x64, .f32⟩
  | 59 => ⟨S2x64, .f32⟩
  | 60 => ⟨S2x64, .f32⟩
  | 61 => ⟨S2x8, .f32⟩
  | 62 => ⟨S2x1536, .f32⟩
  | 63 => ⟨S2x1024, .f32⟩
  | 64 => ⟨S_, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S_, .f32⟩
  | 95 => ⟨S1024, .f32⟩
  | 96 => ⟨S1024, .f32⟩
  | 97 => ⟨S_, .f32⟩
  | 98 => ⟨S2x6144, .f32⟩
  | 99 => ⟨S2x6144, .f32⟩
  | 100 => ⟨S_, .f32⟩
  | 101 => ⟨S2x6144, .f32⟩
  | 102 => ⟨S2x6144, .f32⟩
  | 103 => ⟨S2x6144, .f32⟩
  | 104 => ⟨S_, .f32⟩
  | 105 => ⟨S2x6144, .f32⟩
  | 106 => ⟨S2x6144, .f32⟩
  | 107 => ⟨S2x6144, .f32⟩
  | 108 => ⟨S_, .f32⟩
  | 109 => ⟨S2x6144, .f32⟩
  | 110 => ⟨S2x6144, .f32⟩
  | 111 => ⟨S2x6144, .f32⟩
  | 112 => ⟨S_, .f32⟩
  | 113 => ⟨S2x6144, .f32⟩
  | 114 => ⟨S2x6144, .f32⟩
  | 115 => ⟨S_, .f32⟩
  | 116 => ⟨S2x6144, .f32⟩
  | 117 => ⟨S2x6144, .f32⟩
  | 118 => ⟨S2x6144, .f32⟩
  | 119 => ⟨S_, .f32⟩
  | 120 => ⟨S2x6144, .f32⟩
  | 121 => ⟨S2x6144, .f32⟩
  | 122 => ⟨S2x6144, .f32⟩
  | 123 => ⟨S_, .f32⟩
  | 124 => ⟨S2x6144, .f32⟩
  | 125 => ⟨S2x6144, .f32⟩
  | 126 => ⟨S2x6144, .f32⟩
  | 127 => ⟨S_, .f32⟩
  | _ => ⟨S1024, .f32⟩

abbrev hbmTy0_1 (i : Nat) : BufTy := match i % 128 with
  | 0 => ⟨S2x6144, .f32⟩
  | 1 => ⟨S2x6144, .f32⟩
  | 2 => ⟨S_, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S2x1024, .f32⟩
  | 17 => ⟨S_, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S2x1024, .f32⟩
  | 28 => ⟨S_, .f32⟩
  | 29 => ⟨S2x1024, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S_, .f32⟩
  | 36 => ⟨S2x256, .f32⟩
  | 37 => ⟨S2x256, .f32⟩
  | 38 => ⟨S_, .f32⟩
  | 39 => ⟨S2x256, .f32⟩
  | 40 => ⟨S2x256, .f32⟩
  | 41 => ⟨S2x256, .f32⟩
  | 42 => ⟨S_, .f32⟩
  | 43 => ⟨S2x256, .f32⟩
  | 44 => ⟨S2x256, .f32⟩
  | 45 => ⟨S2x256, .f32⟩
  | 46 => ⟨S_, .f32⟩
  | 47 => ⟨S2x256, .f32⟩
  | 48 => ⟨S2x256, .f32⟩
  | 49 => ⟨S2x256, .f32⟩
  | 50 => ⟨S_, .f32⟩
  | 51 => ⟨S2x256, .f32⟩
  | 52 => ⟨S2x256, .f32⟩
  | 53 => ⟨S_, .f32⟩
  | 54 => ⟨S2x256, .f32⟩
  | 55 => ⟨S2x256, .f32⟩
  | 56 => ⟨S2x256, .f32⟩
  | 57 => ⟨S_, .f32⟩
  | 58 => ⟨S2x256, .f32⟩
  | 59 => ⟨S2x256, .f32⟩
  | 60 => ⟨S2x256, .f32⟩
  | 61 => ⟨S_, .f32⟩
  | 62 => ⟨S2x256, .f32⟩
  | 63 => ⟨S2x256, .f32⟩
  | 64 => ⟨S2x256, .f32⟩
  | 65 => ⟨S_, .f32⟩
  | 66 => ⟨S2x256, .f32⟩
  | 67 => ⟨S2x256, .f32⟩
  | 68 => ⟨S_, .f32⟩
  | 69 => ⟨S2x128, .f32⟩
  | 70 => ⟨S2x128, .f32⟩
  | 71 => ⟨S_, .f32⟩
  | 72 => ⟨S2x128, .f32⟩
  | 73 => ⟨S2x128, .f32⟩
  | 74 => ⟨S2x128, .f32⟩
  | 75 => ⟨S_, .f32⟩
  | 76 => ⟨S2x128, .f32⟩
  | 77 => ⟨S2x128, .f32⟩
  | 78 => ⟨S2x128, .f32⟩
  | 79 => ⟨S_, .f32⟩
  | 80 => ⟨S2x128, .f32⟩
  | 81 => ⟨S2x128, .f32⟩
  | 82 => ⟨S2x128, .f32⟩
  | 83 => ⟨S_, .f32⟩
  | 84 => ⟨S2x128, .f32⟩
  | 85 => ⟨S2x128, .f32⟩
  | 86 => ⟨S_, .f32⟩
  | 87 => ⟨S2x128, .f32⟩
  | 88 => ⟨S2x128, .f32⟩
  | 89 => ⟨S2x128, .f32⟩
  | 90 => ⟨S_, .f32⟩
  | 91 => ⟨S2x128, .f32⟩
  | 92 => ⟨S2x128, .f32⟩
  | 93 => ⟨S2x128, .f32⟩
  | 94 => ⟨S_, .f32⟩
  | 95 => ⟨S2x128, .f32⟩
  | 96 => ⟨S2x128, .f32⟩
  | 97 => ⟨S2x128, .f32⟩
  | 98 => ⟨S_, .f32⟩
  | 99 => ⟨S2x128, .f32⟩
  | 100 => ⟨S2x128, .f32⟩
  | 101 => ⟨S_, .f32⟩
  | 102 => ⟨S2x96, .f32⟩
  | 103 => ⟨S2x96, .f32⟩
  | 104 => ⟨S_, .f32⟩
  | 105 => ⟨S2x96, .f32⟩
  | 106 => ⟨S2x96, .f32⟩
  | 107 => ⟨S2x96, .f32⟩
  | 108 => ⟨S_, .f32⟩
  | 109 => ⟨S2x96, .f32⟩
  | 110 => ⟨S2x96, .f32⟩
  | 111 => ⟨S2x96, .f32⟩
  | 112 => ⟨S_, .f32⟩
  | 113 => ⟨S2x96, .f32⟩
  | 114 => ⟨S2x96, .f32⟩
  | 115 => ⟨S2x96, .f32⟩
  | 116 => ⟨S_, .f32⟩
  | 117 => ⟨S2x96, .f32⟩
  | 118 => ⟨S2x96, .f32⟩
  | 119 => ⟨S_, .f32⟩
  | 120 => ⟨S2x96, .f32⟩
  | 121 => ⟨S2x96, .f32⟩
  | 122 => ⟨S2x96, .f32⟩
  | 123 => ⟨S_, .f32⟩
  | 124 => ⟨S2x96, .f32⟩
  | 125 => ⟨S2x96, .f32⟩
  | 126 => ⟨S2x96, .f32⟩
  | 127 => ⟨S_, .f32⟩
  | _ => ⟨S1024, .f32⟩

abbrev hbmTy0_2 (i : Nat) : BufTy := match i % 128 with
  | 0 => ⟨S2x96, .f32⟩
  | 1 => ⟨S2x96, .f32⟩
  | 2 => ⟨S2x96, .f32⟩
  | 3 => ⟨S_, .f32⟩
  | 4 => ⟨S2x96, .f32⟩
  | 5 => ⟨S2x96, .f32⟩
  | 6 => ⟨S_, .f32⟩
  | 7 => ⟨S2x96, .f32⟩
  | 8 => ⟨S2x96, .f32⟩
  | 9 => ⟨S_, .f32⟩
  | 10 => ⟨S2x96, .f32⟩
  | 11 => ⟨S2x96, .f32⟩
  | 12 => ⟨S2x96, .f32⟩
  | 13 => ⟨S_, .f32⟩
  | 14 => ⟨S2x96, .f32⟩
  | 15 => ⟨S2x96, .f32⟩
  | 16 => ⟨S2x96, .f32⟩
  | 17 => ⟨S_, .f32⟩
  | 18 => ⟨S2x96, .f32⟩
  | 19 => ⟨S2x96, .f32⟩
  | 20 => ⟨S2x96, .f32⟩
  | 21 => ⟨S_, .f32⟩
  | 22 => ⟨S2x96, .f32⟩
  | 23 => ⟨S2x96, .f32⟩
  | 24 => ⟨S_, .f32⟩
  | 25 => ⟨S2x96, .f32⟩
  | 26 => ⟨S2x96, .f32⟩
  | 27 => ⟨S2x96, .f32⟩
  | 28 => ⟨S_, .f32⟩
  | 29 => ⟨S2x96, .f32⟩
  | 30 => ⟨S2x96, .f32⟩
  | 31 => ⟨S2x96, .f32⟩
  | 32 => ⟨S_, .f32⟩
  | 33 => ⟨S2x96, .f32⟩
  | 34 => ⟨S2x96, .f32⟩
  | 35 => ⟨S2x96, .f32⟩
  | 36 => ⟨S_, .f32⟩
  | 37 => ⟨S2x96, .f32⟩
  | 38 => ⟨S2x96, .f32⟩
  | 39 => ⟨S_, .f32⟩
  | 40 => ⟨S2x4x64, .f32⟩
  | 41 => ⟨S2x4x64, .f32⟩
  | 42 => ⟨S_, .f32⟩
  | 43 => ⟨S2x4x64, .f32⟩
  | 44 => ⟨S2x4x64, .f32⟩
  | 45 => ⟨S2x4x64, .f32⟩
  | 46 => ⟨S_, .f32⟩
  | 47 => ⟨S2x4x64, .f32⟩
  | 48 => ⟨S2x4x64, .f32⟩
  | 49 => ⟨S2x4x64, .f32⟩
  | 50 => ⟨S_, .f32⟩
  | 51 => ⟨S2x4x64, .f32⟩
  | 52 => ⟨S2x4x64, .f32⟩
  | 53 => ⟨S2x4x64, .f32⟩
  | 54 => ⟨S_, .f32⟩
  | 55 => ⟨S2x4x64, .f32⟩
  | 56 => ⟨S2x4x64, .f32⟩
  | 57 => ⟨S_, .f32⟩
  | 58 => ⟨S2x4x64, .f32⟩
  | 59 => ⟨S2x4x64, .f32⟩
  | 60 => ⟨S2x4x64, .f32⟩
  | 61 => ⟨S_, .f32⟩
  | 62 => ⟨S2x4x64, .f32⟩
  | 63 => ⟨S2x4x64, .f32⟩
  | 64 => ⟨S2x4x64, .f32⟩
  | 65 => ⟨S_, .f32⟩
  | 66 => ⟨S2x4x64, .f32⟩
  | 67 => ⟨S2x4x64, .f32⟩
  | 68 => ⟨S2x4x64, .f32⟩
  | 69 => ⟨S_, .f32⟩
  | 70 => ⟨S2x4x64, .f32⟩
  | 71 => ⟨S2x4x64, .f32⟩
  | 72 => ⟨S_, .f32⟩
  | 73 => ⟨S2x512, .f32⟩
  | 74 => ⟨S2x512, .f32⟩
  | 75 => ⟨S_, .f32⟩
  | 76 => ⟨S2x512, .f32⟩
  | 77 => ⟨S2x512, .f32⟩
  | 78 => ⟨S2x512, .f32⟩
  | 79 => ⟨S_, .f32⟩
  | 80 => ⟨S2x512, .f32⟩
  | 81 => ⟨S2x512, .f32⟩
  | 82 => ⟨S2x512, .f32⟩
  | 83 => ⟨S_, .f32⟩
  | 84 => ⟨S2x512, .f32⟩
  | 85 => ⟨S2x512, .f32⟩
  | 86 => ⟨S2x512, .f32⟩
  | 87 => ⟨S_, .f32⟩
  | 88 => ⟨S2x512, .f32⟩
  | 89 => ⟨S2x512, .f32⟩
  | 90 => ⟨S_, .f32⟩
  | 91 => ⟨S2x512, .f32⟩
  | 92 => ⟨S2x512, .f32⟩
  | 93 => ⟨S2x512, .f32⟩
  | 94 => ⟨S_, .f32⟩
  | 95 => ⟨S2x512, .f32⟩
  | 96 => ⟨S2x512, .f32⟩
  | 97 => ⟨S2x512, .f32⟩
  | 98 => ⟨S_, .f32⟩
  | 99 => ⟨S2x512, .f32⟩
  | 100 => ⟨S2x512, .f32⟩
  | 101 => ⟨S2x512, .f32⟩
  | 102 => ⟨S_, .f32⟩
  | 103 => ⟨S2x512, .f32⟩
  | 104 => ⟨S2x512, .f32⟩
  | 105 => ⟨S_, .f32⟩
  | 106 => ⟨S2x2x2x64, .f32⟩
  | 107 => ⟨S2x2x2x64, .f32⟩
  | 108 => ⟨S_, .f32⟩
  | 109 => ⟨S2x2x2x64, .f32⟩
  | 110 => ⟨S2x2x2x64, .f32⟩
  | 111 => ⟨S2x2x2x64, .f32⟩
  | 112 => ⟨S_, .f32⟩
  | 113 => ⟨S2x2x2x64, .f32⟩
  | 114 => ⟨S2x2x2x64, .f32⟩
  | 115 => ⟨S2x2x2x64, .f32⟩
  | 116 => ⟨S_, .f32⟩
  | 117 => ⟨S2x2x2x64, .f32⟩
  | 118 => ⟨S2x2x2x64, .f32⟩
  | 119 => ⟨S2x2x2x64, .f32⟩
  | 120 => ⟨S_, .f32⟩
  | 121 => ⟨S2x2x2x64, .f32⟩
  | 122 => ⟨S2x2x2x64, .f32⟩
  | 123 => ⟨S_, .f32⟩
  | 124 => ⟨S2x2x2x64, .f32⟩
  | 125 => ⟨S2x2x2x64, .f32⟩
  | 126 => ⟨S2x2x2x64, .f32⟩
  | 127 => ⟨S_, .f32⟩
  | _ => ⟨S1024, .f32⟩

abbrev hbmTy0_3 (i : Nat) : BufTy := match i % 128 with
  | 0 => ⟨S2x2x2x64, .f32⟩
  | 1 => ⟨S2x2x2x64, .f32⟩
  | 2 => ⟨S2x2x2x64, .f32⟩
  | 3 => ⟨S_, .f32⟩
  | 4 => ⟨S2x2x2x64, .f32⟩
  | 5 => ⟨S2x2x2x64, .f32⟩
  | 6 => ⟨S2x2x2x64, .f32⟩
  | 7 => ⟨S_, .f32⟩
  | 8 => ⟨S2x2x2x64, .f32⟩
  | 9 => ⟨S2x2x2x64, .f32⟩
  | 10 => ⟨S_, .f32⟩
  | 11 => ⟨S2x2x64, .f32⟩
  | 12 => ⟨S2x2x64, .f32⟩
  | 13 => ⟨S_, .f32⟩
  | 14 => ⟨S2x2x64, .f32⟩
  | 15 => ⟨S2x2x64, .f32⟩
  | 16 => ⟨S2x2x64, .f32⟩
  | 17 => ⟨S_, .f32⟩
  | 18 => ⟨S2x2x64, .f32⟩
  | 19 => ⟨S2x2x64, .f32⟩
  | 20 => ⟨S2x2x64, .f32⟩
  | 21 => ⟨S_, .f32⟩
  | 22 => ⟨S2x2x64, .f32⟩
  | 23 => ⟨S2x2x64, .f32⟩
  | 24 => ⟨S2x2x64, .f32⟩
  | 25 => ⟨S_, .f32⟩
  | 26 => ⟨S2x2x64, .f32⟩
  | 27 => ⟨S2x2x64, .f32⟩
  | 28 => ⟨S_, .f32⟩
  | 29 => ⟨S2x2x64, .f32⟩
  | 30 => ⟨S2x2x64, .f32⟩
  | 31 => ⟨S2x2x64, .f32⟩
  | 32 => ⟨S_, .f32⟩
  | 33 => ⟨S2x2x64, .f32⟩
  | 34 => ⟨S2x2x64, .f32⟩
  | 35 => ⟨S2x2x64, .f32⟩
  | 36 => ⟨S_, .f32⟩
  | 37 => ⟨S2x2x64, .f32⟩
  | 38 => ⟨S2x2x64, .f32⟩
  | 39 => ⟨S2x2x64, .f32⟩
  | 40 => ⟨S_, .f32⟩
  | 41 => ⟨S2x2x64, .f32⟩
  | 42 => ⟨S2x2x64, .f32⟩
  | 43 => ⟨S_, .f32⟩
  | 44 => ⟨S2x64, .f32⟩
  | 45 => ⟨S2x64, .f32⟩
  | 46 => ⟨S_, .f32⟩
  | 47 => ⟨S2x64, .f32⟩
  | 48 => ⟨S2x64, .f32⟩
  | 49 => ⟨S2x64, .f32⟩
  | 50 => ⟨S_, .f32⟩
  | 51 => ⟨S2x64, .f32⟩
  | 52 => ⟨S2x64, .f32⟩
  | 53 => ⟨S2x64, .f32⟩
  | 54 => ⟨S_, .f32⟩
  | 55 => ⟨S2x64, .f32⟩
  | 56 => ⟨S2x64, .f32⟩
  | 57 => ⟨S2x64, .f32⟩
  | 58 => ⟨S_, .f32⟩
  | 59 => ⟨S2x64, .f32⟩
  | 60 => ⟨S2x64, .f32⟩
  | 61 => ⟨S_, .f32⟩
  | 62 => ⟨S2x64, .f32⟩
  | 63 => ⟨S2x64, .f32⟩
  | 64 => ⟨S2x64, .f32⟩
  | 65 => ⟨S_, .f32⟩
  | 66 => ⟨S2x64, .f32⟩
  | 67 => ⟨S2x64, .f32⟩
  | 68 => ⟨S2x64, .f32⟩
  | 69 => ⟨S_, .f32⟩
  | 70 => ⟨S2x64, .f32⟩
  | 71 => ⟨S2x64, .f32⟩
  | 72 => ⟨S2x64, .f32⟩
  | 73 => ⟨S_, .f32⟩
  | 74 => ⟨S2x64, .f32⟩
  | 75 => ⟨S2x64, .f32⟩
  | 76 => ⟨S_, .f32⟩
  | 77 => ⟨S2x64, .f32⟩
  | 78 => ⟨S2x64, .f32⟩
  | 79 => ⟨S_, .f32⟩
  | 80 => ⟨S2x64, .f32⟩
  | 81 => ⟨S2x64, .f32⟩
  | 82 => ⟨S2x64, .f32⟩
  | 83 => ⟨S_, .f32⟩
  | 84 => ⟨S2x64, .f32⟩
  | 85 => ⟨S2x64, .f32⟩
  | 86 => ⟨S2x64, .f32⟩
  | 87 => ⟨S_, .f32⟩
  | 88 => ⟨S2x64, .f32⟩
  | 89 => ⟨S2x64, .f32⟩
  | 90 => ⟨S2x64, .f32⟩
  | 91 => ⟨S_, .f32⟩
  | 92 => ⟨S2x64, .f32⟩
  | 93 => ⟨S2x64, .f32⟩
  | 94 => ⟨S_, .f32⟩
  | 95 => ⟨S2x64, .f32⟩
  | 96 => ⟨S2x64, .f32⟩
  | 97 => ⟨S2x64, .f32⟩
  | 98 => ⟨S_, .f32⟩
  | 99 => ⟨S2x64, .f32⟩
  | 100 => ⟨S2x64, .f32⟩
  | 101 => ⟨S2x64, .f32⟩
  | 102 => ⟨S_, .f32⟩
  | 103 => ⟨S2x64, .f32⟩
  | 104 => ⟨S2x64, .f32⟩
  | 105 => ⟨S2x64, .f32⟩
  | 106 => ⟨S_, .f32⟩
  | 107 => ⟨S2x64, .f32⟩
  | 108 => ⟨S2x64, .f32⟩
  | 109 => ⟨S_, .f32⟩
  | 110 => ⟨S2x8, .f32⟩
  | 111 => ⟨S2x8, .f32⟩
  | 112 => ⟨S_, .f32⟩
  | 113 => ⟨S2x8, .f32⟩
  | 114 => ⟨S2x8, .f32⟩
  | 115 => ⟨S2x8, .f32⟩
  | 116 => ⟨S_, .f32⟩
  | 117 => ⟨S2x8, .f32⟩
  | 118 => ⟨S2x8, .f32⟩
  | 119 => ⟨S2x8, .f32⟩
  | 120 => ⟨S_, .f32⟩
  | 121 => ⟨S2x8, .f32⟩
  | 122 => ⟨S2x8, .f32⟩
  | 123 => ⟨S2x8, .f32⟩
  | 124 => ⟨S_, .f32⟩
  | 125 => ⟨S2x8, .f32⟩
  | 126 => ⟨S2x8, .f32⟩
  | 127 => ⟨S_, .f32⟩
  | _ => ⟨S1024, .f32⟩

abbrev hbmTy0_4 (i : Nat) : BufTy := match i % 128 with
  | 0 => ⟨S2x8, .f32⟩
  | 1 => ⟨S2x8, .f32⟩
  | 2 => ⟨S2x8, .f32⟩
  | 3 => ⟨S_, .f32⟩
  | 4 => ⟨S2x8, .f32⟩
  | 5 => ⟨S2x8, .f32⟩
  | 6 => ⟨S2x8, .f32⟩
  | 7 => ⟨S_, .f32⟩
  | 8 => ⟨S2x8, .f32⟩
  | 9 => ⟨S2x8, .f32⟩
  | 10 => ⟨S2x8, .f32⟩
  | 11 => ⟨S_, .f32⟩
  | 12 => ⟨S2x8, .f32⟩
  | 13 => ⟨S2x8, .f32⟩
  | 14 => ⟨S_, .f32⟩
  | 15 => ⟨S2x1536, .f32⟩
  | 16 => ⟨S2x1536, .f32⟩
  | 17 => ⟨S_, .f32⟩
  | 18 => ⟨S2x1536, .f32⟩
  | 19 => ⟨S2x1536, .f32⟩
  | 20 => ⟨S2x1536, .f32⟩
  | 21 => ⟨S_, .f32⟩
  | 22 => ⟨S2x1536, .f32⟩
  | 23 => ⟨S2x1536, .f32⟩
  | 24 => ⟨S2x1536, .f32⟩
  | 25 => ⟨S_, .f32⟩
  | 26 => ⟨S2x1536, .f32⟩
  | 27 => ⟨S2x1536, .f32⟩
  | 28 => ⟨S2x1536, .f32⟩
  | 29 => ⟨S_, .f32⟩
  | 30 => ⟨S2x1536, .f32⟩
  | 31 => ⟨S2x1536, .f32⟩
  | 32 => ⟨S_, .f32⟩
  | 33 => ⟨S2x1536, .f32⟩
  | 34 => ⟨S2x1536, .f32⟩
  | 35 => ⟨S2x1536, .f32⟩
  | 36 => ⟨S_, .f32⟩
  | 37 => ⟨S2x1536, .f32⟩
  | 38 => ⟨S2x1536, .f32⟩
  | 39 => ⟨S2x1536, .f32⟩
  | 40 => ⟨S_, .f32⟩
  | 41 => ⟨S2x1536, .f32⟩
  | 42 => ⟨S2x1536, .f32⟩
  | 43 => ⟨S2x1536, .f32⟩
  | 44 => ⟨S_, .f32⟩
  | 45 => ⟨S2x1536, .f32⟩
  | 46 => ⟨S2x1536, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S2x1024, .f32⟩
  | 77 => ⟨S_, .f32⟩
  | 78 => ⟨S2x1024, .f32⟩
  | 79 => ⟨S2x1024, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_cst : Ref sig .tc := ⟨.hbm, 64, rfl⟩
abbrev main_v0 : Ref sig .tc := ⟨.hbm, 65, rfl⟩
abbrev main_v1 : Ref sig .tc := ⟨.hbm, 66, rfl⟩
abbrev main_cst_0 : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_cst_1 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_cst_2 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_cst_3 : Ref sig .tc := ⟨.hbm, 79, rfl⟩
abbrev main_v11 : Ref sig .tc := ⟨.hbm, 80, rfl⟩
abbrev main_v12 : Ref sig .tc := ⟨.hbm, 81, rfl⟩
abbrev main_cst_4 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_5 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_6 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_cst_7 : Ref sig .tc := ⟨.hbm, 94, rfl⟩
abbrev main_v22 : Ref sig .tc := ⟨.hbm, 95, rfl⟩
abbrev main_v23 : Ref sig .tc := ⟨.hbm, 96, rfl⟩
abbrev main_cst_8 : Ref sig .tc := ⟨.hbm, 97, rfl⟩
abbrev main_v24 : Ref sig .tc := ⟨.hbm, 98, rfl⟩
abbrev main_v25 : Ref sig .tc := ⟨.hbm, 99, rfl⟩
abbrev main_cst_9 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_cst_10 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_11 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_cst_12 : Ref sig .tc := ⟨.hbm, 112, rfl⟩
abbrev main_v35 : Ref sig .tc := ⟨.hbm, 113, rfl⟩
abbrev main_v36 : Ref sig .tc := ⟨.hbm, 114, rfl⟩
abbrev main_cst_13 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_14 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_15 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst_16 : Ref sig .tc := ⟨.hbm, 127, rfl⟩
abbrev main_v46 : Ref sig .tc := ⟨.hbm, 128, rfl⟩
abbrev main_v47 : Ref sig .tc := ⟨.hbm, 129, rfl⟩
abbrev main_cst_17 : Ref sig .tc := ⟨.hbm, 130, rfl⟩
abbrev main_v48 : Ref sig .tc := ⟨.hbm, 131, rfl⟩
abbrev main_v49 : Ref sig .tc := ⟨.hbm, 132, rfl⟩
abbrev main_cst_18 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_cst_19 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_cst_20 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_21 : Ref sig .tc := ⟨.hbm, 145, rfl⟩
abbrev main_v59 : Ref sig .tc := ⟨.hbm, 146, rfl⟩
abbrev main_v60 : Ref sig .tc := ⟨.hbm, 147, rfl⟩
abbrev main_cst_22 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_23 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_cst_24 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_cst_25 : Ref sig .tc := ⟨.hbm, 160, rfl⟩
abbrev main_v70 : Ref sig .tc := ⟨.hbm, 161, rfl⟩
abbrev main_v71 : Ref sig .tc := ⟨.hbm, 162, rfl⟩
abbrev main_cst_26 : Ref sig .tc := ⟨.hbm, 163, rfl⟩
abbrev main_v72 : Ref sig .tc := ⟨.hbm, 164, rfl⟩
abbrev main_v73 : Ref sig .tc := ⟨.hbm, 165, rfl⟩
abbrev main_cst_27 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_28 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_cst_29 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_30 : Ref sig .tc := ⟨.hbm, 178, rfl⟩
abbrev main_v83 : Ref sig .tc := ⟨.hbm, 179, rfl⟩
abbrev main_v84 : Ref sig .tc := ⟨.hbm, 180, rfl⟩
abbrev main_cst_31 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_cst_32 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_cst_33 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_34 : Ref sig .tc := ⟨.hbm, 193, rfl⟩
abbrev main_v94 : Ref sig .tc := ⟨.hbm, 194, rfl⟩
abbrev main_v95 : Ref sig .tc := ⟨.hbm, 195, rfl⟩
abbrev main_cst_35 : Ref sig .tc := ⟨.hbm, 196, rfl⟩
abbrev main_v96 : Ref sig .tc := ⟨.hbm, 197, rfl⟩
abbrev main_v97 : Ref sig .tc := ⟨.hbm, 198, rfl⟩
abbrev main_cst_36 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_37 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_cst_38 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_cst_39 : Ref sig .tc := ⟨.hbm, 211, rfl⟩
abbrev main_v107 : Ref sig .tc := ⟨.hbm, 212, rfl⟩
abbrev main_v108 : Ref sig .tc := ⟨.hbm, 213, rfl⟩
abbrev main_cst_40 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_cst_41 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_cst_42 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_cst_43 : Ref sig .tc := ⟨.hbm, 226, rfl⟩
abbrev main_v118 : Ref sig .tc := ⟨.hbm, 227, rfl⟩
abbrev main_v119 : Ref sig .tc := ⟨.hbm, 228, rfl⟩
abbrev main_cst_44 : Ref sig .tc := ⟨.hbm, 229, rfl⟩
abbrev main_v120 : Ref sig .tc := ⟨.hbm, 230, rfl⟩
abbrev main_v121 : Ref sig .tc := ⟨.hbm, 231, rfl⟩
abbrev main_cst_45 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_46 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_cst_47 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_cst_48 : Ref sig .tc := ⟨.hbm, 244, rfl⟩
abbrev main_v131 : Ref sig .tc := ⟨.hbm, 245, rfl⟩
abbrev main_v132 : Ref sig .tc := ⟨.hbm, 246, rfl⟩
abbrev main_cst_49 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_cst_50 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_cst_51 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_cst_52 : Ref sig .tc := ⟨.hbm, 259, rfl⟩
abbrev main_v142 : Ref sig .tc := ⟨.hbm, 260, rfl⟩
abbrev main_v143 : Ref sig .tc := ⟨.hbm, 261, rfl⟩
abbrev main_cst_53 : Ref sig .tc := ⟨.hbm, 262, rfl⟩
abbrev main_v144 : Ref sig .tc := ⟨.hbm, 263, rfl⟩
abbrev main_v145 : Ref sig .tc := ⟨.hbm, 264, rfl⟩
abbrev main_cst_54 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_cst_55 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_cst_56 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_cst_57 : Ref sig .tc := ⟨.hbm, 277, rfl⟩
abbrev main_v155 : Ref sig .tc := ⟨.hbm, 278, rfl⟩
abbrev main_v156 : Ref sig .tc := ⟨.hbm, 279, rfl⟩
abbrev main_cst_58 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_cst_59 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_60 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_cst_61 : Ref sig .tc := ⟨.hbm, 292, rfl⟩
abbrev main_v166 : Ref sig .tc := ⟨.hbm, 293, rfl⟩
abbrev main_v167 : Ref sig .tc := ⟨.hbm, 294, rfl⟩
abbrev main_cst_62 : Ref sig .tc := ⟨.hbm, 295, rfl⟩
abbrev main_v168 : Ref sig .tc := ⟨.hbm, 296, rfl⟩
abbrev main_v169 : Ref sig .tc := ⟨.hbm, 297, rfl⟩
abbrev main_cst_63 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_cst_64 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_cst_65 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_cst_66 : Ref sig .tc := ⟨.hbm, 310, rfl⟩
abbrev main_v179 : Ref sig .tc := ⟨.hbm, 311, rfl⟩
abbrev main_v180 : Ref sig .tc := ⟨.hbm, 312, rfl⟩
abbrev main_cst_67 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_cst_68 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_cst_69 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_cst_70 : Ref sig .tc := ⟨.hbm, 325, rfl⟩
abbrev main_v190 : Ref sig .tc := ⟨.hbm, 326, rfl⟩
abbrev main_v191 : Ref sig .tc := ⟨.hbm, 327, rfl⟩
abbrev main_cst_71 : Ref sig .tc := ⟨.hbm, 328, rfl⟩
abbrev main_v192 : Ref sig .tc := ⟨.hbm, 329, rfl⟩
abbrev main_v193 : Ref sig .tc := ⟨.hbm, 330, rfl⟩
abbrev main_cst_72 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_cst_73 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_cst_74 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_cst_75 : Ref sig .tc := ⟨.hbm, 343, rfl⟩
abbrev main_v203 : Ref sig .tc := ⟨.hbm, 344, rfl⟩
abbrev main_v204 : Ref sig .tc := ⟨.hbm, 345, rfl⟩
abbrev main_cst_76 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_cst_77 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_cst_78 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_cst_79 : Ref sig .tc := ⟨.hbm, 358, rfl⟩
abbrev main_v214 : Ref sig .tc := ⟨.hbm, 359, rfl⟩
abbrev main_v215 : Ref sig .tc := ⟨.hbm, 360, rfl⟩
abbrev main_cst_80 : Ref sig .tc := ⟨.hbm, 361, rfl⟩
abbrev main_v216 : Ref sig .tc := ⟨.hbm, 362, rfl⟩
abbrev main_v217 : Ref sig .tc := ⟨.hbm, 363, rfl⟩
abbrev main_cst_81 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_cst_82 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_cst_83 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_cst_84 : Ref sig .tc := ⟨.hbm, 376, rfl⟩
abbrev main_v227 : Ref sig .tc := ⟨.hbm, 377, rfl⟩
abbrev main_v228 : Ref sig .tc := ⟨.hbm, 378, rfl⟩
abbrev main_cst_85 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_cst_86 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_cst_87 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_cst_88 : Ref sig .tc := ⟨.hbm, 391, rfl⟩
abbrev main_v238 : Ref sig .tc := ⟨.hbm, 392, rfl⟩
abbrev main_v239 : Ref sig .tc := ⟨.hbm, 393, rfl⟩
abbrev main_cst_89 : Ref sig .tc := ⟨.hbm, 394, rfl⟩
abbrev main_v240 : Ref sig .tc := ⟨.hbm, 395, rfl⟩
abbrev main_v241 : Ref sig .tc := ⟨.hbm, 396, rfl⟩
abbrev main_cst_90 : Ref sig .tc := ⟨.hbm, 397, rfl⟩
abbrev main_v242 : Ref sig .tc := ⟨.hbm, 398, rfl⟩
abbrev main_v243 : Ref sig .tc := ⟨.hbm, 399, rfl⟩
abbrev main_v244 : Ref sig .tc := ⟨.hbm, 400, rfl⟩
abbrev main_cst_91 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_cst_92 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_cst_93 : Ref sig .tc := ⟨.hbm, 409, rfl⟩
abbrev main_v251 : Ref sig .tc := ⟨.hbm, 410, rfl⟩
abbrev main_v252 : Ref sig .tc := ⟨.hbm, 411, rfl⟩
abbrev main_cst_94 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_cst_95 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_cst_96 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_cst_97 : Ref sig .tc := ⟨.hbm, 424, rfl⟩
abbrev main_v262 : Ref sig .tc := ⟨.hbm, 425, rfl⟩
abbrev main_v263 : Ref sig .tc := ⟨.hbm, 426, rfl⟩
abbrev main_cst_98 : Ref sig .tc := ⟨.hbm, 427, rfl⟩
abbrev main_v264 : Ref sig .tc := ⟨.hbm, 428, rfl⟩
abbrev main_v265 : Ref sig .tc := ⟨.hbm, 429, rfl⟩
abbrev main_cst_99 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_cst_100 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_cst_101 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_cst_102 : Ref sig .tc := ⟨.hbm, 442, rfl⟩
abbrev main_v275 : Ref sig .tc := ⟨.hbm, 443, rfl⟩
abbrev main_v276 : Ref sig .tc := ⟨.hbm, 444, rfl⟩
abbrev main_cst_103 : Ref sig .tc := ⟨.hbm, 445, rfl⟩
abbrev main_v277 : Ref sig .tc := ⟨.hbm, 446, rfl⟩
abbrev main_v278 : Ref sig .tc := ⟨.hbm, 447, rfl⟩
abbrev main_v279 : Ref sig .tc := ⟨.hbm, 448, rfl⟩
abbrev main_cst_104 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_cst_105 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_106 : Ref sig .tc := ⟨.hbm, 457, rfl⟩
abbrev main_v286 : Ref sig .tc := ⟨.hbm, 458, rfl⟩
abbrev main_v287 : Ref sig .tc := ⟨.hbm, 459, rfl⟩
abbrev main_cst_107 : Ref sig .tc := ⟨.hbm, 460, rfl⟩
abbrev main_v288 : Ref sig .tc := ⟨.hbm, 461, rfl⟩
abbrev main_v289 : Ref sig .tc := ⟨.hbm, 462, rfl⟩
abbrev main_cst_108 : Ref sig .tc := ⟨.hbm, 463, rfl⟩
abbrev main_v290 : Ref sig .tc := ⟨.hbm, 464, rfl⟩
abbrev main_v291 : Ref sig .tc := ⟨.hbm, 465, rfl⟩
abbrev main_v292 : Ref sig .tc := ⟨.hbm, 466, rfl⟩
abbrev main_cst_109 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_cst_110 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_cst_111 : Ref sig .tc := ⟨.hbm, 475, rfl⟩
abbrev main_v299 : Ref sig .tc := ⟨.hbm, 476, rfl⟩
abbrev main_v300 : Ref sig .tc := ⟨.hbm, 477, rfl⟩
abbrev main_cst_112 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_cst_113 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_cst_114 : Ref sig .tc := ⟨.hbm, 486, rfl⟩
abbrev main_v307 : Ref sig .tc := ⟨.hbm, 487, rfl⟩
abbrev main_v308 : Ref sig .tc := ⟨.hbm, 488, rfl⟩
abbrev main_v309 : Ref sig .tc := ⟨.hbm, 489, rfl⟩
abbrev main_cst_115 : Ref sig .tc := ⟨.hbm, 490, rfl⟩
abbrev main_v310 : Ref sig .tc := ⟨.hbm, 491, rfl⟩
abbrev main_v311 : Ref sig .tc := ⟨.hbm, 492, rfl⟩
abbrev main_cst_116 : Ref sig .tc := ⟨.hbm, 493, rfl⟩
abbrev main_v312 : Ref sig .tc := ⟨.hbm, 494, rfl⟩
abbrev main_v313 : Ref sig .tc := ⟨.hbm, 495, rfl⟩
abbrev main_cst_117 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_cst_118 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_cst_119 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_cst_120 : Ref sig .tc := ⟨.hbm, 508, rfl⟩
abbrev main_v323 : Ref sig .tc := ⟨.hbm, 509, rfl⟩
abbrev main_v324 : Ref sig .tc := ⟨.hbm, 510, rfl⟩
abbrev main_cst_121 : Ref sig .tc := ⟨.hbm, 511, rfl⟩
abbrev main_v325 : Ref sig .tc := ⟨.hbm, 512, rfl⟩
abbrev main_v326 : Ref sig .tc := ⟨.hbm, 513, rfl⟩
abbrev main_v327 : Ref sig .tc := ⟨.hbm, 514, rfl⟩
abbrev main_cst_122 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_cst_123 : Ref sig .tc := ⟨.hbm, 519, rfl⟩
abbrev main_v331 : Ref sig .tc := ⟨.hbm, 520, rfl⟩
abbrev main_v332 : Ref sig .tc := ⟨.hbm, 521, rfl⟩
abbrev main_v333 : Ref sig .tc := ⟨.hbm, 522, rfl⟩
abbrev main_cst_124 : Ref sig .tc := ⟨.hbm, 523, rfl⟩
abbrev main_v334 : Ref sig .tc := ⟨.hbm, 524, rfl⟩
abbrev main_v335 : Ref sig .tc := ⟨.hbm, 525, rfl⟩
abbrev main_cst_125 : Ref sig .tc := ⟨.hbm, 526, rfl⟩
abbrev main_v336 : Ref sig .tc := ⟨.hbm, 527, rfl⟩
abbrev main_v337 : Ref sig .tc := ⟨.hbm, 528, rfl⟩
abbrev main_cst_126 : Ref sig .tc := ⟨.hbm, 529, rfl⟩
abbrev main_v338 : Ref sig .tc := ⟨.hbm, 530, rfl⟩
abbrev main_v339 : Ref sig .tc := ⟨.hbm, 531, rfl⟩
abbrev main_v340 : Ref sig .tc := ⟨.hbm, 532, rfl⟩
abbrev main_cst_127 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_cst_128 : Ref sig .tc := ⟨.hbm, 537, rfl⟩
abbrev main_v344 : Ref sig .tc := ⟨.hbm, 538, rfl⟩
abbrev main_v345 : Ref sig .tc := ⟨.hbm, 539, rfl⟩
abbrev main_v346 : Ref sig .tc := ⟨.hbm, 540, rfl⟩
abbrev main_cst_129 : Ref sig .tc := ⟨.hbm, 541, rfl⟩
abbrev main_v347 : Ref sig .tc := ⟨.hbm, 542, rfl⟩
abbrev main_v348 : Ref sig .tc := ⟨.hbm, 543, rfl⟩
abbrev main_cst_130 : Ref sig .tc := ⟨.hbm, 544, rfl⟩
abbrev main_v349 : Ref sig .tc := ⟨.hbm, 545, rfl⟩
abbrev main_v350 : Ref sig .tc := ⟨.hbm, 546, rfl⟩
abbrev main_v351 : Ref sig .tc := ⟨.hbm, 547, rfl⟩
abbrev main_cst_131 : Ref sig .tc := ⟨.hbm, 548, rfl⟩
abbrev main_v352 : Ref sig .tc := ⟨.hbm, 549, rfl⟩
abbrev main_v353 : Ref sig .tc := ⟨.hbm, 550, rfl⟩
abbrev main_v354 : Ref sig .tc := ⟨.hbm, 551, rfl⟩
abbrev main_cst_132 : Ref sig .tc := ⟨.hbm, 552, rfl⟩
abbrev main_v355 : Ref sig .tc := ⟨.hbm, 553, rfl⟩
abbrev main_v356 : Ref sig .tc := ⟨.hbm, 554, rfl⟩
abbrev main_v357 : Ref sig .tc := ⟨.hbm, 555, rfl⟩
abbrev main_cst_133 : Ref sig .tc := ⟨.hbm, 556, rfl⟩
abbrev main_v358 : Ref sig .tc := ⟨.hbm, 557, rfl⟩
abbrev main_v359 : Ref sig .tc := ⟨.hbm, 558, rfl⟩
abbrev main_cst_134 : Ref sig .tc := ⟨.hbm, 559, rfl⟩
abbrev main_v360 : Ref sig .tc := ⟨.hbm, 560, rfl⟩
abbrev main_v361 : Ref sig .tc := ⟨.hbm, 561, rfl⟩
abbrev main_cst_135 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_cst_136 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_cst_137 : Ref sig .tc := ⟨.hbm, 570, rfl⟩
abbrev main_v368 : Ref sig .tc := ⟨.hbm, 571, rfl⟩
abbrev main_v369 : Ref sig .tc := ⟨.hbm, 572, rfl⟩
abbrev main_v370 : Ref sig .tc := ⟨.hbm, 573, rfl⟩
abbrev main_cst_138 : Ref sig .tc := ⟨.hbm, 574, rfl⟩
abbrev main_v371 : Ref sig .tc := ⟨.hbm, 575, rfl⟩
abbrev main_v372 : Ref sig .tc := ⟨.hbm, 576, rfl⟩
abbrev main_cst_139 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_cst_140 : Ref sig .tc := ⟨.hbm, 581, rfl⟩
abbrev main_v376 : Ref sig .tc := ⟨.hbm, 582, rfl⟩
abbrev main_v377 : Ref sig .tc := ⟨.hbm, 583, rfl⟩
abbrev main_v378 : Ref sig .tc := ⟨.hbm, 584, rfl⟩
abbrev main_cst_141 : Ref sig .tc := ⟨.hbm, 585, rfl⟩
abbrev main_v379 : Ref sig .tc := ⟨.hbm, 586, rfl⟩
abbrev main_v380 : Ref sig .tc := ⟨.hbm, 587, rfl⟩
abbrev main_v381 : Ref sig .tc := ⟨.hbm, 588, rfl⟩
abbrev main_cst_142 : Ref sig .tc := ⟨.hbm, 589, rfl⟩
abbrev main_v382 : Ref sig .tc := ⟨.hbm, 590, rfl⟩
abbrev main_v383 : Ref sig .tc := ⟨.hbm, 591, rfl⟩

abbrev nD : Nat := 1
abbrev τ : Topo := Topo.v7x

variable {F : FTy → Type} [FloatOps F]
-- ==== SumsKernel.lean ====
abbrev S8x16x1024 : Shape := ⟨3, ![8, 16, 1024]⟩
abbrev S16x1024 : Shape := ⟨2, ![16, 1024]⟩
abbrev S1x16x1024 : Shape := ⟨3, ![1, 16, 1024]⟩
abbrev S16384 : Shape := ⟨1, ![16384]⟩
abbrev S1024 : Shape := ⟨1, ![1024]⟩
abbrev S256 : Shape := ⟨1, ![256]⟩
abbrev S128 : Shape := ⟨1, ![128]⟩
abbrev S96 : Shape := ⟨1, ![96]⟩
abbrev S512 : Shape := ⟨1, ![512]⟩
abbrev S64 : Shape := ⟨1, ![64]⟩
abbrev S8 : Shape := ⟨1, ![8]⟩
abbrev S1536 : Shape := ⟨1, ![1536]⟩
abbrev S2048 : Shape := ⟨1, ![2048]⟩
abbrev S4x512 : Shape := ⟨2, ![4, 512]⟩
abbrev S2x2x512 : Shape := ⟨3, ![2, 2, 512]⟩
abbrev S2x512 : Shape := ⟨2, ![2, 512]⟩
abbrev S1 : Shape := ⟨1, ![1]⟩
abbrev S1x1024 : Shape := ⟨2, ![1, 1024]⟩
abbrev S2x1024 : Shape := ⟨2, ![2, 1024]⟩
abbrev S1x256 : Shape := ⟨2, ![1, 256]⟩
abbrev S2x256 : Shape := ⟨2, ![2, 256]⟩
abbrev S1x128 : Shape := ⟨2, ![1, 128]⟩
abbrev S2x128 : Shape := ⟨2, ![2, 128]⟩
abbrev S1x96 : Shape := ⟨2, ![1, 96]⟩
abbrev S2x96 : Shape := ⟨2, ![2, 96]⟩
abbrev S1x512 : Shape := ⟨2, ![1, 512]⟩
abbrev S1x64 : Shape := ⟨2, ![1, 64]⟩
abbrev S2x64 : Shape := ⟨2, ![2, 64]⟩
abbrev S1x8 : Shape := ⟨2, ![1, 8]⟩
abbrev S2x8 : Shape := ⟨2, ![2, 8]⟩
abbrev S1x1536 : Shape := ⟨2, ![1, 1536]⟩
abbrev S2x1536 : Shape := ⟨2, ![2, 1536]⟩
abbrev S1x4x512 : Shape := ⟨3, ![1, 4, 512]⟩
abbrev S2x4x512 : Shape := ⟨3, ![2, 4, 512]⟩
abbrev S1x2x2x512 : Shape := ⟨4, ![1, 2, 2, 512]⟩
abbrev S2x2x2x512 : Shape := ⟨4, ![2, 2, 2, 512]⟩
abbrev S1x2x512 : Shape := ⟨3, ![1, 2, 512]⟩
abbrev S_ : Shape := ⟨0, ![]⟩

abbrev nBuf : Space → Nat
  | .hbm => 85
  | .vmem => 4
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .f32⟩
  | .hbm, ⟨2, _⟩ => ⟨S16x1024, .f32⟩
  | .hbm, ⟨3, _⟩ => ⟨S16384, .f32⟩
  | .hbm, ⟨4, _⟩ => ⟨S1024, .f32⟩
  | .hbm, ⟨5, _⟩ => ⟨S256, .f32⟩
  | .hbm, ⟨6, _⟩ => ⟨S128, .f32⟩
  | .hbm, ⟨7, _⟩ => ⟨S96, .f32⟩
  | .hbm, ⟨8, _⟩ => ⟨S96, .f32⟩
  | .hbm, ⟨9, _⟩ => ⟨S512, .f32⟩
  | .hbm, ⟨10, _⟩ => ⟨S64, .f32⟩
  | .hbm, ⟨11, _⟩ => ⟨S64, .f32⟩
  | .hbm, ⟨12, _⟩ => ⟨S8, .f32⟩
  | .hbm, ⟨13, _⟩ => ⟨S1536, .f32⟩
  | .hbm, ⟨14, _⟩ => ⟨S1024, .f32⟩
  | .hbm, ⟨15, _⟩ => ⟨S2048, .f32⟩
  | .hbm, ⟨16, _⟩ => ⟨S4x512, .f32⟩
  | .hbm, ⟨17, _⟩ => ⟨S2048, .f32⟩
  | .hbm, ⟨18, _⟩ => ⟨S2x2x512, .f32⟩
  | .hbm, ⟨19, _⟩ => ⟨S1024, .f32⟩
  | .hbm, ⟨20, _⟩ => ⟨S2x512, .f32⟩
  | .hbm, ⟨21, _⟩ => ⟨S1024, .f32⟩
  | .hbm, ⟨22, _⟩ => ⟨S1, .f32⟩
  | .hbm, ⟨23, _⟩ => ⟨S16x1024, .f32⟩
  | .hbm, ⟨24, _⟩ => ⟨S16384, .f32⟩
  | .hbm, ⟨25, _⟩ => ⟨S1024, .f32⟩
  | .hbm, ⟨26, _⟩ => ⟨S256, .f32⟩
  | .hbm, ⟨27, _⟩ => ⟨S128, .f32⟩
  | .hbm, ⟨28, _⟩ => ⟨S96, .f32⟩
  | .hbm, ⟨29, _⟩ => ⟨S96, .f32⟩
  | .hbm, ⟨30, _⟩ => ⟨S512, .f32⟩
  | .hbm, ⟨31, _⟩ => ⟨S64, .f32⟩
  | .hbm, ⟨32, _⟩ => ⟨S64, .f32⟩
  | .hbm, ⟨33, _⟩ => ⟨S8, .f32⟩
  | .hbm, ⟨34, _⟩ => ⟨S1536, .f32⟩
  | .hbm, ⟨35, _⟩ => ⟨S1024, .f32⟩
  | .hbm, ⟨36, _⟩ => ⟨S2048, .f32⟩
  | .hbm, ⟨37, _⟩ => ⟨S4x512, .f32⟩
  | .hbm, ⟨38, _⟩ => ⟨S2048, .f32⟩
  | .hbm, ⟨39, _⟩ => ⟨S2x2x512, .f32⟩
  | .hbm, ⟨40, _⟩ => ⟨S1024, .f32⟩
  | .hbm, ⟨41, _⟩ => ⟨S2x512, .f32⟩
  | .hbm, ⟨42, _⟩ => ⟨S1x1024, .f32⟩
  | .hbm, ⟨43, _⟩ => ⟨S1x1024, .f32⟩
  | .hbm, ⟨44, _⟩ => ⟨S2x1024, .f32⟩
  | .hbm, ⟨45, _⟩ => ⟨S1x256, .f32⟩
  | .hbm, ⟨46, _⟩ => ⟨S1x256, .f32⟩
  | .hbm, ⟨47, _⟩ => ⟨S2x256, .f32⟩
  | .hbm, ⟨48, _⟩ => ⟨S1x128, .f32⟩
  | .hbm, ⟨49, _⟩ => ⟨S1x128, .f32⟩
  | .hbm, ⟨50, _⟩ => ⟨S2x128, .f32⟩
  | .hbm, ⟨51, _⟩ => ⟨S1x96, .f32⟩
  | .hbm, ⟨52, _⟩ => ⟨S1x96, .f32⟩
  | .hbm, ⟨53, _⟩ => ⟨S2x96, .f32⟩
  | .hbm, ⟨54, _⟩ => ⟨S1x96, .f32⟩
  | .hbm, ⟨55, _⟩ => ⟨S1x96, .f32⟩
  | .hbm, ⟨56, _⟩ => ⟨S2x96, .f32⟩
  | .hbm, ⟨57, _⟩ => ⟨S1x512, .f32⟩
  | .hbm, ⟨58, _⟩ => ⟨S1x512, .f32⟩
  | .hbm, ⟨59, _⟩ => ⟨S2x512, .f32⟩
  | .hbm, ⟨60, _⟩ => ⟨S1x64, .f32⟩
  | .hbm, ⟨61, _⟩ => ⟨S1x64, .f32⟩
  | .hbm, ⟨62, _⟩ => ⟨S2x64, .f32⟩
  | .hbm, ⟨63, _⟩ => ⟨S1x64, .f32⟩
  | .hbm, ⟨64, _⟩ => ⟨S1x64, .f32⟩
  | .hbm, ⟨65, _⟩ => ⟨S2x64, .f32⟩
  | .hbm, ⟨66, _⟩ => ⟨S1x8, .f32⟩
  | .hbm, ⟨67, _⟩ => ⟨S1x8, .f32⟩
  | .hbm, ⟨68, _⟩ => ⟨S2x8, .f32⟩
  | .hbm, ⟨69, _⟩ => ⟨S1x1536, .f32⟩
  | .hbm, ⟨70, _⟩ => ⟨S1x1536, .f32⟩
  | .hbm, ⟨71, _⟩ => ⟨S2x1536, .f32⟩
  | .hbm, ⟨72, _⟩ => ⟨S1x1024, .f32⟩
  | .hbm, ⟨73, _⟩ => ⟨S1x1024, .f32⟩
  | .hbm, ⟨74, _⟩ => ⟨S2x1024, .f32⟩
  | .hbm, ⟨75, _⟩ => ⟨S1x4x512, .f32⟩
  | .hbm, ⟨76, _⟩ => ⟨S1x4x512, .f32⟩
  | .hbm, ⟨77, _⟩ => ⟨S2x4x512, .f32⟩
  | .hbm, ⟨78, _⟩ => ⟨S1x2x2x512, .f32⟩
  | .hbm, ⟨79, _⟩ => ⟨S1x2x2x512, .f32⟩
  | .hbm, ⟨80, _⟩ => ⟨S2x2x2x512, .f32⟩
  | .hbm, ⟨81, _⟩ => ⟨S1x2x512, .f32⟩
  | .hbm, ⟨82, _⟩ => ⟨S1x2x512, .f32⟩
  | .hbm, ⟨83, _⟩ => ⟨S2x2x512, .f32⟩
  | .hbm, ⟨84, _⟩ => ⟨S_, .f32⟩
  | .local _ .vmem, ⟨0, _⟩ => ⟨S8x16x1024, .f32⟩
  | .local _ .vmem, ⟨1, _⟩ => ⟨S16x1024, .f32⟩
  | .local _ .vmem, ⟨2, _⟩ => ⟨S8x16x1024, .f32⟩
  | .local _ .vmem, ⟨3, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc0_sem0_0 : DmaSem sig := 0
abbrev cc0_sem1_0 : DmaSem sig := 1
abbrev cc1_sem0_0 : DmaSem sig := 2
abbrev cc1_sem1_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]
-- ==== SumsReferenceIdeal.lean ====
abbrev S8x16x1024 : Shape := ⟨3, ![8, 16, 1024]⟩
abbrev S_ : Shape := ⟨0, ![]⟩
abbrev S16x1024 : Shape := ⟨2, ![16, 1024]⟩
abbrev S16384 : Shape := ⟨1, ![16384]⟩
abbrev S1024 : Shape := ⟨1, ![1024]⟩
abbrev S1x1024 : Shape := ⟨2, ![1, 1024]⟩
abbrev S2x1024 : Shape := ⟨2, ![2, 1024]⟩
abbrev S256 : Shape := ⟨1, ![256]⟩
abbrev S1x256 : Shape := ⟨2, ![1, 256]⟩
abbrev S2x256 : Shape := ⟨2, ![2, 256]⟩
abbrev S128 : Shape := ⟨1, ![128]⟩
abbrev S1x128 : Shape := ⟨2, ![1, 128]⟩
abbrev S2x128 : Shape := ⟨2, ![2, 128]⟩
abbrev S96 : Shape := ⟨1, ![96]⟩
abbrev S1x96 : Shape := ⟨2, ![1, 96]⟩
abbrev S2x96 : Shape := ⟨2, ![2, 96]⟩
abbrev S512 : Shape := ⟨1, ![512]⟩
abbrev S1x512 : Shape := ⟨2, ![1, 512]⟩
abbrev S2x512 : Shape := ⟨2, ![2, 512]⟩
abbrev S64 : Shape := ⟨1, ![64]⟩
abbrev S1x64 : Shape := ⟨2, ![1, 64]⟩
abbrev S2x64 : Shape := ⟨2, ![2, 64]⟩
abbrev S8 : Shape := ⟨1, ![8]⟩
abbrev S1x8 : Shape := ⟨2, ![1, 8]⟩
abbrev S2x8 : Shape := ⟨2, ![2, 8]⟩
abbrev S1536 : Shape := ⟨1, ![1536]⟩
abbrev S1x1536 : Shape := ⟨2, ![1, 1536]⟩
abbrev S2x1536 : Shape := ⟨2, ![2, 1536]⟩
abbrev S2048 : Shape := ⟨1, ![2048]⟩
abbrev S4x512 : Shape := ⟨2, ![4, 512]⟩
abbrev S1x4x512 : Shape := ⟨3, ![1, 4, 512]⟩
abbrev S2x4x512 : Shape := ⟨3, ![2, 4, 512]⟩
abbrev S2x2x512 : Shape := ⟨3, ![2, 2, 512]⟩
abbrev S1x2x2x512 : Shape := ⟨4, ![1, 2, 2, 512]⟩
abbrev S2x2x2x512 : Shape := ⟨4, ![2, 2, 2, 512]⟩
abbrev S1x2x512 : Shape := ⟨3, ![1, 2, 512]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .f32⟩
  | .hbm, ⟨2, _⟩ => ⟨S_, .f32⟩
  | .hbm, ⟨3, _⟩ => ⟨S16x1024, .f32⟩
  | .hbm, ⟨4, _⟩ => ⟨S16384, .f32⟩
  | .hbm, ⟨5, _⟩ => ⟨S_, .f32⟩
  | .hbm, ⟨6, _⟩ => ⟨S16x1024, .f32⟩
  | .hbm, ⟨7, _⟩ => ⟨S16384, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x1024, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S1x256, .f32⟩
  | .hbm, ⟨17, _⟩ => ⟨S2x256, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S96, .f32⟩
  | .hbm, ⟨24, _⟩ => ⟨S96, .f32⟩
  | .hbm, ⟨25, _⟩ => ⟨S1x96, .f32⟩
  | .hbm, ⟨26, _⟩ => ⟨S1x96, .f32⟩
  | .hbm, ⟨27, _⟩ => ⟨S2x96, .f32⟩
  | .hbm, ⟨28, _⟩ => ⟨S96, .f32⟩
  | .hbm, ⟨29, _⟩ => ⟨S96, .f32⟩
  | .hbm, ⟨30, _⟩ => ⟨S1x96, .f32⟩
  | .hbm, ⟨31, _⟩ => ⟨S1x96, .f32⟩
  | .hbm, ⟨32, _⟩ => ⟨S2x96, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S1x512, .f32⟩
  | .hbm, ⟨37, _⟩ => ⟨S2x512, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S2x64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S1x64, .f32⟩
  | .hbm, ⟨47, _⟩ => ⟨S2x64, .f32⟩
  | .hbm, ⟨48, _⟩ => ⟨S8, .f32⟩
  | .hbm, ⟨49, _⟩ => ⟨S8, .f32⟩
  | .hbm, ⟨50, _⟩ => ⟨S1x8, .f32⟩
  | .hbm, ⟨51, _⟩ => ⟨S1x8, .f32⟩
  | .hbm, ⟨52, _⟩ => ⟨S2x8, .f32⟩
  | .hbm, ⟨53, _⟩ => ⟨S1536, .f32⟩
  | .hbm, ⟨54, _⟩ => ⟨S1536, .f32⟩
  | .hbm, ⟨55, _⟩ => ⟨S1x1536, .f32⟩
  | .hbm, ⟨56, _⟩ => ⟨S1x1536, .f32⟩
  | .hbm, ⟨57, _⟩ => ⟨S2x1536, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S2x1024, .f32⟩
  | .hbm, ⟨63, _⟩ => ⟨S2048, .f32⟩
  | .hbm, ⟨64, _⟩ => ⟨S4x512, .f32⟩
  | .hbm, ⟨65, _⟩ => ⟨S2048, .f32⟩
  | .hbm, ⟨66, _⟩ => ⟨S4x512, .f32⟩
  | .hbm, ⟨67, _⟩ => ⟨S1x4x512, .f32⟩
  | .hbm, ⟨68, _⟩ => ⟨S1x4x512, .f32⟩
  | .hbm, ⟨69, _⟩ => ⟨S2x4x512, .f32⟩
  | .hbm, ⟨70, _⟩ => ⟨S2048, .f32⟩
  | .hbm, ⟨71, _⟩ => ⟨S2x2x512, .f32⟩
  | .hbm, ⟨72, _⟩ => ⟨S2048, .f32⟩
  | .hbm, ⟨73, _⟩ => ⟨S2x2x512, .f32⟩
  | .hbm, ⟨74, _⟩ => ⟨S1x2x2x512, .f32⟩
  | .hbm, ⟨75, _⟩ => ⟨S1x2x2x512, .f32⟩
  | .hbm, ⟨76, _⟩ => ⟨S2x2x2x512, .f32⟩
  | .hbm, ⟨77, _⟩ => ⟨S1024, .f32⟩
  | .hbm, ⟨78, _⟩ => ⟨S2x512, .f32⟩
  | .hbm, ⟨79, _⟩ => ⟨S1024, .f32⟩
  | .hbm, ⟨80, _⟩ => ⟨S2x512, .f32⟩
  | .hbm, ⟨81, _⟩ => ⟨S1x2x512, .f32⟩
  | .hbm, ⟨82, _⟩ => ⟨S1x2x512, .f32⟩
  | .hbm, ⟨83, _⟩ => ⟨S2x2x512, .f32⟩
  | .hbm, ⟨84, _⟩ => ⟨S1024, .f32⟩
  | .hbm, ⟨85, _⟩ => ⟨S1, .f32⟩
  | .hbm, ⟨86, _⟩ => ⟨S_, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩

abbrev nD : Nat := 1
abbrev τ : Topo := Topo.v7x

variable {F : FTy → Type} [FloatOps F]
-- ==== Proof.MlpMath.lean ====
/- The squared-ReLU MLP and its gradient over the extended reals, each array as a function of its index. -/
module

public import Idealize.ShloMosaic.Lib.Pointwise
public import Idealize.ShloMosaic.Lib.ValueIdx
public import Idealize.ShloMosaic.PureOps.Ideal.Laws

@[expose] public section

noncomputable section

namespace Cert.Mlp

open Idealize.ShloMosaic

/-- The two-dimensional shape of `a` rows and `b` columns. -/
abbrev sh (a b : ℕ) : Shape := ⟨2, ![a, b]⟩

/-- The hidden layer before the activation: `h @ w1`. -/
def pre (h : (sh 4608 1024).Idx → EReal) (w1 : (sh 1024 4096).Idx → EReal) (j : (sh 4608 4096).Idx) : EReal :=
  ∑ k : Fin 1024, h (ix2 (j 0) k) * w1 (ix2 k (j 1))

/-- The activation of a hidden array: the square of its positive part. -/
def act (p : (sh 4608 4096).Idx → EReal) (j : (sh 4608 4096).Idx) : EReal :=
  max (p j) 0 * max (p j) 0

/-- The layer's result: `act @ w2`. -/
def out (a : (sh 4608 4096).Idx → EReal) (w2 : (sh 4096 1024).Idx → EReal) (j : (sh 4608 1024).Idx) : EReal :=
  ∑ k : Fin 4096, a (ix2 (j 0) k) * w2 (ix2 k (j 1))

/-- The number the programs write as the float word of 2. -/
def two : EReal := Ideal.ofBits .f32 0x40000000#32

/-- The hidden layer's cotangent: `(dy @ w2ᵀ) · 2 · (positive part of the hidden array)`. -/
def dpre (dy : (sh 4608 1024).Idx → EReal) (w2 : (sh 4096 1024).Idx → EReal) (p : (sh 4608 4096).Idx → EReal)
    (j : (sh 4608 4096).Idx) : EReal :=
  (∑ k : Fin 1024, dy (ix2 (j 0) k) * w2 (ix2 (j 1) k)) * (two * max (p j) 0)

/-- The gradient of `w2`: `actᵀ @ dy`. -/
def dw2 (a : (sh 4608 4096).Idx → EReal) (dy : (sh 4608 1024).Idx → EReal) (j : (sh 4096 1024).Idx) : EReal :=
  ∑ k : Fin 4608, a (ix2 k (j 0)) * dy (ix2 k (j 1))

/-- The gradient of the input: `dpre @ w1ᵀ`. -/
def dh (d : (sh 4608 4096).Idx → EReal) (w1 : (sh 1024 4096).Idx → EReal) (j : (sh 4608 1024).Idx) : EReal :=
  ∑ k : Fin 4096, d (ix2 (j 0) k) * w1 (ix2 (j 1) k)

/-- The gradient of `w1`: `hᵀ @ dpre`. -/
def dw1 (h : (sh 4608 1024).Idx → EReal) (d : (sh 4608 4096).Idx → EReal) (j : (sh 1024 4096).Idx) : EReal :=
  ∑ k : Fin 4608, h (ix2 k (j 0)) * d (ix2 k (j 1))

/-- The gradient of `w1` cut into eight blocks of columns, one per device of the step. -/
def dw1Split (h : (sh 4608 1024).Idx → EReal) (d : (sh 4608 4096).Idx → EReal)
    (j : (⟨3, ![8, 1024, 512]⟩ : Shape).Idx) : EReal :=
  dw1 h d (ix2 (j 1) ⟨512 * (j 0).val + (j 2).val, by
    have h0 : (j 0).val < 8 := (j 0).isLt
    have h2 : (j 2).val < 512 := (j 2).isLt
    show _ < 4096
    omega⟩)

end Cert.Mlp

end
-- ==== Proof.MlpRegions.lean ====
/- What each product of the MLP program leaves in its result arrays, over the extended reals: the whole array as one
   function of the arrays the product reads, whatever those hold. -/
module

public import proofs.«01_k».proof.Proof.Gen.MlpKernelIdeal.Frame
public import proofs.«01_k».proof.Proof.MlpMath
public import Idealize.ShloMosaic.Lib.Pipeline.ValueKit.Geometry
public import Idealize.ShloMosaic.Lib.Pipeline.ValueKit.Acc

@[expose] public section

set_option maxRecDepth 16384

noncomputable section

namespace Cert.Mlp

open Idealize.ShloMosaic Idealize.ShloMosaic.TcCoe Idealize.SL.Sem
open Cert.MlpKernelIdeal Cert.MlpKernelIdeal.Gen

variable (V : (c : Dev nD) → (b : Ref sig .tc) → Buf (Elt Ideal) ((c : Thread nD τ).loc b))

/-! ## Product 0: the hidden layer and its activation -/

theorem idx0_0 : ∀ t : Fin cfg0.N, win0_0.index t = ![(grid0.coords t 1).val, 0] :=
  (by decide +kernel : ∀ t : Fin grid0.N, _)
theorem idx0_1 : ∀ t : Fin cfg0.N, win0_1.index t = ![0, (grid0.coords t 0).val] :=
  (by decide +kernel : ∀ t : Fin grid0.N, _)
theorem idx0_2 : ∀ t : Fin cfg0.N, win0_2.index t = ![(grid0.coords t 1).val, (grid0.coords t 0).val] :=
  (by decide +kernel : ∀ t : Fin grid0.N, _)
theorem idx0_3 : ∀ t : Fin cfg0.N, win0_3.index t = ![(grid0.coords t 1).val, (grid0.coords t 0).val] :=
  (by decide +kernel : ∀ t : Fin grid0.N, _)

theorem arr0_2 (c : Dev nD) :
    (dat0 V c).arrAt 2 cfg0.N = pre (V c main_arg0) (V c main_arg1) := by
  refine (dat0 V c).arrAt_eq_of_covers 2 _ (by decide +kernel) fun t hf y => ?_
  blk_simp
  rw [after0_2]; frame_out
  unfold k0_pay2 k0_pay1
  pointwise
  unfold pre
  refine Fin.sum_fin_congr fun k => ?_
  congr 1
  · blk_simp [iblk0]
    refine congrArg (V c main_arg0) ?_
    blk_ext [idx0_0, idx0_2]
  · blk_simp [iblk0]
    refine congrArg (V c main_arg1) ?_
    blk_ext [idx0_1, idx0_2]

theorem arr0_3 (c : Dev nD) :
    (dat0 V c).arrAt 3 cfg0.N = act (pre (V c main_arg0) (V c main_arg1)) := by
  refine (dat0 V c).arrAt_eq_of_covers 3 _ (by decide +kernel) fun t hf y => ?_
  blk_simp
  rw [after0_3]; frame_out
  unfold k0_pay3 k0_pay1
  pointwise
  unfold act pre
  refine congrArg (fun z : EReal => max z 0 * max z 0) ?_
  · refine Fin.sum_fin_congr fun k => ?_
    congr 1
    · blk_simp [iblk0]
      refine congrArg (V c main_arg0) ?_
      blk_ext [idx0_0, idx0_3]
    · blk_simp [iblk0]
      refine congrArg (V c main_arg1) ?_
      blk_ext [idx0_1, idx0_3]

/-! ## Product 1: the result -/

theorem idx1_0 : ∀ t : Fin cfg1.N, win1_0.index t = ![(grid1.coords t 1).val, 0] :=
  (by decide +kernel : ∀ t : Fin grid1.N, _)
theorem idx1_1 : ∀ t : Fin cfg1.N, win1_1.index t = ![0, (grid1.coords t 0).val] :=
  (by decide +kernel : ∀ t : Fin grid1.N, _)
theorem idx1_2 : ∀ t : Fin cfg1.N, win1_2.index t = ![(grid1.coords t 1).val, (grid1.coords t 0).val] :=
  (by decide +kernel : ∀ t : Fin grid1.N, _)

theorem arr1_2 (c : Dev nD) :
    (dat1 V c).arrAt 2 cfg1.N = out (V c main_v0_1) (V c main_arg2) := by
  refine (dat1 V c).arrAt_eq_of_covers 2 _ (by decide +kernel) fun t hf y => ?_
  blk_simp
  rw [after1_2]; frame_out
  unfold k1_pay1
  pointwise
  unfold out
  refine Fin.sum_fin_congr fun k => ?_
  congr 1
  · blk_simp [iblk1]
    refine congrArg (V c main_v0_1) ?_
    blk_ext [idx1_0, idx1_2]
  · blk_simp [iblk1]
    refine congrArg (V c main_arg2) ?_
    blk_ext [idx1_1, idx1_2]

/-! ## Product 2: the hidden layer's cotangent -/

theorem idx2_0 : ∀ t : Fin cfg2.N, win2_0.index t = ![(grid2.coords t 1).val, 0] :=
  (by decide +kernel : ∀ t : Fin grid2.N, _)
theorem idx2_1 : ∀ t : Fin cfg2.N, win2_1.index t = ![(grid2.coords t 0).val, 0] :=
  (by decide +kernel : ∀ t : Fin grid2.N, _)
theorem idx2_2 : ∀ t : Fin cfg2.N, win2_2.index t = ![(grid2.coords t 1).val, (grid2.coords t 0).val] :=
  (by decide +kernel : ∀ t : Fin grid2.N, _)
theorem idx2_3 : ∀ t : Fin cfg2.N, win2_3.index t = ![(grid2.coords t 1).val, (grid2.coords t 0).val] :=
  (by decide +kernel : ∀ t : Fin grid2.N, _)

theorem arr2_3 (c : Dev nD) :
    (dat2 V c).arrAt 3 cfg2.N = dpre (V c main_arg3) (V c main_arg2) (V c main_v0_0) := by
  refine (dat2 V c).arrAt_eq_of_covers 3 _ (by decide +kernel) fun t hf y => ?_
  blk_simp
  rw [after2_3]; frame_out
  unfold k2_pay1
  pointwise
  unfold dpre
  refine congrArg₂ (fun z p : EReal => z * (two * max p 0)) ?_ ?_
  · refine Fin.sum_fin_congr fun k => ?_
    congr 1
    · blk_simp [iblk2]
      refine congrArg (V c main_arg3) ?_
      blk_ext [idx2_0, idx2_3]
    · blk_simp [iblk2]
      refine congrArg (V c main_arg2) ?_
      blk_ext [idx2_1, idx2_3]
  · show (iblk2 V c 2 t y : EReal) = V c main_v0_0 ((win2_3.blk t).view.emb y)
    blk_simp [iblk2]
    refine congrArg (V c main_v0_0) ?_
    blk_ext [idx2_2, idx2_3]

/-! ## Product 3: the gradient of `w2` -/

theorem idx3_0 : ∀ t : Fin cfg3.N, win3_0.index t = ![0, (grid3.coords t 1).val] :=
  (by decide +kernel : ∀ t : Fin grid3.N, _)
theorem idx3_1 : ∀ t : Fin cfg3.N, win3_1.index t = ![0, (grid3.coords t 0).val] :=
  (by decide +kernel : ∀ t : Fin grid3.N, _)
theorem idx3_2 : ∀ t : Fin cfg3.N, win3_2.index t = ![(grid3.coords t 1).val, (grid3.coords t 0).val] :=
  (by decide +kernel : ∀ t : Fin grid3.N, _)

theorem arr3_2 (c : Dev nD) :
    (dat3 V c).arrAt 2 cfg3.N = dw2 (V c main_v0_1) (V c main_arg3) := by
  refine (dat3 V c).arrAt_eq_of_covers 2 _ (by decide +kernel) fun t hf y => ?_
  blk_simp
  rw [after3_2]; frame_out
  unfold k3_pay1
  pointwise
  unfold dw2
  refine Fin.sum_fin_congr fun k => ?_
  congr 1
  · blk_simp [iblk3]
    refine congrArg (V c main_v0_1) ?_
    blk_ext [idx3_0, idx3_2]
  · blk_simp [iblk3]
    refine congrArg (V c main_arg3) ?_
    blk_ext [idx3_1, idx3_2]

/-! ## Product 4: the gradient of the input -/

theorem idx4_0 : ∀ t : Fin cfg4.N, win4_0.index t = ![(grid4.coords t 1).val, 0] :=
  (by decide +kernel : ∀ t : Fin grid4.N, _)
theorem idx4_1 : ∀ t : Fin cfg4.N, win4_1.index t = ![(grid4.coords t 0).val, 0] :=
  (by decide +kernel : ∀ t : Fin grid4.N, _)
theorem idx4_2 : ∀ t : Fin cfg4.N, win4_2.index t = ![(grid4.coords t 1).val, (grid4.coords t 0).val] :=
  (by decide +kernel : ∀ t : Fin grid4.N, _)

theorem arr4_2 (c : Dev nD) :
    (dat4 V c).arrAt 2 cfg4.N = dh (V c main_v2) (V c main_arg1) := by
  refine (dat4 V c).arrAt_eq_of_covers 2 _ (by decide +kernel) fun t hf y => ?_
  blk_simp
  rw [after4_2]; frame_out
  unfold k4_pay1
  pointwise
  unfold dh
  refine Fin.sum_fin_congr fun k => ?_
  congr 1
  · blk_simp [iblk4]
    refine congrArg (V c main_v2) ?_
    blk_ext [idx4_0, idx4_2]
  · blk_simp [iblk4]
    refine congrArg (V c main_arg1) ?_
    blk_ext [idx4_1, idx4_2]

/-! ## Product 5: the gradient of `w1`, cut by columns -/

theorem idx5_0 : ∀ t : Fin cfg5.N, win5_0.index t = ![0, (grid5.coords t 1).val] :=
  (by decide +kernel : ∀ t : Fin grid5.N, _)
theorem idx5_1 : ∀ t : Fin cfg5.N, win5_1.index t = ![0, (grid5.coords t 0).val] :=
  (by decide +kernel : ∀ t : Fin grid5.N, _)
theorem idx5_2 : ∀ t : Fin cfg5.N, win5_2.index t = ![(grid5.coords t 0).val, (grid5.coords t 1).val, 0] :=
  (by decide +kernel : ∀ t : Fin grid5.N, _)

theorem arr5_2 (c : Dev nD) :
    (dat5 V c).arrAt 2 cfg5.N = dw1Split (V c main_arg0) (V c main_v2) := by
  refine (dat5 V c).arrAt_eq_of_covers 2 _ (by decide +kernel) fun t hf y => ?_
  blk_simp
  rw [after5_2]; frame_out
  unfold k5_pay1
  pointwise
  unfold dw1Split dw1
  refine Fin.sum_fin_congr fun k => ?_
  congr 1
  · blk_simp [iblk5]
    refine congrArg (V c main_arg0) ?_
    blk_ext [idx5_0, idx5_2]
  · blk_simp [iblk5]
    refine congrArg (V c main_v2) ?_
    blk_ext [idx5_1, idx5_2]

end Cert.Mlp

end
-- ==== Proof.MlpKernelRun.lean ====
/- The MLP kernel's run read back: its four result arrays as functions of the arguments, over the extended reals. -/
module

public import proofs.«01_k».proof.Proof.MlpRegions

@[expose] public section

set_option maxRecDepth 16384

noncomputable section

namespace Cert.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlpKernelIdeal Cert.MlpKernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the six products every buffer of the program holds what the fold through them says. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => h c)

/-! ## The fold at the arrays that matter -/

section
variable (c : Dev nD)

/-- Argument `0` (the layer's input) at launch, and the others below. -/
abbrev aH : (sh 4608 1024).Idx → EReal := m ((c : Thread nD τ).loc main_arg0)
abbrev aW1 : (sh 1024 4096).Idx → EReal := m ((c : Thread nD τ).loc main_arg1)
abbrev aW2 : (sh 4096 1024).Idx → EReal := m ((c : Thread nD τ).loc main_arg2)
abbrev aDy : (sh 4608 1024).Idx → EReal := m ((c : Thread nD τ).loc main_arg3)

theorem W1_pre : W1 m ρ c (Proc.devRef .tc main_v0_0) = pre (aH m c) (aW1 m c) :=
  (W1_arr m ρ c 2).trans (arr0_2 (V0 m ρ) c)
theorem W1_act : W1 m ρ c (Proc.devRef .tc main_v0_1) = act (pre (aH m c) (aW1 m c)) :=
  (W1_arr m ρ c 3).trans (arr0_3 (V0 m ρ) c)
theorem W2_out : W2 m ρ c (Proc.devRef .tc main_v1) = out (act (pre (aH m c) (aW1 m c))) (aW2 m c) :=
  (W2_arr m ρ c 2).trans ((arr1_2 (V1 m ρ) c).trans (congrArg₂ out (W1_act m ρ c) (W1_args m ρ c main_arg2 (by decide))))
theorem W2_pre : W2 m ρ c (Proc.devRef .tc main_v0_0) = pre (aH m c) (aW1 m c) :=
  (W2_of m ρ c main_v0_0 (by decide)).trans (W1_pre m ρ c)
theorem W2_act : W2 m ρ c (Proc.devRef .tc main_v0_1) = act (pre (aH m c) (aW1 m c)) :=
  (W2_of m ρ c main_v0_1 (by decide)).trans (W1_act m ρ c)
theorem W3_dpre : W3 m ρ c (Proc.devRef .tc main_v2) = dpre (aDy m c) (aW2 m c) (pre (aH m c) (aW1 m c)) :=
  (W3_arr m ρ c 3).trans ((arr2_3 (V2 m ρ) c).trans (by
    rw [show V2 m ρ c main_arg3 = aDy m c from W2_args m ρ c main_arg3 (by decide),
      show V2 m ρ c main_arg2 = aW2 m c from W2_args m ρ c main_arg2 (by decide),
      show V2 m ρ c main_v0_0 = pre (aH m c) (aW1 m c) from W2_pre m ρ c]))
theorem W3_act : W3 m ρ c (Proc.devRef .tc main_v0_1) = act (pre (aH m c) (aW1 m c)) :=
  (W3_of m ρ c main_v0_1 (by decide)).trans (W2_act m ρ c)
theorem W4_dw2 : W4 m ρ c (Proc.devRef .tc main_v3) = dw2 (act (pre (aH m c) (aW1 m c))) (aDy m c) :=
  (W4_arr m ρ c 2).trans ((arr3_2 (V3 m ρ) c).trans (congrArg₂ dw2 (W3_act m ρ c) (W3_args m ρ c main_arg3 (by decide))))
theorem W4_dpre : W4 m ρ c (Proc.devRef .tc main_v2) = dpre (aDy m c) (aW2 m c) (pre (aH m c) (aW1 m c)) :=
  (W4_of m ρ c main_v2 (by decide)).trans (W3_dpre m ρ c)
theorem W5_dh : W5 m ρ c (Proc.devRef .tc main_v4)
    = dh (dpre (aDy m c) (aW2 m c) (pre (aH m c) (aW1 m c))) (aW1 m c) :=
  (W5_arr m ρ c 2).trans ((arr4_2 (V4 m ρ) c).trans (congrArg₂ dh (W4_dpre m ρ c) (W4_args m ρ c main_arg1 (by decide))))
theorem W5_dpre : W5 m ρ c (Proc.devRef .tc main_v2) = dpre (aDy m c) (aW2 m c) (pre (aH m c) (aW1 m c)) :=
  (W5_of m ρ c main_v2 (by decide)).trans (W4_dpre m ρ c)
theorem W6_dw1 : W6 m ρ c (Proc.devRef .tc main_v5)
    = dw1Split (aH m c) (dpre (aDy m c) (aW2 m c) (pre (aH m c) (aW1 m c))) :=
  (W6_arr m ρ c 2).trans ((arr5_2 (V5 m ρ) c).trans (congrArg₂ dw1Split (W5_args m ρ c main_arg0 (by decide)) (W5_dpre m ρ c)))
theorem W6_dh : W6 m ρ c (Proc.devRef .tc main_v4)
    = dh (dpre (aDy m c) (aW2 m c) (pre (aH m c) (aW1 m c))) (aW1 m c) :=
  (W6_of m ρ c main_v4 (by decide)).trans (W5_dh m ρ c)
theorem W6_dw2 : W6 m ρ c (Proc.devRef .tc main_v3) = dw2 (act (pre (aH m c) (aW1 m c))) (aDy m c) :=
  (W6_of m ρ c main_v3 (by decide)).trans ((W5_of m ρ c main_v3 (by decide)).trans (W4_dw2 m ρ c))
theorem W6_out : W6 m ρ c (Proc.devRef .tc main_v1) = out (act (pre (aH m c) (aW1 m c))) (aW2 m c) :=
  (W6_of m ρ c main_v1 (by decide)).trans ((W5_of m ρ c main_v1 (by decide)).trans ((W4_of m ρ c main_v1 (by decide)).trans
    ((W3_of m ρ c main_v1 (by decide)).trans (W2_out m ρ c))))

end

/-- THE RUN: the results are the layer's output and its three gradients; the arguments are unchanged. -/
theorem kernel_run : θ_run defs (onTc (τ := τ) (main (F := Ideal))) ⟨m, fun _ => 0, ρ⟩ (fun r => ∀ c : Dev nD,
      r.2.mem ((c : Thread nD τ).loc main_v1) = out (act (pre (aH m c) (aW1 m c))) (aW2 m c)
      ∧ r.2.mem ((c : Thread nD τ).loc main_v4) = dh (dpre (aDy m c) (aW2 m c) (pre (aH m c) (aW1 m c))) (aW1 m c)
      ∧ r.2.mem ((c : Thread nD τ).loc main_v5) = dw1Split (aH m c) (dpre (aDy m c) (aW2 m c) (pre (aH m c) (aW1 m c)))
      ∧ r.2.mem ((c : Thread nD τ).loc main_v3) = dw2 (act (pre (aH m c) (aW1 m c))) (aDy m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨(h c _ (mem_uc main_v1 (by decide))).trans (W6_out m ρ c), (h c _ (mem_uc main_v4 (by decide))).trans (W6_dh m ρ c),
     (h c _ (mem_uc main_v5 (by decide))).trans (W6_dw1 m ρ c), (h c _ (mem_uc main_v3 (by decide))).trans (W6_dw2 m ρ c),
     (h c _ (mem_uc main_arg0 (by decide))).trans (W6_main_arg0 m ρ c), (h c _ (mem_uc main_arg1 (by decide))).trans (W6_main_arg1 m ρ c),
     (h c _ (mem_uc main_arg2 (by decide))).trans (W6_main_arg2 m ρ c), (h c _ (mem_uc main_arg3 (by decide))).trans (W6_main_arg3 m ρ c)⟩)
    (run_boundary m ρ)

end Cert.Mlp

end
-- ==== Proof.MlpReference.lean ====
/- The MLP reference's results over the extended reals, as the same functions of the arguments. -/
module

public import proofs.«01_k».proof.Proof.Gen.MlpReferenceIdeal.Read
public import proofs.«01_k».proof.Proof.MlpMath

@[expose] public section

set_option maxRecDepth 16384

noncomputable section

namespace Cert.Mlp

open Idealize.ShloMosaic
open Cert.MlpReferenceIdeal Cert.MlpReferenceIdeal.Gen Cert.MlpReferenceIdeal.Read

variable (x : (sh 4608 1024).Idx → EReal) (w1 : (sh 1024 4096).Idx → EReal) (w2 : (sh 4096 1024).Idx → EReal)
  (dy : (sh 4608 1024).Idx → EReal)

/-- The hidden layer. -/
theorem ref_pre : val_main_v3 (F := Ideal) x w1 = pre x w1 := by
  funext j
  unfold val_main_v3 val_main_v0 val_main_v1
  pointwise
  unfold pre
  rfl

/-- Its activation. -/
theorem ref_act : val_main_v8 (F := Ideal) x w1 = act (pre x w1) := by
  funext j
  unfold val_main_v8 val_main_v4 val_main_call0_v0 val_main_call0_cst
  rw [ref_pre]
  pointwise
  unfold act
  rfl

/-- The layer's result. -/
theorem ref_out : val_main_v11 (F := Ideal) x w1 w2 = out (act (pre x w1)) w2 := by
  funext j
  unfold val_main_v11 val_main_v2
  rw [ref_act]
  pointwise
  unfold out
  rfl

/-- The hidden layer's cotangent: where the hidden array is not positive both sides are zero. -/
theorem ref_dpre : val_main_v18 (F := Ideal) x w1 w2 dy = dpre dy w2 (pre x w1) := by
  funext j
  unfold val_main_v18 val_main_v6 val_main_v16 val_main_v17 val_main_v15 val_main_v10 val_main_v12 val_main_v2 val_main_v9
    val_main_v4 val_main_call0_v0 val_main_call0_cst val_main_v5 val_main_cst val_main_cst_1 val_main_cst_2
  rw [ref_pre]
  pointwise
  unfold dpre
  by_cases h : 0 < pre x w1 j
  · rw [if_pos h]; rfl
  · rw [if_neg h, max_eq_right (not_lt.mp h), mul_zero, mul_zero]

/-- The gradient of `w2`. -/
theorem ref_dw2 : val_main_v25 (F := Ideal) x w1 dy = dw2 (act (pre x w1)) dy := by
  funext j
  unfold val_main_v25 val_main_v14 val_main_v13 val_main_v12
  rw [ref_act]
  pointwise
  unfold dw2
  exact Fintype.sum_congr _ _ fun k => mul_comm _ _

/-- The gradient of the input. -/
theorem ref_dh : val_main_v21 (F := Ideal) x w1 w2 dy = dh (dpre dy w2 (pre x w1)) w1 := by
  funext j
  unfold val_main_v21 val_main_v1
  rw [ref_dpre]
  pointwise
  unfold dh
  rfl

/-- The gradient of `w1`, cut by columns. -/
theorem ref_dw1 : val_main_v24 (F := Ideal) x w1 w2 dy = dw1Split x (dpre dy w2 (pre x w1)) := by
  funext j
  unfold val_main_v24 val_main_v23 val_main_v22 val_main_v20 val_main_v19 val_main_v0
  rw [ref_dpre]
  pointwise
  unfold dw1Split dw1
  refine Fintype.sum_congr _ _ fun k => (mul_comm _ _).trans ?_
  have e : (⟨(j 0).val * 512 + (j 2).val, by have h0 := (j 0).isLt; have h2 := (j 2).isLt; change (j 0).val < 8 at h0; change (j 2).val < 512 at h2; omega⟩ : Fin 4096)
      = ⟨512 * (j 0).val + (j 2).val, by have h0 := (j 0).isLt; have h2 := (j 2).isLt; change (j 0).val < 8 at h0; change (j 2).val < 512 at h2; omega⟩ := Fin.ext (by simp only [Nat.mul_comm])
  exact congrArg (fun z : Fin 4096 => x (Idealize.ShloMosaic.ix2 k (j 1)) * dpre dy w2 (pre x w1) (Idealize.ShloMosaic.ix2 k z)) e

end Cert.Mlp

end
-- ==== Proof.MlpClaim.lean ====
/- The MLP's claims: the kernel's products and the plain layer's gradients end with equal arrays. -/
module

public import proofs.«01_k».proof.Defs
public import proofs.«01_k».proof.Proof.Gen.MlpKernel
public import proofs.«01_k».proof.Proof.Gen.MlpKernel.Frame
public import proofs.«01_k».proof.Proof.Gen.MlpReferenceIdeal.Run
public import proofs.«01_k».proof.Proof.MlpKernelRun
public import proofs.«01_k».proof.Proof.MlpReference
public import Idealize.ShloMosaic.Lib.Quiescent

@[expose] public section

noncomputable section

namespace Cert.Mlp

open Idealize.ShloMosaic Idealize.SL.Sem

/-- The plain layer runs to its end; it has no semaphores. -/
theorem reference_frame : Cert.quiescent_MlpReferenceIdeal := fun m ρ _ =>
  (θ_run Cert.MlpReferenceIdeal.defs _ _).mono (fun r h => ⟨fun c => (h c).2.2.2.2, sem_eq_zero_of_no_sems (by decide) r.2⟩)
    (Cert.MlpReferenceIdeal.Value.run (F := Ideal) m ρ)

/-- Equal results from equal arguments. -/
theorem algebraic : Cert.algebraic_MlpKernelIdeal_MlpReferenceIdeal := by
  intro m ρ m' ρ' _ hagree
  refine ⟨fun c => out (act (pre (aH m c) (aW1 m c))) (aW2 m c),
    fun c => dh (dpre (aDy m c) (aW2 m c) (pre (aH m c) (aW1 m c))) (aW1 m c),
    fun c => dw1Split (aH m c) (dpre (aDy m c) (aW2 m c) (pre (aH m c) (aW1 m c))),
    fun c => dw2 (act (pre (aH m c) (aW1 m c))) (aDy m c), kernel_run m ρ, ?_⟩
  refine (θ_run Cert.MlpReferenceIdeal.defs _ _).mono (fun _ h c => ?_) (Cert.MlpReferenceIdeal.Value.run (F := Ideal) m' ρ')
  obtain ⟨h0, h1, h2, h3, hargs⟩ := h c
  obtain ⟨e0, e1, e2, e3⟩ := hagree c
  refine ⟨h0.trans ?_, h1.trans ?_, h2.trans ?_, h3.trans ?_, hargs⟩
  · rw [Cert.MlpReferenceIdeal.Read.val_main_v11_eq, e0, e1, e2]; exact ref_out _ _ _
  · rw [Cert.MlpReferenceIdeal.Read.val_main_v21_eq, e0, e1, e2, e3]; exact ref_dh _ _ _ _
  · rw [Cert.MlpReferenceIdeal.Read.val_main_v24_eq, e0, e1, e2, e3]; exact ref_dw1 _ _ _ _
  · rw [Cert.MlpReferenceIdeal.Read.val_main_v25_eq, e0, e1, e3]; exact ref_dw2 _ _ _

end Cert.Mlp

end
-- ==== Proof.ProjMath.lean ====
/- The three products of two matrices over the extended reals, each as a function of its index. -/
module

public import Idealize.ShloMosaic.Lib.Pointwise
public import Idealize.ShloMosaic.Lib.ValueIdx
public import Idealize.ShloMosaic.PureOps.Ideal.Laws

@[expose] public section

set_option maxRecDepth 16384

noncomputable section

namespace Cert.Proj

open Idealize.ShloMosaic

/-- The two-dimensional shape of `a` rows and `b` columns. -/
abbrev sh (a b : ℕ) : Shape := ⟨2, ![a, b]⟩

variable {r s k : ℕ}

/-- `a @ b`. -/
def nn (a : (sh r k).Idx → EReal) (b : (sh k s).Idx → EReal) (j : (sh r s).Idx) : EReal :=
  ∑ i : Fin k, a (ix2 (j 0) i) * b (ix2 i (j 1))

/-- `a @ bᵀ`. -/
def nt (a : (sh r k).Idx → EReal) (b : (sh s k).Idx → EReal) (j : (sh r s).Idx) : EReal :=
  ∑ i : Fin k, a (ix2 (j 0) i) * b (ix2 (j 1) i)

/-- `aᵀ @ b`. -/
def tn (a : (sh k r).Idx → EReal) (b : (sh k s).Idx → EReal) (j : (sh r s).Idx) : EReal :=
  ∑ i : Fin k, a (ix2 i (j 0)) * b (ix2 i (j 1))

end Cert.Proj

end
-- ==== Proof.ProjRegions.lean ====
/- What each product of the projection program leaves in its result array, over the extended reals: the whole array as
   one function of the arrays the product reads, whatever those hold. -/
module

public import proofs.«01_k».proof.Proof.Gen.ProjKernelIdeal.Frame
public import proofs.«01_k».proof.Proof.ProjMath
public import Idealize.ShloMosaic.Lib.Pipeline.ValueKit.Geometry
public import Idealize.ShloMosaic.Lib.Pipeline.ValueKit.Acc

@[expose] public section

set_option maxRecDepth 16384

noncomputable section

namespace Cert.Proj

open Idealize.ShloMosaic Idealize.ShloMosaic.TcCoe Idealize.SL.Sem
open Cert.ProjKernelIdeal Cert.ProjKernelIdeal.Gen

variable (V : (c : Dev nD) → (b : Ref sig .tc) → Buf (Elt Ideal) ((c : Thread nD τ).loc b))

/-! ## Product 0: the input projection -/

theorem idx0_0 : ∀ t : Fin cfg0.N, win0_0.index t = ![(grid0.coords t 1).val, 0] :=
  (by decide +kernel : ∀ t : Fin grid0.N, _)
theorem idx0_1 : ∀ t : Fin cfg0.N, win0_1.index t = ![0, (grid0.coords t 0).val] :=
  (by decide +kernel : ∀ t : Fin grid0.N, _)
theorem idx0_2 : ∀ t : Fin cfg0.N, win0_2.index t = ![(grid0.coords t 1).val, (grid0.coords t 0).val] :=
  (by decide +kernel : ∀ t : Fin grid0.N, _)

theorem arr0_2 (c : Dev nD) : (dat0 V c).arrAt 2 cfg0.N = nn (V c main_arg0) (V c main_arg1) := by
  refine (dat0 V c).arrAt_eq_of_covers 2 _ (by decide +kernel) fun t hf y => ?_
  blk_simp
  rw [after0_2]; frame_out
  unfold k0_pay1
  pointwise
  unfold nn
  refine Fin.sum_fin_congr fun i => ?_
  congr 1
  · blk_simp [iblk0]
    refine congrArg (V c main_arg0) ?_
    blk_ext [idx0_0, idx0_2]
  · blk_simp [iblk0]
    refine congrArg (V c main_arg1) ?_
    blk_ext [idx0_1, idx0_2]

/-! ## Product 1: the output projection -/

theorem idx1_0 : ∀ t : Fin cfg1.N, win1_0.index t = ![(grid1.coords t 1).val, 0] :=
  (by decide +kernel : ∀ t : Fin grid1.N, _)
theorem idx1_1 : ∀ t : Fin cfg1.N, win1_1.index t = ![0, (grid1.coords t 0).val] :=
  (by decide +kernel : ∀ t : Fin grid1.N, _)
theorem idx1_2 : ∀ t : Fin cfg1.N, win1_2.index t = ![(grid1.coords t 1).val, (grid1.coords t 0).val] :=
  (by decide +kernel : ∀ t : Fin grid1.N, _)

theorem arr1_2 (c : Dev nD) : (dat1 V c).arrAt 2 cfg1.N = nn (V c main_arg3) (V c main_arg4) := by
  refine (dat1 V c).arrAt_eq_of_covers 2 _ (by decide +kernel) fun t hf y => ?_
  blk_simp
  rw [after1_2]; frame_out
  unfold k1_pay1
  pointwise
  unfold nn
  refine Fin.sum_fin_congr fun i => ?_
  congr 1
  · blk_simp [iblk1]
    refine congrArg (V c main_arg3) ?_
    blk_ext [idx1_0, idx1_2]
  · blk_simp [iblk1]
    refine congrArg (V c main_arg4) ?_
    blk_ext [idx1_1, idx1_2]

/-! ## Product 2: the gradient of the output projection's input -/

theorem idx2_0 : ∀ t : Fin cfg2.N, win2_0.index t = ![(grid2.coords t 1).val, 0] :=
  (by decide +kernel : ∀ t : Fin grid2.N, _)
theorem idx2_1 : ∀ t : Fin cfg2.N, win2_1.index t = ![(grid2.coords t 0).val, 0] :=
  (by decide +kernel : ∀ t : Fin grid2.N, _)
theorem idx2_2 : ∀ t : Fin cfg2.N, win2_2.index t = ![(grid2.coords t 1).val, (grid2.coords t 0).val] :=
  (by decide +kernel : ∀ t : Fin grid2.N, _)

theorem arr2_2 (c : Dev nD) : (dat2 V c).arrAt 2 cfg2.N = nt (V c main_arg5) (V c main_arg4) := by
  refine (dat2 V c).arrAt_eq_of_covers 2 _ (by decide +kernel) fun t hf y => ?_
  blk_simp
  rw [after2_2]; frame_out
  unfold k2_pay1
  pointwise
  unfold nt
  refine Fin.sum_fin_congr fun i => ?_
  congr 1
  · blk_simp [iblk2]
    refine congrArg (V c main_arg5) ?_
    blk_ext [idx2_0, idx2_2]
  · blk_simp [iblk2]
    refine congrArg (V c main_arg4) ?_
    blk_ext [idx2_1, idx2_2]

/-! ## Product 3: the gradient of the output weights -/

theorem idx3_0 : ∀ t : Fin cfg3.N, win3_0.index t = ![0, (grid3.coords t 1).val] :=
  (by decide +kernel : ∀ t : Fin grid3.N, _)
theorem idx3_1 : ∀ t : Fin cfg3.N, win3_1.index t = ![0, (grid3.coords t 0).val] :=
  (by decide +kernel : ∀ t : Fin grid3.N, _)
theorem idx3_2 : ∀ t : Fin cfg3.N, win3_2.index t = ![(grid3.coords t 1).val, (grid3.coords t 0).val] :=
  (by decide +kernel : ∀ t : Fin grid3.N, _)

theorem arr3_2 (c : Dev nD) : (dat3 V c).arrAt 2 cfg3.N = tn (V c main_arg3) (V c main_arg5) := by
  refine (dat3 V c).arrAt_eq_of_covers 2 _ (by decide +kernel) fun t hf y => ?_
  blk_simp
  rw [after3_2]; frame_out
  unfold k3_pay1
  pointwise
  unfold tn
  refine Fin.sum_fin_congr fun i => ?_
  congr 1
  · blk_simp [iblk3]
    refine congrArg (V c main_arg3) ?_
    blk_ext [idx3_0, idx3_2]
  · blk_simp [iblk3]
    refine congrArg (V c main_arg5) ?_
    blk_ext [idx3_1, idx3_2]

/-! ## Product 4: the gradient of the input projection's input -/

theorem idx4_0 : ∀ t : Fin cfg4.N, win4_0.index t = ![(grid4.coords t 1).val, 0] :=
  (by decide +kernel : ∀ t : Fin grid4.N, _)
theorem idx4_1 : ∀ t : Fin cfg4.N, win4_1.index t = ![(grid4.coords t 0).val, 0] :=
  (by decide +kernel : ∀ t : Fin grid4.N, _)
theorem idx4_2 : ∀ t : Fin cfg4.N, win4_2.index t = ![(grid4.coords t 1).val, (grid4.coords t 0).val] :=
  (by decide +kernel : ∀ t : Fin grid4.N, _)

theorem arr4_2 (c : Dev nD) : (dat4 V c).arrAt 2 cfg4.N = nt (V c main_arg2) (V c main_arg1) := by
  refine (dat4 V c).arrAt_eq_of_covers 2 _ (by decide +kernel) fun t hf y => ?_
  blk_simp
  rw [after4_2]; frame_out
  unfold k4_pay1
  pointwise
  unfold nt
  refine Fin.sum_fin_congr fun i => ?_
  congr 1
  · blk_simp [iblk4]
    refine congrArg (V c main_arg2) ?_
    blk_ext [idx4_0, idx4_2]
  · blk_simp [iblk4]
    refine congrArg (V c main_arg1) ?_
    blk_ext [idx4_1, idx4_2]

/-! ## Product 5: the gradient of the input weights -/

theorem idx5_0 : ∀ t : Fin cfg5.N, win5_0.index t = ![0, (grid5.coords t 1).val] :=
  (by decide +kernel : ∀ t : Fin grid5.N, _)
theorem idx5_1 : ∀ t : Fin cfg5.N, win5_1.index t = ![0, (grid5.coords t 0).val] :=
  (by decide +kernel : ∀ t : Fin grid5.N, _)
theorem idx5_2 : ∀ t : Fin cfg5.N, win5_2.index t = ![(grid5.coords t 1).val, (grid5.coords t 0).val] :=
  (by decide +kernel : ∀ t : Fin grid5.N, _)

theorem arr5_2 (c : Dev nD) : (dat5 V c).arrAt 2 cfg5.N = tn (V c main_arg0) (V c main_arg2) := by
  refine (dat5 V c).arrAt_eq_of_covers 2 _ (by decide +kernel) fun t hf y => ?_
  blk_simp
  rw [after5_2]; frame_out
  unfold k5_pay1
  pointwise
  unfold tn
  refine Fin.sum_fin_congr fun i => ?_
  congr 1
  · blk_simp [iblk5]
    refine congrArg (V c main_arg0) ?_
    blk_ext [idx5_0, idx5_2]
  · blk_simp [iblk5]
    refine congrArg (V c main_arg2) ?_
    blk_ext [idx5_1, idx5_2]

end Cert.Proj

end
-- ==== Proof.ProjKernelRun.lean ====
/- The projection kernel's run read back: its six result arrays as functions of the arguments, over the extended reals. -/
module

public import proofs.«01_k».proof.Proof.ProjRegions

@[expose] public section

set_option maxRecDepth 16384

noncomputable section

namespace Cert.Proj

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjKernelIdeal Cert.ProjKernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the six products every buffer of the program holds what the fold through them says. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => h c)

/-! ## The fold at the results -/

section
variable (c : Dev nD)

/-- Argument `0`: h (the layer's normalised input), at launch. -/
abbrev a0 : (sh 4608 1024).Idx → EReal := m ((c : Thread nD τ).loc main_arg0)
/-- Argument `1`: the input weights, at launch. -/
abbrev a1 : (sh 1024 3072).Idx → EReal := m ((c : Thread nD τ).loc main_arg1)
/-- Argument `2`: the input projection's cotangent, at launch. -/
abbrev a2 : (sh 4608 3072).Idx → EReal := m ((c : Thread nD τ).loc main_arg2)
/-- Argument `3`: the output projection's input, at launch. -/
abbrev a3 : (sh 4608 1536).Idx → EReal := m ((c : Thread nD τ).loc main_arg3)
/-- Argument `4`: the output weights, at launch. -/
abbrev a4 : (sh 1536 1024).Idx → EReal := m ((c : Thread nD τ).loc main_arg4)
/-- Argument `5`: the output projection's cotangent, at launch. -/
abbrev a5 : (sh 4608 1024).Idx → EReal := m ((c : Thread nD τ).loc main_arg5)

/-- Product 0 leaves the input projection. -/
theorem W1_p_all : W1 m ρ c (Proc.devRef .tc main_v0) = nn (a0 m c) (a1 m c) :=
  (W1_arr m ρ c 2).trans ((arr0_2 (V0 m ρ) c).trans (congrArg₂ nn rfl rfl))
/-- It is still there at the end. -/
theorem W6_p_all : W6 m ρ c (Proc.devRef .tc main_v0) = nn (a0 m c) (a1 m c) :=
  (W6_of m ρ c main_v0 (by decide)).trans ((W5_of m ρ c main_v0 (by decide)).trans ((W4_of m ρ c main_v0 (by decide)).trans ((W3_of m ρ c main_v0 (by decide)).trans ((W2_of m ρ c main_v0 (by decide)).trans (W1_p_all m ρ c)))))

/-- Product 1 leaves the output projection. -/
theorem W2_y : W2 m ρ c (Proc.devRef .tc main_v1) = nn (a3 m c) (a4 m c) :=
  (W2_arr m ρ c 2).trans ((arr1_2 (V1 m ρ) c).trans (congrArg₂ nn (W1_args m ρ c main_arg3 (by decide)) (W1_args m ρ c main_arg4 (by decide))))
/-- It is still there at the end. -/
theorem W6_y : W6 m ρ c (Proc.devRef .tc main_v1) = nn (a3 m c) (a4 m c) :=
  (W6_of m ρ c main_v1 (by decide)).trans ((W5_of m ρ c main_v1 (by decide)).trans ((W4_of m ρ c main_v1 (by decide)).trans ((W3_of m ρ c main_v1 (by decide)).trans (W2_y m ρ c))))

/-- Product 2 leaves the gradient of the output projection's input. -/
theorem W3_dy_in : W3 m ρ c (Proc.devRef .tc main_v2) = nt (a5 m c) (a4 m c) :=
  (W3_arr m ρ c 2).trans ((arr2_2 (V2 m ρ) c).trans (congrArg₂ nt (W2_args m ρ c main_arg5 (by decide)) (W2_args m ρ c main_arg4 (by decide))))
/-- It is still there at the end. -/
theorem W6_dy_in : W6 m ρ c (Proc.devRef .tc main_v2) = nt (a5 m c) (a4 m c) :=
  (W6_of m ρ c main_v2 (by decide)).trans ((W5_of m ρ c main_v2 (by decide)).trans ((W4_of m ρ c main_v2 (by decide)).trans (W3_dy_in m ρ c)))

/-- Product 3 leaves the gradient of the output weights. -/
theorem W4_dwout : W4 m ρ c (Proc.devRef .tc main_v3) = tn (a3 m c) (a5 m c) :=
  (W4_arr m ρ c 2).trans ((arr3_2 (V3 m ρ) c).trans (congrArg₂ tn (W3_args m ρ c main_arg3 (by decide)) (W3_args m ρ c main_arg5 (by decide))))
/-- It is still there at the end. -/
theorem W6_dwout : W6 m ρ c (Proc.devRef .tc main_v3) = tn (a3 m c) (a5 m c) :=
  (W6_of m ρ c main_v3 (by decide)).trans ((W5_of m ρ c main_v3 (by decide)).trans (W4_dwout m ρ c))

/-- Product 4 leaves the gradient of the input projection's input. -/
theorem W5_dh : W5 m ρ c (Proc.devRef .tc main_v4) = nt (a2 m c) (a1 m c) :=
  (W5_arr m ρ c 2).trans ((arr4_2 (V4 m ρ) c).trans (congrArg₂ nt (W4_args m ρ c main_arg2 (by decide)) (W4_args m ρ c main_arg1 (by decide))))
/-- It is still there at the end. -/
theorem W6_dh : W6 m ρ c (Proc.devRef .tc main_v4) = nt (a2 m c) (a1 m c) :=
  (W6_of m ρ c main_v4 (by decide)).trans (W5_dh m ρ c)

/-- Product 5 leaves the gradient of the input weights. -/
theorem W6_dwin : W6 m ρ c (Proc.devRef .tc main_v5) = tn (a0 m c) (a2 m c) :=
  (W6_arr m ρ c 2).trans ((arr5_2 (V5 m ρ) c).trans (congrArg₂ tn (W5_args m ρ c main_arg0 (by decide)) (W5_args m ρ c main_arg2 (by decide))))

end

/-- THE RUN: the results are the two projections and their gradients; the arguments are unchanged. -/
theorem kernel_run : θ_run defs (onTc (τ := τ) (main (F := Ideal))) ⟨m, fun _ => 0, ρ⟩ (fun r => ∀ c : Dev nD,
      r.2.mem ((c : Thread nD τ).loc main_v0) = nn (a0 m c) (a1 m c)
      ∧ r.2.mem ((c : Thread nD τ).loc main_v1) = nn (a3 m c) (a4 m c)
      ∧ r.2.mem ((c : Thread nD τ).loc main_v2) = nt (a5 m c) (a4 m c)
      ∧ r.2.mem ((c : Thread nD τ).loc main_v3) = tn (a3 m c) (a5 m c)
      ∧ r.2.mem ((c : Thread nD τ).loc main_v4) = nt (a2 m c) (a1 m c)
      ∧ r.2.mem ((c : Thread nD τ).loc main_v5) = tn (a0 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨(h c _ (mem_uc main_v0 (by decide))).trans (W6_p_all m ρ c),
     (h c _ (mem_uc main_v1 (by decide))).trans (W6_y m ρ c),
     (h c _ (mem_uc main_v2 (by decide))).trans (W6_dy_in m ρ c),
     (h c _ (mem_uc main_v3 (by decide))).trans (W6_dwout m ρ c),
     (h c _ (mem_uc main_v4 (by decide))).trans (W6_dh m ρ c),
     (h c _ (mem_uc main_v5 (by decide))).trans (W6_dwin m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩)
    (run_boundary m ρ)

end Cert.Proj

end
-- ==== Proof.ProjReference.lean ====
/- The plain projections and their gradients over the extended reals, as the same products of the arguments. -/
module

public import proofs.«01_k».proof.Proof.Gen.ProjReferenceIdeal.Read
public import proofs.«01_k».proof.Proof.ProjMath

@[expose] public section

set_option maxRecDepth 16384

noncomputable section

namespace Cert.Proj

open Idealize.ShloMosaic
open Cert.ProjReferenceIdeal Cert.ProjReferenceIdeal.Gen Cert.ProjReferenceIdeal.Read

variable (x0 : (sh 4608 1024).Idx → EReal) (x1 : (sh 1024 3072).Idx → EReal) (x2 : (sh 4608 3072).Idx → EReal) (x3 : (sh 4608 1536).Idx → EReal) (x4 : (sh 1536 1024).Idx → EReal) (x5 : (sh 4608 1024).Idx → EReal)

/-- The input projection. -/
theorem ref_p_all : val_main_v14 (F := Ideal) x0 x1 = nn x0 x1 := by
  funext j
  unfold val_main_v14 val_main_v2 val_main_v0 val_main_v1
  pointwise
  unfold nn
  rfl

/-- The output projection. -/
theorem ref_y : val_main_v5 (F := Ideal) x3 x4 = nn x3 x4 := by
  funext j
  unfold val_main_v5 val_main_v3 val_main_v4
  pointwise
  unfold nn
  rfl

/-- The gradient of the output projection's input. -/
theorem ref_dy_in : val_main_v13 (F := Ideal) x4 x5 = nt x5 x4 := by
  funext j
  unfold val_main_v13 val_main_v10 val_main_v4
  pointwise
  unfold nt
  rfl

/-- The gradient of the output weights. -/
theorem ref_dwout : val_main_v15 (F := Ideal) x3 x5 = tn x3 x5 := by
  funext j
  unfold val_main_v15 val_main_v12 val_main_v11 val_main_v10 val_main_v3
  pointwise
  unfold tn
  exact Fintype.sum_congr _ _ fun _ => mul_comm _ _

/-- The gradient of the input projection's input. -/
theorem ref_dh : val_main_v9 (F := Ideal) x1 x2 = nt x2 x1 := by
  funext j
  unfold val_main_v9 val_main_v6 val_main_v1
  pointwise
  unfold nt
  rfl

/-- The gradient of the input weights. -/
theorem ref_dwin : val_main_v16 (F := Ideal) x0 x2 = tn x0 x2 := by
  funext j
  unfold val_main_v16 val_main_v8 val_main_v7 val_main_v6 val_main_v0
  pointwise
  unfold tn
  exact Fintype.sum_congr _ _ fun _ => mul_comm _ _

end Cert.Proj

end
-- ==== Proof.ProjClaim.lean ====
/- The projections' claims: the kernel's six products and the plain products' gradients end with equal arrays. -/
module

public import proofs.«01_k».proof.Defs
public import proofs.«01_k».proof.Proof.Gen.ProjKernel
public import proofs.«01_k».proof.Proof.Gen.ProjKernel.Frame
public import proofs.«01_k».proof.Proof.Gen.ProjReferenceIdeal.Run
public import proofs.«01_k».proof.Proof.ProjKernelRun
public import proofs.«01_k».proof.Proof.ProjReference
public import Idealize.ShloMosaic.Lib.Quiescent

@[expose] public section

set_option maxRecDepth 16384

noncomputable section

namespace Cert.Proj

open Idealize.ShloMosaic Idealize.SL.Sem

/-- The plain products run to their end; they have no semaphores. -/
theorem reference_frame : Cert.quiescent_ProjReferenceIdeal := fun m ρ _ =>
  (θ_run Cert.ProjReferenceIdeal.defs _ _).mono (fun r h => ⟨fun c => (h c).2.2.2.2.2.2, sem_eq_zero_of_no_sems (by decide) r.2⟩)
    (Cert.ProjReferenceIdeal.Value.run (F := Ideal) m ρ)

/-- Equal results from equal arguments. -/
theorem algebraic : Cert.algebraic_ProjKernelIdeal_ProjReferenceIdeal := by
  intro m ρ m' ρ' _ hagree
  refine ⟨fun c => nn (a0 m c) (a1 m c),
    fun c => nn (a3 m c) (a4 m c),
    fun c => nt (a5 m c) (a4 m c),
    fun c => tn (a3 m c) (a5 m c),
    fun c => nt (a2 m c) (a1 m c),
    fun c => tn (a0 m c) (a2 m c), kernel_run m ρ, ?_⟩
  refine (θ_run Cert.ProjReferenceIdeal.defs _ _).mono (fun _ h c => ?_) (Cert.ProjReferenceIdeal.Value.run (F := Ideal) m' ρ')
  obtain ⟨h0, h1, h2, h3, h4, h5, hargs⟩ := h c
  obtain ⟨e0, e1, e2, e3, e4, e5⟩ := hagree c
  refine ⟨h0.trans ?_, h1.trans ?_, h2.trans ?_, h3.trans ?_, h4.trans ?_, h5.trans ?_, hargs⟩
  · rw [Cert.ProjReferenceIdeal.Read.val_main_v14_eq, e0, e1]; exact ref_p_all _ _
  · rw [Cert.ProjReferenceIdeal.Read.val_main_v5_eq, e3, e4]; exact ref_y _ _
  · rw [Cert.ProjReferenceIdeal.Read.val_main_v13_eq, e4, e5]; exact ref_dy_in _ _
  · rw [Cert.ProjReferenceIdeal.Read.val_main_v15_eq, e3, e5]; exact ref_dwout _ _
  · rw [Cert.ProjReferenceIdeal.Read.val_main_v9_eq, e1, e2]; exact ref_dh _ _
  · rw [Cert.ProjReferenceIdeal.Read.val_main_v16_eq, e0, e2]; exact ref_dwin _ _

end Cert.Proj

end
-- ==== Proof.AdamwMath.lean ====
/- One AdamW step over the extended reals, entry by entry, on arrays whose two layers lie one below the other. -/
module

public import Idealize.ShloMosaic.Lib.Pointwise
public import Idealize.ShloMosaic.Lib.ValueIdx
public import Idealize.ShloMosaic.PureOps.Ideal.Laws

@[expose] public section

noncomputable section

namespace Cert.Adamw

open Idealize.ShloMosaic

/-- The two-dimensional shape of `a` rows and `b` columns. -/
abbrev sh (a b : ℕ) : Shape := ⟨2, ![a, b]⟩
/-- `n` matrices of `a` rows and `b` columns. -/
abbrev sh3 (n a b : ℕ) : Shape := ⟨3, ![n, a, b]⟩

/-- The number a float word stands for. -/
abbrev num (w : BitVec 32) : EReal := Ideal.ofBits .f32 w

/-- The new first moment of an entry: 0.9 and 0.1 as the programs' words. -/
def mom1 (g m : EReal) : EReal := num 0x3F666666#32 * m + num 0x3DCCCCCD#32 * g
/-- The new second moment of an entry: 0.999 and 0.001. -/
def mom2 (g v : EReal) : EReal := num 0x3F7FBE77#32 * v + num 0x3A83126F#32 * (g * g)
/-- The change of a weight: the first moment over the root of the second, both corrected for the step's number, and the
    weight's own decay. -/
def step (g w m v : EReal) : EReal :=
  num 0xBA83126F#32 * (Ideal.div (Ideal.div (mom1 g m) (num 0x3F26BD02#32))
      (Ideal.sqrt (Ideal.div (mom2 g v) (num 0x3C231ACC#32)) + num 0x322BCC77#32) + num 0x3C23D70A#32 * w)

section
variable {n r c R : ℕ}

/-- The sum of the parts at one place. -/
def parts {p : ℕ} (x : (sh3 n p c).Idx → EReal) (i : Fin p) (k : Fin c) : EReal := ∑ d : Fin n, x (ix3 d i k)

/-- The gradient: each layer's is the sum of the devices' parts. -/
def grad (hR : R = r + r) (g₀ g₁ : (sh3 n r c).Idx → EReal) (j : (sh R c).Idx) : EReal :=
  if h : (j 0).val < r then ∑ d : Fin n, g₀ (ix3 d ⟨(j 0).val, h⟩ (j 1))
  else ∑ d : Fin n, g₁ (ix3 d ⟨(j 0).val - r, by have h0 : (j 0).val < R := (j 0).isLt; omega⟩ (j 1))

variable {p : ℕ} {hR : R = r + r} {g₀ g₁ : (sh3 n r c).Idx → EReal} {j : (sh R c).Idx} {i : Fin p} {k : Fin c}

/-- The sum of one block's parts is the gradient's entry, in the first layer. -/
theorem parts_top {x : (sh3 n p c).Idx → EReal} (h : (j 0).val < r) (hx : ∀ d, x (ix3 d i k) = g₀ (ix3 d ⟨(j 0).val, h⟩ (j 1))) :
    parts x i k = grad hR g₀ g₁ j := by
  unfold parts grad
  rw [dif_pos h]
  exact Fintype.sum_congr _ _ hx

/-- The same in the second layer. -/
theorem parts_bot {x : (sh3 n p c).Idx → EReal} (h : r ≤ (j 0).val)
    (hx : ∀ d, x (ix3 d i k) = g₁ (ix3 d ⟨(j 0).val - r, by have h0 : (j 0).val < R := (j 0).isLt; omega⟩ (j 1))) :
    parts x i k = grad hR g₀ g₁ j := by
  unfold parts grad
  rw [dif_neg (by omega)]
  exact Fintype.sum_congr _ _ hx

/-- One layer's gradient: the sum of its parts. -/
def grad1 (g : (sh3 n r c).Idx → EReal) (j : (sh r c).Idx) : EReal := ∑ d : Fin n, g (ix3 d (j 0) (j 1))

/-- The sum of one block's parts is that gradient's entry. -/
theorem parts_one {g : (sh3 n r c).Idx → EReal} {j : (sh r c).Idx} {x : (sh3 n p c).Idx → EReal}
    (hx : ∀ d, x (ix3 d i k) = g (ix3 d (j 0) (j 1))) : parts x i k = grad1 g j :=
  Fintype.sum_congr _ _ hx

/-- Eight parts added one after another. -/
theorem eight {x : (sh3 8 p c).Idx → EReal} {e : EReal} (h : parts x i k = e) :
    x (ix3 0 i k) + x (ix3 1 i k) + x (ix3 2 i k) + x (ix3 3 i k) + x (ix3 4 i k) + x (ix3 5 i k) + x (ix3 6 i k)
      + x (ix3 7 i k) = e := by
  rw [← h, parts, Fin.sum_univ_eight]

/-- One part alone. -/
theorem single {x : (sh3 1 p c).Idx → EReal} {e : EReal} (h : parts x i k = e) : x (ix3 0 i k) = e := by
  rw [← h, parts, Fin.sum_univ_one]

/-- Equal parts make an equal change. -/
theorem step_congr {g g' w w' m m' v v' : EReal} (hg : g = g') (hw : w = w') (hm : m = m') (hv : v = v') :
    step g w m v = step g' w' m' v' := by
  rw [hg, hw, hm, hv]

/-- The new first moments. -/
def newM (g m : (sh R c).Idx → EReal) (j : (sh R c).Idx) : EReal := mom1 (g j) (m j)
/-- The new second moments. -/
def newV (g v : (sh R c).Idx → EReal) (j : (sh R c).Idx) : EReal := mom2 (g j) (v j)
/-- The changes of the weights. -/
def delta (g w m v : (sh R c).Idx → EReal) (j : (sh R c).Idx) : EReal := step (g j) (w j) (m j) (v j)

/-- Equal arrays make equal changes. -/
theorem delta_congr {g g' w w' m m' v v' : (sh R c).Idx → EReal} (hg : g = g') (hw : w = w') (hm : m = m') (hv : v = v') :
    delta g w m v = delta g' w' m' v' := by
  rw [hg, hw, hm, hv]

end

end Cert.Adamw

end
-- ==== Proof.AdamwRegion0.lean ====
/- What each update of the first optimiser program leaves in its result arrays, over the extended reals: the whole arrays as
   functions of the arrays the update reads, whatever those hold. -/
module

public import proofs.«01_k».proof.Proof.Gen.AdamwKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.Adamw

open Idealize.ShloMosaic Idealize.ShloMosaic.TcCoe Idealize.SL.Sem
open Cert.AdamwKernelIdeal Cert.AdamwKernelIdeal.Gen

variable (V : (c : Dev nD) → (b : Ref sig .tc) → Buf (Elt Ideal) ((c : Thread nD τ).loc b))

/-! ## Update 0: the input weights -/

theorem idx0_0 : ∀ t : Fin cfg0.N, t.val < 4 → win0_0.index t = ![0, t.val, 0] :=
  (by decide +kernel : ∀ t : Fin grid0.N, t.val < 4 → _)
theorem idx0_1 : ∀ t : Fin cfg0.N, 4 ≤ t.val → win0_1.index t = ![0, t.val - 4, 0] :=
  (by decide +kernel : ∀ t : Fin grid0.N, 4 ≤ t.val → _)
theorem idx0_2 : ∀ t : Fin cfg0.N, win0_2.index t = ![t.val, 0] :=
  (by decide +kernel : ∀ t : Fin grid0.N, _)
theorem idx0_3 : ∀ t : Fin cfg0.N, win0_3.index t = ![t.val, 0] :=
  (by decide +kernel : ∀ t : Fin grid0.N, _)
theorem idx0_4 : ∀ t : Fin cfg0.N, win0_4.index t = ![t.val, 0] :=
  (by decide +kernel : ∀ t : Fin grid0.N, _)
theorem idx0_5 : ∀ t : Fin cfg0.N, win0_5.index t = ![t.val, 0] :=
  (by decide +kernel : ∀ t : Fin grid0.N, _)
theorem idx0_6 : ∀ t : Fin cfg0.N, win0_6.index t = ![t.val, 0] :=
  (by decide +kernel : ∀ t : Fin grid0.N, _)
theorem idx0_7 : ∀ t : Fin cfg0.N, win0_7.index t = ![t.val, 0] :=
  (by decide +kernel : ∀ t : Fin grid0.N, _)
theorem idx0_8 : ∀ t : Fin cfg0.N, win0_8.index t = ![t.val, 0] :=
  (by decide +kernel : ∀ t : Fin grid0.N, _)

theorem in0_2 (c : Dev nD) (t : Fin cfg0.N) (y : (sh 256 276).Idx) (j : (sh 2048 276).Idx)
    (h0 : (j 0).val = t.val * 256 + (y 0).val) (h1 : (j 1).val = (y 1).val) :
    iblk0 V c 2 t y = V c main_arg2 j := by
  blk_simp [iblk0]
  refine congrArg (V c main_arg2) ?_
  blk_ext [idx0_2]
theorem in0_3 (c : Dev nD) (t : Fin cfg0.N) (y : (sh 256 276).Idx) (j : (sh 2048 276).Idx)
    (h0 : (j 0).val = t.val * 256 + (y 0).val) (h1 : (j 1).val = (y 1).val) :
    iblk0 V c 3 t y = V c main_arg3 j := by
  blk_simp [iblk0]
  refine congrArg (V c main_arg3) ?_
  blk_ext [idx0_3]
theorem in0_4 (c : Dev nD) (t : Fin cfg0.N) (y : (sh 256 276).Idx) (j : (sh 2048 276).Idx)
    (h0 : (j 0).val = t.val * 256 + (y 0).val) (h1 : (j 1).val = (y 1).val) :
    iblk0 V c 4 t y = V c main_arg4 j := by
  blk_simp [iblk0]
  refine congrArg (V c main_arg4) ?_
  blk_ext [idx0_4]
theorem in0_0 (c : Dev nD) (t : Fin cfg0.N) (h : t.val < 4) (y : (sh 256 276).Idx) (j : (sh 2048 276).Idx)
    (h0 : (j 0).val = t.val * 256 + (y 0).val) (h1 : (j 1).val = (y 1).val) :
    parts (n := 8) (p := 256) (c := 276) (iblk0 V c 0 t) (y 0) (y 1) = grad (r := 1024) rfl (V c main_arg0) (V c main_arg1) j := by
  idx_bounds y
  exact parts_top (by omega) fun d => by
    blk_simp [iblk0]
    refine congrArg (V c main_arg0) ?_
    blk_ext [idx0_0 t h]
theorem in0_1 (c : Dev nD) (t : Fin cfg0.N) (h : 4 ≤ t.val) (y : (sh 256 276).Idx) (j : (sh 2048 276).Idx)
    (h0 : (j 0).val = t.val * 256 + (y 0).val) (h1 : (j 1).val = (y 1).val) :
    parts (n := 8) (p := 256) (c := 276) (iblk0 V c 1 t) (y 0) (y 1) = grad (r := 1024) rfl (V c main_arg0) (V c main_arg1) j := by
  idx_bounds y
  exact parts_bot (by omega) fun d => by
    blk_simp [iblk0]
    refine congrArg (V c main_arg1) ?_
    blk_ext [idx0_1 t h]

set_option maxHeartbeats 1000000 in
theorem arr0_5 (c : Dev nD) : (dat0 V c).arrAt 5 cfg0.N
    = grad (r := 1024) rfl (V c main_arg0) (V c main_arg1) := by
  refine (dat0 V c).arrAt_eq_of_covers 5 _ (by decide +kernel) fun t hf y => ?_
  blk_simp
  rw [after0_5]
  by_cases h : t.val < 4
  · have hg := in0_0 V c t h y (((View.whole main_v0_0).slice (win0_5.rect t)).emb y) (by blk_simp [idx0_5]; try omega) (by blk_simp [idx0_5]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_0).slice (win0_5.rect t)).emb y) := by
      rw [← hs]
      unfold k0_pay7
      pointwise
      exact eight hg
    exact hg
  · have hg := in0_1 V c t (by omega) y (((View.whole main_v0_0).slice (win0_5.rect t)).emb y) (by blk_simp [idx0_5]; try omega) (by blk_simp [idx0_5]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_0).slice (win0_5.rect t)).emb y) := by
      rw [← hs]
      unfold k0_pay9
      pointwise
      exact eight hg
    exact hg

set_option maxHeartbeats 1000000 in
theorem arr0_6 (c : Dev nD) : (dat0 V c).arrAt 6 cfg0.N
    = delta (grad (r := 1024) rfl (V c main_arg0) (V c main_arg1)) (V c main_arg2) (V c main_arg3) (V c main_arg4) := by
  refine (dat0 V c).arrAt_eq_of_covers 6 _ (by decide +kernel) fun t hf y => ?_
  blk_simp
  rw [after0_6]
  have e0 := in0_2 V c t y (((View.whole main_v0_1).slice (win0_6.rect t)).emb y) (by blk_simp [idx0_6]; try omega) (by blk_simp [idx0_6]; try omega)
  have e1 := in0_3 V c t y (((View.whole main_v0_1).slice (win0_6.rect t)).emb y) (by blk_simp [idx0_6]; try omega) (by blk_simp [idx0_6]; try omega)
  have e2 := in0_4 V c t y (((View.whole main_v0_1).slice (win0_6.rect t)).emb y) (by blk_simp [idx0_6]; try omega) (by blk_simp [idx0_6]; try omega)
  by_cases h : t.val < 4
  · have hg := in0_0 V c t h y (((View.whole main_v0_1).slice (win0_6.rect t)).emb y) (by blk_simp [idx0_6]; try omega) (by blk_simp [idx0_6]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_1).slice (win0_6.rect t)).emb y) := by
      rw [← hs]
      unfold k0_pay7
      pointwise
      exact eight hg
    pointwise
    exact step_congr hg e0 e1 e2
  · have hg := in0_1 V c t (by omega) y (((View.whole main_v0_1).slice (win0_6.rect t)).emb y) (by blk_simp [idx0_6]; try omega) (by blk_simp [idx0_6]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_1).slice (win0_6.rect t)).emb y) := by
      rw [← hs]
      unfold k0_pay9
      pointwise
      exact eight hg
    pointwise
    exact step_congr hg e0 e1 e2

set_option maxHeartbeats 1000000 in
theorem arr0_7 (c : Dev nD) : (dat0 V c).arrAt 7 cfg0.N
    = newM (grad (r := 1024) rfl (V c main_arg0) (V c main_arg1)) (V c main_arg3) := by
  refine (dat0 V c).arrAt_eq_of_covers 7 _ (by decide +kernel) fun t hf y => ?_
  blk_simp
  rw [after0_7]
  have e1 := in0_3 V c t y (((View.whole main_v0_2).slice (win0_7.rect t)).emb y) (by blk_simp [idx0_7]; try omega) (by blk_simp [idx0_7]; try omega)
  by_cases h : t.val < 4
  · have hg := in0_0 V c t h y (((View.whole main_v0_2).slice (win0_7.rect t)).emb y) (by blk_simp [idx0_7]; try omega) (by blk_simp [idx0_7]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_2).slice (win0_7.rect t)).emb y) := by
      rw [← hs]
      unfold k0_pay7
      pointwise
      exact eight hg
    pointwise
    exact congrArg₂ mom1 hg e1
  · have hg := in0_1 V c t (by omega) y (((View.whole main_v0_2).slice (win0_7.rect t)).emb y) (by blk_simp [idx0_7]; try omega) (by blk_simp [idx0_7]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_2).slice (win0_7.rect t)).emb y) := by
      rw [← hs]
      unfold k0_pay9
      pointwise
      exact eight hg
    pointwise
    exact congrArg₂ mom1 hg e1

set_option maxHeartbeats 1000000 in
theorem arr0_8 (c : Dev nD) : (dat0 V c).arrAt 8 cfg0.N
    = newV (grad (r := 1024) rfl (V c main_arg0) (V c main_arg1)) (V c main_arg4) := by
  refine (dat0 V c).arrAt_eq_of_covers 8 _ (by decide +kernel) fun t hf y => ?_
  blk_simp
  rw [after0_8]
  have e2 := in0_4 V c t y (((View.whole main_v0_3).slice (win0_8.rect t)).emb y) (by blk_simp [idx0_8]; try omega) (by blk_simp [idx0_8]; try omega)
  by_cases h : t.val < 4
  · have hg := in0_0 V c t h y (((View.whole main_v0_3).slice (win0_8.rect t)).emb y) (by blk_simp [idx0_8]; try omega) (by blk_simp [idx0_8]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_3).slice (win0_8.rect t)).emb y) := by
      rw [← hs]
      unfold k0_pay7
      pointwise
      exact eight hg
    pointwise
    exact congrArg₂ mom2 hg e2
  · have hg := in0_1 V c t (by omega) y (((View.whole main_v0_3).slice (win0_8.rect t)).emb y) (by blk_simp [idx0_8]; try omega) (by blk_simp [idx0_8]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_3).slice (win0_8.rect t)).emb y) := by
      rw [← hs]
      unfold k0_pay9
      pointwise
      exact eight hg
    pointwise
    exact congrArg₂ mom2 hg e2

end Cert.Adamw

end
-- ==== Proof.AdamwRegion1.lean ====
/- What each update of the first optimiser program leaves in its result arrays, over the extended reals: the whole arrays as
   functions of the arrays the update reads, whatever those hold. -/
module

public import proofs.«01_k».proof.Proof.Gen.AdamwKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.Adamw

open Idealize.ShloMosaic Idealize.ShloMosaic.TcCoe Idealize.SL.Sem
open Cert.AdamwKernelIdeal Cert.AdamwKernelIdeal.Gen

variable (V : (c : Dev nD) → (b : Ref sig .tc) → Buf (Elt Ideal) ((c : Thread nD τ).loc b))

/-! ## Update 1: the queries' up-projection -/

theorem idx1_0 : ∀ t : Fin cfg1.N, t.val < 1 → win1_0.index t = ![0, t.val, 0] :=
  (by decide +kernel : ∀ t : Fin grid1.N, t.val < 1 → _)
theorem idx1_1 : ∀ t : Fin cfg1.N, 1 ≤ t.val → win1_1.index t = ![0, t.val - 1, 0] :=
  (by decide +kernel : ∀ t : Fin grid1.N, 1 ≤ t.val → _)
theorem idx1_2 : ∀ t : Fin cfg1.N, win1_2.index t = ![t.val, 0] :=
  (by decide +kernel : ∀ t : Fin grid1.N, _)
theorem idx1_3 : ∀ t : Fin cfg1.N, win1_3.index t = ![t.val, 0] :=
  (by decide +kernel : ∀ t : Fin grid1.N, _)
theorem idx1_4 : ∀ t : Fin cfg1.N, win1_4.index t = ![t.val, 0] :=
  (by decide +kernel : ∀ t : Fin grid1.N, _)
theorem idx1_5 : ∀ t : Fin cfg1.N, win1_5.index t = ![t.val, 0] :=
  (by decide +kernel : ∀ t : Fin grid1.N, _)
theorem idx1_6 : ∀ t : Fin cfg1.N, win1_6.index t = ![t.val, 0] :=
  (by decide +kernel : ∀ t : Fin grid1.N, _)
theorem idx1_7 : ∀ t : Fin cfg1.N, win1_7.index t = ![t.val, 0] :=
  (by decide +kernel : ∀ t : Fin grid1.N, _)
theorem idx1_8 : ∀ t : Fin cfg1.N, win1_8.index t = ![t.val, 0] :=
  (by decide +kernel : ∀ t : Fin grid1.N, _)

theorem in1_2 (c : Dev nD) (t : Fin cfg1.N) (y : (sh 256 96).Idx) (j : (sh 512 96).Idx)
    (h0 : (j 0).val = t.val * 256 + (y 0).val) (h1 : (j 1).val = (y 1).val) :
    iblk1 V c 2 t y = V c main_arg7 j := by
  blk_simp [iblk1]
  refine congrArg (V c main_arg7) ?_
  blk_ext [idx1_2]
theorem in1_3 (c : Dev nD) (t : Fin cfg1.N) (y : (sh 256 96).Idx) (j : (sh 512 96).Idx)
    (h0 : (j 0).val = t.val * 256 + (y 0).val) (h1 : (j 1).val = (y 1).val) :
    iblk1 V c 3 t y = V c main_arg8 j := by
  blk_simp [iblk1]
  refine congrArg (V c main_arg8) ?_
  blk_ext [idx1_3]
theorem in1_4 (c : Dev nD) (t : Fin cfg1.N) (y : (sh 256 96).Idx) (j : (sh 512 96).Idx)
    (h0 : (j 0).val = t.val * 256 + (y 0).val) (h1 : (j 1).val = (y 1).val) :
    iblk1 V c 4 t y = V c main_arg9 j := by
  blk_simp [iblk1]
  refine congrArg (V c main_arg9) ?_
  blk_ext [idx1_4]
theorem in1_0 (c : Dev nD) (t : Fin cfg1.N) (h : t.val < 1) (y : (sh 256 96).Idx) (j : (sh 512 96).Idx)
    (h0 : (j 0).val = t.val * 256 + (y 0).val) (h1 : (j 1).val = (y 1).val) :
    parts (n := 8) (p := 256) (c := 96) (iblk1 V c 0 t) (y 0) (y 1) = grad (r := 256) rfl (V c main_arg5) (V c main_arg6) j := by
  idx_bounds y
  exact parts_top (by omega) fun d => by
    blk_simp [iblk1]
    refine congrArg (V c main_arg5) ?_
    blk_ext [idx1_0 t h]
theorem in1_1 (c : Dev nD) (t : Fin cfg1.N) (h : 1 ≤ t.val) (y : (sh 256 96).Idx) (j : (sh 512 96).Idx)
    (h0 : (j 0).val = t.val * 256 + (y 0).val) (h1 : (j 1).val = (y 1).val) :
    parts (n := 8) (p := 256) (c := 96) (iblk1 V c 1 t) (y 0) (y 1) = grad (r := 256) rfl (V c main_arg5) (V c main_arg6) j := by
  idx_bounds y
  exact parts_bot (by omega) fun d => by
    blk_simp [iblk1]
    refine congrArg (V c main_arg6) ?_
    blk_ext [idx1_1 t h]

set_option maxHeartbeats 1000000 in
theorem arr1_5 (c : Dev nD) : (dat1 V c).arrAt 5 cfg1.N
    = grad (r := 256) rfl (V c main_arg5) (V c main_arg6) := by
  refine (dat1 V c).arrAt_eq_of_covers 5 _ (by decide +kernel) fun t hf y => ?_
  blk_simp
  rw [after1_5]
  have ht : t.val < 2 := lt_of_lt_of_eq t.isLt (show cfg1.N = 2 from N_1)
  by_cases h : t.val < 1
  · have hg := in1_0 V c t h y (((View.whole main_v1_0).slice (win1_5.rect t)).emb y) (by blk_simp [idx1_5]; try omega) (by blk_simp [idx1_5]; try omega)
    rw [outsAt1_A V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 256) rfl (V c main_arg5) (V c main_arg6)) (((View.whole main_v1_0).slice (win1_5.rect t)).emb y) := by
      rw [← hs]
      unfold k1_pay7
      pointwise
      exact eight hg
    exact hg
  · have hg := in1_1 V c t (by omega) y (((View.whole main_v1_0).slice (win1_5.rect t)).emb y) (by blk_simp [idx1_5]; try omega) (by blk_simp [idx1_5]; try omega)
    rw [outsAt1_B V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 256) rfl (V c main_arg5) (V c main_arg6)) (((View.whole main_v1_0).slice (win1_5.rect t)).emb y) := by
      rw [← hs]
      unfold k1_pay9
      pointwise
      exact eight hg
    exact hg

set_option maxHeartbeats 1000000 in
theorem arr1_6 (c : Dev nD) : (dat1 V c).arrAt 6 cfg1.N
    = delta (grad (r := 256) rfl (V c main_arg5) (V c main_arg6)) (V c main_arg7) (V c main_arg8) (V c main_arg9) := by
  refine (dat1 V c).arrAt_eq_of_covers 6 _ (by decide +kernel) fun t hf y => ?_
  blk_simp
  rw [after1_6]
  have e0 := in1_2 V c t y (((View.whole main_v1_1).slice (win1_6.rect t)).emb y) (by blk_simp [idx1_6]; try omega) (by blk_simp [idx1_6]; try omega)
  have e1 := in1_3 V c t y (((View.whole main_v1_1).slice (win1_6.rect t)).emb y) (by blk_simp [idx1_6]; try omega) (by blk_simp [idx1_6]; try omega)
  have e2 := in1_4 V c t y (((View.whole main_v1_1).slice (win1_6.rect t)).emb y) (by blk_simp [idx1_6]; try omega) (by blk_simp [idx1_6]; try omega)
  have ht : t.val < 2 := lt_of_lt_of_eq t.isLt (show cfg1.N = 2 from N_1)
  by_cases h : t.val < 1
  · have hg := in1_0 V c t h y (((View.whole main_v1_1).slice (win1_6.rect t)).emb y) (by blk_simp [idx1_6]; try omega) (by blk_simp [idx1_6]; try omega)
    rw [outsAt1_A V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 256) rfl (V c main_arg5) (V c main_arg6)) (((View.whole main_v1_1).slice (win1_6.rect t)).emb y) := by
      rw [← hs]
      unfold k1_pay7
      pointwise
      exact eight hg
    pointwise
    exact step_congr hg e0 e1 e2
  · have hg := in1_1 V c t (by omega) y (((View.whole main_v1_1).slice (win1_6.rect t)).emb y) (by blk_simp [idx1_6]; try omega) (by blk_simp [idx1_6]; try omega)
    rw [outsAt1_B V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 256) rfl (V c main_arg5) (V c main_arg6)) (((View.whole main_v1_1).slice (win1_6.rect t)).emb y) := by
      rw [← hs]
      unfold k1_pay9
      pointwise
      exact eight hg
    pointwise
    exact step_congr hg e0 e1 e2

set_option maxHeartbeats 1000000 in
theorem arr1_7 (c : Dev nD) : (dat1 V c).arrAt 7 cfg1.N
    = newM (grad (r := 256) rfl (V c main_arg5) (V c main_arg6)) (V c main_arg8) := by
  refine (dat1 V c).arrAt_eq_of_covers 7 _ (by decide +kernel) fun t hf y => ?_
  blk_simp
  rw [after1_7]
  have e1 := in1_3 V c t y (((View.whole main_v1_2).slice (win1_7.rect t)).emb y) (by blk_simp [idx1_7]; try omega) (by blk_simp [idx1_7]; try omega)
  have ht : t.val < 2 := lt_of_lt_of_eq t.isLt (show cfg1.N = 2 from N_1)
  by_cases h : t.val < 1
  · have hg := in1_0 V c t h y (((View.whole main_v1_2).slice (win1_7.rect t)).emb y) (by blk_simp [idx1_7]; try omega) (by blk_simp [idx1_7]; try omega)
    rw [outsAt1_A V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 256) rfl (V c main_arg5) (V c main_arg6)) (((View.whole main_v1_2).slice (win1_7.rect t)).emb y) := by
      rw [← hs]
      unfold k1_pay7
      pointwise
      exact eight hg
    pointwise
    exact congrArg₂ mom1 hg e1
  · have hg := in1_1 V c t (by omega) y (((View.whole main_v1_2).slice (win1_7.rect t)).emb y) (by blk_simp [idx1_7]; try omega) (by blk_simp [idx1_7]; try omega)
    rw [outsAt1_B V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 256) rfl (V c main_arg5) (V c main_arg6)) (((View.whole main_v1_2).slice (win1_7.rect t)).emb y) := by
      rw [← hs]
      unfold k1_pay9
      pointwise
      exact eight hg
    pointwise
    exact congrArg₂ mom1 hg e1

set_option maxHeartbeats 1000000 in
theorem arr1_8 (c : Dev nD) : (dat1 V c).arrAt 8 cfg1.N
    = newV (grad (r := 256) rfl (V c main_arg5) (V c main_arg6)) (V c main_arg9) := by
  refine (dat1 V c).arrAt_eq_of_covers 8 _ (by decide +kernel) fun t hf y => ?_
  blk_simp
  rw [after1_8]
  have e2 := in1_4 V c t y (((View.whole main_v1_3).slice (win1_8.rect t)).emb y) (by blk_simp [idx1_8]; try omega) (by blk_simp [idx1_8]; try omega)
  have ht : t.val < 2 := lt_of_lt_of_eq t.isLt (show cfg1.N = 2 from N_1)
  by_cases h : t.val < 1
  · have hg := in1_0 V c t h y (((View.whole main_v1_3).slice (win1_8.rect t)).emb y) (by blk_simp [idx1_8]; try omega) (by blk_simp [idx1_8]; try omega)
    rw [outsAt1_A V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 256) rfl (V c main_arg5) (V c main_arg6)) (((View.whole main_v1_3).slice (win1_8.rect t)).emb y) := by
      rw [← hs]
      unfold k1_pay7
      pointwise
      exact eight hg
    pointwise
    exact congrArg₂ mom2 hg e2
  · have hg := in1_1 V c t (by omega) y (((View.whole main_v1_3).slice (win1_8.rect t)).emb y) (by blk_simp [idx1_8]; try omega) (by blk_simp [idx1_8]; try omega)
    rw [outsAt1_B V c t (by omega) (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 256) rfl (V c main_arg5) (V c main_arg6)) (((View.whole main_v1_3).slice (win1_8.rect t)).emb y) := by
      rw [← hs]
      unfold k1_pay9
      pointwise
      exact eight hg
    pointwise
    exact congrArg₂ mom2 hg e2

end Cert.Adamw

end
-- ==== Proof.AdamwRegion2.lean ====
/- What each update of the first optimiser program leaves in its result arrays, over the extended reals: the whole arrays as
   functions of the arrays the update reads, whatever those hold. -/
module

public import proofs.«01_k».proof.Proof.Gen.AdamwKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.Adamw

open Idealize.ShloMosaic Idealize.ShloMosaic.TcCoe Idealize.SL.Sem
open Cert.AdamwKernelIdeal Cert.AdamwKernelIdeal.Gen

variable (V : (c : Dev nD) → (b : Ref sig .tc) → Buf (Elt Ideal) ((c : Thread nD τ).loc b))

/-! ## Update 2: the keys' and values' up-projection -/

theorem idx2_0 : ∀ t : Fin cfg2.N, t.val < 1 → win2_0.index t = ![0, t.val, 0] :=
  (by decide +kernel : ∀ t : Fin grid2.N, t.val < 1 → _)
theorem idx2_1 : ∀ t : Fin cfg2.N, 1 ≤ t.val → win2_1.index t = ![0, t.val - 1, 0] :=
  (by decide +kernel : ∀ t : Fin grid2.N, 1 ≤ t.val → _)
theorem idx2_2 : ∀ t : Fin cfg2.N, win2_2.index t = ![t.val, 0] :=
  (by decide +kernel : ∀ t : Fin grid2.N, _)
theorem idx2_3 : ∀ t : Fin cfg2.N, win2_3.index t = ![t.val, 0] :=
  (by decide +kernel : ∀ t : Fin grid2.N, _)
theorem idx2_4 : ∀ t : Fin cfg2.N, win2_4.index t = ![t.val, 0] :=
  (by decide +kernel : ∀ t : Fin grid2.N, _)
theorem idx2_5 : ∀ t : Fin cfg2.N, win2_5.index t = ![t.val, 0] :=
  (by decide +kernel : ∀ t : Fin grid2.N, _)
theorem idx2_6 : ∀ t : Fin cfg2.N, win2_6.index t = ![t.val, 0] :=
  (by decide +kernel : ∀ t : Fin grid2.N, _)
theorem idx2_7 : ∀ t : Fin cfg2.N, win2_7.index t = ![t.val, 0] :=
  (by decide +kernel : ∀ t : Fin grid2.N, _)
theorem idx2_8 : ∀ t : Fin cfg2.N, win2_8.index t = ![t.val, 0] :=
  (by decide +kernel : ∀ t : Fin grid2.N, _)

theorem in2_2 (c : Dev nD) (t : Fin cfg2.N) (y : (sh 128 128).Idx) (j : (sh 256 128).Idx)
    (h0 : (j 0).val = t.val * 128 + (y 0).val) (h1 : (j 1).val = (y 1).val) :
    iblk2 V c 2 t y = V c main_arg12 j := by
  blk_simp [iblk2]
  refine congrArg (V c main_arg12) ?_
  blk_ext [idx2_2]
theorem in2_3 (c : Dev nD) (t : Fin cfg2.N) (y : (sh 128 128).Idx) (j : (sh 256 128).Idx)
    (h0 : (j 0).val = t.val * 128 + (y 0).val) (h1 : (j 1).val = (y 1).val) :
    iblk2 V c 3 t y = V c main_arg13 j := by
  blk_simp [iblk2]
  refine congrArg (V c main_arg13) ?_
  blk_ext [idx2_3]
theorem in2_4 (c : Dev nD) (t : Fin cfg2.N) (y : (sh 128 128).Idx) (j : (sh 256 128).Idx)
    (h0 : (j 0).val = t.val * 128 + (y 0).val) (h1 : (j 1).val = (y 1).val) :
    iblk2 V c 4 t y = V c main_arg14 j := by
  blk_simp [iblk2]
  refine congrArg (V c main_arg14) ?_
  blk_ext [idx2_4]
theorem in2_0 (c : Dev nD) (t : Fin cfg2.N) (h : t.val < 1) (y : (sh 128 128).Idx) (j : (sh 256 128).Idx)
    (h0 : (j 0).val = t.val * 128 + (y 0).val) (h1 : (j 1).val = (y 1).val) :
    parts (n := 8) (p := 128) (c := 128) (iblk2 V c 0 t) (y 0) (y 1) = grad (r := 128) rfl (V c main_arg10) (V c main_arg11) j := by
  idx_bounds y
  exact parts_top (by omega) fun d => by
    blk_simp [iblk2]
    refine congrArg (V c main_arg10) ?_
    blk_ext [idx2_0 t h]
theorem in2_1 (c : Dev nD) (t : Fin cfg2.N) (h : 1 ≤ t.val) (y : (sh 128 128).Idx) (j : (sh 256 128).Idx)
    (h0 : (j 0).val = t.val * 128 + (y 0).val) (h1 : (j 1).val = (y 1).val) :
    parts (n := 8) (p := 128) (c := 128) (iblk2 V c 1 t) (y 0) (y 1) = grad (r := 128) rfl (V c main_arg10) (V c main_arg11) j := by
  idx_bounds y
  exact parts_bot (by omega) fun d => by
    blk_simp [iblk2]
    refine congrArg (V c main_arg11) ?_
    blk_ext [idx2_1 t h]

set_option maxHeartbeats 1000000 in
theorem arr2_5 (c : Dev nD) : (dat2 V c).arrAt 5 cfg2.N
    = grad (r := 128) rfl (V c main_arg10) (V c main_arg11) := by
  refine (dat2 V c).arrAt_eq_of_covers 5 _ (by decide +kernel) fun t hf y => ?_
  blk_simp
  rw [after2_5]
  have ht : t.val < 2 := lt_of_lt_of_eq t.isLt (show cfg2.N = 2 from N_2)
  by_cases h : t.val < 1
  · have hg := in2_0 V c t h y (((View.whole main_v2_0).slice (win2_5.rect t)).emb y) (by blk_simp [idx2_5]; try omega) (by blk_simp [idx2_5]; try omega)
    rw [outsAt2_A V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay7 (F := Ideal) _ _ _ _ _ _ _ _ = s
    replace hg : s y = (grad (r := 128) rfl (V c main_arg10) (V c main_arg11)) (((View.whole main_v2_0).slice (win2_5.rect t)).emb y) := by
      rw [← hs]
      unfold k2_pay7
      pointwise
      exact eight hg
    exact hg
  · have hg := in2_1 V c t (by omega) y (((View.whole main_v2_0).slice (win2_5.rect t)).emb y) (by blk_simp [idx2_5]; try omega) (by blk_simp [idx2_5]; try omega)
    rw [outsAt2_B V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay9 (F := Ideal) _ _ _ _ _ _ _ _ = s
    replace hg : s y = (grad (r := 128) rfl (V c main_arg10) (V c main_arg11)) (((View.whole main_v2_0).slice (win2_5.rect t)).emb y) := by
      rw [← hs]
      unfold k2_pay9
      pointwise
      exact eight hg
    exact hg

set_option maxHeartbeats 1000000 in
theorem arr2_6 (c : Dev nD) : (dat2 V c).arrAt 6 cfg2.N
    = delta (grad (r := 128) rfl (V c main_arg10) (V c main_arg11)) (V c main_arg12) (V c main_arg13) (V c main_arg14) := by
  refine (dat2 V c).arrAt_eq_of_covers 6 _ (by decide +kernel) fun t hf y => ?_
  blk_simp
  rw [after2_6]
  have e0 := in2_2 V c t y (((View.whole main_v2_1).slice (win2_6.rect t)).emb y) (by blk_simp [idx2_6]; try omega) (by blk_simp [idx2_6]; try omega)
  have e1 := in2_3 V c t y (((View.whole main_v2_1).slice (win2_6.rect t)).emb y) (by blk_simp [idx2_6]; try omega) (by blk_simp [idx2_6]; try omega)
  have e2 := in2_4 V c t y (((View.whole main_v2_1).slice (win2_6.rect t)).emb y) (by blk_simp [idx2_6]; try omega) (by blk_simp [idx2_6]; try omega)
  have ht : t.val < 2 := lt_of_lt_of_eq t.isLt (show cfg2.N = 2 from N_2)
  by_cases h : t.val < 1
  · have hg := in2_0 V c t h y (((View.whole main_v2_1).slice (win2_6.rect t)).emb y) (by blk_simp [idx2_6]; try omega) (by blk_simp [idx2_6]; try omega)
    rw [outsAt2_A V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay7 (F := Ideal) _ _ _ _ _ _ _ _ = s
    replace hg : s y = (grad (r := 128) rfl (V c main_arg10) (V c main_arg11)) (((View.whole main_v2_1).slice (win2_6.rect t)).emb y) := by
      rw [← hs]
      unfold k2_pay7
      pointwise
      exact eight hg
    pointwise
    exact step_congr hg e0 e1 e2
  · have hg := in2_1 V c t (by omega) y (((View.whole main_v2_1).slice (win2_6.rect t)).emb y) (by blk_simp [idx2_6]; try omega) (by blk_simp [idx2_6]; try omega)
    rw [outsAt2_B V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay9 (F := Ideal) _ _ _ _ _ _ _ _ = s
    replace hg : s y = (grad (r := 128) rfl (V c main_arg10) (V c main_arg11)) (((View.whole main_v2_1).slice (win2_6.rect t)).emb y) := by
      rw [← hs]
      unfold k2_pay9
      pointwise
      exact eight hg
    pointwise
    exact step_congr hg e0 e1 e2

set_option maxHeartbeats 1000000 in
theorem arr2_7 (c : Dev nD) : (dat2 V c).arrAt 7 cfg2.N
    = newM (grad (r := 128) rfl (V c main_arg10) (V c main_arg11)) (V c main_arg13) := by
  refine (dat2 V c).arrAt_eq_of_covers 7 _ (by decide +kernel) fun t hf y => ?_
  blk_simp
  rw [after2_7]
  have e1 := in2_3 V c t y (((View.whole main_v2_2).slice (win2_7.rect t)).emb y) (by blk_simp [idx2_7]; try omega) (by blk_simp [idx2_7]; try omega)
  have ht : t.val < 2 := lt_of_lt_of_eq t.isLt (show cfg2.N = 2 from N_2)
  by_cases h : t.val < 1
  · have hg := in2_0 V c t h y (((View.whole main_v2_2).slice (win2_7.rect t)).emb y) (by blk_simp [idx2_7]; try omega) (by blk_simp [idx2_7]; try omega)
    rw [outsAt2_A V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay7 (F := Ideal) _ _ _ _ _ _ _ _ = s
    replace hg : s y = (grad (r := 128) rfl (V c main_arg10) (V c main_arg11)) (((View.whole main_v2_2).slice (win2_7.rect t)).emb y) := by
      rw [← hs]
      unfold k2_pay7
      pointwise
      exact eight hg
    pointwise
    exact congrArg₂ mom1 hg e1
  · have hg := in2_1 V c t (by omega) y (((View.whole main_v2_2).slice (win2_7.rect t)).emb y) (by blk_simp [idx2_7]; try omega) (by blk_simp [idx2_7]; try omega)
    rw [outsAt2_B V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay9 (F := Ideal) _ _ _ _ _ _ _ _ = s
    replace hg : s y = (grad (r := 128) rfl (V c main_arg10) (V c main_arg11)) (((View.whole main_v2_2).slice (win2_7.rect t)).emb y) := by
      rw [← hs]
      unfold k2_pay9
      pointwise
      exact eight hg
    pointwise
    exact congrArg₂ mom1 hg e1

set_option maxHeartbeats 1000000 in
theorem arr2_8 (c : Dev nD) : (dat2 V c).arrAt 8 cfg2.N
    = newV (grad (r := 128) rfl (V c main_arg10) (V c main_arg11)) (V c main_arg14) := by
  refine (dat2 V c).arrAt_eq_of_covers 8 _ (by decide +kernel) fun t hf y => ?_
  blk_simp
  rw [after2_8]
  have e2 := in2_4 V c t y (((View.whole main_v2_3).slice (win2_8.rect t)).emb y) (by blk_simp [idx2_8]; try omega) (by blk_simp [idx2_8]; try omega)
  have ht : t.val < 2 := lt_of_lt_of_eq t.isLt (show cfg2.N = 2 from N_2)
  by_cases h : t.val < 1
  · have hg := in2_0 V c t h y (((View.whole main_v2_3).slice (win2_8.rect t)).emb y) (by blk_simp [idx2_8]; try omega) (by blk_simp [idx2_8]; try omega)
    rw [outsAt2_A V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay7 (F := Ideal) _ _ _ _ _ _ _ _ = s
    replace hg : s y = (grad (r := 128) rfl (V c main_arg10) (V c main_arg11)) (((View.whole main_v2_3).slice (win2_8.rect t)).emb y) := by
      rw [← hs]
      unfold k2_pay7
      pointwise
      exact eight hg
    pointwise
    exact congrArg₂ mom2 hg e2
  · have hg := in2_1 V c t (by omega) y (((View.whole main_v2_3).slice (win2_8.rect t)).emb y) (by blk_simp [idx2_8]; try omega) (by blk_simp [idx2_8]; try omega)
    rw [outsAt2_B V c t (by omega) (by omega)]
    frame_out
    try unfold k2_pay10
    try unfold k2_pay8
    try unfold k2_pay6
    try unfold k2_pay5
    try unfold k2_pay4
    try unfold k2_pay3
    try unfold k2_pay2
    try unfold k2_pay1
    generalize hs : k2_pay9 (F := Ideal) _ _ _ _ _ _ _ _ = s
    replace hg : s y = (grad (r := 128) rfl (V c main_arg10) (V c main_arg11)) (((View.whole main_v2_3).slice (win2_8.rect t)).emb y) := by
      rw [← hs]
      unfold k2_pay9
      pointwise
      exact eight hg
    pointwise
    exact congrArg₂ mom2 hg e2

end Cert.Adamw

end
-- ==== Proof.AdamwRegion3.lean ====
/- What each update of the first optimiser program leaves in its result arrays, over the extended reals: the whole arrays as
   functions of the arrays the update reads, whatever those hold. -/
module

public import proofs.«01_k».proof.Proof.Gen.AdamwKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.Adamw

open Idealize.ShloMosaic Idealize.ShloMosaic.TcCoe Idealize.SL.Sem
open Cert.AdamwKernelIdeal Cert.AdamwKernelIdeal.Gen

variable (V : (c : Dev nD) → (b : Ref sig .tc) → Buf (Elt Ideal) ((c : Thread nD τ).loc b))

/-! ## Update 3: the output weights -/

theorem idx3_0 : ∀ t : Fin cfg3.N, t.val < 1 → win3_0.index t = ![0, t.val, 0] :=
  (by decide +kernel : ∀ t : Fin grid3.N, t.val < 1 → _)
theorem idx3_1 : ∀ t : Fin cfg3.N, 1 ≤ t.val → win3_1.index t = ![0, t.val - 1, 0] :=
  (by decide +kernel : ∀ t : Fin grid3.N, 1 ≤ t.val → _)
theorem idx3_2 : ∀ t : Fin cfg3.N, win3_2.index t = ![t.val, 0] :=
  (by decide +kernel : ∀ t : Fin grid3.N, _)
theorem idx3_3 : ∀ t : Fin cfg3.N, win3_3.index t = ![t.val, 0] :=
  (by decide +kernel : ∀ t : Fin grid3.N, _)
theorem idx3_4 : ∀ t : Fin cfg3.N, win3_4.index t = ![t.val, 0] :=
  (by decide +kernel : ∀ t : Fin grid3.N, _)
theorem idx3_5 : ∀ t : Fin cfg3.N, win3_5.index t = ![t.val, 0] :=
  (by decide +kernel : ∀ t : Fin grid3.N, _)
theorem idx3_6 : ∀ t : Fin cfg3.N, win3_6.index t = ![t.val, 0] :=
  (by decide +kernel : ∀ t : Fin grid3.N, _)
theorem idx3_7 : ∀ t : Fin cfg3.N, win3_7.index t = ![t.val, 0] :=
  (by decide +kernel : ∀ t : Fin grid3.N, _)
theorem idx3_8 : ∀ t : Fin cfg3.N, win3_8.index t = ![t.val, 0] :=
  (by decide +kernel : ∀ t : Fin grid3.N, _)

theorem in3_2 (c : Dev nD) (t : Fin cfg3.N) (y : (sh 192 1024).Idx) (j : (sh 384 1024).Idx)
    (h0 : (j 0).val = t.val * 192 + (y 0).val) (h1 : (j 1).val = (y 1).val) :
    iblk3 V c 2 t y = V c main_arg17 j := by
  blk_simp [iblk3]
  refine congrArg (V c main_arg17) ?_
  blk_ext [idx3_2]
theorem in3_3 (c : Dev nD) (t : Fin cfg3.N) (y : (sh 192 1024).Idx) (j : (sh 384 1024).Idx)
    (h0 : (j 0).val = t.val * 192 + (y 0).val) (h1 : (j 1).val = (y 1).val) :
    iblk3 V c 3 t y = V c main_arg18 j := by
  blk_simp [iblk3]
  refine congrArg (V c main_arg18) ?_
  blk_ext [idx3_3]
theorem in3_4 (c : Dev nD) (t : Fin cfg3.N) (y : (sh 192 1024).Idx) (j : (sh 384 1024).Idx)
    (h0 : (j 0).val = t.val * 192 + (y 0).val) (h1 : (j 1).val = (y 1).val) :
    iblk3 V c 4 t y = V c main_arg19 j := by
  blk_simp [iblk3]
  refine congrArg (V c main_arg19) ?_
  blk_ext [idx3_4]
theorem in3_0 (c : Dev nD) (t : Fin cfg3.N) (h : t.val < 1) (y : (sh 192 1024).Idx) (j : (sh 384 1024).Idx)
    (h0 : (j 0).val = t.val * 192 + (y 0).val) (h1 : (j 1).val = (y 1).val) :
    parts (n := 8) (p := 192) (c := 1024) (iblk3 V c 0 t) (y 0) (y 1) = grad (r := 192) rfl (V c main_arg15) (V c main_arg16) j := by
  idx_bounds y
  exact parts_top (by omega) fun d => by
    blk_simp [iblk3]
    refine congrArg (V c main_arg15) ?_
    blk_ext [idx3_0 t h]
theorem in3_1 (c : Dev nD) (t : Fin cfg3.N) (h : 1 ≤ t.val) (y : (sh 192 1024).Idx) (j : (sh 384 1024).Idx)
    (h0 : (j 0).val = t.val * 192 + (y 0).val) (h1 : (j 1).val = (y 1).val) :
    parts (n := 8) (p := 192) (c := 1024) (iblk3 V c 1 t) (y 0) (y 1) = grad (r := 192) rfl (V c main_arg15) (V c main_arg16) j := by
  idx_bounds y
  exact parts_bot (by omega) fun d => by
    blk_simp [iblk3]
    refine congrArg (V c main_arg16) ?_
    blk_ext [idx3_1 t h]

set_option maxHeartbeats 1000000 in
theorem arr3_5 (c : Dev nD) : (dat3 V c).arrAt 5 cfg3.N
    = grad (r := 192) rfl (V c main_arg15) (V c main_arg16) := by
  refine (dat3 V c).arrAt_eq_of_covers 5 _ (by decide +kernel) fun t hf y => ?_
  blk_simp
  rw [after3_5]
  have ht : t.val < 2 := lt_of_lt_of_eq t.isLt (show cfg3.N = 2 from N_3)
  by_cases h : t.val < 1
  · have hg := in3_0 V c t h y (((View.whole main_v3_0).slice (win3_5.rect t)).emb y) (by blk_simp [idx3_5]; try omega) (by blk_simp [idx3_5]; try omega)
    rw [outsAt3_A V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay7 (F := Ideal) _ _ _ _ _ _ _ _ = s
    replace hg : s y = (grad (r := 192) rfl (V c main_arg15) (V c main_arg16)) (((View.whole main_v3_0).slice (win3_5.rect t)).emb y) := by
      rw [← hs]
      unfold k3_pay7
      pointwise
      exact eight hg
    exact hg
  · have hg := in3_1 V c t (by omega) y (((View.whole main_v3_0).slice (win3_5.rect t)).emb y) (by blk_simp [idx3_5]; try omega) (by blk_simp [idx3_5]; try omega)
    rw [outsAt3_B V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay9 (F := Ideal) _ _ _ _ _ _ _ _ = s
    replace hg : s y = (grad (r := 192) rfl (V c main_arg15) (V c main_arg16)) (((View.whole main_v3_0).slice (win3_5.rect t)).emb y) := by
      rw [← hs]
      unfold k3_pay9
      pointwise
      exact eight hg
    exact hg

set_option maxHeartbeats 1000000 in
theorem arr3_6 (c : Dev nD) : (dat3 V c).arrAt 6 cfg3.N
    = delta (grad (r := 192) rfl (V c main_arg15) (V c main_arg16)) (V c main_arg17) (V c main_arg18) (V c main_arg19) := by
  refine (dat3 V c).arrAt_eq_of_covers 6 _ (by decide +kernel) fun t hf y => ?_
  blk_simp
  rw [after3_6]
  have e0 := in3_2 V c t y (((View.whole main_v3_1).slice (win3_6.rect t)).emb y) (by blk_simp [idx3_6]; try omega) (by blk_simp [idx3_6]; try omega)
  have e1 := in3_3 V c t y (((View.whole main_v3_1).slice (win3_6.rect t)).emb y) (by blk_simp [idx3_6]; try omega) (by blk_simp [idx3_6]; try omega)
  have e2 := in3_4 V c t y (((View.whole main_v3_1).slice (win3_6.rect t)).emb y) (by blk_simp [idx3_6]; try omega) (by blk_simp [idx3_6]; try omega)
  have ht : t.val < 2 := lt_of_lt_of_eq t.isLt (show cfg3.N = 2 from N_3)
  by_cases h : t.val < 1
  · have hg := in3_0 V c t h y (((View.whole main_v3_1).slice (win3_6.rect t)).emb y) (by blk_simp [idx3_6]; try omega) (by blk_simp [idx3_6]; try omega)
    rw [outsAt3_A V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay7 (F := Ideal) _ _ _ _ _ _ _ _ = s
    replace hg : s y = (grad (r := 192) rfl (V c main_arg15) (V c main_arg16)) (((View.whole main_v3_1).slice (win3_6.rect t)).emb y) := by
      rw [← hs]
      unfold k3_pay7
      pointwise
      exact eight hg
    pointwise
    exact step_congr hg e0 e1 e2
  · have hg := in3_1 V c t (by omega) y (((View.whole main_v3_1).slice (win3_6.rect t)).emb y) (by blk_simp [idx3_6]; try omega) (by blk_simp [idx3_6]; try omega)
    rw [outsAt3_B V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay9 (F := Ideal) _ _ _ _ _ _ _ _ = s
    replace hg : s y = (grad (r := 192) rfl (V c main_arg15) (V c main_arg16)) (((View.whole main_v3_1).slice (win3_6.rect t)).emb y) := by
      rw [← hs]
      unfold k3_pay9
      pointwise
      exact eight hg
    pointwise
    exact step_congr hg e0 e1 e2

set_option maxHeartbeats 1000000 in
theorem arr3_7 (c : Dev nD) : (dat3 V c).arrAt 7 cfg3.N
    = newM (grad (r := 192) rfl (V c main_arg15) (V c main_arg16)) (V c main_arg18) := by
  refine (dat3 V c).arrAt_eq_of_covers 7 _ (by decide +kernel) fun t hf y => ?_
  blk_simp
  rw [after3_7]
  have e1 := in3_3 V c t y (((View.whole main_v3_2).slice (win3_7.rect t)).emb y) (by blk_simp [idx3_7]; try omega) (by blk_simp [idx3_7]; try omega)
  have ht : t.val < 2 := lt_of_lt_of_eq t.isLt (show cfg3.N = 2 from N_3)
  by_cases h : t.val < 1
  · have hg := in3_0 V c t h y (((View.whole main_v3_2).slice (win3_7.rect t)).emb y) (by blk_simp [idx3_7]; try omega) (by blk_simp [idx3_7]; try omega)
    rw [outsAt3_A V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay7 (F := Ideal) _ _ _ _ _ _ _ _ = s
    replace hg : s y = (grad (r := 192) rfl (V c main_arg15) (V c main_arg16)) (((View.whole main_v3_2).slice (win3_7.rect t)).emb y) := by
      rw [← hs]
      unfold k3_pay7
      pointwise
      exact eight hg
    pointwise
    exact congrArg₂ mom1 hg e1
  · have hg := in3_1 V c t (by omega) y (((View.whole main_v3_2).slice (win3_7.rect t)).emb y) (by blk_simp [idx3_7]; try omega) (by blk_simp [idx3_7]; try omega)
    rw [outsAt3_B V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay9 (F := Ideal) _ _ _ _ _ _ _ _ = s
    replace hg : s y = (grad (r := 192) rfl (V c main_arg15) (V c main_arg16)) (((View.whole main_v3_2).slice (win3_7.rect t)).emb y) := by
      rw [← hs]
      unfold k3_pay9
      pointwise
      exact eight hg
    pointwise
    exact congrArg₂ mom1 hg e1

set_option maxHeartbeats 1000000 in
theorem arr3_8 (c : Dev nD) : (dat3 V c).arrAt 8 cfg3.N
    = newV (grad (r := 192) rfl (V c main_arg15) (V c main_arg16)) (V c main_arg19) := by
  refine (dat3 V c).arrAt_eq_of_covers 8 _ (by decide +kernel) fun t hf y => ?_
  blk_simp
  rw [after3_8]
  have e2 := in3_4 V c t y (((View.whole main_v3_3).slice (win3_8.rect t)).emb y) (by blk_simp [idx3_8]; try omega) (by blk_simp [idx3_8]; try omega)
  have ht : t.val < 2 := lt_of_lt_of_eq t.isLt (show cfg3.N = 2 from N_3)
  by_cases h : t.val < 1
  · have hg := in3_0 V c t h y (((View.whole main_v3_3).slice (win3_8.rect t)).emb y) (by blk_simp [idx3_8]; try omega) (by blk_simp [idx3_8]; try omega)
    rw [outsAt3_A V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay7 (F := Ideal) _ _ _ _ _ _ _ _ = s
    replace hg : s y = (grad (r := 192) rfl (V c main_arg15) (V c main_arg16)) (((View.whole main_v3_3).slice (win3_8.rect t)).emb y) := by
      rw [← hs]
      unfold k3_pay7
      pointwise
      exact eight hg
    pointwise
    exact congrArg₂ mom2 hg e2
  · have hg := in3_1 V c t (by omega) y (((View.whole main_v3_3).slice (win3_8.rect t)).emb y) (by blk_simp [idx3_8]; try omega) (by blk_simp [idx3_8]; try omega)
    rw [outsAt3_B V c t (by omega) (by omega)]
    frame_out
    try unfold k3_pay10
    try unfold k3_pay8
    try unfold k3_pay6
    try unfold k3_pay5
    try unfold k3_pay4
    try unfold k3_pay3
    try unfold k3_pay2
    try unfold k3_pay1
    generalize hs : k3_pay9 (F := Ideal) _ _ _ _ _ _ _ _ = s
    replace hg : s y = (grad (r := 192) rfl (V c main_arg15) (V c main_arg16)) (((View.whole main_v3_3).slice (win3_8.rect t)).emb y) := by
      rw [← hs]
      unfold k3_pay9
      pointwise
      exact eight hg
    pointwise
    exact congrArg₂ mom2 hg e2

end Cert.Adamw

end
-- ==== Proof.AdamwKernelRun.lean ====
/- The first optimiser program's run read back: its result arrays as functions of the arguments, over the extended reals. -/
module

public import proofs.«01_k».proof.Proof.AdamwRegion0
public import proofs.«01_k».proof.Proof.AdamwRegion1
public import proofs.«01_k».proof.Proof.AdamwRegion2
public import proofs.«01_k».proof.Proof.AdamwRegion3

@[expose] public section

set_option maxRecDepth 16384

noncomputable section

namespace Cert.Adamw

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwKernelIdeal Cert.AdamwKernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the four updates every buffer of the program holds what the fold through them says. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

/-! ## The fold at the results -/

section
variable (c : Dev nD)

/-- Argument `0`: the first layer's gradient parts of the input weights, at launch. -/
abbrev a0 : (sh3 8 1024 276).Idx → EReal := m ((c : Thread nD τ).loc main_arg0)
/-- Argument `1`: the second layer's gradient parts of the input weights, at launch. -/
abbrev a1 : (sh3 8 1024 276).Idx → EReal := m ((c : Thread nD τ).loc main_arg1)
/-- Argument `2`: the input weights, at launch. -/
abbrev a2 : (sh 2048 276).Idx → EReal := m ((c : Thread nD τ).loc main_arg2)
/-- Argument `3`: the first moments of the input weights, at launch. -/
abbrev a3 : (sh 2048 276).Idx → EReal := m ((c : Thread nD τ).loc main_arg3)
/-- Argument `4`: the second moments of the input weights, at launch. -/
abbrev a4 : (sh 2048 276).Idx → EReal := m ((c : Thread nD τ).loc main_arg4)
/-- Argument `5`: the first layer's gradient parts of the queries' up-projection, at launch. -/
abbrev a5 : (sh3 8 256 96).Idx → EReal := m ((c : Thread nD τ).loc main_arg5)
/-- Argument `6`: the second layer's gradient parts of the queries' up-projection, at launch. -/
abbrev a6 : (sh3 8 256 96).Idx → EReal := m ((c : Thread nD τ).loc main_arg6)
/-- Argument `7`: the queries' up-projection, at launch. -/
abbrev a7 : (sh 512 96).Idx → EReal := m ((c : Thread nD τ).loc main_arg7)
/-- Argument `8`: the first moments of the queries' up-projection, at launch. -/
abbrev a8 : (sh 512 96).Idx → EReal := m ((c : Thread nD τ).loc main_arg8)
/-- Argument `9`: the second moments of the queries' up-projection, at launch. -/
abbrev a9 : (sh 512 96).Idx → EReal := m ((c : Thread nD τ).loc main_arg9)
/-- Argument `10`: the first layer's gradient parts of the keys' and values' up-projection, at launch. -/
abbrev a10 : (sh3 8 128 128).Idx → EReal := m ((c : Thread nD τ).loc main_arg10)
/-- Argument `11`: the second layer's gradient parts of the keys' and values' up-projection, at launch. -/
abbrev a11 : (sh3 8 128 128).Idx → EReal := m ((c : Thread nD τ).loc main_arg11)
/-- Argument `12`: the keys' and values' up-projection, at launch. -/
abbrev a12 : (sh 256 128).Idx → EReal := m ((c : Thread nD τ).loc main_arg12)
/-- Argument `13`: the first moments of the keys' and values' up-projection, at launch. -/
abbrev a13 : (sh 256 128).Idx → EReal := m ((c : Thread nD τ).loc main_arg13)
/-- Argument `14`: the second moments of the keys' and values' up-projection, at launch. -/
abbrev a14 : (sh 256 128).Idx → EReal := m ((c : Thread nD τ).loc main_arg14)
/-- Argument `15`: the first layer's gradient parts of the output weights, at launch. -/
abbrev a15 : (sh3 8 192 1024).Idx → EReal := m ((c : Thread nD τ).loc main_arg15)
/-- Argument `16`: the second layer's gradient parts of the output weights, at launch. -/
abbrev a16 : (sh3 8 192 1024).Idx → EReal := m ((c : Thread nD τ).loc main_arg16)
/-- Argument `17`: the output weights, at launch. -/
abbrev a17 : (sh 384 1024).Idx → EReal := m ((c : Thread nD τ).loc main_arg17)
/-- Argument `18`: the first moments of the output weights, at launch. -/
abbrev a18 : (sh 384 1024).Idx → EReal := m ((c : Thread nD τ).loc main_arg18)
/-- Argument `19`: the second moments of the output weights, at launch. -/
abbrev a19 : (sh 384 1024).Idx → EReal := m ((c : Thread nD τ).loc main_arg19)

/-- Update 0 leaves the gradient of the input weights. -/
theorem end0_g : W4 m ρ c (Proc.devRef .tc main_v0_0) = grad (r := 1024) rfl (a0 m c) (a1 m c) :=
  (W4_of m ρ c main_v0_0 (by decide)).trans ((W3_of m ρ c main_v0_0 (by decide)).trans ((W2_of m ρ c main_v0_0 (by decide)).trans ((W1_arr m ρ c 5).trans ((arr0_5 (V0 m ρ) c).trans (congrArg₂ (grad (r := 1024) rfl) rfl rfl)))))

/-- Update 0 leaves the change of the input weights. -/
theorem end0_delta : W4 m ρ c (Proc.devRef .tc main_v0_1) = delta (grad (r := 1024) rfl (a0 m c) (a1 m c)) (a2 m c) (a3 m c) (a4 m c) :=
  (W4_of m ρ c main_v0_1 (by decide)).trans ((W3_of m ρ c main_v0_1 (by decide)).trans ((W2_of m ρ c main_v0_1 (by decide)).trans ((W1_arr m ρ c 6).trans ((arr0_6 (V0 m ρ) c).trans (delta_congr (congrArg₂ (grad (r := 1024) rfl) rfl rfl) rfl rfl rfl)))))

/-- Update 0 leaves the new first moments of the input weights. -/
theorem end0_m : W4 m ρ c (Proc.devRef .tc main_v0_2) = newM (grad (r := 1024) rfl (a0 m c) (a1 m c)) (a3 m c) :=
  (W4_of m ρ c main_v0_2 (by decide)).trans ((W3_of m ρ c main_v0_2 (by decide)).trans ((W2_of m ρ c main_v0_2 (by decide)).trans ((W1_arr m ρ c 7).trans ((arr0_7 (V0 m ρ) c).trans (congrArg₂ newM (congrArg₂ (grad (r := 1024) rfl) rfl rfl) rfl)))))

/-- Update 0 leaves the new second moments of the input weights. -/
theorem end0_v : W4 m ρ c (Proc.devRef .tc main_v0_3) = newV (grad (r := 1024) rfl (a0 m c) (a1 m c)) (a4 m c) :=
  (W4_of m ρ c main_v0_3 (by decide)).trans ((W3_of m ρ c main_v0_3 (by decide)).trans ((W2_of m ρ c main_v0_3 (by decide)).trans ((W1_arr m ρ c 8).trans ((arr0_8 (V0 m ρ) c).trans (congrArg₂ newV (congrArg₂ (grad (r := 1024) rfl) rfl rfl) rfl)))))

/-- Update 1 leaves the gradient of the queries' up-projection. -/
theorem end1_g : W4 m ρ c (Proc.devRef .tc main_v1_0) = grad (r := 256) rfl (a5 m c) (a6 m c) :=
  (W4_of m ρ c main_v1_0 (by decide)).trans ((W3_of m ρ c main_v1_0 (by decide)).trans ((W2_arr m ρ c 5).trans ((arr1_5 (V1 m ρ) c).trans (congrArg₂ (grad (r := 256) rfl) (W1_args m ρ c main_arg5 (by decide)) (W1_args m ρ c main_arg6 (by decide))))))

/-- Update 1 leaves the change of the queries' up-projection. -/
theorem end1_delta : W4 m ρ c (Proc.devRef .tc main_v1_1) = delta (grad (r := 256) rfl (a5 m c) (a6 m c)) (a7 m c) (a8 m c) (a9 m c) :=
  (W4_of m ρ c main_v1_1 (by decide)).trans ((W3_of m ρ c main_v1_1 (by decide)).trans ((W2_arr m ρ c 6).trans ((arr1_6 (V1 m ρ) c).trans (delta_congr (congrArg₂ (grad (r := 256) rfl) (W1_args m ρ c main_arg5 (by decide)) (W1_args m ρ c main_arg6 (by decide))) (W1_args m ρ c main_arg7 (by decide)) (W1_args m ρ c main_arg8 (by decide)) (W1_args m ρ c main_arg9 (by decide))))))

/-- Update 1 leaves the new first moments of the queries' up-projection. -/
theorem end1_m : W4 m ρ c (Proc.devRef .tc main_v1_2) = newM (grad (r := 256) rfl (a5 m c) (a6 m c)) (a8 m c) :=
  (W4_of m ρ c main_v1_2 (by decide)).trans ((W3_of m ρ c main_v1_2 (by decide)).trans ((W2_arr m ρ c 7).trans ((arr1_7 (V1 m ρ) c).trans (congrArg₂ newM (congrArg₂ (grad (r := 256) rfl) (W1_args m ρ c main_arg5 (by decide)) (W1_args m ρ c main_arg6 (by decide))) (W1_args m ρ c main_arg8 (by decide))))))

/-- Update 1 leaves the new second moments of the queries' up-projection. -/
theorem end1_v : W4 m ρ c (Proc.devRef .tc main_v1_3) = newV (grad (r := 256) rfl (a5 m c) (a6 m c)) (a9 m c) :=
  (W4_of m ρ c main_v1_3 (by decide)).trans ((W3_of m ρ c main_v1_3 (by decide)).trans ((W2_arr m ρ c 8).trans ((arr1_8 (V1 m ρ) c).trans (congrArg₂ newV (congrArg₂ (grad (r := 256) rfl) (W1_args m ρ c main_arg5 (by decide)) (W1_args m ρ c main_arg6 (by decide))) (W1_args m ρ c main_arg9 (by decide))))))

/-- Update 2 leaves the gradient of the keys' and values' up-projection. -/
theorem end2_g : W4 m ρ c (Proc.devRef .tc main_v2_0) = grad (r := 128) rfl (a10 m c) (a11 m c) :=
  (W4_of m ρ c main_v2_0 (by decide)).trans ((W3_arr m ρ c 5).trans ((arr2_5 (V2 m ρ) c).trans (congrArg₂ (grad (r := 128) rfl) (W2_args m ρ c main_arg10 (by decide)) (W2_args m ρ c main_arg11 (by decide)))))

/-- Update 2 leaves the change of the keys' and values' up-projection. -/
theorem end2_delta : W4 m ρ c (Proc.devRef .tc main_v2_1) = delta (grad (r := 128) rfl (a10 m c) (a11 m c)) (a12 m c) (a13 m c) (a14 m c) :=
  (W4_of m ρ c main_v2_1 (by decide)).trans ((W3_arr m ρ c 6).trans ((arr2_6 (V2 m ρ) c).trans (delta_congr (congrArg₂ (grad (r := 128) rfl) (W2_args m ρ c main_arg10 (by decide)) (W2_args m ρ c main_arg11 (by decide))) (W2_args m ρ c main_arg12 (by decide)) (W2_args m ρ c main_arg13 (by decide)) (W2_args m ρ c main_arg14 (by decide)))))

/-- Update 2 leaves the new first moments of the keys' and values' up-projection. -/
theorem end2_m : W4 m ρ c (Proc.devRef .tc main_v2_2) = newM (grad (r := 128) rfl (a10 m c) (a11 m c)) (a13 m c) :=
  (W4_of m ρ c main_v2_2 (by decide)).trans ((W3_arr m ρ c 7).trans ((arr2_7 (V2 m ρ) c).trans (congrArg₂ newM (congrArg₂ (grad (r := 128) rfl) (W2_args m ρ c main_arg10 (by decide)) (W2_args m ρ c main_arg11 (by decide))) (W2_args m ρ c main_arg13 (by decide)))))

/-- Update 2 leaves the new second moments of the keys' and values' up-projection. -/
theorem end2_v : W4 m ρ c (Proc.devRef .tc main_v2_3) = newV (grad (r := 128) rfl (a10 m c) (a11 m c)) (a14 m c) :=
  (W4_of m ρ c main_v2_3 (by decide)).trans ((W3_arr m ρ c 8).trans ((arr2_8 (V2 m ρ) c).trans (congrArg₂ newV (congrArg₂ (grad (r := 128) rfl) (W2_args m ρ c main_arg10 (by decide)) (W2_args m ρ c main_arg11 (by decide))) (W2_args m ρ c main_arg14 (by decide)))))

/-- Update 3 leaves the gradient of the output weights. -/
theorem end3_g : W4 m ρ c (Proc.devRef .tc main_v3_0) = grad (r := 192) rfl (a15 m c) (a16 m c) :=
  (W4_arr m ρ c 5).trans ((arr3_5 (V3 m ρ) c).trans (congrArg₂ (grad (r := 192) rfl) (W3_args m ρ c main_arg15 (by decide)) (W3_args m ρ c main_arg16 (by decide))))

/-- Update 3 leaves the change of the output weights. -/
theorem end3_delta : W4 m ρ c (Proc.devRef .tc main_v3_1) = delta (grad (r := 192) rfl (a15 m c) (a16 m c)) (a17 m c) (a18 m c) (a19 m c) :=
  (W4_arr m ρ c 6).trans ((arr3_6 (V3 m ρ) c).trans (delta_congr (congrArg₂ (grad (r := 192) rfl) (W3_args m ρ c main_arg15 (by decide)) (W3_args m ρ c main_arg16 (by decide))) (W3_args m ρ c main_arg17 (by decide)) (W3_args m ρ c main_arg18 (by decide)) (W3_args m ρ c main_arg19 (by decide))))

/-- Update 3 leaves the new first moments of the output weights. -/
theorem end3_m : W4 m ρ c (Proc.devRef .tc main_v3_2) = newM (grad (r := 192) rfl (a15 m c) (a16 m c)) (a18 m c) :=
  (W4_arr m ρ c 7).trans ((arr3_7 (V3 m ρ) c).trans (congrArg₂ newM (congrArg₂ (grad (r := 192) rfl) (W3_args m ρ c main_arg15 (by decide)) (W3_args m ρ c main_arg16 (by decide))) (W3_args m ρ c main_arg18 (by decide))))

/-- Update 3 leaves the new second moments of the output weights. -/
theorem end3_v : W4 m ρ c (Proc.devRef .tc main_v3_3) = newV (grad (r := 192) rfl (a15 m c) (a16 m c)) (a19 m c) :=
  (W4_arr m ρ c 8).trans ((arr3_8 (V3 m ρ) c).trans (congrArg₂ newV (congrArg₂ (grad (r := 192) rfl) (W3_args m ρ c main_arg15 (by decide)) (W3_args m ρ c main_arg16 (by decide))) (W3_args m ρ c main_arg19 (by decide))))

end

/-- THE RUN: the results are the gradients and the AdamW step's arrays; the arguments are unchanged. -/
theorem kernel_run : θ_run defs (onTc (τ := τ) (main (F := Ideal))) ⟨m, fun _ => 0, ρ⟩ (fun r => ∀ c : Dev nD,
      r.2.mem ((c : Thread nD τ).loc main_v0_0) = grad (r := 1024) rfl (a0 m c) (a1 m c)
      ∧ r.2.mem ((c : Thread nD τ).loc main_v0_1) = delta (grad (r := 1024) rfl (a0 m c) (a1 m c)) (a2 m c) (a3 m c) (a4 m c)
      ∧ r.2.mem ((c : Thread nD τ).loc main_v0_2) = newM (grad (r := 1024) rfl (a0 m c) (a1 m c)) (a3 m c)
      ∧ r.2.mem ((c : Thread nD τ).loc main_v0_3) = newV (grad (r := 1024) rfl (a0 m c) (a1 m c)) (a4 m c)
      ∧ r.2.mem ((c : Thread nD τ).loc main_v1_0) = grad (r := 256) rfl (a5 m c) (a6 m c)
      ∧ r.2.mem ((c : Thread nD τ).loc main_v1_1) = delta (grad (r := 256) rfl (a5 m c) (a6 m c)) (a7 m c) (a8 m c) (a9 m c)
      ∧ r.2.mem ((c : Thread nD τ).loc main_v1_2) = newM (grad (r := 256) rfl (a5 m c) (a6 m c)) (a8 m c)
      ∧ r.2.mem ((c : Thread nD τ).loc main_v1_3) = newV (grad (r := 256) rfl (a5 m c) (a6 m c)) (a9 m c)
      ∧ r.2.mem ((c : Thread nD τ).loc main_v2_0) = grad (r := 128) rfl (a10 m c) (a11 m c)
      ∧ r.2.mem ((c : Thread nD τ).loc main_v2_1) = delta (grad (r := 128) rfl (a10 m c) (a11 m c)) (a12 m c) (a13 m c) (a14 m c)
      ∧ r.2.mem ((c : Thread nD τ).loc main_v2_2) = newM (grad (r := 128) rfl (a10 m c) (a11 m c)) (a13 m c)
      ∧ r.2.mem ((c : Thread nD τ).loc main_v2_3) = newV (grad (r := 128) rfl (a10 m c) (a11 m c)) (a14 m c)
      ∧ r.2.mem ((c : Thread nD τ).loc main_v3_0) = grad (r := 192) rfl (a15 m c) (a16 m c)
      ∧ r.2.mem ((c : Thread nD τ).loc main_v3_1) = delta (grad (r := 192) rfl (a15 m c) (a16 m c)) (a17 m c) (a18 m c) (a19 m c)
      ∧ r.2.mem ((c : Thread nD τ).loc main_v3_2) = newM (grad (r := 192) rfl (a15 m c) (a16 m c)) (a18 m c)
      ∧ r.2.mem ((c : Thread nD τ).loc main_v3_3) = newV (grad (r := 192) rfl (a15 m c) (a16 m c)) (a19 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) :=
  (θ_run defs _ _).mono (fun _ h c =>
    ⟨(h c _ (mem_uc main_v0_0 (by decide))).trans (end0_g m ρ c),
     (h c _ (mem_uc main_v0_1 (by decide))).trans (end0_delta m ρ c),
     (h c _ (mem_uc main_v0_2 (by decide))).trans (end0_m m ρ c),
     (h c _ (mem_uc main_v0_3 (by decide))).trans (end0_v m ρ c),
     (h c _ (mem_uc main_v1_0 (by decide))).trans (end1_g m ρ c),
     (h c _ (mem_uc main_v1_1 (by decide))).trans (end1_delta m ρ c),
     (h c _ (mem_uc main_v1_2 (by decide))).trans (end1_m m ρ c),
     (h c _ (mem_uc main_v1_3 (by decide))).trans (end1_v m ρ c),
     (h c _ (mem_uc main_v2_0 (by decide))).trans (end2_g m ρ c),
     (h c _ (mem_uc main_v2_1 (by decide))).trans (end2_delta m ρ c),
     (h c _ (mem_uc main_v2_2 (by decide))).trans (end2_m m ρ c),
     (h c _ (mem_uc main_v2_3 (by decide))).trans (end2_v m ρ c),
     (h c _ (mem_uc main_v3_0 (by decide))).trans (end3_g m ρ c),
     (h c _ (mem_uc main_v3_1 (by decide))).trans (end3_delta m ρ c),
     (h c _ (mem_uc main_v3_2 (by decide))).trans (end3_m m ρ c),
     (h c _ (mem_uc main_v3_3 (by decide))).trans (end3_v m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c)⟩)
    (run_boundary m ρ)

end Cert.Adamw

end
-- ==== Proof.AdamwReference.lean ====
/- The plain optimiser's first group of weights over the extended reals: the same functions of the arguments. -/
module

public import proofs.«01_k».proof.Proof.Gen.AdamwReferenceIdeal.Read
public import proofs.«01_k».proof.Proof.AdamwMath

@[expose] public section

set_option maxRecDepth 16384

noncomputable section

namespace Cert.Adamw

open Idealize.ShloMosaic
open Cert.AdamwReferenceIdeal Cert.AdamwReferenceIdeal.Gen Cert.AdamwReferenceIdeal.Read

/-! ## The input weights -/

section
variable (x0 x1 : (sh3 8 1024 276).Idx → EReal) (x2 x3 x4 : (sh 2048 276).Idx → EReal)

theorem ref0_g : val_main_v4 (F := Ideal) x0 x1 = grad (r := 1024) rfl x0 x1 := by
  funext j
  unfold val_main_v4
  pointwise
  unfold grad
  refine dite_congr rfl (fun h => ?_) fun h => ?_
  · rw [val_main_v1_apply]
    unfold val_main_v0 val_main_cst
    pointwise
    refine Fintype.sum_congr _ _ fun d => congrArg x0 ?_
    funext a
    fin_cases a <;> rfl
  · rw [val_main_v3_apply]
    unfold val_main_v2 val_main_cst_0
    pointwise
    refine Fintype.sum_congr _ _ fun d => congrArg x1 ?_
    funext a
    fin_cases a <;> rfl

theorem ref0_delta : val_main_v28 (F := Ideal) x0 x1 x2 x3 x4 = delta (grad (r := 1024) rfl x0 x1) x2 x3 x4 := by
  funext j
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_cst_5 val_main_cst_1 val_main_cst_2 val_main_cst_3 val_main_cst_4 val_main_cst_6 val_main_cst_7 val_main_cst_8 val_main_cst_9
  rw [ref0_g]
  pointwise
  rfl

theorem ref0_m : val_main_v9 (F := Ideal) x0 x1 x3 = newM (grad (r := 1024) rfl x0 x1) x3 := by
  funext j
  unfold val_main_v9 val_main_v8 val_main_v7 val_main_v6 val_main_v5 val_main_cst_1 val_main_cst_2
  rw [ref0_g]
  pointwise
  rfl

theorem ref0_v : val_main_v15 (F := Ideal) x0 x1 x4 = newV (grad (r := 1024) rfl x0 x1) x4 := by
  funext j
  unfold val_main_v15 val_main_v14 val_main_v13 val_main_v12 val_main_v11 val_main_v10 val_main_cst_3 val_main_cst_4
  rw [ref0_g]
  pointwise
  rfl

end

/-! ## The queries' up-projection -/

section
variable (x5 x6 : (sh3 8 256 96).Idx → EReal) (x7 x8 x9 : (sh 512 96).Idx → EReal)

theorem ref1_g : val_main_v33 (F := Ideal) x5 x6 = grad (r := 256) rfl x5 x6 := by
  funext j
  unfold val_main_v33
  pointwise
  unfold grad
  refine dite_congr rfl (fun h => ?_) fun h => ?_
  · rw [val_main_v30_apply]
    unfold val_main_v29 val_main_cst_10
    pointwise
    refine Fintype.sum_congr _ _ fun d => congrArg x5 ?_
    funext a
    fin_cases a <;> rfl
  · rw [val_main_v32_apply]
    unfold val_main_v31 val_main_cst_11
    pointwise
    refine Fintype.sum_congr _ _ fun d => congrArg x6 ?_
    funext a
    fin_cases a <;> rfl

theorem ref1_delta : val_main_v57 (F := Ideal) x5 x6 x7 x8 x9 = delta (grad (r := 256) rfl x5 x6) x7 x8 x9 := by
  funext j
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_12 val_main_cst_13 val_main_cst_16 val_main_cst_14 val_main_cst_15 val_main_cst_17 val_main_cst_18 val_main_cst_19 val_main_cst_20
  rw [ref1_g]
  pointwise
  rfl

theorem ref1_m : val_main_v38 (F := Ideal) x5 x6 x8 = newM (grad (r := 256) rfl x5 x6) x8 := by
  funext j
  unfold val_main_v38 val_main_v37 val_main_v36 val_main_v35 val_main_v34 val_main_cst_12 val_main_cst_13
  rw [ref1_g]
  pointwise
  rfl

theorem ref1_v : val_main_v44 (F := Ideal) x5 x6 x9 = newV (grad (r := 256) rfl x5 x6) x9 := by
  funext j
  unfold val_main_v44 val_main_v43 val_main_v42 val_main_v41 val_main_v40 val_main_v39 val_main_cst_14 val_main_cst_15
  rw [ref1_g]
  pointwise
  rfl

end

/-! ## The keys' and values' up-projection -/

section
variable (x10 x11 : (sh3 8 128 128).Idx → EReal) (x12 x13 x14 : (sh 256 128).Idx → EReal)

theorem ref2_g : val_main_v62 (F := Ideal) x10 x11 = grad (r := 128) rfl x10 x11 := by
  funext j
  unfold val_main_v62
  pointwise
  unfold grad
  refine dite_congr rfl (fun h => ?_) fun h => ?_
  · rw [val_main_v59_apply]
    unfold val_main_v58 val_main_cst_21
    pointwise
    refine Fintype.sum_congr _ _ fun d => congrArg x10 ?_
    funext a
    fin_cases a <;> rfl
  · rw [val_main_v61_apply]
    unfold val_main_v60 val_main_cst_22
    pointwise
    refine Fintype.sum_congr _ _ fun d => congrArg x11 ?_
    funext a
    fin_cases a <;> rfl

theorem ref2_delta : val_main_v86 (F := Ideal) x10 x11 x12 x13 x14 = delta (grad (r := 128) rfl x10 x11) x12 x13 x14 := by
  funext j
  unfold val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_cst_23 val_main_cst_24 val_main_cst_27 val_main_cst_25 val_main_cst_26 val_main_cst_28 val_main_cst_29 val_main_cst_30 val_main_cst_31
  rw [ref2_g]
  pointwise
  rfl

theorem ref2_m : val_main_v67 (F := Ideal) x10 x11 x13 = newM (grad (r := 128) rfl x10 x11) x13 := by
  funext j
  unfold val_main_v67 val_main_v66 val_main_v65 val_main_v64 val_main_v63 val_main_cst_23 val_main_cst_24
  rw [ref2_g]
  pointwise
  rfl

theorem ref2_v : val_main_v73 (F := Ideal) x10 x11 x14 = newV (grad (r := 128) rfl x10 x11) x14 := by
  funext j
  unfold val_main_v73 val_main_v72 val_main_v71 val_main_v70 val_main_v69 val_main_v68 val_main_cst_25 val_main_cst_26
  rw [ref2_g]
  pointwise
  rfl

end

/-! ## The output weights -/

section
variable (x15 x16 : (sh3 8 192 1024).Idx → EReal) (x17 x18 x19 : (sh 384 1024).Idx → EReal)

theorem ref3_g : val_main_v91 (F := Ideal) x15 x16 = grad (r := 192) rfl x15 x16 := by
  funext j
  unfold val_main_v91
  pointwise
  unfold grad
  refine dite_congr rfl (fun h => ?_) fun h => ?_
  · rw [val_main_v88_apply]
    unfold val_main_v87 val_main_cst_32
    pointwise
    refine Fintype.sum_congr _ _ fun d => congrArg x15 ?_
    funext a
    fin_cases a <;> rfl
  · rw [val_main_v90_apply]
    unfold val_main_v89 val_main_cst_33
    pointwise
    refine Fintype.sum_congr _ _ fun d => congrArg x16 ?_
    funext a
    fin_cases a <;> rfl

theorem ref3_delta : val_main_v115 (F := Ideal) x15 x16 x17 x18 x19 = delta (grad (r := 192) rfl x15 x16) x17 x18 x19 := by
  funext j
  unfold val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_cst_38 val_main_cst_34 val_main_cst_35 val_main_cst_37 val_main_cst_36 val_main_cst_39 val_main_cst_40 val_main_cst_41 val_main_cst_42
  rw [ref3_g]
  pointwise
  rfl

theorem ref3_m : val_main_v96 (F := Ideal) x15 x16 x18 = newM (grad (r := 192) rfl x15 x16) x18 := by
  funext j
  unfold val_main_v96 val_main_v95 val_main_v94 val_main_v93 val_main_v92 val_main_cst_34 val_main_cst_35
  rw [ref3_g]
  pointwise
  rfl

theorem ref3_v : val_main_v102 (F := Ideal) x15 x16 x19 = newV (grad (r := 192) rfl x15 x16) x19 := by
  funext j
  unfold val_main_v102 val_main_v101 val_main_v100 val_main_v99 val_main_v98 val_main_v97 val_main_cst_37 val_main_cst_36
  rw [ref3_g]
  pointwise
  rfl

end

end Cert.Adamw

end
-- ==== Proof.AdamwClaim.lean ====
/- The first optimiser program's claims: the kernel's updates and the plain AdamW step end with equal arrays. -/
module

public import proofs.«01_k».proof.Defs
public import proofs.«01_k».proof.Proof.Gen.AdamwKernel
public import proofs.«01_k».proof.Proof.Gen.AdamwKernel.Frame
public import proofs.«01_k».proof.Proof.Gen.AdamwReferenceIdeal.Run
public import proofs.«01_k».proof.Proof.AdamwKernelRun
public import proofs.«01_k».proof.Proof.AdamwReference
public import Idealize.ShloMosaic.Lib.Quiescent

@[expose] public section

set_option maxRecDepth 16384

noncomputable section

namespace Cert.Adamw

open Idealize.ShloMosaic Idealize.SL.Sem

/-- The plain step runs to its end; it has no semaphores. -/
theorem reference_frame : Cert.quiescent_AdamwReferenceIdeal := fun m ρ _ =>
  (θ_run Cert.AdamwReferenceIdeal.defs _ _).mono (fun r h => ⟨fun c => (h c).2.2.2.2.2.2.2.2.2.2.2.2.2.2.2.2, sem_eq_zero_of_no_sems (by decide) r.2⟩)
    (Cert.AdamwReferenceIdeal.Value.run (F := Ideal) m ρ)

/-- Equal results from equal arguments. -/
theorem algebraic : Cert.algebraic_AdamwKernelIdeal_AdamwReferenceIdeal := by
  intro m ρ m' ρ' _ hagree
  refine ⟨fun c => grad (r := 1024) rfl (a0 m c) (a1 m c),
    fun c => delta (grad (r := 1024) rfl (a0 m c) (a1 m c)) (a2 m c) (a3 m c) (a4 m c),
    fun c => newM (grad (r := 1024) rfl (a0 m c) (a1 m c)) (a3 m c),
    fun c => newV (grad (r := 1024) rfl (a0 m c) (a1 m c)) (a4 m c),
    fun c => grad (r := 256) rfl (a5 m c) (a6 m c),
    fun c => delta (grad (r := 256) rfl (a5 m c) (a6 m c)) (a7 m c) (a8 m c) (a9 m c),
    fun c => newM (grad (r := 256) rfl (a5 m c) (a6 m c)) (a8 m c),
    fun c => newV (grad (r := 256) rfl (a5 m c) (a6 m c)) (a9 m c),
    fun c => grad (r := 128) rfl (a10 m c) (a11 m c),
    fun c => delta (grad (r := 128) rfl (a10 m c) (a11 m c)) (a12 m c) (a13 m c) (a14 m c),
    fun c => newM (grad (r := 128) rfl (a10 m c) (a11 m c)) (a13 m c),
    fun c => newV (grad (r := 128) rfl (a10 m c) (a11 m c)) (a14 m c),
    fun c => grad (r := 192) rfl (a15 m c) (a16 m c),
    fun c => delta (grad (r := 192) rfl (a15 m c) (a16 m c)) (a17 m c) (a18 m c) (a19 m c),
    fun c => newM (grad (r := 192) rfl (a15 m c) (a16 m c)) (a18 m c),
    fun c => newV (grad (r := 192) rfl (a15 m c) (a16 m c)) (a19 m c), kernel_run m ρ, ?_⟩
  refine (θ_run Cert.AdamwReferenceIdeal.defs _ _).mono (fun _ h c => ?_) (Cert.AdamwReferenceIdeal.Value.run (F := Ideal) m' ρ')
  obtain ⟨h0, h1, h2, h3, h4, h5, h6, h7, h8, h9, h10, h11, h12, h13, h14, h15, hargs⟩ := h c
  obtain ⟨e0, e1, e2, e3, e4, e5, e6, e7, e8, e9, e10, e11, e12, e13, e14, e15, e16, e17, e18, e19⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, hargs⟩
  · rw [Cert.AdamwReferenceIdeal.Read.val_main_v4_eq, e0, e1]; exact ref0_g _ _
  · rw [Cert.AdamwReferenceIdeal.Read.val_main_v28_eq, e0, e1, e2, e3, e4]; exact ref0_delta _ _ _ _ _
  · rw [Cert.AdamwReferenceIdeal.Read.val_main_v9_eq, e0, e1, e3]; exact ref0_m _ _ _
  · rw [Cert.AdamwReferenceIdeal.Read.val_main_v15_eq, e0, e1, e4]; exact ref0_v _ _ _
  · rw [Cert.AdamwReferenceIdeal.Read.val_main_v33_eq, e5, e6]; exact ref1_g _ _
  · rw [Cert.AdamwReferenceIdeal.Read.val_main_v57_eq, e5, e6, e7, e8, e9]; exact ref1_delta _ _ _ _ _
  · rw [Cert.AdamwReferenceIdeal.Read.val_main_v38_eq, e5, e6, e8]; exact ref1_m _ _ _
  · rw [Cert.AdamwReferenceIdeal.Read.val_main_v44_eq, e5, e6, e9]; exact ref1_v _ _ _
  · rw [Cert.AdamwReferenceIdeal.Read.val_main_v62_eq, e10, e11]; exact ref2_g _ _
  · rw [Cert.AdamwReferenceIdeal.Read.val_main_v86_eq, e10, e11, e12, e13, e14]; exact ref2_delta _ _ _ _ _
  · rw [Cert.AdamwReferenceIdeal.Read.val_main_v67_eq, e10, e11, e13]; exact ref2_m _ _ _
  · rw [Cert.AdamwReferenceIdeal.Read.val_main_v73_eq, e10, e11, e14]; exact ref2_v _ _ _
  · rw [Cert.AdamwReferenceIdeal.Read.val_main_v91_eq, e15, e16]; exact ref3_g _ _
  · rw [Cert.AdamwReferenceIdeal.Read.val_main_v115_eq, e15, e16, e17, e18, e19]; exact ref3_delta _ _ _ _ _
  · rw [Cert.AdamwReferenceIdeal.Read.val_main_v96_eq, e15, e16, e18]; exact ref3_m _ _ _
  · rw [Cert.AdamwReferenceIdeal.Read.val_main_v102_eq, e15, e16, e19]; exact ref3_v _ _ _

end Cert.Adamw

end
-- ==== Proof.AdamwFfRegion0.lean ====
/- What each update of the second optimiser program leaves in its result arrays, over the extended reals: the whole arrays as
   functions of the arrays the update reads, whatever those hold. -/
module

public import proofs.«01_k».proof.Proof.Gen.AdamwFfKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.AdamwFf

open Idealize.ShloMosaic Idealize.ShloMosaic.TcCoe Idealize.SL.Sem
open Cert.AdamwFfKernelIdeal Cert.AdamwFfKernelIdeal.Gen
open Cert.Adamw

variable (V : (c : Dev nD) → (b : Ref sig .tc) → Buf (Elt Ideal) ((c : Thread nD τ).loc b))

/-! ## Update 0: the first weights of the feed-forward -/

theorem idx0_0 : ∀ t : Fin cfg0.N, t.val < 4 → win0_0.index t = ![0, t.val, 0] :=
  (by decide +kernel : ∀ t : Fin grid0.N, t.val < 4 → _)
theorem idx0_1 : ∀ t : Fin cfg0.N, 4 ≤ t.val → win0_1.index t = ![0, t.val - 4, 0] :=
  (by decide +kernel : ∀ t : Fin grid0.N, 4 ≤ t.val → _)
theorem idx0_2 : ∀ t : Fin cfg0.N, win0_2.index t = ![t.val, 0] :=
  (by decide +kernel : ∀ t : Fin grid0.N, _)
theorem idx0_3 : ∀ t : Fin cfg0.N, win0_3.index t = ![t.val, 0] :=
  (by decide +kernel : ∀ t : Fin grid0.N, _)
theorem idx0_4 : ∀ t : Fin cfg0.N, win0_4.index t = ![t.val, 0] :=
  (by decide +kernel : ∀ t : Fin grid0.N, _)
theorem idx0_5 : ∀ t : Fin cfg0.N, win0_5.index t = ![t.val, 0] :=
  (by decide +kernel : ∀ t : Fin grid0.N, _)
theorem idx0_6 : ∀ t : Fin cfg0.N, win0_6.index t = ![t.val, 0] :=
  (by decide +kernel : ∀ t : Fin grid0.N, _)
theorem idx0_7 : ∀ t : Fin cfg0.N, win0_7.index t = ![t.val, 0] :=
  (by decide +kernel : ∀ t : Fin grid0.N, _)
theorem idx0_8 : ∀ t : Fin cfg0.N, win0_8.index t = ![t.val, 0] :=
  (by decide +kernel : ∀ t : Fin grid0.N, _)

theorem in0_2 (c : Dev nD) (t : Fin cfg0.N) (y : (sh 256 512).Idx) (j : (sh 2048 512).Idx)
    (h0 : (j 0).val = t.val * 256 + (y 0).val) (h1 : (j 1).val = (y 1).val) :
    iblk0 V c 2 t y = V c main_arg2 j := by
  blk_simp [iblk0]
  refine congrArg (V c main_arg2) ?_
  blk_ext [idx0_2]
theorem in0_3 (c : Dev nD) (t : Fin cfg0.N) (y : (sh 256 512).Idx) (j : (sh 2048 512).Idx)
    (h0 : (j 0).val = t.val * 256 + (y 0).val) (h1 : (j 1).val = (y 1).val) :
    iblk0 V c 3 t y = V c main_arg3 j := by
  blk_simp [iblk0]
  refine congrArg (V c main_arg3) ?_
  blk_ext [idx0_3]
theorem in0_4 (c : Dev nD) (t : Fin cfg0.N) (y : (sh 256 512).Idx) (j : (sh 2048 512).Idx)
    (h0 : (j 0).val = t.val * 256 + (y 0).val) (h1 : (j 1).val = (y 1).val) :
    iblk0 V c 4 t y = V c main_arg4 j := by
  blk_simp [iblk0]
  refine congrArg (V c main_arg4) ?_
  blk_ext [idx0_4]
theorem in0_0 (c : Dev nD) (t : Fin cfg0.N) (h : t.val < 4) (y : (sh 256 512).Idx) (j : (sh 2048 512).Idx)
    (h0 : (j 0).val = t.val * 256 + (y 0).val) (h1 : (j 1).val = (y 1).val) :
    parts (n := 8) (p := 256) (c := 512) (iblk0 V c 0 t) (y 0) (y 1) = grad (r := 1024) rfl (V c main_arg0) (V c main_arg1) j := by
  idx_bounds y
  exact parts_top (by omega) fun d => by
    blk_simp [iblk0]
    refine congrArg (V c main_arg0) ?_
    blk_ext [idx0_0 t h]
theorem in0_1 (c : Dev nD) (t : Fin cfg0.N) (h : 4 ≤ t.val) (y : (sh 256 512).Idx) (j : (sh 2048 512).Idx)
    (h0 : (j 0).val = t.val * 256 + (y 0).val) (h1 : (j 1).val = (y 1).val) :
    parts (n := 8) (p := 256) (c := 512) (iblk0 V c 1 t) (y 0) (y 1) = grad (r := 1024) rfl (V c main_arg0) (V c main_arg1) j := by
  idx_bounds y
  exact parts_bot (by omega) fun d => by
    blk_simp [iblk0]
    refine congrArg (V c main_arg1) ?_
    blk_ext [idx0_1 t h]

set_option maxHeartbeats 1000000 in
theorem arr0_5 (c : Dev nD) : (dat0 V c).arrAt 5 cfg0.N
    = grad (r := 1024) rfl (V c main_arg0) (V c main_arg1) := by
  refine (dat0 V c).arrAt_eq_of_covers 5 _ (by decide +kernel) fun t hf y => ?_
  blk_simp
  rw [after0_5]
  by_cases h : t.val < 4
  · have hg := in0_0 V c t h y (((View.whole main_v0_0).slice (win0_5.rect t)).emb y) (by blk_simp [idx0_5]; try omega) (by blk_simp [idx0_5]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_0).slice (win0_5.rect t)).emb y) := by
      rw [← hs]
      unfold k0_pay7
      pointwise
      exact eight hg
    exact hg
  · have hg := in0_1 V c t (by omega) y (((View.whole main_v0_0).slice (win0_5.rect t)).emb y) (by blk_simp [idx0_5]; try omega) (by blk_simp [idx0_5]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_0).slice (win0_5.rect t)).emb y) := by
      rw [← hs]
      unfold k0_pay9
      pointwise
      exact eight hg
    exact hg

set_option maxHeartbeats 1000000 in
theorem arr0_6 (c : Dev nD) : (dat0 V c).arrAt 6 cfg0.N
    = delta (grad (r := 1024) rfl (V c main_arg0) (V c main_arg1)) (V c main_arg2) (V c main_arg3) (V c main_arg4) := by
  refine (dat0 V c).arrAt_eq_of_covers 6 _ (by decide +kernel) fun t hf y => ?_
  blk_simp
  rw [after0_6]
  have e0 := in0_2 V c t y (((View.whole main_v0_1).slice (win0_6.rect t)).emb y) (by blk_simp [idx0_6]; try omega) (by blk_simp [idx0_6]; try omega)
  have e1 := in0_3 V c t y (((View.whole main_v0_1).slice (win0_6.rect t)).emb y) (by blk_simp [idx0_6]; try omega) (by blk_simp [idx0_6]; try omega)
  have e2 := in0_4 V c t y (((View.whole main_v0_1).slice (win0_6.rect t)).emb y) (by blk_simp [idx0_6]; try omega) (by blk_simp [idx0_6]; try omega)
  by_cases h : t.val < 4
  · have hg := in0_0 V c t h y (((View.whole main_v0_1).slice (win0_6.rect t)).emb y) (by blk_simp [idx0_6]; try omega) (by blk_simp [idx0_6]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_1).slice (win0_6.rect t)).emb y) := by
      rw [← hs]
      unfold k0_pay7
      pointwise
      exact eight hg
    pointwise
    exact step_congr hg e0 e1 e2
  · have hg := in0_1 V c t (by omega) y (((View.whole main_v0_1).slice (win0_6.rect t)).emb y) (by blk_simp [idx0_6]; try omega) (by blk_simp [idx0_6]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_1).slice (win0_6.rect t)).emb y) := by
      rw [← hs]
      unfold k0_pay9
      pointwise
      exact eight hg
    pointwise
    exact step_congr hg e0 e1 e2

set_option maxHeartbeats 1000000 in
theorem arr0_7 (c : Dev nD) : (dat0 V c).arrAt 7 cfg0.N
    = newM (grad (r := 1024) rfl (V c main_arg0) (V c main_arg1)) (V c main_arg3) := by
  refine (dat0 V c).arrAt_eq_of_covers 7 _ (by decide +kernel) fun t hf y => ?_
  blk_simp
  rw [after0_7]
  have e1 := in0_3 V c t y (((View.whole main_v0_2).slice (win0_7.rect t)).emb y) (by blk_simp [idx0_7]; try omega) (by blk_simp [idx0_7]; try omega)
  by_cases h : t.val < 4
  · have hg := in0_0 V c t h y (((View.whole main_v0_2).slice (win0_7.rect t)).emb y) (by blk_simp [idx0_7]; try omega) (by blk_simp [idx0_7]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_2).slice (win0_7.rect t)).emb y) := by
      rw [← hs]
      unfold k0_pay7
      pointwise
      exact eight hg
    pointwise
    exact congrArg₂ mom1 hg e1
  · have hg := in0_1 V c t (by omega) y (((View.whole main_v0_2).slice (win0_7.rect t)).emb y) (by blk_simp [idx0_7]; try omega) (by blk_simp [idx0_7]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_2).slice (win0_7.rect t)).emb y) := by
      rw [← hs]
      unfold k0_pay9
      pointwise
      exact eight hg
    pointwise
    exact congrArg₂ mom1 hg e1

set_option maxHeartbeats 1000000 in
theorem arr0_8 (c : Dev nD) : (dat0 V c).arrAt 8 cfg0.N
    = newV (grad (r := 1024) rfl (V c main_arg0) (V c main_arg1)) (V c main_arg4) := by
  refine (dat0 V c).arrAt_eq_of_covers 8 _ (by decide +kernel) fun t hf y => ?_
  blk_simp
  rw [after0_8]
  have e2 := in0_4 V c t y (((View.whole main_v0_3).slice (win0_8.rect t)).emb y) (by blk_simp [idx0_8]; try omega) (by blk_simp [idx0_8]; try omega)
  by_cases h : t.val < 4
  · have hg := in0_0 V c t h y (((View.whole main_v0_3).slice (win0_8.rect t)).emb y) (by blk_simp [idx0_8]; try omega) (by blk_simp [idx0_8]; try omega)
    rw [outsAt0_A V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay7 (F := Ideal) _ _ _ _ _ _ _ _ = s
    replace hg : s y = (grad (r := 1024) rfl (V c main_arg0) (V c main_arg1)) (((View.whole main_v0_3).slice (win0_8.rect t)).emb y) := by
      rw [← hs]
      unfold k0_pay7
      pointwise
      exact eight hg
    pointwise
    exact congrArg₂ mom2 hg e2
  · have hg := in0_1 V c t (by omega) y (((View.whole main_v0_3).slice (win0_8.rect t)).emb y) (by blk_simp [idx0_8]; try omega) (by blk_simp [idx0_8]; try omega)
    rw [outsAt0_B V c t h (by omega)]
    frame_out
    try unfold k0_pay10
    try unfold k0_pay8
    try unfold k0_pay6
    try unfold k0_pay5
    try unfold k0_pay4
    try unfold k0_pay3
    try unfold k0_pay2
    try unfold k0_pay1
    generalize hs : k0_pay9 (F := Ideal) _ _ _ _ _ _ _ _ = s
    replace hg : s y = (grad (r := 1024) rfl (V c main_arg0) (V c main_arg1)) (((View.whole main_v0_3).slice (win0_8.rect t)).emb y) := by
      rw [← hs]
      unfold k0_pay9
      pointwise
      exact eight hg
    pointwise
    exact congrArg₂ mom2 hg e2

end Cert.AdamwFf

end
-- ==== Proof.AdamwFfRegion1.lean ====
/- What each update of the second optimiser program leaves in its result arrays, over the extended reals: the whole arrays as
   functions of the arrays the update reads, whatever those hold. -/
module

public import proofs.«01_k».proof.Proof.Gen.AdamwFfKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.AdamwFf

open Idealize.ShloMosaic Idealize.ShloMosaic.TcCoe Idealize.SL.Sem
open Cert.AdamwFfKernelIdeal Cert.AdamwFfKernelIdeal.Gen
open Cert.Adamw

variable (V : (c : Dev nD) → (b : Ref sig .tc) → Buf (Elt Ideal) ((c : Thread nD τ).loc b))

/-! ## Update 1: its second weights -/

theorem idx1_0 : ∀ t : Fin cfg1.N, t.val < 2 → win1_0.index t = ![0, t.val, 0] :=
  (by decide +kernel : ∀ t : Fin grid1.N, t.val < 2 → _)
theorem idx1_1 : ∀ t : Fin cfg1.N, 2 ≤ t.val → win1_1.index t = ![0, t.val - 2, 0] :=
  (by decide +kernel : ∀ t : Fin grid1.N, 2 ≤ t.val → _)
theorem idx1_2 : ∀ t : Fin cfg1.N, win1_2.index t = ![t.val, 0] :=
  (by decide +kernel : ∀ t : Fin grid1.N, _)
theorem idx1_3 : ∀ t : Fin cfg1.N, win1_3.index t = ![t.val, 0] :=
  (by decide +kernel : ∀ t : Fin grid1.N, _)
theorem idx1_4 : ∀ t : Fin cfg1.N, win1_4.index t = ![t.val, 0] :=
  (by decide +kernel : ∀ t : Fin grid1.N, _)
theorem idx1_5 : ∀ t : Fin cfg1.N, win1_5.index t = ![t.val, 0] :=
  (by decide +kernel : ∀ t : Fin grid1.N, _)
theorem idx1_6 : ∀ t : Fin cfg1.N, win1_6.index t = ![t.val, 0] :=
  (by decide +kernel : ∀ t : Fin grid1.N, _)
theorem idx1_7 : ∀ t : Fin cfg1.N, win1_7.index t = ![t.val, 0] :=
  (by decide +kernel : ∀ t : Fin grid1.N, _)
theorem idx1_8 : ∀ t : Fin cfg1.N, win1_8.index t = ![t.val, 0] :=
  (by decide +kernel : ∀ t : Fin grid1.N, _)

theorem in1_2 (c : Dev nD) (t : Fin cfg1.N) (y : (sh 256 1024).Idx) (j : (sh 1024 1024).Idx)
    (h0 : (j 0).val = t.val * 256 + (y 0).val) (h1 : (j 1).val = (y 1).val) :
    iblk1 V c 2 t y = V c main_arg7 j := by
  blk_simp [iblk1]
  refine congrArg (V c main_arg7) ?_
  blk_ext [idx1_2]
theorem in1_3 (c : Dev nD) (t : Fin cfg1.N) (y : (sh 256 1024).Idx) (j : (sh 1024 1024).Idx)
    (h0 : (j 0).val = t.val * 256 + (y 0).val) (h1 : (j 1).val = (y 1).val) :
    iblk1 V c 3 t y = V c main_arg8 j := by
  blk_simp [iblk1]
  refine congrArg (V c main_arg8) ?_
  blk_ext [idx1_3]
theorem in1_4 (c : Dev nD) (t : Fin cfg1.N) (y : (sh 256 1024).Idx) (j : (sh 1024 1024).Idx)
    (h0 : (j 0).val = t.val * 256 + (y 0).val) (h1 : (j 1).val = (y 1).val) :
    iblk1 V c 4 t y = V c main_arg9 j := by
  blk_simp [iblk1]
  refine congrArg (V c main_arg9) ?_
  blk_ext [idx1_4]
theorem in1_0 (c : Dev nD) (t : Fin cfg1.N) (h : t.val < 2) (y : (sh 256 1024).Idx) (j : (sh 1024 1024).Idx)
    (h0 : (j 0).val = t.val * 256 + (y 0).val) (h1 : (j 1).val = (y 1).val) :
    parts (n := 8) (p := 256) (c := 1024) (iblk1 V c 0 t) (y 0) (y 1) = grad (r := 512) rfl (V c main_arg5) (V c main_arg6) j := by
  idx_bounds y
  exact parts_top (by omega) fun d => by
    blk_simp [iblk1]
    refine congrArg (V c main_arg5) ?_
    blk_ext [idx1_0 t h]
theorem in1_1 (c : Dev nD) (t : Fin cfg1.N) (h : 2 ≤ t.val) (y : (sh 256 1024).Idx) (j : (sh 1024 1024).Idx)
    (h0 : (j 0).val = t.val * 256 + (y 0).val) (h1 : (j 1).val = (y 1).val) :
    parts (n := 8) (p := 256) (c := 1024) (iblk1 V c 1 t) (y 0) (y 1) = grad (r := 512) rfl (V c main_arg5) (V c main_arg6) j := by
  idx_bounds y
  exact parts_bot (by omega) fun d => by
    blk_simp [iblk1]
    refine congrArg (V c main_arg6) ?_
    blk_ext [idx1_1 t h]

set_option maxHeartbeats 1000000 in
theorem arr1_5 (c : Dev nD) : (dat1 V c).arrAt 5 cfg1.N
    = grad (r := 512) rfl (V c main_arg5) (V c main_arg6) := by
  refine (dat1 V c).arrAt_eq_of_covers 5 _ (by decide +kernel) fun t hf y => ?_
  blk_simp
  rw [after1_5]
  by_cases h : t.val < 2
  · have hg := in1_0 V c t h y (((View.whole main_v1_0).slice (win1_5.rect t)).emb y) (by blk_simp [idx1_5]; try omega) (by blk_simp [idx1_5]; try omega)
    rw [outsAt1_A V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 512) rfl (V c main_arg5) (V c main_arg6)) (((View.whole main_v1_0).slice (win1_5.rect t)).emb y) := by
      rw [← hs]
      unfold k1_pay7
      pointwise
      exact eight hg
    exact hg
  · have hg := in1_1 V c t (by omega) y (((View.whole main_v1_0).slice (win1_5.rect t)).emb y) (by blk_simp [idx1_5]; try omega) (by blk_simp [idx1_5]; try omega)
    rw [outsAt1_B V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 512) rfl (V c main_arg5) (V c main_arg6)) (((View.whole main_v1_0).slice (win1_5.rect t)).emb y) := by
      rw [← hs]
      unfold k1_pay9
      pointwise
      exact eight hg
    exact hg

set_option maxHeartbeats 1000000 in
theorem arr1_6 (c : Dev nD) : (dat1 V c).arrAt 6 cfg1.N
    = delta (grad (r := 512) rfl (V c main_arg5) (V c main_arg6)) (V c main_arg7) (V c main_arg8) (V c main_arg9) := by
  refine (dat1 V c).arrAt_eq_of_covers 6 _ (by decide +kernel) fun t hf y => ?_
  blk_simp
  rw [after1_6]
  have e0 := in1_2 V c t y (((View.whole main_v1_1).slice (win1_6.rect t)).emb y) (by blk_simp [idx1_6]; try omega) (by blk_simp [idx1_6]; try omega)
  have e1 := in1_3 V c t y (((View.whole main_v1_1).slice (win1_6.rect t)).emb y) (by blk_simp [idx1_6]; try omega) (by blk_simp [idx1_6]; try omega)
  have e2 := in1_4 V c t y (((View.whole main_v1_1).slice (win1_6.rect t)).emb y) (by blk_simp [idx1_6]; try omega) (by blk_simp [idx1_6]; try omega)
  by_cases h : t.val < 2
  · have hg := in1_0 V c t h y (((View.whole main_v1_1).slice (win1_6.rect t)).emb y) (by blk_simp [idx1_6]; try omega) (by blk_simp [idx1_6]; try omega)
    rw [outsAt1_A V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 512) rfl (V c main_arg5) (V c main_arg6)) (((View.whole main_v1_1).slice (win1_6.rect t)).emb y) := by
      rw [← hs]
      unfold k1_pay7
      pointwise
      exact eight hg
    pointwise
    exact step_congr hg e0 e1 e2
  · have hg := in1_1 V c t (by omega) y (((View.whole main_v1_1).slice (win1_6.rect t)).emb y) (by blk_simp [idx1_6]; try omega) (by blk_simp [idx1_6]; try omega)
    rw [outsAt1_B V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 512) rfl (V c main_arg5) (V c main_arg6)) (((View.whole main_v1_1).slice (win1_6.rect t)).emb y) := by
      rw [← hs]
      unfold k1_pay9
      pointwise
      exact eight hg
    pointwise
    exact step_congr hg e0 e1 e2

set_option maxHeartbeats 1000000 in
theorem arr1_7 (c : Dev nD) : (dat1 V c).arrAt 7 cfg1.N
    = newM (grad (r := 512) rfl (V c main_arg5) (V c main_arg6)) (V c main_arg8) := by
  refine (dat1 V c).arrAt_eq_of_covers 7 _ (by decide +kernel) fun t hf y => ?_
  blk_simp
  rw [after1_7]
  have e1 := in1_3 V c t y (((View.whole main_v1_2).slice (win1_7.rect t)).emb y) (by blk_simp [idx1_7]; try omega) (by blk_simp [idx1_7]; try omega)
  by_cases h : t.val < 2
  · have hg := in1_0 V c t h y (((View.whole main_v1_2).slice (win1_7.rect t)).emb y) (by blk_simp [idx1_7]; try omega) (by blk_simp [idx1_7]; try omega)
    rw [outsAt1_A V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 512) rfl (V c main_arg5) (V c main_arg6)) (((View.whole main_v1_2).slice (win1_7.rect t)).emb y) := by
      rw [← hs]
      unfold k1_pay7
      pointwise
      exact eight hg
    pointwise
    exact congrArg₂ mom1 hg e1
  · have hg := in1_1 V c t (by omega) y (((View.whole main_v1_2).slice (win1_7.rect t)).emb y) (by blk_simp [idx1_7]; try omega) (by blk_simp [idx1_7]; try omega)
    rw [outsAt1_B V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 512) rfl (V c main_arg5) (V c main_arg6)) (((View.whole main_v1_2).slice (win1_7.rect t)).emb y) := by
      rw [← hs]
      unfold k1_pay9
      pointwise
      exact eight hg
    pointwise
    exact congrArg₂ mom1 hg e1

set_option maxHeartbeats 1000000 in
theorem arr1_8 (c : Dev nD) : (dat1 V c).arrAt 8 cfg1.N
    = newV (grad (r := 512) rfl (V c main_arg5) (V c main_arg6)) (V c main_arg9) := by
  refine (dat1 V c).arrAt_eq_of_covers 8 _ (by decide +kernel) fun t hf y => ?_
  blk_simp
  rw [after1_8]
  have e2 := in1_4 V c t y (((View.whole main_v1_3).slice (win1_8.rect t)).emb y) (by blk_simp [idx1_8]; try omega) (by blk_simp [idx1_8]; try omega)
  by_cases h : t.val < 2
  · have hg := in1_0 V c t h y (((View.whole main_v1_3).slice (win1_8.rect t)).emb y) (by blk_simp [idx1_8]; try omega) (by blk_simp [idx1_8]; try omega)
    rw [outsAt1_A V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay7 (F := Ideal) _ _ _ _ _ _ _ _ = s
    replace hg : s y = (grad (r := 512) rfl (V c main_arg5) (V c main_arg6)) (((View.whole main_v1_3).slice (win1_8.rect t)).emb y) := by
      rw [← hs]
      unfold k1_pay7
      pointwise
      exact eight hg
    pointwise
    exact congrArg₂ mom2 hg e2
  · have hg := in1_1 V c t (by omega) y (((View.whole main_v1_3).slice (win1_8.rect t)).emb y) (by blk_simp [idx1_8]; try omega) (by blk_simp [idx1_8]; try omega)
    rw [outsAt1_B V c t h (by omega)]
    frame_out
    try unfold k1_pay10
    try unfold k1_pay8
    try unfold k1_pay6
    try unfold k1_pay5
    try unfold k1_pay4
    try unfold k1_pay3
    try unfold k1_pay2
    try unfold k1_pay1
    generalize hs : k1_pay9 (F := Ideal) _ _ _ _ _ _ _ _ = s
    replace hg : s y = (grad (r := 512) rfl (V c main_arg5) (V c main_arg6)) (((View.whole main_v1_3).slice (win1_8.rect t)).emb y) := by
      rw [← hs]
      unfold k1_pay9
      pointwise
      exact eight hg
    pointwise
    exact congrArg₂ mom2 hg e2

end Cert.AdamwFf

end
-- ==== Proof.AdamwFfRegion2.lean ====
/- What each update of the second optimiser program leaves in its result arrays, over the extended reals: the whole arrays as
   functions of the arrays the update reads, whatever those hold. -/
module

public import proofs.«01_k».proof.Proof.Gen.AdamwFfKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.AdamwFf

open Idealize.ShloMosaic Idealize.ShloMosaic.TcCoe Idealize.SL.Sem
open Cert.AdamwFfKernelIdeal Cert.AdamwFfKernelIdeal.Gen
open Cert.Adamw

variable (V : (c : Dev nD) → (b : Ref sig .tc) → Buf (Elt Ideal) ((c : Thread nD τ).loc b))

/-! ## Update 2: the recurrence's gate weights -/

theorem idx2_0 : ∀ t : Fin cfg2.N, t.val < 8 → win2_0.index t = ![0, t.val, 0] :=
  (by decide +kernel : ∀ t : Fin grid2.N, t.val < 8 → _)
theorem idx2_1 : ∀ t : Fin cfg2.N, 8 ≤ t.val → win2_1.index t = ![0, t.val - 8, 0] :=
  (by decide +kernel : ∀ t : Fin grid2.N, 8 ≤ t.val → _)
theorem idx2_2 : ∀ t : Fin cfg2.N, win2_2.index t = ![t.val, 0] :=
  (by decide +kernel : ∀ t : Fin grid2.N, _)
theorem idx2_3 : ∀ t : Fin cfg2.N, win2_3.index t = ![t.val, 0] :=
  (by decide +kernel : ∀ t : Fin grid2.N, _)
theorem idx2_4 : ∀ t : Fin cfg2.N, win2_4.index t = ![t.val, 0] :=
  (by decide +kernel : ∀ t : Fin grid2.N, _)
theorem idx2_5 : ∀ t : Fin cfg2.N, win2_5.index t = ![t.val, 0] :=
  (by decide +kernel : ∀ t : Fin grid2.N, _)
theorem idx2_6 : ∀ t : Fin cfg2.N, win2_6.index t = ![t.val, 0] :=
  (by decide +kernel : ∀ t : Fin grid2.N, _)
theorem idx2_7 : ∀ t : Fin cfg2.N, win2_7.index t = ![t.val, 0] :=
  (by decide +kernel : ∀ t : Fin grid2.N, _)
theorem idx2_8 : ∀ t : Fin cfg2.N, win2_8.index t = ![t.val, 0] :=
  (by decide +kernel : ∀ t : Fin grid2.N, _)

theorem in2_2 (c : Dev nD) (t : Fin cfg2.N) (y : (sh 256 64).Idx) (j : (sh 4096 64).Idx)
    (h0 : (j 0).val = t.val * 256 + (y 0).val) (h1 : (j 1).val = (y 1).val) :
    iblk2 V c 2 t y = V c main_arg12 j := by
  blk_simp [iblk2]
  refine congrArg (V c main_arg12) ?_
  blk_ext [idx2_2]
theorem in2_3 (c : Dev nD) (t : Fin cfg2.N) (y : (sh 256 64).Idx) (j : (sh 4096 64).Idx)
    (h0 : (j 0).val = t.val * 256 + (y 0).val) (h1 : (j 1).val = (y 1).val) :
    iblk2 V c 3 t y = V c main_arg13 j := by
  blk_simp [iblk2]
  refine congrArg (V c main_arg13) ?_
  blk_ext [idx2_3]
theorem in2_4 (c : Dev nD) (t : Fin cfg2.N) (y : (sh 256 64).Idx) (j : (sh 4096 64).Idx)
    (h0 : (j 0).val = t.val * 256 + (y 0).val) (h1 : (j 1).val = (y 1).val) :
    iblk2 V c 4 t y = V c main_arg14 j := by
  blk_simp [iblk2]
  refine congrArg (V c main_arg14) ?_
  blk_ext [idx2_4]
theorem in2_0 (c : Dev nD) (t : Fin cfg2.N) (h : t.val < 8) (y : (sh 256 64).Idx) (j : (sh 4096 64).Idx)
    (h0 : (j 0).val = t.val * 256 + (y 0).val) (h1 : (j 1).val = (y 1).val) :
    parts (n := 8) (p := 256) (c := 64) (iblk2 V c 0 t) (y 0) (y 1) = grad (r := 2048) rfl (V c main_arg10) (V c main_arg11) j := by
  idx_bounds y
  exact parts_top (by omega) fun d => by
    blk_simp [iblk2]
    refine congrArg (V c main_arg10) ?_
    blk_ext [idx2_0 t h]
theorem in2_1 (c : Dev nD) (t : Fin cfg2.N) (h : 8 ≤ t.val) (y : (sh 256 64).Idx) (j : (sh 4096 64).Idx)
    (h0 : (j 0).val = t.val * 256 + (y 0).val) (h1 : (j 1).val = (y 1).val) :
    parts (n := 8) (p := 256) (c := 64) (iblk2 V c 1 t) (y 0) (y 1) = grad (r := 2048) rfl (V c main_arg10) (V c main_arg11) j := by
  idx_bounds y
  exact parts_bot (by omega) fun d => by
    blk_simp [iblk2]
    refine congrArg (V c main_arg11) ?_
    blk_ext [idx2_1 t h]

set_option maxHeartbeats 1000000 in
theorem arr2_5 (c : Dev nD) : (dat2 V c).arrAt 5 cfg2.N
    = grad (r := 2048) rfl (V c main_arg10) (V c main_arg11) := by
  refine (dat2 V c).arrAt_eq_of_covers 5 _ (by decide +kernel) fun t hf y => ?_
  blk_simp
  rw [after2_5]
  by_cases h : t.val < 8
  · have hg := in2_0 V c t h y (((View.whole main_v2_0).slice (win2_5.rect t)).emb y) (by blk_simp [idx2_5]; try omega) (by blk_simp [idx2_5]; try omega)
    rw [outsAt2_A V c t h (by omega)]
    frame_out
    try unfold k2_pay8
    try unfold k2_pay6
    try unfold k2_pay4
    try unfold k2_pay3
    try unfold k2_pay2
    try unfold k2_pay1
    generalize hs : k2_pay5 (F := Ideal) _ _ _ _ _ _ _ _ = s
    replace hg : s y = (grad (r := 2048) rfl (V c main_arg10) (V c main_arg11)) (((View.whole main_v2_0).slice (win2_5.rect t)).emb y) := by
      rw [← hs]
      unfold k2_pay5
      pointwise
      exact eight hg
    exact hg
  · have hg := in2_1 V c t (by omega) y (((View.whole main_v2_0).slice (win2_5.rect t)).emb y) (by blk_simp [idx2_5]; try omega) (by blk_simp [idx2_5]; try omega)
    rw [outsAt2_B V c t h (by omega)]
    frame_out
    try unfold k2_pay8
    try unfold k2_pay6
    try unfold k2_pay4
    try unfold k2_pay3
    try unfold k2_pay2
    try unfold k2_pay1
    generalize hs : k2_pay7 (F := Ideal) _ _ _ _ _ _ _ _ = s
    replace hg : s y = (grad (r := 2048) rfl (V c main_arg10) (V c main_arg11)) (((View.whole main_v2_0).slice (win2_5.rect t)).emb y) := by
      rw [← hs]
      unfold k2_pay7
      pointwise
      exact eight hg
    exact hg

set_option maxHeartbeats 1000000 in
theorem arr2_6 (c : Dev nD) : (dat2 V c).arrAt 6 cfg2.N
    = delta (grad (r := 2048) rfl (V c main_arg10) (V c main_arg11)) (V c main_arg12) (V c main_arg13) (V c main_arg14) := by
  refine (dat2 V c).arrAt_eq_of_covers 6 _ (by decide +kernel) fun t hf y => ?_
  blk_simp
  rw [after2_6]
  have e0 := in2_2 V c t y (((View.whole main_v2_1).slice (win2_6.rect t)).emb y) (by blk_simp [idx2_6]; try omega) (by blk_simp [idx2_6]; try omega)
  have e1 := in2_3 V c t y (((View.whole main_v2_1).slice (win2_6.rect t)).emb y) (by blk_simp [idx2_6]; try omega) (by blk_simp [idx2_6]; try omega)
  have e2 := in2_4 V c t y (((View.whole main_v2_1).slice (win2_6.rect t)).emb y) (by blk_simp [idx2_6]; try omega) (by blk_simp [idx2_6]; try omega)
  by_cases h : t.val < 8
  · have hg := in2_0 V c t h y (((View.whole main_v2_1).slice (win2_6.rect t)).emb y) (by blk_simp [idx2_6]; try omega) (by blk_simp [idx2_6]; try omega)
    rw [outsAt2_A V c t h (by omega)]
    frame_out
    try unfold k2_pay8
    try unfold k2_pay6
    try unfold k2_pay4
    try unfold k2_pay3
    try unfold k2_pay2
    try unfold k2_pay1
    generalize hs : k2_pay5 (F := Ideal) _ _ _ _ _ _ _ _ = s
    replace hg : s y = (grad (r := 2048) rfl (V c main_arg10) (V c main_arg11)) (((View.whole main_v2_1).slice (win2_6.rect t)).emb y) := by
      rw [← hs]
      unfold k2_pay5
      pointwise
      exact eight hg
    pointwise
    exact step_congr hg e0 e1 e2
  · have hg := in2_1 V c t (by omega) y (((View.whole main_v2_1).slice (win2_6.rect t)).emb y) (by blk_simp [idx2_6]; try omega) (by blk_simp [idx2_6]; try omega)
    rw [outsAt2_B V c t h (by omega)]
    frame_out
    try unfold k2_pay8
    try unfold k2_pay6
    try unfold k2_pay4
    try unfold k2_pay3
    try unfold k2_pay2
    try unfold k2_pay1
    generalize hs : k2_pay7 (F := Ideal) _ _ _ _ _ _ _ _ = s
    replace hg : s y = (grad (r := 2048) rfl (V c main_arg10) (V c main_arg11)) (((View.whole main_v2_1).slice (win2_6.rect t)).emb y) := by
      rw [← hs]
      unfold k2_pay7
      pointwise
      exact eight hg
    pointwise
    exact step_congr hg e0 e1 e2

set_option maxHeartbeats 1000000 in
theorem arr2_7 (c : Dev nD) : (dat2 V c).arrAt 7 cfg2.N
    = newM (grad (r := 2048) rfl (V c main_arg10) (V c main_arg11)) (V c main_arg13) := by
  refine (dat2 V c).arrAt_eq_of_covers 7 _ (by decide +kernel) fun t hf y => ?_
  blk_simp
  rw [after2_7]
  have e1 := in2_3 V c t y (((View.whole main_v2_2).slice (win2_7.rect t)).emb y) (by blk_simp [idx2_7]; try omega) (by blk_simp [idx2_7]; try omega)
  by_cases h : t.val < 8
  · have hg := in2_0 V c t h y (((View.whole main_v2_2).slice (win2_7.rect t)).emb y) (by blk_simp [idx2_7]; try omega) (by blk_simp [idx2_7]; try omega)
    rw [outsAt2_A V c t h (by omega)]
    frame_out
    try unfold k2_pay8
    try unfold k2_pay6
    try unfold k2_pay4
    try unfold k2_pay3
    try unfold k2_pay2
    try unfold k2_pay1
    generalize hs : k2_pay5 (F := Ideal) _ _ _ _ _ _ _ _ = s
    replace hg : s y = (grad (r := 2048) rfl (V c main_arg10) (V c main_arg11)) (((View.whole main_v2_2).slice (win2_7.rect t)).emb y) := by
      rw [← hs]
      unfold k2_pay5
      pointwise
      exact eight hg
    pointwise
    exact congrArg₂ mom1 hg e1
  · have hg := in2_1 V c t (by omega) y (((View.whole main_v2_2).slice (win2_7.rect t)).emb y) (by blk_simp [idx2_7]; try omega) (by blk_simp [idx2_7]; try omega)
    rw [outsAt2_B V c t h (by omega)]
    frame_out
    try unfold k2_pay8
    try unfold k2_pay6
    try unfold k2_pay4
    try unfold k2_pay3
    try unfold k2_pay2
    try unfold k2_pay1
    generalize hs : k2_pay7 (F := Ideal) _ _ _ _ _ _ _ _ = s
    replace hg : s y = (grad (r := 2048) rfl (V c main_arg10) (V c main_arg11)) (((View.whole main_v2_2).slice (win2_7.rect t)).emb y) := by
      rw [← hs]
      unfold k2_pay7
      pointwise
      exact eight hg
    pointwise
    exact congrArg₂ mom1 hg e1

set_option maxHeartbeats 1000000 in
theorem arr2_8 (c : Dev nD) : (dat2 V c).arrAt 8 cfg2.N
    = newV (grad (r := 2048) rfl (V c main_arg10) (V c main_arg11)) (V c main_arg14) := by
  refine (dat2 V c).arrAt_eq_of_covers 8 _ (by decide +kernel) fun t hf y => ?_
  blk_simp
  rw [after2_8]
  have e2 := in2_4 V c t y (((View.whole main_v2_3).slice (win2_8.rect t)).emb y) (by blk_simp [idx2_8]; try omega) (by blk_simp [idx2_8]; try omega)
  by_cases h : t.val < 8
  · have hg := in2_0 V c t h y (((View.whole main_v2_3).slice (win2_8.rect t)).emb y) (by blk_simp [idx2_8]; try omega) (by blk_simp [idx2_8]; try omega)
    rw [outsAt2_A V c t h (by omega)]
    frame_out
    try unfold k2_pay8
    try unfold k2_pay6
    try unfold k2_pay4
    try unfold k2_pay3
    try unfold k2_pay2
    try unfold k2_pay1
    generalize hs : k2_pay5 (F := Ideal) _ _ _ _ _ _ _ _ = s
    replace hg : s y = (grad (r := 2048) rfl (V c main_arg10) (V c main_arg11)) (((View.whole main_v2_3).slice (win2_8.rect t)).emb y) := by
      rw [← hs]
      unfold k2_pay5
      pointwise
      exact eight hg
    pointwise
    exact congrArg₂ mom2 hg e2
  · have hg := in2_1 V c t (by omega) y (((View.whole main_v2_3).slice (win2_8.rect t)).emb y) (by blk_simp [idx2_8]; try omega) (by blk_simp [idx2_8]; try omega)
    rw [outsAt2_B V c t h (by omega)]
    frame_out
    try unfold k2_pay8
    try unfold k2_pay6
    try unfold k2_pay4
    try unfold k2_pay3
    try unfold k2_pay2
    try unfold k2_pay1
    generalize hs : k2_pay7 (F := Ideal) _ _ _ _ _ _ _ _ = s
    replace hg : s y = (grad (r := 2048) rfl (V c main_arg10) (V c main_arg11)) (((View.whole main_v2_3).slice (win2_8.rect t)).emb y) := by
      rw [← hs]
      unfold k2_pay7
      pointwise
      exact eight hg
    pointwise
    exact congrArg₂ mom2 hg e2

end Cert.AdamwFf

end
-- ==== Proof.AdamwFfRegion3.lean ====
/- What each update of the second optimiser program leaves in its result arrays, over the extended reals: the whole arrays as
   functions of the arrays the update reads, whatever those hold. -/
module

public import proofs.«01_k».proof.Proof.Gen.AdamwFfKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.AdamwFf

open Idealize.ShloMosaic Idealize.ShloMosaic.TcCoe Idealize.SL.Sem
open Cert.AdamwFfKernelIdeal Cert.AdamwFfKernelIdeal.Gen
open Cert.Adamw

variable (V : (c : Dev nD) → (b : Ref sig .tc) → Buf (Elt Ideal) ((c : Thread nD τ).loc b))

/-! ## Update 3: the modulation's weights -/

theorem idx3_0 : ∀ t : Fin cfg3.N, t.val < 4 → win3_0.index t = ![0, t.val, 0] :=
  (by decide +kernel : ∀ t : Fin grid3.N, t.val < 4 → _)
theorem idx3_1 : ∀ t : Fin cfg3.N, 4 ≤ t.val → win3_1.index t = ![0, t.val - 4, 0] :=
  (by decide +kernel : ∀ t : Fin grid3.N, 4 ≤ t.val → _)
theorem idx3_2 : ∀ t : Fin cfg3.N, win3_2.index t = ![t.val, 0] :=
  (by decide +kernel : ∀ t : Fin grid3.N, _)
theorem idx3_3 : ∀ t : Fin cfg3.N, win3_3.index t = ![t.val, 0] :=
  (by decide +kernel : ∀ t : Fin grid3.N, _)
theorem idx3_4 : ∀ t : Fin cfg3.N, win3_4.index t = ![t.val, 0] :=
  (by decide +kernel : ∀ t : Fin grid3.N, _)
theorem idx3_5 : ∀ t : Fin cfg3.N, win3_5.index t = ![t.val, 0] :=
  (by decide +kernel : ∀ t : Fin grid3.N, _)
theorem idx3_6 : ∀ t : Fin cfg3.N, win3_6.index t = ![t.val, 0] :=
  (by decide +kernel : ∀ t : Fin grid3.N, _)
theorem idx3_7 : ∀ t : Fin cfg3.N, win3_7.index t = ![t.val, 0] :=
  (by decide +kernel : ∀ t : Fin grid3.N, _)
theorem idx3_8 : ∀ t : Fin cfg3.N, win3_8.index t = ![t.val, 0] :=
  (by decide +kernel : ∀ t : Fin grid3.N, _)

theorem in3_2 (c : Dev nD) (t : Fin cfg3.N) (y : (sh 256 768).Idx) (j : (sh 2048 768).Idx)
    (h0 : (j 0).val = t.val * 256 + (y 0).val) (h1 : (j 1).val = (y 1).val) :
    iblk3 V c 2 t y = V c main_arg17 j := by
  blk_simp [iblk3]
  refine congrArg (V c main_arg17) ?_
  blk_ext [idx3_2]
theorem in3_3 (c : Dev nD) (t : Fin cfg3.N) (y : (sh 256 768).Idx) (j : (sh 2048 768).Idx)
    (h0 : (j 0).val = t.val * 256 + (y 0).val) (h1 : (j 1).val = (y 1).val) :
    iblk3 V c 3 t y = V c main_arg18 j := by
  blk_simp [iblk3]
  refine congrArg (V c main_arg18) ?_
  blk_ext [idx3_3]
theorem in3_4 (c : Dev nD) (t : Fin cfg3.N) (y : (sh 256 768).Idx) (j : (sh 2048 768).Idx)
    (h0 : (j 0).val = t.val * 256 + (y 0).val) (h1 : (j 1).val = (y 1).val) :
    iblk3 V c 4 t y = V c main_arg19 j := by
  blk_simp [iblk3]
  refine congrArg (V c main_arg19) ?_
  blk_ext [idx3_4]
theorem in3_0 (c : Dev nD) (t : Fin cfg3.N) (h : t.val < 4) (y : (sh 256 768).Idx) (j : (sh 2048 768).Idx)
    (h0 : (j 0).val = t.val * 256 + (y 0).val) (h1 : (j 1).val = (y 1).val) :
    parts (n := 1) (p := 256) (c := 768) (iblk3 V c 0 t) (y 0) (y 1) = grad (r := 1024) rfl (V c main_arg15) (V c main_arg16) j := by
  idx_bounds y
  exact parts_top (by omega) fun d => by
    blk_simp [iblk3]
    refine congrArg (V c main_arg15) ?_
    blk_ext [idx3_0 t h]
theorem in3_1 (c : Dev nD) (t : Fin cfg3.N) (h : 4 ≤ t.val) (y : (sh 256 768).Idx) (j : (sh 2048 768).Idx)
    (h0 : (j 0).val = t.val * 256 + (y 0).val) (h1 : (j 1).val = (y 1).val) :
    parts (n := 1) (p := 256) (c := 768) (iblk3 V c 1 t) (y 0) (y 1) = grad (r := 1024) rfl (V c main_arg15) (V c main_arg16) j := by
  idx_bounds y
  exact parts_bot (by omega) fun d => by
    blk_simp [iblk3]
    refine congrArg (V c main_arg16) ?_
    blk_ext [idx3_1 t h]

set_option maxHeartbeats 1000000 in
theorem arr3_5 (c : Dev nD) : (dat3 V c).arrAt 5 cfg3.N
    = grad (r := 1024) rfl (V c main_arg15) (V c main_arg16) := by
  refine (dat3 V c).arrAt_eq_of_covers 5 _ (by decide +kernel) fun t hf y => ?_
  blk_simp
  rw [after3_5]
  by_cases h : t.val < 4
  · have hg := in3_0 V c t h y (((View.whole main_v3_0).slice (win3_5.rect t)).emb y) (by blk_simp [idx3_5]; try omega) (by blk_simp [idx3_5]; try omega)
    rw [outsAt3_A V c t h (by omega)]
    frame_out
    try unfold k3_pay8
    try unfold k3_pay7
    try unfold k3_pay6
    try unfold k3_pay4
    try unfold k3_pay3
    try unfold k3_pay2
    generalize hs : k3_pay1 (F := Ideal) _ = s
    replace hg : s y = (grad (r := 1024) rfl (V c main_arg15) (V c main_arg16)) (((View.whole main_v3_0).slice (win3_5.rect t)).emb y) := by
      rw [← hs]
      unfold k3_pay1
      pointwise
      exact single hg
    exact hg
  · have hg := in3_1 V c t (by omega) y (((View.whole main_v3_0).slice (win3_5.rect t)).emb y) (by blk_simp [idx3_5]; try omega) (by blk_simp [idx3_5]; try omega)
    rw [outsAt3_B V c t h (by omega)]
    frame_out
    try unfold k3_pay8
    try unfold k3_pay7
    try unfold k3_pay6
    try unfold k3_pay4
    try unfold k3_pay3
    try unfold k3_pay2
    generalize hs : k3_pay5 (F := Ideal) _ = s
    replace hg : s y = (grad (r := 1024) rfl (V c main_arg15) (V c main_arg16)) (((View.whole main_v3_0).slice (win3_5.rect t)).emb y) := by
      rw [← hs]
      unfold k3_pay5
      pointwise
      exact single hg
    exact hg

set_option maxHeartbeats 1000000 in
theorem arr3_6 (c : Dev nD) : (dat3 V c).arrAt 6 cfg3.N
    = delta (grad (r := 1024) rfl (V c main_arg15) (V c main_arg16)) (V c main_arg17) (V c main_arg18) (V c main_arg19) := by
  refine (dat3 V c).arrAt_eq_of_covers 6 _ (by decide +kernel) fun t hf y => ?_
  blk_simp
  rw [after3_6]
  have e0 := in3_2 V c t y (((View.whole main_v3_1).slice (win3_6.rect t)).emb y) (by blk_simp [idx3_6]; try omega) (by blk_simp [idx3_6]; try omega)
  have e1 := in3_3 V c t y (((View.whole main_v3_1).slice (win3_6.rect t)).emb y) (by blk_simp [idx3_6]; try omega) (by blk_simp [idx3_6]; try omega)
  have e2 := in3_4 V c t y (((View.whole main_v3_1).slice (win3_6.rect t)).emb y) (by blk_simp [idx3_6]; try omega) (by blk_simp [idx3_6]; try omega)
  by_cases h : t.val < 4
  · have hg := in3_0 V c t h y (((View.whole main_v3_1).slice (win3_6.rect t)).emb y) (by blk_simp [idx3_6]; try omega) (by blk_simp [idx3_6]; try omega)
    rw [outsAt3_A V c t h (by omega)]
    frame_out
    try unfold k3_pay8
    try unfold k3_pay7
    try unfold k3_pay6
    try unfold k3_pay4
    try unfold k3_pay3
    try unfold k3_pay2
    generalize hs : k3_pay1 (F := Ideal) _ = s
    replace hg : s y = (grad (r := 1024) rfl (V c main_arg15) (V c main_arg16)) (((View.whole main_v3_1).slice (win3_6.rect t)).emb y) := by
      rw [← hs]
      unfold k3_pay1
      pointwise
      exact single hg
    pointwise
    exact step_congr hg e0 e1 e2
  · have hg := in3_1 V c t (by omega) y (((View.whole main_v3_1).slice (win3_6.rect t)).emb y) (by blk_simp [idx3_6]; try omega) (by blk_simp [idx3_6]; try omega)
    rw [outsAt3_B V c t h (by omega)]
    frame_out
    try unfold k3_pay8
    try unfold k3_pay7
    try unfold k3_pay6
    try unfold k3_pay4
    try unfold k3_pay3
    try unfold k3_pay2
    generalize hs : k3_pay5 (F := Ideal) _ = s
    replace hg : s y = (grad (r := 1024) rfl (V c main_arg15) (V c main_arg16)) (((View.whole main_v3_1).slice (win3_6.rect t)).emb y) := by
      rw [← hs]
      unfold k3_pay5
      pointwise
      exact single hg
    pointwise
    exact step_congr hg e0 e1 e2

set_option maxHeartbeats 1000000 in
theorem arr3_7 (c : Dev nD) : (dat3 V c).arrAt 7 cfg3.N
    = newM (grad (r := 1024) rfl (V c main_arg15) (V c main_arg16)) (V c main_arg18) := by
  refine (dat3 V c).arrAt_eq_of_covers 7 _ (by decide +kernel) fun t hf y => ?_
  blk_simp
  rw [after3_7]
  have e1 := in3_3 V c t y (((View.whole main_v3_2).slice (win3_7.rect t)).emb y) (by blk_simp [idx3_7]; try omega) (by blk_simp [idx3_7]; try omega)
  by_cases h : t.val < 4
  · have hg := in3_0 V c t h y (((View.whole main_v3_2).slice (win3_7.rect t)).emb y) (by blk_simp [idx3_7]; try omega) (by blk_simp [idx3_7]; try omega)
    rw [outsAt3_A V c t h (by omega)]
    frame_out
    try unfold k3_pay8
    try unfold k3_pay7
    try unfold k3_pay6
    try unfold k3_pay4
    try unfold k3_pay3
    try unfold k3_pay2
    generalize hs : k3_pay1 (F := Ideal) _ = s
    replace hg : s y = (grad (r := 1024) rfl (V c main_arg15) (V c main_arg16)) (((View.whole main_v3_2).slice (win3_7.rect t)).emb y) := by
      rw [← hs]
      unfold k3_pay1
      pointwise
      exact single hg
    pointwise
    exact congrArg₂ mom1 hg e1
  · have hg := in3_1 V c t (by omega) y (((View.whole main_v3_2).slice (win3_7.rect t)).emb y) (by blk_simp [idx3_7]; try omega) (by blk_simp [idx3_7]; try omega)
    rw [outsAt3_B V c t h (by omega)]
    frame_out
    try unfold k3_pay8
    try unfold k3_pay7
    try unfold k3_pay6
    try unfold k3_pay4
    try unfold k3_pay3
    try unfold k3_pay2
    generalize hs : k3_pay5 (F := Ideal) _ = s
    replace hg : s y = (grad (r := 1024) rfl (V c main_arg15) (V c main_arg16)) (((View.whole main_v3_2).slice (win3_7.rect t)).emb y) := by
      rw [← hs]
      unfold k3_pay5
      pointwise
      exact single hg
    pointwise
    exact congrArg₂ mom1 hg e1

set_option maxHeartbeats 1000000 in
theorem arr3_8 (c : Dev nD) : (dat3 V c).arrAt 8 cfg3.N
    = newV (grad (r := 1024) rfl (V c main_arg15) (V c main_arg16)) (V c main_arg19) := by
  refine (dat3 V c).arrAt_eq_of_covers 8 _ (by decide +kernel) fun t hf y => ?_
  blk_simp
  rw [after3_8]
  have e2 := in3_4 V c t y (((View.whole main_v3_3).slice (win3_8.rect t)).emb y) (by blk_simp [idx3_8]; try omega) (by blk_simp [idx3_8]; try omega)
  by_cases h : t.val < 4
  · have hg := in3_0 V c t h y (((View.whole main_v3_3).slice (win3_8.rect t)).emb y) (by blk_simp [idx3_8]; try omega) (by blk_simp [idx3_8]; try omega)
    rw [outsAt3_A V c t h (by omega)]
    frame_out
    try unfold k3_pay8
    try unfold k3_pay7
    try unfold k3_pay6
    try unfold k3_pay4
    try unfold k3_pay3
    try unfold k3_pay2
    generalize hs : k3_pay1 (F := Ideal) _ = s
    replace hg : s y = (grad (r := 1024) rfl (V c main_arg15) (V c main_arg16)) (((View.whole main_v3_3).slice (win3_8.rect t)).emb y) := by
      rw [← hs]
      unfold k3_pay1
      pointwise
      exact single hg
    pointwise
    exact congrArg₂ mom2 hg e2
  · have hg := in3_1 V c t (by omega) y (((View.whole main_v3_3).slice (win3_8.rect t)).emb y) (by blk_simp [idx3_8]; try omega) (by blk_simp [idx3_8]; try omega)
    rw [outsAt3_B V c t h (by omega)]
    frame_out
    try unfold k3_pay8
    try unfold k3_pay7
    try unfold k3_pay6
    try unfold k3_pay4
    try unfold k3_pay3
    try unfold k3_pay2
    generalize hs : k3_pay5 (F := Ideal) _ = s
    replace hg : s y = (grad (r := 1024) rfl (V c main_arg15) (V c main_arg16)) (((View.whole main_v3_3).slice (win3_8.rect t)).emb y) := by
      rw [← hs]
      unfold k3_pay5
      pointwise
      exact single hg
    pointwise
    exact congrArg₂ mom2 hg e2

end Cert.AdamwFf

end
-- ==== Proof.AdamwFfRegion4.lean ====
/- What each update of the second optimiser program leaves in its result arrays, over the extended reals: the whole arrays as
   functions of the arrays the update reads, whatever those hold. -/
module

public import proofs.«01_k».proof.Proof.Gen.AdamwFfKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.AdamwFf

open Idealize.ShloMosaic Idealize.ShloMosaic.TcCoe Idealize.SL.Sem
open Cert.AdamwFfKernelIdeal Cert.AdamwFfKernelIdeal.Gen
open Cert.Adamw

variable (V : (c : Dev nD) → (b : Ref sig .tc) → Buf (Elt Ideal) ((c : Thread nD τ).loc b))

/-! ## Update 4: the packed small weights -/

theorem idx4_0 : ∀ t : Fin cfg4.N, win4_0.index t = ![0, t.val, 0] :=
  (by decide +kernel : ∀ t : Fin grid4.N, _)
theorem idx4_1 : ∀ t : Fin cfg4.N, win4_1.index t = ![t.val, 0] :=
  (by decide +kernel : ∀ t : Fin grid4.N, _)
theorem idx4_2 : ∀ t : Fin cfg4.N, win4_2.index t = ![t.val, 0] :=
  (by decide +kernel : ∀ t : Fin grid4.N, _)
theorem idx4_3 : ∀ t : Fin cfg4.N, win4_3.index t = ![t.val, 0] :=
  (by decide +kernel : ∀ t : Fin grid4.N, _)
theorem idx4_4 : ∀ t : Fin cfg4.N, win4_4.index t = ![t.val, 0] :=
  (by decide +kernel : ∀ t : Fin grid4.N, _)
theorem idx4_5 : ∀ t : Fin cfg4.N, win4_5.index t = ![t.val, 0] :=
  (by decide +kernel : ∀ t : Fin grid4.N, _)
theorem idx4_6 : ∀ t : Fin cfg4.N, win4_6.index t = ![t.val, 0] :=
  (by decide +kernel : ∀ t : Fin grid4.N, _)
theorem idx4_7 : ∀ t : Fin cfg4.N, win4_7.index t = ![t.val, 0] :=
  (by decide +kernel : ∀ t : Fin grid4.N, _)

theorem in4_1 (c : Dev nD) (t : Fin cfg4.N) (y : (sh 32 1024).Idx) (j : (sh 32 1024).Idx)
    (h0 : (j 0).val = t.val * 32 + (y 0).val) (h1 : (j 1).val = (y 1).val) :
    iblk4 V c 1 t y = V c main_arg21 j := by
  blk_simp [iblk4]
  refine congrArg (V c main_arg21) ?_
  blk_ext [idx4_1]
theorem in4_2 (c : Dev nD) (t : Fin cfg4.N) (y : (sh 32 1024).Idx) (j : (sh 32 1024).Idx)
    (h0 : (j 0).val = t.val * 32 + (y 0).val) (h1 : (j 1).val = (y 1).val) :
    iblk4 V c 2 t y = V c main_arg22 j := by
  blk_simp [iblk4]
  refine congrArg (V c main_arg22) ?_
  blk_ext [idx4_2]
theorem in4_3 (c : Dev nD) (t : Fin cfg4.N) (y : (sh 32 1024).Idx) (j : (sh 32 1024).Idx)
    (h0 : (j 0).val = t.val * 32 + (y 0).val) (h1 : (j 1).val = (y 1).val) :
    iblk4 V c 3 t y = V c main_arg23 j := by
  blk_simp [iblk4]
  refine congrArg (V c main_arg23) ?_
  blk_ext [idx4_3]
theorem in4_0 (c : Dev nD) (t : Fin cfg4.N) (y : (sh 32 1024).Idx) (j : (sh 32 1024).Idx)
    (h0 : (j 0).val = t.val * 32 + (y 0).val) (h1 : (j 1).val = (y 1).val) :
    parts (n := 1) (p := 32) (c := 1024) (iblk4 V c 0 t) (y 0) (y 1) = grad1 (V c main_arg20) j :=
  parts_one fun d => by
    blk_simp [iblk4]
    refine congrArg (V c main_arg20) ?_
    blk_ext [idx4_0]

set_option maxHeartbeats 1000000 in
theorem arr4_4 (c : Dev nD) : (dat4 V c).arrAt 4 cfg4.N
    = grad1 (V c main_arg20) := by
  refine (dat4 V c).arrAt_eq_of_covers 4 _ (by decide +kernel) fun t hf y => ?_
  blk_simp
  rw [after4_4]
  have hg := in4_0 V c t  y (((View.whole main_v4_0).slice (win4_4.rect t)).emb y) (by blk_simp [idx4_4]; try omega) (by blk_simp [idx4_4]; try omega)
  unfold outsAt4
  frame_out
  try unfold k4_pay4
  try unfold k4_pay3
  try unfold k4_pay2
  generalize hs : k4_pay1 (F := Ideal) _ = s
  replace hg : s y = (grad1 (V c main_arg20)) (((View.whole main_v4_0).slice (win4_4.rect t)).emb y) := by
    rw [← hs]
    unfold k4_pay1
    pointwise
    exact single hg
  exact hg

set_option maxHeartbeats 1000000 in
theorem arr4_5 (c : Dev nD) : (dat4 V c).arrAt 5 cfg4.N
    = delta (grad1 (V c main_arg20)) (V c main_arg21) (V c main_arg22) (V c main_arg23) := by
  refine (dat4 V c).arrAt_eq_of_covers 5 _ (by decide +kernel) fun t hf y => ?_
  blk_simp
  rw [after4_5]
  have e0 := in4_1 V c t y (((View.whole main_v4_1).slice (win4_5.rect t)).emb y) (by blk_simp [idx4_5]; try omega) (by blk_simp [idx4_5]; try omega)
  have e1 := in4_2 V c t y (((View.whole main_v4_1).slice (win4_5.rect t)).emb y) (by blk_simp [idx4_5]; try omega) (by blk_simp [idx4_5]; try omega)
  have e2 := in4_3 V c t y (((View.whole main_v4_1).slice (win4_5.rect t)).emb y) (by blk_simp [idx4_5]; try omega) (by blk_simp [idx4_5]; try omega)
  have hg := in4_0 V c t  y (((View.whole main_v4_1).slice (win4_5.rect t)).emb y) (by blk_simp [idx4_5]; try omega) (by blk_simp [idx4_5]; try omega)
  unfold outsAt4
  frame_out
  try unfold k4_pay4
  try unfold k4_pay3
  try unfold k4_pay2
  generalize hs : k4_pay1 (F := Ideal) _ = s
  replace hg : s y = (grad1 (V c main_arg20)) (((View.whole main_v4_1).slice (win4_5.rect t)).emb y) := by
    rw [← hs]
    unfold k4_pay1
    pointwise
    exact single hg
  pointwise
  exact step_congr hg e0 e1 e2

set_option maxHeartbeats 1000000 in
theorem arr4_6 (c : Dev nD) : (dat4 V c).arrAt 6 cfg4.N
    = newM (grad1 (V c main_arg20)) (V c main_arg22) := by
  refine (dat4 V c).arrAt_eq_of_covers 6 _ (by decide +kernel) fun t hf y => ?_
  blk_simp
  rw [after4_6]
  have e1 := in4_2 V c t y (((View.whole main_v4_2).slice (win4_6.rect t)).emb y) (by blk_simp [idx4_6]; try omega) (by blk_simp [idx4_6]; try omega)
  have hg := in4_0 V c t  y (((View.whole main_v4_2).slice (win4_6.rect t)).emb y) (by blk_simp [idx4_6]; try omega) (by blk_simp [idx4_6]; try omega)
  unfold outsAt4
  frame_out
  try unfold k4_pay4
  try unfold k4_pay3
  try unfold k4_pay2
  generalize hs : k4_pay1 (F := Ideal) _ = s
  replace hg : s y = (grad1 (V c main_arg20)) (((View.whole main_v4_2).slice (win4_6.rect t)).emb y) := by
    rw [← hs]
    unfold k4_pay1
    pointwise
    exact single hg
  pointwise
  exact congrArg₂ mom1 hg e1

set_option maxHeartbeats 1000000 in
theorem arr4_7 (c : Dev nD) : (dat4 V c).arrAt 7 cfg4.N
    = newV (grad1 (V c main_arg20)) (V c main_arg23) := by
  refine (dat4 V c).arrAt_eq_of_covers 7 _ (by decide +kernel) fun t hf y => ?_
  blk_simp
  rw [after4_7]
  have e2 := in4_3 V c t y (((View.whole main_v4_3).slice (win4_7.rect t)).emb y) (by blk_simp [idx4_7]; try omega) (by blk_simp [idx4_7]; try omega)
  have hg := in4_0 V c t  y (((View.whole main_v4_3).slice (win4_7.rect t)).emb y) (by blk_simp [idx4_7]; try omega) (by blk_simp [idx4_7]; try omega)
  unfold outsAt4
  frame_out
  try unfold k4_pay4
  try unfold k4_pay3
  try unfold k4_pay2
  generalize hs : k4_pay1 (F := Ideal) _ = s
  replace hg : s y = (grad1 (V c main_arg20)) (((View.whole main_v4_3).slice (win4_7.rect t)).emb y) := by
    rw [← hs]
    unfold k4_pay1
    pointwise
    exact single hg
  pointwise
  exact congrArg₂ mom2 hg e2

end Cert.AdamwFf

end
-- ==== Proof.AdamwFfKernelRun.lean ====
/- The second optimiser program's run read back: its result arrays as functions of the arguments, over the extended reals. -/
module

public import proofs.«01_k».proof.Proof.AdamwFfRegion0
public import proofs.«01_k».proof.Proof.AdamwFfRegion1
public import proofs.«01_k».proof.Proof.AdamwFfRegion2
public import proofs.«01_k».proof.Proof.AdamwFfRegion3
public import proofs.«01_k».proof.Proof.AdamwFfRegion4

@[expose] public section

set_option maxRecDepth 16384

noncomputable section

namespace Cert.AdamwFf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwFfKernelIdeal Cert.AdamwFfKernelIdeal.Gen
open Cert.Adamw

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the five updates every buffer of the program holds what the fold through them says. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c)

/-! ## The fold at the results -/

section
variable (c : Dev nD)

/-- Argument `0`: the first layer's gradient parts of the first weights of the feed-forward, at launch. -/
abbrev a0 : (sh3 8 1024 512).Idx → EReal := m ((c : Thread nD τ).loc main_arg0)
/-- Argument `1`: the second layer's gradient parts of the first weights of the feed-forward, at launch. -/
abbrev a1 : (sh3 8 1024 512).Idx → EReal := m ((c : Thread nD τ).loc main_arg1)
/-- Argument `2`: the first weights of the feed-forward, at launch. -/
abbrev a2 : (sh 2048 512).Idx → EReal := m ((c : Thread nD τ).loc main_arg2)
/-- Argument `3`: the first moments of the first weights of the feed-forward, at launch. -/
abbrev a3 : (sh 2048 512).Idx → EReal := m ((c : Thread nD τ).loc main_arg3)
/-- Argument `4`: the second moments of the first weights of the feed-forward, at launch. -/
abbrev a4 : (sh 2048 512).Idx → EReal := m ((c : Thread nD τ).loc main_arg4)
/-- Argument `5`: the first layer's gradient parts of its second weights, at launch. -/
abbrev a5 : (sh3 8 512 1024).Idx → EReal := m ((c : Thread nD τ).loc main_arg5)
/-- Argument `6`: the second layer's gradient parts of its second weights, at launch. -/
abbrev a6 : (sh3 8 512 1024).Idx → EReal := m ((c : Thread nD τ).loc main_arg6)
/-- Argument `7`: its second weights, at launch. -/
abbrev a7 : (sh 1024 1024).Idx → EReal := m ((c : Thread nD τ).loc main_arg7)
/-- Argument `8`: the first moments of its second weights, at launch. -/
abbrev a8 : (sh 1024 1024).Idx → EReal := m ((c : Thread nD τ).loc main_arg8)
/-- Argument `9`: the second moments of its second weights, at launch. -/
abbrev a9 : (sh 1024 1024).Idx → EReal := m ((c : Thread nD τ).loc main_arg9)
/-- Argument `10`: the first layer's gradient parts of the recurrence's gate weights, at launch. -/
abbrev a10 : (sh3 8 2048 64).Idx → EReal := m ((c : Thread nD τ).loc main_arg10)
/-- Argument `11`: the second layer's gradient parts of the recurrence's gate weights, at launch. -/
abbrev a11 : (sh3 8 2048 64).Idx → EReal := m ((c : Thread nD τ).loc main_arg11)
/-- Argument `12`: the recurrence's gate weights, at launch. -/
abbrev a12 : (sh 4096 64).Idx → EReal := m ((c : Thread nD τ).loc main_arg12)
/-- Argument `13`: the first moments of the recurrence's gate weights, at launch. -/
abbrev a13 : (sh 4096 64).Idx → EReal := m ((c : Thread nD τ).loc main_arg13)
/-- Argument `14`: the second moments of the recurrence's gate weights, at launch. -/
abbrev a14 : (sh 4096 64).Idx → EReal := m ((c : Thread nD τ).loc main_arg14)
/-- Argument `15`: the first layer's gradient parts of the modulation's weights, at launch. -/
abbrev a15 : (sh3 1 1024 768).Idx → EReal := m ((c : Thread nD τ).loc main_arg15)
/-- Argument `16`: the second layer's gradient parts of the modulation's weights, at launch. -/
abbrev a16 : (sh3 1 1024 768).Idx → EReal := m ((c : Thread nD τ).loc main_arg16)
/-- Argument `17`: the modulation's weights, at launch. -/
abbrev a17 : (sh 2048 768).Idx → EReal := m ((c : Thread nD τ).loc main_arg17)
/-- Argument `18`: the first moments of the modulation's weights, at launch. -/
abbrev a18 : (sh 2048 768).Idx → EReal := m ((c : Thread nD τ).loc main_arg18)
/-- Argument `19`: the second moments of the modulation's weights, at launch. -/
abbrev a19 : (sh 2048 768).Idx → EReal := m ((c : Thread nD τ).loc main_arg19)
/-- Argument `20`: the gradient of the packed small weights, at launch. -/
abbrev a20 : (sh3 1 32 1024).Idx → EReal := m ((c : Thread nD τ).loc main_arg20)
/-- Argument `21`: the packed small weights, at launch. -/
abbrev a21 : (sh 32 1024).Idx → EReal := m ((c : Thread nD τ).loc main_arg21)
/-- Argument `22`: the first moments of the packed small weights, at launch. -/
abbrev a22 : (sh 32 1024).Idx → EReal := m ((c : Thread nD τ).loc main_arg22)
/-- Argument `23`: the second moments of the packed small weights, at launch. -/
abbrev a23 : (sh 32 1024).Idx → EReal := m ((c : Thread nD τ).loc main_arg23)

/-- Update 0 leaves the gradient of the first weights of the feed-forward. -/
theorem end0_g : W5 m ρ c (Proc.devRef .tc main_v0_0) = grad (r := 1024) rfl (a0 m c) (a1 m c) :=
  (W5_of m ρ c main_v0_0 (by decide)).trans ((W4_of m ρ c main_v0_0 (by decide)).trans ((W3_of m ρ c main_v0_0 (by decide)).trans ((W2_of m ρ c main_v0_0 (by decide)).trans ((W1_arr m ρ c 5).trans ((arr0_5 (V0 m ρ) c).trans (congrArg₂ (grad (r := 1024) rfl) rfl rfl))))))

/-- Update 0 leaves the change of the first weights of the feed-forward. -/
theorem end0_delta : W5 m ρ c (Proc.devRef .tc main_v0_1) = delta (grad (r := 1024) rfl (a0 m c) (a1 m c)) (a2 m c) (a3 m c) (a4 m c) :=
  (W5_of m ρ c main_v0_1 (by decide)).trans ((W4_of m ρ c main_v0_1 (by decide)).trans ((W3_of m ρ c main_v0_1 (by decide)).trans ((W2_of m ρ c main_v0_1 (by decide)).trans ((W1_arr m ρ c 6).trans ((arr0_6 (V0 m ρ) c).trans (delta_congr (congrArg₂ (grad (r := 1024) rfl) rfl rfl) rfl rfl rfl))))))

/-- Update 0 leaves the new first moments of the first weights of the feed-forward. -/
theorem end0_m : W5 m ρ c (Proc.devRef .tc main_v0_2) = newM (grad (r := 1024) rfl (a0 m c) (a1 m c)) (a3 m c) :=
  (W5_of m ρ c main_v0_2 (by decide)).trans ((W4_of m ρ c main_v0_2 (by decide)).trans ((W3_of m ρ c main_v0_2 (by decide)).trans ((W2_of m ρ c main_v0_2 (by decide)).trans ((W1_arr m ρ c 7).trans ((arr0_7 (V0 m ρ) c).trans (congrArg₂ newM (congrArg₂ (grad (r := 1024) rfl) rfl rfl) rfl))))))

/-- Update 0 leaves the new second moments of the first weights of the feed-forward. -/
theorem end0_v : W5 m ρ c (Proc.devRef .tc main_v0_3) = newV (grad (r := 1024) rfl (a0 m c) (a1 m c)) (a4 m c) :=
  (W5_of m ρ c main_v0_3 (by decide)).trans ((W4_of m ρ c main_v0_3 (by decide)).trans ((W3_of m ρ c main_v0_3 (by decide)).trans ((W2_of m ρ c main_v0_3 (by decide)).trans ((W1_arr m ρ c 8).trans ((arr0_8 (V0 m ρ) c).trans (congrArg₂ newV (congrArg₂ (grad (r := 1024) rfl) rfl rfl) rfl))))))

/-- Update 1 leaves the gradient of its second weights. -/
theorem end1_g : W5 m ρ c (Proc.devRef .tc main_v1_0) = grad (r := 512) rfl (a5 m c) (a6 m c) :=
  (W5_of m ρ c main_v1_0 (by decide)).trans ((W4_of m ρ c main_v1_0 (by decide)).trans ((W3_of m ρ c main_v1_0 (by decide)).trans ((W2_arr m ρ c 5).trans ((arr1_5 (V1 m ρ) c).trans (congrArg₂ (grad (r := 512) rfl) (W1_args m ρ c main_arg5 (by decide)) (W1_args m ρ c main_arg6 (by decide)))))))

/-- Update 1 leaves the change of its second weights. -/
theorem end1_delta : W5 m ρ c (Proc.devRef .tc main_v1_1) = delta (grad (r := 512) rfl (a5 m c) (a6 m c)) (a7 m c) (a8 m c) (a9 m c) :=
  (W5_of m ρ c main_v1_1 (by decide)).trans ((W4_of m ρ c main_v1_1 (by decide)).trans ((W3_of m ρ c main_v1_1 (by decide)).trans ((W2_arr m ρ c 6).trans ((arr1_6 (V1 m ρ) c).trans (delta_congr (congrArg₂ (grad (r := 512) rfl) (W1_args m ρ c main_arg5 (by decide)) (W1_args m ρ c main_arg6 (by decide))) (W1_args m ρ c main_arg7 (by decide)) (W1_args m ρ c main_arg8 (by decide)) (W1_args m ρ c main_arg9 (by decide)))))))

/-- Update 1 leaves the new first moments of its second weights. -/
theorem end1_m : W5 m ρ c (Proc.devRef .tc main_v1_2) = newM (grad (r := 512) rfl (a5 m c) (a6 m c)) (a8 m c) :=
  (W5_of m ρ c main_v1_2 (by decide)).trans ((W4_of m ρ c main_v1_2 (by decide)).trans ((W3_of m ρ c main_v1_2 (by decide)).trans ((W2_arr m ρ c 7).trans ((arr1_7 (V1 m ρ) c).trans (congrArg₂ newM (congrArg₂ (grad (r := 512) rfl) (W1_args m ρ c main_arg5 (by decide)) (W1_args m ρ c main_arg6 (by decide))) (W1_args m ρ c main_arg8 (by decide)))))))

/-- Update 1 leaves the new second moments of its second weights. -/
theorem end1_v : W5 m ρ c (Proc.devRef .tc main_v1_3) = newV (grad (r := 512) rfl (a5 m c) (a6 m c)) (a9 m c) :=
  (W5_of m ρ c main_v1_3 (by decide)).trans ((W4_of m ρ c main_v1_3 (by decide)).trans ((W3_of m ρ c main_v1_3 (by decide)).trans ((W2_arr m ρ c 8).trans ((arr1_8 (V1 m ρ) c).trans (congrArg₂ newV (congrArg₂ (grad (r := 512) rfl) (W1_args m ρ c main_arg5 (by decide)) (W1_args m ρ c main_arg6 (by decide))) (W1_args m ρ c main_arg9 (by decide)))))))

/-- Update 2 leaves the gradient of the recurrence's gate weights. -/
theorem end2_g : W5 m ρ c (Proc.devRef .tc main_v2_0) = grad (r := 2048) rfl (a10 m c) (a11 m c) :=
  (W5_of m ρ c main_v2_0 (by decide)).trans ((W4_of m ρ c main_v2_0 (by decide)).trans ((W3_arr m ρ c 5).trans ((arr2_5 (V2 m ρ) c).trans (congrArg₂ (grad (r := 2048) rfl) (W2_args m ρ c main_arg10 (by decide)) (W2_args m ρ c main_arg11 (by decide))))))

/-- Update 2 leaves the change of the recurrence's gate weights. -/
theorem end2_delta : W5 m ρ c (Proc.devRef .tc main_v2_1) = delta (grad (r := 2048) rfl (a10 m c) (a11 m c)) (a12 m c) (a13 m c) (a14 m c) :=
  (W5_of m ρ c main_v2_1 (by decide)).trans ((W4_of m ρ c main_v2_1 (by decide)).trans ((W3_arr m ρ c 6).trans ((arr2_6 (V2 m ρ) c).trans (delta_congr (congrArg₂ (grad (r := 2048) rfl) (W2_args m ρ c main_arg10 (by decide)) (W2_args m ρ c main_arg11 (by decide))) (W2_args m ρ c main_arg12 (by decide)) (W2_args m ρ c main_arg13 (by decide)) (W2_args m ρ c main_arg14 (by decide))))))

/-- Update 2 leaves the new first moments of the recurrence's gate weights. -/
theorem end2_m : W5 m ρ c (Proc.devRef .tc main_v2_2) = newM (grad (r := 2048) rfl (a10 m c) (a11 m c)) (a13 m c) :=
  (W5_of m ρ c main_v2_2 (by decide)).trans ((W4_of m ρ c main_v2_2 (by decide)).trans ((W3_arr m ρ c 7).trans ((arr2_7 (V2 m ρ) c).trans (congrArg₂ newM (congrArg₂ (grad (r := 2048) rfl) (W2_args m ρ c main_arg10 (by decide)) (W2_args m ρ c main_arg11 (by decide))) (W2_args m ρ c main_arg13 (by decide))))))

/-- Update 2 leaves the new second moments of the recurrence's gate weights. -/
theorem end2_v : W5 m ρ c (Proc.devRef .tc main_v2_3) = newV (grad (r := 2048) rfl (a10 m c) (a11 m c)) (a14 m c) :=
  (W5_of m ρ c main_v2_3 (by decide)).trans ((W4_of m ρ c main_v2_3 (by decide)).trans ((W3_arr m ρ c 8).trans ((arr2_8 (V2 m ρ) c).trans (congrArg₂ newV (congrArg₂ (grad (r := 2048) rfl) (W2_args m ρ c main_arg10 (by decide)) (W2_args m ρ c main_arg11 (by decide))) (W2_args m ρ c main_arg14 (by decide))))))

/-- Update 3 leaves the gradient of the modulation's weights. -/
theorem end3_g : W5 m ρ c (Proc.devRef .tc main_v3_0) = grad (r := 1024) rfl (a15 m c) (a16 m c) :=
  (W5_of m ρ c main_v3_0 (by decide)).trans ((W4_arr m ρ c 5).trans ((arr3_5 (V3 m ρ) c).trans (congrArg₂ (grad (r := 1024) rfl) (W3_args m ρ c main_arg15 (by decide)) (W3_args m ρ c main_arg16 (by decide)))))

/-- Update 3 leaves the change of the modulation's weights. -/
theorem end3_delta : W5 m ρ c (Proc.devRef .tc main_v3_1) = delta (grad (r := 1024) rfl (a15 m c) (a16 m c)) (a17 m c) (a18 m c) (a19 m c) :=
  (W5_of m ρ c main_v3_1 (by decide)).trans ((W4_arr m ρ c 6).trans ((arr3_6 (V3 m ρ) c).trans (delta_congr (congrArg₂ (grad (r := 1024) rfl) (W3_args m ρ c main_arg15 (by decide)) (W3_args m ρ c main_arg16 (by decide))) (W3_args m ρ c main_arg17 (by decide)) (W3_args m ρ c main_arg18 (by decide)) (W3_args m ρ c main_arg19 (by decide)))))

/-- Update 3 leaves the new first moments of the modulation's weights. -/
theorem end3_m : W5 m ρ c (Proc.devRef .tc main_v3_2) = newM (grad (r := 1024) rfl (a15 m c) (a16 m c)) (a18 m c) :=
  (W5_of m ρ c main_v3_2 (by decide)).trans ((W4_arr m ρ c 7).trans ((arr3_7 (V3 m ρ) c).trans (congrArg₂ newM (congrArg₂ (grad (r := 1024) rfl) (W3_args m ρ c main_arg15 (by decide)) (W3_args m ρ c main_arg16 (by decide))) (W3_args m ρ c main_arg18 (by decide)))))

/-- Update 3 leaves the new second moments of the modulation's weights. -/
theorem end3_v : W5 m ρ c (Proc.devRef .tc main_v3_3) = newV (grad (r := 1024) rfl (a15 m c) (a16 m c)) (a19 m c) :=
  (W5_of m ρ c main_v3_3 (by decide)).trans ((W4_arr m ρ c 8).trans ((arr3_8 (V3 m ρ) c).trans (congrArg₂ newV (congrArg₂ (grad (r := 1024) rfl) (W3_args m ρ c main_arg15 (by decide)) (W3_args m ρ c main_arg16 (by decide))) (W3_args m ρ c main_arg19 (by decide)))))

/-- Update 4 leaves the gradient of the packed small weights. -/
theorem end4_g : W5 m ρ c (Proc.devRef .tc main_v4_0) = grad1 (a20 m c) :=
  (W5_arr m ρ c 4).trans ((arr4_4 (V4 m ρ) c).trans (congrArg grad1 (W4_args m ρ c main_arg20 (by decide))))

/-- Update 4 leaves the change of the packed small weights. -/
theorem end4_delta : W5 m ρ c (Proc.devRef .tc main_v4_1) = delta (grad1 (a20 m c)) (a21 m c) (a22 m c) (a23 m c) :=
  (W5_arr m ρ c 5).trans ((arr4_5 (V4 m ρ) c).trans (delta_congr (congrArg grad1 (W4_args m ρ c main_arg20 (by decide))) (W4_args m ρ c main_arg21 (by decide)) (W4_args m ρ c main_arg22 (by decide)) (W4_args m ρ c main_arg23 (by decide))))

/-- Update 4 leaves the new first moments of the packed small weights. -/
theorem end4_m : W5 m ρ c (Proc.devRef .tc main_v4_2) = newM (grad1 (a20 m c)) (a22 m c) :=
  (W5_arr m ρ c 6).trans ((arr4_6 (V4 m ρ) c).trans (congrArg₂ newM (congrArg grad1 (W4_args m ρ c main_arg20 (by decide))) (W4_args m ρ c main_arg22 (by decide))))

/-- Update 4 leaves the new second moments of the packed small weights. -/
theorem end4_v : W5 m ρ c (Proc.devRef .tc main_v4_3) = newV (grad1 (a20 m c)) (a23 m c) :=
  (W5_arr m ρ c 7).trans ((arr4_7 (V4 m ρ) c).trans (congrArg₂ newV (congrArg grad1 (W4_args m ρ c main_arg20 (by decide))) (W4_args m ρ c main_arg23 (by decide))))

end

/-- THE RUN: the results are the gradients and the AdamW step's arrays; the arguments are unchanged. -/
theorem kernel_run : θ_run defs (onTc (τ := τ) (main (F := Ideal))) ⟨m, fun _ => 0, ρ⟩ (fun r => ∀ c : Dev nD,
      r.2.mem ((c : Thread nD τ).loc main_v0_0) = grad (r := 1024) rfl (a0 m c) (a1 m c)
      ∧ r.2.mem ((c : Thread nD τ).loc main_v0_1) = delta (grad (r := 1024) rfl (a0 m c) (a1 m c)) (a2 m c) (a3 m c) (a4 m c)
      ∧ r.2.mem ((c : Thread nD τ).loc main_v0_2) = newM (grad (r := 1024) rfl (a0 m c) (a1 m c)) (a3 m c)
      ∧ r.2.mem ((c : Thread nD τ).loc main_v0_3) = newV (grad (r := 1024) rfl (a0 m c) (a1 m c)) (a4 m c)
      ∧ r.2.mem ((c : Thread nD τ).loc main_v1_0) = grad (r := 512) rfl (a5 m c) (a6 m c)
      ∧ r.2.mem ((c : Thread nD τ).loc main_v1_1) = delta (grad (r := 512) rfl (a5 m c) (a6 m c)) (a7 m c) (a8 m c) (a9 m c)
      ∧ r.2.mem ((c : Thread nD τ).loc main_v1_2) = newM (grad (r := 512) rfl (a5 m c) (a6 m c)) (a8 m c)
      ∧ r.2.mem ((c : Thread nD τ).loc main_v1_3) = newV (grad (r := 512) rfl (a5 m c) (a6 m c)) (a9 m c)
      ∧ r.2.mem ((c : Thread nD τ).loc main_v2_0) = grad (r := 2048) rfl (a10 m c) (a11 m c)
      ∧ r.2.mem ((c : Thread nD τ).loc main_v2_1) = delta (grad (r := 2048) rfl (a10 m c) (a11 m c)) (a12 m c) (a13 m c) (a14 m c)
      ∧ r.2.mem ((c : Thread nD τ).loc main_v2_2) = newM (grad (r := 2048) rfl (a10 m c) (a11 m c)) (a13 m c)
      ∧ r.2.mem ((c : Thread nD τ).loc main_v2_3) = newV (grad (r := 2048) rfl (a10 m c) (a11 m c)) (a14 m c)
      ∧ r.2.mem ((c : Thread nD τ).loc main_v3_0) = grad (r := 1024) rfl (a15 m c) (a16 m c)
      ∧ r.2.mem ((c : Thread nD τ).loc main_v3_1) = delta (grad (r := 1024) rfl (a15 m c) (a16 m c)) (a17 m c) (a18 m c) (a19 m c)
      ∧ r.2.mem ((c : Thread nD τ).loc main_v3_2) = newM (grad (r := 1024) rfl (a15 m c) (a16 m c)) (a18 m c)
      ∧ r.2.mem ((c : Thread nD τ).loc main_v3_3) = newV (grad (r := 1024) rfl (a15 m c) (a16 m c)) (a19 m c)
      ∧ r.2.mem ((c : Thread nD τ).loc main_v4_0) = grad1 (a20 m c)
      ∧ r.2.mem ((c : Thread nD τ).loc main_v4_1) = delta (grad1 (a20 m c)) (a21 m c) (a22 m c) (a23 m c)
      ∧ r.2.mem ((c : Thread nD τ).loc main_v4_2) = newM (grad1 (a20 m c)) (a22 m c)
      ∧ r.2.mem ((c : Thread nD τ).loc main_v4_3) = newV (grad1 (a20 m c)) (a23 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)) :=
  (θ_run defs _ _).mono (fun _ h c =>
    ⟨(h c _ (mem_uc main_v0_0 (by decide))).trans (end0_g m ρ c),
     (h c _ (mem_uc main_v0_1 (by decide))).trans (end0_delta m ρ c),
     (h c _ (mem_uc main_v0_2 (by decide))).trans (end0_m m ρ c),
     (h c _ (mem_uc main_v0_3 (by decide))).trans (end0_v m ρ c),
     (h c _ (mem_uc main_v1_0 (by decide))).trans (end1_g m ρ c),
     (h c _ (mem_uc main_v1_1 (by decide))).trans (end1_delta m ρ c),
     (h c _ (mem_uc main_v1_2 (by decide))).trans (end1_m m ρ c),
     (h c _ (mem_uc main_v1_3 (by decide))).trans (end1_v m ρ c),
     (h c _ (mem_uc main_v2_0 (by decide))).trans (end2_g m ρ c),
     (h c _ (mem_uc main_v2_1 (by decide))).trans (end2_delta m ρ c),
     (h c _ (mem_uc main_v2_2 (by decide))).trans (end2_m m ρ c),
     (h c _ (mem_uc main_v2_3 (by decide))).trans (end2_v m ρ c),
     (h c _ (mem_uc main_v3_0 (by decide))).trans (end3_g m ρ c),
     (h c _ (mem_uc main_v3_1 (by decide))).trans (end3_delta m ρ c),
     (h c _ (mem_uc main_v3_2 (by decide))).trans (end3_m m ρ c),
     (h c _ (mem_uc main_v3_3 (by decide))).trans (end3_v m ρ c),
     (h c _ (mem_uc main_v4_0 (by decide))).trans (end4_g m ρ c),
     (h c _ (mem_uc main_v4_1 (by decide))).trans (end4_delta m ρ c),
     (h c _ (mem_uc main_v4_2 (by decide))).trans (end4_m m ρ c),
     (h c _ (mem_uc main_v4_3 (by decide))).trans (end4_v m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c),
     (h c _ (mem_uc main_arg21 (by decide))).trans (W5_main_arg21 m ρ c),
     (h c _ (mem_uc main_arg22 (by decide))).trans (W5_main_arg22 m ρ c),
     (h c _ (mem_uc main_arg23 (by decide))).trans (W5_main_arg23 m ρ c)⟩)
    (run_boundary m ρ)

end Cert.AdamwFf

end
-- ==== Proof.AdamwFfReference.lean ====
/- The plain optimiser's second group of weights over the extended reals: the same functions of the arguments. -/
module

public import proofs.«01_k».proof.Proof.Gen.AdamwFfReferenceIdeal.Read
public import proofs.«01_k».proof.Proof.AdamwMath

@[expose] public section

set_option maxRecDepth 16384

noncomputable section

namespace Cert.AdamwFf

open Idealize.ShloMosaic
open Cert.AdamwFfReferenceIdeal Cert.AdamwFfReferenceIdeal.Gen Cert.AdamwFfReferenceIdeal.Read
open Cert.Adamw

/-! ## The first weights of the feed-forward -/

section
variable (x0 x1 : (sh3 8 1024 512).Idx → EReal) (x2 x3 x4 : (sh 2048 512).Idx → EReal)

theorem ref0_g : val_main_v4 (F := Ideal) x0 x1 = grad (r := 1024) rfl x0 x1 := by
  funext j
  unfold val_main_v4
  pointwise
  unfold grad
  refine dite_congr rfl (fun h => ?_) fun h => ?_
  · rw [val_main_v1_apply]
    unfold val_main_v0 val_main_cst
    pointwise
    refine Fintype.sum_congr _ _ fun d => congrArg x0 ?_
    funext a
    fin_cases a <;> rfl
  · rw [val_main_v3_apply]
    unfold val_main_v2 val_main_cst_0
    pointwise
    refine Fintype.sum_congr _ _ fun d => congrArg x1 ?_
    funext a
    fin_cases a <;> rfl

theorem ref0_delta : val_main_v28 (F := Ideal) x0 x1 x2 x3 x4 = delta (grad (r := 1024) rfl x0 x1) x2 x3 x4 := by
  funext j
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_cst_5 val_main_cst_1 val_main_cst_2 val_main_cst_3 val_main_cst_4 val_main_cst_6 val_main_cst_7 val_main_cst_8 val_main_cst_9
  rw [ref0_g]
  pointwise
  rfl

theorem ref0_m : val_main_v9 (F := Ideal) x0 x1 x3 = newM (grad (r := 1024) rfl x0 x1) x3 := by
  funext j
  unfold val_main_v9 val_main_v8 val_main_v7 val_main_v6 val_main_v5 val_main_cst_1 val_main_cst_2
  rw [ref0_g]
  pointwise
  rfl

theorem ref0_v : val_main_v15 (F := Ideal) x0 x1 x4 = newV (grad (r := 1024) rfl x0 x1) x4 := by
  funext j
  unfold val_main_v15 val_main_v14 val_main_v13 val_main_v12 val_main_v11 val_main_v10 val_main_cst_3 val_main_cst_4
  rw [ref0_g]
  pointwise
  rfl

end

/-! ## Its second weights -/

section
variable (x5 x6 : (sh3 8 512 1024).Idx → EReal) (x7 x8 x9 : (sh 1024 1024).Idx → EReal)

theorem ref1_g : val_main_v33 (F := Ideal) x5 x6 = grad (r := 512) rfl x5 x6 := by
  funext j
  unfold val_main_v33
  pointwise
  unfold grad
  refine dite_congr rfl (fun h => ?_) fun h => ?_
  · rw [val_main_v30_apply]
    unfold val_main_v29 val_main_cst_10
    pointwise
    refine Fintype.sum_congr _ _ fun d => congrArg x5 ?_
    funext a
    fin_cases a <;> rfl
  · rw [val_main_v32_apply]
    unfold val_main_v31 val_main_cst_11
    pointwise
    refine Fintype.sum_congr _ _ fun d => congrArg x6 ?_
    funext a
    fin_cases a <;> rfl

theorem ref1_delta : val_main_v57 (F := Ideal) x5 x6 x7 x8 x9 = delta (grad (r := 512) rfl x5 x6) x7 x8 x9 := by
  funext j
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_12 val_main_cst_13 val_main_cst_16 val_main_cst_14 val_main_cst_15 val_main_cst_17 val_main_cst_18 val_main_cst_19 val_main_cst_20
  rw [ref1_g]
  pointwise
  rfl

theorem ref1_m : val_main_v38 (F := Ideal) x5 x6 x8 = newM (grad (r := 512) rfl x5 x6) x8 := by
  funext j
  unfold val_main_v38 val_main_v37 val_main_v36 val_main_v35 val_main_v34 val_main_cst_12 val_main_cst_13
  rw [ref1_g]
  pointwise
  rfl

theorem ref1_v : val_main_v44 (F := Ideal) x5 x6 x9 = newV (grad (r := 512) rfl x5 x6) x9 := by
  funext j
  unfold val_main_v44 val_main_v43 val_main_v42 val_main_v41 val_main_v40 val_main_v39 val_main_cst_14 val_main_cst_15
  rw [ref1_g]
  pointwise
  rfl

end

/-! ## The recurrence's gate weights -/

section
variable (x10 x11 : (sh3 8 2048 64).Idx → EReal) (x12 x13 x14 : (sh 4096 64).Idx → EReal)

theorem ref2_g : val_main_v60 (F := Ideal) x10 x11 = grad (r := 2048) rfl x10 x11 := by
  funext j
  unfold val_main_v60
  pointwise
  unfold grad
  refine dite_congr rfl (fun h => ?_) fun h => ?_
  · rw [val_main_v58_apply]
    unfold val_main_cst_21
    pointwise
    refine Fintype.sum_congr _ _ fun d => congrArg x10 ?_
    funext a
    fin_cases a <;> rfl
  · rw [val_main_v59_apply]
    unfold val_main_cst_22
    pointwise
    refine Fintype.sum_congr _ _ fun d => congrArg x11 ?_
    funext a
    fin_cases a <;> rfl

theorem ref2_delta : val_main_v84 (F := Ideal) x10 x11 x12 x13 x14 = delta (grad (r := 2048) rfl x10 x11) x12 x13 x14 := by
  funext j
  unfold val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_cst_23 val_main_cst_24 val_main_cst_27 val_main_cst_25 val_main_cst_26 val_main_cst_28 val_main_cst_29 val_main_cst_30 val_main_cst_31
  rw [ref2_g]
  pointwise
  rfl

theorem ref2_m : val_main_v65 (F := Ideal) x10 x11 x13 = newM (grad (r := 2048) rfl x10 x11) x13 := by
  funext j
  unfold val_main_v65 val_main_v64 val_main_v63 val_main_v62 val_main_v61 val_main_cst_23 val_main_cst_24
  rw [ref2_g]
  pointwise
  rfl

theorem ref2_v : val_main_v71 (F := Ideal) x10 x11 x14 = newV (grad (r := 2048) rfl x10 x11) x14 := by
  funext j
  unfold val_main_v71 val_main_v70 val_main_v69 val_main_v68 val_main_v67 val_main_v66 val_main_cst_25 val_main_cst_26
  rw [ref2_g]
  pointwise
  rfl

end

/-! ## The modulation's weights -/

section
variable (x15 x16 : (sh3 1 1024 768).Idx → EReal) (x17 x18 x19 : (sh 2048 768).Idx → EReal)

theorem ref3_g : val_main_v87 (F := Ideal) x15 x16 = grad (r := 1024) rfl x15 x16 := by
  funext j
  unfold val_main_v87
  pointwise
  unfold grad
  refine dite_congr rfl (fun h => ?_) fun h => ?_
  · rw [val_main_v85_apply]
    unfold val_main_cst_32
    pointwise
    refine Fintype.sum_congr _ _ fun d => congrArg x15 ?_
    funext a
    fin_cases a <;> rfl
  · rw [val_main_v86_apply]
    unfold val_main_cst_33
    pointwise
    refine Fintype.sum_congr _ _ fun d => congrArg x16 ?_
    funext a
    fin_cases a <;> rfl

theorem ref3_delta : val_main_v111 (F := Ideal) x15 x16 x17 x18 x19 = delta (grad (r := 1024) rfl x15 x16) x17 x18 x19 := by
  funext j
  unfold val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_cst_34 val_main_cst_35 val_main_cst_38 val_main_cst_39 val_main_cst_36 val_main_cst_37 val_main_cst_40 val_main_cst_41 val_main_cst_42
  rw [ref3_g]
  pointwise
  rfl

theorem ref3_m : val_main_v92 (F := Ideal) x15 x16 x18 = newM (grad (r := 1024) rfl x15 x16) x18 := by
  funext j
  unfold val_main_v92 val_main_v91 val_main_v90 val_main_v89 val_main_v88 val_main_cst_34 val_main_cst_35
  rw [ref3_g]
  pointwise
  rfl

theorem ref3_v : val_main_v98 (F := Ideal) x15 x16 x19 = newV (grad (r := 1024) rfl x15 x16) x19 := by
  funext j
  unfold val_main_v98 val_main_v97 val_main_v96 val_main_v95 val_main_v94 val_main_v93 val_main_cst_36 val_main_cst_37
  rw [ref3_g]
  pointwise
  rfl

end

/-! ## The packed small weights -/

section
variable (x20 : (sh3 1 32 1024).Idx → EReal) (x21 x22 x23 : (sh 32 1024).Idx → EReal)

theorem ref4_g : val_main_v112 (F := Ideal) x20 = grad1 x20 := by
  funext j
  unfold val_main_v112
  pointwise
  unfold grad1
  rw [Fin.sum_univ_one]

theorem ref4_delta : val_main_v136 (F := Ideal) x20 x21 x22 x23 = delta (grad1 x20) x21 x22 x23 := by
  funext j
  unfold val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_cst_43 val_main_cst_44 val_main_cst_47 val_main_cst_45 val_main_cst_46 val_main_cst_48 val_main_cst_49 val_main_cst_50 val_main_cst_51
  rw [ref4_g]
  pointwise
  rfl

theorem ref4_m : val_main_v117 (F := Ideal) x20 x22 = newM (grad1 x20) x22 := by
  funext j
  unfold val_main_v117 val_main_v116 val_main_v115 val_main_v114 val_main_v113 val_main_cst_43 val_main_cst_44
  rw [ref4_g]
  pointwise
  rfl

theorem ref4_v : val_main_v123 (F := Ideal) x20 x23 = newV (grad1 x20) x23 := by
  funext j
  unfold val_main_v123 val_main_v122 val_main_v121 val_main_v120 val_main_v119 val_main_v118 val_main_cst_45 val_main_cst_46
  rw [ref4_g]
  pointwise
  rfl

end

end Cert.AdamwFf

end
-- ==== Proof.AdamwFfClaim.lean ====
/- The second optimiser program's claims: the kernel's updates and the plain AdamW step end with equal arrays. -/
module

public import proofs.«01_k».proof.Defs
public import proofs.«01_k».proof.Proof.Gen.AdamwFfKernel
public import proofs.«01_k».proof.Proof.Gen.AdamwFfKernel.Frame
public import proofs.«01_k».proof.Proof.Gen.AdamwFfReferenceIdeal.Run
public import proofs.«01_k».proof.Proof.AdamwFfKernelRun
public import proofs.«01_k».proof.Proof.AdamwFfReference
public import Idealize.ShloMosaic.Lib.Quiescent

@[expose] public section

set_option maxRecDepth 16384

noncomputable section

namespace Cert.AdamwFf

open Idealize.ShloMosaic Idealize.SL.Sem
open Cert.Adamw

/-- The plain step runs to its end; it has no semaphores. -/
theorem reference_frame : Cert.quiescent_AdamwFfReferenceIdeal := fun m ρ _ =>
  (θ_run Cert.AdamwFfReferenceIdeal.defs _ _).mono (fun r h => ⟨fun c => (h c).2.2.2.2.2.2.2.2.2.2.2.2.2.2.2.2.2.2.2.2, sem_eq_zero_of_no_sems (by decide) r.2⟩)
    (Cert.AdamwFfReferenceIdeal.Value.run (F := Ideal) m ρ)

/-- Equal results from equal arguments. -/
theorem algebraic : Cert.algebraic_AdamwFfKernelIdeal_AdamwFfReferenceIdeal := by
  intro m ρ m' ρ' _ hagree
  refine ⟨fun c => grad (r := 1024) rfl (a0 m c) (a1 m c),
    fun c => delta (grad (r := 1024) rfl (a0 m c) (a1 m c)) (a2 m c) (a3 m c) (a4 m c),
    fun c => newM (grad (r := 1024) rfl (a0 m c) (a1 m c)) (a3 m c),
    fun c => newV (grad (r := 1024) rfl (a0 m c) (a1 m c)) (a4 m c),
    fun c => grad (r := 512) rfl (a5 m c) (a6 m c),
    fun c => delta (grad (r := 512) rfl (a5 m c) (a6 m c)) (a7 m c) (a8 m c) (a9 m c),
    fun c => newM (grad (r := 512) rfl (a5 m c) (a6 m c)) (a8 m c),
    fun c => newV (grad (r := 512) rfl (a5 m c) (a6 m c)) (a9 m c),
    fun c => grad (r := 2048) rfl (a10 m c) (a11 m c),
    fun c => delta (grad (r := 2048) rfl (a10 m c) (a11 m c)) (a12 m c) (a13 m c) (a14 m c),
    fun c => newM (grad (r := 2048) rfl (a10 m c) (a11 m c)) (a13 m c),
    fun c => newV (grad (r := 2048) rfl (a10 m c) (a11 m c)) (a14 m c),
    fun c => grad (r := 1024) rfl (a15 m c) (a16 m c),
    fun c => delta (grad (r := 1024) rfl (a15 m c) (a16 m c)) (a17 m c) (a18 m c) (a19 m c),
    fun c => newM (grad (r := 1024) rfl (a15 m c) (a16 m c)) (a18 m c),
    fun c => newV (grad (r := 1024) rfl (a15 m c) (a16 m c)) (a19 m c),
    fun c => grad1 (a20 m c),
    fun c => delta (grad1 (a20 m c)) (a21 m c) (a22 m c) (a23 m c),
    fun c => newM (grad1 (a20 m c)) (a22 m c),
    fun c => newV (grad1 (a20 m c)) (a23 m c), kernel_run m ρ, ?_⟩
  refine (θ_run Cert.AdamwFfReferenceIdeal.defs _ _).mono (fun _ h c => ?_) (Cert.AdamwFfReferenceIdeal.Value.run (F := Ideal) m' ρ')
  obtain ⟨h0, h1, h2, h3, h4, h5, h6, h7, h8, h9, h10, h11, h12, h13, h14, h15, h16, h17, h18, h19, hargs⟩ := h c
  obtain ⟨e0, e1, e2, e3, e4, e5, e6, e7, e8, e9, e10, e11, e12, e13, e14, e15, e16, e17, e18, e19, e20, e21, e22, e23⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, hargs⟩
  · exact (Cert.AdamwFfReferenceIdeal.Read.val_main_v4_eq _).trans (show Cert.AdamwFfReferenceIdeal.Read.val_main_v4 (F := Ideal) (m' ((c.tc : Thread Cert.AdamwFfReferenceIdeal.nD Cert.AdamwFfReferenceIdeal.τ).loc Cert.AdamwFfReferenceIdeal.main_arg0)) (m' ((c.tc : Thread Cert.AdamwFfReferenceIdeal.nD Cert.AdamwFfReferenceIdeal.τ).loc Cert.AdamwFfReferenceIdeal.main_arg1)) = _ by
      rw [e0, e1]; exact ref0_g _ _)
  · exact (Cert.AdamwFfReferenceIdeal.Read.val_main_v28_eq _).trans (show Cert.AdamwFfReferenceIdeal.Read.val_main_v28 (F := Ideal) (m' ((c.tc : Thread Cert.AdamwFfReferenceIdeal.nD Cert.AdamwFfReferenceIdeal.τ).loc Cert.AdamwFfReferenceIdeal.main_arg0)) (m' ((c.tc : Thread Cert.AdamwFfReferenceIdeal.nD Cert.AdamwFfReferenceIdeal.τ).loc Cert.AdamwFfReferenceIdeal.main_arg1)) (m' ((c.tc : Thread Cert.AdamwFfReferenceIdeal.nD Cert.AdamwFfReferenceIdeal.τ).loc Cert.AdamwFfReferenceIdeal.main_arg2)) (m' ((c.tc : Thread Cert.AdamwFfReferenceIdeal.nD Cert.AdamwFfReferenceIdeal.τ).loc Cert.AdamwFfReferenceIdeal.main_arg3)) (m' ((c.tc : Thread Cert.AdamwFfReferenceIdeal.nD Cert.AdamwFfReferenceIdeal.τ).loc Cert.AdamwFfReferenceIdeal.main_arg4)) = _ by
      rw [e0, e1, e2, e3, e4]; exact ref0_delta _ _ _ _ _)
  · exact (Cert.AdamwFfReferenceIdeal.Read.val_main_v9_eq _).trans (show Cert.AdamwFfReferenceIdeal.Read.val_main_v9 (F := Ideal) (m' ((c.tc : Thread Cert.AdamwFfReferenceIdeal.nD Cert.AdamwFfReferenceIdeal.τ).loc Cert.AdamwFfReferenceIdeal.main_arg0)) (m' ((c.tc : Thread Cert.AdamwFfReferenceIdeal.nD Cert.AdamwFfReferenceIdeal.τ).loc Cert.AdamwFfReferenceIdeal.main_arg1)) (m' ((c.tc : Thread Cert.AdamwFfReferenceIdeal.nD Cert.AdamwFfReferenceIdeal.τ).loc Cert.AdamwFfReferenceIdeal.main_arg3)) = _ by
      rw [e0, e1, e3]; exact ref0_m _ _ _)
  · exact (Cert.AdamwFfReferenceIdeal.Read.val_main_v15_eq _).trans (show Cert.AdamwFfReferenceIdeal.Read.val_main_v15 (F := Ideal) (m' ((c.tc : Thread Cert.AdamwFfReferenceIdeal.nD Cert.AdamwFfReferenceIdeal.τ).loc Cert.AdamwFfReferenceIdeal.main_arg0)) (m' ((c.tc : Thread Cert.AdamwFfReferenceIdeal.nD Cert.AdamwFfReferenceIdeal.τ).loc Cert.AdamwFfReferenceIdeal.main_arg1)) (m' ((c.tc : Thread Cert.AdamwFfReferenceIdeal.nD Cert.AdamwFfReferenceIdeal.τ).loc Cert.AdamwFfReferenceIdeal.main_arg4)) = _ by
      rw [e0, e1, e4]; exact ref0_v _ _ _)
  · exact (Cert.AdamwFfReferenceIdeal.Read.val_main_v33_eq _).trans (show Cert.AdamwFfReferenceIdeal.Read.val_main_v33 (F := Ideal) (m' ((c.tc : Thread Cert.AdamwFfReferenceIdeal.nD Cert.AdamwFfReferenceIdeal.τ).loc Cert.AdamwFfReferenceIdeal.main_arg5)) (m' ((c.tc : Thread Cert.AdamwFfReferenceIdeal.nD Cert.AdamwFfReferenceIdeal.τ).loc Cert.AdamwFfReferenceIdeal.main_arg6)) = _ by
      rw [e5, e6]; exact ref1_g _ _)
  · exact (Cert.AdamwFfReferenceIdeal.Read.val_main_v57_eq _).trans (show Cert.AdamwFfReferenceIdeal.Read.val_main_v57 (F := Ideal) (m' ((c.tc : Thread Cert.AdamwFfReferenceIdeal.nD Cert.AdamwFfReferenceIdeal.τ).loc Cert.AdamwFfReferenceIdeal.main_arg5)) (m' ((c.tc : Thread Cert.AdamwFfReferenceIdeal.nD Cert.AdamwFfReferenceIdeal.τ).loc Cert.AdamwFfReferenceIdeal.main_arg6)) (m' ((c.tc : Thread Cert.AdamwFfReferenceIdeal.nD Cert.AdamwFfReferenceIdeal.τ).loc Cert.AdamwFfReferenceIdeal.main_arg7)) (m' ((c.tc : Thread Cert.AdamwFfReferenceIdeal.nD Cert.AdamwFfReferenceIdeal.τ).loc Cert.AdamwFfReferenceIdeal.main_arg8)) (m' ((c.tc : Thread Cert.AdamwFfReferenceIdeal.nD Cert.AdamwFfReferenceIdeal.τ).loc Cert.AdamwFfReferenceIdeal.main_arg9)) = _ by
      rw [e5, e6, e7, e8, e9]; exact ref1_delta _ _ _ _ _)
  · exact (Cert.AdamwFfReferenceIdeal.Read.val_main_v38_eq _).trans (show Cert.AdamwFfReferenceIdeal.Read.val_main_v38 (F := Ideal) (m' ((c.tc : Thread Cert.AdamwFfReferenceIdeal.nD Cert.AdamwFfReferenceIdeal.τ).loc Cert.AdamwFfReferenceIdeal.main_arg5)) (m' ((c.tc : Thread Cert.AdamwFfReferenceIdeal.nD Cert.AdamwFfReferenceIdeal.τ).loc Cert.AdamwFfReferenceIdeal.main_arg6)) (m' ((c.tc : Thread Cert.AdamwFfReferenceIdeal.nD Cert.AdamwFfReferenceIdeal.τ).loc Cert.AdamwFfReferenceIdeal.main_arg8)) = _ by
      rw [e5, e6, e8]; exact ref1_m _ _ _)
  · exact (Cert.AdamwFfReferenceIdeal.Read.val_main_v44_eq _).trans (show Cert.AdamwFfReferenceIdeal.Read.val_main_v44 (F := Ideal) (m' ((c.tc : Thread Cert.AdamwFfReferenceIdeal.nD Cert.AdamwFfReferenceIdeal.τ).loc Cert.AdamwFfReferenceIdeal.main_arg5)) (m' ((c.tc : Thread Cert.AdamwFfReferenceIdeal.nD Cert.AdamwFfReferenceIdeal.τ).loc Cert.AdamwFfReferenceIdeal.main_arg6)) (m' ((c.tc : Thread Cert.AdamwFfReferenceIdeal.nD Cert.AdamwFfReferenceIdeal.τ).loc Cert.AdamwFfReferenceIdeal.main_arg9)) = _ by
      rw [e5, e6, e9]; exact ref1_v _ _ _)
  · exact (Cert.AdamwFfReferenceIdeal.Read.val_main_v60_eq _).trans (show Cert.AdamwFfReferenceIdeal.Read.val_main_v60 (F := Ideal) (m' ((c.tc : Thread Cert.AdamwFfReferenceIdeal.nD Cert.AdamwFfReferenceIdeal.τ).loc Cert.AdamwFfReferenceIdeal.main_arg10)) (m' ((c.tc : Thread Cert.AdamwFfReferenceIdeal.nD Cert.AdamwFfReferenceIdeal.τ).loc Cert.AdamwFfReferenceIdeal.main_arg11)) = _ by
      rw [e10, e11]; exact ref2_g _ _)
  · exact (Cert.AdamwFfReferenceIdeal.Read.val_main_v84_eq _).trans (show Cert.AdamwFfReferenceIdeal.Read.val_main_v84 (F := Ideal) (m' ((c.tc : Thread Cert.AdamwFfReferenceIdeal.nD Cert.AdamwFfReferenceIdeal.τ).loc Cert.AdamwFfReferenceIdeal.main_arg10)) (m' ((c.tc : Thread Cert.AdamwFfReferenceIdeal.nD Cert.AdamwFfReferenceIdeal.τ).loc Cert.AdamwFfReferenceIdeal.main_arg11)) (m' ((c.tc : Thread Cert.AdamwFfReferenceIdeal.nD Cert.AdamwFfReferenceIdeal.τ).loc Cert.AdamwFfReferenceIdeal.main_arg12)) (m' ((c.tc : Thread Cert.AdamwFfReferenceIdeal.nD Cert.AdamwFfReferenceIdeal.τ).loc Cert.AdamwFfReferenceIdeal.main_arg13)) (m' ((c.tc : Thread Cert.AdamwFfReferenceIdeal.nD Cert.AdamwFfReferenceIdeal.τ).loc Cert.AdamwFfReferenceIdeal.main_arg14)) = _ by
      rw [e10, e11, e12, e13, e14]; exact ref2_delta _ _ _ _ _)
  · exact (Cert.AdamwFfReferenceIdeal.Read.val_main_v65_eq _).trans (show Cert.AdamwFfReferenceIdeal.Read.val_main_v65 (F := Ideal) (m' ((c.tc : Thread Cert.AdamwFfReferenceIdeal.nD Cert.AdamwFfReferenceIdeal.τ).loc Cert.AdamwFfReferenceIdeal.main_arg10)) (m' ((c.tc : Thread Cert.AdamwFfReferenceIdeal.nD Cert.AdamwFfReferenceIdeal.τ).loc Cert.AdamwFfReferenceIdeal.main_arg11)) (m' ((c.tc : Thread Cert.AdamwFfReferenceIdeal.nD Cert.AdamwFfReferenceIdeal.τ).loc Cert.AdamwFfReferenceIdeal.main_arg13)) = _ by
      rw [e10, e11, e13]; exact ref2_m _ _ _)
  · exact (Cert.AdamwFfReferenceIdeal.Read.val_main_v71_eq _).trans (show Cert.AdamwFfReferenceIdeal.Read.val_main_v71 (F := Ideal) (m' ((c.tc : Thread Cert.AdamwFfReferenceIdeal.nD Cert.AdamwFfReferenceIdeal.τ).loc Cert.AdamwFfReferenceIdeal.main_arg10)) (m' ((c.tc : Thread Cert.AdamwFfReferenceIdeal.nD Cert.AdamwFfReferenceIdeal.τ).loc Cert.AdamwFfReferenceIdeal.main_arg11)) (m' ((c.tc : Thread Cert.AdamwFfReferenceIdeal.nD Cert.AdamwFfReferenceIdeal.τ).loc Cert.AdamwFfReferenceIdeal.main_arg14)) = _ by
      rw [e10, e11, e14]; exact ref2_v _ _ _)
  · exact (Cert.AdamwFfReferenceIdeal.Read.val_main_v87_eq _).trans (show Cert.AdamwFfReferenceIdeal.Read.val_main_v87 (F := Ideal) (m' ((c.tc : Thread Cert.AdamwFfReferenceIdeal.nD Cert.AdamwFfReferenceIdeal.τ).loc Cert.AdamwFfReferenceIdeal.main_arg15)) (m' ((c.tc : Thread Cert.AdamwFfReferenceIdeal.nD Cert.AdamwFfReferenceIdeal.τ).loc Cert.AdamwFfReferenceIdeal.main_arg16)) = _ by
      rw [e15, e16]; exact ref3_g _ _)
  · exact (Cert.AdamwFfReferenceIdeal.Read.val_main_v111_eq _).trans (show Cert.AdamwFfReferenceIdeal.Read.val_main_v111 (F := Ideal) (m' ((c.tc : Thread Cert.AdamwFfReferenceIdeal.nD Cert.AdamwFfReferenceIdeal.τ).loc Cert.AdamwFfReferenceIdeal.main_arg15)) (m' ((c.tc : Thread Cert.AdamwFfReferenceIdeal.nD Cert.AdamwFfReferenceIdeal.τ).loc Cert.AdamwFfReferenceIdeal.main_arg16)) (m' ((c.tc : Thread Cert.AdamwFfReferenceIdeal.nD Cert.AdamwFfReferenceIdeal.τ).loc Cert.AdamwFfReferenceIdeal.main_arg17)) (m' ((c.tc : Thread Cert.AdamwFfReferenceIdeal.nD Cert.AdamwFfReferenceIdeal.τ).loc Cert.AdamwFfReferenceIdeal.main_arg18)) (m' ((c.tc : Thread Cert.AdamwFfReferenceIdeal.nD Cert.AdamwFfReferenceIdeal.τ).loc Cert.AdamwFfReferenceIdeal.main_arg19)) = _ by
      rw [e15, e16, e17, e18, e19]; exact ref3_delta _ _ _ _ _)
  · exact (Cert.AdamwFfReferenceIdeal.Read.val_main_v92_eq _).trans (show Cert.AdamwFfReferenceIdeal.Read.val_main_v92 (F := Ideal) (m' ((c.tc : Thread Cert.AdamwFfReferenceIdeal.nD Cert.AdamwFfReferenceIdeal.τ).loc Cert.AdamwFfReferenceIdeal.main_arg15)) (m' ((c.tc : Thread Cert.AdamwFfReferenceIdeal.nD Cert.AdamwFfReferenceIdeal.τ).loc Cert.AdamwFfReferenceIdeal.main_arg16)) (m' ((c.tc : Thread Cert.AdamwFfReferenceIdeal.nD Cert.AdamwFfReferenceIdeal.τ).loc Cert.AdamwFfReferenceIdeal.main_arg18)) = _ by
      rw [e15, e16, e18]; exact ref3_m _ _ _)
  · exact (Cert.AdamwFfReferenceIdeal.Read.val_main_v98_eq _).trans (show Cert.AdamwFfReferenceIdeal.Read.val_main_v98 (F := Ideal) (m' ((c.tc : Thread Cert.AdamwFfReferenceIdeal.nD Cert.AdamwFfReferenceIdeal.τ).loc Cert.AdamwFfReferenceIdeal.main_arg15)) (m' ((c.tc : Thread Cert.AdamwFfReferenceIdeal.nD Cert.AdamwFfReferenceIdeal.τ).loc Cert.AdamwFfReferenceIdeal.main_arg16)) (m' ((c.tc : Thread Cert.AdamwFfReferenceIdeal.nD Cert.AdamwFfReferenceIdeal.τ).loc Cert.AdamwFfReferenceIdeal.main_arg19)) = _ by
      rw [e15, e16, e19]; exact ref3_v _ _ _)
  · exact (Cert.AdamwFfReferenceIdeal.Read.val_main_v112_eq _).trans (show Cert.AdamwFfReferenceIdeal.Read.val_main_v112 (F := Ideal) (m' ((c.tc : Thread Cert.AdamwFfReferenceIdeal.nD Cert.AdamwFfReferenceIdeal.τ).loc Cert.AdamwFfReferenceIdeal.main_arg20)) = _ by
      rw [e20]; exact ref4_g _)
  · exact (Cert.AdamwFfReferenceIdeal.Read.val_main_v136_eq _).trans (show Cert.AdamwFfReferenceIdeal.Read.val_main_v136 (F := Ideal) (m' ((c.tc : Thread Cert.AdamwFfReferenceIdeal.nD Cert.AdamwFfReferenceIdeal.τ).loc Cert.AdamwFfReferenceIdeal.main_arg20)) (m' ((c.tc : Thread Cert.AdamwFfReferenceIdeal.nD Cert.AdamwFfReferenceIdeal.τ).loc Cert.AdamwFfReferenceIdeal.main_arg21)) (m' ((c.tc : Thread Cert.AdamwFfReferenceIdeal.nD Cert.AdamwFfReferenceIdeal.τ).loc Cert.AdamwFfReferenceIdeal.main_arg22)) (m' ((c.tc : Thread Cert.AdamwFfReferenceIdeal.nD Cert.AdamwFfReferenceIdeal.τ).loc Cert.AdamwFfReferenceIdeal.main_arg23)) = _ by
      rw [e20, e21, e22, e23]; exact ref4_delta _ _ _ _)
  · exact (Cert.AdamwFfReferenceIdeal.Read.val_main_v117_eq _).trans (show Cert.AdamwFfReferenceIdeal.Read.val_main_v117 (F := Ideal) (m' ((c.tc : Thread Cert.AdamwFfReferenceIdeal.nD Cert.AdamwFfReferenceIdeal.τ).loc Cert.AdamwFfReferenceIdeal.main_arg20)) (m' ((c.tc : Thread Cert.AdamwFfReferenceIdeal.nD Cert.AdamwFfReferenceIdeal.τ).loc Cert.AdamwFfReferenceIdeal.main_arg22)) = _ by
      rw [e20, e22]; exact ref4_m _ _)
  · exact (Cert.AdamwFfReferenceIdeal.Read.val_main_v123_eq _).trans (show Cert.AdamwFfReferenceIdeal.Read.val_main_v123 (F := Ideal) (m' ((c.tc : Thread Cert.AdamwFfReferenceIdeal.nD Cert.AdamwFfReferenceIdeal.τ).loc Cert.AdamwFfReferenceIdeal.main_arg20)) (m' ((c.tc : Thread Cert.AdamwFfReferenceIdeal.nD Cert.AdamwFfReferenceIdeal.τ).loc Cert.AdamwFfReferenceIdeal.main_arg23)) = _ by
      rw [e20, e23]; exact ref4_v _ _)

end Cert.AdamwFf

end
-- ==== Proof.SmallMath.lean ====
/- One AdamW step of a small weight over the extended reals, entry by entry, and the part of a packed array that is one weight's. -/
module

public import proofs.«01_k».proof.Proof.AdamwMath
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.KernelVsHost

@[expose] public section

set_option maxRecDepth 16384

noncomputable section

namespace Cert.Small

open Idealize.ShloMosaic Cert.Adamw

section
variable {s : Shape}

/-- The changes of the weights. -/
def changes (g w m v : s.Idx → EReal) (i : s.Idx) : EReal := step (g i) (w i) (m i) (v i)
/-- The new first moments. -/
def firsts (g m : s.Idx → EReal) (i : s.Idx) : EReal := mom1 (g i) (m i)
/-- The new second moments. -/
def seconds (g v : s.Idx → EReal) (i : s.Idx) : EReal := mom2 (g i) (v i)

end

/-- One row of `n` numbers. -/
abbrev row (n : ℕ) : Shape := ⟨1, ![n]⟩

/-- The place of number `n` in the packed array. -/
def spot (n : ℕ) : (sh 32 1024).Idx :=
  ix2 (n0 := 32) (n1 := 1024) ⟨n / 1024 % 32, Nat.mod_lt _ (by decide)⟩ ⟨n % 1024, Nat.mod_lt _ (by decide)⟩

theorem spot_val (n : ℕ) (hn : n < 32768) : (spot n 0).val * 1024 + (spot n 1).val = n := by
  show n / 1024 % 32 * 1024 + n % 1024 = n
  omega

/-- The array of shape `s` that starts at number `o` of a packed array. -/
def pick (s : Shape) (o : ℕ) (z : (sh 32 1024).Idx → EReal) (i : s.Idx) : EReal := z (spot (o + (s.rowMajor i).val))

theorem row_numel (n : ℕ) : (row n).numel = n := by simp [Shape.numel]

/-- Cutting numbers out of the packed array's one row. -/
theorem pick_row {n o : ℕ} (z : (sh 32 1024).Idx → EReal) (h1 : (sh 32 1024).ShapeCasts (row 32768)) (h2 : (row 32768).Slices ![o] (row n)) :
    extractStridedSlice (row n) ![o] (shapeCast (row 32768) z h1) h2 = pick (row n) o z := by
  funext i
  have b : o + n ≤ 32768 := h2.2 0
  have hi : (i 0).val < n := (i 0).isLt
  unfold extractStridedSlice pick
  rw [Shape.rowMajor_val_one]
  exact shapeCast_apply z h1 _ _ (by rw [Shape.rowMajor_val_two, Shape.rowMajor_val_one]; exact spot_val _ (by omega))

/-- Cutting them out and giving them a shape. -/
theorem pick_cut {s : Shape} {n o : ℕ} (z : (sh 32 1024).Idx → EReal) (h1 : (sh 32 1024).ShapeCasts (row 32768))
    (h2 : (row 32768).Slices ![o] (row n)) (h3 : (row n).ShapeCasts s) :
    shapeCast s (extractStridedSlice (row n) ![o] (shapeCast (row 32768) z h1) h2) h3 = pick s o z := by
  funext i
  have hl : (s.rowMajor i).val < n := lt_of_lt_of_eq (s.rowMajor i).isLt (Eq.trans h3 (row_numel n))
  rw [shapeCast_apply _ h3 i (ix1 (n0 := n) ⟨_, hl⟩) (Shape.rowMajor_val_one _), pick_row z h1 h2]
  unfold pick
  rw [Shape.rowMajor_val_one]
  rfl

end Cert.Small

end
-- ==== Proof.SmallPack.lean ====
/- The packed array of the sixteen small weights: where each of them lies in it. -/
module

public import proofs.«01_k».proof.Proof.Gen.SmallKernelIdeal.Launch
public import proofs.«01_k».proof.Proof.SmallMath

@[expose] public section

set_option maxRecDepth 16384

noncomputable section

namespace Cert.Small

open Idealize.ShloMosaic Idealize.ShloMosaic.TcCoe
open Cert.SmallKernelIdeal Cert.SmallKernelIdeal.Gen
open Cert.Adamw

variable (x0 : S1024.Idx → EReal) (x1 : S2x6144.Idx → EReal) (x2 : S2x1024.Idx → EReal) (x3 : S2x256.Idx → EReal) (x4 : S2x128.Idx → EReal) (x5 : S2x96.Idx → EReal) (x6 : S2x96.Idx → EReal) (x7 : S2x4x64.Idx → EReal) (x8 : S2x512.Idx → EReal) (x9 : S2x2x2x64.Idx → EReal) (x10 : S2x2x64.Idx → EReal) (x11 : S2x64.Idx → EReal) (x12 : S2x64.Idx → EReal) (x13 : S2x8.Idx → EReal) (x14 : S2x1536.Idx → EReal) (x15 : S2x1024.Idx → EReal)

/-- The sixteen arrays, each as one row. -/
abbrev pieces : List ((s : Shape) × (s.Idx → EReal)) := [⟨S1024, x0⟩, ⟨S12288, shapeCast S12288 x1 shapeCasts_S2x6144_S12288⟩, ⟨S2048, shapeCast S2048 x2 shapeCasts_S2x1024_S2048⟩, ⟨S512, shapeCast S512 x3 shapeCasts_S2x256_S512⟩, ⟨S256, shapeCast S256 x4 shapeCasts_S2x128_S256⟩, ⟨S192, shapeCast S192 x5 shapeCasts_S2x96_S192⟩, ⟨S192, shapeCast S192 x6 shapeCasts_S2x96_S192⟩, ⟨S512, shapeCast S512 x7 shapeCasts_S2x4x64_S512⟩, ⟨S1024, shapeCast S1024 x8 shapeCasts_S2x512_S1024⟩, ⟨S512, shapeCast S512 x9 shapeCasts_S2x2x2x64_S512⟩, ⟨S256, shapeCast S256 x10 shapeCasts_S2x2x64_S256⟩, ⟨S128, shapeCast S128 x11 shapeCasts_S2x64_S128⟩, ⟨S128, shapeCast S128 x12 shapeCasts_S2x64_S128⟩, ⟨S16, shapeCast S16 x13 shapeCasts_S2x8_S16⟩, ⟨S3072, shapeCast S3072 x14 shapeCasts_S2x1536_S3072⟩, ⟨S2048, shapeCast S2048 x15 shapeCasts_S2x1024_S2048⟩]

/-- The rows one after another. -/
abbrev joined : S24208.Idx → EReal := concatenate (α := EReal) S24208 0 (pieces x0 x1 x2 x3 x4 x5 x6 x7 x8 x9 x10 x11 x12 x13 x14 x15) concatenates_S1024_S12288_S2048_S512_S256_S192_S192_S512_S1024_S512_S256_S128_S128_S16_S3072_S2048_S24208_d0

/-- Filled up with zeros to whole rows of 1024. -/
def packed : S32x1024.Idx → EReal :=
  shapeCast S32x1024 (pad S32768 ![0] ![8560] ![0] (joined x0 x1 x2 x3 x4 x5 x6 x7 x8 x9 x10 x11 x12 x13 x14 x15)
    (sitofp (F := Ideal) .f32 (constantI S_ 32 0#32)) pads_S24208_S32768_085600 h_S_) shapeCasts_S32768_S32x1024

/-- The rows' shapes. -/
def rows : List Shape := [S1024, S12288, S2048, S512, S256, S192, S192, S512, S1024, S512, S256, S128, S128, S16, S3072, S2048]
/-- The extent of a row. -/
abbrev extent (s : Shape) : ℕ := if h : s.rank = S24208.rank then s.size ((0 : Fin S24208.rank).cast h.symm) else 0

theorem rows_eq (k : ℕ) : (((pieces x0 x1 x2 x3 x4 x5 x6 x7 x8 x9 x10 x11 x12 x13 x14 x15).take k).map (·.1)) = rows.take k := by
  rw [List.map_take]; rfl

/-- A place of the packed array is a place of the joined rows. -/
theorem packed_at (n : ℕ) (hn : n < 24208) (j : S32x1024.Idx) (h : (j 0).val * 1024 + (j 1).val = n) :
    packed x0 x1 x2 x3 x4 x5 x6 x7 x8 x9 x10 x11 x12 x13 x14 x15 j = joined x0 x1 x2 x3 x4 x5 x6 x7 x8 x9 x10 x11 x12 x13 x14 x15 (ix1 (n0 := 24208) ⟨n, hn⟩) := by
  unfold packed
  generalize joined x0 x1 x2 x3 x4 x5 x6 x7 x8 x9 x10 x11 x12 x13 x14 x15 = z
  rw [shapeCast_apply _ shapeCasts_S32768_S32x1024 j (ix1 (n0 := 32768) ⟨n, by omega⟩) (by
    rw [Shape.rowMajor_val_one, Shape.rowMajor_val_two]; exact h.symm)]
  exact pad_apply_of_inside _ _ _ z _ pads_S24208_S32768_085600 h_S_ _ (ix1 (n0 := 24208) ⟨n, hn⟩) (fun a => by fin_cases a; simp)

variable {x0 x1 x2 x3 x4 x5 x6 x7 x8 x9 x10 x11 x12 x13 x14 x15}

/-- The row that starts at number `o`. -/
theorem packed_row (k : ℕ) (hk : k < 16) {n : ℕ} (o : ℕ) (y : (row n).Idx → EReal) (hy : (pieces x0 x1 x2 x3 x4 x5 x6 x7 x8 x9 x10 x11 x12 x13 x14 x15)[k]'hk = ⟨row n, y⟩)
    (ho : ((rows.take k).map extent).sum = o) (l : ℕ) (hl : l < n) (hb : o + l < 24208) :
    packed x0 x1 x2 x3 x4 x5 x6 x7 x8 x9 x10 x11 x12 x13 x14 x15 (spot (o + l)) = y (ix1 (n0 := n) ⟨l, hl⟩) := by
  rw [packed_at x0 x1 x2 x3 x4 x5 x6 x7 x8 x9 x10 x11 x12 x13 x14 x15 (o + l) hb _ (spot_val _ (by omega))]
  exact concatenate_apply_piece (t := S24208) 0 (pieces x0 x1 x2 x3 x4 x5 x6 x7 x8 x9 x10 x11 x12 x13 x14 x15) concatenates_S1024_S12288_S2048_S512_S256_S192_S192_S512_S1024_S512_S256_S128_S128_S16_S3072_S2048_S24208_d0 (ix1 (n0 := 24208) ⟨o + l, hb⟩) k
    hk (row n) y hy rfl o ((congrArg (fun z => (z.map extent).sum) (rows_eq x0 x1 x2 x3 x4 x5 x6 x7 x8 x9 x10 x11 x12 x13 x14 x15 k)).trans ho) (ix1 (n0 := n) ⟨l, hl⟩)
    (fun b hb => absurd (Subsingleton.elim (α := Fin 1) _ _) hb) rfl

/-- The array whose row starts there. -/
theorem pick_packed {s : Shape} {n : ℕ} (k : ℕ) (hk : k < 16) (o : ℕ) (x : s.Idx → EReal) (hc : s.ShapeCasts (row n))
    (hy : (pieces x0 x1 x2 x3 x4 x5 x6 x7 x8 x9 x10 x11 x12 x13 x14 x15)[k]'hk = ⟨row n, shapeCast (row n) x hc⟩) (ho : ((rows.take k).map extent).sum = o) (hb : o + n ≤ 24208) :
    pick s o (packed x0 x1 x2 x3 x4 x5 x6 x7 x8 x9 x10 x11 x12 x13 x14 x15) = x := by
  funext i
  have hl : (s.rowMajor i).val < n := lt_of_lt_of_eq (s.rowMajor i).isLt (Eq.trans (Eq.symm hc) (row_numel n))
  unfold pick
  rw [packed_row k hk o _ hy ho _ hl (by omega)]
  exact shapeCast_apply x hc _ i (by rw [Shape.rowMajor_val_one]; rfl)

/-! The sixteen weights in it. -/

theorem at0 : pick S1024 0 (packed x0 x1 x2 x3 x4 x5 x6 x7 x8 x9 x10 x11 x12 x13 x14 x15) = x0 := by
  funext i
  have hl : (S1024.rowMajor i).val < 1024 := lt_of_lt_of_eq (S1024.rowMajor i).isLt (row_numel 1024)
  unfold pick
  rw [packed_row 0 (by omega) 0 x0 rfl (by decide +kernel) _ hl (by omega)]
  exact congrArg x0 ((congrArg (ix1 (n0 := 1024)) (Fin.ext (Shape.rowMajor_val_one i))).trans (eq_ix1 i).symm)
theorem at1 : pick S2x6144 1024 (packed x0 x1 x2 x3 x4 x5 x6 x7 x8 x9 x10 x11 x12 x13 x14 x15) = x1 :=
  pick_packed 1 (by omega) 1024 x1 shapeCasts_S2x6144_S12288 rfl (by decide +kernel) (by omega)
theorem at2 : pick S2x1024 13312 (packed x0 x1 x2 x3 x4 x5 x6 x7 x8 x9 x10 x11 x12 x13 x14 x15) = x2 :=
  pick_packed 2 (by omega) 13312 x2 shapeCasts_S2x1024_S2048 rfl (by decide +kernel) (by omega)
theorem at3 : pick S2x256 15360 (packed x0 x1 x2 x3 x4 x5 x6 x7 x8 x9 x10 x11 x12 x13 x14 x15) = x3 :=
  pick_packed 3 (by omega) 15360 x3 shapeCasts_S2x256_S512 rfl (by decide +kernel) (by omega)
theorem at4 : pick S2x128 15872 (packed x0 x1 x2 x3 x4 x5 x6 x7 x8 x9 x10 x11 x12 x13 x14 x15) = x4 :=
  pick_packed 4 (by omega) 15872 x4 shapeCasts_S2x128_S256 rfl (by decide +kernel) (by omega)
theorem at5 : pick S2x96 16128 (packed x0 x1 x2 x3 x4 x5 x6 x7 x8 x9 x10 x11 x12 x13 x14 x15) = x5 :=
  pick_packed 5 (by omega) 16128 x5 shapeCasts_S2x96_S192 rfl (by decide +kernel) (by omega)
theorem at6 : pick S2x96 16320 (packed x0 x1 x2 x3 x4 x5 x6 x7 x8 x9 x10 x11 x12 x13 x14 x15) = x6 :=
  pick_packed 6 (by omega) 16320 x6 shapeCasts_S2x96_S192 rfl (by decide +kernel) (by omega)
theorem at7 : pick S2x4x64 16512 (packed x0 x1 x2 x3 x4 x5 x6 x7 x8 x9 x10 x11 x12 x13 x14 x15) = x7 :=
  pick_packed 7 (by omega) 16512 x7 shapeCasts_S2x4x64_S512 rfl (by decide +kernel) (by omega)
theorem at8 : pick S2x512 17024 (packed x0 x1 x2 x3 x4 x5 x6 x7 x8 x9 x10 x11 x12 x13 x14 x15) = x8 :=
  pick_packed 8 (by omega) 17024 x8 shapeCasts_S2x512_S1024 rfl (by decide +kernel) (by omega)
theorem at9 : pick S2x2x2x64 18048 (packed x0 x1 x2 x3 x4 x5 x6 x7 x8 x9 x10 x11 x12 x13 x14 x15) = x9 :=
  pick_packed 9 (by omega) 18048 x9 shapeCasts_S2x2x2x64_S512 rfl (by decide +kernel) (by omega)
theorem at10 : pick S2x2x64 18560 (packed x0 x1 x2 x3 x4 x5 x6 x7 x8 x9 x10 x11 x12 x13 x14 x15) = x10 :=
  pick_packed 10 (by omega) 18560 x10 shapeCasts_S2x2x64_S256 rfl (by decide +kernel) (by omega)
theorem at11 : pick S2x64 18816 (packed x0 x1 x2 x3 x4 x5 x6 x7 x8 x9 x10 x11 x12 x13 x14 x15) = x11 :=
  pick_packed 11 (by omega) 18816 x11 shapeCasts_S2x64_S128 rfl (by decide +kernel) (by omega)
theorem at12 : pick S2x64 18944 (packed x0 x1 x2 x3 x4 x5 x6 x7 x8 x9 x10 x11 x12 x13 x14 x15) = x12 :=
  pick_packed 12 (by omega) 18944 x12 shapeCasts_S2x64_S128 rfl (by decide +kernel) (by omega)
theorem at13 : pick S2x8 19072 (packed x0 x1 x2 x3 x4 x5 x6 x7 x8 x9 x10 x11 x12 x13 x14 x15) = x13 :=
  pick_packed 13 (by omega) 19072 x13 shapeCasts_S2x8_S16 rfl (by decide +kernel) (by omega)
theorem at14 : pick S2x1536 19088 (packed x0 x1 x2 x3 x4 x5 x6 x7 x8 x9 x10 x11 x12 x13 x14 x15) = x14 :=
  pick_packed 14 (by omega) 19088 x14 shapeCasts_S2x1536_S3072 rfl (by decide +kernel) (by omega)
theorem at15 : pick S2x1024 22160 (packed x0 x1 x2 x3 x4 x5 x6 x7 x8 x9 x10 x11 x12 x13 x14 x15) = x15 :=
  pick_packed 15 (by omega) 22160 x15 shapeCasts_S2x1024_S2048 rfl (by decide +kernel) (by omega)

end Cert.Small

end
-- ==== Proof.SmallHost.lean ====
/- The four packed arrays as the update finds them: the sixteen weights' gradients, weights, first and second moments. -/
module

public import proofs.«01_k».proof.Proof.SmallPack
public import proofs.«01_k».proof.Proof.Gen.SmallKernelIdeal.Frame.Runs
public import Idealize.ShloMosaic.Lib.StableHlo.RunRead

@[expose] public section

set_option maxRecDepth 16384

noncomputable section

namespace Cert.Small

open Idealize.ShloMosaic Idealize.ShloMosaic.TcCoe
open Cert.SmallKernelIdeal Cert.SmallKernelIdeal.Gen
open Cert.Adamw

/-- Equal rows pack equally. -/
theorem packed_congr {r0 r0' : S1024.Idx → EReal} {r1 r1' : S12288.Idx → EReal} {r2 r2' : S2048.Idx → EReal} {r3 r3' : S512.Idx → EReal} {r4 r4' : S256.Idx → EReal} {r5 r5' : S192.Idx → EReal} {r6 r6' : S192.Idx → EReal} {r7 r7' : S512.Idx → EReal} {r8 r8' : S1024.Idx → EReal} {r9 r9' : S512.Idx → EReal} {r10 r10' : S256.Idx → EReal} {r11 r11' : S128.Idx → EReal} {r12 r12' : S128.Idx → EReal} {r13 r13' : S16.Idx → EReal} {r14 r14' : S3072.Idx → EReal} {r15 r15' : S2048.Idx → EReal}
    (h : r0 = r0' ∧ r1 = r1' ∧ r2 = r2' ∧ r3 = r3' ∧ r4 = r4' ∧ r5 = r5' ∧ r6 = r6' ∧ r7 = r7' ∧ r8 = r8' ∧ r9 = r9' ∧ r10 = r10' ∧ r11 = r11' ∧ r12 = r12' ∧ r13 = r13' ∧ r14 = r14' ∧ r15 = r15') :
    shapeCast S32x1024 (pad S32768 ![0] ![8560] ![0] (concatenate (α := EReal) S24208 0 [⟨S1024, r0⟩, ⟨S12288, r1⟩, ⟨S2048, r2⟩, ⟨S512, r3⟩, ⟨S256, r4⟩, ⟨S192, r5⟩, ⟨S192, r6⟩, ⟨S512, r7⟩, ⟨S1024, r8⟩, ⟨S512, r9⟩, ⟨S256, r10⟩, ⟨S128, r11⟩, ⟨S128, r12⟩, ⟨S16, r13⟩, ⟨S3072, r14⟩, ⟨S2048, r15⟩] concatenates_S1024_S12288_S2048_S512_S256_S192_S192_S512_S1024_S512_S256_S128_S128_S16_S3072_S2048_S24208_d0)
    (sitofp (F := Ideal) .f32 (constantI S_ 32 0#32)) pads_S24208_S32768_085600 h_S_) shapeCasts_S32768_S32x1024
    = shapeCast S32x1024 (pad S32768 ![0] ![8560] ![0] (concatenate (α := EReal) S24208 0 [⟨S1024, r0'⟩, ⟨S12288, r1'⟩, ⟨S2048, r2'⟩, ⟨S512, r3'⟩, ⟨S256, r4'⟩, ⟨S192, r5'⟩, ⟨S192, r6'⟩, ⟨S512, r7'⟩, ⟨S1024, r8'⟩, ⟨S512, r9'⟩, ⟨S256, r10'⟩, ⟨S128, r11'⟩, ⟨S128, r12'⟩, ⟨S16, r13'⟩, ⟨S3072, r14'⟩, ⟨S2048, r15'⟩] concatenates_S1024_S12288_S2048_S512_S256_S192_S192_S512_S1024_S512_S256_S128_S128_S16_S3072_S2048_S24208_d0)
    (sitofp (F := Ideal) .f32 (constantI S_ 32 0#32)) pads_S24208_S32768_085600 h_S_) shapeCasts_S32768_S32x1024 := by
  obtain ⟨rfl, rfl, rfl, rfl, rfl, rfl, rfl, rfl, rfl, rfl, rfl, rfl, rfl, rfl, rfl, rfl⟩ := h
  rfl

variable (m : (ℓ : Loc nD τ sig) → Buf (Elt Ideal) ℓ) (c : Dev nD)

/-- What a buffer holds at launch. -/
abbrev old (b : Ref sig .tc) := m ((c : Thread nD τ).loc b)
/-- What a buffer holds after the first `n` host lines. -/
abbrev now (n : ℕ) (b : Ref sig .tc) := StableHlo.upto (hostOps0 ++ (hostOps0_1 ++ (hostOps0_2 ++ (hostOps0_3 ++ (hostOps0_4 ++ (hostOps0_5 ++ (hostOps0_6 ++ (hostOps0_7 ++ hostOps0_8)))))))) (fun b => m (c, b)) n (Proc.devRef .tc b)

/-! The gradients at launch, one by one and packed. -/
abbrev g0 : S1024.Idx → EReal := old m c main_arg0
abbrev g1 : S2x6144.Idx → EReal := old m c main_arg1
abbrev g2 : S2x1024.Idx → EReal := old m c main_arg2
abbrev g3 : S2x256.Idx → EReal := old m c main_arg3
abbrev g4 : S2x128.Idx → EReal := old m c main_arg4
abbrev g5 : S2x96.Idx → EReal := old m c main_arg5
abbrev g6 : S2x96.Idx → EReal := old m c main_arg6
abbrev g7 : S2x4x64.Idx → EReal := old m c main_arg7
abbrev g8 : S2x512.Idx → EReal := old m c main_arg8
abbrev g9 : S2x2x2x64.Idx → EReal := old m c main_arg9
abbrev g10 : S2x2x64.Idx → EReal := old m c main_arg10
abbrev g11 : S2x64.Idx → EReal := old m c main_arg11
abbrev g12 : S2x64.Idx → EReal := old m c main_arg12
abbrev g13 : S2x8.Idx → EReal := old m c main_arg13
abbrev g14 : S2x1536.Idx → EReal := old m c main_arg14
abbrev g15 : S2x1024.Idx → EReal := old m c main_arg15
abbrev all_g : S32x1024.Idx → EReal := packed (g0 m c) (g1 m c) (g2 m c) (g3 m c) (g4 m c) (g5 m c) (g6 m c) (g7 m c) (g8 m c) (g9 m c) (g10 m c) (g11 m c) (g12 m c) (g13 m c) (g14 m c) (g15 m c)

/-! The weights at launch, one by one and packed. -/
abbrev w0 : S1024.Idx → EReal := old m c main_arg16
abbrev w1 : S2x6144.Idx → EReal := old m c main_arg17
abbrev w2 : S2x1024.Idx → EReal := old m c main_arg18
abbrev w3 : S2x256.Idx → EReal := old m c main_arg19
abbrev w4 : S2x128.Idx → EReal := old m c main_arg20
abbrev w5 : S2x96.Idx → EReal := old m c main_arg21
abbrev w6 : S2x96.Idx → EReal := old m c main_arg22
abbrev w7 : S2x4x64.Idx → EReal := old m c main_arg23
abbrev w8 : S2x512.Idx → EReal := old m c main_arg24
abbrev w9 : S2x2x2x64.Idx → EReal := old m c main_arg25
abbrev w10 : S2x2x64.Idx → EReal := old m c main_arg26
abbrev w11 : S2x64.Idx → EReal := old m c main_arg27
abbrev w12 : S2x64.Idx → EReal := old m c main_arg28
abbrev w13 : S2x8.Idx → EReal := old m c main_arg29
abbrev w14 : S2x1536.Idx → EReal := old m c main_arg30
abbrev w15 : S2x1024.Idx → EReal := old m c main_arg31
abbrev all_w : S32x1024.Idx → EReal := packed (w0 m c) (w1 m c) (w2 m c) (w3 m c) (w4 m c) (w5 m c) (w6 m c) (w7 m c) (w8 m c) (w9 m c) (w10 m c) (w11 m c) (w12 m c) (w13 m c) (w14 m c) (w15 m c)

/-! The first moments at launch, one by one and packed. -/
abbrev m0 : S1024.Idx → EReal := old m c main_arg32
abbrev m1 : S2x6144.Idx → EReal := old m c main_arg33
abbrev m2 : S2x1024.Idx → EReal := old m c main_arg34
abbrev m3 : S2x256.Idx → EReal := old m c main_arg35
abbrev m4 : S2x128.Idx → EReal := old m c main_arg36
abbrev m5 : S2x96.Idx → EReal := old m c main_arg37
abbrev m6 : S2x96.Idx → EReal := old m c main_arg38
abbrev m7 : S2x4x64.Idx → EReal := old m c main_arg39
abbrev m8 : S2x512.Idx → EReal := old m c main_arg40
abbrev m9 : S2x2x2x64.Idx → EReal := old m c main_arg41
abbrev m10 : S2x2x64.Idx → EReal := old m c main_arg42
abbrev m11 : S2x64.Idx → EReal := old m c main_arg43
abbrev m12 : S2x64.Idx → EReal := old m c main_arg44
abbrev m13 : S2x8.Idx → EReal := old m c main_arg45
abbrev m14 : S2x1536.Idx → EReal := old m c main_arg46
abbrev m15 : S2x1024.Idx → EReal := old m c main_arg47
abbrev all_m : S32x1024.Idx → EReal := packed (m0 m c) (m1 m c) (m2 m c) (m3 m c) (m4 m c) (m5 m c) (m6 m c) (m7 m c) (m8 m c) (m9 m c) (m10 m c) (m11 m c) (m12 m c) (m13 m c) (m14 m c) (m15 m c)

/-! The second moments at launch, one by one and packed. -/
abbrev v0 : S1024.Idx → EReal := old m c main_arg48
abbrev v1 : S2x6144.Idx → EReal := old m c main_arg49
abbrev v2 : S2x1024.Idx → EReal := old m c main_arg50
abbrev v3 : S2x256.Idx → EReal := old m c main_arg51
abbrev v4 : S2x128.Idx → EReal := old m c main_arg52
abbrev v5 : S2x96.Idx → EReal := old m c main_arg53
abbrev v6 : S2x96.Idx → EReal := old m c main_arg54
abbrev v7 : S2x4x64.Idx → EReal := old m c main_arg55
abbrev v8 : S2x512.Idx → EReal := old m c main_arg56
abbrev v9 : S2x2x2x64.Idx → EReal := old m c main_arg57
abbrev v10 : S2x2x64.Idx → EReal := old m c main_arg58
abbrev v11 : S2x64.Idx → EReal := old m c main_arg59
abbrev v12 : S2x64.Idx → EReal := old m c main_arg60
abbrev v13 : S2x8.Idx → EReal := old m c main_arg61
abbrev v14 : S2x1536.Idx → EReal := old m c main_arg62
abbrev v15 : S2x1024.Idx → EReal := old m c main_arg63
abbrev all_v : S32x1024.Idx → EReal := packed (v0 m c) (v1 m c) (v2 m c) (v3 m c) (v4 m c) (v5 m c) (v6 m c) (v7 m c) (v8 m c) (v9 m c) (v10 m c) (v11 m c) (v12 m c) (v13 m c) (v14 m c) (v15 m c)

set_option maxHeartbeats 2000000 in
/-- The update finds the packed gradients. -/
theorem V_g : V m c main_v17 = all_g m c := by
  unfold V V0
  simp only [List.flatten_cons, List.flatten_nil, List.append_nil]
  have h : now m c 15 main_arg0 = g0 m c
      ∧ now m c 15 main_v0 = shapeCast S12288 (g1 m c) shapeCasts_S2x6144_S12288
      ∧ now m c 15 main_v1 = shapeCast S2048 (g2 m c) shapeCasts_S2x1024_S2048
      ∧ now m c 15 main_v2 = shapeCast S512 (g3 m c) shapeCasts_S2x256_S512
      ∧ now m c 15 main_v3 = shapeCast S256 (g4 m c) shapeCasts_S2x128_S256
      ∧ now m c 15 main_v4 = shapeCast S192 (g5 m c) shapeCasts_S2x96_S192
      ∧ now m c 15 main_v5 = shapeCast S192 (g6 m c) shapeCasts_S2x96_S192
      ∧ now m c 15 main_v6 = shapeCast S512 (g7 m c) shapeCasts_S2x4x64_S512
      ∧ now m c 15 main_v7 = shapeCast S1024 (g8 m c) shapeCasts_S2x512_S1024
      ∧ now m c 15 main_v8 = shapeCast S512 (g9 m c) shapeCasts_S2x2x2x64_S512
      ∧ now m c 15 main_v9 = shapeCast S256 (g10 m c) shapeCasts_S2x2x64_S256
      ∧ now m c 15 main_v10 = shapeCast S128 (g11 m c) shapeCasts_S2x64_S128
      ∧ now m c 15 main_v11 = shapeCast S128 (g12 m c) shapeCasts_S2x64_S128
      ∧ now m c 15 main_v12 = shapeCast S16 (g13 m c) shapeCasts_S2x8_S16
      ∧ now m c 15 main_v13 = shapeCast S3072 (g14 m c) shapeCasts_S2x1536_S3072
      ∧ now m c 15 main_v14 = shapeCast S2048 (g15 m c) shapeCasts_S2x1024_S2048 := by
    unfold now
    refine ⟨?_, ?_, ?_, ?_, ?_, ?_, ?_, ?_, ?_, ?_, ?_, ?_, ?_, ?_, ?_, ?_⟩ <;> (after_reads_simp; try rfl)
  after_reads_simp
  exact packed_congr h

set_option maxHeartbeats 2000000 in
/-- The update finds the packed weights. -/
theorem V_w : V m c main_v36 = all_w m c := by
  unfold V V0
  simp only [List.flatten_cons, List.flatten_nil, List.append_nil]
  have h : now m c 36 main_arg16 = w0 m c
      ∧ now m c 36 main_v19 = shapeCast S12288 (w1 m c) shapeCasts_S2x6144_S12288
      ∧ now m c 36 main_v20 = shapeCast S2048 (w2 m c) shapeCasts_S2x1024_S2048
      ∧ now m c 36 main_v21 = shapeCast S512 (w3 m c) shapeCasts_S2x256_S512
      ∧ now m c 36 main_v22 = shapeCast S256 (w4 m c) shapeCasts_S2x128_S256
      ∧ now m c 36 main_v23 = shapeCast S192 (w5 m c) shapeCasts_S2x96_S192
      ∧ now m c 36 main_v24 = shapeCast S192 (w6 m c) shapeCasts_S2x96_S192
      ∧ now m c 36 main_v25 = shapeCast S512 (w7 m c) shapeCasts_S2x4x64_S512
      ∧ now m c 36 main_v26 = shapeCast S1024 (w8 m c) shapeCasts_S2x512_S1024
      ∧ now m c 36 main_v27 = shapeCast S512 (w9 m c) shapeCasts_S2x2x2x64_S512
      ∧ now m c 36 main_v28 = shapeCast S256 (w10 m c) shapeCasts_S2x2x64_S256
      ∧ now m c 36 main_v29 = shapeCast S128 (w11 m c) shapeCasts_S2x64_S128
      ∧ now m c 36 main_v30 = shapeCast S128 (w12 m c) shapeCasts_S2x64_S128
      ∧ now m c 36 main_v31 = shapeCast S16 (w13 m c) shapeCasts_S2x8_S16
      ∧ now m c 36 main_v32 = shapeCast S3072 (w14 m c) shapeCasts_S2x1536_S3072
      ∧ now m c 36 main_v33 = shapeCast S2048 (w15 m c) shapeCasts_S2x1024_S2048 := by
    unfold now
    refine ⟨?_, ?_, ?_, ?_, ?_, ?_, ?_, ?_, ?_, ?_, ?_, ?_, ?_, ?_, ?_, ?_⟩ <;> (after_reads_simp; try rfl)
  after_reads_simp
  exact packed_congr h

set_option maxHeartbeats 2000000 in
/-- The update finds the packed first moments. -/
theorem V_m : V m c main_v54 = all_m m c := by
  unfold V V0
  simp only [List.flatten_cons, List.flatten_nil, List.append_nil]
  have h : now m c 56 main_arg32 = m0 m c
      ∧ now m c 56 main_v37 = shapeCast S12288 (m1 m c) shapeCasts_S2x6144_S12288
      ∧ now m c 56 main_v38 = shapeCast S2048 (m2 m c) shapeCasts_S2x1024_S2048
      ∧ now m c 56 main_v39 = shapeCast S512 (m3 m c) shapeCasts_S2x256_S512
      ∧ now m c 56 main_v40 = shapeCast S256 (m4 m c) shapeCasts_S2x128_S256
      ∧ now m c 56 main_v41 = shapeCast S192 (m5 m c) shapeCasts_S2x96_S192
      ∧ now m c 56 main_v42 = shapeCast S192 (m6 m c) shapeCasts_S2x96_S192
      ∧ now m c 56 main_v43 = shapeCast S512 (m7 m c) shapeCasts_S2x4x64_S512
      ∧ now m c 56 main_v44 = shapeCast S1024 (m8 m c) shapeCasts_S2x512_S1024
      ∧ now m c 56 main_v45 = shapeCast S512 (m9 m c) shapeCasts_S2x2x2x64_S512
      ∧ now m c 56 main_v46 = shapeCast S256 (m10 m c) shapeCasts_S2x2x64_S256
      ∧ now m c 56 main_v47 = shapeCast S128 (m11 m c) shapeCasts_S2x64_S128
      ∧ now m c 56 main_v48 = shapeCast S128 (m12 m c) shapeCasts_S2x64_S128
      ∧ now m c 56 main_v49 = shapeCast S16 (m13 m c) shapeCasts_S2x8_S16
      ∧ now m c 56 main_v50 = shapeCast S3072 (m14 m c) shapeCasts_S2x1536_S3072
      ∧ now m c 56 main_v51 = shapeCast S2048 (m15 m c) shapeCasts_S2x1024_S2048 := by
    unfold now
    refine ⟨?_, ?_, ?_, ?_, ?_, ?_, ?_, ?_, ?_, ?_, ?_, ?_, ?_, ?_, ?_, ?_⟩ <;> (after_reads_simp; try rfl)
  after_reads_simp
  exact packed_congr h

set_option maxHeartbeats 2000000 in
/-- The update finds the packed second moments. -/
theorem V_v : V m c main_v72 = all_v m c := by
  unfold V V0
  simp only [List.flatten_cons, List.flatten_nil, List.append_nil]
  have h : now m c 76 main_arg48 = v0 m c
      ∧ now m c 76 main_v55 = shapeCast S12288 (v1 m c) shapeCasts_S2x6144_S12288
      ∧ now m c 76 main_v56 = shapeCast S2048 (v2 m c) shapeCasts_S2x1024_S2048
      ∧ now m c 76 main_v57 = shapeCast S512 (v3 m c) shapeCasts_S2x256_S512
      ∧ now m c 76 main_v58 = shapeCast S256 (v4 m c) shapeCasts_S2x128_S256
      ∧ now m c 76 main_v59 = shapeCast S192 (v5 m c) shapeCasts_S2x96_S192
      ∧ now m c 76 main_v60 = shapeCast S192 (v6 m c) shapeCasts_S2x96_S192
      ∧ now m c 76 main_v61 = shapeCast S512 (v7 m c) shapeCasts_S2x4x64_S512
      ∧ now m c 76 main_v62 = shapeCast S1024 (v8 m c) shapeCasts_S2x512_S1024
      ∧ now m c 76 main_v63 = shapeCast S512 (v9 m c) shapeCasts_S2x2x2x64_S512
      ∧ now m c 76 main_v64 = shapeCast S256 (v10 m c) shapeCasts_S2x2x64_S256
      ∧ now m c 76 main_v65 = shapeCast S128 (v11 m c) shapeCasts_S2x64_S128
      ∧ now m c 76 main_v66 = shapeCast S128 (v12 m c) shapeCasts_S2x64_S128
      ∧ now m c 76 main_v67 = shapeCast S16 (v13 m c) shapeCasts_S2x8_S16
      ∧ now m c 76 main_v68 = shapeCast S3072 (v14 m c) shapeCasts_S2x1536_S3072
      ∧ now m c 76 main_v69 = shapeCast S2048 (v15 m c) shapeCasts_S2x1024_S2048 := by
    unfold now
    refine ⟨?_, ?_, ?_, ?_, ?_, ?_, ?_, ?_, ?_, ?_, ?_, ?_, ?_, ?_, ?_, ?_⟩ <;> (after_reads_simp; try rfl)
  after_reads_simp
  exact packed_congr h

/-- The gradients come as one part. -/
theorem V_part : V m c main_v18 = broadcastInDim S1x32x1024 ![1, 2] bcast_S32x1024_S1x32x1024_1_2 (V m c main_v17) := by
  unfold V V0
  simp only [List.flatten_cons, List.flatten_nil, List.append_nil]
  rw [StableHlo.after_append hostOps0, StableHlo.after_append hostOps0_1]
  generalize StableHlo.after hostOps0_1 (StableHlo.after hostOps0 fun b => m (c, b)) = U
  after_reads_simp

/-- The sum of that one part is the packed gradients. -/
theorem grad_all : grad1 (n := 1) (r := 32) (c := 1024) (V m c main_v18) = all_g m c := by
  rw [V_part, V_g]
  generalize all_g m c = z
  funext j
  unfold grad1
  rw [Fin.sum_univ_one]
  pointwise

end Cert.Small

end
-- ==== Proof.SmallRegion.lean ====
/- What the update of the packed small weights leaves in its result arrays, over the extended reals: the whole arrays as
   functions of the packed arrays it reads. -/
module

public import proofs.«01_k».proof.Proof.Gen.SmallKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.Small

open Idealize.ShloMosaic Idealize.ShloMosaic.TcCoe Idealize.SL.Sem
open Cert.SmallKernelIdeal Cert.SmallKernelIdeal.Gen
open Cert.Adamw

variable (m : (ℓ : Loc nD τ sig) → Buf (Elt Ideal) ℓ)

theorem idx_0 : ∀ t : Fin cfg0.N, win0_0.index t = ![0, t.val, 0] :=
  (by decide +kernel : ∀ t : Fin grid0.N, _)
theorem idx_1 : ∀ t : Fin cfg0.N, win0_1.index t = ![t.val, 0] :=
  (by decide +kernel : ∀ t : Fin grid0.N, _)
theorem idx_2 : ∀ t : Fin cfg0.N, win0_2.index t = ![t.val, 0] :=
  (by decide +kernel : ∀ t : Fin grid0.N, _)
theorem idx_3 : ∀ t : Fin cfg0.N, win0_3.index t = ![t.val, 0] :=
  (by decide +kernel : ∀ t : Fin grid0.N, _)
theorem idx_4 : ∀ t : Fin cfg0.N, win0_4.index t = ![t.val, 0] :=
  (by decide +kernel : ∀ t : Fin grid0.N, _)
theorem idx_5 : ∀ t : Fin cfg0.N, win0_5.index t = ![t.val, 0] :=
  (by decide +kernel : ∀ t : Fin grid0.N, _)
theorem idx_6 : ∀ t : Fin cfg0.N, win0_6.index t = ![t.val, 0] :=
  (by decide +kernel : ∀ t : Fin grid0.N, _)
theorem idx_7 : ∀ t : Fin cfg0.N, win0_7.index t = ![t.val, 0] :=
  (by decide +kernel : ∀ t : Fin grid0.N, _)

theorem in_1 (c : Dev nD) (t : Fin cfg0.N) (y : (sh 32 1024).Idx) (j : (sh 32 1024).Idx)
    (h0 : (j 0).val = t.val * 32 + (y 0).val) (h1 : (j 1).val = (y 1).val) :
    iblk m c 1 t y = V m c main_v36 j := by
  blk_simp [iblk]
  refine congrArg (V m c main_v36) ?_
  blk_ext [idx_1]
theorem in_2 (c : Dev nD) (t : Fin cfg0.N) (y : (sh 32 1024).Idx) (j : (sh 32 1024).Idx)
    (h0 : (j 0).val = t.val * 32 + (y 0).val) (h1 : (j 1).val = (y 1).val) :
    iblk m c 2 t y = V m c main_v54 j := by
  blk_simp [iblk]
  refine congrArg (V m c main_v54) ?_
  blk_ext [idx_2]
theorem in_3 (c : Dev nD) (t : Fin cfg0.N) (y : (sh 32 1024).Idx) (j : (sh 32 1024).Idx)
    (h0 : (j 0).val = t.val * 32 + (y 0).val) (h1 : (j 1).val = (y 1).val) :
    iblk m c 3 t y = V m c main_v72 j := by
  blk_simp [iblk]
  refine congrArg (V m c main_v72) ?_
  blk_ext [idx_3]
theorem in_0 (c : Dev nD) (t : Fin cfg0.N) (y : (sh 32 1024).Idx) (j : (sh 32 1024).Idx)
    (h0 : (j 0).val = t.val * 32 + (y 0).val) (h1 : (j 1).val = (y 1).val) :
    parts (n := 1) (p := 32) (c := 1024) (iblk m c 0 t) (y 0) (y 1) = grad1 (V m c main_v18) j :=
  parts_one fun d => by
    blk_simp [iblk]
    refine congrArg (V m c main_v18) ?_
    blk_ext [idx_0]

set_option maxHeartbeats 1000000 in
theorem arr_4 (c : Dev nD) : (dats m 0 c).arrAt 4 cfg0.N
    = grad1 (V m c main_v18) := by
  refine (dats m 0 c).arrAt_eq_of_covers 4 _ (by decide +kernel) fun t hf y => ?_
  blk_simp
  rw [after0_4]
  have hg := in_0 m c t  y (((View.whole main_v73_0).slice (win0_4.rect t)).emb y) (by blk_simp [idx_4]; try omega) (by blk_simp [idx_4]; try omega)
  unfold outsAt0
  frame_out
  try unfold k0_pay1
  try unfold k0_pay5
  try unfold k0_pay4
  try unfold k0_pay3
  generalize hs : k0_pay2 (F := Ideal) _ = s
  replace hg : s y = (grad1 (V m c main_v18)) (((View.whole main_v73_0).slice (win0_4.rect t)).emb y) := by
    rw [← hs]
    unfold k0_pay2
    pointwise
    exact single hg
  exact hg

set_option maxHeartbeats 1000000 in
theorem arr_5 (c : Dev nD) : (dats m 0 c).arrAt 5 cfg0.N
    = delta (grad1 (V m c main_v18)) (V m c main_v36) (V m c main_v54) (V m c main_v72) := by
  refine (dats m 0 c).arrAt_eq_of_covers 5 _ (by decide +kernel) fun t hf y => ?_
  blk_simp
  rw [after0_5]
  have e0 := in_1 m c t y (((View.whole main_v73_1).slice (win0_5.rect t)).emb y) (by blk_simp [idx_5]; try omega) (by blk_simp [idx_5]; try omega)
  have e1 := in_2 m c t y (((View.whole main_v73_1).slice (win0_5.rect t)).emb y) (by blk_simp [idx_5]; try omega) (by blk_simp [idx_5]; try omega)
  have e2 := in_3 m c t y (((View.whole main_v73_1).slice (win0_5.rect t)).emb y) (by blk_simp [idx_5]; try omega) (by blk_simp [idx_5]; try omega)
  have hg := in_0 m c t  y (((View.whole main_v73_1).slice (win0_5.rect t)).emb y) (by blk_simp [idx_5]; try omega) (by blk_simp [idx_5]; try omega)
  unfold outsAt0
  frame_out
  try unfold k0_pay1
  try unfold k0_pay5
  try unfold k0_pay4
  try unfold k0_pay3
  generalize hs : k0_pay2 (F := Ideal) _ = s
  replace hg : s y = (grad1 (V m c main_v18)) (((View.whole main_v73_1).slice (win0_5.rect t)).emb y) := by
    rw [← hs]
    unfold k0_pay2
    pointwise
    exact single hg
  pointwise
  exact step_congr hg e0 e1 e2

set_option maxHeartbeats 1000000 in
theorem arr_6 (c : Dev nD) : (dats m 0 c).arrAt 6 cfg0.N
    = newM (grad1 (V m c main_v18)) (V m c main_v54) := by
  refine (dats m 0 c).arrAt_eq_of_covers 6 _ (by decide +kernel) fun t hf y => ?_
  blk_simp
  rw [after0_6]
  have e1 := in_2 m c t y (((View.whole main_v73_2).slice (win0_6.rect t)).emb y) (by blk_simp [idx_6]; try omega) (by blk_simp [idx_6]; try omega)
  have hg := in_0 m c t  y (((View.whole main_v73_2).slice (win0_6.rect t)).emb y) (by blk_simp [idx_6]; try omega) (by blk_simp [idx_6]; try omega)
  unfold outsAt0
  frame_out
  try unfold k0_pay1
  try unfold k0_pay5
  try unfold k0_pay4
  try unfold k0_pay3
  generalize hs : k0_pay2 (F := Ideal) _ = s
  replace hg : s y = (grad1 (V m c main_v18)) (((View.whole main_v73_2).slice (win0_6.rect t)).emb y) := by
    rw [← hs]
    unfold k0_pay2
    pointwise
    exact single hg
  pointwise
  exact congrArg₂ mom1 hg e1

set_option maxHeartbeats 1000000 in
theorem arr_7 (c : Dev nD) : (dats m 0 c).arrAt 7 cfg0.N
    = newV (grad1 (V m c main_v18)) (V m c main_v72) := by
  refine (dats m 0 c).arrAt_eq_of_covers 7 _ (by decide +kernel) fun t hf y => ?_
  blk_simp
  rw [after0_7]
  have e2 := in_3 m c t y (((View.whole main_v73_3).slice (win0_7.rect t)).emb y) (by blk_simp [idx_7]; try omega) (by blk_simp [idx_7]; try omega)
  have hg := in_0 m c t  y (((View.whole main_v73_3).slice (win0_7.rect t)).emb y) (by blk_simp [idx_7]; try omega) (by blk_simp [idx_7]; try omega)
  unfold outsAt0
  frame_out
  try unfold k0_pay1
  try unfold k0_pay5
  try unfold k0_pay4
  try unfold k0_pay3
  generalize hs : k0_pay2 (F := Ideal) _ = s
  replace hg : s y = (grad1 (V m c main_v18)) (((View.whole main_v73_3).slice (win0_7.rect t)).emb y) := by
    rw [← hs]
    unfold k0_pay2
    pointwise
    exact single hg
  pointwise
  exact congrArg₂ mom2 hg e2

end Cert.Small

end
-- ==== Proof.SmallTail.lean ====
/- The host lines after the update: each small weight's result is cut from the packed array. -/
module

public import proofs.«01_k».proof.Proof.SmallMath
public import proofs.«01_k».proof.Proof.Gen.SmallKernelIdeal.Launch
public import Idealize.ShloMosaic.Lib.StableHlo.RunRead

@[expose] public section

set_option maxRecDepth 16384

noncomputable section

namespace Cert.Small

open Idealize.ShloMosaic Idealize.ShloMosaic.TcCoe
open Cert.SmallKernelIdeal Cert.SmallKernelIdeal.Gen
open Cert.Adamw

variable (U : Valuation τ sig (Elt Ideal))

/-- What a buffer holds after the host lines. -/
abbrev left (b : Ref sig .tc) := StableHlo.after hostOps1 U (Proc.devRef .tc b)

/-! Each weight's change and new moments. -/

theorem cut0 : left U main_v75 = pick S1024 0 (U (Proc.devRef .tc main_v73_1)) ∧ left U main_v107 = pick S1024 0 (U (Proc.devRef .tc main_v73_2)) ∧ left U main_v139 = pick S1024 0 (U (Proc.devRef .tc main_v73_3)) := by
  unfold left
  refine ⟨?_, ?_, ?_⟩ <;> (after_reads_simp; exact pick_row ..)
theorem cut1 : left U main_v77 = pick S2x6144 1024 (U (Proc.devRef .tc main_v73_1)) ∧ left U main_v109 = pick S2x6144 1024 (U (Proc.devRef .tc main_v73_2)) ∧ left U main_v141 = pick S2x6144 1024 (U (Proc.devRef .tc main_v73_3)) := by
  unfold left
  refine ⟨?_, ?_, ?_⟩ <;> (after_reads_simp; exact pick_cut ..)
theorem cut2 : left U main_v79 = pick S2x1024 13312 (U (Proc.devRef .tc main_v73_1)) ∧ left U main_v111 = pick S2x1024 13312 (U (Proc.devRef .tc main_v73_2)) ∧ left U main_v143 = pick S2x1024 13312 (U (Proc.devRef .tc main_v73_3)) := by
  unfold left
  refine ⟨?_, ?_, ?_⟩ <;> (after_reads_simp; exact pick_cut ..)
theorem cut3 : left U main_v81 = pick S2x256 15360 (U (Proc.devRef .tc main_v73_1)) ∧ left U main_v113 = pick S2x256 15360 (U (Proc.devRef .tc main_v73_2)) ∧ left U main_v145 = pick S2x256 15360 (U (Proc.devRef .tc main_v73_3)) := by
  unfold left
  refine ⟨?_, ?_, ?_⟩ <;> (after_reads_simp; exact pick_cut ..)
theorem cut4 : left U main_v83 = pick S2x128 15872 (U (Proc.devRef .tc main_v73_1)) ∧ left U main_v115 = pick S2x128 15872 (U (Proc.devRef .tc main_v73_2)) ∧ left U main_v147 = pick S2x128 15872 (U (Proc.devRef .tc main_v73_3)) := by
  unfold left
  refine ⟨?_, ?_, ?_⟩ <;> (after_reads_simp; exact pick_cut ..)
theorem cut5 : left U main_v85 = pick S2x96 16128 (U (Proc.devRef .tc main_v73_1)) ∧ left U main_v117 = pick S2x96 16128 (U (Proc.devRef .tc main_v73_2)) ∧ left U main_v149 = pick S2x96 16128 (U (Proc.devRef .tc main_v73_3)) := by
  unfold left
  refine ⟨?_, ?_, ?_⟩ <;> (after_reads_simp; exact pick_cut ..)
theorem cut6 : left U main_v87 = pick S2x96 16320 (U (Proc.devRef .tc main_v73_1)) ∧ left U main_v119 = pick S2x96 16320 (U (Proc.devRef .tc main_v73_2)) ∧ left U main_v151 = pick S2x96 16320 (U (Proc.devRef .tc main_v73_3)) := by
  unfold left
  refine ⟨?_, ?_, ?_⟩ <;> (after_reads_simp; exact pick_cut ..)
theorem cut7 : left U main_v89 = pick S2x4x64 16512 (U (Proc.devRef .tc main_v73_1)) ∧ left U main_v121 = pick S2x4x64 16512 (U (Proc.devRef .tc main_v73_2)) ∧ left U main_v153 = pick S2x4x64 16512 (U (Proc.devRef .tc main_v73_3)) := by
  unfold left
  refine ⟨?_, ?_, ?_⟩ <;> (after_reads_simp; exact pick_cut ..)
theorem cut8 : left U main_v91 = pick S2x512 17024 (U (Proc.devRef .tc main_v73_1)) ∧ left U main_v123 = pick S2x512 17024 (U (Proc.devRef .tc main_v73_2)) ∧ left U main_v155 = pick S2x512 17024 (U (Proc.devRef .tc main_v73_3)) := by
  unfold left
  refine ⟨?_, ?_, ?_⟩ <;> (after_reads_simp; exact pick_cut ..)
theorem cut9 : left U main_v93 = pick S2x2x2x64 18048 (U (Proc.devRef .tc main_v73_1)) ∧ left U main_v125 = pick S2x2x2x64 18048 (U (Proc.devRef .tc main_v73_2)) ∧ left U main_v157 = pick S2x2x2x64 18048 (U (Proc.devRef .tc main_v73_3)) := by
  unfold left
  refine ⟨?_, ?_, ?_⟩ <;> (after_reads_simp; exact pick_cut ..)
theorem cut10 : left U main_v95 = pick S2x2x64 18560 (U (Proc.devRef .tc main_v73_1)) ∧ left U main_v127 = pick S2x2x64 18560 (U (Proc.devRef .tc main_v73_2)) ∧ left U main_v159 = pick S2x2x64 18560 (U (Proc.devRef .tc main_v73_3)) := by
  unfold left
  refine ⟨?_, ?_, ?_⟩ <;> (after_reads_simp; exact pick_cut ..)
theorem cut11 : left U main_v97 = pick S2x64 18816 (U (Proc.devRef .tc main_v73_1)) ∧ left U main_v129 = pick S2x64 18816 (U (Proc.devRef .tc main_v73_2)) ∧ left U main_v161 = pick S2x64 18816 (U (Proc.devRef .tc main_v73_3)) := by
  unfold left
  refine ⟨?_, ?_, ?_⟩ <;> (after_reads_simp; exact pick_cut ..)
theorem cut12 : left U main_v99 = pick S2x64 18944 (U (Proc.devRef .tc main_v73_1)) ∧ left U main_v131 = pick S2x64 18944 (U (Proc.devRef .tc main_v73_2)) ∧ left U main_v163 = pick S2x64 18944 (U (Proc.devRef .tc main_v73_3)) := by
  unfold left
  refine ⟨?_, ?_, ?_⟩ <;> (after_reads_simp; exact pick_cut ..)
theorem cut13 : left U main_v101 = pick S2x8 19072 (U (Proc.devRef .tc main_v73_1)) ∧ left U main_v133 = pick S2x8 19072 (U (Proc.devRef .tc main_v73_2)) ∧ left U main_v165 = pick S2x8 19072 (U (Proc.devRef .tc main_v73_3)) := by
  unfold left
  refine ⟨?_, ?_, ?_⟩ <;> (after_reads_simp; exact pick_cut ..)
theorem cut14 : left U main_v103 = pick S2x1536 19088 (U (Proc.devRef .tc main_v73_1)) ∧ left U main_v135 = pick S2x1536 19088 (U (Proc.devRef .tc main_v73_2)) ∧ left U main_v167 = pick S2x1536 19088 (U (Proc.devRef .tc main_v73_3)) := by
  unfold left
  refine ⟨?_, ?_, ?_⟩ <;> (after_reads_simp; exact pick_cut ..)
theorem cut15 : left U main_v105 = pick S2x1024 22160 (U (Proc.devRef .tc main_v73_1)) ∧ left U main_v137 = pick S2x1024 22160 (U (Proc.devRef .tc main_v73_2)) ∧ left U main_v169 = pick S2x1024 22160 (U (Proc.devRef .tc main_v73_3)) := by
  unfold left
  refine ⟨?_, ?_, ?_⟩ <;> (after_reads_simp; exact pick_cut ..)

end Cert.Small

end
-- ==== Proof.SmallKernelRun.lean ====
/- The packed update's run read back: the packed results as functions of the arguments, over the extended reals. -/
module

public import proofs.«01_k».proof.Proof.SmallHost
public import proofs.«01_k».proof.Proof.SmallRegion
public import proofs.«01_k».proof.Proof.SmallTail

@[expose] public section

set_option maxRecDepth 16384

noncomputable section

namespace Cert.Small

open Idealize.ShloMosaic Idealize.ShloMosaic.TcCoe
open Cert.SmallKernelIdeal Cert.SmallKernelIdeal.Gen
open Cert.Adamw

variable (m : (ℓ : Loc nD τ sig) → Buf (Elt Ideal) ℓ) (c : Dev nD)

/-- The buffers' contents when the update has ended. -/
abbrev ended : Valuation τ sig (Elt Ideal) := Pipeline.withArrays spec0 c (V0 m c) fun w => (dats m 0 c).arrAt w cfg0.N

/-- The host lines after the update run on them. -/
theorem ends (b : Ref sig .tc) : Pipeline.afterTail₀ cfgs (dats m) 0 (V0 m) [hostOps1] c b = left (ended m c) b := by
  unfold Pipeline.afterTail₀
  rw [List.flatten_cons, List.flatten_nil, List.append_nil]

variable {m c} {s : Shape} {o : ℕ} {a b d e : s.Idx → EReal}

/-- The packed changes. -/
theorem ended_d (m : (ℓ : Loc nD τ sig) → Buf (Elt Ideal) ℓ) (c : Dev nD) : ended m c (Proc.devRef .tc main_v73_1) = changes (all_g m c) (all_w m c) (all_m m c) (all_v m c) := by
  refine (Pipeline.withArrays_arr spec0 launch0.win.arr_inj c (V0 m c) _ 5).trans ((arr_5 m c).trans ?_)
  rw [grad_all, V_w, V_m, V_v]
  rfl

/-- One weight's changes. -/
theorem part_d (ha : pick s o (all_g m c) = a) (hb : pick s o (all_w m c) = b) (hd : pick s o (all_m m c) = d) (he : pick s o (all_v m c) = e) :
    pick s o (ended m c (Proc.devRef .tc main_v73_1)) = changes a b d e := by
  subst ha hb hd he
  rw [ended_d]
  rfl

/-- The packed new first moments. -/
theorem ended_m (m : (ℓ : Loc nD τ sig) → Buf (Elt Ideal) ℓ) (c : Dev nD) : ended m c (Proc.devRef .tc main_v73_2) = firsts (all_g m c) (all_m m c) := by
  refine (Pipeline.withArrays_arr spec0 launch0.win.arr_inj c (V0 m c) _ 6).trans ((arr_6 m c).trans ?_)
  rw [grad_all, V_m]
  rfl

/-- One weight's new first moments. -/
theorem part_m (ha : pick s o (all_g m c) = a) (hd : pick s o (all_m m c) = d) :
    pick s o (ended m c (Proc.devRef .tc main_v73_2)) = firsts a d := by
  subst ha hd
  rw [ended_m]
  rfl

/-- The packed new second moments. -/
theorem ended_v (m : (ℓ : Loc nD τ sig) → Buf (Elt Ideal) ℓ) (c : Dev nD) : ended m c (Proc.devRef .tc main_v73_3) = seconds (all_g m c) (all_v m c) := by
  refine (Pipeline.withArrays_arr spec0 launch0.win.arr_inj c (V0 m c) _ 7).trans ((arr_7 m c).trans ?_)
  rw [grad_all, V_v]
  rfl

/-- One weight's new second moments. -/
theorem part_v (ha : pick s o (all_g m c) = a) (he : pick s o (all_v m c) = e) :
    pick s o (ended m c (Proc.devRef .tc main_v73_3)) = seconds a e := by
  subst ha he
  rw [ended_v]
  rfl

end Cert.Small

end
-- ==== Proof.SmallReference.lean ====
/- The plain AdamW step of the small weights over the extended reals: the same functions of the arguments. -/
module

public import proofs.«01_k».proof.Proof.Gen.SmallReferenceIdeal.Read
public import proofs.«01_k».proof.Proof.SmallMath
public import Idealize.ShloMosaic.Lib.Pointwise

@[expose] public section

set_option maxRecDepth 16384

noncomputable section

namespace Cert.Small

open Idealize.ShloMosaic
open Cert.SmallReferenceIdeal Cert.SmallReferenceIdeal.Gen Cert.SmallReferenceIdeal.Read
open Cert.Adamw

/-- `c_ctx`. -/
theorem ref0 {a a' b b' d d' e e' : S1024.Idx → EReal} (ha : a' = a) (hb : b' = b) (hd : d' = d) (he : e' = e) :
    val_main_v23 (F := Ideal) a' b' d' e' = changes a b d e ∧ val_main_v4 (F := Ideal) a' d' = firsts a d ∧ val_main_v10 (F := Ideal) a' e' = seconds a e := by
  subst ha hb hd he
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_3 val_main_cst val_main_cst_0 val_main_cst_1 val_main_cst_2 val_main_cst_4 val_main_cst_5 val_main_cst_6 val_main_cst_7
  refine ⟨?_, ?_, ?_⟩ <;> (funext j; pointwise; rfl)

/-- `b_mod`. -/
theorem ref1 {a a' b b' d d' e e' : S2x6144.Idx → EReal} (ha : a' = a) (hb : b' = b) (hd : d' = d) (he : e' = e) :
    val_main_v47 (F := Ideal) a' b' d' e' = changes a b d e ∧ val_main_v28 (F := Ideal) a' d' = firsts a d ∧ val_main_v34 (F := Ideal) a' e' = seconds a e := by
  subst ha hb hd he
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_cst_8 val_main_cst_9 val_main_cst_12 val_main_cst_10 val_main_cst_11 val_main_cst_13 val_main_cst_14 val_main_cst_15 val_main_cst_16
  refine ⟨?_, ?_, ?_⟩ <;> (funext j; pointwise; rfl)

/-- `norm1_g`. -/
theorem ref2 {a a' b b' d d' e e' : S2x1024.Idx → EReal} (ha : a' = a) (hb : b' = b) (hd : d' = d) (he : e' = e) :
    val_main_v71 (F := Ideal) a' b' d' e' = changes a b d e ∧ val_main_v52 (F := Ideal) a' d' = firsts a d ∧ val_main_v58 (F := Ideal) a' e' = seconds a e := by
  subst ha hb hd he
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_cst_17 val_main_cst_18 val_main_cst_21 val_main_cst_19 val_main_cst_20 val_main_cst_22 val_main_cst_23 val_main_cst_24 val_main_cst_25
  refine ⟨?_, ?_, ?_⟩ <;> (funext j; pointwise; rfl)

/-- `q_a_g`. -/
theorem ref3 {a a' b b' d d' e e' : S2x256.Idx → EReal} (ha : a' = a) (hb : b' = b) (hd : d' = d) (he : e' = e) :
    val_main_v95 (F := Ideal) a' b' d' e' = changes a b d e ∧ val_main_v76 (F := Ideal) a' d' = firsts a d ∧ val_main_v82 (F := Ideal) a' e' = seconds a e := by
  subst ha hb hd he
  unfold val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_cst_26 val_main_cst_27 val_main_cst_30 val_main_cst_28 val_main_cst_29 val_main_cst_31 val_main_cst_32 val_main_cst_33 val_main_cst_34
  refine ⟨?_, ?_, ?_⟩ <;> (funext j; pointwise; rfl)

/-- `kv_a_g`. -/
theorem ref4 {a a' b b' d d' e e' : S2x128.Idx → EReal} (ha : a' = a) (hb : b' = b) (hd : d' = d) (he : e' = e) :
    val_main_v119 (F := Ideal) a' b' d' e' = changes a b d e ∧ val_main_v100 (F := Ideal) a' d' = firsts a d ∧ val_main_v106 (F := Ideal) a' e' = seconds a e := by
  subst ha hb hd he
  unfold val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_cst_35 val_main_cst_36 val_main_cst_39 val_main_cst_37 val_main_cst_38 val_main_cst_40 val_main_cst_41 val_main_cst_42 val_main_cst_43
  refine ⟨?_, ?_, ?_⟩ <;> (funext j; pointwise; rfl)

/-- `mla_q_g`. -/
theorem ref5 {a a' b b' d d' e e' : S2x96.Idx → EReal} (ha : a' = a) (hb : b' = b) (hd : d' = d) (he : e' = e) :
    val_main_v143 (F := Ideal) a' b' d' e' = changes a b d e ∧ val_main_v124 (F := Ideal) a' d' = firsts a d ∧ val_main_v130 (F := Ideal) a' e' = seconds a e := by
  subst ha hb hd he
  unfold val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_cst_44 val_main_cst_45 val_main_cst_48 val_main_cst_46 val_main_cst_47 val_main_cst_49 val_main_cst_50 val_main_cst_51 val_main_cst_52
  refine ⟨?_, ?_, ?_⟩ <;> (funext j; pointwise; rfl)

/-- `mla_k_g`. -/
theorem ref6 {a a' b b' d d' e e' : S2x96.Idx → EReal} (ha : a' = a) (hb : b' = b) (hd : d' = d) (he : e' = e) :
    val_main_v167 (F := Ideal) a' b' d' e' = changes a b d e ∧ val_main_v148 (F := Ideal) a' d' = firsts a d ∧ val_main_v154 (F := Ideal) a' e' = seconds a e := by
  subst ha hb hd he
  unfold val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_cst_53 val_main_cst_54 val_main_cst_57 val_main_cst_55 val_main_cst_56 val_main_cst_58 val_main_cst_59 val_main_cst_60 val_main_cst_61
  refine ⟨?_, ?_, ?_⟩ <;> (funext j; pointwise; rfl)

/-- `conv_w`. -/
theorem ref7 {a a' b b' d d' e e' : S2x4x64.Idx → EReal} (ha : a' = a) (hb : b' = b) (hd : d' = d) (he : e' = e) :
    val_main_v191 (F := Ideal) a' b' d' e' = changes a b d e ∧ val_main_v172 (F := Ideal) a' d' = firsts a d ∧ val_main_v178 (F := Ideal) a' e' = seconds a e := by
  subst ha hb hd he
  unfold val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_cst_62 val_main_cst_63 val_main_cst_66 val_main_cst_64 val_main_cst_65 val_main_cst_67 val_main_cst_68 val_main_cst_69 val_main_cst_70
  refine ⟨?_, ?_, ?_⟩ <;> (funext j; pointwise; rfl)

/-- `conv_b`. -/
theorem ref8 {a a' b b' d d' e e' : S2x512.Idx → EReal} (ha : a' = a) (hb : b' = b) (hd : d' = d) (he : e' = e) :
    val_main_v215 (F := Ideal) a' b' d' e' = changes a b d e ∧ val_main_v196 (F := Ideal) a' d' = firsts a d ∧ val_main_v202 (F := Ideal) a' e' = seconds a e := by
  subst ha hb hd he
  unfold val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_cst_71 val_main_cst_72 val_main_cst_75 val_main_cst_73 val_main_cst_74 val_main_cst_76 val_main_cst_77 val_main_cst_78 val_main_cst_79
  refine ⟨?_, ?_, ?_⟩ <;> (funext j; pointwise; rfl)

/-- `lru_gate_b`. -/
theorem ref9 {a a' b b' d d' e e' : S2x2x2x64.Idx → EReal} (ha : a' = a) (hb : b' = b) (hd : d' = d) (he : e' = e) :
    val_main_v239 (F := Ideal) a' b' d' e' = changes a b d e ∧ val_main_v220 (F := Ideal) a' d' = firsts a d ∧ val_main_v226 (F := Ideal) a' e' = seconds a e := by
  subst ha hb hd he
  unfold val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_cst_80 val_main_cst_81 val_main_cst_84 val_main_cst_82 val_main_cst_83 val_main_cst_85 val_main_cst_86 val_main_cst_87 val_main_cst_88
  refine ⟨?_, ?_, ?_⟩ <;> (funext j; pointwise; rfl)

/-- `lru_lambda`. -/
theorem ref10 {a a' b b' d d' e e' : S2x2x64.Idx → EReal} (ha : a' = a) (hb : b' = b) (hd : d' = d) (he : e' = e) :
    val_main_v263 (F := Ideal) a' b' d' e' = changes a b d e ∧ val_main_v244 (F := Ideal) a' d' = firsts a d ∧ val_main_v250 (F := Ideal) a' e' = seconds a e := by
  subst ha hb hd he
  unfold val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_cst_89 val_main_cst_90 val_main_cst_93 val_main_cst_91 val_main_cst_92 val_main_cst_94 val_main_cst_95 val_main_cst_96 val_main_cst_97
  refine ⟨?_, ?_, ?_⟩ <;> (funext j; pointwise; rfl)

/-- `swa_q_g`. -/
theorem ref11 {a a' b b' d d' e e' : S2x64.Idx → EReal} (ha : a' = a) (hb : b' = b) (hd : d' = d) (he : e' = e) :
    val_main_v287 (F := Ideal) a' b' d' e' = changes a b d e ∧ val_main_v268 (F := Ideal) a' d' = firsts a d ∧ val_main_v274 (F := Ideal) a' e' = seconds a e := by
  subst ha hb hd he
  unfold val_main_v287 val_main_v286 val_main_v285 val_main_v284 val_main_v283 val_main_v282 val_main_v281 val_main_v280 val_main_v279 val_main_v278 val_main_v277 val_main_v276 val_main_v275 val_main_v274 val_main_v273 val_main_v272 val_main_v271 val_main_v270 val_main_v269 val_main_v268 val_main_v267 val_main_v266 val_main_v265 val_main_v264 val_main_cst_98 val_main_cst_99 val_main_cst_102 val_main_cst_100 val_main_cst_101 val_main_cst_103 val_main_cst_104 val_main_cst_105 val_main_cst_106
  refine ⟨?_, ?_, ?_⟩ <;> (funext j; pointwise; rfl)

/-- `swa_k_g`. -/
theorem ref12 {a a' b b' d d' e e' : S2x64.Idx → EReal} (ha : a' = a) (hb : b' = b) (hd : d' = d) (he : e' = e) :
    val_main_v311 (F := Ideal) a' b' d' e' = changes a b d e ∧ val_main_v292 (F := Ideal) a' d' = firsts a d ∧ val_main_v298 (F := Ideal) a' e' = seconds a e := by
  subst ha hb hd he
  unfold val_main_v311 val_main_v310 val_main_v309 val_main_v308 val_main_v307 val_main_v306 val_main_v305 val_main_v304 val_main_v303 val_main_v302 val_main_v301 val_main_v300 val_main_v299 val_main_v298 val_main_v297 val_main_v296 val_main_v295 val_main_v294 val_main_v293 val_main_v292 val_main_v291 val_main_v290 val_main_v289 val_main_v288 val_main_cst_107 val_main_cst_108 val_main_cst_111 val_main_cst_109 val_main_cst_110 val_main_cst_112 val_main_cst_113 val_main_cst_114 val_main_cst_115
  refine ⟨?_, ?_, ?_⟩ <;> (funext j; pointwise; rfl)

/-- `swa_sink`. -/
theorem ref13 {a a' b b' d d' e e' : S2x8.Idx → EReal} (ha : a' = a) (hb : b' = b) (hd : d' = d) (he : e' = e) :
    val_main_v335 (F := Ideal) a' b' d' e' = changes a b d e ∧ val_main_v316 (F := Ideal) a' d' = firsts a d ∧ val_main_v322 (F := Ideal) a' e' = seconds a e := by
  subst ha hb hd he
  unfold val_main_v335 val_main_v334 val_main_v333 val_main_v332 val_main_v331 val_main_v330 val_main_v329 val_main_v328 val_main_v327 val_main_v326 val_main_v325 val_main_v324 val_main_v323 val_main_v322 val_main_v321 val_main_v320 val_main_v319 val_main_v318 val_main_v317 val_main_v316 val_main_v315 val_main_v314 val_main_v313 val_main_v312 val_main_cst_116 val_main_cst_117 val_main_cst_120 val_main_cst_118 val_main_cst_119 val_main_cst_121 val_main_cst_122 val_main_cst_123 val_main_cst_124
  refine ⟨?_, ?_, ?_⟩ <;> (funext j; pointwise; rfl)

/-- `group_g`. -/
theorem ref14 {a a' b b' d d' e e' : S2x1536.Idx → EReal} (ha : a' = a) (hb : b' = b) (hd : d' = d) (he : e' = e) :
    val_main_v359 (F := Ideal) a' b' d' e' = changes a b d e ∧ val_main_v340 (F := Ideal) a' d' = firsts a d ∧ val_main_v346 (F := Ideal) a' e' = seconds a e := by
  subst ha hb hd he
  unfold val_main_v359 val_main_v358 val_main_v357 val_main_v356 val_main_v355 val_main_v354 val_main_v353 val_main_v352 val_main_v351 val_main_v350 val_main_v349 val_main_v348 val_main_v347 val_main_v346 val_main_v345 val_main_v344 val_main_v343 val_main_v342 val_main_v341 val_main_v340 val_main_v339 val_main_v338 val_main_v337 val_main_v336 val_main_cst_125 val_main_cst_126 val_main_cst_129 val_main_cst_127 val_main_cst_128 val_main_cst_130 val_main_cst_131 val_main_cst_132 val_main_cst_133
  refine ⟨?_, ?_, ?_⟩ <;> (funext j; pointwise; rfl)

/-- `norm2_g`. -/
theorem ref15 {a a' b b' d d' e e' : S2x1024.Idx → EReal} (ha : a' = a) (hb : b' = b) (hd : d' = d) (he : e' = e) :
    val_main_v383 (F := Ideal) a' b' d' e' = changes a b d e ∧ val_main_v364 (F := Ideal) a' d' = firsts a d ∧ val_main_v370 (F := Ideal) a' e' = seconds a e := by
  subst ha hb hd he
  unfold val_main_v383 val_main_v382 val_main_v381 val_main_v380 val_main_v379 val_main_v378 val_main_v377 val_main_v376 val_main_v375 val_main_v374 val_main_v373 val_main_v372 val_main_v371 val_main_v370 val_main_v369 val_main_v368 val_main_v367 val_main_v366 val_main_v365 val_main_v364 val_main_v363 val_main_v362 val_main_v361 val_main_v360 val_main_cst_134 val_main_cst_135 val_main_cst_138 val_main_cst_136 val_main_cst_137 val_main_cst_139 val_main_cst_140 val_main_cst_141 val_main_cst_142
  refine ⟨?_, ?_, ?_⟩ <;> (funext j; pointwise; rfl)

end Cert.Small

end
-- ==== Proof.SmallClaim.lean ====
/- The small weights' claims: the kernel's packed update and the plain AdamW step end with equal arrays. -/
module

public import proofs.«01_k».proof.Defs
public import proofs.«01_k».proof.Proof.Gen.SmallKernel
public import proofs.«01_k».proof.Proof.Gen.SmallKernel.Frame
public import proofs.«01_k».proof.Proof.Gen.SmallReferenceIdeal.Run
public import proofs.«01_k».proof.Proof.SmallKernelRun
public import proofs.«01_k».proof.Proof.SmallReference
public import Idealize.ShloMosaic.Lib.Quiescent

@[expose] public section

set_option maxRecDepth 16384

noncomputable section

namespace Cert.Small

open Idealize.ShloMosaic Idealize.SL.Sem
open Cert.SmallKernelIdeal Cert.SmallKernelIdeal.Gen Cert.SmallReferenceIdeal.Read

/-- The plain step runs to its end; it has no semaphores. -/
theorem reference_frame : Cert.quiescent_SmallReferenceIdeal := fun m ρ _ =>
  (θ_run Cert.SmallReferenceIdeal.defs _ _).mono (fun r h => ⟨fun c => (h c).2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.SmallReferenceIdeal.Value.run (F := Ideal) m ρ)

/-- Equal results from equal arguments. -/
theorem algebraic : Cert.algebraic_SmallKernelIdeal_SmallReferenceIdeal := by
  intro m ρ m' ρ' _ hagree
  refine ⟨fun c => changes (g0 m c) (w0 m c) (m0 m c) (v0 m c),
    fun c => changes (g1 m c) (w1 m c) (m1 m c) (v1 m c),
    fun c => changes (g2 m c) (w2 m c) (m2 m c) (v2 m c),
    fun c => changes (g3 m c) (w3 m c) (m3 m c) (v3 m c),
    fun c => changes (g4 m c) (w4 m c) (m4 m c) (v4 m c),
    fun c => changes (g5 m c) (w5 m c) (m5 m c) (v5 m c),
    fun c => changes (g6 m c) (w6 m c) (m6 m c) (v6 m c),
    fun c => changes (g7 m c) (w7 m c) (m7 m c) (v7 m c),
    fun c => changes (g8 m c) (w8 m c) (m8 m c) (v8 m c),
    fun c => changes (g9 m c) (w9 m c) (m9 m c) (v9 m c),
    fun c => changes (g10 m c) (w10 m c) (m10 m c) (v10 m c),
    fun c => changes (g11 m c) (w11 m c) (m11 m c) (v11 m c),
    fun c => changes (g12 m c) (w12 m c) (m12 m c) (v12 m c),
    fun c => changes (g13 m c) (w13 m c) (m13 m c) (v13 m c),
    fun c => changes (g14 m c) (w14 m c) (m14 m c) (v14 m c),
    fun c => changes (g15 m c) (w15 m c) (m15 m c) (v15 m c),
    fun c => firsts (g0 m c) (m0 m c),
    fun c => firsts (g1 m c) (m1 m c),
    fun c => firsts (g2 m c) (m2 m c),
    fun c => firsts (g3 m c) (m3 m c),
    fun c => firsts (g4 m c) (m4 m c),
    fun c => firsts (g5 m c) (m5 m c),
    fun c => firsts (g6 m c) (m6 m c),
    fun c => firsts (g7 m c) (m7 m c),
    fun c => firsts (g8 m c) (m8 m c),
    fun c => firsts (g9 m c) (m9 m c),
    fun c => firsts (g10 m c) (m10 m c),
    fun c => firsts (g11 m c) (m11 m c),
    fun c => firsts (g12 m c) (m12 m c),
    fun c => firsts (g13 m c) (m13 m c),
    fun c => firsts (g14 m c) (m14 m c),
    fun c => firsts (g15 m c) (m15 m c),
    fun c => seconds (g0 m c) (v0 m c),
    fun c => seconds (g1 m c) (v1 m c),
    fun c => seconds (g2 m c) (v2 m c),
    fun c => seconds (g3 m c) (v3 m c),
    fun c => seconds (g4 m c) (v4 m c),
    fun c => seconds (g5 m c) (v5 m c),
    fun c => seconds (g6 m c) (v6 m c),
    fun c => seconds (g7 m c) (v7 m c),
    fun c => seconds (g8 m c) (v8 m c),
    fun c => seconds (g9 m c) (v9 m c),
    fun c => seconds (g10 m c) (v10 m c),
    fun c => seconds (g11 m c) (v11 m c),
    fun c => seconds (g12 m c) (v12 m c),
    fun c => seconds (g13 m c) (v13 m c),
    fun c => seconds (g14 m c) (v14 m c),
    fun c => seconds (g15 m c) (v15 m c),
    ?_, ?_⟩
  · refine (θ_run defs _ _).mono (fun r h c => ?_) (θ_run_and (run_main m ρ) (unchanged m ρ))
    have out := fun b hb => ((h.1 c).2 b hb).trans (ends m c b)
    exact ⟨(out main_v75 (by decide)).trans ((cut0 _).1.trans (part_d at0 at0 at0 at0)),
      (out main_v77 (by decide)).trans ((cut1 _).1.trans (part_d at1 at1 at1 at1)),
      (out main_v79 (by decide)).trans ((cut2 _).1.trans (part_d at2 at2 at2 at2)),
      (out main_v81 (by decide)).trans ((cut3 _).1.trans (part_d at3 at3 at3 at3)),
      (out main_v83 (by decide)).trans ((cut4 _).1.trans (part_d at4 at4 at4 at4)),
      (out main_v85 (by decide)).trans ((cut5 _).1.trans (part_d at5 at5 at5 at5)),
      (out main_v87 (by decide)).trans ((cut6 _).1.trans (part_d at6 at6 at6 at6)),
      (out main_v89 (by decide)).trans ((cut7 _).1.trans (part_d at7 at7 at7 at7)),
      (out main_v91 (by decide)).trans ((cut8 _).1.trans (part_d at8 at8 at8 at8)),
      (out main_v93 (by decide)).trans ((cut9 _).1.trans (part_d at9 at9 at9 at9)),
      (out main_v95 (by decide)).trans ((cut10 _).1.trans (part_d at10 at10 at10 at10)),
      (out main_v97 (by decide)).trans ((cut11 _).1.trans (part_d at11 at11 at11 at11)),
      (out main_v99 (by decide)).trans ((cut12 _).1.trans (part_d at12 at12 at12 at12)),
      (out main_v101 (by decide)).trans ((cut13 _).1.trans (part_d at13 at13 at13 at13)),
      (out main_v103 (by decide)).trans ((cut14 _).1.trans (part_d at14 at14 at14 at14)),
      (out main_v105 (by decide)).trans ((cut15 _).1.trans (part_d at15 at15 at15 at15)),
      (out main_v107 (by decide)).trans ((cut0 _).2.1.trans (part_m at0 at0)),
      (out main_v109 (by decide)).trans ((cut1 _).2.1.trans (part_m at1 at1)),
      (out main_v111 (by decide)).trans ((cut2 _).2.1.trans (part_m at2 at2)),
      (out main_v113 (by decide)).trans ((cut3 _).2.1.trans (part_m at3 at3)),
      (out main_v115 (by decide)).trans ((cut4 _).2.1.trans (part_m at4 at4)),
      (out main_v117 (by decide)).trans ((cut5 _).2.1.trans (part_m at5 at5)),
      (out main_v119 (by decide)).trans ((cut6 _).2.1.trans (part_m at6 at6)),
      (out main_v121 (by decide)).trans ((cut7 _).2.1.trans (part_m at7 at7)),
      (out main_v123 (by decide)).trans ((cut8 _).2.1.trans (part_m at8 at8)),
      (out main_v125 (by decide)).trans ((cut9 _).2.1.trans (part_m at9 at9)),
      (out main_v127 (by decide)).trans ((cut10 _).2.1.trans (part_m at10 at10)),
      (out main_v129 (by decide)).trans ((cut11 _).2.1.trans (part_m at11 at11)),
      (out main_v131 (by decide)).trans ((cut12 _).2.1.trans (part_m at12 at12)),
      (out main_v133 (by decide)).trans ((cut13 _).2.1.trans (part_m at13 at13)),
      (out main_v135 (by decide)).trans ((cut14 _).2.1.trans (part_m at14 at14)),
      (out main_v137 (by decide)).trans ((cut15 _).2.1.trans (part_m at15 at15)),
      (out main_v139 (by decide)).trans ((cut0 _).2.2.trans (part_v at0 at0)),
      (out main_v141 (by decide)).trans ((cut1 _).2.2.trans (part_v at1 at1)),
      (out main_v143 (by decide)).trans ((cut2 _).2.2.trans (part_v at2 at2)),
      (out main_v145 (by decide)).trans ((cut3 _).2.2.trans (part_v at3 at3)),
      (out main_v147 (by decide)).trans ((cut4 _).2.2.trans (part_v at4 at4)),
      (out main_v149 (by decide)).trans ((cut5 _).2.2.trans (part_v at5 at5)),
      (out main_v151 (by decide)).trans ((cut6 _).2.2.trans (part_v at6 at6)),
      (out main_v153 (by decide)).trans ((cut7 _).2.2.trans (part_v at7 at7)),
      (out main_v155 (by decide)).trans ((cut8 _).2.2.trans (part_v at8 at8)),
      (out main_v157 (by decide)).trans ((cut9 _).2.2.trans (part_v at9 at9)),
      (out main_v159 (by decide)).trans ((cut10 _).2.2.trans (part_v at10 at10)),
      (out main_v161 (by decide)).trans ((cut11 _).2.2.trans (part_v at11 at11)),
      (out main_v163 (by decide)).trans ((cut12 _).2.2.trans (part_v at12 at12)),
      (out main_v165 (by decide)).trans ((cut13 _).2.2.trans (part_v at13 at13)),
      (out main_v167 (by decide)).trans ((cut14 _).2.2.trans (part_v at14 at14)),
      (out main_v169 (by decide)).trans ((cut15 _).2.2.trans (part_v at15 at15)),
      h.2 c⟩
  refine (θ_run Cert.SmallReferenceIdeal.defs _ _).mono (fun _ h c => ?_) (Cert.SmallReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, hargs⟩ := h c
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63⟩ := hagree c
  have r0 := ref0 e0 e16 e32 e48
  have r1 := ref1 e1 e17 e33 e49
  have r2 := ref2 e2 e18 e34 e50
  have r3 := ref3 e3 e19 e35 e51
  have r4 := ref4 e4 e20 e36 e52
  have r5 := ref5 e5 e21 e37 e53
  have r6 := ref6 e6 e22 e38 e54
  have r7 := ref7 e7 e23 e39 e55
  have r8 := ref8 e8 e24 e40 e56
  have r9 := ref9 e9 e25 e41 e57
  have r10 := ref10 e10 e26 e42 e58
  have r11 := ref11 e11 e27 e43 e59
  have r12 := ref12 e12 e28 e44 e60
  have r13 := ref13 e13 e29 e45 e61
  have r14 := ref14 e14 e30 e46 e62
  have r15 := ref15 e15 e31 e47 e63
  exact ⟨h0.trans ((val_main_v23_eq _).trans r0.1),
    h1.trans ((val_main_v47_eq _).trans r1.1),
    h2.trans ((val_main_v71_eq _).trans r2.1),
    h3.trans ((val_main_v95_eq _).trans r3.1),
    h4.trans ((val_main_v119_eq _).trans r4.1),
    h5.trans ((val_main_v143_eq _).trans r5.1),
    h6.trans ((val_main_v167_eq _).trans r6.1),
    h7.trans ((val_main_v191_eq _).trans r7.1),
    h8.trans ((val_main_v215_eq _).trans r8.1),
    h9.trans ((val_main_v239_eq _).trans r9.1),
    h10.trans ((val_main_v263_eq _).trans r10.1),
    h11.trans ((val_main_v287_eq _).trans r11.1),
    h12.trans ((val_main_v311_eq _).trans r12.1),
    h13.trans ((val_main_v335_eq _).trans r13.1),
    h14.trans ((val_main_v359_eq _).trans r14.1),
    h15.trans ((val_main_v383_eq _).trans r15.1),
    h16.trans ((val_main_v4_eq _).trans r0.2.1),
    h17.trans ((val_main_v28_eq _).trans r1.2.1),
    h18.trans ((val_main_v52_eq _).trans r2.2.1),
    h19.trans ((val_main_v76_eq _).trans r3.2.1),
    h20.trans ((val_main_v100_eq _).trans r4.2.1),
    h21.trans ((val_main_v124_eq _).trans r5.2.1),
    h22.trans ((val_main_v148_eq _).trans r6.2.1),
    h23.trans ((val_main_v172_eq _).trans r7.2.1),
    h24.trans ((val_main_v196_eq _).trans r8.2.1),
    h25.trans ((val_main_v220_eq _).trans r9.2.1),
    h26.trans ((val_main_v244_eq _).trans r10.2.1),
    h27.trans ((val_main_v268_eq _).trans r11.2.1),
    h28.trans ((val_main_v292_eq _).trans r12.2.1),
    h29.trans ((val_main_v316_eq _).trans r13.2.1),
    h30.trans ((val_main_v340_eq _).trans r14.2.1),
    h31.trans ((val_main_v364_eq _).trans r15.2.1),
    h32.trans ((val_main_v10_eq _).trans r0.2.2),
    h33.trans ((val_main_v34_eq _).trans r1.2.2),
    h34.trans ((val_main_v58_eq _).trans r2.2.2),
    h35.trans ((val_main_v82_eq _).trans r3.2.2),
    h36.trans ((val_main_v106_eq _).trans r4.2.2),
    h37.trans ((val_main_v130_eq _).trans r5.2.2),
    h38.trans ((val_main_v154_eq _).trans r6.2.2),
    h39.trans ((val_main_v178_eq _).trans r7.2.2),
    h40.trans ((val_main_v202_eq _).trans r8.2.2),
    h41.trans ((val_main_v226_eq _).trans r9.2.2),
    h42.trans ((val_main_v250_eq _).trans r10.2.2),
    h43.trans ((val_main_v274_eq _).trans r11.2.2),
    h44.trans ((val_main_v298_eq _).trans r12.2.2),
    h45.trans ((val_main_v322_eq _).trans r13.2.2),
    h46.trans ((val_main_v346_eq _).trans r14.2.2),
    h47.trans ((val_main_v370_eq _).trans r15.2.2),
    hargs⟩

end Cert.Small

end
-- ==== Proof.SumsRegion.lean ====
/- The sums over the eight devices, over the extended reals: each of the two calls leaves the sum of the parts it reads. -/
module

public import proofs.«01_k».proof.Proof.Gen.SumsKernelIdeal.Frame
public import proofs.«01_k».proof.Proof.AdamwMath
public import Idealize.ShloMosaic.Lib.Pipeline.ValueKit.Geometry
public import Idealize.ShloMosaic.Lib.Pipeline.ValueKit.Acc

@[expose] public section

set_option maxRecDepth 16384

noncomputable section

namespace Cert.Sums

open Idealize.ShloMosaic Idealize.ShloMosaic.TcCoe Idealize.SL.Sem
open Cert.SumsKernelIdeal Cert.SumsKernelIdeal.Gen
open Cert.Adamw

variable (V : (c : Dev nD) → (b : Ref sig .tc) → Buf (Elt Ideal) ((c : Thread nD τ).loc b))

/-! ## Layer 0 -/

theorem idx0_0 : ∀ t : Fin cfg0.N, win0_0.index t = ![0, t.val, 0] :=
  (by decide +kernel : ∀ t : Fin grid0.N, _)
theorem idx0_1 : ∀ t : Fin cfg0.N, win0_1.index t = ![t.val, 0] :=
  (by decide +kernel : ∀ t : Fin grid0.N, _)

theorem in0 (c : Dev nD) (t : Fin cfg0.N) (y : (sh 16 1024).Idx) (j : (sh 16 1024).Idx)
    (h0 : (j 0).val = t.val * 16 + (y 0).val) (h1 : (j 1).val = (y 1).val) :
    parts (n := 8) (p := 16) (c := 1024) (iblk0 V c 0 t) (y 0) (y 1) = grad1 (V c main_arg0) j :=
  parts_one fun d => by
    blk_simp [iblk0]
    refine congrArg (V c main_arg0) ?_
    blk_ext [idx0_0]

set_option maxHeartbeats 400000 in
theorem arr0 (c : Dev nD) : (dat0 V c).arrAt 1 cfg0.N = grad1 (n := 8) (r := 16) (c := 1024) (V c main_arg0) := by
  refine (dat0 V c).arrAt_eq_of_covers 1 _ (by decide +kernel) fun t hf y => ?_
  blk_simp
  rw [after0_1]
  have hg := in0 V c t y (((View.whole main_v0).slice (win0_1.rect t)).emb y) (by blk_simp [idx0_1]; try omega) (by blk_simp [idx0_1]; try omega)
  unfold out0_1
  frame_out
  generalize hs : k0_pay1 (F := Ideal) _ _ _ _ _ _ _ _ = s
  replace hg : s y = grad1 (V c main_arg0) (((View.whole main_v0).slice (win0_1.rect t)).emb y) := by
    rw [← hs]
    unfold k0_pay1
    pointwise
    exact eight hg
  exact hg

/-! ## Layer 1 -/

theorem idx1_0 : ∀ t : Fin cfg1.N, win1_0.index t = ![0, t.val, 0] :=
  (by decide +kernel : ∀ t : Fin grid1.N, _)
theorem idx1_1 : ∀ t : Fin cfg1.N, win1_1.index t = ![t.val, 0] :=
  (by decide +kernel : ∀ t : Fin grid1.N, _)

theorem in1 (c : Dev nD) (t : Fin cfg1.N) (y : (sh 16 1024).Idx) (j : (sh 16 1024).Idx)
    (h0 : (j 0).val = t.val * 16 + (y 0).val) (h1 : (j 1).val = (y 1).val) :
    parts (n := 8) (p := 16) (c := 1024) (iblk1 V c 0 t) (y 0) (y 1) = grad1 (V c main_arg1) j :=
  parts_one fun d => by
    blk_simp [iblk1]
    refine congrArg (V c main_arg1) ?_
    blk_ext [idx1_0]

set_option maxHeartbeats 400000 in
theorem arr1 (c : Dev nD) : (dat1 V c).arrAt 1 cfg1.N = grad1 (n := 8) (r := 16) (c := 1024) (V c main_arg1) := by
  refine (dat1 V c).arrAt_eq_of_covers 1 _ (by decide +kernel) fun t hf y => ?_
  blk_simp
  rw [after1_1]
  have hg := in1 V c t y (((View.whole main_v21).slice (win1_1.rect t)).emb y) (by blk_simp [idx1_1]; try omega) (by blk_simp [idx1_1]; try omega)
  unfold out1_1
  frame_out
  generalize hs : k1_pay1 (F := Ideal) _ _ _ _ _ _ _ _ = s
  replace hg : s y = grad1 (V c main_arg1) (((View.whole main_v21).slice (win1_1.rect t)).emb y) := by
    rw [← hs]
    unfold k1_pay1
    pointwise
    exact eight hg
  exact hg

end Cert.Sums

end
-- ==== Proof.SumsClaim.lean ====
/- The sums' claims: the kernel's summed parts, cut into the weights' gradients, are the plain sums. -/
module

public import proofs.«01_k».proof.Defs
public import proofs.«01_k».proof.Proof.Gen.SumsReferenceIdeal.Read
public import proofs.«01_k».proof.Proof.SumsRegion
public import Idealize.ShloMosaic.Lib.Quiescent
public import Idealize.ShloMosaic.Lib.Claim
public import Idealize.ShloMosaic.Lib.StableHlo.RunRead
public import Idealize.ShloMosaic.Lib.Pointwise

@[expose] public section

set_option maxRecDepth 16384

noncomputable section

namespace Cert.Sums

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SumsKernelIdeal Cert.SumsKernelIdeal.Gen Cert.SumsReferenceIdeal.Read Cert.SumsReferenceIdeal.Value
open Cert.Adamw

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the two calls every buffer of the program holds what the fold through them says. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

/-! ## The reference's sums -/

/-- The parts from the eight devices. -/
abbrev Parts := (⟨Cert.SumsReferenceIdeal.S8x16x1024, .f32⟩ : BufTy).Contents (Elt Ideal)
/-- Their sum. -/
abbrev total (x : Parts) : (sh 16 1024).Idx → EReal := grad1 (n := 8) (r := 16) (c := 1024) x

theorem ref_sum0 (x : Parts) : val_main_v0 x = total x := by
  funext j
  rw [val_main_v0_apply]
  unfold val_main_cst
  pointwise
  refine Fintype.sum_congr _ _ fun d => congrArg x ?_
  funext a
  fin_cases a <;> rfl
theorem ref_sum1 (x : Parts) : val_main_v2 x = total x :=
  ref_sum0 x

/-! ## The host lines between and after the calls -/

variable (U : Valuation τ sig (Elt Ideal)) (x0 x1 : Parts)

/-- The first layer's sums have been cut into the weights' parts. -/
abbrev Cuts : Prop :=
    U (Proc.devRef .tc main_v2) = val_main_v4 x0 ∧
    U (Proc.devRef .tc main_v3) = val_main_v9 x0 ∧
    U (Proc.devRef .tc main_v4) = val_main_v14 x0 ∧
    U (Proc.devRef .tc main_v5) = val_main_v19 x0 ∧
    U (Proc.devRef .tc main_v6) = val_main_v24 x0 ∧
    U (Proc.devRef .tc main_v7) = val_main_v29 x0 ∧
    U (Proc.devRef .tc main_v8) = val_main_v34 x0 ∧
    U (Proc.devRef .tc main_v9) = val_main_v39 x0 ∧
    U (Proc.devRef .tc main_v10) = val_main_v44 x0 ∧
    U (Proc.devRef .tc main_v11) = val_main_v49 x0 ∧
    U (Proc.devRef .tc main_v12) = val_main_v54 x0 ∧
    U (Proc.devRef .tc main_v14) = val_main_v60 x0 ∧
    U (Proc.devRef .tc main_v16) = val_main_v67 x0 ∧
    U (Proc.devRef .tc main_v18) = val_main_v74 x0 ∧
    U (Proc.devRef .tc main_v19) = val_main_v80 x0 ∧
    U (Proc.devRef .tc main_v20) = val_main_v81 x0
/-- The results hold the reference's. -/
abbrev Ends : Prop :=
    U (Proc.devRef .tc main_v42) = val_main_v8 x0 x1 ∧
    U (Proc.devRef .tc main_v45) = val_main_v13 x0 x1 ∧
    U (Proc.devRef .tc main_v48) = val_main_v18 x0 x1 ∧
    U (Proc.devRef .tc main_v51) = val_main_v23 x0 x1 ∧
    U (Proc.devRef .tc main_v54) = val_main_v28 x0 x1 ∧
    U (Proc.devRef .tc main_v57) = val_main_v33 x0 x1 ∧
    U (Proc.devRef .tc main_v60) = val_main_v38 x0 x1 ∧
    U (Proc.devRef .tc main_v63) = val_main_v43 x0 x1 ∧
    U (Proc.devRef .tc main_v66) = val_main_v48 x0 x1 ∧
    U (Proc.devRef .tc main_v69) = val_main_v53 x0 x1 ∧
    U (Proc.devRef .tc main_v72) = val_main_v58 x0 x1 ∧
    U (Proc.devRef .tc main_v75) = val_main_v65 x0 x1 ∧
    U (Proc.devRef .tc main_v78) = val_main_v72 x0 x1 ∧
    U (Proc.devRef .tc main_v81) = val_main_v79 x0 x1 ∧
    U (Proc.devRef .tc main_v19) = val_main_v80 x0 ∧
    U (Proc.devRef .tc main_v82) = val_main_v82 x0

theorem firsts (h : U (Proc.devRef .tc main_v0) = val_main_v0 x0) : Cuts (StableHlo.after hostOps1 U) x0 := by
  and_intros <;> (after_reads_simp; rw [h]; rfl)

theorem lasts (h : Cuts U x0) (s1 : U (Proc.devRef .tc main_v21) = val_main_v2 x1) :
    Ends (StableHlo.after hostOps2 U) x0 x1 := by
  obtain ⟨h0, h1, h2, h3, h4, h5, h6, h7, h8, h9, h10, h11, h12, h13, h14, h15⟩ := h
  and_intros
  · after_reads_simp; refine congrArg₂ fn_main_v8 ?_ ?_ <;> (after_reads_simp; first | rw [h0] | rw [s1]) <;> rfl
  · after_reads_simp; refine congrArg₂ fn_main_v13 ?_ ?_ <;> (after_reads_simp; first | rw [h1] | rw [s1]) <;> rfl
  · after_reads_simp; refine congrArg₂ fn_main_v18 ?_ ?_ <;> (after_reads_simp; first | rw [h2] | rw [s1]) <;> rfl
  · after_reads_simp; refine congrArg₂ fn_main_v23 ?_ ?_ <;> (after_reads_simp; first | rw [h3] | rw [s1]) <;> rfl
  · after_reads_simp; refine congrArg₂ fn_main_v28 ?_ ?_ <;> (after_reads_simp; first | rw [h4] | rw [s1]) <;> rfl
  · after_reads_simp; refine congrArg₂ fn_main_v33 ?_ ?_ <;> (after_reads_simp; first | rw [h5] | rw [s1]) <;> rfl
  · after_reads_simp; refine congrArg₂ fn_main_v38 ?_ ?_ <;> (after_reads_simp; first | rw [h6] | rw [s1]) <;> rfl
  · after_reads_simp; refine congrArg₂ fn_main_v43 ?_ ?_ <;> (after_reads_simp; first | rw [h7] | rw [s1]) <;> rfl
  · after_reads_simp; refine congrArg₂ fn_main_v48 ?_ ?_ <;> (after_reads_simp; first | rw [h8] | rw [s1]) <;> rfl
  · after_reads_simp; refine congrArg₂ fn_main_v53 ?_ ?_ <;> (after_reads_simp; first | rw [h9] | rw [s1]) <;> rfl
  · after_reads_simp; refine congrArg₂ fn_main_v58 ?_ ?_ <;> (after_reads_simp; first | rw [h10] | rw [s1]) <;> rfl
  · after_reads_simp; refine congrArg₂ fn_main_v65 ?_ ?_ <;> (after_reads_simp; first | rw [h11] | rw [s1]) <;> rfl
  · after_reads_simp; refine congrArg₂ fn_main_v72 ?_ ?_ <;> (after_reads_simp; first | rw [h12] | rw [s1]) <;> rfl
  · after_reads_simp; refine congrArg₂ fn_main_v79 ?_ ?_ <;> (after_reads_simp; first | rw [h13] | rw [s1]) <;> rfl
  · after_reads_simp; exact h14
  · after_reads_simp; rw [h15]; rfl

/-! ## The claims -/

/-- The plain sums run to their end; they have no semaphores. -/
theorem reference_frame : Cert.quiescent_SumsReferenceIdeal := fun m ρ _ =>
  (θ_run Cert.SumsReferenceIdeal.defs _ _).mono (fun r h => ⟨fun c => (h c).2.2.2.2.2.2.2.2.2.2.2.2.2.2.2.2, sem_eq_zero_of_no_sems (by decide) r.2⟩)
    (Cert.SumsReferenceIdeal.Value.run (F := Ideal) m ρ)

/-- The arguments at launch. -/
abbrev a0 (c : Dev nD) : Parts := m ((c : Thread nD τ).loc main_arg0)
abbrev a1 (c : Dev nD) : Parts := m ((c : Thread nD τ).loc main_arg1)

/-- The first call leaves the first layer's sums. -/
theorem sum0 (c : Dev nD) : W1 m ρ c (Proc.devRef .tc main_v0) = val_main_v0 (a0 m c) :=
  (W1_arr m ρ c 1).trans ((arr0 (V0 m ρ) c).trans (ref_sum0 _).symm)
/-- The second call leaves the second layer's. -/
theorem sum1 (c : Dev nD) : W3 m ρ c (Proc.devRef .tc main_v21) = val_main_v2 (a1 m c) :=
  (W3_arr m ρ c 1).trans ((arr1 (V2 m ρ) c).trans ((congrArg (total) (W2_args m ρ c main_arg1 (by decide))).trans (ref_sum1 _).symm))

/-- The second call keeps the cuts. -/
theorem keeps (c : Dev nD) : Cuts (W3 m ρ c) (a0 m c) := by
  obtain ⟨h0, h1, h2, h3, h4, h5, h6, h7, h8, h9, h10, h11, h12, h13, h14, h15⟩ := firsts _ _ (sum0 m ρ c)
  exact ⟨(W3_of m ρ c main_v2 (by decide)).trans h0,
    (W3_of m ρ c main_v3 (by decide)).trans h1,
    (W3_of m ρ c main_v4 (by decide)).trans h2,
    (W3_of m ρ c main_v5 (by decide)).trans h3,
    (W3_of m ρ c main_v6 (by decide)).trans h4,
    (W3_of m ρ c main_v7 (by decide)).trans h5,
    (W3_of m ρ c main_v8 (by decide)).trans h6,
    (W3_of m ρ c main_v9 (by decide)).trans h7,
    (W3_of m ρ c main_v10 (by decide)).trans h8,
    (W3_of m ρ c main_v11 (by decide)).trans h9,
    (W3_of m ρ c main_v12 (by decide)).trans h10,
    (W3_of m ρ c main_v14 (by decide)).trans h11,
    (W3_of m ρ c main_v16 (by decide)).trans h12,
    (W3_of m ρ c main_v18 (by decide)).trans h13,
    (W3_of m ρ c main_v19 (by decide)).trans h14,
    (W3_of m ρ c main_v20 (by decide)).trans h15⟩

/-- Equal results from equal arguments. -/
theorem algebraic : Cert.algebraic_SumsKernelIdeal_SumsReferenceIdeal := by
  intro m ρ m' ρ' _ hagree
  refine ⟨fun c => val_main_v8 (a0 m c) (a1 m c),
    fun c => val_main_v13 (a0 m c) (a1 m c),
    fun c => val_main_v18 (a0 m c) (a1 m c),
    fun c => val_main_v23 (a0 m c) (a1 m c),
    fun c => val_main_v28 (a0 m c) (a1 m c),
    fun c => val_main_v33 (a0 m c) (a1 m c),
    fun c => val_main_v38 (a0 m c) (a1 m c),
    fun c => val_main_v43 (a0 m c) (a1 m c),
    fun c => val_main_v48 (a0 m c) (a1 m c),
    fun c => val_main_v53 (a0 m c) (a1 m c),
    fun c => val_main_v58 (a0 m c) (a1 m c),
    fun c => val_main_v65 (a0 m c) (a1 m c),
    fun c => val_main_v72 (a0 m c) (a1 m c),
    fun c => val_main_v79 (a0 m c) (a1 m c),
    fun c => val_main_v80 (a0 m c),
    fun c => val_main_v82 (a0 m c), ?_, ?_⟩
  · refine (θ_run defs _ _).mono (fun r h c => ?_) (θ_run_and (run_boundary m ρ) (unchanged m ρ))
    have out := fun (b : Ref sig .tc) hb => h.1 c _ (mem_uc b hb)
    obtain ⟨h0, h1, h2, h3, h4, h5, h6, h7, h8, h9, h10, h11, h12, h13, h14, h15⟩ := lasts _ _ _ (keeps m ρ c) (sum1 m ρ c)
    exact ⟨(out main_v42 (by decide)).trans h0, (out main_v45 (by decide)).trans h1, (out main_v48 (by decide)).trans h2, (out main_v51 (by decide)).trans h3, (out main_v54 (by decide)).trans h4, (out main_v57 (by decide)).trans h5, (out main_v60 (by decide)).trans h6, (out main_v63 (by decide)).trans h7, (out main_v66 (by decide)).trans h8, (out main_v69 (by decide)).trans h9, (out main_v72 (by decide)).trans h10, (out main_v75 (by decide)).trans h11, (out main_v78 (by decide)).trans h12, (out main_v81 (by decide)).trans h13, (out main_v19 (by decide)).trans h14, (out main_v82 (by decide)).trans h15, h.2 c⟩
  refine (θ_run Cert.SumsReferenceIdeal.defs _ _).mono (fun _ h c => ?_) (Cert.SumsReferenceIdeal.Value.run (F := Ideal) m' ρ')
  obtain ⟨h0, h1, h2, h3, h4, h5, h6, h7, h8, h9, h10, h11, h12, h13, h14, h15, hargs⟩ := h c
  obtain ⟨e0, e1⟩ := hagree c
  exact ⟨h0.trans (by rw [val_main_v8_eq, e0, e1]),
    h1.trans (by rw [val_main_v13_eq, e0, e1]),
    h2.trans (by rw [val_main_v18_eq, e0, e1]),
    h3.trans (by rw [val_main_v23_eq, e0, e1]),
    h4.trans (by rw [val_main_v28_eq, e0, e1]),
    h5.trans (by rw [val_main_v33_eq, e0, e1]),
    h6.trans (by rw [val_main_v38_eq, e0, e1]),
    h7.trans (by rw [val_main_v43_eq, e0, e1]),
    h8.trans (by rw [val_main_v48_eq, e0, e1]),
    h9.trans (by rw [val_main_v53_eq, e0, e1]),
    h10.trans (by rw [val_main_v58_eq, e0, e1]),
    h11.trans (by rw [val_main_v65_eq, e0, e1]),
    h12.trans (by rw [val_main_v72_eq, e0, e1]),
    h13.trans (by rw [val_main_v79_eq, e0, e1]),
    h14.trans (by rw [val_main_v80_eq, e0]),
    h15.trans (by rw [val_main_v82_eq, e0]), hargs⟩

end Cert.Sums

end
-- ==== Proof.ScanRegion0.lean ====
/- The first region of the scan kernel: two first-order recurrences `h t = a t * h (t - 1) + u t`, one forwards and one
   backwards in time, over tiles of eight rows. Inside a tile three doubling rounds give every row's coefficient and
   offset relative to the row before the tile (kept in scratch); the loop walks the tiles, stores the value entering each
   tile into eight rows of scratch, and carries the value leaving it. The region's body is run once, for any scalar
   semantics, to closed expressions of its input blocks. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Pipeline.Kit
public import Idealize.ShloMosaic.Lib.Pipeline.FrameBody
public import Idealize.ShloMosaic.Lib.WritesUnit
public import Idealize.ShloMosaic.Lib.Ring
public import Idealize.ShloMosaic.Lib.Tactic
public import Idealize.ShloMosaic.Lib.WordCmp
public import Idealize.ShloMosaic.Lib.Pointwise
public import Idealize.ShloMosaic.Lib.ValueIdx

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles of trip `k`: the eight rows written and the row read, for the forward and the backward chain. -/
abbrev s0F (k : Fin k0_t1_loop.trips) : Rect S2304x256 := Rect.unit (s := S2304x256) (k0_off1 k) S8x256.size (k0_off1_inb k)
abbrev l0F (k : Fin k0_t1_loop.trips) : Rect S2304x256 := Rect.unit (s := S2304x256) (k0_off2 k) S1x256.size (k0_off2_inb k)
abbrev s0B (k : Fin k0_t1_loop.trips) : Rect S2304x256 := Rect.unit (s := S2304x256) (k0_off3 k) S8x256.size (k0_off3_inb k)
abbrev l0B (k : Fin k0_t1_loop.trips) : Rect S2304x256 := Rect.unit (s := S2304x256) (k0_off4 k) S1x256.size (k0_off4_inb k)

/-- The forward chain's carried row before trip `k`. -/
def car0F (A U : Vec F S2304x256 .f32) : ℕ → FVec F S1x256 .f32
  | 0 => k0_pay24
  | k + 1 => if h : k < k0_t1_loop.trips then k0_pay26 (car0F A U k) (View.ld A (l0F ⟨k, h⟩)) (View.ld U (l0F ⟨k, h⟩)) else car0F A U k
/-- The backward chain's carried row before trip `k`. -/
def car0B (A U : Vec F S2304x256 .f32) : ℕ → FVec F S1x256 .f32
  | 0 => k0_pay24
  | k + 1 => if h : k < k0_t1_loop.trips then k0_pay28 (car0B A U k) (View.ld A (l0B ⟨k, h⟩)) (View.ld U (l0B ⟨k, h⟩)) else car0B A U k

theorem car0F_succ (A U : Vec F S2304x256 .f32) (k : Fin k0_t1_loop.trips) :
    car0F A U (k.val + 1) = k0_pay26 (car0F A U k.val) (View.ld A (l0F k)) (View.ld U (l0F k)) := by
  rw [car0F]; exact dif_pos k.isLt
theorem car0B_succ (A U : Vec F S2304x256 .f32) (k : Fin k0_t1_loop.trips) :
    car0B A U (k.val + 1) = k0_pay28 (car0B A U k.val) (View.ld A (l0B k)) (View.ld U (l0B k)) := by
  rw [car0B]; exact dif_pos k.isLt

/-- The value entering each row's tile, all rows: what the scratch holds when the loop is done. -/
def fill0F (A U : Vec F S2304x256 .f32) : Vec F S2304x256 .f32 := fun y =>
  car0F A U ((y 0).val / 8) (Idealize.ShloMosaic.ix2 (0 : Fin 1) (y 1))
def fill0B (A U : Vec F S2304x256 .f32) : Vec F S2304x256 .f32 := fun y =>
  car0B A U (287 - (y 0).val / 8) (Idealize.ShloMosaic.ix2 (0 : Fin 1) (y 1))

theorem k0_pay25_apply (x : FVec F S1x256 .f32) (y : S8x256.Idx) : k0_pay25 x y = x (Idealize.ShloMosaic.ix2 (0 : Fin 1) (y 1)) := by
  unfold k0_pay25
  pointwise
theorem k0_pay27_apply (x : FVec F S1x256 .f32) (y : S8x256.Idx) : k0_pay27 x y = x (Idealize.ShloMosaic.ix2 (0 : Fin 1) (y 1)) :=
  k0_pay25_apply x y

/-- What one trip holds of memory: the four arrays it reads and the two it writes. -/
abbrev trip0Res (c : Dev nD) (arg8 arg9 arg10 arg11 arg12 arg13 : Memref sig .tc .vmem S2304x256 .f32)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty) : sProp 𝕄 :=
  iprop((arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10) ∗ (arg11.view.loc (c : Thread nD τ) ↦[arg11.view.set]{fullShare} f11)
    ∗ (arg12.view.loc (c : Thread nD τ) ↦[arg12.view.set]{fullShare} f12) ∗ (arg13.view.loc (c : Thread nD τ) ↦[arg13.view.set]{fullShare} f13))

/-- One trip of the loop, at a symbolic trip and carried pair. -/
theorem trip0 (c : Dev nD) (E : Set ℕ) (i : grid0.Coords) (arg2 : Memref sig .tc .vmem S1x2304x256 .f32) (harg2 : arg2.IsWhole) (arg3 : Memref sig .tc .vmem S1x2304x256 .f32) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .f32) (harg6 : arg6.IsWhole) (arg7 : Memref sig .tc .vmem S1x2304x256 .f32) (harg7 : arg7.IsWhole) (arg8 : Memref sig .tc .vmem S2304x256 .f32) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2304x256 .f32) (harg11 : arg11.IsWhole) (arg12 : Memref sig .tc .vmem S2304x256 .f32) (harg12 : arg12.IsWhole) (arg13 : Memref sig .tc .vmem S2304x256 .f32) (harg13 : arg13.IsWhole) (v24 : IVec S2304x256 32) (v73 v75 v76 : FVec F S2304x256 .f32) (w : BitVec 32)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty)
    (k : Fin k0_t1_loop.trips) (acc : FVec F S1x256 .f32 × FVec F S1x256 .f32) :
    trip0Res (F := F) c arg8 arg9 arg10 arg11 arg12 arg13 f8 f9 f10 f11 f12 f13
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 v24 v73 v75 v76 w k acc)
          (fun yld => iprop(⌜yld = (k0_pay26 acc.1 (View.ld (arg8.view.read (Elt F) f8) (l0F k)) (View.ld (arg9.view.read (Elt F) f9) (l0F k)),
              k0_pay28 acc.2 (View.ld (arg11.view.read (Elt F) f11) (l0B k)) (View.ld (arg12.view.read (Elt F) f12) (l0B k)))⌝
            ∗ trip0Res (F := F) c arg8 arg9 arg10 arg11 arg12 arg13 f8 f9 (arg10.view.writes (Elt F) f10 [⟨s0F k, k0_pay25 acc.1⟩]) f11 f12
                (arg13.view.writes (Elt F) f13 [⟨s0B k, k0_pay27 acc.2⟩]))) := by
  have hk : k.val < 288 := Nat.lt_of_lt_of_le k.isLt k0_t1_abs.2.1
  unfold k0_t1_body
  iintro ⟨H8, H9, H10, H11, H12, H13⟩
  sl_exec
  sl_step
  isplitr
  · ipureintro; rfl
  isplitl [H8]; · iexact H8
  isplitl [H9]; · iexact H9
  isplitl [H10]; · iexact H10
  isplitl [H11]; · iexact H11
  isplitl [H12]; · iexact H12
  iexact H13

/-- Before trip `k`: the carried pair is the two chains' carried rows, and the two scratch arrays hold the entering
    values of the tiles already passed. -/
abbrev inv0 (c : Dev nD) (arg8 arg9 arg10 arg11 arg12 arg13 : Memref sig .tc .vmem S2304x256 .f32)
    (f8 : BufTy.Contents (Elt F) arg8.view.ty) (f9 : BufTy.Contents (Elt F) arg9.view.ty)
    (f11 : BufTy.Contents (Elt F) arg11.view.ty) (f12 : BufTy.Contents (Elt F) arg12.view.ty)
    (k : ℕ) (acc : FVec F S1x256 .f32 × FVec F S1x256 .f32) : sProp 𝕄 :=
  iprop(∃ f10, ∃ f13, ⌜acc = (car0F (arg8.view.read (Elt F) f8) (arg9.view.read (Elt F) f9) k, car0B (arg11.view.read (Elt F) f11) (arg12.view.read (Elt F) f12) k)
      ∧ (∀ y : S2304x256.Idx, (y 0).val < 8 * k → arg10.view.read (Elt F) f10 y = fill0F (arg8.view.read (Elt F) f8) (arg9.view.read (Elt F) f9) y)
      ∧ (∀ y : S2304x256.Idx, 2304 ≤ (y 0).val + 8 * k → arg13.view.read (Elt F) f13 y = fill0B (arg11.view.read (Elt F) f11) (arg12.view.read (Elt F) f12) y)⌝
    ∗ trip0Res (F := F) c arg8 arg9 arg10 arg11 arg12 arg13 f8 f9 f10 f11 f12 f13)

theorem fill0F_step (v : View sig .tc .vmem S2304x256 .f32) (A U : Vec F S2304x256 .f32) (f : BufTy.Contents (Elt F) v.ty) (k : Fin k0_t1_loop.trips)
    (h : ∀ y : S2304x256.Idx, (y 0).val < 8 * k.val → v.read (Elt F) f y = fill0F A U y) (y : S2304x256.Idx) (hy : (y 0).val < 8 * (k.val + 1)) :
    v.read (Elt F) (v.writes (Elt F) f [⟨s0F k, k0_pay25 (car0F A U k.val)⟩]) y = fill0F A U y := by
  rw [View.read_writes_cons_rows v f (k0_off1_inb k) _ [] y (k0_off1_eq k) (W := 8) rfl rfl]
  split
  · rename_i hh
    rw [k0_pay25_apply]
    unfold fill0F
    have e : (y 0).val / 8 = k.val := by omega
    rw [e]
    congr 1
  · rename_i hh
    exact h y (by omega)

theorem fill0B_step (v : View sig .tc .vmem S2304x256 .f32) (A U : Vec F S2304x256 .f32) (f : BufTy.Contents (Elt F) v.ty) (k : Fin k0_t1_loop.trips)
    (h : ∀ y : S2304x256.Idx, 2304 ≤ (y 0).val + 8 * k.val → v.read (Elt F) f y = fill0B A U y) (y : S2304x256.Idx) (hy : 2304 ≤ (y 0).val + 8 * (k.val + 1)) :
    v.read (Elt F) (v.writes (Elt F) f [⟨s0B k, k0_pay27 (car0B A U k.val)⟩]) y = fill0B A U y := by
  have hk : k.val < 288 := Nat.lt_of_lt_of_le k.isLt k0_t1_abs.2.1
  rw [View.read_writes_cons_rows v f (k0_off3_inb k) _ [] y (k0_off3_eq k) (W := 8) rfl rfl]
  split
  · rename_i hh
    rw [k0_pay27_apply]
    unfold fill0B
    have e : 287 - (y 0).val / 8 = k.val := by omega
    rw [e]
    congr 1
  · rename_i hh
    exact h y (by omega)

/-- One trip keeps the invariant. -/
theorem step0 (c : Dev nD) (E : Set ℕ) (i : grid0.Coords) (arg2 : Memref sig .tc .vmem S1x2304x256 .f32) (harg2 : arg2.IsWhole) (arg3 : Memref sig .tc .vmem S1x2304x256 .f32) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .f32) (harg6 : arg6.IsWhole) (arg7 : Memref sig .tc .vmem S1x2304x256 .f32) (harg7 : arg7.IsWhole) (arg8 : Memref sig .tc .vmem S2304x256 .f32) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2304x256 .f32) (harg11 : arg11.IsWhole) (arg12 : Memref sig .tc .vmem S2304x256 .f32) (harg12 : arg12.IsWhole) (arg13 : Memref sig .tc .vmem S2304x256 .f32) (harg13 : arg13.IsWhole) (v24 : IVec S2304x256 32) (v73 v75 v76 : FVec F S2304x256 .f32) (w : BitVec 32)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty)
    (k : Fin k0_t1_loop.trips) (acc : FVec F S1x256 .f32 × FVec F S1x256 .f32) :
    inv0 (F := F) c arg8 arg9 arg10 arg11 arg12 arg13 f8 f9 f11 f12 k.val acc
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 v24 v73 v75 v76 w k acc)
          (inv0 (F := F) c arg8 arg9 arg10 arg11 arg12 arg13 f8 f9 f11 f12 (k.val + 1)) := by
  iintro ⟨%g10, %g13, %h, H⟩
  obtain ⟨rfl, h10, h13⟩ := h
  iapply (wp_wand_r Idealize.ShloMosaic.frame (wpE (defs₀ (F := F)) Variants.none (c : Thread nD τ) none) E)
  isplitl [H]
  · iapply (trip0 (F := F) c E i arg2 harg2 arg3 harg3 arg4 harg4 arg5 harg5 arg6 harg6 arg7 harg7 arg8 harg8 arg9 harg9 arg10 harg10 arg11 harg11 arg12 harg12 arg13 harg13 v24 v73 v75 v76 w f8 f9 g10 f11 f12 g13 k _)
    iexact H
  · iintro %yld ⟨%hy, H⟩
    subst hy
    iexists _; iexists _
    isplitr
    swap; · iexact H
    ipureintro
    exact ⟨by rw [car0F_succ, car0B_succ], fun y hy => fill0F_step _ _ _ _ k h10 y hy, fun y hy => fill0B_step _ _ _ _ k h13 y hy⟩

abbrev r0I : Rect S1x2304x256 := Rect.unit (s := S1x2304x256) ![0, 0, 0] S1x2304x256.size inb_S1x2304x256_S1x2304x256_0_0_0

/-- Each row's coefficient and offset inside its tile after the three rounds: the forward chain's and the backward's. -/
def coef0F (x0 : Vec F S1x2304x256 .f32) : Vec F S2304x256 .f32 := k0_pay13 k0_pay5 (k0_pay8 (View.ld x0 r0I)) (k0_pay9 (View.ld x0 r0I))
def offs0F (x0 x1 : Vec F S1x2304x256 .f32) : Vec F S2304x256 .f32 :=
  k0_pay14 k0_pay5 (k0_pay7 (View.ld x0 r0I) (View.ld x1 r0I)) (k0_pay8 (View.ld x0 r0I)) (k0_pay9 (View.ld x0 r0I)) 2#32
def coef0B (x2 : Vec F S1x2304x256 .f32) : Vec F S2304x256 .f32 :=
  k0_pay22 k0_pay5 (k0_pay19 (k0_pay3 (View.ld x2 r0I)) k0_pay5) (k0_pay20 (k0_pay3 (View.ld x2 r0I)) k0_pay5)
def offs0B (x2 x3 : Vec F S1x2304x256 .f32) : Vec F S2304x256 .f32 :=
  k0_pay23 k0_pay5 (k0_pay18 (k0_pay3 (View.ld x2 r0I)) (k0_pay4 (View.ld x3 r0I)) k0_pay5) (k0_pay19 (k0_pay3 (View.ld x2 r0I)) k0_pay5) 2300#32

/-- What the body leaves in the two output windows. -/
def out0_4 (x0 x1 : Vec F S1x2304x256 .f32) : Vec F S1x2304x256 .f32 :=
  View.canon [⟨r0I, k0_pay30 (coef0F x0) (fill0F (coef0F x0) (offs0F x0 x1)) (offs0F x0 x1)⟩]
def out0_5 (x2 x3 : Vec F S1x2304x256 .f32) : Vec F S1x2304x256 .f32 :=
  View.canon [⟨r0I, k0_pay1 (k0_pay29 (coef0B x2) (fill0B (coef0B x2) (offs0B x2 x3)) (offs0B x2 x3))⟩]

theorem cover0 (p0 : Vec F S1x2304x256 .f32) (y : S1x2304x256.Idx) :
    ∃ pc ∈ ([⟨r0I, p0⟩] : List (View.Piece (Elt F) S1x2304x256 .f32)), y ∈ pc.1.set :=
  View.cover_of_tiled [⟨r0I, p0⟩] S1x2304x256.size (by rfl) y

/-- The body on whole staging and scratch memrefs. -/
theorem sound_kernel0 (c : Dev nD) (E : Set ℕ) (i : grid0.Coords) (arg2 : Memref sig .tc .vmem S1x2304x256 .f32) (harg2 : arg2.IsWhole) (arg3 : Memref sig .tc .vmem S1x2304x256 .f32) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .f32) (harg6 : arg6.IsWhole) (arg7 : Memref sig .tc .vmem S1x2304x256 .f32) (harg7 : arg7.IsWhole) (arg8 : Memref sig .tc .vmem S2304x256 .f32) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2304x256 .f32) (harg11 : arg11.IsWhole) (arg12 : Memref sig .tc .vmem S2304x256 .f32) (harg12 : arg12.IsWhole) (arg13 : Memref sig .tc .vmem S2304x256 .f32) (harg13 : arg13.IsWhole)
    (x0 x1 x2 x3 : Vec F S1x2304x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1) ∗ owns (c : Thread nD τ) arg7 fullShare (out0_5 x2 x3)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_lru_scan_l1 i arg2 harg2 arg3 harg3 arg4 harg4 arg5 harg5 arg6 harg6 arg7 harg7 arg8 harg8 arg9 harg9 arg10 harg10 arg11 harg11 arg12 harg12 arg13 harg13) K := by
  simp only [cc0_lru_scan_l1_eq_skeleton]
  unfold cc0_lru_scan_l1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf2 hf3 hf4 hf5
  sl_exec
  have e8 : arg8.view.read (Elt F) (arg8.view.writes (Elt F) arg8.view.junk (sound_kernel0.sl.H8_1 c arg2 f2)) = coef0F (arg2.view.read (Elt F) f2) := by
    refine (View.read_writes_eq_canon _ _ _ (fun y => View.cover_of_tiled _ S2304x256.size (by rfl) y)).trans ?_
    exact View.canon_unit_zero (by decide) _ _
  have e9 : arg9.view.read (Elt F) (arg9.view.writes (Elt F) arg9.view.junk (sound_kernel0.sl.H9_1 c arg2 arg3 f2 f3)) = offs0F (arg2.view.read (Elt F) f2) (arg3.view.read (Elt F) f3) := by
    refine (View.read_writes_eq_canon _ _ _ (fun y => View.cover_of_tiled _ S2304x256.size (by rfl) y)).trans ?_
    exact View.canon_unit_zero (by decide) _ _
  have e11 : arg11.view.read (Elt F) (arg11.view.writes (Elt F) arg11.view.junk (sound_kernel0.sl.H11_1 c arg4 f4)) = coef0B (arg4.view.read (Elt F) f4) := by
    refine (View.read_writes_eq_canon _ _ _ (fun y => View.cover_of_tiled _ S2304x256.size (by rfl) y)).trans ?_
    exact View.canon_unit_zero (by decide) _ _
  have e12 : arg12.view.read (Elt F) (arg12.view.writes (Elt F) arg12.view.junk (sound_kernel0.sl.H12_1 c arg4 arg5 f4 f5)) = offs0B (arg4.view.read (Elt F) f4) (arg5.view.read (Elt F) f5) := by
    refine (View.read_writes_eq_canon _ _ _ (fun y => View.cover_of_tiled _ S2304x256.size (by rfl) y)).trans ?_
    exact View.canon_unit_zero (by decide) _ _
  generalize arg8.view.writes (Elt F) arg8.view.junk (sound_kernel0.sl.H8_1 c arg2 f2) = g8 at *
  generalize arg9.view.writes (Elt F) arg9.view.junk (sound_kernel0.sl.H9_1 c arg2 arg3 f2 f3) = g9 at *
  generalize arg11.view.writes (Elt F) arg11.view.junk (sound_kernel0.sl.H11_1 c arg4 f4) = g11 at *
  generalize arg12.view.writes (Elt F) arg12.view.junk (sound_kernel0.sl.H12_1 c arg4 arg5 f4 f5) = g12 at *
  iapply (Scf.wp_for_bind Idealize.ShloMosaic.frame (wpE (defs₀ (F := F)) Variants.none (c : Thread nD τ) none) E _ _ _ k0_t1_ok _ _
    (inv0 (F := F) c arg8 arg9 arg10 arg11 arg12 arg13 g8 g9 g11 g12)
    (fun k acc => step0 (F := F) c E i arg2 harg2 arg3 harg3 arg4 harg4 arg5 harg5 arg6 harg6 arg7 harg7 arg8 harg8 arg9 harg9 arg10 harg10 arg11 harg11 arg12 harg12 arg13 harg13 _ _ _ _ _ g8 g9 f10 g11 g12 f13 k acc)) $$ [H8 H9 H10 H11 H12 H13]
  · iexists f10; iexists f13
    isplitr
    · ipureintro
      exact ⟨rfl, fun y hy => absurd hy (by omega), fun y hy => absurd hy (by have h := (y 0).isLt; have h2 : (y 0).val < 2304 := h; omega)⟩
    isplitl [H8]; · iexact H8
    isplitl [H9]; · iexact H9
    isplitl [H10]; · iexact H10
    isplitl [H11]; · iexact H11
    isplitl [H12]; · iexact H12
    iexact H13
  iintro %acc ⟨%g10, %g13, %h, H8, H9, H10, H11, H12, H13⟩
  obtain ⟨-, h10, h13⟩ := h
  have htr : Scf.trips k0_t1_loop.lb k0_t1_loop.ub k0_t1_loop.st = 288 := by decide
  have e10 : arg10.view.read (Elt F) g10 = fill0F (arg8.view.read (Elt F) g8) (arg9.view.read (Elt F) g9) :=
    funext fun y => h10 y (by have h2 : (y 0).val < 2304 := (y 0).isLt; have := htr; omega)
  have e13 : arg13.view.read (Elt F) g13 = fill0B (arg11.view.read (Elt F) g11) (arg12.view.read (Elt F) g12) :=
    funext fun y => h13 y (by have := htr; omega)
  obtain ⟨acc0, acc1⟩ := acc
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    refine (View.read_writes_eq_canon _ _ _ (cover0 _)).trans ?_
    unfold out0_4
    simp only [View.readAt_eq_ld, View.ld_unit_zero (S := S2304x256) (off := ![0, 0]) (by decide)]
    rw [e10, e8, e9]
  isplitl [H7]
  · iexists _; isplitr; swap; · iexact H7
    ipureintro
    refine (View.read_writes_eq_canon _ _ _ (cover0 _)).trans ?_
    unfold out0_5 sound_kernel0.sl.r_8
    simp only [View.readAt_eq_ld, View.ld_unit_zero (S := S2304x256) (off := ![0, 0]) (by decide)]
    rw [e13, e11, e12]
  isplitl [H8]
  · iexists _; iexists g8; isplitr; swap; · iexact H8
    ipureintro; rfl
  isplitl [H9]
  · iexists _; iexists g9; isplitr; swap; · iexact H9
    ipureintro; rfl
  isplitl [H10]
  · iexists _; iexists g10; isplitr; swap; · iexact H10
    ipureintro; rfl
  isplitl [H11]
  · iexists _; iexists g11; isplitr; swap; · iexact H11
    ipureintro; rfl
  isplitl [H12]
  · iexists _; iexists g12; isplitr; swap; · iexact H12
    ipureintro; rfl
  iexists _; iexists g13; isplitr; swap; · iexact H13
  ipureintro; rfl

end Cert.Scan

end
-- ==== Proof.ScanRegion1.lean ====
/- The second region of the scan kernel: the gradient of the two recurrences, each a recurrence in the other direction of
   time whose coefficient is the neighbour's. The first chain runs backwards from the last row with the coefficient of the
   row after it, the second forwards with the coefficient of the row before. Tiles, doubling rounds and carry are those
   of the first region; the products with the forward pass's values are taken on the way out. -/
module

public import proofs.«01_k».proof.Proof.ScanRegion0

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles of trip `k`: the eight rows written and the row read, for the backward and the forward chain. -/
abbrev s1B (k : Fin k1_t1_loop.trips) : Rect S2304x128 := Rect.unit (s := S2304x128) (k1_off1 k) S8x128.size (k1_off1_inb k)
abbrev l1B (k : Fin k1_t1_loop.trips) : Rect S2304x128 := Rect.unit (s := S2304x128) (k1_off2 k) S1x128.size (k1_off2_inb k)
abbrev s1F (k : Fin k1_t1_loop.trips) : Rect S2304x128 := Rect.unit (s := S2304x128) (k1_off3 k) S8x128.size (k1_off3_inb k)
abbrev l1F (k : Fin k1_t1_loop.trips) : Rect S2304x128 := Rect.unit (s := S2304x128) (k1_off4 k) S1x128.size (k1_off4_inb k)

/-- The backward chain's carried row before trip `k`. -/
def car1B (A U : Vec F S2304x128 .f32) : ℕ → FVec F S1x128 .f32
  | 0 => k1_pay25
  | k + 1 => if h : k < k1_t1_loop.trips then k1_pay27 (car1B A U k) (View.ld A (l1B ⟨k, h⟩)) (View.ld U (l1B ⟨k, h⟩)) else car1B A U k
theorem car1B_succ (A U : Vec F S2304x128 .f32) (k : Fin k1_t1_loop.trips) :
    car1B A U (k.val + 1) = k1_pay27 (car1B A U k.val) (View.ld A (l1B k)) (View.ld U (l1B k)) := by
  rw [car1B]; exact dif_pos k.isLt

/-- The forward chain's carried row before trip `k`. -/
def car1F (A U : Vec F S2304x128 .f32) : ℕ → FVec F S1x128 .f32
  | 0 => k1_pay25
  | k + 1 => if h : k < k1_t1_loop.trips then k1_pay29 (car1F A U k) (View.ld A (l1F ⟨k, h⟩)) (View.ld U (l1F ⟨k, h⟩)) else car1F A U k
theorem car1F_succ (A U : Vec F S2304x128 .f32) (k : Fin k1_t1_loop.trips) :
    car1F A U (k.val + 1) = k1_pay29 (car1F A U k.val) (View.ld A (l1F k)) (View.ld U (l1F k)) := by
  rw [car1F]; exact dif_pos k.isLt

/-- The value entering each row's tile, all rows: what the scratch holds when the loop is done. -/
def fill1B (A U : Vec F S2304x128 .f32) : Vec F S2304x128 .f32 := fun y =>
  car1B A U (287 - (y 0).val / 8) (Idealize.ShloMosaic.ix2 (0 : Fin 1) (y 1))
def fill1F (A U : Vec F S2304x128 .f32) : Vec F S2304x128 .f32 := fun y =>
  car1F A U ((y 0).val / 8) (Idealize.ShloMosaic.ix2 (0 : Fin 1) (y 1))

theorem k1_pay26_apply (x : FVec F S1x128 .f32) (y : S8x128.Idx) : k1_pay26 x y = x (Idealize.ShloMosaic.ix2 (0 : Fin 1) (y 1)) := by
  unfold k1_pay26
  pointwise
theorem k1_pay28_apply (x : FVec F S1x128 .f32) (y : S8x128.Idx) : k1_pay28 x y = x (Idealize.ShloMosaic.ix2 (0 : Fin 1) (y 1)) :=
  k1_pay26_apply x y

/-- What one trip holds of memory: the four arrays it reads and the two it writes. -/
abbrev trip1Res (c : Dev nD) (arg12 arg13 arg14 arg15 arg16 arg17 : Memref sig .tc .vmem S2304x128 .f32)
    (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) : sProp 𝕄 :=
  iprop((arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- One trip of the loop, at a symbolic trip and carried pair. -/
theorem trip1 (c : Dev nD) (E : Set ℕ) (i : grid1.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S1x2304x128 .f32) (harg7 : arg7.IsWhole) (arg8 : Memref sig .tc .vmem S1x2304x128 .f32) (harg8 : arg8.IsWhole) (arg9 : Memref sig .tc .vmem S1x2304x128 .f32) (harg9 : arg9.IsWhole) (arg10 : Memref sig .tc .vmem S1x2304x128 .f32) (harg10 : arg10.IsWhole) (arg11 : Memref sig .tc .vmem S1x2304x128 .f32) (harg11 : arg11.IsWhole) (arg12 : Memref sig .tc .vmem S2304x128 .f32) (harg12 : arg12.IsWhole) (arg13 : Memref sig .tc .vmem S2304x128 .f32) (harg13 : arg13.IsWhole) (arg14 : Memref sig .tc .vmem S2304x128 .f32) (harg14 : arg14.IsWhole) (arg15 : Memref sig .tc .vmem S2304x128 .f32) (harg15 : arg15.IsWhole) (arg16 : Memref sig .tc .vmem S2304x128 .f32) (harg16 : arg16.IsWhole) (arg17 : Memref sig .tc .vmem S2304x128 .f32) (harg17 : arg17.IsWhole) (v17 v19 : FVec F S2304x128 .f32) (v36 : IVec S2304x128 32) (v70 : FVec F S2304x128 .f32) (v73 : IVec S2304x128 1) (v75 : FVec F S2304x128 .f32)
    (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (k : Fin k1_t1_loop.trips) (acc : FVec F S1x128 .f32 × FVec F S1x128 .f32) :
    trip1Res (F := F) c arg12 arg13 arg14 arg15 arg16 arg17 f12 f13 f14 f15 f16 f17
      ⊢ wp frame (wpE (defs₀ (F := F)) Variants.none c none) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v19 v36 v70 v73 v75 k acc)
          (fun yld => iprop(⌜yld = (k1_pay27 acc.1 (View.ld (arg12.view.read (Elt F) f12) (l1B k)) (View.ld (arg13.view.read (Elt F) f13) (l1B k)),
              k1_pay29 acc.2 (View.ld (arg15.view.read (Elt F) f15) (l1F k)) (View.ld (arg16.view.read (Elt F) f16) (l1F k)))⌝
            ∗ trip1Res (F := F) c arg12 arg13 arg14 arg15 arg16 arg17 f12 f13 (arg14.view.writes (Elt F) f14 [⟨s1B k, k1_pay26 acc.1⟩]) f15 f16
                (arg17.view.writes (Elt F) f17 [⟨s1F k, k1_pay28 acc.2⟩]))) := by
  have hk : k.val < 288 := Nat.lt_of_lt_of_le k.isLt k1_t1_abs.2.1
  unfold k1_t1_body
  iintro ⟨H12, H13, H14, H15, H16, H17⟩
  sl_exec
  sl_step
  isplitr
  · ipureintro; rfl
  isplitl [H12]; · iexact H12
  isplitl [H13]; · iexact H13
  isplitl [H14]; · iexact H14
  isplitl [H15]; · iexact H15
  isplitl [H16]; · iexact H16
  iexact H17

/-- Before trip `k`: the carried pair is the two chains' carried rows, and the two scratch arrays hold the entering
    values of the tiles already passed. -/
abbrev inv1 (c : Dev nD) (arg12 arg13 arg14 arg15 arg16 arg17 : Memref sig .tc .vmem S2304x128 .f32)
    (f12 : BufTy.Contents (Elt F) arg12.view.ty) (f13 : BufTy.Contents (Elt F) arg13.view.ty) (f15 : BufTy.Contents (Elt F) arg15.view.ty) (f16 : BufTy.Contents (Elt F) arg16.view.ty)
    (k : ℕ) (acc : FVec F S1x128 .f32 × FVec F S1x128 .f32) : sProp 𝕄 :=
  iprop(∃ f14, ∃ f17, ⌜acc = (car1B (arg12.view.read (Elt F) f12) (arg13.view.read (Elt F) f13) k, car1F (arg15.view.read (Elt F) f15) (arg16.view.read (Elt F) f16) k)
      ∧ (∀ y : S2304x128.Idx, 2304 ≤ (y 0).val + 8 * k → arg14.view.read (Elt F) f14 y = fill1B (arg12.view.read (Elt F) f12) (arg13.view.read (Elt F) f13) y)
      ∧ (∀ y : S2304x128.Idx, (y 0).val < 8 * k → arg17.view.read (Elt F) f17 y = fill1F (arg15.view.read (Elt F) f15) (arg16.view.read (Elt F) f16) y)⌝
    ∗ trip1Res (F := F) c arg12 arg13 arg14 arg15 arg16 arg17 f12 f13 f14 f15 f16 f17)

theorem fill1F_step (v : View sig .tc .vmem S2304x128 .f32) (A U : Vec F S2304x128 .f32) (f : BufTy.Contents (Elt F) v.ty) (k : Fin k1_t1_loop.trips)
    (h : ∀ y : S2304x128.Idx, (y 0).val < 8 * k.val → v.read (Elt F) f y = fill1F A U y) (y : S2304x128.Idx) (hy : (y 0).val < 8 * (k.val + 1)) :
    v.read (Elt F) (v.writes (Elt F) f [⟨s1F k, k1_pay28 (car1F A U k.val)⟩]) y = fill1F A U y := by
  rw [View.read_writes_cons_rows v f (k1_off3_inb k) _ [] y (k1_off3_eq k) (W := 8) rfl rfl]
  split
  · rename_i hh
    rw [k1_pay28_apply]
    unfold fill1F
    have e : (y 0).val / 8 = k.val := by omega
    rw [e]
    congr 1
  · rename_i hh
    exact h y (by omega)

theorem fill1B_step (v : View sig .tc .vmem S2304x128 .f32) (A U : Vec F S2304x128 .f32) (f : BufTy.Contents (Elt F) v.ty) (k : Fin k1_t1_loop.trips)
    (h : ∀ y : S2304x128.Idx, 2304 ≤ (y 0).val + 8 * k.val → v.read (Elt F) f y = fill1B A U y) (y : S2304x128.Idx) (hy : 2304 ≤ (y 0).val + 8 * (k.val + 1)) :
    v.read (Elt F) (v.writes (Elt F) f [⟨s1B k, k1_pay26 (car1B A U k.val)⟩]) y = fill1B A U y := by
  have hk : k.val < 288 := Nat.lt_of_lt_of_le k.isLt k1_t1_abs.2.1
  rw [View.read_writes_cons_rows v f (k1_off1_inb k) _ [] y (k1_off1_eq k) (W := 8) rfl rfl]
  split
  · rename_i hh
    rw [k1_pay26_apply]
    unfold fill1B
    have e : 287 - (y 0).val / 8 = k.val := by omega
    rw [e]
    congr 1
  · rename_i hh
    exact h y (by omega)

/-- One trip keeps the invariant. -/
theorem step1 (c : Dev nD) (E : Set ℕ) (i : grid1.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S1x2304x128 .f32) (harg7 : arg7.IsWhole) (arg8 : Memref sig .tc .vmem S1x2304x128 .f32) (harg8 : arg8.IsWhole) (arg9 : Memref sig .tc .vmem S1x2304x128 .f32) (harg9 : arg9.IsWhole) (arg10 : Memref sig .tc .vmem S1x2304x128 .f32) (harg10 : arg10.IsWhole) (arg11 : Memref sig .tc .vmem S1x2304x128 .f32) (harg11 : arg11.IsWhole) (arg12 : Memref sig .tc .vmem S2304x128 .f32) (harg12 : arg12.IsWhole) (arg13 : Memref sig .tc .vmem S2304x128 .f32) (harg13 : arg13.IsWhole) (arg14 : Memref sig .tc .vmem S2304x128 .f32) (harg14 : arg14.IsWhole) (arg15 : Memref sig .tc .vmem S2304x128 .f32) (harg15 : arg15.IsWhole) (arg16 : Memref sig .tc .vmem S2304x128 .f32) (harg16 : arg16.IsWhole) (arg17 : Memref sig .tc .vmem S2304x128 .f32) (harg17 : arg17.IsWhole) (v17 v19 : FVec F S2304x128 .f32) (v36 : IVec S2304x128 32) (v70 : FVec F S2304x128 .f32) (v73 : IVec S2304x128 1) (v75 : FVec F S2304x128 .f32)
    (f12 : BufTy.Contents (Elt F) arg12.view.ty) (f13 : BufTy.Contents (Elt F) arg13.view.ty) (f15 : BufTy.Contents (Elt F) arg15.view.ty) (f16 : BufTy.Contents (Elt F) arg16.view.ty)
    (k : Fin k1_t1_loop.trips) (acc : FVec F S1x128 .f32 × FVec F S1x128 .f32) :
    inv1 (F := F) c arg12 arg13 arg14 arg15 arg16 arg17 f12 f13 f15 f16 k.val acc
      ⊢ wp frame (wpE (defs₀ (F := F)) Variants.none c none) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v19 v36 v70 v73 v75 k acc)
          (inv1 (F := F) c arg12 arg13 arg14 arg15 arg16 arg17 f12 f13 f15 f16 (k.val + 1)) := by
  iintro ⟨%g14, %g17, %h, H⟩
  obtain ⟨rfl, h14, h17⟩ := h
  iapply (wp_wand_r Idealize.ShloMosaic.frame (wpE (defs₀ (F := F)) Variants.none (c : Thread nD τ) none) E)
  isplitl [H]
  · iapply (trip1 (F := F) c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 v19 v36 v70 v73 v75 f12 f13 g14 f15 f16 g17 k _)
    iexact H
  · iintro %yld ⟨%hy, H⟩
    subst hy
    iexists _; iexists _
    isplitr
    swap; · iexact H
    ipureintro
    exact ⟨by rw [car1B_succ, car1F_succ], fun y hy => fill1B_step _ _ _ _ k h14 y hy, fun y hy => fill1F_step _ _ _ _ k h17 y hy⟩

abbrev r1I : Rect S1x2304x128 := Rect.unit (s := S1x2304x128) ![0, 0, 0] S1x2304x128.size inb_S1x2304x128_S1x2304x128_0_0_0

/-- The tile's height as the kernel computes it. -/
abbrev tileW : BitVec 32 := Scalar.select (Scalar.cmpi .eq 8#32 0#32) 1#32 8#32

/-- Each row's coefficient and offset inside its tile after the three rounds: the backward chain's and the forward's. -/
def coef1B (x0 : Vec F S1x2304x128 .f32) : Vec F S2304x128 .f32 := k1_pay14 (k1_pay2 (View.ld x0 r1I)) tileW k1_pay6 k1_pay7
def offs1B (x0 x2 : Vec F S1x2304x128 .f32) : Vec F S2304x128 .f32 :=
  k1_pay15 (k1_pay2 (View.ld x0 r1I)) (k1_pay3 (View.ld x2 r1I)) tileW k1_pay6 k1_pay7
def coef1F (x3 : Vec F S1x2304x128 .f32) : Vec F S2304x128 .f32 :=
  k1_pay23 (k1_pay4 (View.ld x3 r1I)) (k1_pay8 tileW k1_pay6 k1_pay7) (k1_pay16 (k1_pay4 (View.ld x3 r1I))) (k1_pay17 tileW k1_pay6 k1_pay7)
def offs1F (x3 x5 : Vec F S1x2304x128 .f32) : Vec F S2304x128 .f32 :=
  k1_pay24 (k1_pay4 (View.ld x3 r1I)) (k1_pay5 (View.ld x5 r1I)) (k1_pay8 tileW k1_pay6 k1_pay7) (k1_pay16 (k1_pay4 (View.ld x3 r1I)))
    (k1_pay17 tileW k1_pay6 k1_pay7) (k1_pay18 (k1_pay4 (View.ld x3 r1I)) (k1_pay5 (View.ld x5 r1I)))

/-- What the body leaves in the four output windows. -/
def out1_6 (x0 x1 x2 : Vec F S1x2304x128 .f32) : Vec F S1x2304x128 .f32 :=
  View.canon [⟨r1I, k1_pay33 (k1_pay30 (coef1B x0) (fill1B (coef1B x0) (offs1B x0 x2)) (offs1B x0 x2)) (View.ld x1 r1I)⟩]
def out1_7 (x0 x2 : Vec F S1x2304x128 .f32) : Vec F S1x2304x128 .f32 :=
  View.canon [⟨r1I, k1_pay32 (k1_pay30 (coef1B x0) (fill1B (coef1B x0) (offs1B x0 x2)) (offs1B x0 x2))⟩]
def out1_8 (x3 x4 x5 : Vec F S1x2304x128 .f32) : Vec F S1x2304x128 .f32 :=
  View.canon [⟨r1I, k1_pay1 (k1_pay35 (coef1F x3) (fill1F (coef1F x3) (offs1F x3 x5)) (offs1F x3 x5) (View.ld x4 r1I))⟩]
def out1_9 (x3 x5 : Vec F S1x2304x128 .f32) : Vec F S1x2304x128 .f32 :=
  View.canon [⟨r1I, k1_pay34 (coef1F x3) (fill1F (coef1F x3) (offs1F x3 x5)) (offs1F x3 x5)⟩]

theorem cover1 (p0 : Vec F S1x2304x128 .f32) (y : S1x2304x128.Idx) :
    ∃ pc ∈ ([⟨r1I, p0⟩] : List (View.Piece (Elt F) S1x2304x128 .f32)), y ∈ pc.1.set :=
  View.cover_of_tiled [⟨r1I, p0⟩] S1x2304x128.size (by rfl) y

set_option maxHeartbeats 1600000 in
/-- The body on whole staging and scratch memrefs. -/
theorem sound_kernel1 (c : Dev nD) (E : Set ℕ) (i : grid1.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S1x2304x128 .f32) (harg7 : arg7.IsWhole) (arg8 : Memref sig .tc .vmem S1x2304x128 .f32) (harg8 : arg8.IsWhole) (arg9 : Memref sig .tc .vmem S1x2304x128 .f32) (harg9 : arg9.IsWhole) (arg10 : Memref sig .tc .vmem S1x2304x128 .f32) (harg10 : arg10.IsWhole) (arg11 : Memref sig .tc .vmem S1x2304x128 .f32) (harg11 : arg11.IsWhole) (arg12 : Memref sig .tc .vmem S2304x128 .f32) (harg12 : arg12.IsWhole) (arg13 : Memref sig .tc .vmem S2304x128 .f32) (harg13 : arg13.IsWhole) (arg14 : Memref sig .tc .vmem S2304x128 .f32) (harg14 : arg14.IsWhole) (arg15 : Memref sig .tc .vmem S2304x128 .f32) (harg15 : arg15.IsWhole) (arg16 : Memref sig .tc .vmem S2304x128 .f32) (harg16 : arg16.IsWhole) (arg17 : Memref sig .tc .vmem S2304x128 .f32) (harg17 : arg17.IsWhole)
    (x0 x1 x2 x3 x4 x5 : Vec F S1x2304x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2) ∗ owns (c : Thread nD τ) arg9 fullShare (out1_7 x0 x2) ∗ owns (c : Thread nD τ) arg10 fullShare (out1_8 x3 x4 x5) ∗ owns (c : Thread nD τ) arg11 fullShare (out1_9 x3 x5)
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc1_lru_scan_l1_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_lru_scan_l1_bwd_eq_skeleton]
  unfold cc1_lru_scan_l1_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7
  sl_exec
  have e12 : arg12.view.read (Elt F) (arg12.view.writes (Elt F) arg12.view.junk (sound_kernel1.sl.H12_1 c arg2 f2)) = coef1B (arg2.view.read (Elt F) f2) := by
    refine (View.read_writes_eq_canon _ _ _ (fun y => View.cover_of_tiled _ S2304x128.size (by rfl) y)).trans ?_
    exact View.canon_unit_zero (by decide) _ _
  have e13 : arg13.view.read (Elt F) (arg13.view.writes (Elt F) arg13.view.junk (sound_kernel1.sl.H13_1 c arg2 arg4 f2 f4)) = offs1B (arg2.view.read (Elt F) f2) (arg4.view.read (Elt F) f4) := by
    refine (View.read_writes_eq_canon _ _ _ (fun y => View.cover_of_tiled _ S2304x128.size (by rfl) y)).trans ?_
    exact View.canon_unit_zero (by decide) _ _
  have e15 : arg15.view.read (Elt F) (arg15.view.writes (Elt F) arg15.view.junk (sound_kernel1.sl.H15_1 c arg5 f5)) = coef1F (arg5.view.read (Elt F) f5) := by
    refine (View.read_writes_eq_canon _ _ _ (fun y => View.cover_of_tiled _ S2304x128.size (by rfl) y)).trans ?_
    exact View.canon_unit_zero (by decide) _ _
  have e16 : arg16.view.read (Elt F) (arg16.view.writes (Elt F) arg16.view.junk (sound_kernel1.sl.H16_1 c arg5 arg7 f5 f7)) = offs1F (arg5.view.read (Elt F) f5) (arg7.view.read (Elt F) f7) := by
    refine (View.read_writes_eq_canon _ _ _ (fun y => View.cover_of_tiled _ S2304x128.size (by rfl) y)).trans ?_
    exact View.canon_unit_zero (by decide) _ _
  generalize arg12.view.writes (Elt F) arg12.view.junk (sound_kernel1.sl.H12_1 c arg2 f2) = g12 at *
  generalize arg13.view.writes (Elt F) arg13.view.junk (sound_kernel1.sl.H13_1 c arg2 arg4 f2 f4) = g13 at *
  generalize arg15.view.writes (Elt F) arg15.view.junk (sound_kernel1.sl.H15_1 c arg5 f5) = g15 at *
  generalize arg16.view.writes (Elt F) arg16.view.junk (sound_kernel1.sl.H16_1 c arg5 arg7 f5 f7) = g16 at *
  iapply (Scf.wp_for_bind Idealize.ShloMosaic.frame (wpE (defs₀ (F := F)) Variants.none (c : Thread nD τ) none) E _ _ _ k1_t1_ok _ _
    (inv1 (F := F) c arg12 arg13 arg14 arg15 arg16 arg17 g12 g13 g15 g16)
    (fun k acc => step1 (F := F) c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ g12 g13 g15 g16 k acc)) $$ [H12 H13 H14 H15 H16 H17]
  · iexists f14; iexists f17
    isplitr
    · ipureintro
      exact ⟨rfl, fun y hy => absurd hy (by have h := (y 0).isLt; have h2 : (y 0).val < 2304 := h; omega), fun y hy => absurd hy (by omega)⟩
    isplitl [H12]; · iexact H12
    isplitl [H13]; · iexact H13
    isplitl [H14]; · iexact H14
    isplitl [H15]; · iexact H15
    isplitl [H16]; · iexact H16
    iexact H17
  iintro %acc ⟨%g14, %g17, %h, H12, H13, H14, H15, H16, H17⟩
  obtain ⟨-, h14, h17⟩ := h
  have htr : Scf.trips k1_t1_loop.lb k1_t1_loop.ub k1_t1_loop.st = 288 := by decide
  have e14 : arg14.view.read (Elt F) g14 = fill1B (arg12.view.read (Elt F) g12) (arg13.view.read (Elt F) g13) :=
    funext fun y => h14 y (by have := htr; omega)
  have e17 : arg17.view.read (Elt F) g17 = fill1F (arg15.view.read (Elt F) g15) (arg16.view.read (Elt F) g16) :=
    funext fun y => h17 y (by have h2 : (y 0).val < 2304 := (y 0).isLt; have := htr; omega)
  obtain ⟨acc0, acc1⟩ := acc
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover1 _)).trans ?_
    unfold out1_6
    try unfold sound_kernel1.sl.r_8
    simp only [View.readAt_eq_ld, View.ld_unit_zero (S := S2304x128) (off := ![0, 0]) (by decide)]
    rw [e14, e12, e13]
  isplitl [H9]
  · iexists _; isplitr; swap; · iexact H9
    ipureintro
    refine (View.read_writes_eq_canon _ _ _ (cover1 _)).trans ?_
    unfold out1_7
    try unfold sound_kernel1.sl.r_8
    simp only [View.readAt_eq_ld, View.ld_unit_zero (S := S2304x128) (off := ![0, 0]) (by decide)]
    rw [e14, e12, e13]
  isplitl [H10]
  · iexists _; isplitr; swap; · iexact H10
    ipureintro
    refine (View.read_writes_eq_canon _ _ _ (cover1 _)).trans ?_
    unfold out1_8
    try unfold sound_kernel1.sl.r_9
    simp only [View.readAt_eq_ld, View.ld_unit_zero (S := S2304x128) (off := ![0, 0]) (by decide)]
    rw [e17, e15, e16]
  isplitl [H11]
  · iexists _; isplitr; swap; · iexact H11
    ipureintro
    refine (View.read_writes_eq_canon _ _ _ (cover1 _)).trans ?_
    unfold out1_9
    try unfold sound_kernel1.sl.r_9
    simp only [View.readAt_eq_ld, View.ld_unit_zero (S := S2304x128) (off := ![0, 0]) (by decide)]
    rw [e17, e15, e16]
  isplitl [H12]
  · iexists _; iexists g12; isplitr; swap; · iexact H12
    ipureintro; rfl
  isplitl [H13]
  · iexists _; iexists g13; isplitr; swap; · iexact H13
    ipureintro; rfl
  isplitl [H14]
  · iexists _; iexists g14; isplitr; swap; · iexact H14
    ipureintro; rfl
  isplitl [H15]
  · iexists _; iexists g15; isplitr; swap; · iexact H15
    ipureintro; rfl
  isplitl [H16]
  · iexists _; iexists g16; isplitr; swap; · iexact H16
    ipureintro; rfl
  iexists _; iexists g17; isplitr; swap; · iexact H17
  ipureintro; rfl

end Cert.Scan

end
-- ==== Proof.ScanFrame.lean ====
/- The scan kernel's run: its two regions' proof data over the contents each is entered with, the contents of every buffer
   after each region, and the run of the whole program, at any scalar semantics. The scratch arrays are opened inside a
   region's body and closed again with whatever they then hold. -/
module

public import proofs.«01_k».proof.Proof.ScanRegion1
public import Idealize.ShloMosaic.Lib.Pipeline.RegionsLoop
public import Idealize.ShloMosaic.Lib.Pipeline.FrameSuffix

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
/- The buffers' contents when a region is entered. -/
variable (V : (c : Dev nD) → (b : Ref sig .tc) → Buf (Elt F) ((c : Thread nD τ).loc b))

/-! ## Region 0 -/

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: inputs stay their blocks, outputs become the body's; the invariant keeps scratch and generator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 2 t) (iblk0 V c 3 t) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- The scoped buffers outside the staging ones: the body's six scratch arrays, owned at some contents, and the others. -/
theorem scoped0 (c : Dev nD) : (Pipeline.scopedRest (Ix := Unit) (Name := ℕ) (U := UR sig nD τ) (Lvl := ℕ) (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d))
        ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5]) := by
  simp only [owns_whole]
  exact Pipeline.scopedRest_split_of_list spec0 c [cc0_scratch0, cc0_scratch1, cc0_scratch2, cc0_scratch3, cc0_scratch4, cc0_scratch5] (by decide) (by decide)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5]
  unfold Pipeline.ΦA
  rw [scoped0 c]
  iintro ⟨⟨⟨⟨S0, S1, S2, S3, S4, S5⟩, Hb⟩, Hp⟩, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, S0, S1, S2, S3, S4, S5⟩
  isplitl [S0 S1 S2 S3 S4 S5 Hb Hp]
  · isplitr [Hp]; swap; · iexact Hp
    isplitr [Hb]; swap; · iexact Hb
    isplitl [S0]; · iexact S0
    isplitl [S1]; · iexact S1
    isplitl [S2]; · iexact S2
    isplitl [S3]; · iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

/-! ## Region 1 -/

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: inputs stay their blocks, outputs become the body's; the invariant keeps scratch and generator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 0 t) (iblk1 V c 2 t)
    | ⟨8, _⟩ => out1_8 (iblk1 V c 3 t) (iblk1 V c 4 t) (iblk1 V c 5 t)
    | ⟨9, _⟩ => out1_9 (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 0 t) (iblk1 V c 2 t) := by dsimp only [dat1]
theorem after1_8 (c : Dev nD) (t : Fin cfg1.N) : (dat1 V c).after 8 t = out1_8 (iblk1 V c 3 t) (iblk1 V c 4 t) (iblk1 V c 5 t) := by dsimp only [dat1]
theorem after1_9 (c : Dev nD) (t : Fin cfg1.N) : (dat1 V c).after 9 t = out1_9 (iblk1 V c 3 t) (iblk1 V c 5 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- The scoped buffers outside the staging ones: the body's six scratch arrays, owned at some contents, and the others. -/
theorem scoped1 (c : Dev nD) : (Pipeline.scopedRest (Ix := Unit) (Name := ℕ) (U := UR sig nD τ) (Lvl := ℕ) (Val := Elt F) spec1 c : sProp 𝕄)
    = iprop(((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d))
        ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) := by
  simp only [owns_whole]
  exact Pipeline.scopedRest_split_of_list spec1 c [cc1_scratch0, cc1_scratch1, cc1_scratch2, cc1_scratch3, cc1_scratch4, cc1_scratch5] (by decide) (by decide)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t) ∗ owns (c : Thread nD τ) (st1_4 t) fullShare ((dat1 V c).after 4 t) ∗ owns (c : Thread nD τ) (st1_5 t) fullShare ((dat1 V c).after 5 t) ∗ owns (c : Thread nD τ) (st1_6 t) fullShare ((dat1 V c).after 6 t) ∗ owns (c : Thread nD τ) (st1_7 t) fullShare ((dat1 V c).after 7 t) ∗ owns (c : Thread nD τ) (st1_8 t) fullShare ((dat1 V c).after 8 t) ∗ owns (c : Thread nD τ) (st1_9 t) fullShare ((dat1 V c).after 9 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9]
  unfold Pipeline.ΦA
  rw [scoped1 c]
  iintro ⟨⟨⟨⟨S0, S1, S2, S3, S4, S5⟩, Hb⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 Hb Hp]
  · isplitr [Hp]; swap; · iexact Hp
    isplitr [Hb]; swap; · iexact Hb
    isplitl [S0]; · iexact S0
    isplitl [S1]; · iexact S1
    isplitl [S2]; · iexact S2
    isplitl [S3]; · iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

end Regions

/-! ## The contents of the buffers between the regions -/

variable (m : (ℓ : Loc nD τ sig) → Buf (Elt F) ℓ) (ρ : Dev nD → PrngReg)

/-- The six arguments. -/
abbrev argRefs : List (Ref sig .tc) := [main_arg0, main_arg1, main_arg2, main_arg3, main_arg4, main_arg5]

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays as the write-backs leave them, everything else as before it. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is no output of the region is unchanged by it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (rfl)
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays as the write-backs leave them, everything else as before it. -/
def W2 (c : Dev nD) : Valuation τ sig (Elt F) :=
  Pipeline.withArrays spec1 c (W1 m ρ c) fun w => (dat1 (V1 m ρ) c).arrAt w cfg1.N
abbrev V2 : (c : Dev nD) → (b : Ref sig .tc) → Buf (Elt F) ((c : Thread nD τ).loc b) := fun c b => W2 m ρ c b
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that is no output of the region is unchanged by it. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The run -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- Region 0 between the contents before it and after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents before it and after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) := [.region (reg0 m ρ), .region (reg1 m ρ)]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- After both regions every buffer of the program holds what the two say, and every counter is zero. -/
theorem run_boundary : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ ∀ g : GSem nD τ sig, r.2.sem g = 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c => h c, fun g => hz g (.inr (no_unscoped g.2))⟩)

/-- The arguments end unchanged and every counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c _ (mem_uc main_arg0 (by decide))).trans (W2_args m ρ c main_arg0 (by decide)),
      (h.1 c _ (mem_uc main_arg1 (by decide))).trans (W2_args m ρ c main_arg1 (by decide)),
      (h.1 c _ (mem_uc main_arg2 (by decide))).trans (W2_args m ρ c main_arg2 (by decide)),
      (h.1 c _ (mem_uc main_arg3 (by decide))).trans (W2_args m ρ c main_arg3 (by decide)),
      (h.1 c _ (mem_uc main_arg4 (by decide))).trans (W2_args m ρ c main_arg4 (by decide)),
      (h.1 c _ (mem_uc main_arg5 (by decide))).trans (W2_args m ρ c main_arg5 (by decide))⟩, funext h.2⟩)
    (run_boundary m ρ)

end Cert.Scan

end
-- ==== Proof.ScanWords.lean ====
/- The scan kernel over machine words is the text its run is proved of. -/
module

public import proofs.«01_k».proof.Defs
public import proofs.«01_k».proof.Proof.Gen.Kernel
public import proofs.«01_k».proof.Proof.ScanFrame

@[expose] public section

namespace Cert.Scan

open Idealize.ShloMosaic Idealize.ShloMosaic.TcCoe Idealize.SL.Sem

/-- Two body tables with the same bodies. -/
theorem defs_ext {nD : Nat} {τ : Topo} {sig : RefSig} {Val : EltTy → Type} {Λ : Labels} (D E : Defs nD τ sig Val Λ)
    (h : ∀ l a, D .tc l a = E .tc l a) (hs : ∀ i, D (.scScalar i) = E (.scScalar i)) (hv : ∀ i j, D (.scVector i j) = E (.scVector i j)) : D = E := by
  funext p
  cases p with
  | tc => exact funext fun l => funext fun a => h l a
  | scScalar i => exact hs i
  | scVector i j => exact hv i j

set_option maxHeartbeats 1000000 in
/-- The kernels' bodies of both programs. -/
theorem bodies_text : Cert.Kernel.defs₀ (F := Bits) = Cert.KernelIdeal.defs₀ (F := Bits) :=
  defs_ext (nD := Cert.KernelIdeal.nD) (τ := Cert.KernelIdeal.τ) (sig := Cert.KernelIdeal.sig) (Val := Elt Bits) (Λ := Cert.KernelIdeal.Λ₀)
    (Cert.Kernel.defs₀ (F := Bits)) (Cert.KernelIdeal.defs₀ (F := Bits)) (fun l a => by
      match l, a with
      | 0, (t, s) => exact rfl
      | 1, (t, s) => exact rfl) (fun _ => rfl) (fun _ _ => rfl)

theorem defs_text : Cert.Kernel.defs (F := Bits) = Cert.KernelIdeal.defs (F := Bits) :=
  congrArg (Pipeline.defs (Cert.KernelIdeal.pcfgs (F := Bits))) bodies_text

/-- The frame over machine words. -/
theorem frame_words : Cert.quiescent_Kernel := fun m ρ _ => by
  rw [defs_text]
  exact (θ_run Cert.KernelIdeal.defs _ _).mono (fun _ h => h) (kernel_frame (F := Bits) m ρ)

end Cert.Scan

end
-- ==== Proof.ScanMath.lean ====
module

public import Mathlib.Data.EReal.Operations
public import Mathlib.Tactic.Ring
public import Mathlib.Tactic.IntervalCases

@[expose] public section

/-! # A linear recurrence, scanned eight rows at a time

`fwd a u n` is the recurrence `h ← a k * h + u k` after `n` steps from zero. A tile of eight rows is
scanned in three doubling rounds, which leave at each row the coefficient and the offset of the steps
from the tile's first row to it; the value carried into the tile then gives every row of it. -/

noncomputable section

namespace Cert.Scan

/-- The recurrence after `n` steps. -/
def fwd (a u : ℕ → EReal) : ℕ → EReal
  | 0 => 0
  | k + 1 => a k * fwd a u k + u k

/-- One doubling round at distance `s`: the coefficients, and the offsets. -/
def rc (s : ℕ) (A : ℕ → EReal) (r : ℕ) : EReal := if s ≤ r % 8 then A r * A (r - s) else A r
def ro (s : ℕ) (A U : ℕ → EReal) (r : ℕ) : EReal := if s ≤ r % 8 then A r * U (r - s) + U r else U r

/-- The coefficients and the offsets after the three rounds. -/
def coef (a : ℕ → EReal) : ℕ → EReal := rc 4 (rc 2 (rc 1 a))
def offs (a u : ℕ → EReal) : ℕ → EReal := ro 4 (rc 2 (rc 1 a)) (ro 2 (rc 1 a) (ro 1 a u))

/-- The value carried into tile `k`. -/
def car (a u : ℕ → EReal) : ℕ → EReal
  | 0 => 0
  | k + 1 => coef a (8 * k + 7) * car a u k + offs a u (8 * k + 7)

/-! The same over the reals. -/

def fwdR (a u : ℕ → ℝ) : ℕ → ℝ
  | 0 => 0
  | k + 1 => a k * fwdR a u k + u k
def rcR (s : ℕ) (A : ℕ → ℝ) (r : ℕ) : ℝ := if s ≤ r % 8 then A r * A (r - s) else A r
def roR (s : ℕ) (A U : ℕ → ℝ) (r : ℕ) : ℝ := if s ≤ r % 8 then A r * U (r - s) + U r else U r
def coefR (a : ℕ → ℝ) : ℕ → ℝ := rcR 4 (rcR 2 (rcR 1 a))
def offsR (a u : ℕ → ℝ) : ℕ → ℝ := roR 4 (rcR 2 (rcR 1 a)) (roR 2 (rcR 1 a) (roR 1 a u))

/-- A sequence of reals as one of extended reals. -/
def up (a : ℕ → ℝ) : ℕ → EReal := fun r => ((a r : ℝ) : EReal)

theorem fwd_up (a u : ℕ → ℝ) : ∀ n, fwd (up a) (up u) n = ((fwdR a u n : ℝ) : EReal)
  | 0 => rfl
  | k + 1 => by
    rw [fwd, fwdR, fwd_up a u k, EReal.coe_add, EReal.coe_mul]
    rfl

theorem rc_up (s : ℕ) (a : ℕ → ℝ) : rc s (up a) = up (rcR s a) := by
  funext r
  unfold rc up rcR
  split
  · rw [EReal.coe_mul]
  · rfl

theorem ro_up (s : ℕ) (a u : ℕ → ℝ) : ro s (up a) (up u) = up (roR s a u) := by
  funext r
  unfold ro up roR
  split
  · rw [EReal.coe_add, EReal.coe_mul]
  · rfl

theorem coef_up (a : ℕ → ℝ) : coef (up a) = up (coefR a) := by
  unfold coef coefR
  rw [rc_up, rc_up, rc_up]

theorem offs_up (a u : ℕ → ℝ) : offs (up a) (up u) = up (offsR a u) := by
  unfold offs offsR
  rw [rc_up, rc_up, ro_up, ro_up, ro_up]

/-- The coefficient and offset at row `m` of tile `k` take the value before the tile to the value at the row. -/
theorem tileR (a u : ℕ → ℝ) (k m : ℕ) (hm : m < 8) :
    coefR a (8 * k + m) * fwdR a u (8 * k) + offsR a u (8 * k + m) = fwdR a u (8 * k + m + 1) := by
  have e : ∀ n, fwdR a u (n + 1) = a n * fwdR a u n + u n := fun _ => rfl
  interval_cases m <;>
    (simp [coefR, offsR, rcR, roR, e, Nat.mul_add_mod]; try ring)

/-- A sequence of extended reals that are all real. -/
def IsReal (a : ℕ → EReal) : Prop := ∃ x : ℕ → ℝ, a = up x

theorem car_eq {a u : ℕ → EReal} (ha : IsReal a) (hu : IsReal u) : ∀ k, car a u k = fwd a u (8 * k)
  | 0 => rfl
  | k + 1 => by
    obtain ⟨x, rfl⟩ := ha
    obtain ⟨y, rfl⟩ := hu
    rw [car, car_eq ⟨x, rfl⟩ ⟨y, rfl⟩ k, coef_up, offs_up, fwd_up, show 8 * (k + 1) = 8 * k + 7 + 1 from by omega, fwd_up,
      ← tileR x y k 7 (by omega), EReal.coe_add, EReal.coe_mul]
    rfl

/-- What the tile scan gives at row `r` is the recurrence after `r + 1` steps. -/
theorem tile_scan {a u : ℕ → EReal} (ha : IsReal a) (hu : IsReal u) (r : ℕ) :
    coef a r * car a u (r / 8) + offs a u r = fwd a u (r + 1) := by
  rw [car_eq ha hu]
  obtain ⟨x, rfl⟩ := ha
  obtain ⟨y, rfl⟩ := hu
  have h := tileR x y (r / 8) (r % 8) (Nat.mod_lt _ (by omega))
  rw [Nat.div_add_mod] at h
  rw [coef_up, offs_up, fwd_up, fwd_up, ← h, EReal.coe_add, EReal.coe_mul]
  rfl

theorem fwd_isReal {a u : ℕ → EReal} (ha : IsReal a) (hu : IsReal u) : IsReal (fwd a u) := by
  obtain ⟨x, rfl⟩ := ha
  obtain ⟨y, rfl⟩ := hu
  exact ⟨fwdR x y, funext fun n => fwd_up x y n⟩

/-! ## The gradient's recurrence

The gradient walks the rows from the last: it carries `c`, and row `r` makes `g r + c` and then
`c ← a r * (g r + c)`. -/

/-- The value carried into the gradient's step `j`, which works on row `n - 1 - j` (given as `A j`, `G j`). -/
def bwd (A G : ℕ → EReal) : ℕ → EReal
  | 0 => 0
  | j + 1 => A j * (bwd A G j + G j)

/-- The gradient's step gives what a recurrence with the coefficients one step late gives. -/
theorem bwd_eq (A G A' : ℕ → EReal) (n : ℕ) (h : ∀ i, i < n → A' (i + 1) = A i) : ∀ j, j ≤ n → bwd A G j + G j = fwd A' G (j + 1)
  | 0, _ => by simp [bwd, fwd]
  | j + 1, hj => by
    rw [bwd, bwd_eq A G A' n h j (by omega), ← h j (by omega)]
    rfl

end Cert.Scan

end
-- ==== Proof.ScanCols.lean ====
module

public import proofs.«01_k».proof.Proof.ScanRegion1
public import proofs.«01_k».proof.Proof.ScanMath

/-!
The columns of the arrays the two kernel bodies compute with. One round of the scan of a tile is a
rotation of the rows under a mask of the row's place in its tile; here it is read on one column, as
the round of the sequence the column is. A chain that runs from the last row to the first is read on
the reversed column.
-/

@[expose] public section

noncomputable section

namespace Cert.Scan

open Cert.KernelIdeal Cert.KernelIdeal.Gen
open Idealize.ShloMosaic Idealize.ShloMosaic.Tactic
open Idealize.ShloMosaic (ix2)

/-- An array of 2304 rows over the extended reals. -/
abbrev Arr (W : Nat) := FVec Ideal ⟨2, ![2304, W]⟩ .f32

/-- Column `w` of an array as a sequence, zero past the last row. -/
def col {W : Nat} (X : Arr W) (w : Fin W) (i : ℕ) : EReal :=
  if h : i < 2304 then X (ix2 ⟨i, h⟩ w) else 0

/-- A sequence of 2304 entries read backwards, zero past the last. -/
def rev (f : ℕ → EReal) (i : ℕ) : EReal := if i < 2304 then f (2303 - i) else 0

theorem col_lt {W : Nat} (X : Arr W) (w : Fin W) {i : ℕ} (h : i < 2304) : col X w i = X (ix2 ⟨i, h⟩ w) := dif_pos h
theorem col_ge {W : Nat} (X : Arr W) (w : Fin W) {i : ℕ} (h : ¬ i < 2304) : col X w i = 0 := dif_neg h
theorem rev_lt (f : ℕ → EReal) {i : ℕ} (h : i < 2304) : rev f i = f (2303 - i) := if_pos h
theorem rev_ge (f : ℕ → EReal) {i : ℕ} (h : ¬ i < 2304) : rev f i = 0 := if_neg h

/-- An array of words that holds each row's place in its tile. -/
def IsPlace {W : Nat} (M : IVec ⟨2, ![2304, W]⟩ 32) : Prop := ∀ r w, M (ix2 r w) = BitVec.ofNat 32 (r.val % 8)

theorem ge_word : ∀ m : Fin 8, ∀ s : Fin 8, IntOp.cmpi .sge (BitVec.ofNat 32 m.val) (BitVec.ofNat 32 s.val) = if s.val ≤ m.val then 1#1 else 0#1 := by
  decide +kernel

theorem lt_word : ∀ m : Fin 8, ∀ s : Fin 8, IntOp.cmpi .slt (BitVec.ofNat 32 m.val) (BitVec.ofNat 32 s.val) = if m.val < s.val then 1#1 else 0#1 := by
  decide +kernel

theorem sel_one {α : Type} (x y : α) : Scalar.select 1#1 x y = x := rfl
theorem sel_zero {α : Type} (x y : α) : Scalar.select 0#1 x y = y := rfl

theorem rot_apply {W : Nat} (X : Arr W) (h : (⟨2, ![2304, W]⟩ : Shape).Rotates 0 none) (sw : BitVec 32) (i : Fin 2304) (w : Fin W) :
    dynamicRotate 0 sw none X h (ix2 i w)
      = X (ix2 ⟨(i.val + 2304 - sw.toNat % 2304) % 2304, Nat.mod_lt _ (by decide)⟩ w) := by
  refine congrArg X (funext fun b => ?_)
  fin_cases b
  · rfl
  · rfl

theorem round_c_f (s : ℕ) (hs8 : s < 8) (sw : BitVec 32) (hsw : sw = BitVec.ofNat 32 s) {W : Nat} (M : IVec ⟨2, ![2304, W]⟩ 32) (hM : IsPlace M)
    (X : Arr W) (h) (w : Fin W) :
    col (select (cmpi .sge M (broadcast _ sw)) (mulf X (dynamicRotate 0 sw none X h)) X) w = rc s (col X w) := by
  subst hsw
  funext i
  by_cases hi : i < 2304
  · rw [col_lt _ _ hi]
    have e := ge_word ⟨i % 8, Nat.mod_lt _ (by decide)⟩ ⟨s, hs8⟩
    show Scalar.select (IntOp.cmpi .sge (M (ix2 ⟨i, hi⟩ w)) (BitVec.ofNat 32 s)) (X (ix2 ⟨i, hi⟩ w) * dynamicRotate 0 _ none X h (ix2 ⟨i, hi⟩ w)) (X (ix2 ⟨i, hi⟩ w)) = _
    rw [hM, rot_apply]
    dsimp only at e ⊢
    rw [e]
    unfold rc
    by_cases hs : s ≤ i % 8
    · rw [if_pos hs, if_pos hs, sel_one, col_lt _ _ hi, col_lt _ _ (show i - s < 2304 by omega)]
      refine congrArg (fun z => X (ix2 ⟨i, hi⟩ w) * X (ix2 z w)) (Fin.ext ?_)
      show (i + 2304 - (BitVec.ofNat 32 s).toNat % 2304) % 2304 = i - s
      rw [BitVec.toNat_ofNat, Nat.mod_eq_of_lt (show s < 2 ^ 32 by omega)]
      omega
    · rw [if_neg hs, if_neg hs, sel_zero, col_lt _ _ hi]
  · unfold rc
    rw [col_ge _ _ hi, col_ge _ _ hi, zero_mul, ite_self]

theorem round_o_f (s : ℕ) (hs8 : s < 8) (sw : BitVec 32) (hsw : sw = BitVec.ofNat 32 s) {W : Nat} (M : IVec ⟨2, ![2304, W]⟩ 32) (hM : IsPlace M)
    (X U : Arr W) (h) (w : Fin W) :
    col (select (cmpi .sge M (broadcast _ sw)) (addf (mulf X (dynamicRotate 0 sw none U h)) U) U) w = ro s (col X w) (col U w) := by
  subst hsw
  funext i
  by_cases hi : i < 2304
  · rw [col_lt _ _ hi]
    have e := ge_word ⟨i % 8, Nat.mod_lt _ (by decide)⟩ ⟨s, hs8⟩
    show Scalar.select (IntOp.cmpi .sge (M (ix2 ⟨i, hi⟩ w)) (BitVec.ofNat 32 s))
      (X (ix2 ⟨i, hi⟩ w) * dynamicRotate 0 _ none U h (ix2 ⟨i, hi⟩ w) + U (ix2 ⟨i, hi⟩ w)) (U (ix2 ⟨i, hi⟩ w)) = _
    rw [hM, rot_apply]
    dsimp only at e ⊢
    rw [e]
    unfold ro
    by_cases hs : s ≤ i % 8
    · rw [if_pos hs, if_pos hs, sel_one, col_lt _ _ hi, col_lt _ _ hi, col_lt _ _ (show i - s < 2304 by omega)]
      refine congrArg (fun z => X (ix2 ⟨i, hi⟩ w) * U (ix2 z w) + U (ix2 ⟨i, hi⟩ w)) (Fin.ext ?_)
      show (i + 2304 - (BitVec.ofNat 32 s).toNat % 2304) % 2304 = i - s
      rw [BitVec.toNat_ofNat, Nat.mod_eq_of_lt (show s < 2 ^ 32 by omega)]
      omega
    · rw [if_neg hs, if_neg hs, sel_zero, col_lt _ _ hi]
  · unfold ro
    rw [col_ge _ _ hi, col_ge _ _ hi, col_ge _ _ hi, zero_mul, zero_add, ite_self]

theorem round_c_b (s : ℕ) (hs8 : s < 8) (hs0 : 0 < s) (sw mw : BitVec 32) (hsw : sw = BitVec.ofNat 32 (2304 - s)) (hmw : mw = BitVec.ofNat 32 (8 - s))
    {W : Nat} (M : IVec ⟨2, ![2304, W]⟩ 32) (hM : IsPlace M) (X : Arr W) (h) (w : Fin W) :
    rev (col (select (cmpi .slt M (broadcast _ mw)) (mulf X (dynamicRotate 0 sw none X h)) X) w) = rc s (rev (col X w)) := by
  subst hsw hmw
  funext j
  by_cases hj : j < 2304
  · obtain ⟨i, hij, hi⟩ : ∃ i, i = 2303 - j ∧ i < 2304 := ⟨_, rfl, by omega⟩
    rw [rev_lt _ hj, ← hij, col_lt _ _ hi]
    have e := lt_word ⟨i % 8, Nat.mod_lt _ (by decide)⟩ ⟨8 - s, by omega⟩
    show Scalar.select (IntOp.cmpi .slt (M (ix2 ⟨i, hi⟩ w)) (BitVec.ofNat 32 (8 - s))) (X (ix2 ⟨i, hi⟩ w) * dynamicRotate 0 _ none X h (ix2 ⟨i, hi⟩ w)) (X (ix2 ⟨i, hi⟩ w)) = _
    rw [hM, rot_apply]
    dsimp only at e ⊢
    rw [e]
    unfold rc
    by_cases hs : s ≤ j % 8
    · rw [if_pos hs, if_pos (show i % 8 < 8 - s by omega), sel_one, rev_lt _ hj, rev_lt _ (show j - s < 2304 by omega), ← hij,
        col_lt _ _ hi, col_lt _ _ (show 2303 - (j - s) < 2304 by omega)]
      refine congrArg (fun z => X (ix2 ⟨i, hi⟩ w) * X (ix2 z w)) (Fin.ext ?_)
      show (i + 2304 - (BitVec.ofNat 32 (2304 - s)).toNat % 2304) % 2304 = 2303 - (j - s)
      rw [BitVec.toNat_ofNat, Nat.mod_eq_of_lt (show 2304 - s < 2 ^ 32 by omega)]
      omega
    · rw [if_neg hs, if_neg (show ¬ i % 8 < 8 - s by omega), sel_zero, rev_lt _ hj, ← hij, col_lt _ _ hi]
  · unfold rc
    rw [rev_ge _ hj, rev_ge _ hj, zero_mul, ite_self]

theorem round_o_b (s : ℕ) (hs8 : s < 8) (hs0 : 0 < s) (sw mw : BitVec 32) (hsw : sw = BitVec.ofNat 32 (2304 - s)) (hmw : mw = BitVec.ofNat 32 (8 - s))
    {W : Nat} (M : IVec ⟨2, ![2304, W]⟩ 32) (hM : IsPlace M) (X U : Arr W) (h) (w : Fin W) :
    rev (col (select (cmpi .slt M (broadcast _ mw)) (addf (mulf X (dynamicRotate 0 sw none U h)) U) U) w)
      = ro s (rev (col X w)) (rev (col U w)) := by
  subst hsw hmw
  funext j
  by_cases hj : j < 2304
  · obtain ⟨i, hij, hi⟩ : ∃ i, i = 2303 - j ∧ i < 2304 := ⟨_, rfl, by omega⟩
    rw [rev_lt _ hj, ← hij, col_lt _ _ hi]
    have e := lt_word ⟨i % 8, Nat.mod_lt _ (by decide)⟩ ⟨8 - s, by omega⟩
    show Scalar.select (IntOp.cmpi .slt (M (ix2 ⟨i, hi⟩ w)) (BitVec.ofNat 32 (8 - s)))
      (X (ix2 ⟨i, hi⟩ w) * dynamicRotate 0 _ none U h (ix2 ⟨i, hi⟩ w) + U (ix2 ⟨i, hi⟩ w)) (U (ix2 ⟨i, hi⟩ w)) = _
    rw [hM, rot_apply]
    dsimp only at e ⊢
    rw [e]
    unfold ro
    by_cases hs : s ≤ j % 8
    · rw [if_pos hs, if_pos (show i % 8 < 8 - s by omega), sel_one, rev_lt _ hj, rev_lt _ hj, rev_lt _ (show j - s < 2304 by omega), ← hij,
        col_lt _ _ hi, col_lt _ _ hi, col_lt _ _ (show 2303 - (j - s) < 2304 by omega)]
      refine congrArg (fun z => X (ix2 ⟨i, hi⟩ w) * U (ix2 z w) + U (ix2 ⟨i, hi⟩ w)) (Fin.ext ?_)
      show (i + 2304 - (BitVec.ofNat 32 (2304 - s)).toNat % 2304) % 2304 = 2303 - (j - s)
      rw [BitVec.toNat_ofNat, Nat.mod_eq_of_lt (show 2304 - s < 2 ^ 32 by omega)]
      omega
    · rw [if_neg hs, if_neg (show ¬ i % 8 < 8 - s by omega), sel_zero, rev_lt _ hj, ← hij, col_lt _ _ hi]
  · unfold ro
    rw [rev_ge _ hj, rev_ge _ hj, rev_ge _ hj, zero_mul, zero_add, ite_self]

theorem place_word : ∀ r : Fin 2304,
    Scalar.select
      (IntOp.andi
        (IntOp.xori
          (IntOp.cmpi CmpIPredicate.slt
            (IntOp.remsi ArithUnit.vector (BitVec.ofNat 32 r.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 r.val)
            (Scalar.select (Scalar.cmpi CmpIPredicate.eq 8#32 0#32) 1#32 8#32))
          0#32))
      (IntOp.addi
        (IntOp.remsi ArithUnit.vector (BitVec.ofNat 32 r.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 r.val)
        (Scalar.select (Scalar.cmpi CmpIPredicate.eq 8#32 0#32) 1#32 8#32)) =
    BitVec.ofNat 32 (r.val % 8) := by decide +kernel

theorem place0 : IsPlace k0_pay5 := by
  intro r w
  unfold k0_pay5
  pointwise
  exact place_word r

theorem place1 : IsPlace (k1_pay8 tileW k1_pay6 k1_pay7) := by
  intro r w
  unfold k1_pay8 k1_pay7 k1_pay6 tileW
  pointwise
  exact place_word r

/-- Column `w` of a block as a sequence, zero past the last row. -/
def bcol {W : Nat} (X : FVec Ideal ⟨3, ![1, 2304, W]⟩ .f32) (w : Fin W) (i : ℕ) : EReal :=
  if h : i < 2304 then X (Idealize.ShloMosaic.ix3 0 ⟨i, h⟩ w) else 0

/-- A sequence moved one place towards its start, zero at the last entry, and one moved one place
towards its end, zero at the first. -/
def nxt (f : ℕ → EReal) (i : ℕ) : EReal := if i < 2303 then f (i + 1) else 0
def prv (f : ℕ → EReal) (i : ℕ) : EReal := if 0 < i ∧ i < 2304 then f (i - 1) else 0

theorem last_word : ∀ r : Fin 2304, IntOp.cmpi .eq (BitVec.ofNat 32 r.val) 2303#32 = if r.val < 2303 then 0#1 else 1#1 := by decide +kernel
theorem first_word : ∀ r : Fin 2304, IntOp.cmpi .eq (BitVec.ofNat 32 r.val) 0#32 = if 0 < r.val then 0#1 else 1#1 := by decide +kernel

end Cert.Scan

end
-- ==== Proof.ScanBlocks.lean ====
module

public import proofs.«01_k».proof.Proof.ScanCols

/-!
What the two kernel bodies leave in their output blocks, column by column, as the recurrences of
`ScanMath`. The three rounds give each row's coefficient and offset within its tile, the loop the
value carried into each tile, and the last line puts them together.
-/

@[expose] public section

set_option maxRecDepth 16384

noncomputable section

namespace Cert.Scan

open Cert.KernelIdeal Cert.KernelIdeal.Gen
open Idealize.ShloMosaic Idealize.ShloMosaic.Tactic
open Idealize.ShloMosaic (ix2 ix3)

theorem bcol_flat256 (X : FVec Ideal S1x2304x256 .f32) (w : Fin 256) :
    col (shapeCast S2304x256 X shapeCasts_S1x2304x256_S2304x256) w = bcol X w := by
  funext i
  unfold col bcol
  by_cases hi : i < 2304
  · rw [dif_pos hi, dif_pos hi]
    pointwise
  · rw [dif_neg hi, dif_neg hi]

theorem lead256 (X : FVec Ideal S2304x256 .f32) (r : Fin 2304) (w : Fin 256) :
    shapeCast S1x2304x256 X shapeCasts_S2304x256_S1x2304x256 (ix3 0 r w) = X (ix2 r w) := by
  pointwise

theorem bcol_flat128 (X : FVec Ideal S1x2304x128 .f32) (w : Fin 128) :
    col (shapeCast S2304x128 X shapeCasts_S1x2304x128_S2304x128) w = bcol X w := by
  funext i
  unfold col bcol
  by_cases hi : i < 2304
  · rw [dif_pos hi, dif_pos hi]
    pointwise
  · rw [dif_neg hi, dif_neg hi]

theorem lead128 (X : FVec Ideal S2304x128 .f32) (r : Fin 2304) (w : Fin 128) :
    shapeCast S1x2304x128 X shapeCasts_S2304x128_S1x2304x128 (ix3 0 r w) = X (ix2 r w) := by
  pointwise

theorem nxt128 (X : FVec Ideal S1x2304x128 .f32) (w : Fin 128) (z : Ideal .f32) (hz : z = (0 : EReal)) (h) :
    col (select (cmpi .eq (iota .tc S2304x128 32 [0] iota_S2304x128_d0_w32) (broadcast S2304x128 2303#32)) (broadcast S2304x128 z)
      (dynamicRotate 0 2303#32 none (shapeCast S2304x128 X shapeCasts_S1x2304x128_S2304x128) h)) w = nxt (bcol X w) := by
  funext i
  unfold nxt
  by_cases hi : i < 2304
  · rw [col_lt _ _ hi]
    show Scalar.select (IntOp.cmpi .eq (iota .tc S2304x128 32 [0] iota_S2304x128_d0_w32 (ix2 ⟨i, hi⟩ w)) 2303#32) z
      (dynamicRotate 0 2303#32 none (shapeCast S2304x128 X shapeCasts_S1x2304x128_S2304x128) h (ix2 ⟨i, hi⟩ w)) = _
    have e := last_word ⟨i, hi⟩
    rw [rot_apply]
    pointwise
    dsimp only at e ⊢
    rw [e]
    by_cases hl : i < 2303
    · rw [if_pos hl, if_pos hl, sel_zero]
      unfold bcol
      rw [dif_pos (show i + 1 < 2304 by omega)]
      refine congrArg (fun z => X (ix3 0 z w)) (Fin.ext ?_)
      show (i + 2304 - 2303 % 2304) % 2304 = i + 1
      omega
    · rw [if_neg hl, if_neg hl, sel_one]
      exact hz
  · rw [col_ge _ _ hi, if_neg (by omega)]

theorem prv128 (X : FVec Ideal S1x2304x128 .f32) (w : Fin 128) (z : Ideal .f32) (hz : z = (0 : EReal)) (h) :
    col (select (cmpi .eq (iota .tc S2304x128 32 [0] iota_S2304x128_d0_w32) (broadcast S2304x128 0#32)) (broadcast S2304x128 z)
      (dynamicRotate 0 1#32 none (shapeCast S2304x128 X shapeCasts_S1x2304x128_S2304x128) h)) w = prv (bcol X w) := by
  funext i
  unfold prv
  by_cases hi : i < 2304
  · rw [col_lt _ _ hi]
    show Scalar.select (IntOp.cmpi .eq (iota .tc S2304x128 32 [0] iota_S2304x128_d0_w32 (ix2 ⟨i, hi⟩ w)) 0#32) z
      (dynamicRotate 0 1#32 none (shapeCast S2304x128 X shapeCasts_S1x2304x128_S2304x128) h (ix2 ⟨i, hi⟩ w)) = _
    have e := first_word ⟨i, hi⟩
    rw [rot_apply]
    pointwise
    dsimp only at e ⊢
    rw [e]
    by_cases hl : 0 < i
    · rw [if_pos hl, if_pos ⟨hl, hi⟩, sel_zero]
      unfold bcol
      rw [dif_pos (show i - 1 < 2304 by omega)]
      refine congrArg (fun z => X (ix3 0 z w)) (Fin.ext ?_)
      show (i + 2304 - 1 % 2304) % 2304 = i - 1
      omega
    · rw [if_neg hl, if_neg (by omega), sel_one]
      exact hz
  · rw [col_ge _ _ hi, if_neg (by omega)]

theorem zero_word : (Scalar.ofBits .f32 0x00000000#32 : Ideal .f32) = (0 : EReal) := by
  pointwise

theorem bcol_isReal {W : Nat} (X : FVec Ideal ⟨3, ![1, 2304, W]⟩ .f32) (w : Fin W) (h : ∀ y, ∃ x : ℝ, X y = ((x : ℝ) : EReal)) : IsReal (bcol X w) := by
  choose f hf using h
  refine ⟨fun i => if h : i < 2304 then f (ix3 0 ⟨i, h⟩ w) else 0, funext fun i => ?_⟩
  unfold bcol up
  by_cases hi : i < 2304
  · simp only [dif_pos hi]; exact hf _
  · simp only [dif_neg hi]; rfl

theorem rev_isReal {f : ℕ → EReal} (h : IsReal f) : IsReal (rev f) := by
  obtain ⟨x, rfl⟩ := h
  refine ⟨fun i => if i < 2304 then x (2303 - i) else 0, funext fun i => ?_⟩
  unfold rev up
  by_cases hi : i < 2304
  · simp only [if_pos hi]
  · simp only [if_neg hi]; rfl

theorem nxt_isReal {f : ℕ → EReal} (h : IsReal f) : IsReal (nxt f) := by
  obtain ⟨x, rfl⟩ := h
  refine ⟨fun i => if i < 2303 then x (i + 1) else 0, funext fun i => ?_⟩
  unfold nxt up
  by_cases hi : i < 2303
  · simp only [if_pos hi]
  · simp only [if_neg hi]; rfl

theorem prv_isReal {f : ℕ → EReal} (h : IsReal f) : IsReal (prv f) := by
  obtain ⟨x, rfl⟩ := h
  refine ⟨fun i => if 0 < i ∧ i < 2304 then x (i - 1) else 0, funext fun i => ?_⟩
  unfold prv up
  by_cases hi : 0 < i ∧ i < 2304
  · simp only [if_pos hi]
  · simp only [if_neg hi]; rfl

/-! ## Region 0 -/

theorem ld0 (X : FVec Ideal S1x2304x256 .f32) : View.ld (Val := Elt Ideal) (S := S1x2304x256) (e' := .f32) X r0I = X := View.ld_unit_zero (Val := Elt Ideal) (e := .f32) (S := S1x2304x256) (off := ![0, 0, 0]) (by decide) _ X

theorem coef0F_col (x0 : Vec Ideal S1x2304x256 .f32) (w : Fin 256) : col (coef0F x0) w = coef (bcol x0 w) := by
  unfold coef0F coef
  rw [ld0]
  simp only [k0_pay13, k0_pay12, k0_pay11, k0_pay10, k0_pay9, k0_pay8, k0_pay6, k0_pay2]
  rw [shapeCast_id, round_c_f 4 (by decide) 4#32 rfl _ place0, round_c_f 2 (by decide) 2#32 rfl _ place0, round_c_f 1 (by decide) 1#32 rfl _ place0,
    bcol_flat256]

theorem offs0F_col (x0 x1 : Vec Ideal S1x2304x256 .f32) (w : Fin 256) : col (offs0F x0 x1) w = offs (bcol x0 w) (bcol x1 w) := by
  unfold offs0F offs
  rw [ld0, ld0]
  simp only [k0_pay14, k0_pay12, k0_pay11, k0_pay10, k0_pay9, k0_pay8, k0_pay7, k0_pay6, k0_pay2]
  rw [shapeCast_id, round_o_f 4 (by decide) 4#32 rfl _ place0, round_o_f 2 (by decide) 2#32 rfl _ place0, round_o_f 1 (by decide) 1#32 rfl _ place0,
    round_c_f 2 (by decide) 2#32 rfl _ place0, round_c_f 1 (by decide) 1#32 rfl _ place0, bcol_flat256, bcol_flat256]

theorem coef0B_col (x2 : Vec Ideal S1x2304x256 .f32) (w : Fin 256) : rev (col (coef0B x2) w) = coef (rev (bcol x2 w)) := by
  unfold coef0B coef
  rw [ld0]
  simp only [k0_pay22, k0_pay21, k0_pay20, k0_pay19, k0_pay17, k0_pay16, k0_pay15, k0_pay3]
  rw [shapeCast_id, round_c_b 4 (by decide) (by decide) 2300#32 4#32 rfl rfl _ place0, round_c_b 2 (by decide) (by decide) 2302#32 6#32 rfl rfl _ place0,
    round_c_b 1 (by decide) (by decide) 2303#32 7#32 rfl rfl _ place0, bcol_flat256]

theorem offs0B_col (x2 x3 : Vec Ideal S1x2304x256 .f32) (w : Fin 256) :
    rev (col (offs0B x2 x3) w) = offs (rev (bcol x2 w)) (rev (bcol x3 w)) := by
  unfold offs0B offs
  rw [ld0, ld0]
  simp only [k0_pay23, k0_pay21, k0_pay20, k0_pay19, k0_pay18, k0_pay17, k0_pay16, k0_pay15, k0_pay4, k0_pay3]
  rw [shapeCast_id, round_o_b 4 (by decide) (by decide) 2300#32 4#32 rfl rfl _ place0, round_o_b 2 (by decide) (by decide) 2302#32 6#32 rfl rfl _ place0,
    round_o_b 1 (by decide) (by decide) 2303#32 7#32 rfl rfl _ place0, round_c_b 2 (by decide) (by decide) 2302#32 6#32 rfl rfl _ place0,
    round_c_b 1 (by decide) (by decide) 2303#32 7#32 rfl rfl _ place0, bcol_flat256, bcol_flat256]

theorem l0F_apply (X : FVec Ideal S2304x256 .f32) (k : Fin k0_t1_loop.trips) (w : Fin 256) (hk : 8 * k.val + 7 < 2304) :
    View.ld (Val := Elt Ideal) (S := S2304x256) (e' := .f32) X (l0F k) (ix2 0 w) = X (ix2 ⟨8 * k.val + 7, hk⟩ w) := by
  refine congrArg X (funext fun a => Fin.ext ?_)
  have e := k0_off2_eq k
  fin_cases a
  · show k0_off2 k 0 + 1 * 0 = _
    rw [e]; rfl
  · show k0_off2 k 1 + 1 * w.val = w.val
    rw [e]; show 0 + 1 * w.val = _; omega

theorem car0F_val (A U : FVec Ideal S2304x256 .f32) (w : Fin 256) (a u : ℕ → EReal) (hA : col A w = coef a) (hU : col U w = offs a u) :
    ∀ k, k ≤ 288 → car0F (F := Ideal) A U k (ix2 0 w) = car a u k
  | 0, _ => by
    show k0_pay24 (ix2 0 w) = 0
    unfold k0_pay24
    exact zero_word
  | k + 1, h => by
    have hk : k < k0_t1_loop.trips := Nat.lt_of_lt_of_eq (show k < 288 by omega) (by decide +kernel)
    have ih := car0F_val A U w a u hA hU k (by omega)
    rw [car0F_succ (F := Ideal) A U ⟨k, hk⟩]
    show View.ld (Val := Elt Ideal) (S := S2304x256) (e' := .f32) A (l0F ⟨k, hk⟩) (ix2 0 w) * car0F (F := Ideal) A U k (ix2 0 w)
      + View.ld (Val := Elt Ideal) (S := S2304x256) (e' := .f32) U (l0F ⟨k, hk⟩) (ix2 0 w) = coef a (8 * k + 7) * car a u k + offs a u (8 * k + 7)
    rw [l0F_apply _ _ _ (show 8 * k + 7 < 2304 by omega), l0F_apply _ _ _ (show 8 * k + 7 < 2304 by omega), ih]
    rw [← hA, ← hU, col_lt _ _ (show 8 * k + 7 < 2304 by omega), col_lt _ _ (show 8 * k + 7 < 2304 by omega)]

theorem join0F (A U : FVec Ideal S2304x256 .f32) (w : Fin 256) (a u : ℕ → EReal) (hA : col A w = coef a) (hU : col U w = offs a u)
    (ha : IsReal a) (hu : IsReal u) (r : Fin 2304) :
    A (ix2 r w) * fill0F (F := Ideal) A U (ix2 r w) + U (ix2 r w) = fwd a u (r.val + 1) := by
  rw [← tile_scan ha hu, ← car0F_val A U w a u hA hU (r.val / 8) (by omega), ← hA, ← hU, col_lt _ _ r.isLt, col_lt _ _ r.isLt]
  rfl

theorem l0B_apply (X : FVec Ideal S2304x256 .f32) (k : Fin k0_t1_loop.trips) (w : Fin 256) (hk : 2296 - 8 * k.val < 2304) :
    View.ld (Val := Elt Ideal) (S := S2304x256) (e' := .f32) X (l0B k) (ix2 0 w) = X (ix2 ⟨2296 - 8 * k.val, hk⟩ w) := by
  refine congrArg X (funext fun a => Fin.ext ?_)
  have e := k0_off4_eq k
  fin_cases a
  · show k0_off4 k 0 + 1 * 0 = _
    rw [e]; rfl
  · show k0_off4 k 1 + 1 * w.val = w.val
    rw [e]; show 0 + 1 * w.val = _; omega

theorem car0B_val (A U : FVec Ideal S2304x256 .f32) (w : Fin 256) (a u : ℕ → EReal) (hA : rev (col A w) = coef a) (hU : rev (col U w) = offs a u) :
    ∀ k, k ≤ 288 → car0B (F := Ideal) A U k (ix2 0 w) = car a u k
  | 0, _ => by
    show k0_pay24 (ix2 0 w) = 0
    unfold k0_pay24
    exact zero_word
  | k + 1, h => by
    have hk : k < k0_t1_loop.trips := Nat.lt_of_lt_of_eq (show k < 288 by omega) (by decide +kernel)
    have ih := car0B_val A U w a u hA hU k (by omega)
    rw [car0B_succ (F := Ideal) A U ⟨k, hk⟩]
    show View.ld (Val := Elt Ideal) (S := S2304x256) (e' := .f32) A (l0B ⟨k, hk⟩) (ix2 0 w) * car0B (F := Ideal) A U k (ix2 0 w)
      + View.ld (Val := Elt Ideal) (S := S2304x256) (e' := .f32) U (l0B ⟨k, hk⟩) (ix2 0 w) = coef a (8 * k + 7) * car a u k + offs a u (8 * k + 7)
    rw [l0B_apply _ _ _ (show 2296 - 8 * k < 2304 by omega), l0B_apply _ _ _ (show 2296 - 8 * k < 2304 by omega), ih]
    rw [← hA, ← hU, rev_lt _ (show 8 * k + 7 < 2304 by omega), rev_lt _ (show 8 * k + 7 < 2304 by omega),
      col_lt _ _ (show 2303 - (8 * k + 7) < 2304 by omega), col_lt _ _ (show 2303 - (8 * k + 7) < 2304 by omega)]
    have e : (⟨2296 - 8 * k, by omega⟩ : Fin 2304) = ⟨2303 - (8 * k + 7), by omega⟩ := Fin.ext (show 2296 - 8 * k = 2303 - (8 * k + 7) by omega)
    rw [e]

theorem join0B (A U : FVec Ideal S2304x256 .f32) (w : Fin 256) (a u : ℕ → EReal) (hA : rev (col A w) = coef a) (hU : rev (col U w) = offs a u)
    (ha : IsReal a) (hu : IsReal u) (r : Fin 2304) :
    A (ix2 r w) * fill0B (F := Ideal) A U (ix2 r w) + U (ix2 r w) = fwd a u (2304 - r.val) := by
  have hr := r.isLt
  have e : 2304 - r.val = (2303 - r.val) + 1 := by omega
  have e' : (2303 - r.val) / 8 = 287 - r.val / 8 := by omega
  have e'' : 2303 - (2303 - r.val) = r.val := by omega
  rw [e, ← tile_scan ha hu, e', ← car0B_val A U w a u hA hU (287 - r.val / 8) (by omega), ← hA, ← hU, rev_lt _ (show 2303 - r.val < 2304 by omega),
    rev_lt _ (show 2303 - r.val < 2304 by omega), e'', col_lt _ _ r.isLt, col_lt _ _ r.isLt]
  rfl

theorem out0_4_apply (x0 x1 : Vec Ideal S1x2304x256 .f32) (r : Fin 2304) (w : Fin 256) (ha : IsReal (bcol x0 w)) (hu : IsReal (bcol x1 w)) :
    out0_4 x0 x1 (ix3 0 r w) = fwd (bcol x0 w) (bcol x1 w) (r.val + 1) := by
  unfold out0_4
  rw [View.canon_unit_zero (by decide) _ _]
  unfold k0_pay30
  refine (lead256 _ r w).trans ?_
  exact join0F (coef0F x0) (offs0F x0 x1) w _ _ (coef0F_col x0 w) (offs0F_col x0 x1 w) ha hu r

theorem out0_5_apply (x2 x3 : Vec Ideal S1x2304x256 .f32) (r : Fin 2304) (w : Fin 256) (ha : IsReal (bcol x2 w)) (hu : IsReal (bcol x3 w)) :
    out0_5 x2 x3 (ix3 0 r w) = fwd (rev (bcol x2 w)) (rev (bcol x3 w)) (2304 - r.val) := by
  unfold out0_5
  rw [View.canon_unit_zero (by decide) _ _]
  unfold k0_pay1
  refine (lead256 _ r w).trans ?_
  exact join0B (coef0B x2) (offs0B x2 x3) w _ _ (coef0B_col x2 w) (offs0B_col x2 x3 w) (rev_isReal ha) (rev_isReal hu) r

/-! ## Region 1 -/

theorem ld1 (X : FVec Ideal S1x2304x128 .f32) : View.ld (Val := Elt Ideal) (S := S1x2304x128) (e' := .f32) X r1I = X := View.ld_unit_zero (Val := Elt Ideal) (e := .f32) (S := S1x2304x128) (off := ![0, 0, 0]) (by decide) _ X

theorem pay2_col (X : FVec Ideal S1x2304x128 .f32) (w : Fin 128) : col (k1_pay2 X) w = nxt (bcol X w) := nxt128 X w _ zero_word _
theorem pay4_col (X : FVec Ideal S1x2304x128 .f32) (w : Fin 128) : col (k1_pay4 X) w = prv (bcol X w) := prv128 X w _ zero_word _
theorem pay3_col (X : FVec Ideal S1x2304x128 .f32) (w : Fin 128) : col (k1_pay3 X) w = bcol X w := bcol_flat128 X w
theorem pay5_col (X : FVec Ideal S1x2304x128 .f32) (w : Fin 128) : col (k1_pay5 X) w = bcol X w := bcol_flat128 X w

theorem coef1B_col (x0 : Vec Ideal S1x2304x128 .f32) (w : Fin 128) : rev (col (coef1B x0) w) = coef (rev (nxt (bcol x0 w))) := by
  unfold coef1B coef
  rw [ld1]
  simp only [k1_pay14, k1_pay13, k1_pay12, k1_pay11, k1_pay10, k1_pay9]
  rw [shapeCast_id, round_c_b 4 (by decide) (by decide) 2300#32 4#32 rfl rfl _ place1, round_c_b 2 (by decide) (by decide) 2302#32 6#32 rfl rfl _ place1,
    round_c_b 1 (by decide) (by decide) 2303#32 7#32 rfl rfl _ place1, pay2_col]

theorem offs1B_col (x0 x2 : Vec Ideal S1x2304x128 .f32) (w : Fin 128) :
    rev (col (offs1B x0 x2) w) = offs (rev (nxt (bcol x0 w))) (rev (bcol x2 w)) := by
  unfold offs1B offs
  rw [ld1, ld1]
  simp only [k1_pay15, k1_pay13, k1_pay12, k1_pay11, k1_pay10, k1_pay9]
  rw [shapeCast_id, round_o_b 4 (by decide) (by decide) 2300#32 4#32 rfl rfl _ place1, round_o_b 2 (by decide) (by decide) 2302#32 6#32 rfl rfl _ place1,
    round_o_b 1 (by decide) (by decide) 2303#32 7#32 rfl rfl _ place1, round_c_b 2 (by decide) (by decide) 2302#32 6#32 rfl rfl _ place1,
    round_c_b 1 (by decide) (by decide) 2303#32 7#32 rfl rfl _ place1, pay2_col, pay3_col]

theorem coef1F_col (x3 : Vec Ideal S1x2304x128 .f32) (w : Fin 128) : col (coef1F x3) w = coef (prv (bcol x3 w)) := by
  unfold coef1F coef
  rw [ld1]
  simp only [k1_pay23, k1_pay22, k1_pay21, k1_pay20, k1_pay19, k1_pay17, k1_pay16]
  rw [shapeCast_id, round_c_f 4 (by decide) 4#32 rfl _ place1, round_c_f 2 (by decide) 2#32 rfl _ place1, round_c_f 1 (by decide) 1#32 rfl _ place1,
    pay4_col]

theorem offs1F_col (x3 x5 : Vec Ideal S1x2304x128 .f32) (w : Fin 128) : col (offs1F x3 x5) w = offs (prv (bcol x3 w)) (bcol x5 w) := by
  unfold offs1F offs
  rw [ld1, ld1]
  simp only [k1_pay24, k1_pay22, k1_pay21, k1_pay20, k1_pay19, k1_pay18, k1_pay17, k1_pay16]
  rw [shapeCast_id, round_o_f 4 (by decide) 4#32 rfl _ place1, round_o_f 2 (by decide) 2#32 rfl _ place1, round_o_f 1 (by decide) 1#32 rfl _ place1,
    round_c_f 2 (by decide) 2#32 rfl _ place1, round_c_f 1 (by decide) 1#32 rfl _ place1, pay4_col, pay5_col]

theorem l1F_apply (X : FVec Ideal S2304x128 .f32) (k : Fin k1_t1_loop.trips) (w : Fin 128) (hk : 8 * k.val + 7 < 2304) :
    View.ld (Val := Elt Ideal) (S := S2304x128) (e' := .f32) X (l1F k) (ix2 0 w) = X (ix2 ⟨8 * k.val + 7, hk⟩ w) := by
  refine congrArg X (funext fun a => Fin.ext ?_)
  have e := k1_off4_eq k
  fin_cases a
  · show k1_off4 k 0 + 1 * 0 = _
    rw [e]; rfl
  · show k1_off4 k 1 + 1 * w.val = w.val
    rw [e]; show 0 + 1 * w.val = _; omega

theorem car1F_val (A U : FVec Ideal S2304x128 .f32) (w : Fin 128) (a u : ℕ → EReal) (hA : col A w = coef a) (hU : col U w = offs a u) :
    ∀ k, k ≤ 288 → car1F (F := Ideal) A U k (ix2 0 w) = car a u k
  | 0, _ => by
    show k1_pay25 (ix2 0 w) = 0
    unfold k1_pay25
    exact zero_word
  | k + 1, h => by
    have hk : k < k1_t1_loop.trips := Nat.lt_of_lt_of_eq (show k < 288 by omega) (by decide +kernel)
    have ih := car1F_val A U w a u hA hU k (by omega)
    rw [car1F_succ (F := Ideal) A U ⟨k, hk⟩]
    show View.ld (Val := Elt Ideal) (S := S2304x128) (e' := .f32) A (l1F ⟨k, hk⟩) (ix2 0 w) * car1F (F := Ideal) A U k (ix2 0 w)
      + View.ld (Val := Elt Ideal) (S := S2304x128) (e' := .f32) U (l1F ⟨k, hk⟩) (ix2 0 w) = coef a (8 * k + 7) * car a u k + offs a u (8 * k + 7)
    rw [l1F_apply _ _ _ (show 8 * k + 7 < 2304 by omega), l1F_apply _ _ _ (show 8 * k + 7 < 2304 by omega), ih]
    rw [← hA, ← hU, col_lt _ _ (show 8 * k + 7 < 2304 by omega), col_lt _ _ (show 8 * k + 7 < 2304 by omega)]

theorem join1F (A U : FVec Ideal S2304x128 .f32) (w : Fin 128) (a u : ℕ → EReal) (hA : col A w = coef a) (hU : col U w = offs a u)
    (ha : IsReal a) (hu : IsReal u) (r : Fin 2304) :
    A (ix2 r w) * fill1F (F := Ideal) A U (ix2 r w) + U (ix2 r w) = fwd a u (r.val + 1) := by
  rw [← tile_scan ha hu, ← car1F_val A U w a u hA hU (r.val / 8) (by omega), ← hA, ← hU, col_lt _ _ r.isLt, col_lt _ _ r.isLt]
  rfl

theorem l1B_apply (X : FVec Ideal S2304x128 .f32) (k : Fin k1_t1_loop.trips) (w : Fin 128) (hk : 2296 - 8 * k.val < 2304) :
    View.ld (Val := Elt Ideal) (S := S2304x128) (e' := .f32) X (l1B k) (ix2 0 w) = X (ix2 ⟨2296 - 8 * k.val, hk⟩ w) := by
  refine congrArg X (funext fun a => Fin.ext ?_)
  have e := k1_off2_eq k
  fin_cases a
  · show k1_off2 k 0 + 1 * 0 = _
    rw [e]; rfl
  · show k1_off2 k 1 + 1 * w.val = w.val
    rw [e]; show 0 + 1 * w.val = _; omega

theorem car1B_val (A U : FVec Ideal S2304x128 .f32) (w : Fin 128) (a u : ℕ → EReal) (hA : rev (col A w) = coef a) (hU : rev (col U w) = offs a u) :
    ∀ k, k ≤ 288 → car1B (F := Ideal) A U k (ix2 0 w) = car a u k
  | 0, _ => by
    show k1_pay25 (ix2 0 w) = 0
    unfold k1_pay25
    exact zero_word
  | k + 1, h => by
    have hk : k < k1_t1_loop.trips := Nat.lt_of_lt_of_eq (show k < 288 by omega) (by decide +kernel)
    have ih := car1B_val A U w a u hA hU k (by omega)
    rw [car1B_succ (F := Ideal) A U ⟨k, hk⟩]
    show View.ld (Val := Elt Ideal) (S := S2304x128) (e' := .f32) A (l1B ⟨k, hk⟩) (ix2 0 w) * car1B (F := Ideal) A U k (ix2 0 w)
      + View.ld (Val := Elt Ideal) (S := S2304x128) (e' := .f32) U (l1B ⟨k, hk⟩) (ix2 0 w) = coef a (8 * k + 7) * car a u k + offs a u (8 * k + 7)
    rw [l1B_apply _ _ _ (show 2296 - 8 * k < 2304 by omega), l1B_apply _ _ _ (show 2296 - 8 * k < 2304 by omega), ih]
    rw [← hA, ← hU, rev_lt _ (show 8 * k + 7 < 2304 by omega), rev_lt _ (show 8 * k + 7 < 2304 by omega),
      col_lt _ _ (show 2303 - (8 * k + 7) < 2304 by omega), col_lt _ _ (show 2303 - (8 * k + 7) < 2304 by omega)]
    have e : (⟨2296 - 8 * k, by omega⟩ : Fin 2304) = ⟨2303 - (8 * k + 7), by omega⟩ := Fin.ext (show 2296 - 8 * k = 2303 - (8 * k + 7) by omega)
    rw [e]

theorem join1B (A U : FVec Ideal S2304x128 .f32) (w : Fin 128) (a u : ℕ → EReal) (hA : rev (col A w) = coef a) (hU : rev (col U w) = offs a u)
    (ha : IsReal a) (hu : IsReal u) (r : Fin 2304) :
    A (ix2 r w) * fill1B (F := Ideal) A U (ix2 r w) + U (ix2 r w) = fwd a u (2304 - r.val) := by
  have hr := r.isLt
  have e : 2304 - r.val = (2303 - r.val) + 1 := by omega
  have e' : (2303 - r.val) / 8 = 287 - r.val / 8 := by omega
  have e'' : 2303 - (2303 - r.val) = r.val := by omega
  rw [e, ← tile_scan ha hu, e', ← car1B_val A U w a u hA hU (287 - r.val / 8) (by omega), ← hA, ← hU, rev_lt _ (show 2303 - r.val < 2304 by omega),
    rev_lt _ (show 2303 - r.val < 2304 by omega), e'', col_lt _ _ r.isLt, col_lt _ _ r.isLt]
  rfl

theorem du0_join (x0 x2 : Vec Ideal S1x2304x128 .f32) (r : Fin 2304) (w : Fin 128) (ha : IsReal (bcol x0 w)) (hg : IsReal (bcol x2 w)) :
    k1_pay30 (coef1B x0) (fill1B (coef1B x0) (offs1B x0 x2)) (offs1B x0 x2) (ix2 r w)
      = fwd (rev (nxt (bcol x0 w))) (rev (bcol x2 w)) (2304 - r.val) :=
  join1B (coef1B x0) (offs1B x0 x2) w _ _ (coef1B_col x0 w) (offs1B_col x0 x2 w) (rev_isReal (nxt_isReal ha)) (rev_isReal hg) r

theorem du1_join (x3 x5 : Vec Ideal S1x2304x128 .f32) (r : Fin 2304) (w : Fin 128) (ha : IsReal (bcol x3 w)) (hg : IsReal (bcol x5 w)) :
    k1_pay31 (coef1F x3) (fill1F (coef1F x3) (offs1F x3 x5)) (offs1F x3 x5) (ix2 r w)
      = fwd (prv (bcol x3 w)) (bcol x5 w) (r.val + 1) :=
  join1F (coef1F x3) (offs1F x3 x5) w _ _ (coef1F_col x3 w) (offs1F_col x3 x5 w) (prv_isReal ha) hg r

theorem out1_7_apply (x0 x2 : Vec Ideal S1x2304x128 .f32) (r : Fin 2304) (w : Fin 128) (ha : IsReal (bcol x0 w)) (hg : IsReal (bcol x2 w)) :
    out1_7 x0 x2 (ix3 0 r w) = fwd (rev (nxt (bcol x0 w))) (rev (bcol x2 w)) (2304 - r.val) := by
  unfold out1_7
  rw [View.canon_unit_zero (by decide) _ _]
  unfold k1_pay32
  refine (lead128 _ r w).trans ?_
  exact du0_join x0 x2 r w ha hg

theorem out1_9_apply (x3 x5 : Vec Ideal S1x2304x128 .f32) (r : Fin 2304) (w : Fin 128) (ha : IsReal (bcol x3 w)) (hg : IsReal (bcol x5 w)) :
    out1_9 x3 x5 (ix3 0 r w) = fwd (prv (bcol x3 w)) (bcol x5 w) (r.val + 1) := by
  unfold out1_9
  rw [View.canon_unit_zero (by decide) _ _]
  unfold k1_pay34
  refine (lead128 _ r w).trans ?_
  exact du1_join x3 x5 r w ha hg

theorem out1_6_apply (x0 x1 x2 : Vec Ideal S1x2304x128 .f32) (r : Fin 2304) (w : Fin 128) (ha : IsReal (bcol x0 w)) (hg : IsReal (bcol x2 w)) :
    out1_6 x0 x1 x2 (ix3 0 r w) = fwd (rev (nxt (bcol x0 w))) (rev (bcol x2 w)) (2304 - r.val) * prv (bcol x1 w) r.val := by
  unfold out1_6
  rw [View.canon_unit_zero (by decide) _ _, ld1, ← du0_join x0 x2 r w ha hg, ← prv128 x1 w _ zero_word rotates_S2304x128_d0, col_lt _ _ r.isLt]
  unfold k1_pay33
  exact lead128 _ r w

theorem out1_8_apply (x3 x4 x5 : Vec Ideal S1x2304x128 .f32) (r : Fin 2304) (w : Fin 128) (ha : IsReal (bcol x3 w)) (hg : IsReal (bcol x5 w)) :
    out1_8 x3 x4 x5 (ix3 0 r w) = fwd (prv (bcol x3 w)) (bcol x5 w) (r.val + 1) * nxt (bcol x4 w) r.val := by
  unfold out1_8
  rw [View.canon_unit_zero (by decide) _ _, ld1, ← du1_join x3 x5 r w ha hg, ← nxt128 x4 w _ zero_word rotates_S2304x128_d0, col_lt _ _ r.isLt]
  unfold k1_pay1 k1_pay35
  exact lead128 _ r w

end Cert.Scan

end
-- ==== Proof.ScanArrays.lean ====
module

public import proofs.«01_k».proof.Proof.ScanFrame
public import proofs.«01_k».proof.Proof.ScanBlocks
public import Idealize.ShloMosaic.Lib.Pipeline.ValueKit.Geometry
public import Idealize.ShloMosaic.Lib.Pipeline.ValueKit.Acc

/-!
What the two regions of the scan kernel leave in their result arrays: each whole array as one
function of the arrays the region reads, where those are real at every entry.
-/

@[expose] public section

set_option maxRecDepth 16384

noncomputable section

namespace Cert.Scan

open Cert.KernelIdeal Cert.KernelIdeal.Gen
open Idealize.ShloMosaic Idealize.ShloMosaic.TcCoe Idealize.ShloMosaic.Tactic Idealize.SL.Sem
open Idealize.ShloMosaic (ix2 ix3)

/-- An array of the step: two examples of 2304 positions and 512 channels. -/
abbrev Seq := FVec Ideal S2x2304x512 .f32

/-- One channel of one example as a sequence over the positions, zero past the last. -/
def pick (X : Seq) (b : Fin 2) (w : Fin 512) (i : ℕ) : EReal := if h : i < 2304 then X (ix3 b ⟨i, h⟩ w) else 0

/-- The states of the chain that runs forward and of the one that runs backward. -/
def H0 (a u : Seq) : Seq := fun y => fwd (pick a (y 0) (y 2)) (pick u (y 0) (y 2)) ((y 1).val + 1)
def H1 (a u : Seq) : Seq := fun y => fwd (rev (pick a (y 0) (y 2))) (rev (pick u (y 0) (y 2))) (2304 - (y 1).val)
/-- The gradients of the two chains by their inputs. -/
def DU0 (a g : Seq) : Seq := fun y => fwd (rev (nxt (pick a (y 0) (y 2)))) (rev (pick g (y 0) (y 2))) (2304 - (y 1).val)
def DU1 (a g : Seq) : Seq := fun y => fwd (prv (pick a (y 0) (y 2))) (pick g (y 0) (y 2)) ((y 1).val + 1)
/-- The gradients by the decays, from those and the states `h`. -/
def DA0 (a h g : Seq) : Seq := fun y => DU0 a g y * prv (pick h (y 0) (y 2)) (y 1).val
def DA1 (a h g : Seq) : Seq := fun y => DU1 a g y * nxt (pick h (y 0) (y 2)) (y 1).val

/-- Every entry is a real. -/
def AllReal (X : Seq) : Prop := ∀ y, ∃ x : ℝ, X y = ((x : ℝ) : EReal)

theorem pick_isReal {X : Seq} (h : AllReal X) (b : Fin 2) (w : Fin 512) : IsReal (pick X b w) := by
  choose f hf using h
  refine ⟨fun i => if h : i < 2304 then f (ix3 b ⟨i, h⟩ w) else 0, funext fun i => ?_⟩
  unfold pick up
  by_cases hi : i < 2304
  · simp only [dif_pos hi]; exact hf _
  · simp only [dif_neg hi]; rfl

variable (V : (c : Dev nD) → (b : Ref sig .tc) → Buf (Elt Ideal) ((c : Thread nD τ).loc b))

theorem idx0_0 : ∀ t : Fin cfg0.N, win0_0.index t = ![(grid0.coords t 0).val, 0, (grid0.coords t 1).val] :=
  (by decide +kernel : ∀ t : Fin grid0.N, _)
theorem idx0_1 : ∀ t : Fin cfg0.N, win0_1.index t = ![(grid0.coords t 0).val, 0, (grid0.coords t 1).val] :=
  (by decide +kernel : ∀ t : Fin grid0.N, _)
theorem idx0_2 : ∀ t : Fin cfg0.N, win0_2.index t = ![(grid0.coords t 0).val, 0, (grid0.coords t 1).val] :=
  (by decide +kernel : ∀ t : Fin grid0.N, _)
theorem idx0_3 : ∀ t : Fin cfg0.N, win0_3.index t = ![(grid0.coords t 0).val, 0, (grid0.coords t 1).val] :=
  (by decide +kernel : ∀ t : Fin grid0.N, _)
theorem idx0_4 : ∀ t : Fin cfg0.N, win0_4.index t = ![(grid0.coords t 0).val, 0, (grid0.coords t 1).val] :=
  (by decide +kernel : ∀ t : Fin grid0.N, _)
theorem idx0_5 : ∀ t : Fin cfg0.N, win0_5.index t = ![(grid0.coords t 0).val, 0, (grid0.coords t 1).val] :=
  (by decide +kernel : ∀ t : Fin grid0.N, _)
theorem idx1_0 : ∀ t : Fin cfg1.N, win1_0.index t = ![(grid1.coords t 0).val, 0, (grid1.coords t 1).val] :=
  (by decide +kernel : ∀ t : Fin grid1.N, _)
theorem idx1_1 : ∀ t : Fin cfg1.N, win1_1.index t = ![(grid1.coords t 0).val, 0, (grid1.coords t 1).val] :=
  (by decide +kernel : ∀ t : Fin grid1.N, _)
theorem idx1_2 : ∀ t : Fin cfg1.N, win1_2.index t = ![(grid1.coords t 0).val, 0, (grid1.coords t 1).val] :=
  (by decide +kernel : ∀ t : Fin grid1.N, _)
theorem idx1_3 : ∀ t : Fin cfg1.N, win1_3.index t = ![(grid1.coords t 0).val, 0, (grid1.coords t 1).val] :=
  (by decide +kernel : ∀ t : Fin grid1.N, _)
theorem idx1_4 : ∀ t : Fin cfg1.N, win1_4.index t = ![(grid1.coords t 0).val, 0, (grid1.coords t 1).val] :=
  (by decide +kernel : ∀ t : Fin grid1.N, _)
theorem idx1_5 : ∀ t : Fin cfg1.N, win1_5.index t = ![(grid1.coords t 0).val, 0, (grid1.coords t 1).val] :=
  (by decide +kernel : ∀ t : Fin grid1.N, _)
theorem idx1_6 : ∀ t : Fin cfg1.N, win1_6.index t = ![(grid1.coords t 0).val, 0, (grid1.coords t 1).val] :=
  (by decide +kernel : ∀ t : Fin grid1.N, _)
theorem idx1_7 : ∀ t : Fin cfg1.N, win1_7.index t = ![(grid1.coords t 0).val, 0, (grid1.coords t 1).val] :=
  (by decide +kernel : ∀ t : Fin grid1.N, _)
theorem idx1_8 : ∀ t : Fin cfg1.N, win1_8.index t = ![(grid1.coords t 0).val, 0, (grid1.coords t 1).val] :=
  (by decide +kernel : ∀ t : Fin grid1.N, _)
theorem idx1_9 : ∀ t : Fin cfg1.N, win1_9.index t = ![(grid1.coords t 0).val, 0, (grid1.coords t 1).val] :=
  (by decide +kernel : ∀ t : Fin grid1.N, _)

theorem arr0_4 (c : Dev nD) (r0 : AllReal (V c main_arg0)) (r1 : AllReal (V c main_arg1)) :
    (dat0 V c).arrAt 4 cfg0.N = H0 (V c main_arg0) (V c main_arg1) := by
  refine (dat0 V c).arrAt_eq_of_covers 4 _ (by decide +kernel) fun t hf y => ?_
  blk_simp
  rw [after0_4]
  have h1 : (((win0_4.blk t).view.emb y) 1).val = (y 1).val := by
    blk_simp [idx0_4]
  have p0 : bcol (iblk0 V c 0 t) (y 2) = pick (V c main_arg0) (((win0_4.blk t).view.emb y) 0) (((win0_4.blk t).view.emb y) 2) := by
    funext i
    unfold bcol pick
    by_cases hi : i < 2304
    · rw [dif_pos hi, dif_pos hi]
      blk_simp [iblk0]
      refine congrArg (V c main_arg0) ?_
      blk_ext [idx0_0, idx0_4]
    · rw [dif_neg hi, dif_neg hi]
  have p1 : bcol (iblk0 V c 1 t) (y 2) = pick (V c main_arg1) (((win0_4.blk t).view.emb y) 0) (((win0_4.blk t).view.emb y) 2) := by
    funext i
    unfold bcol pick
    by_cases hi : i < 2304
    · rw [dif_pos hi, dif_pos hi]
      blk_simp [iblk0]
      refine congrArg (V c main_arg1) ?_
      blk_ext [idx0_1, idx0_4]
    · rw [dif_neg hi, dif_neg hi]
  have hy : (y : S1x2304x256.Idx) = ix3 0 (y 1) (y 2) := by
    funext a
    fin_cases a
    · exact Fin.eq_zero _
    · rfl
    · rfl
  refine (congrArg (out0_4 (iblk0 V c 0 t) (iblk0 V c 1 t)) hy).trans ?_
  refine (out0_4_apply (iblk0 V c 0 t) (iblk0 V c 1 t) (y 1) (y 2) (by rw [p0]; exact pick_isReal r0 _ _) (by rw [p1]; exact pick_isReal r1 _ _)).trans ?_
  unfold H0
  rw [p0, p1, h1]

theorem arr0_5 (c : Dev nD) (r2 : AllReal (V c main_arg3)) (r3 : AllReal (V c main_arg4)) :
    (dat0 V c).arrAt 5 cfg0.N = H1 (V c main_arg3) (V c main_arg4) := by
  refine (dat0 V c).arrAt_eq_of_covers 5 _ (by decide +kernel) fun t hf y => ?_
  blk_simp
  rw [after0_5]
  have h1 : (((win0_5.blk t).view.emb y) 1).val = (y 1).val := by
    blk_simp [idx0_5]
  have p2 : bcol (iblk0 V c 2 t) (y 2) = pick (V c main_arg3) (((win0_5.blk t).view.emb y) 0) (((win0_5.blk t).view.emb y) 2) := by
    funext i
    unfold bcol pick
    by_cases hi : i < 2304
    · rw [dif_pos hi, dif_pos hi]
      blk_simp [iblk0]
      refine congrArg (V c main_arg3) ?_
      blk_ext [idx0_2, idx0_5]
    · rw [dif_neg hi, dif_neg hi]
  have p3 : bcol (iblk0 V c 3 t) (y 2) = pick (V c main_arg4) (((win0_5.blk t).view.emb y) 0) (((win0_5.blk t).view.emb y) 2) := by
    funext i
    unfold bcol pick
    by_cases hi : i < 2304
    · rw [dif_pos hi, dif_pos hi]
      blk_simp [iblk0]
      refine congrArg (V c main_arg4) ?_
      blk_ext [idx0_3, idx0_5]
    · rw [dif_neg hi, dif_neg hi]
  have hy : (y : S1x2304x256.Idx) = ix3 0 (y 1) (y 2) := by
    funext a
    fin_cases a
    · exact Fin.eq_zero _
    · rfl
    · rfl
  refine (congrArg (out0_5 (iblk0 V c 2 t) (iblk0 V c 3 t)) hy).trans ?_
  refine (out0_5_apply (iblk0 V c 2 t) (iblk0 V c 3 t) (y 1) (y 2) (by rw [p2]; exact pick_isReal r2 _ _) (by rw [p3]; exact pick_isReal r3 _ _)).trans ?_
  unfold H1
  rw [p2, p3, h1]

theorem arr1_6 (c : Dev nD) (r0 : AllReal (V c main_arg0)) (r2 : AllReal (V c main_arg2)) :
    (dat1 V c).arrAt 6 cfg1.N = DA0 (V c main_arg0) (V c main_v0_0) (V c main_arg2) := by
  refine (dat1 V c).arrAt_eq_of_covers 6 _ (by decide +kernel) fun t hf y => ?_
  blk_simp
  rw [after1_6]
  have h1 : (((win1_6.blk t).view.emb y) 1).val = (y 1).val := by
    blk_simp [idx1_6]
  have p0 : bcol (iblk1 V c 0 t) (y 2) = pick (V c main_arg0) (((win1_6.blk t).view.emb y) 0) (((win1_6.blk t).view.emb y) 2) := by
    funext i
    unfold bcol pick
    by_cases hi : i < 2304
    · rw [dif_pos hi, dif_pos hi]
      blk_simp [iblk1]
      refine congrArg (V c main_arg0) ?_
      blk_ext [idx1_0, idx1_6]
    · rw [dif_neg hi, dif_neg hi]
  have p1 : bcol (iblk1 V c 1 t) (y 2) = pick (V c main_v0_0) (((win1_6.blk t).view.emb y) 0) (((win1_6.blk t).view.emb y) 2) := by
    funext i
    unfold bcol pick
    by_cases hi : i < 2304
    · rw [dif_pos hi, dif_pos hi]
      blk_simp [iblk1]
      refine congrArg (V c main_v0_0) ?_
      blk_ext [idx1_1, idx1_6]
    · rw [dif_neg hi, dif_neg hi]
  have p2 : bcol (iblk1 V c 2 t) (y 2) = pick (V c main_arg2) (((win1_6.blk t).view.emb y) 0) (((win1_6.blk t).view.emb y) 2) := by
    funext i
    unfold bcol pick
    by_cases hi : i < 2304
    · rw [dif_pos hi, dif_pos hi]
      blk_simp [iblk1]
      refine congrArg (V c main_arg2) ?_
      blk_ext [idx1_2, idx1_6]
    · rw [dif_neg hi, dif_neg hi]
  have hy : (y : S1x2304x128.Idx) = ix3 0 (y 1) (y 2) := by
    funext a
    fin_cases a
    · exact Fin.eq_zero _
    · rfl
    · rfl
  refine (congrArg (out1_6 (iblk1 V c 0 t) (iblk1 V c 1 t) (iblk1 V c 2 t)) hy).trans ?_
  refine (out1_6_apply (iblk1 V c 0 t) (iblk1 V c 1 t) (iblk1 V c 2 t) (y 1) (y 2) (by rw [p0]; exact pick_isReal r0 _ _) (by rw [p2]; exact pick_isReal r2 _ _)).trans ?_
  unfold DA0 DU0
  rw [p0, p1, p2, h1]

theorem arr1_7 (c : Dev nD) (r0 : AllReal (V c main_arg0)) (r2 : AllReal (V c main_arg2)) :
    (dat1 V c).arrAt 7 cfg1.N = DU0 (V c main_arg0) (V c main_arg2) := by
  refine (dat1 V c).arrAt_eq_of_covers 7 _ (by decide +kernel) fun t hf y => ?_
  blk_simp
  rw [after1_7]
  have h1 : (((win1_7.blk t).view.emb y) 1).val = (y 1).val := by
    blk_simp [idx1_7]
  have p0 : bcol (iblk1 V c 0 t) (y 2) = pick (V c main_arg0) (((win1_7.blk t).view.emb y) 0) (((win1_7.blk t).view.emb y) 2) := by
    funext i
    unfold bcol pick
    by_cases hi : i < 2304
    · rw [dif_pos hi, dif_pos hi]
      blk_simp [iblk1]
      refine congrArg (V c main_arg0) ?_
      blk_ext [idx1_0, idx1_7]
    · rw [dif_neg hi, dif_neg hi]
  have p2 : bcol (iblk1 V c 2 t) (y 2) = pick (V c main_arg2) (((win1_7.blk t).view.emb y) 0) (((win1_7.blk t).view.emb y) 2) := by
    funext i
    unfold bcol pick
    by_cases hi : i < 2304
    · rw [dif_pos hi, dif_pos hi]
      blk_simp [iblk1]
      refine congrArg (V c main_arg2) ?_
      blk_ext [idx1_2, idx1_7]
    · rw [dif_neg hi, dif_neg hi]
  have hy : (y : S1x2304x128.Idx) = ix3 0 (y 1) (y 2) := by
    funext a
    fin_cases a
    · exact Fin.eq_zero _
    · rfl
    · rfl
  refine (congrArg (out1_7 (iblk1 V c 0 t) (iblk1 V c 2 t)) hy).trans ?_
  refine (out1_7_apply (iblk1 V c 0 t) (iblk1 V c 2 t) (y 1) (y 2) (by rw [p0]; exact pick_isReal r0 _ _) (by rw [p2]; exact pick_isReal r2 _ _)).trans ?_
  unfold DU0
  rw [p0, p2, h1]

theorem arr1_8 (c : Dev nD) (r3 : AllReal (V c main_arg3)) (r5 : AllReal (V c main_arg5)) :
    (dat1 V c).arrAt 8 cfg1.N = DA1 (V c main_arg3) (V c main_v0_1) (V c main_arg5) := by
  refine (dat1 V c).arrAt_eq_of_covers 8 _ (by decide +kernel) fun t hf y => ?_
  blk_simp
  rw [after1_8]
  have h1 : (((win1_8.blk t).view.emb y) 1).val = (y 1).val := by
    blk_simp [idx1_8]
  have p3 : bcol (iblk1 V c 3 t) (y 2) = pick (V c main_arg3) (((win1_8.blk t).view.emb y) 0) (((win1_8.blk t).view.emb y) 2) := by
    funext i
    unfold bcol pick
    by_cases hi : i < 2304
    · rw [dif_pos hi, dif_pos hi]
      blk_simp [iblk1]
      refine congrArg (V c main_arg3) ?_
      blk_ext [idx1_3, idx1_8]
    · rw [dif_neg hi, dif_neg hi]
  have p4 : bcol (iblk1 V c 4 t) (y 2) = pick (V c main_v0_1) (((win1_8.blk t).view.emb y) 0) (((win1_8.blk t).view.emb y) 2) := by
    funext i
    unfold bcol pick
    by_cases hi : i < 2304
    · rw [dif_pos hi, dif_pos hi]
      blk_simp [iblk1]
      refine congrArg (V c main_v0_1) ?_
      blk_ext [idx1_4, idx1_8]
    · rw [dif_neg hi, dif_neg hi]
  have p5 : bcol (iblk1 V c 5 t) (y 2) = pick (V c main_arg5) (((win1_8.blk t).view.emb y) 0) (((win1_8.blk t).view.emb y) 2) := by
    funext i
    unfold bcol pick
    by_cases hi : i < 2304
    · rw [dif_pos hi, dif_pos hi]
      blk_simp [iblk1]
      refine congrArg (V c main_arg5) ?_
      blk_ext [idx1_5, idx1_8]
    · rw [dif_neg hi, dif_neg hi]
  have hy : (y : S1x2304x128.Idx) = ix3 0 (y 1) (y 2) := by
    funext a
    fin_cases a
    · exact Fin.eq_zero _
    · rfl
    · rfl
  refine (congrArg (out1_8 (iblk1 V c 3 t) (iblk1 V c 4 t) (iblk1 V c 5 t)) hy).trans ?_
  refine (out1_8_apply (iblk1 V c 3 t) (iblk1 V c 4 t) (iblk1 V c 5 t) (y 1) (y 2) (by rw [p3]; exact pick_isReal r3 _ _) (by rw [p5]; exact pick_isReal r5 _ _)).trans ?_
  unfold DA1 DU1
  rw [p3, p4, p5, h1]

theorem arr1_9 (c : Dev nD) (r3 : AllReal (V c main_arg3)) (r5 : AllReal (V c main_arg5)) :
    (dat1 V c).arrAt 9 cfg1.N = DU1 (V c main_arg3) (V c main_arg5) := by
  refine (dat1 V c).arrAt_eq_of_covers 9 _ (by decide +kernel) fun t hf y => ?_
  blk_simp
  rw [after1_9]
  have h1 : (((win1_9.blk t).view.emb y) 1).val = (y 1).val := by
    blk_simp [idx1_9]
  have p3 : bcol (iblk1 V c 3 t) (y 2) = pick (V c main_arg3) (((win1_9.blk t).view.emb y) 0) (((win1_9.blk t).view.emb y) 2) := by
    funext i
    unfold bcol pick
    by_cases hi : i < 2304
    · rw [dif_pos hi, dif_pos hi]
      blk_simp [iblk1]
      refine congrArg (V c main_arg3) ?_
      blk_ext [idx1_3, idx1_9]
    · rw [dif_neg hi, dif_neg hi]
  have p5 : bcol (iblk1 V c 5 t) (y 2) = pick (V c main_arg5) (((win1_9.blk t).view.emb y) 0) (((win1_9.blk t).view.emb y) 2) := by
    funext i
    unfold bcol pick
    by_cases hi : i < 2304
    · rw [dif_pos hi, dif_pos hi]
      blk_simp [iblk1]
      refine congrArg (V c main_arg5) ?_
      blk_ext [idx1_5, idx1_9]
    · rw [dif_neg hi, dif_neg hi]
  have hy : (y : S1x2304x128.Idx) = ix3 0 (y 1) (y 2) := by
    funext a
    fin_cases a
    · exact Fin.eq_zero _
    · rfl
    · rfl
  refine (congrArg (out1_9 (iblk1 V c 3 t) (iblk1 V c 5 t)) hy).trans ?_
  refine (out1_9_apply (iblk1 V c 3 t) (iblk1 V c 5 t) (y 1) (y 2) (by rw [p3]; exact pick_isReal r3 _ _) (by rw [p5]; exact pick_isReal r5 _ _)).trans ?_
  unfold DU1
  rw [p3, p5, h1]

end Cert.Scan

end
-- ==== Proof.ScanFinite.lean ====
module

public import proofs.«01_k».proof.Defs
public import proofs.«01_k».proof.Proof.ScanArrays
public import Idealize.ShloMosaic.Lib.ReduceAll

/-!
The precondition of the scan's value claim read at an entry: every entry of the six arguments is a real.
-/

@[expose] public section

noncomputable section

namespace Cert.Scan

open Idealize.ShloMosaic

theorem preFacts : Cert.Pre_finite.Facts where
  bcast_S_S2x2304x512 := by decide
  reducesTo_S2x2304x512_S_d0_1_2 := by decide
  h_S_ := by decide +kernel

/-- An array all of whose absolute values are below infinity is real at every entry. -/
theorem allReal_of (X : Seq) (b) (r : Cert.Pre_finite.S2x2304x512.ReducesTo [0, 1, 2] Cert.Pre_finite.S_) (hu) (h : ∀ j, Host.reduce IntOp.andi (cmpf .olt (Host.absf X) (broadcastInDim Cert.Pre_finite.S2x2304x512 ![] b
      (constant (F := Ideal) Cert.Pre_finite.S_ .f32 0x7F800000#32))) (constantI Cert.Pre_finite.S_ 1 1#1) r hu j = 1#1) : AllReal X := by
  intro y
  haveI : Subsingleton Cert.Pre_finite.S_.Idx := ⟨fun a b => funext fun i => i.elim0⟩
  have e := Host.reduce_andi_all _ _ r hu (fun i => i.elim0) (h _) y
  revert e
  pointwise
  rw [show Ideal.ofBits .f32 0x7F800000#32 = ⊤ by simp [Ideal.ofBits, Ideal.ieee]]
  intro e
  have lt : max (X y : EReal) (-(X y : EReal)) < ⊤ := by
    by_contra hn
    have e' : BitVec.ofBool (decide (max (X y : EReal) (-(X y : EReal)) < ⊤)) = 1#1 := e
    rw [decide_eq_false hn] at e'
    exact absurd e' (by decide)
  have l1 : (X y : EReal) ≠ ⊤ := ne_of_lt (lt_of_le_of_lt (le_max_left _ _) lt)
  have l2 : (X y : EReal) ≠ ⊥ := fun hb => by
    have := lt_of_le_of_lt (le_max_right (X y : EReal) (-(X y : EReal))) lt
    rw [hb, EReal.neg_bot] at this
    exact lt_irrefl _ this
  exact ⟨EReal.toReal (X y), (EReal.coe_toReal l1 l2).symm⟩

theorem allReal_args (x0 x1 x2 x3 x4 x5 : Seq) (h : (haveI := preFacts; Cert.Pre_finite.fn (F := Ideal) x0 x1 x2 x3 x4 x5) = fun _ => 1#1) :
    AllReal x0 ∧ AllReal x1 ∧ AllReal x2 ∧ AllReal x3 ∧ AllReal x4 ∧ AllReal x5 := by
  haveI := preFacts
  have h' := fun j => congrFun h j
  unfold Cert.Pre_finite.fn Cert.Pre_finite.fn_part1 at h'
  have h5 := fun j => (IntOp.andi_eq_one.1 (h' j))
  have h4 := fun j => (IntOp.andi_eq_one.1 (h5 j).1)
  have h3 := fun j => (IntOp.andi_eq_one.1 (h4 j).1)
  have h2 := fun j => (IntOp.andi_eq_one.1 (h3 j).1)
  have h1 := fun j => (IntOp.andi_eq_one.1 (h2 j).1)
  exact ⟨allReal_of x0 _ _ _ fun j => (h1 j).1, allReal_of x1 _ _ _ fun j => (h1 j).2, allReal_of x2 _ _ _ fun j => (h2 j).2,
    allReal_of x3 _ _ _ fun j => (h3 j).2, allReal_of x4 _ _ _ fun j => (h4 j).2, allReal_of x5 _ _ _ fun j => (h5 j).2⟩

end Cert.Scan

end
-- ==== Proof.ScanRefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

/-! # The scan reference's operations, as lists

The reference runs host operations, a counted loop that scans forward, more host operations, a
counted loop that runs the gradient, and the last transposes. Each stretch is a list here, with what
it writes. -/

noncomputable section

namespace Cert.ScanRef

open Cert.ReferenceIdeal Cert.ReferenceIdeal.Gen
open Idealize.ShloMosaic Idealize.ShloMosaic.TcCoe Idealize.ShloMosaic.StableHlo
open Idealize.SL.Sem

variable {F : FTy → Type} [FloatOps F]

/-- A list of host operations. -/
abbrev Ops (F : FTy → Type) [FloatOps F] := List (HloOp τ sig (Elt F))
/-- They use the program's buffers only. -/
abbrev Inside (l : Ops F) : Prop := l.Forall fun op => op.bufs ⊆ tcRefs τ sig
/-- They write the listed buffers only; a list's own is called `…_W`. -/
abbrev Within (l : Ops F) (W : List (Ref sig .tc)) : Prop := l.Forall fun op => op.writes ⊆ (W.map (Proc.devRef (τ := τ) .tc)).toFinset
/-- And leave the others as they are. -/
abbrev Keeps (l : Ops F) (W : List (Ref sig .tc)) : Prop :=
  ∀ (V : Valuation τ sig (Elt F)) (r : Ref sig .tc), r ∉ W → after l V (Proc.devRef .tc r) = V (Proc.devRef .tc r)
/-- What an array of a shape holds. -/
abbrev Cn (F : FTy → Type) (s : Shape) (e : EltTy) := (⟨s, e⟩ : BufTy).Contents (Elt F)

/-- The operations before the first loop. -/
abbrev preOps : Ops F :=
  [ StableHlo.nullary main_cst (constant S_ .f32 0x00000000#32),
    StableHlo.unary main_cst main_v0 (broadcastInDim S2x512 ![] bcast_S_S2x512 : Cn F S_ .f32 → Cn F S2x512 .f32),
    StableHlo.unary main_arg0 main_v1 ((transpose S2304x2x512 [1, 0, 2] · transposes_S2x2304x512_S2304x2x512_1_0_2) : Cn F S2x2304x512 .f32 → Cn F S2304x2x512 .f32),
    StableHlo.unary main_arg1 main_v2 ((transpose S2304x2x512 [1, 0, 2] · transposes_S2x2304x512_S2304x2x512_1_0_2) : Cn F S2x2304x512 .f32 → Cn F S2304x2x512 .f32),
    StableHlo.unary main_arg3 main_v3 ((transpose S2304x2x512 [1, 0, 2] · transposes_S2x2304x512_S2304x2x512_1_0_2) : Cn F S2x2304x512 .f32 → Cn F S2304x2x512 .f32),
    StableHlo.unary main_v3 main_v4 (Host.reverse [0] : Cn F S2304x2x512 .f32 → Cn F S2304x2x512 .f32),
    StableHlo.unary main_arg4 main_v5 ((transpose S2304x2x512 [1, 0, 2] · transposes_S2x2304x512_S2304x2x512_1_0_2) : Cn F S2x2304x512 .f32 → Cn F S2304x2x512 .f32),
    StableHlo.unary main_v5 main_v6 (Host.reverse [0] : Cn F S2304x2x512 .f32 → Cn F S2304x2x512 .f32),
    StableHlo.nullary main_cst_0 (constant S_ .f32 0x00000000#32),
    StableHlo.unary main_cst_0 main_v7 (broadcastInDim S2304x2x512 ![] bcast_S_S2304x2x512 : Cn F S_ .f32 → Cn F S2304x2x512 .f32),
    StableHlo.nullary main_cst_1 (constant S_ .f32 0x00000000#32),
    StableHlo.unary main_cst_1 main_v8 (broadcastInDim S2304x2x512 ![] bcast_S_S2304x2x512 : Cn F S_ .f32 → Cn F S2304x2x512 .f32),
    StableHlo.nullary main_cst_2 (constant S_ .f32 0x00000000#32),
    StableHlo.unary main_cst_2 main_v9 (broadcastInDim S2304x2x512 ![] bcast_S_S2304x2x512 : Cn F S_ .f32 → Cn F S2304x2x512 .f32),
    StableHlo.nullary main_cst_3 (constant S_ .f32 0x00000000#32),
    StableHlo.unary main_cst_3 main_v10 (broadcastInDim S2304x2x512 ![] bcast_S_S2304x2x512 : Cn F S_ .f32 → Cn F S2304x2x512 .f32),
    StableHlo.nullary main_c (constantI S_ 32 0#32),
    StableHlo.unary main_v1 main_v11_0 id,
    StableHlo.unary main_v2 main_v11_1 id,
    StableHlo.unary main_v4 main_v11_2 id,
    StableHlo.unary main_v6 main_v11_3 id,
    StableHlo.unary main_c main_v11_4 id,
    StableHlo.unary main_v0 main_v11_5 id,
    StableHlo.unary main_v0 main_v11_6 id,
    StableHlo.unary main_v7 main_v11_7 id,
    StableHlo.unary main_v8 main_v11_8 id,
    StableHlo.unary main_v9 main_v11_9 id,
    StableHlo.unary main_v10 main_v11_10 id ]
theorem preOps_sub : Inside (preOps : Ops F) :=
  ⟨nullary_bufs_sub .., unary_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem preOps_fresh : (preOps : Ops F).Forall fun op => op.fresh = ∅ :=
  forall_fresh_of_map rfl
abbrev preOps_W : List (Ref sig .tc) := [main_cst, main_v0, main_v1, main_v2, main_v3, main_v4, main_v5, main_v6, main_cst_0, main_v7, main_cst_1, main_v8, main_cst_2, main_v9, main_cst_3, main_v10, main_c, main_v11_0, main_v11_1, main_v11_2, main_v11_3, main_v11_4, main_v11_5, main_v11_6, main_v11_7, main_v11_8, main_v11_9, main_v11_10]
theorem preOps_writes : Within (preOps : Ops F) preOps_W :=
  forall_writes_sub_of_map rfl
theorem preOps_keep : Keeps (preOps : Ops F) preOps_W := fun V _ h => after_of_writes_sub preOps V preOps_writes h

/-- Window 0 of loop 0's body: a row read. -/
abbrev b0w0 : Ops F :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v11_0 : TRef sig ⟨S2304x2x512, .f32⟩) ![(.of main_v11_4 : TRef sig ⟨S_, .i32⟩), (.of main_while0b_call0_c : TRef sig ⟨S_, .i32⟩), (.of main_while0b_call0_c_0 : TRef sig ⟨S_, .i32⟩)] (.of main_while0b_call0_v0 : TRef sig ⟨S1x2x512, .f32⟩) (fun x i => Host.dynamicSlice S1x2x512 x (fun k => (i k (Shape.Idx.first h_S_)).toInt) sliceFits_S2304x2x512_S1x2x512),
    TRef.reshape (.of main_while0b_call0_v0 : TRef sig ⟨S1x2x512, .f32⟩) (.of main_while0b_v33 : TRef sig ⟨S2x512, .f32⟩) (rfl : (.f32 : EltTy) = .f32) shapeCasts_S1x2x512_S2x512 ]
theorem b0w0_sub : Inside (b0w0 : Ops F) :=
  ⟨nullary_bufs_sub .., nullary_bufs_sub .., unaryIndexed_bufs_sub .., reshape_bufs_sub ..⟩
theorem b0w0_fresh : (b0w0 : Ops F).Forall fun op => op.fresh = ∅ :=
  forall_fresh_of_map rfl
abbrev b0w0_W : List (Ref sig .tc) := [main_while0b_call0_c, main_while0b_call0_c_0, main_while0b_call0_v0, main_while0b_v33]
theorem b0w0_writes : Within (b0w0 : Ops F) b0w0_W :=
  forall_writes_sub_of_map rfl
theorem b0w0_keep : Keeps (b0w0 : Ops F) b0w0_W := fun V _ h => after_of_writes_sub b0w0 V b0w0_writes h

/-- Window 1 of loop 0's body: a row read. -/
abbrev b0w1 : Ops F :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.unaryIndexed (.of main_v11_1 : TRef sig ⟨S2304x2x512, .f32⟩) ![(.of main_v11_4 : TRef sig ⟨S_, .i32⟩), (.of main_while0b_call1_c : TRef sig ⟨S_, .i32⟩), (.of main_while0b_call1_c_0 : TRef sig ⟨S_, .i32⟩)] (.of main_while0b_call1_v0 : TRef sig ⟨S1x2x512, .f32⟩) (fun x i => Host.dynamicSlice S1x2x512 x (fun k => (i k (Shape.Idx.first h_S_)).toInt) sliceFits_S2304x2x512_S1x2x512),
    TRef.reshape (.of main_while0b_call1_v0 : TRef sig ⟨S1x2x512, .f32⟩) (.of main_while0b_v34 : TRef sig ⟨S2x512, .f32⟩) (rfl : (.f32 : EltTy) = .f32) shapeCasts_S1x2x512_S2x512 ]
theorem b0w1_sub : Inside (b0w1 : Ops F) :=
  ⟨nullary_bufs_sub .., nullary_bufs_sub .., unaryIndexed_bufs_sub .., reshape_bufs_sub ..⟩
theorem b0w1_fresh : (b0w1 : Ops F).Forall fun op => op.fresh = ∅ :=
  forall_fresh_of_map rfl
abbrev b0w1_W : List (Ref sig .tc) := [main_while0b_call1_c, main_while0b_call1_c_0, main_while0b_call1_v0, main_while0b_v34]
theorem b0w1_writes : Within (b0w1 : Ops F) b0w1_W :=
  forall_writes_sub_of_map rfl
theorem b0w1_keep : Keeps (b0w1 : Ops F) b0w1_W := fun V _ h => after_of_writes_sub b0w1 V b0w1_writes h

/-- Window 2 of loop 0's body: a row read. -/
abbrev b0w2 : Ops F :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.unaryIndexed (.of main_v11_2 : TRef sig ⟨S2304x2x512, .f32⟩) ![(.of main_v11_4 : TRef sig ⟨S_, .i32⟩), (.of main_while0b_call2_c : TRef sig ⟨S_, .i32⟩), (.of main_while0b_call2_c_0 : TRef sig ⟨S_, .i32⟩)] (.of main_while0b_call2_v0 : TRef sig ⟨S1x2x512, .f32⟩) (fun x i => Host.dynamicSlice S1x2x512 x (fun k => (i k (Shape.Idx.first h_S_)).toInt) sliceFits_S2304x2x512_S1x2x512),
    TRef.reshape (.of main_while0b_call2_v0 : TRef sig ⟨S1x2x512, .f32⟩) (.of main_while0b_v35 : TRef sig ⟨S2x512, .f32⟩) (rfl : (.f32 : EltTy) = .f32) shapeCasts_S1x2x512_S2x512 ]
theorem b0w2_sub : Inside (b0w2 : Ops F) :=
  ⟨nullary_bufs_sub .., nullary_bufs_sub .., unaryIndexed_bufs_sub .., reshape_bufs_sub ..⟩
theorem b0w2_fresh : (b0w2 : Ops F).Forall fun op => op.fresh = ∅ :=
  forall_fresh_of_map rfl
abbrev b0w2_W : List (Ref sig .tc) := [main_while0b_call2_c, main_while0b_call2_c_0, main_while0b_call2_v0, main_while0b_v35]
theorem b0w2_writes : Within (b0w2 : Ops F) b0w2_W :=
  forall_writes_sub_of_map rfl
theorem b0w2_keep : Keeps (b0w2 : Ops F) b0w2_W := fun V _ h => after_of_writes_sub b0w2 V b0w2_writes h

/-- Window 3 of loop 0's body: a row read. -/
abbrev b0w3 : Ops F :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.unaryIndexed (.of main_v11_3 : TRef sig ⟨S2304x2x512, .f32⟩) ![(.of main_v11_4 : TRef sig ⟨S_, .i32⟩), (.of main_while0b_call3_c : TRef sig ⟨S_, .i32⟩), (.of main_while0b_call3_c_0 : TRef sig ⟨S_, .i32⟩)] (.of main_while0b_call3_v0 : TRef sig ⟨S1x2x512, .f32⟩) (fun x i => Host.dynamicSlice S1x2x512 x (fun k => (i k (Shape.Idx.first h_S_)).toInt) sliceFits_S2304x2x512_S1x2x512),
    TRef.reshape (.of main_while0b_call3_v0 : TRef sig ⟨S1x2x512, .f32⟩) (.of main_while0b_v36 : TRef sig ⟨S2x512, .f32⟩) (rfl : (.f32 : EltTy) = .f32) shapeCasts_S1x2x512_S2x512 ]
theorem b0w3_sub : Inside (b0w3 : Ops F) :=
  ⟨nullary_bufs_sub .., nullary_bufs_sub .., unaryIndexed_bufs_sub .., reshape_bufs_sub ..⟩
theorem b0w3_fresh : (b0w3 : Ops F).Forall fun op => op.fresh = ∅ :=
  forall_fresh_of_map rfl
abbrev b0w3_W : List (Ref sig .tc) := [main_while0b_call3_c, main_while0b_call3_c_0, main_while0b_call3_v0, main_while0b_v36]
theorem b0w3_writes : Within (b0w3 : Ops F) b0w3_W :=
  forall_writes_sub_of_map rfl
theorem b0w3_keep : Keeps (b0w3 : Ops F) b0w3_W := fun V _ h => after_of_writes_sub b0w3 V b0w3_writes h

/-- Window 4 of loop 0's body. -/
abbrev b0w4 : Ops F :=
  [ StableHlo.binary main_while0b_v33 main_v11_5 main_while0b_v37 (mulf : Cn F S2x512 .f32 → Cn F S2x512 .f32 → Cn F S2x512 .f32),
    StableHlo.binary main_while0b_v37 main_while0b_v34 main_while0b_v38 (addf : Cn F S2x512 .f32 → Cn F S2x512 .f32 → Cn F S2x512 .f32),
    StableHlo.binary main_while0b_v35 main_v11_6 main_while0b_v39 (mulf : Cn F S2x512 .f32 → Cn F S2x512 .f32 → Cn F S2x512 .f32),
    StableHlo.binary main_while0b_v39 main_while0b_v36 main_while0b_v40 (addf : Cn F S2x512 .f32 → Cn F S2x512 .f32 → Cn F S2x512 .f32) ]
theorem b0w4_sub : Inside (b0w4 : Ops F) :=
  ⟨binary_bufs_sub .., binary_bufs_sub .., binary_bufs_sub .., binary_bufs_sub ..⟩
theorem b0w4_fresh : (b0w4 : Ops F).Forall fun op => op.fresh = ∅ :=
  forall_fresh_of_map rfl
abbrev b0w4_W : List (Ref sig .tc) := [main_while0b_v37, main_while0b_v38, main_while0b_v39, main_while0b_v40]
theorem b0w4_writes : Within (b0w4 : Ops F) b0w4_W :=
  forall_writes_sub_of_map rfl
theorem b0w4_keep : Keeps (b0w4 : Ops F) b0w4_W := fun V _ h => after_of_writes_sub b0w4 V b0w4_writes h

/-- Window 5 of loop 0's body: a row written. -/
abbrev b0w5 : Ops F :=
  [ TRef.unary (.of main_while0b_v38 : TRef sig ⟨S2x512, .f32⟩) (.of main_while0b_call4_v0 : TRef sig ⟨S1x2x512, .f32⟩) (broadcastInDim S1x2x512 ![1, 2] bcast_S2x512_S1x2x512_1_2),
    TRef.nullary (.of main_while0b_call4_c : TRef sig ⟨S_, .i32⟩) (constantI S_ 32 0#32),
    TRef.nullary (.of main_while0b_call4_c_0 : TRef sig ⟨S_, .i32⟩) (constantI S_ 32 0#32),
    TRef.binaryIndexed (.of main_v11_7 : TRef sig ⟨S2304x2x512, .f32⟩) (.of main_while0b_call4_v0 : TRef sig ⟨S1x2x512, .f32⟩) ![(.of main_v11_4 : TRef sig ⟨S_, .i32⟩), (.of main_while0b_call4_c : TRef sig ⟨S_, .i32⟩), (.of main_while0b_call4_c_0 : TRef sig ⟨S_, .i32⟩)] (.of main_while0b_v41 : TRef sig ⟨S2304x2x512, .f32⟩) (fun x u i => Host.dynamicUpdateSlice x u (fun k => (i k (Shape.Idx.first h_S_)).toInt) updateFits_S2304x2x512_S1x2x512) ]
theorem b0w5_sub : Inside (b0w5 : Ops F) :=
  ⟨unary_bufs_sub .., nullary_bufs_sub .., nullary_bufs_sub .., binaryIndexed_bufs_sub ..⟩
theorem b0w5_fresh : (b0w5 : Ops F).Forall fun op => op.fresh = ∅ :=
  forall_fresh_of_map rfl
abbrev b0w5_W : List (Ref sig .tc) := [main_while0b_call4_v0, main_while0b_call4_c, main_while0b_call4_c_0, main_while0b_v41]
theorem b0w5_writes : Within (b0w5 : Ops F) b0w5_W :=
  forall_writes_sub_of_map rfl
theorem b0w5_keep : Keeps (b0w5 : Ops F) b0w5_W := fun V _ h => after_of_writes_sub b0w5 V b0w5_writes h

/-- Window 6 of loop 0's body: a row written. -/
abbrev b0w6 : Ops F :=
  [ TRef.unary (.of main_while0b_v40 : TRef sig ⟨S2x512, .f32⟩) (.of main_while0b_call5_v0 : TRef sig ⟨S1x2x512, .f32⟩) (broadcastInDim S1x2x512 ![1, 2] bcast_S2x512_S1x2x512_1_2),
    TRef.nullary (.of main_while0b_call5_c : TRef sig ⟨S_, .i32⟩) (constantI S_ 32 0#32),
    TRef.nullary (.of main_while0b_call5_c_0 : TRef sig ⟨S_, .i32⟩) (constantI S_ 32 0#32),
    TRef.binaryIndexed (.of main_v11_8 : TRef sig ⟨S2304x2x512, .f32⟩) (.of main_while0b_call5_v0 : TRef sig ⟨S1x2x512, .f32⟩) ![(.of main_v11_4 : TRef sig ⟨S_, .i32⟩), (.of main_while0b_call5_c : TRef sig ⟨S_, .i32⟩), (.of main_while0b_call5_c_0 : TRef sig ⟨S_, .i32⟩)] (.of main_while0b_v42 : TRef sig ⟨S2304x2x512, .f32⟩) (fun x u i => Host.dynamicUpdateSlice x u (fun k => (i k (Shape.Idx.first h_S_)).toInt) updateFits_S2304x2x512_S1x2x512) ]
theorem b0w6_sub : Inside (b0w6 : Ops F) :=
  ⟨unary_bufs_sub .., nullary_bufs_sub .., nullary_bufs_sub .., binaryIndexed_bufs_sub ..⟩
theorem b0w6_fresh : (b0w6 : Ops F).Forall fun op => op.fresh = ∅ :=
  forall_fresh_of_map rfl
abbrev b0w6_W : List (Ref sig .tc) := [main_while0b_call5_v0, main_while0b_call5_c, main_while0b_call5_c_0, main_while0b_v42]
theorem b0w6_writes : Within (b0w6 : Ops F) b0w6_W :=
  forall_writes_sub_of_map rfl
theorem b0w6_keep : Keeps (b0w6 : Ops F) b0w6_W := fun V _ h => after_of_writes_sub b0w6 V b0w6_writes h

/-- Window 7 of loop 0's body: a row written. -/
abbrev b0w7 : Ops F :=
  [ TRef.unary (.of main_v11_5 : TRef sig ⟨S2x512, .f32⟩) (.of main_while0b_call6_v0 : TRef sig ⟨S1x2x512, .f32⟩) (broadcastInDim S1x2x512 ![1, 2] bcast_S2x512_S1x2x512_1_2),
    TRef.nullary (.of main_while0b_call6_c : TRef sig ⟨S_, .i32⟩) (constantI S_ 32 0#32),
    TRef.nullary (.of main_while0b_call6_c_0 : TRef sig ⟨S_, .i32⟩) (constantI S_ 32 0#32),
    TRef.binaryIndexed (.of main_v11_9 : TRef sig ⟨S2304x2x512, .f32⟩) (.of main_while0b_call6_v0 : TRef sig ⟨S1x2x512, .f32⟩) ![(.of main_v11_4 : TRef sig ⟨S_, .i32⟩), (.of main_while0b_call6_c : TRef sig ⟨S_, .i32⟩), (.of main_while0b_call6_c_0 : TRef sig ⟨S_, .i32⟩)] (.of main_while0b_v43 : TRef sig ⟨S2304x2x512, .f32⟩) (fun x u i => Host.dynamicUpdateSlice x u (fun k => (i k (Shape.Idx.first h_S_)).toInt) updateFits_S2304x2x512_S1x2x512) ]
theorem b0w7_sub : Inside (b0w7 : Ops F) :=
  ⟨unary_bufs_sub .., nullary_bufs_sub .., nullary_bufs_sub .., binaryIndexed_bufs_sub ..⟩
theorem b0w7_fresh : (b0w7 : Ops F).Forall fun op => op.fresh = ∅ :=
  forall_fresh_of_map rfl
abbrev b0w7_W : List (Ref sig .tc) := [main_while0b_call6_v0, main_while0b_call6_c, main_while0b_call6_c_0, main_while0b_v43]
theorem b0w7_writes : Within (b0w7 : Ops F) b0w7_W :=
  forall_writes_sub_of_map rfl
theorem b0w7_keep : Keeps (b0w7 : Ops F) b0w7_W := fun V _ h => after_of_writes_sub b0w7 V b0w7_writes h

/-- Window 8 of loop 0's body: a row written. -/
abbrev b0w8 : Ops F :=
  [ TRef.unary (.of main_v11_6 : TRef sig ⟨S2x512, .f32⟩) (.of main_while0b_call7_v0 : TRef sig ⟨S1x2x512, .f32⟩) (broadcastInDim S1x2x512 ![1, 2] bcast_S2x512_S1x2x512_1_2),
    TRef.nullary (.of main_while0b_call7_c : TRef sig ⟨S_, .i32⟩) (constantI S_ 32 0#32),
    TRef.nullary (.of main_while0b_call7_c_0 : TRef sig ⟨S_, .i32⟩) (constantI S_ 32 0#32),
    TRef.binaryIndexed (.of main_v11_10 : TRef sig ⟨S2304x2x512, .f32⟩) (.of main_while0b_call7_v0 : TRef sig ⟨S1x2x512, .f32⟩) ![(.of main_v11_4 : TRef sig ⟨S_, .i32⟩), (.of main_while0b_call7_c : TRef sig ⟨S_, .i32⟩), (.of main_while0b_call7_c_0 : TRef sig ⟨S_, .i32⟩)] (.of main_while0b_v44 : TRef sig ⟨S2304x2x512, .f32⟩) (fun x u i => Host.dynamicUpdateSlice x u (fun k => (i k (Shape.Idx.first h_S_)).toInt) updateFits_S2304x2x512_S1x2x512) ]
theorem b0w8_sub : Inside (b0w8 : Ops F) :=
  ⟨unary_bufs_sub .., nullary_bufs_sub .., nullary_bufs_sub .., binaryIndexed_bufs_sub ..⟩
theorem b0w8_fresh : (b0w8 : Ops F).Forall fun op => op.fresh = ∅ :=
  forall_fresh_of_map rfl
abbrev b0w8_W : List (Ref sig .tc) := [main_while0b_call7_v0, main_while0b_call7_c, main_while0b_call7_c_0, main_while0b_v44]
theorem b0w8_writes : Within (b0w8 : Ops F) b0w8_W :=
  forall_writes_sub_of_map rfl
theorem b0w8_keep : Keeps (b0w8 : Ops F) b0w8_W := fun V _ h => after_of_writes_sub b0w8 V b0w8_writes h

/-- Window 9 of loop 0's body. -/
abbrev b0w9 : Ops F :=
  [ StableHlo.nullary main_while0b_c_23 (constantI S_ 32 1#32),
    StableHlo.binary main_v11_4 main_while0b_c_23 main_while0b_v45 (addi : Cn F S_ .i32 → Cn F S_ .i32 → Cn F S_ .i32),
    StableHlo.unary main_while0b_v45 main_v11_4 id,
    StableHlo.unary main_while0b_v38 main_v11_5 id,
    StableHlo.unary main_while0b_v40 main_v11_6 id,
    StableHlo.unary main_while0b_v41 main_v11_7 id,
    StableHlo.unary main_while0b_v42 main_v11_8 id,
    StableHlo.unary main_while0b_v43 main_v11_9 id,
    StableHlo.unary main_while0b_v44 main_v11_10 id ]
theorem b0w9_sub : Inside (b0w9 : Ops F) :=
  ⟨nullary_bufs_sub .., binary_bufs_sub .., unary_bufs_sub .., unary_bufs_sub .., unary_bufs_sub .., unary_bufs_sub .., unary_bufs_sub .., unary_bufs_sub .., unary_bufs_sub ..⟩
theorem b0w9_fresh : (b0w9 : Ops F).Forall fun op => op.fresh = ∅ :=
  forall_fresh_of_map rfl
abbrev b0w9_W : List (Ref sig .tc) := [main_while0b_c_23, main_while0b_v45, main_v11_4, main_v11_5, main_v11_6, main_v11_7, main_v11_8, main_v11_9, main_v11_10]
theorem b0w9_writes : Within (b0w9 : Ops F) b0w9_W :=
  forall_writes_sub_of_map rfl
theorem b0w9_keep : Keeps (b0w9 : Ops F) b0w9_W := fun V _ h => after_of_writes_sub b0w9 V b0w9_writes h

/-- Window 0 of loop 1's body. -/
abbrev b1w0 : Ops F :=
  [ StableHlo.nullary main_while1b_c_25 (constantI S_ 32 2304#32),
    StableHlo.binary main_while1b_c_25 main_v26_6 main_while1b_v33 (subi : Cn F S_ .i32 → Cn F S_ .i32 → Cn F S_ .i32),
    StableHlo.nullary main_while1b_c_26 (constantI S_ 32 1#32),
    StableHlo.binary main_while1b_v33 main_while1b_c_26 main_while1b_v34 (subi : Cn F S_ .i32 → Cn F S_ .i32 → Cn F S_ .i32) ]
theorem b1w0_sub : Inside (b1w0 : Ops F) :=
  ⟨nullary_bufs_sub .., binary_bufs_sub .., nullary_bufs_sub .., binary_bufs_sub ..⟩
theorem b1w0_fresh : (b1w0 : Ops F).Forall fun op => op.fresh = ∅ :=
  forall_fresh_of_map rfl
abbrev b1w0_W : List (Ref sig .tc) := [main_while1b_c_25, main_while1b_v33, main_while1b_c_26, main_while1b_v34]
theorem b1w0_writes : Within (b1w0 : Ops F) b1w0_W :=
  forall_writes_sub_of_map rfl
theorem b1w0_keep : Keeps (b1w0 : Ops F) b1w0_W := fun V _ h => after_of_writes_sub b1w0 V b1w0_writes h

/-- Window 1 of loop 1's body: a row read. -/
abbrev b1w1 : Ops F :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.unaryIndexed (.of main_v26_0 : TRef sig ⟨S2304x2x512, .f32⟩) ![(.of main_while1b_v34 : TRef sig ⟨S_, .i32⟩), (.of main_while1b_call8_c : TRef sig ⟨S_, .i32⟩), (.of main_while1b_call8_c_0 : TRef sig ⟨S_, .i32⟩)] (.of main_while1b_call8_v0 : TRef sig ⟨S1x2x512, .f32⟩) (fun x i => Host.dynamicSlice S1x2x512 x (fun k => (i k (Shape.Idx.first h_S_)).toInt) sliceFits_S2304x2x512_S1x2x512),
    TRef.reshape (.of main_while1b_call8_v0 : TRef sig ⟨S1x2x512, .f32⟩) (.of main_while1b_v35 : TRef sig ⟨S2x512, .f32⟩) (rfl : (.f32 : EltTy) = .f32) shapeCasts_S1x2x512_S2x512 ]
theorem b1w1_sub : Inside (b1w1 : Ops F) :=
  ⟨nullary_bufs_sub .., nullary_bufs_sub .., unaryIndexed_bufs_sub .., reshape_bufs_sub ..⟩
theorem b1w1_fresh : (b1w1 : Ops F).Forall fun op => op.fresh = ∅ :=
  forall_fresh_of_map rfl
abbrev b1w1_W : List (Ref sig .tc) := [main_while1b_call8_c, main_while1b_call8_c_0, main_while1b_call8_v0, main_while1b_v35]
theorem b1w1_writes : Within (b1w1 : Ops F) b1w1_W :=
  forall_writes_sub_of_map rfl
theorem b1w1_keep : Keeps (b1w1 : Ops F) b1w1_W := fun V _ h => after_of_writes_sub b1w1 V b1w1_writes h

/-- Window 2 of loop 1's body: a row read. -/
abbrev b1w2 : Ops F :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.unaryIndexed (.of main_v26_1 : TRef sig ⟨S2304x2x512, .f32⟩) ![(.of main_while1b_v34 : TRef sig ⟨S_, .i32⟩), (.of main_while1b_call9_c : TRef sig ⟨S_, .i32⟩), (.of main_while1b_call9_c_0 : TRef sig ⟨S_, .i32⟩)] (.of main_while1b_call9_v0 : TRef sig ⟨S1x2x512, .f32⟩) (fun x i => Host.dynamicSlice S1x2x512 x (fun k => (i k (Shape.Idx.first h_S_)).toInt) sliceFits_S2304x2x512_S1x2x512),
    TRef.reshape (.of main_while1b_call9_v0 : TRef sig ⟨S1x2x512, .f32⟩) (.of main_while1b_v36 : TRef sig ⟨S2x512, .f32⟩) (rfl : (.f32 : EltTy) = .f32) shapeCasts_S1x2x512_S2x512 ]
theorem b1w2_sub : Inside (b1w2 : Ops F) :=
  ⟨nullary_bufs_sub .., nullary_bufs_sub .., unaryIndexed_bufs_sub .., reshape_bufs_sub ..⟩
theorem b1w2_fresh : (b1w2 : Ops F).Forall fun op => op.fresh = ∅ :=
  forall_fresh_of_map rfl
abbrev b1w2_W : List (Ref sig .tc) := [main_while1b_call9_c, main_while1b_call9_c_0, main_while1b_call9_v0, main_while1b_v36]
theorem b1w2_writes : Within (b1w2 : Ops F) b1w2_W :=
  forall_writes_sub_of_map rfl
theorem b1w2_keep : Keeps (b1w2 : Ops F) b1w2_W := fun V _ h => after_of_writes_sub b1w2 V b1w2_writes h

/-- Window 3 of loop 1's body: a row read. -/
abbrev b1w3 : Ops F :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.unaryIndexed (.of main_v26_2 : TRef sig ⟨S2304x2x512, .f32⟩) ![(.of main_while1b_v34 : TRef sig ⟨S_, .i32⟩), (.of main_while1b_call10_c : TRef sig ⟨S_, .i32⟩), (.of main_while1b_call10_c_0 : TRef sig ⟨S_, .i32⟩)] (.of main_while1b_call10_v0 : TRef sig ⟨S1x2x512, .f32⟩) (fun x i => Host.dynamicSlice S1x2x512 x (fun k => (i k (Shape.Idx.first h_S_)).toInt) sliceFits_S2304x2x512_S1x2x512),
    TRef.reshape (.of main_while1b_call10_v0 : TRef sig ⟨S1x2x512, .f32⟩) (.of main_while1b_v37 : TRef sig ⟨S2x512, .f32⟩) (rfl : (.f32 : EltTy) = .f32) shapeCasts_S1x2x512_S2x512 ]
theorem b1w3_sub : Inside (b1w3 : Ops F) :=
  ⟨nullary_bufs_sub .., nullary_bufs_sub .., unaryIndexed_bufs_sub .., reshape_bufs_sub ..⟩
theorem b1w3_fresh : (b1w3 : Ops F).Forall fun op => op.fresh = ∅ :=
  forall_fresh_of_map rfl
abbrev b1w3_W : List (Ref sig .tc) := [main_while1b_call10_c, main_while1b_call10_c_0, main_while1b_call10_v0, main_while1b_v37]
theorem b1w3_writes : Within (b1w3 : Ops F) b1w3_W :=
  forall_writes_sub_of_map rfl
theorem b1w3_keep : Keeps (b1w3 : Ops F) b1w3_W := fun V _ h => after_of_writes_sub b1w3 V b1w3_writes h

/-- Window 4 of loop 1's body: a row read. -/
abbrev b1w4 : Ops F :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.unaryIndexed (.of main_v26_3 : TRef sig ⟨S2304x2x512, .f32⟩) ![(.of main_while1b_v34 : TRef sig ⟨S_, .i32⟩), (.of main_while1b_call11_c : TRef sig ⟨S_, .i32⟩), (.of main_while1b_call11_c_0 : TRef sig ⟨S_, .i32⟩)] (.of main_while1b_call11_v0 : TRef sig ⟨S1x2x512, .f32⟩) (fun x i => Host.dynamicSlice S1x2x512 x (fun k => (i k (Shape.Idx.first h_S_)).toInt) sliceFits_S2304x2x512_S1x2x512),
    TRef.reshape (.of main_while1b_call11_v0 : TRef sig ⟨S1x2x512, .f32⟩) (.of main_while1b_v38 : TRef sig ⟨S2x512, .f32⟩) (rfl : (.f32 : EltTy) = .f32) shapeCasts_S1x2x512_S2x512 ]
theorem b1w4_sub : Inside (b1w4 : Ops F) :=
  ⟨nullary_bufs_sub .., nullary_bufs_sub .., unaryIndexed_bufs_sub .., reshape_bufs_sub ..⟩
theorem b1w4_fresh : (b1w4 : Ops F).Forall fun op => op.fresh = ∅ :=
  forall_fresh_of_map rfl
abbrev b1w4_W : List (Ref sig .tc) := [main_while1b_call11_c, main_while1b_call11_c_0, main_while1b_call11_v0, main_while1b_v38]
theorem b1w4_writes : Within (b1w4 : Ops F) b1w4_W :=
  forall_writes_sub_of_map rfl
theorem b1w4_keep : Keeps (b1w4 : Ops F) b1w4_W := fun V _ h => after_of_writes_sub b1w4 V b1w4_writes h

/-- Window 5 of loop 1's body: a row read. -/
abbrev b1w5 : Ops F :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.unaryIndexed (.of main_v26_4 : TRef sig ⟨S2304x2x512, .f32⟩) ![(.of main_while1b_v34 : TRef sig ⟨S_, .i32⟩), (.of main_while1b_call12_c : TRef sig ⟨S_, .i32⟩), (.of main_while1b_call12_c_0 : TRef sig ⟨S_, .i32⟩)] (.of main_while1b_call12_v0 : TRef sig ⟨S1x2x512, .f32⟩) (fun x i => Host.dynamicSlice S1x2x512 x (fun k => (i k (Shape.Idx.first h_S_)).toInt) sliceFits_S2304x2x512_S1x2x512),
    TRef.reshape (.of main_while1b_call12_v0 : TRef sig ⟨S1x2x512, .f32⟩) (.of main_while1b_v39 : TRef sig ⟨S2x512, .f32⟩) (rfl : (.f32 : EltTy) = .f32) shapeCasts_S1x2x512_S2x512 ]
theorem b1w5_sub : Inside (b1w5 : Ops F) :=
  ⟨nullary_bufs_sub .., nullary_bufs_sub .., unaryIndexed_bufs_sub .., reshape_bufs_sub ..⟩
theorem b1w5_fresh : (b1w5 : Ops F).Forall fun op => op.fresh = ∅ :=
  forall_fresh_of_map rfl
abbrev b1w5_W : List (Ref sig .tc) := [main_while1b_call12_c, main_while1b_call12_c_0, main_while1b_call12_v0, main_while1b_v39]
theorem b1w5_writes : Within (b1w5 : Ops F) b1w5_W :=
  forall_writes_sub_of_map rfl
theorem b1w5_keep : Keeps (b1w5 : Ops F) b1w5_W := fun V _ h => after_of_writes_sub b1w5 V b1w5_writes h

/-- Window 6 of loop 1's body: a row read. -/
abbrev b1w6 : Ops F :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.unaryIndexed (.of main_v26_5 : TRef sig ⟨S2304x2x512, .f32⟩) ![(.of main_while1b_v34 : TRef sig ⟨S_, .i32⟩), (.of main_while1b_call13_c : TRef sig ⟨S_, .i32⟩), (.of main_while1b_call13_c_0 : TRef sig ⟨S_, .i32⟩)] (.of main_while1b_call13_v0 : TRef sig ⟨S1x2x512, .f32⟩) (fun x i => Host.dynamicSlice S1x2x512 x (fun k => (i k (Shape.Idx.first h_S_)).toInt) sliceFits_S2304x2x512_S1x2x512),
    TRef.reshape (.of main_while1b_call13_v0 : TRef sig ⟨S1x2x512, .f32⟩) (.of main_while1b_v40 : TRef sig ⟨S2x512, .f32⟩) (rfl : (.f32 : EltTy) = .f32) shapeCasts_S1x2x512_S2x512 ]
theorem b1w6_sub : Inside (b1w6 : Ops F) :=
  ⟨nullary_bufs_sub .., nullary_bufs_sub .., unaryIndexed_bufs_sub .., reshape_bufs_sub ..⟩
theorem b1w6_fresh : (b1w6 : Ops F).Forall fun op => op.fresh = ∅ :=
  forall_fresh_of_map rfl
abbrev b1w6_W : List (Ref sig .tc) := [main_while1b_call13_c, main_while1b_call13_c_0, main_while1b_call13_v0, main_while1b_v40]
theorem b1w6_writes : Within (b1w6 : Ops F) b1w6_W :=
  forall_writes_sub_of_map rfl
theorem b1w6_keep : Keeps (b1w6 : Ops F) b1w6_W := fun V _ h => after_of_writes_sub b1w6 V b1w6_writes h

/-- Window 7 of loop 1's body. -/
abbrev b1w7 : Ops F :=
  [ StableHlo.binary main_v26_7 main_while1b_v35 main_while1b_v41 (addf : Cn F S2x512 .f32 → Cn F S2x512 .f32 → Cn F S2x512 .f32),
    StableHlo.binary main_v26_8 main_while1b_v36 main_while1b_v42 (addf : Cn F S2x512 .f32 → Cn F S2x512 .f32 → Cn F S2x512 .f32),
    StableHlo.binary main_while1b_v40 main_while1b_v42 main_while1b_v43 (mulf : Cn F S2x512 .f32 → Cn F S2x512 .f32 → Cn F S2x512 .f32),
    StableHlo.binary main_while1b_v42 main_while1b_v39 main_while1b_v44 (mulf : Cn F S2x512 .f32 → Cn F S2x512 .f32 → Cn F S2x512 .f32),
    StableHlo.binary main_while1b_v38 main_while1b_v41 main_while1b_v45 (mulf : Cn F S2x512 .f32 → Cn F S2x512 .f32 → Cn F S2x512 .f32),
    StableHlo.binary main_while1b_v41 main_while1b_v37 main_while1b_v46 (mulf : Cn F S2x512 .f32 → Cn F S2x512 .f32 → Cn F S2x512 .f32) ]
theorem b1w7_sub : Inside (b1w7 : Ops F) :=
  ⟨binary_bufs_sub .., binary_bufs_sub .., binary_bufs_sub .., binary_bufs_sub .., binary_bufs_sub .., binary_bufs_sub ..⟩
theorem b1w7_fresh : (b1w7 : Ops F).Forall fun op => op.fresh = ∅ :=
  forall_fresh_of_map rfl
abbrev b1w7_W : List (Ref sig .tc) := [main_while1b_v41, main_while1b_v42, main_while1b_v43, main_while1b_v44, main_while1b_v45, main_while1b_v46]
theorem b1w7_writes : Within (b1w7 : Ops F) b1w7_W :=
  forall_writes_sub_of_map rfl
theorem b1w7_keep : Keeps (b1w7 : Ops F) b1w7_W := fun V _ h => after_of_writes_sub b1w7 V b1w7_writes h

/-- Window 8 of loop 1's body: a row written. -/
abbrev b1w8 : Ops F :=
  [ TRef.unary (.of main_while1b_v46 : TRef sig ⟨S2x512, .f32⟩) (.of main_while1b_call14_v0 : TRef sig ⟨S1x2x512, .f32⟩) (broadcastInDim S1x2x512 ![1, 2] bcast_S2x512_S1x2x512_1_2),
    TRef.nullary (.of main_while1b_call14_c : TRef sig ⟨S_, .i32⟩) (constantI S_ 32 0#32),
    TRef.nullary (.of main_while1b_call14_c_0 : TRef sig ⟨S_, .i32⟩) (constantI S_ 32 0#32),
    TRef.binaryIndexed (.of main_v26_9 : TRef sig ⟨S2304x2x512, .f32⟩) (.of main_while1b_call14_v0 : TRef sig ⟨S1x2x512, .f32⟩) ![(.of main_while1b_v34 : TRef sig ⟨S_, .i32⟩), (.of main_while1b_call14_c : TRef sig ⟨S_, .i32⟩), (.of main_while1b_call14_c_0 : TRef sig ⟨S_, .i32⟩)] (.of main_while1b_v47 : TRef sig ⟨S2304x2x512, .f32⟩) (fun x u i => Host.dynamicUpdateSlice x u (fun k => (i k (Shape.Idx.first h_S_)).toInt) updateFits_S2304x2x512_S1x2x512) ]
theorem b1w8_sub : Inside (b1w8 : Ops F) :=
  ⟨unary_bufs_sub .., nullary_bufs_sub .., nullary_bufs_sub .., binaryIndexed_bufs_sub ..⟩
theorem b1w8_fresh : (b1w8 : Ops F).Forall fun op => op.fresh = ∅ :=
  forall_fresh_of_map rfl
abbrev b1w8_W : List (Ref sig .tc) := [main_while1b_call14_v0, main_while1b_call14_c, main_while1b_call14_c_0, main_while1b_v47]
theorem b1w8_writes : Within (b1w8 : Ops F) b1w8_W :=
  forall_writes_sub_of_map rfl
theorem b1w8_keep : Keeps (b1w8 : Ops F) b1w8_W := fun V _ h => after_of_writes_sub b1w8 V b1w8_writes h

/-- Window 9 of loop 1's body: a row written. -/
abbrev b1w9 : Ops F :=
  [ TRef.unary (.of main_while1b_v41 : TRef sig ⟨S2x512, .f32⟩) (.of main_while1b_call15_v0 : TRef sig ⟨S1x2x512, .f32⟩) (broadcastInDim S1x2x512 ![1, 2] bcast_S2x512_S1x2x512_1_2),
    TRef.nullary (.of main_while1b_call15_c : TRef sig ⟨S_, .i32⟩) (constantI S_ 32 0#32),
    TRef.nullary (.of main_while1b_call15_c_0 : TRef sig ⟨S_, .i32⟩) (constantI S_ 32 0#32),
    TRef.binaryIndexed (.of main_v26_10 : TRef sig ⟨S2304x2x512, .f32⟩) (.of main_while1b_call15_v0 : TRef sig ⟨S1x2x512, .f32⟩) ![(.of main_while1b_v34 : TRef sig ⟨S_, .i32⟩), (.of main_while1b_call15_c : TRef sig ⟨S_, .i32⟩), (.of main_while1b_call15_c_0 : TRef sig ⟨S_, .i32⟩)] (.of main_while1b_v48 : TRef sig ⟨S2304x2x512, .f32⟩) (fun x u i => Host.dynamicUpdateSlice x u (fun k => (i k (Shape.Idx.first h_S_)).toInt) updateFits_S2304x2x512_S1x2x512) ]
theorem b1w9_sub : Inside (b1w9 : Ops F) :=
  ⟨unary_bufs_sub .., nullary_bufs_sub .., nullary_bufs_sub .., binaryIndexed_bufs_sub ..⟩
theorem b1w9_fresh : (b1w9 : Ops F).Forall fun op => op.fresh = ∅ :=
  forall_fresh_of_map rfl
abbrev b1w9_W : List (Ref sig .tc) := [main_while1b_call15_v0, main_while1b_call15_c, main_while1b_call15_c_0, main_while1b_v48]
theorem b1w9_writes : Within (b1w9 : Ops F) b1w9_W :=
  forall_writes_sub_of_map rfl
theorem b1w9_keep : Keeps (b1w9 : Ops F) b1w9_W := fun V _ h => after_of_writes_sub b1w9 V b1w9_writes h

/-- Window 10 of loop 1's body: a row written. -/
abbrev b1w10 : Ops F :=
  [ TRef.unary (.of main_while1b_v44 : TRef sig ⟨S2x512, .f32⟩) (.of main_while1b_call16_v0 : TRef sig ⟨S1x2x512, .f32⟩) (broadcastInDim S1x2x512 ![1, 2] bcast_S2x512_S1x2x512_1_2),
    TRef.nullary (.of main_while1b_call16_c : TRef sig ⟨S_, .i32⟩) (constantI S_ 32 0#32),
    TRef.nullary (.of main_while1b_call16_c_0 : TRef sig ⟨S_, .i32⟩) (constantI S_ 32 0#32),
    TRef.binaryIndexed (.of main_v26_11 : TRef sig ⟨S2304x2x512, .f32⟩) (.of main_while1b_call16_v0 : TRef sig ⟨S1x2x512, .f32⟩) ![(.of main_while1b_v34 : TRef sig ⟨S_, .i32⟩), (.of main_while1b_call16_c : TRef sig ⟨S_, .i32⟩), (.of main_while1b_call16_c_0 : TRef sig ⟨S_, .i32⟩)] (.of main_while1b_v49 : TRef sig ⟨S2304x2x512, .f32⟩) (fun x u i => Host.dynamicUpdateSlice x u (fun k => (i k (Shape.Idx.first h_S_)).toInt) updateFits_S2304x2x512_S1x2x512) ]
theorem b1w10_sub : Inside (b1w10 : Ops F) :=
  ⟨unary_bufs_sub .., nullary_bufs_sub .., nullary_bufs_sub .., binaryIndexed_bufs_sub ..⟩
theorem b1w10_fresh : (b1w10 : Ops F).Forall fun op => op.fresh = ∅ :=
  forall_fresh_of_map rfl
abbrev b1w10_W : List (Ref sig .tc) := [main_while1b_call16_v0, main_while1b_call16_c, main_while1b_call16_c_0, main_while1b_v49]
theorem b1w10_writes : Within (b1w10 : Ops F) b1w10_W :=
  forall_writes_sub_of_map rfl
theorem b1w10_keep : Keeps (b1w10 : Ops F) b1w10_W := fun V _ h => after_of_writes_sub b1w10 V b1w10_writes h

/-- Window 11 of loop 1's body: a row written. -/
abbrev b1w11 : Ops F :=
  [ TRef.unary (.of main_while1b_v42 : TRef sig ⟨S2x512, .f32⟩) (.of main_while1b_call17_v0 : TRef sig ⟨S1x2x512, .f32⟩) (broadcastInDim S1x2x512 ![1, 2] bcast_S2x512_S1x2x512_1_2),
    TRef.nullary (.of main_while1b_call17_c : TRef sig ⟨S_, .i32⟩) (constantI S_ 32 0#32),
    TRef.nullary (.of main_while1b_call17_c_0 : TRef sig ⟨S_, .i32⟩) (constantI S_ 32 0#32),
    TRef.binaryIndexed (.of main_v26_12 : TRef sig ⟨S2304x2x512, .f32⟩) (.of main_while1b_call17_v0 : TRef sig ⟨S1x2x512, .f32⟩) ![(.of main_while1b_v34 : TRef sig ⟨S_, .i32⟩), (.of main_while1b_call17_c : TRef sig ⟨S_, .i32⟩), (.of main_while1b_call17_c_0 : TRef sig ⟨S_, .i32⟩)] (.of main_while1b_v50 : TRef sig ⟨S2304x2x512, .f32⟩) (fun x u i => Host.dynamicUpdateSlice x u (fun k => (i k (Shape.Idx.first h_S_)).toInt) updateFits_S2304x2x512_S1x2x512) ]
theorem b1w11_sub : Inside (b1w11 : Ops F) :=
  ⟨unary_bufs_sub .., nullary_bufs_sub .., nullary_bufs_sub .., binaryIndexed_bufs_sub ..⟩
theorem b1w11_fresh : (b1w11 : Ops F).Forall fun op => op.fresh = ∅ :=
  forall_fresh_of_map rfl
abbrev b1w11_W : List (Ref sig .tc) := [main_while1b_call17_v0, main_while1b_call17_c, main_while1b_call17_c_0, main_while1b_v50]
theorem b1w11_writes : Within (b1w11 : Ops F) b1w11_W :=
  forall_writes_sub_of_map rfl
theorem b1w11_keep : Keeps (b1w11 : Ops F) b1w11_W := fun V _ h => after_of_writes_sub b1w11 V b1w11_writes h

/-- Window 12 of loop 1's body. -/
abbrev b1w12 : Ops F :=
  [ StableHlo.nullary main_while1b_c_27 (constantI S_ 32 1#32),
    StableHlo.binary main_v26_6 main_while1b_c_27 main_while1b_v51 (addi : Cn F S_ .i32 → Cn F S_ .i32 → Cn F S_ .i32),
    StableHlo.unary main_while1b_v51 main_v26_6 id,
    StableHlo.unary main_while1b_v45 main_v26_7 id,
    StableHlo.unary main_while1b_v43 main_v26_8 id,
    StableHlo.unary main_while1b_v47 main_v26_9 id,
    StableHlo.unary main_while1b_v48 main_v26_10 id,
    StableHlo.unary main_while1b_v49 main_v26_11 id,
    StableHlo.unary main_while1b_v50 main_v26_12 id ]
theorem b1w12_sub : Inside (b1w12 : Ops F) :=
  ⟨nullary_bufs_sub .., binary_bufs_sub .., unary_bufs_sub .., unary_bufs_sub .., unary_bufs_sub .., unary_bufs_sub .., unary_bufs_sub .., unary_bufs_sub .., unary_bufs_sub ..⟩
theorem b1w12_fresh : (b1w12 : Ops F).Forall fun op => op.fresh = ∅ :=
  forall_fresh_of_map rfl
abbrev b1w12_W : List (Ref sig .tc) := [main_while1b_c_27, main_while1b_v51, main_v26_6, main_v26_7, main_v26_8, main_v26_9, main_v26_10, main_v26_11, main_v26_12]
theorem b1w12_writes : Within (b1w12 : Ops F) b1w12_W :=
  forall_writes_sub_of_map rfl
theorem b1w12_keep : Keeps (b1w12 : Ops F) b1w12_W := fun V _ h => after_of_writes_sub b1w12 V b1w12_writes h

/-- The operations between the two loops, first part. -/
abbrev midOps : Ops F :=
  [ StableHlo.unary main_v11_7 main_v12 ((transpose S2x2304x512 [1, 0, 2] · transposes_S2304x2x512_S2x2304x512_1_0_2) : Cn F S2304x2x512 .f32 → Cn F S2x2304x512 .f32),
    StableHlo.unary main_v11_8 main_v13 (Host.reverse [0] : Cn F S2304x2x512 .f32 → Cn F S2304x2x512 .f32),
    StableHlo.unary main_v13 main_v14 ((transpose S2x2304x512 [1, 0, 2] · transposes_S2304x2x512_S2x2304x512_1_0_2) : Cn F S2304x2x512 .f32 → Cn F S2x2304x512 .f32),
    StableHlo.nullary main_cst_4 (constant S_ .f32 0x00000000#32),
    StableHlo.unary main_cst_4 main_v15 (broadcastInDim S2x512 ![] bcast_S_S2x512 : Cn F S_ .f32 → Cn F S2x512 .f32),
    StableHlo.nullary main_cst_5 (constant S_ .f32 0x00000000#32),
    StableHlo.unary main_cst_5 main_v16 (broadcastInDim S2x512 ![] bcast_S_S2x512 : Cn F S_ .f32 → Cn F S2x512 .f32),
    StableHlo.unary main_arg5 main_v17 ((transpose S2304x2x512 [1, 0, 2] · transposes_S2x2304x512_S2304x2x512_1_0_2) : Cn F S2x2304x512 .f32 → Cn F S2304x2x512 .f32),
    StableHlo.unary main_v17 main_v18 (Host.reverse [0] : Cn F S2304x2x512 .f32 → Cn F S2304x2x512 .f32),
    StableHlo.unary main_arg2 main_v19 ((transpose S2304x2x512 [1, 0, 2] · transposes_S2x2304x512_S2304x2x512_1_0_2) : Cn F S2x2304x512 .f32 → Cn F S2304x2x512 .f32),
    StableHlo.nullary main_cst_6 (constant S_ .f32 0x00000000#32),
    StableHlo.unary main_cst_6 main_v20 (broadcastInDim S2x512 ![] bcast_S_S2x512 : Cn F S_ .f32 → Cn F S2x512 .f32),
    StableHlo.nullary main_cst_7 (constant S_ .f32 0x00000000#32),
    StableHlo.unary main_cst_7 main_v21 (broadcastInDim S2x512 ![] bcast_S_S2x512 : Cn F S_ .f32 → Cn F S2x512 .f32),
    StableHlo.nullary main_cst_8 (constant S_ .f32 0x00000000#32),
    StableHlo.unary main_cst_8 main_v22 (broadcastInDim S2304x2x512 ![] bcast_S_S2304x2x512 : Cn F S_ .f32 → Cn F S2304x2x512 .f32),
    StableHlo.nullary main_cst_9 (constant S_ .f32 0x00000000#32),
    StableHlo.unary main_cst_9 main_v23 (broadcastInDim S2304x2x512 ![] bcast_S_S2304x2x512 : Cn F S_ .f32 → Cn F S2304x2x512 .f32),
    StableHlo.nullary main_cst_10 (constant S_ .f32 0x00000000#32),
    StableHlo.unary main_cst_10 main_v24 (broadcastInDim S2304x2x512 ![] bcast_S_S2304x2x512 : Cn F S_ .f32 → Cn F S2304x2x512 .f32),
    StableHlo.nullary main_cst_11 (constant S_ .f32 0x00000000#32),
    StableHlo.unary main_cst_11 main_v25 (broadcastInDim S2304x2x512 ![] bcast_S_S2304x2x512 : Cn F S_ .f32 → Cn F S2304x2x512 .f32),
    StableHlo.nullary main_c_12 (constantI S_ 32 0#32),
    StableHlo.unary main_v19 main_v26_0 id,
    StableHlo.unary main_v18 main_v26_1 id,
    StableHlo.unary main_v11_9 main_v26_2 id,
    StableHlo.unary main_v1 main_v26_3 id,
    StableHlo.unary main_v11_10 main_v26_4 id,
    StableHlo.unary main_v4 main_v26_5 id,
    StableHlo.unary main_c_12 main_v26_6 id,
    StableHlo.unary main_v20 main_v26_7 id ]
theorem midOps_sub : Inside (midOps : Ops F) :=
  ⟨unary_bufs_sub .., unary_bufs_sub .., unary_bufs_sub .., nullary_bufs_sub .., unary_bufs_sub .., nullary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
theorem midOps_fresh : (midOps : Ops F).Forall fun op => op.fresh = ∅ :=
  forall_fresh_of_map rfl
abbrev midOps_W : List (Ref sig .tc) := [main_v12, main_v13, main_v14, main_cst_4, main_v15, main_cst_5, main_v16, main_v17, main_v18, main_v19, main_cst_6, main_v20, main_cst_7, main_v21, main_cst_8, main_v22, main_cst_9, main_v23, main_cst_10, main_v24, main_cst_11, main_v25, main_c_12, main_v26_0, main_v26_1, main_v26_2, main_v26_3, main_v26_4, main_v26_5, main_v26_6, main_v26_7]
theorem midOps_writes : Within (midOps : Ops F) midOps_W :=
  forall_writes_sub_of_map rfl
theorem midOps_keep : Keeps (midOps : Ops F) midOps_W := fun V _ h => after_of_writes_sub midOps V midOps_writes h

/-- The operations between the two loops, second part. -/
abbrev midOps2 : Ops F :=
  [ StableHlo.unary main_v21 main_v26_8 id,
    StableHlo.unary main_v22 main_v26_9 id,
    StableHlo.unary main_v23 main_v26_10 id,
    StableHlo.unary main_v24 main_v26_11 id,
    StableHlo.unary main_v25 main_v26_12 id ]
theorem midOps2_sub : Inside (midOps2 : Ops F) :=
  ⟨unary_bufs_sub .., unary_bufs_sub .., unary_bufs_sub .., unary_bufs_sub .., unary_bufs_sub ..⟩
theorem midOps2_fresh : (midOps2 : Ops F).Forall fun op => op.fresh = ∅ :=
  forall_fresh_of_map rfl
abbrev midOps2_W : List (Ref sig .tc) := [main_v26_8, main_v26_9, main_v26_10, main_v26_11, main_v26_12]
theorem midOps2_writes : Within (midOps2 : Ops F) midOps2_W :=
  forall_writes_sub_of_map rfl
theorem midOps2_keep : Keeps (midOps2 : Ops F) midOps2_W := fun V _ h => after_of_writes_sub midOps2 V midOps2_writes h

/-- The operations after the second loop. -/
abbrev postOps : Ops F :=
  [ StableHlo.unary main_v26_12 main_v27 (Host.reverse [0] : Cn F S2304x2x512 .f32 → Cn F S2304x2x512 .f32),
    StableHlo.unary main_v27 main_v28 ((transpose S2x2304x512 [1, 0, 2] · transposes_S2304x2x512_S2x2304x512_1_0_2) : Cn F S2304x2x512 .f32 → Cn F S2x2304x512 .f32),
    StableHlo.unary main_v26_11 main_v29 (Host.reverse [0] : Cn F S2304x2x512 .f32 → Cn F S2304x2x512 .f32),
    StableHlo.unary main_v29 main_v30 ((transpose S2x2304x512 [1, 0, 2] · transposes_S2304x2x512_S2x2304x512_1_0_2) : Cn F S2304x2x512 .f32 → Cn F S2x2304x512 .f32),
    StableHlo.unary main_v26_10 main_v31 ((transpose S2x2304x512 [1, 0, 2] · transposes_S2304x2x512_S2x2304x512_1_0_2) : Cn F S2304x2x512 .f32 → Cn F S2x2304x512 .f32),
    StableHlo.unary main_v26_9 main_v32 ((transpose S2x2304x512 [1, 0, 2] · transposes_S2304x2x512_S2x2304x512_1_0_2) : Cn F S2304x2x512 .f32 → Cn F S2x2304x512 .f32) ]
theorem postOps_sub : Inside (postOps : Ops F) :=
  ⟨unary_bufs_sub .., unary_bufs_sub .., unary_bufs_sub .., unary_bufs_sub .., unary_bufs_sub .., unary_bufs_sub ..⟩
theorem postOps_fresh : (postOps : Ops F).Forall fun op => op.fresh = ∅ :=
  forall_fresh_of_map rfl
abbrev postOps_W : List (Ref sig .tc) := [main_v27, main_v28, main_v29, main_v30, main_v31, main_v32]
theorem postOps_writes : Within (postOps : Ops F) postOps_W :=
  forall_writes_sub_of_map rfl
theorem postOps_keep : Keeps (postOps : Ops F) postOps_W := fun V _ h => after_of_writes_sub postOps V postOps_writes h

/-- The condition of loop 0. -/
abbrev cond0 : Ops F :=
  [ StableHlo.nullary main_while0c_c_23 (constantI S_ 32 2304#32),
    StableHlo.binary main_v11_4 main_while0c_c_23 main_while0c_v33 (cmpi .slt : Cn F S_ .i32 → Cn F S_ .i32 → Cn F S_ .i1) ]
theorem cond0_sub : Inside (cond0 : Ops F) :=
  ⟨nullary_bufs_sub .., binary_bufs_sub ..⟩
theorem cond0_fresh : (cond0 : Ops F).Forall fun op => op.fresh = ∅ :=
  forall_fresh_of_map rfl
abbrev cond0_W : List (Ref sig .tc) := [main_while0c_c_23, main_while0c_v33]
theorem cond0_writes : Within (cond0 : Ops F) cond0_W :=
  forall_writes_sub_of_map rfl
theorem cond0_keep : Keeps (cond0 : Ops F) cond0_W := fun V _ h => after_of_writes_sub cond0 V cond0_writes h

/-- The condition of loop 1. -/
abbrev cond1 : Ops F :=
  [ StableHlo.nullary main_while1c_c_25 (constantI S_ 32 2304#32),
    StableHlo.binary main_v26_6 main_while1c_c_25 main_while1c_v33 (cmpi .slt : Cn F S_ .i32 → Cn F S_ .i32 → Cn F S_ .i1) ]
theorem cond1_sub : Inside (cond1 : Ops F) :=
  ⟨nullary_bufs_sub .., binary_bufs_sub ..⟩
theorem cond1_fresh : (cond1 : Ops F).Forall fun op => op.fresh = ∅ :=
  forall_fresh_of_map rfl
abbrev cond1_W : List (Ref sig .tc) := [main_while1c_c_25, main_while1c_v33]
theorem cond1_writes : Within (cond1 : Ops F) cond1_W :=
  forall_writes_sub_of_map rfl
theorem cond1_keep : Keeps (cond1 : Ops F) cond1_W := fun V _ h => after_of_writes_sub cond1 V cond1_writes h

/-- Loop 0's body, as stretches. -/
abbrev body0 : List (Ops F) := [b0w0, b0w1, b0w2, b0w3, b0w4, b0w5, b0w6, b0w7, b0w8, b0w9]
theorem body0_plain : Plain (body0 (F := F)) := .cons b0w0_sub (hf := List.forall_iff_forall_mem.mp b0w0_fresh) (.cons b0w1_sub (hf := List.forall_iff_forall_mem.mp b0w1_fresh) (.cons b0w2_sub (hf := List.forall_iff_forall_mem.mp b0w2_fresh) (.cons b0w3_sub (hf := List.forall_iff_forall_mem.mp b0w3_fresh) (.cons b0w4_sub (hf := List.forall_iff_forall_mem.mp b0w4_fresh) (.cons b0w5_sub (hf := List.forall_iff_forall_mem.mp b0w5_fresh) (.cons b0w6_sub (hf := List.forall_iff_forall_mem.mp b0w6_fresh) (.cons b0w7_sub (hf := List.forall_iff_forall_mem.mp b0w7_fresh) (.cons b0w8_sub (hf := List.forall_iff_forall_mem.mp b0w8_fresh) (.cons b0w9_sub (hf := List.forall_iff_forall_mem.mp b0w9_fresh) (.nil))))))))))
theorem body0_chain : main_while0_body (F := F) = (Pipeline.chain (body0.map fun ops => seq ops) : Prog (TpuEff nD τ sig (Elt F) (HostLoop.Sig (Pipeline.Sig Λ₀ (Fin 0) fun p => (pcfgs (F := F) p).Adm) 2) .tc) PUnit) := by
  show _ = (Pipeline.chain [StableHlo.seq b0w0, StableHlo.seq b0w1, StableHlo.seq b0w2, StableHlo.seq b0w3, StableHlo.seq b0w4, StableHlo.seq b0w5, StableHlo.seq b0w6, StableHlo.seq b0w7, StableHlo.seq b0w8, StableHlo.seq b0w9] : Prog (TpuEff nD τ sig (Elt F) (HostLoop.Sig (Pipeline.Sig Λ₀ (Fin 0) fun p => (pcfgs (F := F) p).Adm) 2) .tc) PUnit)
  rewrite [Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- Loop 1's body, as stretches. -/
abbrev body1 : List (Ops F) := [b1w0, b1w1, b1w2, b1w3, b1w4, b1w5, b1w6, b1w7, b1w8, b1w9, b1w10, b1w11, b1w12]
theorem body1_plain : Plain (body1 (F := F)) := .cons b1w0_sub (hf := List.forall_iff_forall_mem.mp b1w0_fresh) (.cons b1w1_sub (hf := List.forall_iff_forall_mem.mp b1w1_fresh) (.cons b1w2_sub (hf := List.forall_iff_forall_mem.mp b1w2_fresh) (.cons b1w3_sub (hf := List.forall_iff_forall_mem.mp b1w3_fresh) (.cons b1w4_sub (hf := List.forall_iff_forall_mem.mp b1w4_fresh) (.cons b1w5_sub (hf := List.forall_iff_forall_mem.mp b1w5_fresh) (.cons b1w6_sub (hf := List.forall_iff_forall_mem.mp b1w6_fresh) (.cons b1w7_sub (hf := List.forall_iff_forall_mem.mp b1w7_fresh) (.cons b1w8_sub (hf := List.forall_iff_forall_mem.mp b1w8_fresh) (.cons b1w9_sub (hf := List.forall_iff_forall_mem.mp b1w9_fresh) (.cons b1w10_sub (hf := List.forall_iff_forall_mem.mp b1w10_fresh) (.cons b1w11_sub (hf := List.forall_iff_forall_mem.mp b1w11_fresh) (.cons b1w12_sub (hf := List.forall_iff_forall_mem.mp b1w12_fresh) (.nil)))))))))))))
theorem body1_chain : main_while1_body (F := F) = (Pipeline.chain (body1.map fun ops => seq ops) : Prog (TpuEff nD τ sig (Elt F) (HostLoop.Sig (Pipeline.Sig Λ₀ (Fin 0) fun p => (pcfgs (F := F) p).Adm) 2) .tc) PUnit) := by
  show _ = (Pipeline.chain [StableHlo.seq b1w0, StableHlo.seq b1w1, StableHlo.seq b1w2, StableHlo.seq b1w3, StableHlo.seq b1w4, StableHlo.seq b1w5, StableHlo.seq b1w6, StableHlo.seq b1w7, StableHlo.seq b1w8, StableHlo.seq b1w9, StableHlo.seq b1w10, StableHlo.seq b1w11, StableHlo.seq b1w12] : Prog (TpuEff nD τ sig (Elt F) (HostLoop.Sig (Pipeline.Sig Λ₀ (Fin 0) fun p => (pcfgs (F := F) p).Adm) 2) .tc) PUnit)
  rewrite [StableHlo.chain_seq_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem main_chain (c : Dev nD) : main (F := F) c = (Pipeline.chain
    [ StableHlo.seq preOps, HostLoop.enter 0, StableHlo.seq midOps, StableHlo.seq midOps2, HostLoop.enter 1, StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, StableHlo.chain_seq_cons, Pipeline.chain_cons, StableHlo.chain_seq_cons]
  chain_rfl

theorem pre_plain : Plain ([preOps] : List (Ops F)) := .cons preOps_sub (hf := List.forall_iff_forall_mem.mp preOps_fresh) .nil
theorem mid_plain : Plain ([midOps, midOps2] : List (Ops F)) :=
  .cons midOps_sub (hf := List.forall_iff_forall_mem.mp midOps_fresh) (.cons midOps2_sub (hf := List.forall_iff_forall_mem.mp midOps2_fresh) .nil)
theorem post_plain : Plain ([postOps] : List (Ops F)) := .cons postOps_sub (hf := List.forall_iff_forall_mem.mp postOps_fresh) .nil

end Cert.ScanRef

end
-- ==== Proof.ScanRefRun.lean ====
module

public import proofs.«01_k».proof.Proof.ScanRefOps
public import Idealize.ShloMosaic.Lib.Quiescent

@[expose] public section

/-! # The run of the scan reference

Every buffer ends at a fold: the operations before the first loop, 2304 trips of it, the operations
between the loops, 2304 trips of the second loop, the operations after it. -/

noncomputable section

namespace Cert.ScanRef

open Cert.ReferenceIdeal Cert.ReferenceIdeal.Gen
open Idealize.ShloMosaic Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-- The buffers at the first loop's entry. -/
def E0 (c : Dev nD) : Valuation τ sig (Elt F) := after preOps (launchContents m c)
/-- The buffers before the first loop's condition runs for the `k`-th time. -/
def A0 (k : ℕ) (c : Dev nD) : Valuation τ sig (Elt F) := atTrip cond0 body0 (E0 m) k c
/-- The buffers when the first loop is left. -/
def X0 (c : Dev nD) : Valuation τ sig (Elt F) := after cond0 (A0 m 2304 c)
/-- The buffers at the second loop's entry. -/
def E1 (c : Dev nD) : Valuation τ sig (Elt F) := after midOps2 (after midOps (X0 m c))
/-- The buffers before the second loop's condition runs for the `k`-th time. -/
def A1 (k : ℕ) (c : Dev nD) : Valuation τ sig (Elt F) := atTrip cond1 body1 (E1 m) k c
/-- The buffers when the second loop is left. -/
def X1 (c : Dev nD) : Valuation τ sig (Elt F) := after cond1 (A1 m 2304 c)
/-- The buffers at the end. -/
def Z (c : Dev nD) : Valuation τ sig (Elt F) := after postOps (X1 m c)

theorem A0_zero (c : Dev nD) : A0 m 0 c = E0 m c := rfl
theorem A0_succ (k : ℕ) (c : Dev nD) : A0 m (k + 1) c = afterL body0 (after cond0 (A0 m k c)) := rfl

/-- A buffer that no stretch of loop 0 writes keeps its contents through a trip. -/
theorem trip0_keep (V : Valuation τ sig (Elt F)) (r : Ref sig .tc) (h : r ∉ cond0_W ++ b0w0_W ++ b0w1_W ++ b0w2_W ++ b0w3_W ++ b0w4_W ++ b0w5_W ++ b0w6_W ++ b0w7_W ++ b0w8_W ++ b0w9_W) :
    afterL body0 (after cond0 V) (Proc.devRef .tc r) = V (Proc.devRef .tc r) := by
  simp only [List.mem_append, not_or] at h
  simp only [body0, afterL_cons, afterL_nil]
  obtain ⟨⟨⟨⟨⟨⟨⟨⟨⟨⟨hc, h0⟩, h1⟩, h2⟩, h3⟩, h4⟩, h5⟩, h6⟩, h7⟩, h8⟩, h9⟩ := h
  rw [b0w9_keep _ r h9, b0w8_keep _ r h8, b0w7_keep _ r h7, b0w6_keep _ r h6, b0w5_keep _ r h5, b0w4_keep _ r h4, b0w3_keep _ r h3, b0w2_keep _ r h2, b0w1_keep _ r h1, b0w0_keep _ r h0, cond0_keep _ r hc]

theorem A0_keep (c : Dev nD) (r : Ref sig .tc) (h : r ∉ cond0_W ++ b0w0_W ++ b0w1_W ++ b0w2_W ++ b0w3_W ++ b0w4_W ++ b0w5_W ++ b0w6_W ++ b0w7_W ++ b0w8_W ++ b0w9_W) :
    ∀ k, A0 m k c (Proc.devRef .tc r) = E0 m c (Proc.devRef .tc r)
  | 0 => rfl
  | k + 1 => by rw [A0_succ, trip0_keep _ r h, A0_keep c r h k]

set_option maxRecDepth 100000 in
theorem ctr0_tail (X : Valuation τ sig (Elt F)) :
    after b0w9 X (Proc.devRef .tc main_v11_4) = addi (X (Proc.devRef .tc main_v11_4)) (constantI S_ 32 1#32) := by
  after_results
  rfl

/-- The counter of loop 0 goes up by one in each trip. -/
theorem ctr0_step (V : Valuation τ sig (Elt F)) :
    afterL body0 (after cond0 V) (Proc.devRef .tc main_v11_4) = addi (V (Proc.devRef .tc main_v11_4)) (constantI S_ 32 1#32) := by
  simp only [body0, afterL_cons, afterL_nil]
  rw [ctr0_tail, b0w8_keep _ main_v11_4 (by decide), b0w7_keep _ main_v11_4 (by decide), b0w6_keep _ main_v11_4 (by decide), b0w5_keep _ main_v11_4 (by decide), b0w4_keep _ main_v11_4 (by decide), b0w3_keep _ main_v11_4 (by decide), b0w2_keep _ main_v11_4 (by decide), b0w1_keep _ main_v11_4 (by decide), b0w0_keep _ main_v11_4 (by decide), cond0_keep _ main_v11_4 (by decide)]

theorem ctr0_entry (c : Dev nD) : E0 m c (Proc.devRef .tc main_v11_4) = fun _ => (0#32 : BitVec 32) := by
  unfold E0
  after_reads_simp
  rfl

theorem ctr0_at (c : Dev nD) : ∀ k, A0 m k c (Proc.devRef .tc main_v11_4) = fun _ => Scf.iv 0#32 1#32 k
  | 0 => by rw [A0_zero, ctr0_entry, Scf.iv_zero]
  | k + 1 => by
    rw [A0_succ, ctr0_step, ctr0_at c k, Scf.iv_succ]
    rfl

set_option backward.isDefEq.respectTransparency.types false in
/-- The condition of loop 0 is true exactly for the first 2304 runs. -/
theorem cond0_spec (Rc : Dev nD → sProp 𝕄) :
    LoopCond (pcfgs (F := F)) defs₀ Variants.none loops Rc (main_while0_cond (F := F)) cond0 body0 (E0 m) 2304 := by
  intro k hk c bd
  have hctr := ctr0_at m c k
  change _ ⊢ _
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A0 m k c) main_v11_4 HostLoop.idx0)
        (HloOp.result _ (A0 m k c) main_while0c_c_23 HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  isplitl [Hh]
  · rw [after_cons, after_cons, after_nil]; iexact Hh
  iexact HR

theorem A1_zero (c : Dev nD) : A1 m 0 c = E1 m c := rfl
theorem A1_succ (k : ℕ) (c : Dev nD) : A1 m (k + 1) c = afterL body1 (after cond1 (A1 m k c)) := rfl

/-- A buffer that no stretch of loop 1 writes keeps its contents through a trip. -/
theorem trip1_keep (V : Valuation τ sig (Elt F)) (r : Ref sig .tc) (h : r ∉ cond1_W ++ b1w0_W ++ b1w1_W ++ b1w2_W ++ b1w3_W ++ b1w4_W ++ b1w5_W ++ b1w6_W ++ b1w7_W ++ b1w8_W ++ b1w9_W ++ b1w10_W ++ b1w11_W ++ b1w12_W) :
    afterL body1 (after cond1 V) (Proc.devRef .tc r) = V (Proc.devRef .tc r) := by
  simp only [List.mem_append, not_or] at h
  simp only [body1, afterL_cons, afterL_nil]
  obtain ⟨⟨⟨⟨⟨⟨⟨⟨⟨⟨⟨⟨⟨hc, h0⟩, h1⟩, h2⟩, h3⟩, h4⟩, h5⟩, h6⟩, h7⟩, h8⟩, h9⟩, h10⟩, h11⟩, h12⟩ := h
  rw [b1w12_keep _ r h12, b1w11_keep _ r h11, b1w10_keep _ r h10, b1w9_keep _ r h9, b1w8_keep _ r h8, b1w7_keep _ r h7, b1w6_keep _ r h6, b1w5_keep _ r h5, b1w4_keep _ r h4, b1w3_keep _ r h3, b1w2_keep _ r h2, b1w1_keep _ r h1, b1w0_keep _ r h0, cond1_keep _ r hc]

theorem A1_keep (c : Dev nD) (r : Ref sig .tc) (h : r ∉ cond1_W ++ b1w0_W ++ b1w1_W ++ b1w2_W ++ b1w3_W ++ b1w4_W ++ b1w5_W ++ b1w6_W ++ b1w7_W ++ b1w8_W ++ b1w9_W ++ b1w10_W ++ b1w11_W ++ b1w12_W) :
    ∀ k, A1 m k c (Proc.devRef .tc r) = E1 m c (Proc.devRef .tc r)
  | 0 => rfl
  | k + 1 => by rw [A1_succ, trip1_keep _ r h, A1_keep c r h k]

set_option maxRecDepth 100000 in
theorem ctr1_tail (X : Valuation τ sig (Elt F)) :
    after b1w12 X (Proc.devRef .tc main_v26_6) = addi (X (Proc.devRef .tc main_v26_6)) (constantI S_ 32 1#32) := by
  after_results
  rfl

/-- The counter of loop 1 goes up by one in each trip. -/
theorem ctr1_step (V : Valuation τ sig (Elt F)) :
    afterL body1 (after cond1 V) (Proc.devRef .tc main_v26_6) = addi (V (Proc.devRef .tc main_v26_6)) (constantI S_ 32 1#32) := by
  simp only [body1, afterL_cons, afterL_nil]
  rw [ctr1_tail, b1w11_keep _ main_v26_6 (by decide), b1w10_keep _ main_v26_6 (by decide), b1w9_keep _ main_v26_6 (by decide), b1w8_keep _ main_v26_6 (by decide), b1w7_keep _ main_v26_6 (by decide), b1w6_keep _ main_v26_6 (by decide), b1w5_keep _ main_v26_6 (by decide), b1w4_keep _ main_v26_6 (by decide), b1w3_keep _ main_v26_6 (by decide), b1w2_keep _ main_v26_6 (by decide), b1w1_keep _ main_v26_6 (by decide), b1w0_keep _ main_v26_6 (by decide), cond1_keep _ main_v26_6 (by decide)]

theorem ctr1_entry (c : Dev nD) : E1 m c (Proc.devRef .tc main_v26_6) = fun _ => (0#32 : BitVec 32) := by
  unfold E1; rw [midOps2_keep _ _ (by decide)]
  after_reads_simp
  rfl

theorem ctr1_at (c : Dev nD) : ∀ k, A1 m k c (Proc.devRef .tc main_v26_6) = fun _ => Scf.iv 0#32 1#32 k
  | 0 => by rw [A1_zero, ctr1_entry, Scf.iv_zero]
  | k + 1 => by
    rw [A1_succ, ctr1_step, ctr1_at c k, Scf.iv_succ]
    rfl

set_option backward.isDefEq.respectTransparency.types false in
/-- The condition of loop 1 is true exactly for the first 2304 runs. -/
theorem cond1_spec (Rc : Dev nD → sProp 𝕄) :
    LoopCond (pcfgs (F := F)) defs₀ Variants.none loops Rc (main_while1_cond (F := F)) cond1 body1 (E1 m) 2304 := by
  intro k hk c bd
  have hctr := ctr1_at m c k
  change _ ⊢ _
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A1 m k c) main_v26_6 HostLoop.idx0)
        (HloOp.result _ (A1 m k c) main_while1c_c_25 HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  isplitl [Hh]
  · rw [after_cons, after_cons, after_nil]; iexact Hh
  iexact HR

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- What rides beside the buffers. -/
abbrev Rw (c : Dev nD) : sProp 𝕄 := iprop(∃ W, owes (c : Thread nD τ) (0 : CellTallies nD τ sig Unit) W)

/-- The program's segments in order. -/
def segs : List (CSeg (pcfgs (F := F)) adm defs₀ Variants.none L lv loops tk) :=
  segsOf _ _ _ _ _ _ _ _ Rw [preOps] pre_plain (launchContents m)
    ++ loopSeg _ _ _ _ _ _ _ _ 0 main_while0_cond main_while0_body rfl cond0 body0 body0_plain body0_chain 2304 (E0 m) Rw (cond0_spec m Rw)
      :: (segsOf _ _ _ _ _ _ _ _ Rw [midOps, midOps2] mid_plain (X0 m)
        ++ loopSeg _ _ _ _ _ _ _ _ 1 main_while1_cond main_while1_body rfl cond1 body1 body1_plain body1_chain 2304 (E1 m) Rw (cond1_spec m Rw)
          :: segsOf _ _ _ _ _ _ _ _ Rw [postOps] post_plain (X1 m))

theorem segs_prog : (segs m).map CSeg.prog
    = [StableHlo.seq preOps, HostLoop.enter 0, StableHlo.seq midOps, StableHlo.seq midOps2, HostLoop.enter 1, StableHlo.seq postOps] := by
  unfold segs
  rw [List.map_append, List.map_cons, List.map_append, List.map_cons, segsOf_prog, segsOf_prog, segsOf_prog]
  rfl

theorem segs_chains :
    CSeg.Chains (fun c => iprop(held (c : Thread nD τ) (ucRefs τ sig) (launchContents m c) ∗ Rw c)) (segs m)
      (fun c => iprop(iprop(held (c : Thread nD τ) (ucRefs τ sig) (Z m c)) ∗ ∃ W, owes (c : Thread nD τ) (0 : CellTallies nD τ sig Unit) W)) := by
  unfold segs
  exact CSeg.Chains.append (segsOf_chains _ _ _ _ _ _ _ _ Rw [preOps] pre_plain _)
    ⟨fun _ => .rfl, CSeg.Chains.append (segsOf_chains _ _ _ _ _ _ _ _ Rw [midOps, midOps2] mid_plain _)
      ⟨fun _ => .rfl, segsOf_chains _ _ _ _ _ _ _ _ Rw [postOps] post_plain _⟩⟩

set_option maxRecDepth 100000 in
/-- The run: every buffer ends at `Z`. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Z m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Z m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HSI⟩
      ihave Hr := (pointsTo_read_all (ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- An argument is written by nothing. -/
theorem Z_keep (c : Dev nD) (r : Ref sig .tc) (h0 : r ∉ preOps_W) (h1 : r ∉ cond0_W ++ b0w0_W ++ b0w1_W ++ b0w2_W ++ b0w3_W ++ b0w4_W ++ b0w5_W ++ b0w6_W ++ b0w7_W ++ b0w8_W ++ b0w9_W) (h2 : r ∉ cond0_W) (h3 : r ∉ midOps_W) (h4 : r ∉ midOps2_W)
    (h5 : r ∉ cond1_W ++ b1w0_W ++ b1w1_W ++ b1w2_W ++ b1w3_W ++ b1w4_W ++ b1w5_W ++ b1w6_W ++ b1w7_W ++ b1w8_W ++ b1w9_W ++ b1w10_W ++ b1w11_W ++ b1w12_W) (h6 : r ∉ cond1_W) (h7 : r ∉ postOps_W) :
    Z m c (Proc.devRef .tc r) = m ((c.tc : Thread nD τ).loc r) := by
  unfold Z
  rw [postOps_keep _ r h7]; unfold X1
  rw [cond1_keep _ r h6, A1_keep m c r h5]; unfold E1
  rw [midOps2_keep _ r h4, midOps_keep _ r h3]; unfold X0
  rw [cond0_keep _ r h2, A0_keep m c r h1]; unfold E0
  rw [preOps_keep _ r h0]

theorem Z_arg0 (c : Dev nD) : Z m c (Proc.devRef .tc main_arg0) = m ((c.tc : Thread nD τ).loc main_arg0) :=
  Z_keep m c main_arg0 (by decide) (by decide) (by decide) (by decide) (by decide) (by decide) (by decide) (by decide)
theorem Z_arg1 (c : Dev nD) : Z m c (Proc.devRef .tc main_arg1) = m ((c.tc : Thread nD τ).loc main_arg1) :=
  Z_keep m c main_arg1 (by decide) (by decide) (by decide) (by decide) (by decide) (by decide) (by decide) (by decide)
theorem Z_arg2 (c : Dev nD) : Z m c (Proc.devRef .tc main_arg2) = m ((c.tc : Thread nD τ).loc main_arg2) :=
  Z_keep m c main_arg2 (by decide) (by decide) (by decide) (by decide) (by decide) (by decide) (by decide) (by decide)
theorem Z_arg3 (c : Dev nD) : Z m c (Proc.devRef .tc main_arg3) = m ((c.tc : Thread nD τ).loc main_arg3) :=
  Z_keep m c main_arg3 (by decide) (by decide) (by decide) (by decide) (by decide) (by decide) (by decide) (by decide)
theorem Z_arg4 (c : Dev nD) : Z m c (Proc.devRef .tc main_arg4) = m ((c.tc : Thread nD τ).loc main_arg4) :=
  Z_keep m c main_arg4 (by decide) (by decide) (by decide) (by decide) (by decide) (by decide) (by decide) (by decide)
theorem Z_arg5 (c : Dev nD) : Z m c (Proc.devRef .tc main_arg5) = m ((c.tc : Thread nD τ).loc main_arg5) :=
  Z_keep m c main_arg5 (by decide) (by decide) (by decide) (by decide) (by decide) (by decide) (by decide) (by decide)

end Cert.ScanRef

end
-- ==== Proof.ScanRefTrip.lean ====
module

public import proofs.«01_k».proof.Proof.ScanRefRun

@[expose] public section

/-! # One trip of each loop of the scan reference

What one trip makes of each buffer the loop carries, from any contents. -/

noncomputable section

namespace Cert.ScanRef

open Cert.ReferenceIdeal Cert.ReferenceIdeal.Gen
open Idealize.ShloMosaic Idealize.ShloMosaic.TcCoe Idealize.ShloMosaic.StableHlo Idealize.ShloMosaic.Tactic

variable {F : FTy → Type} [FloatOps F]

abbrev Arr3 (F : FTy → Type) := (⟨S2304x2x512, .f32⟩ : BufTy).Contents (Elt F)
abbrev Row (F : FTy → Type) := (⟨S2x512, .f32⟩ : BufTy).Contents (Elt F)
abbrev Num (F : FTy → Type) := (⟨S_, .i32⟩ : BufTy).Contents (Elt F)

/-- Row `i` of a sequence. -/
def rowAt (x : Arr3 F) (i : Num F) : Row F :=
  shapeCast S2x512 (Host.dynamicSlice S1x2x512 x (fun k => ((![i, constantI S_ 32 0#32, constantI S_ 32 0#32] : Fin 3 → Num F) k (Shape.Idx.first h_S_)).toInt) sliceFits_S2304x2x512_S1x2x512) shapeCasts_S1x2x512_S2x512

/-- A sequence with its row `i` replaced. -/
def putRow (x : Arr3 F) (r : Row F) (i : Num F) : Arr3 F :=
  Host.dynamicUpdateSlice x (broadcastInDim S1x2x512 ![1, 2] bcast_S2x512_S1x2x512_1_2 r) (fun k => ((![i, constantI S_ 32 0#32, constantI S_ 32 0#32] : Fin 3 → Num F) k (Shape.Idx.first h_S_)).toInt) updateFits_S2304x2x512_S1x2x512

set_option maxRecDepth 8192 in
theorem b0w0_main_while0b_v33 (V : Valuation τ sig (Elt F)) : after b0w0 V (Proc.devRef .tc main_while0b_v33) = rowAt (V (Proc.devRef .tc main_v11_0)) (V (Proc.devRef .tc main_v11_4)) := by
  unfold rowAt
  after_results_entrywise [cast_eq]

set_option maxRecDepth 8192 in
theorem b0w1_main_while0b_v34 (V : Valuation τ sig (Elt F)) : after b0w1 V (Proc.devRef .tc main_while0b_v34) = rowAt (V (Proc.devRef .tc main_v11_1)) (V (Proc.devRef .tc main_v11_4)) := by
  unfold rowAt
  after_results_entrywise [cast_eq]

set_option maxRecDepth 8192 in
theorem b0w2_main_while0b_v35 (V : Valuation τ sig (Elt F)) : after b0w2 V (Proc.devRef .tc main_while0b_v35) = rowAt (V (Proc.devRef .tc main_v11_2)) (V (Proc.devRef .tc main_v11_4)) := by
  unfold rowAt
  after_results_entrywise [cast_eq]

set_option maxRecDepth 8192 in
theorem b0w3_main_while0b_v36 (V : Valuation τ sig (Elt F)) : after b0w3 V (Proc.devRef .tc main_while0b_v36) = rowAt (V (Proc.devRef .tc main_v11_3)) (V (Proc.devRef .tc main_v11_4)) := by
  unfold rowAt
  after_results_entrywise [cast_eq]

set_option maxRecDepth 8192 in
theorem b0w5_main_while0b_v41 (V : Valuation τ sig (Elt F)) : after b0w5 V (Proc.devRef .tc main_while0b_v41) = putRow (V (Proc.devRef .tc main_v11_7)) (V (Proc.devRef .tc main_while0b_v38)) (V (Proc.devRef .tc main_v11_4)) := by
  unfold putRow
  after_results_entrywise [cast_eq]

set_option maxRecDepth 8192 in
theorem b0w6_main_while0b_v42 (V : Valuation τ sig (Elt F)) : after b0w6 V (Proc.devRef .tc main_while0b_v42) = putRow (V (Proc.devRef .tc main_v11_8)) (V (Proc.devRef .tc main_while0b_v40)) (V (Proc.devRef .tc main_v11_4)) := by
  unfold putRow
  after_results_entrywise [cast_eq]

set_option maxRecDepth 8192 in
theorem b0w7_main_while0b_v43 (V : Valuation τ sig (Elt F)) : after b0w7 V (Proc.devRef .tc main_while0b_v43) = putRow (V (Proc.devRef .tc main_v11_9)) (V (Proc.devRef .tc main_v11_5)) (V (Proc.devRef .tc main_v11_4)) := by
  unfold putRow
  after_results_entrywise [cast_eq]

set_option maxRecDepth 8192 in
theorem b0w8_main_while0b_v44 (V : Valuation τ sig (Elt F)) : after b0w8 V (Proc.devRef .tc main_while0b_v44) = putRow (V (Proc.devRef .tc main_v11_10)) (V (Proc.devRef .tc main_v11_6)) (V (Proc.devRef .tc main_v11_4)) := by
  unfold putRow
  after_results_entrywise [cast_eq]

set_option maxRecDepth 8192 in
theorem b1w1_main_while1b_v35 (V : Valuation τ sig (Elt F)) : after b1w1 V (Proc.devRef .tc main_while1b_v35) = rowAt (V (Proc.devRef .tc main_v26_0)) (V (Proc.devRef .tc main_while1b_v34)) := by
  unfold rowAt
  after_results_entrywise [cast_eq]

set_option maxRecDepth 8192 in
theorem b1w2_main_while1b_v36 (V : Valuation τ sig (Elt F)) : after b1w2 V (Proc.devRef .tc main_while1b_v36) = rowAt (V (Proc.devRef .tc main_v26_1)) (V (Proc.devRef .tc main_while1b_v34)) := by
  unfold rowAt
  after_results_entrywise [cast_eq]

set_option maxRecDepth 8192 in
theorem b1w3_main_while1b_v37 (V : Valuation τ sig (Elt F)) : after b1w3 V (Proc.devRef .tc main_while1b_v37) = rowAt (V (Proc.devRef .tc main_v26_2)) (V (Proc.devRef .tc main_while1b_v34)) := by
  unfold rowAt
  after_results_entrywise [cast_eq]

set_option maxRecDepth 8192 in
theorem b1w4_main_while1b_v38 (V : Valuation τ sig (Elt F)) : after b1w4 V (Proc.devRef .tc main_while1b_v38) = rowAt (V (Proc.devRef .tc main_v26_3)) (V (Proc.devRef .tc main_while1b_v34)) := by
  unfold rowAt
  after_results_entrywise [cast_eq]

set_option maxRecDepth 8192 in
theorem b1w5_main_while1b_v39 (V : Valuation τ sig (Elt F)) : after b1w5 V (Proc.devRef .tc main_while1b_v39) = rowAt (V (Proc.devRef .tc main_v26_4)) (V (Proc.devRef .tc main_while1b_v34)) := by
  unfold rowAt
  after_results_entrywise [cast_eq]

set_option maxRecDepth 8192 in
theorem b1w6_main_while1b_v40 (V : Valuation τ sig (Elt F)) : after b1w6 V (Proc.devRef .tc main_while1b_v40) = rowAt (V (Proc.devRef .tc main_v26_5)) (V (Proc.devRef .tc main_while1b_v34)) := by
  unfold rowAt
  after_results_entrywise [cast_eq]

set_option maxRecDepth 8192 in
theorem b1w8_main_while1b_v47 (V : Valuation τ sig (Elt F)) : after b1w8 V (Proc.devRef .tc main_while1b_v47) = putRow (V (Proc.devRef .tc main_v26_9)) (V (Proc.devRef .tc main_while1b_v46)) (V (Proc.devRef .tc main_while1b_v34)) := by
  unfold putRow
  after_results_entrywise [cast_eq]

set_option maxRecDepth 8192 in
theorem b1w9_main_while1b_v48 (V : Valuation τ sig (Elt F)) : after b1w9 V (Proc.devRef .tc main_while1b_v48) = putRow (V (Proc.devRef .tc main_v26_10)) (V (Proc.devRef .tc main_while1b_v41)) (V (Proc.devRef .tc main_while1b_v34)) := by
  unfold putRow
  after_results_entrywise [cast_eq]

set_option maxRecDepth 8192 in
theorem b1w10_main_while1b_v49 (V : Valuation τ sig (Elt F)) : after b1w10 V (Proc.devRef .tc main_while1b_v49) = putRow (V (Proc.devRef .tc main_v26_11)) (V (Proc.devRef .tc main_while1b_v44)) (V (Proc.devRef .tc main_while1b_v34)) := by
  unfold putRow
  after_results_entrywise [cast_eq]

set_option maxRecDepth 8192 in
theorem b1w11_main_while1b_v50 (V : Valuation τ sig (Elt F)) : after b1w11 V (Proc.devRef .tc main_while1b_v50) = putRow (V (Proc.devRef .tc main_v26_12)) (V (Proc.devRef .tc main_while1b_v42)) (V (Proc.devRef .tc main_while1b_v34)) := by
  unfold putRow
  after_results_entrywise [cast_eq]

set_option maxRecDepth 8192 in
theorem b0w4_main_while0b_v38 (V : Valuation τ sig (Elt F)) : after b0w4 V (Proc.devRef .tc main_while0b_v38) = addf (mulf (V (Proc.devRef .tc main_while0b_v33)) (V (Proc.devRef .tc main_v11_5))) (V (Proc.devRef .tc main_while0b_v34)) := by
  after_results_entrywise [id_eq]

set_option maxRecDepth 8192 in
theorem b0w4_main_while0b_v40 (V : Valuation τ sig (Elt F)) : after b0w4 V (Proc.devRef .tc main_while0b_v40) = addf (mulf (V (Proc.devRef .tc main_while0b_v35)) (V (Proc.devRef .tc main_v11_6))) (V (Proc.devRef .tc main_while0b_v36)) := by
  after_results_entrywise [id_eq]

set_option maxRecDepth 8192 in
theorem b0w9_main_v11_5 (V : Valuation τ sig (Elt F)) : after b0w9 V (Proc.devRef .tc main_v11_5) = (V (Proc.devRef .tc main_while0b_v38)) := by
  after_results_entrywise [id_eq]

set_option maxRecDepth 8192 in
theorem b0w9_main_v11_6 (V : Valuation τ sig (Elt F)) : after b0w9 V (Proc.devRef .tc main_v11_6) = (V (Proc.devRef .tc main_while0b_v40)) := by
  after_results_entrywise [id_eq]

set_option maxRecDepth 8192 in
theorem b0w9_main_v11_7 (V : Valuation τ sig (Elt F)) : after b0w9 V (Proc.devRef .tc main_v11_7) = (V (Proc.devRef .tc main_while0b_v41)) := by
  after_results_entrywise [id_eq]

set_option maxRecDepth 8192 in
theorem b0w9_main_v11_8 (V : Valuation τ sig (Elt F)) : after b0w9 V (Proc.devRef .tc main_v11_8) = (V (Proc.devRef .tc main_while0b_v42)) := by
  after_results_entrywise [id_eq]

set_option maxRecDepth 8192 in
theorem b0w9_main_v11_9 (V : Valuation τ sig (Elt F)) : after b0w9 V (Proc.devRef .tc main_v11_9) = (V (Proc.devRef .tc main_while0b_v43)) := by
  after_results_entrywise [id_eq]

set_option maxRecDepth 8192 in
theorem b0w9_main_v11_10 (V : Valuation τ sig (Elt F)) : after b0w9 V (Proc.devRef .tc main_v11_10) = (V (Proc.devRef .tc main_while0b_v44)) := by
  after_results_entrywise [id_eq]

set_option maxRecDepth 8192 in
theorem b1w0_main_while1b_v34 (V : Valuation τ sig (Elt F)) : after b1w0 V (Proc.devRef .tc main_while1b_v34) = subi (subi (constantI S_ 32 2304#32) (V (Proc.devRef .tc main_v26_6))) (constantI S_ 32 1#32) := by
  after_results_entrywise [id_eq]

set_option maxRecDepth 8192 in
theorem b1w7_main_while1b_v41 (V : Valuation τ sig (Elt F)) : after b1w7 V (Proc.devRef .tc main_while1b_v41) = addf (V (Proc.devRef .tc main_v26_7)) (V (Proc.devRef .tc main_while1b_v35)) := by
  after_results_entrywise [id_eq]

set_option maxRecDepth 8192 in
theorem b1w7_main_while1b_v42 (V : Valuation τ sig (Elt F)) : after b1w7 V (Proc.devRef .tc main_while1b_v42) = addf (V (Proc.devRef .tc main_v26_8)) (V (Proc.devRef .tc main_while1b_v36)) := by
  after_results_entrywise [id_eq]

set_option maxRecDepth 8192 in
theorem b1w7_main_while1b_v43 (V : Valuation τ sig (Elt F)) : after b1w7 V (Proc.devRef .tc main_while1b_v43) = mulf (V (Proc.devRef .tc main_while1b_v40)) (addf (V (Proc.devRef .tc main_v26_8)) (V (Proc.devRef .tc main_while1b_v36))) := by
  after_results_entrywise [id_eq]

set_option maxRecDepth 8192 in
theorem b1w7_main_while1b_v44 (V : Valuation τ sig (Elt F)) : after b1w7 V (Proc.devRef .tc main_while1b_v44) = mulf (addf (V (Proc.devRef .tc main_v26_8)) (V (Proc.devRef .tc main_while1b_v36))) (V (Proc.devRef .tc main_while1b_v39)) := by
  after_results_entrywise [id_eq]

set_option maxRecDepth 8192 in
theorem b1w7_main_while1b_v45 (V : Valuation τ sig (Elt F)) : after b1w7 V (Proc.devRef .tc main_while1b_v45) = mulf (V (Proc.devRef .tc main_while1b_v38)) (addf (V (Proc.devRef .tc main_v26_7)) (V (Proc.devRef .tc main_while1b_v35))) := by
  after_results_entrywise [id_eq]

set_option maxRecDepth 8192 in
theorem b1w7_main_while1b_v46 (V : Valuation τ sig (Elt F)) : after b1w7 V (Proc.devRef .tc main_while1b_v46) = mulf (addf (V (Proc.devRef .tc main_v26_7)) (V (Proc.devRef .tc main_while1b_v35))) (V (Proc.devRef .tc main_while1b_v37)) := by
  after_results_entrywise [id_eq]

set_option maxRecDepth 8192 in
theorem b1w12_main_v26_7 (V : Valuation τ sig (Elt F)) : after b1w12 V (Proc.devRef .tc main_v26_7) = (V (Proc.devRef .tc main_while1b_v45)) := by
  after_results_entrywise [id_eq]

set_option maxRecDepth 8192 in
theorem b1w12_main_v26_8 (V : Valuation τ sig (Elt F)) : after b1w12 V (Proc.devRef .tc main_v26_8) = (V (Proc.devRef .tc main_while1b_v43)) := by
  after_results_entrywise [id_eq]

set_option maxRecDepth 8192 in
theorem b1w12_main_v26_9 (V : Valuation τ sig (Elt F)) : after b1w12 V (Proc.devRef .tc main_v26_9) = (V (Proc.devRef .tc main_while1b_v47)) := by
  after_results_entrywise [id_eq]

set_option maxRecDepth 8192 in
theorem b1w12_main_v26_10 (V : Valuation τ sig (Elt F)) : after b1w12 V (Proc.devRef .tc main_v26_10) = (V (Proc.devRef .tc main_while1b_v48)) := by
  after_results_entrywise [id_eq]

set_option maxRecDepth 8192 in
theorem b1w12_main_v26_11 (V : Valuation τ sig (Elt F)) : after b1w12 V (Proc.devRef .tc main_v26_11) = (V (Proc.devRef .tc main_while1b_v49)) := by
  after_results_entrywise [id_eq]

set_option maxRecDepth 8192 in
theorem b1w12_main_v26_12 (V : Valuation τ sig (Elt F)) : after b1w12 V (Proc.devRef .tc main_v26_12) = (V (Proc.devRef .tc main_while1b_v50)) := by
  after_results_entrywise [id_eq]

set_option maxRecDepth 8192 in
theorem trip0_main_v11_5 (V : Valuation τ sig (Elt F)) : afterL body0 (after cond0 V) (Proc.devRef .tc main_v11_5) = addf (mulf (rowAt (V (Proc.devRef .tc main_v11_0)) (V (Proc.devRef .tc main_v11_4))) (V (Proc.devRef .tc main_v11_5))) (rowAt (V (Proc.devRef .tc main_v11_1)) (V (Proc.devRef .tc main_v11_4))) := by
  simp only [body0, afterL_cons, afterL_nil]
  rw [b0w9_main_v11_5, b0w8_keep _ main_while0b_v38 (by decide), b0w7_keep _ main_while0b_v38 (by decide), b0w6_keep _ main_while0b_v38 (by decide), b0w5_keep _ main_while0b_v38 (by decide), b0w4_main_while0b_v38, b0w3_keep _ main_while0b_v33 (by decide), b0w3_keep _ main_v11_5 (by decide), b0w3_keep _ main_while0b_v34 (by decide), b0w2_keep _ main_while0b_v33 (by decide), b0w2_keep _ main_v11_5 (by decide), b0w2_keep _ main_while0b_v34 (by decide), b0w1_keep _ main_while0b_v33 (by decide), b0w1_keep _ main_v11_5 (by decide), b0w1_main_while0b_v34, b0w0_main_while0b_v33, b0w0_keep _ main_v11_5 (by decide), b0w0_keep _ main_v11_1 (by decide), b0w0_keep _ main_v11_4 (by decide), cond0_keep _ main_v11_0 (by decide), cond0_keep _ main_v11_4 (by decide), cond0_keep _ main_v11_5 (by decide), cond0_keep _ main_v11_1 (by decide)]

set_option maxRecDepth 8192 in
theorem trip0_main_v11_6 (V : Valuation τ sig (Elt F)) : afterL body0 (after cond0 V) (Proc.devRef .tc main_v11_6) = addf (mulf (rowAt (V (Proc.devRef .tc main_v11_2)) (V (Proc.devRef .tc main_v11_4))) (V (Proc.devRef .tc main_v11_6))) (rowAt (V (Proc.devRef .tc main_v11_3)) (V (Proc.devRef .tc main_v11_4))) := by
  simp only [body0, afterL_cons, afterL_nil]
  rw [b0w9_main_v11_6, b0w8_keep _ main_while0b_v40 (by decide), b0w7_keep _ main_while0b_v40 (by decide), b0w6_keep _ main_while0b_v40 (by decide), b0w5_keep _ main_while0b_v40 (by decide), b0w4_main_while0b_v40, b0w3_keep _ main_while0b_v35 (by decide), b0w3_keep _ main_v11_6 (by decide), b0w3_main_while0b_v36, b0w2_main_while0b_v35, b0w2_keep _ main_v11_6 (by decide), b0w2_keep _ main_v11_3 (by decide), b0w2_keep _ main_v11_4 (by decide), b0w1_keep _ main_v11_2 (by decide), b0w1_keep _ main_v11_4 (by decide), b0w1_keep _ main_v11_6 (by decide), b0w1_keep _ main_v11_3 (by decide), b0w0_keep _ main_v11_2 (by decide), b0w0_keep _ main_v11_4 (by decide), b0w0_keep _ main_v11_6 (by decide), b0w0_keep _ main_v11_3 (by decide), cond0_keep _ main_v11_2 (by decide), cond0_keep _ main_v11_4 (by decide), cond0_keep _ main_v11_6 (by decide), cond0_keep _ main_v11_3 (by decide)]

set_option maxRecDepth 8192 in
theorem trip0_main_v11_7 (V : Valuation τ sig (Elt F)) : afterL body0 (after cond0 V) (Proc.devRef .tc main_v11_7) = putRow (V (Proc.devRef .tc main_v11_7)) (addf (mulf (rowAt (V (Proc.devRef .tc main_v11_0)) (V (Proc.devRef .tc main_v11_4))) (V (Proc.devRef .tc main_v11_5))) (rowAt (V (Proc.devRef .tc main_v11_1)) (V (Proc.devRef .tc main_v11_4)))) (V (Proc.devRef .tc main_v11_4)) := by
  simp only [body0, afterL_cons, afterL_nil]
  rw [b0w9_main_v11_7, b0w8_keep _ main_while0b_v41 (by decide), b0w7_keep _ main_while0b_v41 (by decide), b0w6_keep _ main_while0b_v41 (by decide), b0w5_main_while0b_v41, b0w4_keep _ main_v11_7 (by decide), b0w4_main_while0b_v38, b0w4_keep _ main_v11_4 (by decide), b0w3_keep _ main_v11_7 (by decide), b0w3_keep _ main_while0b_v33 (by decide), b0w3_keep _ main_v11_5 (by decide), b0w3_keep _ main_while0b_v34 (by decide), b0w3_keep _ main_v11_4 (by decide), b0w2_keep _ main_v11_7 (by decide), b0w2_keep _ main_while0b_v33 (by decide), b0w2_keep _ main_v11_5 (by decide), b0w2_keep _ main_while0b_v34 (by decide), b0w2_keep _ main_v11_4 (by decide), b0w1_keep _ main_v11_7 (by decide), b0w1_keep _ main_while0b_v33 (by decide), b0w1_keep _ main_v11_5 (by decide), b0w1_main_while0b_v34, b0w1_keep _ main_v11_4 (by decide), b0w0_keep _ main_v11_7 (by decide), b0w0_main_while0b_v33, b0w0_keep _ main_v11_5 (by decide), b0w0_keep _ main_v11_1 (by decide), b0w0_keep _ main_v11_4 (by decide), cond0_keep _ main_v11_7 (by decide), cond0_keep _ main_v11_0 (by decide), cond0_keep _ main_v11_4 (by decide), cond0_keep _ main_v11_5 (by decide), cond0_keep _ main_v11_1 (by decide)]

set_option maxRecDepth 8192 in
theorem trip0_main_v11_8 (V : Valuation τ sig (Elt F)) : afterL body0 (after cond0 V) (Proc.devRef .tc main_v11_8) = putRow (V (Proc.devRef .tc main_v11_8)) (addf (mulf (rowAt (V (Proc.devRef .tc main_v11_2)) (V (Proc.devRef .tc main_v11_4))) (V (Proc.devRef .tc main_v11_6))) (rowAt (V (Proc.devRef .tc main_v11_3)) (V (Proc.devRef .tc main_v11_4)))) (V (Proc.devRef .tc main_v11_4)) := by
  simp only [body0, afterL_cons, afterL_nil]
  rw [b0w9_main_v11_8, b0w8_keep _ main_while0b_v42 (by decide), b0w7_keep _ main_while0b_v42 (by decide), b0w6_main_while0b_v42, b0w5_keep _ main_v11_8 (by decide), b0w5_keep _ main_while0b_v40 (by decide), b0w5_keep _ main_v11_4 (by decide), b0w4_keep _ main_v11_8 (by decide), b0w4_main_while0b_v40, b0w4_keep _ main_v11_4 (by decide), b0w3_keep _ main_v11_8 (by decide), b0w3_keep _ main_while0b_v35 (by decide), b0w3_keep _ main_v11_6 (by decide), b0w3_main_while0b_v36, b0w3_keep _ main_v11_4 (by decide), b0w2_keep _ main_v11_8 (by decide), b0w2_main_while0b_v35, b0w2_keep _ main_v11_6 (by decide), b0w2_keep _ main_v11_3 (by decide), b0w2_keep _ main_v11_4 (by decide), b0w1_keep _ main_v11_8 (by decide), b0w1_keep _ main_v11_2 (by decide), b0w1_keep _ main_v11_4 (by decide), b0w1_keep _ main_v11_6 (by decide), b0w1_keep _ main_v11_3 (by decide), b0w0_keep _ main_v11_8 (by decide), b0w0_keep _ main_v11_2 (by decide), b0w0_keep _ main_v11_4 (by decide), b0w0_keep _ main_v11_6 (by decide), b0w0_keep _ main_v11_3 (by decide), cond0_keep _ main_v11_8 (by decide), cond0_keep _ main_v11_2 (by decide), cond0_keep _ main_v11_4 (by decide), cond0_keep _ main_v11_6 (by decide), cond0_keep _ main_v11_3 (by decide)]

set_option maxRecDepth 8192 in
theorem trip0_main_v11_9 (V : Valuation τ sig (Elt F)) : afterL body0 (after cond0 V) (Proc.devRef .tc main_v11_9) = putRow (V (Proc.devRef .tc main_v11_9)) (V (Proc.devRef .tc main_v11_5)) (V (Proc.devRef .tc main_v11_4)) := by
  simp only [body0, afterL_cons, afterL_nil]
  rw [b0w9_main_v11_9, b0w8_keep _ main_while0b_v43 (by decide), b0w7_main_while0b_v43, b0w6_keep _ main_v11_9 (by decide), b0w6_keep _ main_v11_5 (by decide), b0w6_keep _ main_v11_4 (by decide), b0w5_keep _ main_v11_9 (by decide), b0w5_keep _ main_v11_5 (by decide), b0w5_keep _ main_v11_4 (by decide), b0w4_keep _ main_v11_9 (by decide), b0w4_keep _ main_v11_5 (by decide), b0w4_keep _ main_v11_4 (by decide), b0w3_keep _ main_v11_9 (by decide), b0w3_keep _ main_v11_5 (by decide), b0w3_keep _ main_v11_4 (by decide), b0w2_keep _ main_v11_9 (by decide), b0w2_keep _ main_v11_5 (by decide), b0w2_keep _ main_v11_4 (by decide), b0w1_keep _ main_v11_9 (by decide), b0w1_keep _ main_v11_5 (by decide), b0w1_keep _ main_v11_4 (by decide), b0w0_keep _ main_v11_9 (by decide), b0w0_keep _ main_v11_5 (by decide), b0w0_keep _ main_v11_4 (by decide), cond0_keep _ main_v11_9 (by decide), cond0_keep _ main_v11_5 (by decide), cond0_keep _ main_v11_4 (by decide)]

set_option maxRecDepth 8192 in
theorem trip0_main_v11_10 (V : Valuation τ sig (Elt F)) : afterL body0 (after cond0 V) (Proc.devRef .tc main_v11_10) = putRow (V (Proc.devRef .tc main_v11_10)) (V (Proc.devRef .tc main_v11_6)) (V (Proc.devRef .tc main_v11_4)) := by
  simp only [body0, afterL_cons, afterL_nil]
  rw [b0w9_main_v11_10, b0w8_main_while0b_v44, b0w7_keep _ main_v11_10 (by decide), b0w7_keep _ main_v11_6 (by decide), b0w7_keep _ main_v11_4 (by decide), b0w6_keep _ main_v11_10 (by decide), b0w6_keep _ main_v11_6 (by decide), b0w6_keep _ main_v11_4 (by decide), b0w5_keep _ main_v11_10 (by decide), b0w5_keep _ main_v11_6 (by decide), b0w5_keep _ main_v11_4 (by decide), b0w4_keep _ main_v11_10 (by decide), b0w4_keep _ main_v11_6 (by decide), b0w4_keep _ main_v11_4 (by decide), b0w3_keep _ main_v11_10 (by decide), b0w3_keep _ main_v11_6 (by decide), b0w3_keep _ main_v11_4 (by decide), b0w2_keep _ main_v11_10 (by decide), b0w2_keep _ main_v11_6 (by decide), b0w2_keep _ main_v11_4 (by decide), b0w1_keep _ main_v11_10 (by decide), b0w1_keep _ main_v11_6 (by decide), b0w1_keep _ main_v11_4 (by decide), b0w0_keep _ main_v11_10 (by decide), b0w0_keep _ main_v11_6 (by decide), b0w0_keep _ main_v11_4 (by decide), cond0_keep _ main_v11_10 (by decide), cond0_keep _ main_v11_6 (by decide), cond0_keep _ main_v11_4 (by decide)]

/-- The row the second loop works on in trip `i`: the rows are taken from the last to the first. -/
def backIdx (i : Num F) : Num F := subi (subi (constantI S_ 32 2304#32) i) (constantI S_ 32 1#32)

set_option maxRecDepth 8192 in
theorem trip1_main_v26_7 (V : Valuation τ sig (Elt F)) : afterL body1 (after cond1 V) (Proc.devRef .tc main_v26_7) = mulf (rowAt (V (Proc.devRef .tc main_v26_3)) (backIdx (V (Proc.devRef .tc main_v26_6)))) (addf (V (Proc.devRef .tc main_v26_7)) (rowAt (V (Proc.devRef .tc main_v26_0)) (backIdx (V (Proc.devRef .tc main_v26_6))))) := by
  unfold backIdx
  simp only [body1, afterL_cons, afterL_nil]
  rw [b1w12_main_v26_7, b1w11_keep _ main_while1b_v45 (by decide), b1w10_keep _ main_while1b_v45 (by decide), b1w9_keep _ main_while1b_v45 (by decide), b1w8_keep _ main_while1b_v45 (by decide), b1w7_main_while1b_v45, b1w6_keep _ main_while1b_v38 (by decide), b1w6_keep _ main_v26_7 (by decide), b1w6_keep _ main_while1b_v35 (by decide), b1w5_keep _ main_while1b_v38 (by decide), b1w5_keep _ main_v26_7 (by decide), b1w5_keep _ main_while1b_v35 (by decide), b1w4_main_while1b_v38, b1w4_keep _ main_v26_7 (by decide), b1w4_keep _ main_while1b_v35 (by decide), b1w3_keep _ main_v26_3 (by decide), b1w3_keep _ main_while1b_v34 (by decide), b1w3_keep _ main_v26_7 (by decide), b1w3_keep _ main_while1b_v35 (by decide), b1w2_keep _ main_v26_3 (by decide), b1w2_keep _ main_while1b_v34 (by decide), b1w2_keep _ main_v26_7 (by decide), b1w2_keep _ main_while1b_v35 (by decide), b1w1_keep _ main_v26_3 (by decide), b1w1_keep _ main_while1b_v34 (by decide), b1w1_keep _ main_v26_7 (by decide), b1w1_main_while1b_v35, b1w0_keep _ main_v26_3 (by decide), b1w0_main_while1b_v34, b1w0_keep _ main_v26_7 (by decide), b1w0_keep _ main_v26_0 (by decide), cond1_keep _ main_v26_3 (by decide), cond1_keep _ main_v26_6 (by decide), cond1_keep _ main_v26_7 (by decide), cond1_keep _ main_v26_0 (by decide)]

set_option maxRecDepth 8192 in
theorem trip1_main_v26_8 (V : Valuation τ sig (Elt F)) : afterL body1 (after cond1 V) (Proc.devRef .tc main_v26_8) = mulf (rowAt (V (Proc.devRef .tc main_v26_5)) (backIdx (V (Proc.devRef .tc main_v26_6)))) (addf (V (Proc.devRef .tc main_v26_8)) (rowAt (V (Proc.devRef .tc main_v26_1)) (backIdx (V (Proc.devRef .tc main_v26_6))))) := by
  unfold backIdx
  simp only [body1, afterL_cons, afterL_nil]
  rw [b1w12_main_v26_8, b1w11_keep _ main_while1b_v43 (by decide), b1w10_keep _ main_while1b_v43 (by decide), b1w9_keep _ main_while1b_v43 (by decide), b1w8_keep _ main_while1b_v43 (by decide), b1w7_main_while1b_v43, b1w6_main_while1b_v40, b1w6_keep _ main_v26_8 (by decide), b1w6_keep _ main_while1b_v36 (by decide), b1w5_keep _ main_v26_5 (by decide), b1w5_keep _ main_while1b_v34 (by decide), b1w5_keep _ main_v26_8 (by decide), b1w5_keep _ main_while1b_v36 (by decide), b1w4_keep _ main_v26_5 (by decide), b1w4_keep _ main_while1b_v34 (by decide), b1w4_keep _ main_v26_8 (by decide), b1w4_keep _ main_while1b_v36 (by decide), b1w3_keep _ main_v26_5 (by decide), b1w3_keep _ main_while1b_v34 (by decide), b1w3_keep _ main_v26_8 (by decide), b1w3_keep _ main_while1b_v36 (by decide), b1w2_keep _ main_v26_5 (by decide), b1w2_keep _ main_while1b_v34 (by decide), b1w2_keep _ main_v26_8 (by decide), b1w2_main_while1b_v36, b1w1_keep _ main_v26_5 (by decide), b1w1_keep _ main_while1b_v34 (by decide), b1w1_keep _ main_v26_8 (by decide), b1w1_keep _ main_v26_1 (by decide), b1w0_keep _ main_v26_5 (by decide), b1w0_main_while1b_v34, b1w0_keep _ main_v26_8 (by decide), b1w0_keep _ main_v26_1 (by decide), cond1_keep _ main_v26_5 (by decide), cond1_keep _ main_v26_6 (by decide), cond1_keep _ main_v26_8 (by decide), cond1_keep _ main_v26_1 (by decide)]

set_option maxRecDepth 8192 in
theorem trip1_main_v26_9 (V : Valuation τ sig (Elt F)) : afterL body1 (after cond1 V) (Proc.devRef .tc main_v26_9) = putRow (V (Proc.devRef .tc main_v26_9)) (mulf (addf (V (Proc.devRef .tc main_v26_7)) (rowAt (V (Proc.devRef .tc main_v26_0)) (backIdx (V (Proc.devRef .tc main_v26_6))))) (rowAt (V (Proc.devRef .tc main_v26_2)) (backIdx (V (Proc.devRef .tc main_v26_6))))) (backIdx (V (Proc.devRef .tc main_v26_6))) := by
  unfold backIdx
  simp only [body1, afterL_cons, afterL_nil]
  rw [b1w12_main_v26_9, b1w11_keep _ main_while1b_v47 (by decide), b1w10_keep _ main_while1b_v47 (by decide), b1w9_keep _ main_while1b_v47 (by decide), b1w8_main_while1b_v47, b1w7_keep _ main_v26_9 (by decide), b1w7_main_while1b_v46, b1w7_keep _ main_while1b_v34 (by decide), b1w6_keep _ main_v26_9 (by decide), b1w6_keep _ main_v26_7 (by decide), b1w6_keep _ main_while1b_v35 (by decide), b1w6_keep _ main_while1b_v37 (by decide), b1w6_keep _ main_while1b_v34 (by decide), b1w5_keep _ main_v26_9 (by decide), b1w5_keep _ main_v26_7 (by decide), b1w5_keep _ main_while1b_v35 (by decide), b1w5_keep _ main_while1b_v37 (by decide), b1w5_keep _ main_while1b_v34 (by decide), b1w4_keep _ main_v26_9 (by decide), b1w4_keep _ main_v26_7 (by decide), b1w4_keep _ main_while1b_v35 (by decide), b1w4_keep _ main_while1b_v37 (by decide), b1w4_keep _ main_while1b_v34 (by decide), b1w3_keep _ main_v26_9 (by decide), b1w3_keep _ main_v26_7 (by decide), b1w3_keep _ main_while1b_v35 (by decide), b1w3_main_while1b_v37, b1w3_keep _ main_while1b_v34 (by decide), b1w2_keep _ main_v26_9 (by decide), b1w2_keep _ main_v26_7 (by decide), b1w2_keep _ main_while1b_v35 (by decide), b1w2_keep _ main_v26_2 (by decide), b1w2_keep _ main_while1b_v34 (by decide), b1w1_keep _ main_v26_9 (by decide), b1w1_keep _ main_v26_7 (by decide), b1w1_main_while1b_v35, b1w1_keep _ main_v26_2 (by decide), b1w1_keep _ main_while1b_v34 (by decide), b1w0_keep _ main_v26_9 (by decide), b1w0_keep _ main_v26_7 (by decide), b1w0_keep _ main_v26_0 (by decide), b1w0_main_while1b_v34, b1w0_keep _ main_v26_2 (by decide), cond1_keep _ main_v26_9 (by decide), cond1_keep _ main_v26_7 (by decide), cond1_keep _ main_v26_0 (by decide), cond1_keep _ main_v26_6 (by decide), cond1_keep _ main_v26_2 (by decide)]

set_option maxRecDepth 8192 in
theorem trip1_main_v26_10 (V : Valuation τ sig (Elt F)) : afterL body1 (after cond1 V) (Proc.devRef .tc main_v26_10) = putRow (V (Proc.devRef .tc main_v26_10)) (addf (V (Proc.devRef .tc main_v26_7)) (rowAt (V (Proc.devRef .tc main_v26_0)) (backIdx (V (Proc.devRef .tc main_v26_6))))) (backIdx (V (Proc.devRef .tc main_v26_6))) := by
  unfold backIdx
  simp only [body1, afterL_cons, afterL_nil]
  rw [b1w12_main_v26_10, b1w11_keep _ main_while1b_v48 (by decide), b1w10_keep _ main_while1b_v48 (by decide), b1w9_main_while1b_v48, b1w8_keep _ main_v26_10 (by decide), b1w8_keep _ main_while1b_v41 (by decide), b1w8_keep _ main_while1b_v34 (by decide), b1w7_keep _ main_v26_10 (by decide), b1w7_main_while1b_v41, b1w7_keep _ main_while1b_v34 (by decide), b1w6_keep _ main_v26_10 (by decide), b1w6_keep _ main_v26_7 (by decide), b1w6_keep _ main_while1b_v35 (by decide), b1w6_keep _ main_while1b_v34 (by decide), b1w5_keep _ main_v26_10 (by decide), b1w5_keep _ main_v26_7 (by decide), b1w5_keep _ main_while1b_v35 (by decide), b1w5_keep _ main_while1b_v34 (by decide), b1w4_keep _ main_v26_10 (by decide), b1w4_keep _ main_v26_7 (by decide), b1w4_keep _ main_while1b_v35 (by decide), b1w4_keep _ main_while1b_v34 (by decide), b1w3_keep _ main_v26_10 (by decide), b1w3_keep _ main_v26_7 (by decide), b1w3_keep _ main_while1b_v35 (by decide), b1w3_keep _ main_while1b_v34 (by decide), b1w2_keep _ main_v26_10 (by decide), b1w2_keep _ main_v26_7 (by decide), b1w2_keep _ main_while1b_v35 (by decide), b1w2_keep _ main_while1b_v34 (by decide), b1w1_keep _ main_v26_10 (by decide), b1w1_keep _ main_v26_7 (by decide), b1w1_main_while1b_v35, b1w1_keep _ main_while1b_v34 (by decide), b1w0_keep _ main_v26_10 (by decide), b1w0_keep _ main_v26_7 (by decide), b1w0_keep _ main_v26_0 (by decide), b1w0_main_while1b_v34, cond1_keep _ main_v26_10 (by decide), cond1_keep _ main_v26_7 (by decide), cond1_keep _ main_v26_0 (by decide), cond1_keep _ main_v26_6 (by decide)]

set_option maxRecDepth 8192 in
theorem trip1_main_v26_11 (V : Valuation τ sig (Elt F)) : afterL body1 (after cond1 V) (Proc.devRef .tc main_v26_11) = putRow (V (Proc.devRef .tc main_v26_11)) (mulf (addf (V (Proc.devRef .tc main_v26_8)) (rowAt (V (Proc.devRef .tc main_v26_1)) (backIdx (V (Proc.devRef .tc main_v26_6))))) (rowAt (V (Proc.devRef .tc main_v26_4)) (backIdx (V (Proc.devRef .tc main_v26_6))))) (backIdx (V (Proc.devRef .tc main_v26_6))) := by
  unfold backIdx
  simp only [body1, afterL_cons, afterL_nil]
  rw [b1w12_main_v26_11, b1w11_keep _ main_while1b_v49 (by decide), b1w10_main_while1b_v49, b1w9_keep _ main_v26_11 (by decide), b1w9_keep _ main_while1b_v44 (by decide), b1w9_keep _ main_while1b_v34 (by decide), b1w8_keep _ main_v26_11 (by decide), b1w8_keep _ main_while1b_v44 (by decide), b1w8_keep _ main_while1b_v34 (by decide), b1w7_keep _ main_v26_11 (by decide), b1w7_main_while1b_v44, b1w7_keep _ main_while1b_v34 (by decide), b1w6_keep _ main_v26_11 (by decide), b1w6_keep _ main_v26_8 (by decide), b1w6_keep _ main_while1b_v36 (by decide), b1w6_keep _ main_while1b_v39 (by decide), b1w6_keep _ main_while1b_v34 (by decide), b1w5_keep _ main_v26_11 (by decide), b1w5_keep _ main_v26_8 (by decide), b1w5_keep _ main_while1b_v36 (by decide), b1w5_main_while1b_v39, b1w5_keep _ main_while1b_v34 (by decide), b1w4_keep _ main_v26_11 (by decide), b1w4_keep _ main_v26_8 (by decide), b1w4_keep _ main_while1b_v36 (by decide), b1w4_keep _ main_v26_4 (by decide), b1w4_keep _ main_while1b_v34 (by decide), b1w3_keep _ main_v26_11 (by decide), b1w3_keep _ main_v26_8 (by decide), b1w3_keep _ main_while1b_v36 (by decide), b1w3_keep _ main_v26_4 (by decide), b1w3_keep _ main_while1b_v34 (by decide), b1w2_keep _ main_v26_11 (by decide), b1w2_keep _ main_v26_8 (by decide), b1w2_main_while1b_v36, b1w2_keep _ main_v26_4 (by decide), b1w2_keep _ main_while1b_v34 (by decide), b1w1_keep _ main_v26_11 (by decide), b1w1_keep _ main_v26_8 (by decide), b1w1_keep _ main_v26_1 (by decide), b1w1_keep _ main_while1b_v34 (by decide), b1w1_keep _ main_v26_4 (by decide), b1w0_keep _ main_v26_11 (by decide), b1w0_keep _ main_v26_8 (by decide), b1w0_keep _ main_v26_1 (by decide), b1w0_main_while1b_v34, b1w0_keep _ main_v26_4 (by decide), cond1_keep _ main_v26_11 (by decide), cond1_keep _ main_v26_8 (by decide), cond1_keep _ main_v26_1 (by decide), cond1_keep _ main_v26_6 (by decide), cond1_keep _ main_v26_4 (by decide)]

set_option maxRecDepth 8192 in
theorem trip1_main_v26_12 (V : Valuation τ sig (Elt F)) : afterL body1 (after cond1 V) (Proc.devRef .tc main_v26_12) = putRow (V (Proc.devRef .tc main_v26_12)) (addf (V (Proc.devRef .tc main_v26_8)) (rowAt (V (Proc.devRef .tc main_v26_1)) (backIdx (V (Proc.devRef .tc main_v26_6))))) (backIdx (V (Proc.devRef .tc main_v26_6))) := by
  unfold backIdx
  simp only [body1, afterL_cons, afterL_nil]
  rw [b1w12_main_v26_12, b1w11_main_while1b_v50, b1w10_keep _ main_v26_12 (by decide), b1w10_keep _ main_while1b_v42 (by decide), b1w10_keep _ main_while1b_v34 (by decide), b1w9_keep _ main_v26_12 (by decide), b1w9_keep _ main_while1b_v42 (by decide), b1w9_keep _ main_while1b_v34 (by decide), b1w8_keep _ main_v26_12 (by decide), b1w8_keep _ main_while1b_v42 (by decide), b1w8_keep _ main_while1b_v34 (by decide), b1w7_keep _ main_v26_12 (by decide), b1w7_main_while1b_v42, b1w7_keep _ main_while1b_v34 (by decide), b1w6_keep _ main_v26_12 (by decide), b1w6_keep _ main_v26_8 (by decide), b1w6_keep _ main_while1b_v36 (by decide), b1w6_keep _ main_while1b_v34 (by decide), b1w5_keep _ main_v26_12 (by decide), b1w5_keep _ main_v26_8 (by decide), b1w5_keep _ main_while1b_v36 (by decide), b1w5_keep _ main_while1b_v34 (by decide), b1w4_keep _ main_v26_12 (by decide), b1w4_keep _ main_v26_8 (by decide), b1w4_keep _ main_while1b_v36 (by decide), b1w4_keep _ main_while1b_v34 (by decide), b1w3_keep _ main_v26_12 (by decide), b1w3_keep _ main_v26_8 (by decide), b1w3_keep _ main_while1b_v36 (by decide), b1w3_keep _ main_while1b_v34 (by decide), b1w2_keep _ main_v26_12 (by decide), b1w2_keep _ main_v26_8 (by decide), b1w2_main_while1b_v36, b1w2_keep _ main_while1b_v34 (by decide), b1w1_keep _ main_v26_12 (by decide), b1w1_keep _ main_v26_8 (by decide), b1w1_keep _ main_v26_1 (by decide), b1w1_keep _ main_while1b_v34 (by decide), b1w0_keep _ main_v26_12 (by decide), b1w0_keep _ main_v26_8 (by decide), b1w0_keep _ main_v26_1 (by decide), b1w0_main_while1b_v34, cond1_keep _ main_v26_12 (by decide), cond1_keep _ main_v26_8 (by decide), cond1_keep _ main_v26_1 (by decide), cond1_keep _ main_v26_6 (by decide)]

end Cert.ScanRef

end
-- ==== Proof.ScanRefRows.lean ====
module

public import proofs.«01_k».proof.Proof.ScanRefTrip
public import proofs.«01_k».proof.Proof.ScanArrays
public import Idealize.ShloMosaic.Lib.Pointwise
public import Idealize.ShloMosaic.Lib.ValueIdx
public import Idealize.ShloMosaic.PureOps.Ideal.Laws

@[expose] public section

/-! # Rows of the scan reference's arrays, and what its loops make of them

Reading and replacing a row, and the invariants of the two loops for any sequence of states that
steps as they do: the first loop's state after `k` trips is the recurrence after `k` steps, the
second loop's is the gradient carried back over `k` rows. -/

set_option maxRecDepth 16384

noncomputable section

namespace Cert.ScanRef

open Cert.ReferenceIdeal Cert.ReferenceIdeal.Gen
open Idealize.ShloMosaic Idealize.ShloMosaic.TcCoe Idealize.ShloMosaic.StableHlo Idealize.ShloMosaic.Tactic
open Idealize.ShloMosaic (ix2 ix3)

theorem iv_int : ∀ k : Fin 2304, (Scf.iv 0#32 1#32 k.val).toInt = k.val := by decide +kernel
theorem back_int : ∀ k : Fin 2304, (2304#32 - Scf.iv 0#32 1#32 k.val - 1#32).toInt = ((2303 - k.val : ℕ) : Int) := by decide +kernel

/-- The first index of a slice of one row that starts at a given row. -/
theorem start_row (st : Fin 3 → Int) (t : Shape) (ht : t.rank = S2304x2x512.rank) (h0 : t.size ((0 : Fin 3).cast ht.symm) = 1) (k : ℕ) (hk : k < 2304) (e : st 0 = k) :
    Host.clampedStart S2304x2x512 t ht st 0 = k :=
  Host.clampedStart_of_le ht st 0 k e (by rw [h0]; exact hk)

theorem rowAt_apply (x : Arr3 Ideal) (i : Num Ideal) (k : ℕ) (hk : k < 2304) (hi : ∀ j, (i j).toInt = k) (b : Fin 2) (w : Fin 512) :
    rowAt x i (ix2 b w) = x (ix3 ⟨k, hk⟩ b w) := by
  unfold rowAt
  pointwise
  refine congrArg x ?_
  have e0 := start_row (fun k => BitVec.toInt ((![i, constantI S_ 32 0#32, constantI S_ 32 0#32] : Fin 3 → Num Ideal) k (Shape.Idx.first h_S_))) S1x2x512 rfl rfl k hk (hi _)
  have e1 : Host.clampedStart S2304x2x512 S1x2x512 rfl (fun k => BitVec.toInt ((![i, constantI S_ 32 0#32, constantI S_ 32 0#32] : Fin 3 → Num Ideal) k (Shape.Idx.first h_S_))) 1 = 0 := Host.clampedStart_of_le _ _ 1 0 rfl (by decide)
  have e2 : Host.clampedStart S2304x2x512 S1x2x512 rfl (fun k => BitVec.toInt ((![i, constantI S_ 32 0#32, constantI S_ 32 0#32] : Fin 3 → Num Ideal) k (Shape.Idx.first h_S_))) 2 = 0 := Host.clampedStart_of_le _ _ 2 0 rfl (by decide)
  simp only [e0, e1, e2, Nat.zero_add]

theorem putRow_apply (x : Arr3 Ideal) (r : Row Ideal) (i : Num Ideal) (k : ℕ) (hk : k < 2304) (hi : ∀ j, (i j).toInt = k) (j : Fin 2304) (b : Fin 2) (w : Fin 512) :
    putRow x r i (ix3 j b w) = if j.val = k then r (ix2 b w) else x (ix3 j b w) := by
  unfold putRow
  pointwise
  have e0 := start_row (fun k => BitVec.toInt ((![i, constantI S_ 32 0#32, constantI S_ 32 0#32] : Fin 3 → Num Ideal) k (Shape.Idx.first h_S_))) S1x2x512 rfl rfl k hk (hi _)
  have e1 : Host.clampedStart S2304x2x512 S1x2x512 rfl (fun k => BitVec.toInt ((![i, constantI S_ 32 0#32, constantI S_ 32 0#32] : Fin 3 → Num Ideal) k (Shape.Idx.first h_S_))) 1 = 0 := Host.clampedStart_of_le _ _ 1 0 rfl (by decide)
  have e2 : Host.clampedStart S2304x2x512 S1x2x512 rfl (fun k => BitVec.toInt ((![i, constantI S_ 32 0#32, constantI S_ 32 0#32] : Fin 3 → Num Ideal) k (Shape.Idx.first h_S_))) 2 = 0 := Host.clampedStart_of_le _ _ 2 0 rfl (by decide)
  simp only [e0, e1, e2, Nat.sub_zero, Nat.zero_le, and_true]
  by_cases hj : j.val = k
  · rw [dif_pos (by omega), if_pos hj]
  · rw [dif_neg (by omega), if_neg hj]

/-- One channel of one example of an array whose rows are the positions, zero past the last. -/
def line (X : Arr3 Ideal) (b : Fin 2) (w : Fin 512) (i : ℕ) : EReal := if h : i < 2304 then X (ix3 ⟨i, h⟩ b w) else 0

theorem line_lt (X : Arr3 Ideal) (b : Fin 2) (w : Fin 512) {i : ℕ} (h : i < 2304) : line X b w i = X (ix3 ⟨i, h⟩ b w) := dif_pos h

open Cert.Scan (fwd bwd rev)

/-- The first loop's state. -/
theorem carry_fwd (P Q : Arr3 Ideal) (s : ℕ → Row Ideal) (i : ℕ → Num Ideal) (hi : ∀ k, k < 2304 → ∀ j, (i k j).toInt = k)
    (b : Fin 2) (w : Fin 512) (h0 : s 0 (ix2 b w) = (0 : EReal)) (hs : ∀ k, s (k + 1) = addf (mulf (rowAt P (i k)) (s k)) (rowAt Q (i k))) :
    ∀ k, k ≤ 2304 → s k (ix2 b w) = fwd (line P b w) (line Q b w) k
  | 0, _ => h0
  | k + 1, hk => by
    rw [hs k]
    show rowAt P (i k) (ix2 b w) * s k (ix2 b w) + rowAt Q (i k) (ix2 b w) = _
    rw [rowAt_apply P _ k (by omega) (hi k (by omega)), rowAt_apply Q _ k (by omega) (hi k (by omega)), carry_fwd P Q s i hi b w h0 hs k (by omega), fwd, line_lt P b w (by omega), line_lt Q b w (by omega)]

/-- The second loop's state. -/
theorem carry_bwd (P Q : Arr3 Ideal) (s : ℕ → Row Ideal) (i : ℕ → Num Ideal) (hi : ∀ k, k < 2304 → ∀ j, (i k j).toInt = (2303 - k : ℕ))
    (b : Fin 2) (w : Fin 512) (h0 : s 0 (ix2 b w) = (0 : EReal)) (hs : ∀ k, s (k + 1) = mulf (rowAt P (i k)) (addf (s k) (rowAt Q (i k)))) :
    ∀ k, k ≤ 2304 → s k (ix2 b w) = bwd (rev (line P b w)) (rev (line Q b w)) k
  | 0, _ => h0
  | k + 1, hk => by
    rw [hs k]
    show rowAt P (i k) (ix2 b w) * (s k (ix2 b w) + rowAt Q (i k) (ix2 b w)) = _
    rw [rowAt_apply P _ (2303 - k) (by omega) (hi k (by omega)), rowAt_apply Q _ (2303 - k) (by omega) (hi k (by omega)), carry_bwd P Q s i hi b w h0 hs k (by omega), bwd,
      Cert.Scan.rev_lt _ (by omega), Cert.Scan.rev_lt _ (by omega), line_lt P b w (by omega), line_lt Q b w (by omega)]

/-- A loop that puts one row in place on each trip, no row twice. -/
theorem rows_kept (T : ℕ → Arr3 Ideal) (r : ℕ → Row Ideal) (i : ℕ → Num Ideal) (p : ℕ → ℕ) (hp : ∀ k, k < 2304 → p k < 2304)
    (inj : ∀ s t, s < 2304 → t < 2304 → p s = p t → s = t) (hi : ∀ k, k < 2304 → ∀ j, (i k j).toInt = p k)
    (ht : ∀ k, T (k + 1) = putRow (T k) (r k) (i k)) (t : ℕ) (b : Fin 2) (w : Fin 512) :
    ∀ k (hk : k ≤ 2304) (h : t < k), T k (ix3 ⟨p t, hp t (by omega)⟩ b w) = r t (ix2 b w)
  | 0, _, h => absurd h (Nat.not_lt_zero t)
  | k + 1, hk, h => by
    rw [ht k, putRow_apply _ _ _ (p k) (hp k (by omega)) (hi k (by omega))]
    by_cases e : t = k
    · subst e
      exact if_pos rfl
    · rw [if_neg (fun q => e (inj _ _ (by omega) (by omega) q))]
      exact rows_kept T r i p hp inj hi ht t b w k (by omega) (by omega)

end Cert.ScanRef

end
-- ==== Proof.ScanRefValue.lean ====
module

public import proofs.«01_k».proof.Proof.ScanRefRows

@[expose] public section

/-! # The values the scan reference ends with

Its four results as the recurrences the kernel's arrays are: the states of both chains before each
step, the carried gradients, and the two products by which the gradients of the decays are made. -/

set_option maxRecDepth 16384

noncomputable section

namespace Cert.ScanRef

open Cert.ReferenceIdeal Cert.ReferenceIdeal.Gen
open Idealize.ShloMosaic Idealize.ShloMosaic.TcCoe Idealize.ShloMosaic.StableHlo Idealize.ShloMosaic.Tactic
open Idealize.ShloMosaic (ix2 ix3)
open Cert.Scan (fwd bwd bwd_eq rev nxt prv rev_lt pick H0 H1 DU0 DU1 DA0 DA1)

/-- The positions first. -/
def lead (X : Cert.Scan.Seq) : Arr3 Ideal := transpose S2304x2x512 [1, 0, 2] X transposes_S2x2304x512_S2304x2x512_1_0_2
/-- The examples first. -/
def back (X : Arr3 Ideal) : Cert.Scan.Seq := transpose S2x2304x512 [1, 0, 2] X transposes_S2304x2x512_S2x2304x512_1_0_2

theorem line_lead (X : Cert.Scan.Seq) (b : Fin 2) (w : Fin 512) : line (lead X) b w = pick X b w := by
  funext i
  unfold line pick lead
  split <;> rename_i h
  · pointwise
  · rfl

theorem line_rev (X : Arr3 Ideal) (b : Fin 2) (w : Fin 512) : line (Host.reverse [0] X) b w = rev (line X b w) := by
  funext i
  by_cases h : i < 2304
  · rw [line_lt _ _ _ h, rev_lt _ h, line_lt _ _ _ (by omega)]
    pointwise
    refine congrArg X ?_
    blk_ext
    · show 2304 - (i + 1) = 2303 - i
      omega
    · rfl
    · rfl
  · rw [line, rev, dif_neg h, if_neg h]

theorem back_apply (X : Arr3 Ideal) (y : S2x2304x512.Idx) : back X y = X (ix3 (y 1) (y 0) (y 2)) := by
  unfold back
  pointwise

theorem back_rev_apply (X : Arr3 Ideal) (y : S2x2304x512.Idx) : back (Host.reverse [0] X) y = X (ix3 ⟨2303 - (y 1).val, by omega⟩ (y 0) (y 2)) := by
  unfold back
  pointwise
  refine congrArg X ?_
  blk_ext
  · have := (y 1).isLt
    show 2304 - ((y 1).val + 1) = 2303 - (y 1).val
    omega
  · rfl
  · rfl

theorem rev_rev_pick (X : Cert.Scan.Seq) (b : Fin 2) (w : Fin 512) : rev (rev (pick X b w)) = pick X b w := by
  funext i
  by_cases h : i < 2304
  · rw [rev_lt _ h, rev_lt _ (by omega)]
    congr 1
    omega
  · rw [rev, pick, if_neg h, dif_neg h]

/-! The recurrences of the gradient, carried before or after the decay. -/

theorem du0_eq (P G : ℕ → EReal) (t : ℕ) (ht : t < 2304) : bwd (rev P) (rev G) (2303 - t) + G t = fwd (rev (nxt P)) (rev G) (2304 - t) := by
  have e := bwd_eq (rev P) (rev G) (rev (nxt P)) 2303 (fun i hi => by
    rw [rev_lt _ (by omega), rev_lt _ (by omega), nxt, if_pos (by omega)]
    congr 1
    omega) (2303 - t) (by omega)
  rw [rev_lt G (by omega : 2303 - t < 2304), show 2303 - (2303 - t) = t by omega, show 2303 - t + 1 = 2304 - t by omega] at e
  exact e

theorem du1_eq (P G : ℕ → EReal) (t : ℕ) (ht : t < 2304) : bwd P G t + G t = fwd (prv P) G (t + 1) :=
  bwd_eq P G (prv P) 2303 (fun i hi => by rw [prv, if_pos (by omega)]; rfl) t (by omega)

theorem before_H0 (a u : Cert.Scan.Seq) (b : Fin 2) (w : Fin 512) (t : ℕ) (ht : t < 2304) :
    fwd (pick a b w) (pick u b w) t = prv (pick (H0 a u) b w) t := by
  rw [prv]
  split <;> rename_i h
  · rw [pick, dif_pos (by omega), H0]
    exact congrArg (fwd _ _) (show t = t - 1 + 1 by omega)
  · have : t = 0 := by omega
    subst this
    rfl

theorem before_H1 (a u : Cert.Scan.Seq) (b : Fin 2) (w : Fin 512) (t : ℕ) (ht : t < 2304) :
    fwd (rev (pick a b w)) (rev (pick u b w)) (2303 - t) = nxt (pick (H1 a u) b w) t := by
  rw [nxt]
  split <;> rename_i h
  · rw [pick, dif_pos (by omega), H1]
    exact congrArg (fwd _ _) (show 2303 - t = 2304 - (t + 1) by omega)
  · rw [show 2303 - t = 0 by omega]
    rfl

variable (m : (ℓ : Loc nD τ sig) → Buf (Elt Ideal) ℓ) (c : Dev nD)

/-! What the loops are entered with. -/

theorem E0_main_v11_0 : E0 m c (Proc.devRef .tc main_v11_0) = lead (m ((c.tc : Thread nD τ).loc main_arg0)) := by
  unfold E0 lead
  after_reads_simp
  rfl

theorem E0_main_v11_1 : E0 m c (Proc.devRef .tc main_v11_1) = lead (m ((c.tc : Thread nD τ).loc main_arg1)) := by
  unfold E0 lead
  after_reads_simp
  rfl

theorem E0_main_v11_2 : E0 m c (Proc.devRef .tc main_v11_2) = Host.reverse [0] (lead (m ((c.tc : Thread nD τ).loc main_arg3))) := by
  unfold E0 lead
  after_reads_simp
  rfl

theorem E0_main_v11_3 : E0 m c (Proc.devRef .tc main_v11_3) = Host.reverse [0] (lead (m ((c.tc : Thread nD τ).loc main_arg4))) := by
  unfold E0 lead
  after_reads_simp
  rfl

theorem E0_main_v1 : E0 m c (Proc.devRef .tc main_v1) = lead (m ((c.tc : Thread nD τ).loc main_arg0)) := by
  unfold E0 lead
  after_reads_simp

theorem E0_main_v4 : E0 m c (Proc.devRef .tc main_v4) = Host.reverse [0] (lead (m ((c.tc : Thread nD τ).loc main_arg3))) := by
  unfold E0 lead
  after_reads_simp

theorem E0_main_v11_5 (j : S2x512.Idx) : (E0 m c (Proc.devRef .tc main_v11_5) : Row Ideal) j = (0 : EReal) := by
  unfold E0
  after_reads_simp
  exact Cert.Scan.zero_word

theorem E0_main_v11_6 (j : S2x512.Idx) : (E0 m c (Proc.devRef .tc main_v11_6) : Row Ideal) j = (0 : EReal) := by
  unfold E0
  after_reads_simp
  exact Cert.Scan.zero_word

theorem mid_main_v26_0 (V : Valuation τ sig (Elt Ideal)) : after midOps V (Proc.devRef .tc main_v26_0) = (lead (V (Proc.devRef .tc main_arg2))) := by
  unfold lead
  after_results_entrywise [id_eq]

theorem E1_main_v26_0 : E1 m c (Proc.devRef .tc main_v26_0) = lead (m ((c.tc : Thread nD τ).loc main_arg2)) := by
  unfold E1
  rw [midOps2_keep _ main_v26_0 (by decide), mid_main_v26_0]
  unfold X0
  rw [cond0_keep _ main_arg2 (by decide)]
  rw [A0_keep m c main_arg2 (by decide)]
  unfold E0
  rw [preOps_keep _ main_arg2 (by decide)]

theorem mid_main_v26_1 (V : Valuation τ sig (Elt Ideal)) : after midOps V (Proc.devRef .tc main_v26_1) = (Host.reverse [0] (lead (V (Proc.devRef .tc main_arg5)))) := by
  unfold lead
  after_results_entrywise [id_eq]

theorem E1_main_v26_1 : E1 m c (Proc.devRef .tc main_v26_1) = Host.reverse [0] (lead (m ((c.tc : Thread nD τ).loc main_arg5))) := by
  unfold E1
  rw [midOps2_keep _ main_v26_1 (by decide), mid_main_v26_1]
  unfold X0
  rw [cond0_keep _ main_arg5 (by decide)]
  rw [A0_keep m c main_arg5 (by decide)]
  unfold E0
  rw [preOps_keep _ main_arg5 (by decide)]

theorem mid_main_v26_2 (V : Valuation τ sig (Elt Ideal)) : after midOps V (Proc.devRef .tc main_v26_2) = ((V (Proc.devRef .tc main_v11_9))) := by
  after_results_entrywise [id_eq]

theorem E1_main_v26_2 : E1 m c (Proc.devRef .tc main_v26_2) = A0 m 2304 c (Proc.devRef .tc main_v11_9) := by
  unfold E1
  rw [midOps2_keep _ main_v26_2 (by decide), mid_main_v26_2]
  unfold X0
  rw [cond0_keep _ main_v11_9 (by decide)]

theorem mid_main_v26_3 (V : Valuation τ sig (Elt Ideal)) : after midOps V (Proc.devRef .tc main_v26_3) = ((V (Proc.devRef .tc main_v1))) := by
  after_results_entrywise [id_eq]

theorem E1_main_v26_3 : E1 m c (Proc.devRef .tc main_v26_3) = lead (m ((c.tc : Thread nD τ).loc main_arg0)) := by
  unfold E1
  rw [midOps2_keep _ main_v26_3 (by decide), mid_main_v26_3]
  unfold X0
  rw [cond0_keep _ main_v1 (by decide)]
  rw [A0_keep m c main_v1 (by decide)]
  exact E0_main_v1 m c

theorem mid_main_v26_4 (V : Valuation τ sig (Elt Ideal)) : after midOps V (Proc.devRef .tc main_v26_4) = ((V (Proc.devRef .tc main_v11_10))) := by
  after_results_entrywise [id_eq]

theorem E1_main_v26_4 : E1 m c (Proc.devRef .tc main_v26_4) = A0 m 2304 c (Proc.devRef .tc main_v11_10) := by
  unfold E1
  rw [midOps2_keep _ main_v26_4 (by decide), mid_main_v26_4]
  unfold X0
  rw [cond0_keep _ main_v11_10 (by decide)]

theorem mid_main_v26_5 (V : Valuation τ sig (Elt Ideal)) : after midOps V (Proc.devRef .tc main_v26_5) = ((V (Proc.devRef .tc main_v4))) := by
  after_results_entrywise [id_eq]

theorem E1_main_v26_5 : E1 m c (Proc.devRef .tc main_v26_5) = Host.reverse [0] (lead (m ((c.tc : Thread nD τ).loc main_arg3))) := by
  unfold E1
  rw [midOps2_keep _ main_v26_5 (by decide), mid_main_v26_5]
  unfold X0
  rw [cond0_keep _ main_v4 (by decide)]
  rw [A0_keep m c main_v4 (by decide)]
  exact E0_main_v4 m c

theorem E1_main_v26_7 (j : S2x512.Idx) : (E1 m c (Proc.devRef .tc main_v26_7) : Row Ideal) j = (0 : EReal) := by
  unfold E1
  generalize X0 m c = V
  after_reads_simp
  exact Cert.Scan.zero_word

theorem E1_main_v26_8 (j : S2x512.Idx) : (E1 m c (Proc.devRef .tc main_v26_8) : Row Ideal) j = (0 : EReal) := by
  unfold E1
  generalize X0 m c = V
  after_reads_simp
  exact Cert.Scan.zero_word

/-! The first loop. -/

/-- The row of a trip, counted up and counted down. -/
abbrev up (k : ℕ) : Num Ideal := fun _ => Scf.iv 0#32 1#32 k
theorem up_int (k : ℕ) (hk : k < 2304) (j : S_.Idx) : (up k j).toInt = k := iv_int ⟨k, hk⟩
theorem down_int (k : ℕ) (hk : k < 2304) (j : S_.Idx) : ((backIdx (up k) : Num Ideal) j).toInt = (2303 - k : ℕ) := back_int ⟨k, hk⟩

theorem state_v11_5 (b : Fin 2) (w : Fin 512) (k : ℕ) (hk : k ≤ 2304) :
    (A0 m k c (Proc.devRef .tc main_v11_5) : Row Ideal) (ix2 b w) = fwd (pick (m ((c.tc : Thread nD τ).loc main_arg0)) b w) (pick (m ((c.tc : Thread nD τ).loc main_arg1)) b w) k := by
  have e := carry_fwd (E0 m c (Proc.devRef .tc main_v11_0)) (E0 m c (Proc.devRef .tc main_v11_1)) (fun k => A0 m k c (Proc.devRef .tc main_v11_5)) up up_int b w (E0_main_v11_5 m c _) (fun k => by
    rw [A0_succ, trip0_main_v11_5, A0_keep m c main_v11_0 (by decide), A0_keep m c main_v11_1 (by decide), ctr0_at]
    rfl) k hk
  rw [E0_main_v11_0, E0_main_v11_1, line_lead, line_lead] at e
  exact e

theorem kept_v11_9 (b : Fin 2) (w : Fin 512) (t : ℕ) (ht : t < 2304) :
    line (A0 m 2304 c (Proc.devRef .tc main_v11_9)) b w t = fwd (pick (m ((c.tc : Thread nD τ).loc main_arg0)) b w) (pick (m ((c.tc : Thread nD τ).loc main_arg1)) b w) t := by
  rw [line_lt _ b w ht]
  exact (rows_kept (fun k => A0 m k c (Proc.devRef .tc main_v11_9)) (fun k => A0 m k c (Proc.devRef .tc main_v11_5)) up id (fun k h => h) (fun _ _ _ _ h => h) up_int (fun k => by
    rw [A0_succ, trip0_main_v11_9, ctr0_at]
    rfl) t b w 2304 le_rfl ht).trans (state_v11_5 m c b w t (by omega))

theorem state_v11_6 (b : Fin 2) (w : Fin 512) (k : ℕ) (hk : k ≤ 2304) :
    (A0 m k c (Proc.devRef .tc main_v11_6) : Row Ideal) (ix2 b w) = fwd (rev (pick (m ((c.tc : Thread nD τ).loc main_arg3)) b w)) (rev (pick (m ((c.tc : Thread nD τ).loc main_arg4)) b w)) k := by
  have e := carry_fwd (E0 m c (Proc.devRef .tc main_v11_2)) (E0 m c (Proc.devRef .tc main_v11_3)) (fun k => A0 m k c (Proc.devRef .tc main_v11_6)) up up_int b w (E0_main_v11_6 m c _) (fun k => by
    rw [A0_succ, trip0_main_v11_6, A0_keep m c main_v11_2 (by decide), A0_keep m c main_v11_3 (by decide), ctr0_at]
    rfl) k hk
  rw [E0_main_v11_2, E0_main_v11_3, line_rev, line_rev, line_lead, line_lead] at e
  exact e

theorem kept_v11_10 (b : Fin 2) (w : Fin 512) (t : ℕ) (ht : t < 2304) :
    line (A0 m 2304 c (Proc.devRef .tc main_v11_10)) b w t = fwd (rev (pick (m ((c.tc : Thread nD τ).loc main_arg3)) b w)) (rev (pick (m ((c.tc : Thread nD τ).loc main_arg4)) b w)) t := by
  rw [line_lt _ b w ht]
  exact (rows_kept (fun k => A0 m k c (Proc.devRef .tc main_v11_10)) (fun k => A0 m k c (Proc.devRef .tc main_v11_6)) up id (fun k h => h) (fun _ _ _ _ h => h) up_int (fun k => by
    rw [A0_succ, trip0_main_v11_10, ctr0_at]
    rfl) t b w 2304 le_rfl ht).trans (state_v11_6 m c b w t (by omega))

/-! The second loop. -/

theorem state_v26_7 (b : Fin 2) (w : Fin 512) (k : ℕ) (hk : k ≤ 2304) :
    (A1 m k c (Proc.devRef .tc main_v26_7) : Row Ideal) (ix2 b w) = bwd (rev (pick (m ((c.tc : Thread nD τ).loc main_arg0)) b w)) (rev (pick (m ((c.tc : Thread nD τ).loc main_arg2)) b w)) k := by
  have e := carry_bwd (E1 m c (Proc.devRef .tc main_v26_3)) (E1 m c (Proc.devRef .tc main_v26_0)) (fun k => A1 m k c (Proc.devRef .tc main_v26_7)) (fun k => backIdx (up k)) down_int b w (E1_main_v26_7 m c _) (fun k => by
    rw [A1_succ, trip1_main_v26_7, A1_keep m c main_v26_3 (by decide), A1_keep m c main_v26_0 (by decide), ctr1_at]
    rfl) k hk
  rw [E1_main_v26_3, E1_main_v26_0, line_lead, line_lead] at e
  exact e

theorem added_v26_7 (b : Fin 2) (w : Fin 512) (t : ℕ) (ht : t < 2304) :
    ((fun k => addf (A1 m k c (Proc.devRef .tc main_v26_7)) (rowAt (E1 m c (Proc.devRef .tc main_v26_0)) (backIdx (up k)))) (2303 - t) : Row Ideal) (ix2 b w) = (bwd (rev (pick (m ((c.tc : Thread nD τ).loc main_arg0)) b w)) (rev (pick (m ((c.tc : Thread nD τ).loc main_arg2)) b w)) (2303 - t) + (pick (m ((c.tc : Thread nD τ).loc main_arg2)) b w) t) := by
  refine congrArg₂ (fun p q : EReal => p + q) (state_v26_7 m c b w _ (by omega)) ?_
  rw [rowAt_apply _ _ t ht (fun j => (down_int (2303 - t) (by omega) j).trans (by congr 1; omega)), ← line_lt (E1 m c (Proc.devRef .tc main_v26_0)) b w ht, E1_main_v26_0, line_lead]

theorem kept_v26_10 (b : Fin 2) (w : Fin 512) (t : ℕ) (ht : t < 2304) :
    line (A1 m 2304 c (Proc.devRef .tc main_v26_10)) b w t = (bwd (rev (pick (m ((c.tc : Thread nD τ).loc main_arg0)) b w)) (rev (pick (m ((c.tc : Thread nD τ).loc main_arg2)) b w)) (2303 - t) + (pick (m ((c.tc : Thread nD τ).loc main_arg2)) b w) t) := by
  have e := rows_kept (fun k => A1 m k c (Proc.devRef .tc main_v26_10)) (fun k => addf (A1 m k c (Proc.devRef .tc main_v26_7)) (rowAt (E1 m c (Proc.devRef .tc main_v26_0)) (backIdx (up k)))) (fun k => backIdx (up k)) (fun k => 2303 - k) (fun k h => by omega) (fun _ _ _ _ h => by omega) down_int (fun k => by
    rw [A1_succ, trip1_main_v26_10, A1_keep m c main_v26_0 (by decide), ctr1_at]
    rfl) (2303 - t) b w 2304 le_rfl (by omega)
  replace e := e.trans (added_v26_7 m c b w t ht)
  rw [← line_lt (A1 m 2304 c (Proc.devRef .tc main_v26_10)) b w (by omega), show 2303 - (2303 - t) = t by omega] at e
  exact e

theorem kept_v26_9 (b : Fin 2) (w : Fin 512) (t : ℕ) (ht : t < 2304) :
    line (A1 m 2304 c (Proc.devRef .tc main_v26_9)) b w t = (bwd (rev (pick (m ((c.tc : Thread nD τ).loc main_arg0)) b w)) (rev (pick (m ((c.tc : Thread nD τ).loc main_arg2)) b w)) (2303 - t) + (pick (m ((c.tc : Thread nD τ).loc main_arg2)) b w) t) * fwd (pick (m ((c.tc : Thread nD τ).loc main_arg0)) b w) (pick (m ((c.tc : Thread nD τ).loc main_arg1)) b w) t := by
  have e := rows_kept (fun k => A1 m k c (Proc.devRef .tc main_v26_9)) (fun k => mulf (addf (A1 m k c (Proc.devRef .tc main_v26_7)) (rowAt (E1 m c (Proc.devRef .tc main_v26_0)) (backIdx (up k)))) (rowAt (E1 m c (Proc.devRef .tc main_v26_2)) (backIdx (up k)))) (fun k => backIdx (up k)) (fun k => 2303 - k) (fun k h => by omega) (fun _ _ _ _ h => by omega) down_int (fun k => by
    rw [A1_succ, trip1_main_v26_9, A1_keep m c main_v26_0 (by decide), A1_keep m c main_v26_2 (by decide), ctr1_at]
    rfl) (2303 - t) b w 2304 le_rfl (by omega)
  rw [← line_lt (A1 m 2304 c (Proc.devRef .tc main_v26_9)) b w (by omega), show 2303 - (2303 - t) = t by omega] at e
  refine e.trans ?_
  show ((fun k => addf (A1 m k c (Proc.devRef .tc main_v26_7)) (rowAt (E1 m c (Proc.devRef .tc main_v26_0)) (backIdx (up k)))) (2303 - t) : Row Ideal) (ix2 b w) * (rowAt (E1 m c (Proc.devRef .tc main_v26_2)) (backIdx (up (2303 - t))) (ix2 b w) : EReal) = _
  refine congrArg₂ (fun p q : EReal => p * q) (added_v26_7 m c b w t ht) ?_
  rw [rowAt_apply _ _ t ht (fun j => (down_int (2303 - t) (by omega) j).trans (by congr 1; omega)), ← line_lt (E1 m c (Proc.devRef .tc main_v26_2)) b w ht, E1_main_v26_2, kept_v11_9 m c b w t ht]

theorem state_v26_8 (b : Fin 2) (w : Fin 512) (k : ℕ) (hk : k ≤ 2304) :
    (A1 m k c (Proc.devRef .tc main_v26_8) : Row Ideal) (ix2 b w) = bwd (pick (m ((c.tc : Thread nD τ).loc main_arg3)) b w) (pick (m ((c.tc : Thread nD τ).loc main_arg5)) b w) k := by
  have e := carry_bwd (E1 m c (Proc.devRef .tc main_v26_5)) (E1 m c (Proc.devRef .tc main_v26_1)) (fun k => A1 m k c (Proc.devRef .tc main_v26_8)) (fun k => backIdx (up k)) down_int b w (E1_main_v26_8 m c _) (fun k => by
    rw [A1_succ, trip1_main_v26_8, A1_keep m c main_v26_5 (by decide), A1_keep m c main_v26_1 (by decide), ctr1_at]
    rfl) k hk
  rw [E1_main_v26_5, E1_main_v26_1, line_rev, line_rev, line_lead, line_lead, rev_rev_pick, rev_rev_pick] at e
  exact e

theorem added_v26_8 (b : Fin 2) (w : Fin 512) (t : ℕ) (ht : t < 2304) :
    ((fun k => addf (A1 m k c (Proc.devRef .tc main_v26_8)) (rowAt (E1 m c (Proc.devRef .tc main_v26_1)) (backIdx (up k)))) (2303 - t) : Row Ideal) (ix2 b w) = (bwd (pick (m ((c.tc : Thread nD τ).loc main_arg3)) b w) (pick (m ((c.tc : Thread nD τ).loc main_arg5)) b w) (2303 - t) + (rev (pick (m ((c.tc : Thread nD τ).loc main_arg5)) b w)) t) := by
  refine congrArg₂ (fun p q : EReal => p + q) (state_v26_8 m c b w _ (by omega)) ?_
  rw [rowAt_apply _ _ t ht (fun j => (down_int (2303 - t) (by omega) j).trans (by congr 1; omega)), ← line_lt (E1 m c (Proc.devRef .tc main_v26_1)) b w ht, E1_main_v26_1, line_rev, line_lead]

theorem kept_v26_12 (b : Fin 2) (w : Fin 512) (t : ℕ) (ht : t < 2304) :
    line (A1 m 2304 c (Proc.devRef .tc main_v26_12)) b w t = (bwd (pick (m ((c.tc : Thread nD τ).loc main_arg3)) b w) (pick (m ((c.tc : Thread nD τ).loc main_arg5)) b w) (2303 - t) + (rev (pick (m ((c.tc : Thread nD τ).loc main_arg5)) b w)) t) := by
  have e := rows_kept (fun k => A1 m k c (Proc.devRef .tc main_v26_12)) (fun k => addf (A1 m k c (Proc.devRef .tc main_v26_8)) (rowAt (E1 m c (Proc.devRef .tc main_v26_1)) (backIdx (up k)))) (fun k => backIdx (up k)) (fun k => 2303 - k) (fun k h => by omega) (fun _ _ _ _ h => by omega) down_int (fun k => by
    rw [A1_succ, trip1_main_v26_12, A1_keep m c main_v26_1 (by decide), ctr1_at]
    rfl) (2303 - t) b w 2304 le_rfl (by omega)
  replace e := e.trans (added_v26_8 m c b w t ht)
  rw [← line_lt (A1 m 2304 c (Proc.devRef .tc main_v26_12)) b w (by omega), show 2303 - (2303 - t) = t by omega] at e
  exact e

theorem kept_v26_11 (b : Fin 2) (w : Fin 512) (t : ℕ) (ht : t < 2304) :
    line (A1 m 2304 c (Proc.devRef .tc main_v26_11)) b w t = (bwd (pick (m ((c.tc : Thread nD τ).loc main_arg3)) b w) (pick (m ((c.tc : Thread nD τ).loc main_arg5)) b w) (2303 - t) + (rev (pick (m ((c.tc : Thread nD τ).loc main_arg5)) b w)) t) * fwd (rev (pick (m ((c.tc : Thread nD τ).loc main_arg3)) b w)) (rev (pick (m ((c.tc : Thread nD τ).loc main_arg4)) b w)) t := by
  have e := rows_kept (fun k => A1 m k c (Proc.devRef .tc main_v26_11)) (fun k => mulf (addf (A1 m k c (Proc.devRef .tc main_v26_8)) (rowAt (E1 m c (Proc.devRef .tc main_v26_1)) (backIdx (up k)))) (rowAt (E1 m c (Proc.devRef .tc main_v26_4)) (backIdx (up k)))) (fun k => backIdx (up k)) (fun k => 2303 - k) (fun k h => by omega) (fun _ _ _ _ h => by omega) down_int (fun k => by
    rw [A1_succ, trip1_main_v26_11, A1_keep m c main_v26_1 (by decide), A1_keep m c main_v26_4 (by decide), ctr1_at]
    rfl) (2303 - t) b w 2304 le_rfl (by omega)
  rw [← line_lt (A1 m 2304 c (Proc.devRef .tc main_v26_11)) b w (by omega), show 2303 - (2303 - t) = t by omega] at e
  refine e.trans ?_
  show ((fun k => addf (A1 m k c (Proc.devRef .tc main_v26_8)) (rowAt (E1 m c (Proc.devRef .tc main_v26_1)) (backIdx (up k)))) (2303 - t) : Row Ideal) (ix2 b w) * (rowAt (E1 m c (Proc.devRef .tc main_v26_4)) (backIdx (up (2303 - t))) (ix2 b w) : EReal) = _
  refine congrArg₂ (fun p q : EReal => p * q) (added_v26_8 m c b w t ht) ?_
  rw [rowAt_apply _ _ t ht (fun j => (down_int (2303 - t) (by omega) j).trans (by congr 1; omega)), ← line_lt (E1 m c (Proc.devRef .tc main_v26_4)) b w ht, E1_main_v26_4, kept_v11_10 m c b w t ht]

/-! The results. -/

theorem post_v31 (V : Valuation τ sig (Elt Ideal)) : after postOps V (Proc.devRef .tc main_v31) = back (V (Proc.devRef .tc main_v26_10)) := by
  unfold back
  after_results_entrywise [id_eq]

theorem Z_main_v31 : Z m c (Proc.devRef .tc main_v31) = DU0 (m ((c.tc : Thread nD τ).loc main_arg0)) (m ((c.tc : Thread nD τ).loc main_arg2)) := by
  unfold Z X1
  rw [post_v31, cond1_keep _ main_v26_10 (by decide)]
  funext y
  have hy : (y 1).val < 2304 := (y 1).isLt
  refine (back_apply _ y).trans ((line_lt _ (y 0) (y 2) hy).symm.trans ((kept_v26_10 m c (y 0) (y 2) _ hy).trans ?_))
  exact du0_eq _ _ _ hy

theorem post_v32 (V : Valuation τ sig (Elt Ideal)) : after postOps V (Proc.devRef .tc main_v32) = back (V (Proc.devRef .tc main_v26_9)) := by
  unfold back
  after_results_entrywise [id_eq]

theorem Z_main_v32 : Z m c (Proc.devRef .tc main_v32) = DA0 (m ((c.tc : Thread nD τ).loc main_arg0)) (H0 (m ((c.tc : Thread nD τ).loc main_arg0)) (m ((c.tc : Thread nD τ).loc main_arg1))) (m ((c.tc : Thread nD τ).loc main_arg2)) := by
  unfold Z X1
  rw [post_v32, cond1_keep _ main_v26_9 (by decide)]
  funext y
  have hy : (y 1).val < 2304 := (y 1).isLt
  refine (back_apply _ y).trans ((line_lt _ (y 0) (y 2) hy).symm.trans ((kept_v26_9 m c (y 0) (y 2) _ hy).trans ?_))
  exact congrArg₂ (fun p q : EReal => p * q) (du0_eq _ _ _ hy) (before_H0 _ _ _ _ _ hy)

theorem post_v28 (V : Valuation τ sig (Elt Ideal)) : after postOps V (Proc.devRef .tc main_v28) = back (Host.reverse [0] (V (Proc.devRef .tc main_v26_12))) := by
  unfold back
  after_results_entrywise [id_eq]

theorem Z_main_v28 : Z m c (Proc.devRef .tc main_v28) = DU1 (m ((c.tc : Thread nD τ).loc main_arg3)) (m ((c.tc : Thread nD τ).loc main_arg5)) := by
  unfold Z X1
  rw [post_v28, cond1_keep _ main_v26_12 (by decide)]
  funext y
  have hy : (y 1).val < 2304 := (y 1).isLt
  have h1 : 2303 - (y 1).val < 2304 := by omega
  refine (back_rev_apply _ y).trans ((line_lt _ (y 0) (y 2) h1).symm.trans ((kept_v26_12 m c (y 0) (y 2) _ h1).trans ?_))
  rw [rev_lt _ h1, show 2303 - (2303 - (y 1).val) = (y 1).val by omega]
  exact du1_eq _ _ _ hy

theorem post_v30 (V : Valuation τ sig (Elt Ideal)) : after postOps V (Proc.devRef .tc main_v30) = back (Host.reverse [0] (V (Proc.devRef .tc main_v26_11))) := by
  unfold back
  after_results_entrywise [id_eq]

theorem Z_main_v30 : Z m c (Proc.devRef .tc main_v30) = DA1 (m ((c.tc : Thread nD τ).loc main_arg3)) (H1 (m ((c.tc : Thread nD τ).loc main_arg3)) (m ((c.tc : Thread nD τ).loc main_arg4))) (m ((c.tc : Thread nD τ).loc main_arg5)) := by
  unfold Z X1
  rw [post_v30, cond1_keep _ main_v26_11 (by decide)]
  funext y
  have hy : (y 1).val < 2304 := (y 1).isLt
  have h1 : 2303 - (y 1).val < 2304 := by omega
  refine (back_rev_apply _ y).trans ((line_lt _ (y 0) (y 2) h1).symm.trans ((kept_v26_11 m c (y 0) (y 2) _ h1).trans ?_))
  rw [rev_lt _ h1, show 2303 - (2303 - (y 1).val) = (y 1).val by omega]
  exact congrArg₂ (fun p q : EReal => p * q) (du1_eq _ _ _ hy) (before_H1 _ _ _ _ _ hy)

end Cert.ScanRef

end
-- ==== Proof.ScanClaim.lean ====
module

public import proofs.«01_k».proof.Defs
public import proofs.«01_k».proof.Proof.ScanFinite
public import proofs.«01_k».proof.Proof.ScanRefValue
public import Idealize.ShloMosaic.Lib.Quiescent

@[expose] public section

/-! # The scan's claims

Both programs end with the same four gradients where the arguments are real at every entry. -/

noncomputable section

namespace Cert.Scan

open Idealize.ShloMosaic Idealize.ShloMosaic.TcCoe Idealize.SL.Sem

section Run

open Cert.KernelIdeal Cert.KernelIdeal.Gen

variable (m : (ℓ : Loc nD τ sig) → Buf (Elt Ideal) ℓ) (ρ : Dev nD → PrngReg)

/-- Every argument is real at every entry, on every device. -/
def RealArgs : Prop := ∀ c : Dev nD, AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3)) ∧ AllReal (m ((c.tc : Thread nD τ).loc main_arg4)) ∧ AllReal (m ((c.tc : Thread nD τ).loc main_arg5))

variable {m}

theorem h0_val (h : RealArgs m) (c : Dev nD) : W1 m ρ c (Proc.devRef .tc main_v0_0) = H0 (m ((c.tc : Thread nD τ).loc main_arg0)) (m ((c.tc : Thread nD τ).loc main_arg1)) :=
  (W1_arr m ρ c 4).trans (arr0_4 (V0 m ρ) c (h c).1 (h c).2.1)

theorem h1_val (h : RealArgs m) (c : Dev nD) : W1 m ρ c (Proc.devRef .tc main_v0_1) = H1 (m ((c.tc : Thread nD τ).loc main_arg3)) (m ((c.tc : Thread nD τ).loc main_arg4)) :=
  (W1_arr m ρ c 5).trans (arr0_5 (V0 m ρ) c (h c).2.2.2.1 (h c).2.2.2.2.1)

theorem v1_0_val (h : RealArgs m) (c : Dev nD) : W2 m ρ c (Proc.devRef .tc main_v1_0) = DA0 (m ((c.tc : Thread nD τ).loc main_arg0)) (H0 (m ((c.tc : Thread nD τ).loc main_arg0)) (m ((c.tc : Thread nD τ).loc main_arg1))) (m ((c.tc : Thread nD τ).loc main_arg2)) := by
  have e0 : V1 m ρ c main_arg0 = (m ((c.tc : Thread nD τ).loc main_arg0)) := W1_args m ρ c main_arg0 (by decide)
  have e2 : V1 m ρ c main_arg2 = (m ((c.tc : Thread nD τ).loc main_arg2)) := W1_args m ρ c main_arg2 (by decide)
  refine (W2_arr m ρ c 6).trans ((arr1_6 (V1 m ρ) c (by rw [e0]; exact (h c).1) (by rw [e2]; exact (h c).2.2.1)).trans ?_)
  rw [e0, e2, show V1 m ρ c main_v0_0 = _ from h0_val ρ h c]

theorem v1_1_val (h : RealArgs m) (c : Dev nD) : W2 m ρ c (Proc.devRef .tc main_v1_1) = DU0 (m ((c.tc : Thread nD τ).loc main_arg0)) (m ((c.tc : Thread nD τ).loc main_arg2)) := by
  have e0 : V1 m ρ c main_arg0 = (m ((c.tc : Thread nD τ).loc main_arg0)) := W1_args m ρ c main_arg0 (by decide)
  have e2 : V1 m ρ c main_arg2 = (m ((c.tc : Thread nD τ).loc main_arg2)) := W1_args m ρ c main_arg2 (by decide)
  refine (W2_arr m ρ c 7).trans ((arr1_7 (V1 m ρ) c (by rw [e0]; exact (h c).1) (by rw [e2]; exact (h c).2.2.1)).trans ?_)
  rw [e0, e2]

theorem v1_2_val (h : RealArgs m) (c : Dev nD) : W2 m ρ c (Proc.devRef .tc main_v1_2) = DA1 (m ((c.tc : Thread nD τ).loc main_arg3)) (H1 (m ((c.tc : Thread nD τ).loc main_arg3)) (m ((c.tc : Thread nD τ).loc main_arg4))) (m ((c.tc : Thread nD τ).loc main_arg5)) := by
  have e3 : V1 m ρ c main_arg3 = (m ((c.tc : Thread nD τ).loc main_arg3)) := W1_args m ρ c main_arg3 (by decide)
  have e5 : V1 m ρ c main_arg5 = (m ((c.tc : Thread nD τ).loc main_arg5)) := W1_args m ρ c main_arg5 (by decide)
  refine (W2_arr m ρ c 8).trans ((arr1_8 (V1 m ρ) c (by rw [e3]; exact (h c).2.2.2.1) (by rw [e5]; exact (h c).2.2.2.2.2)).trans ?_)
  rw [e3, e5, show V1 m ρ c main_v0_1 = _ from h1_val ρ h c]

theorem v1_3_val (h : RealArgs m) (c : Dev nD) : W2 m ρ c (Proc.devRef .tc main_v1_3) = DU1 (m ((c.tc : Thread nD τ).loc main_arg3)) (m ((c.tc : Thread nD τ).loc main_arg5)) := by
  have e3 : V1 m ρ c main_arg3 = (m ((c.tc : Thread nD τ).loc main_arg3)) := W1_args m ρ c main_arg3 (by decide)
  have e5 : V1 m ρ c main_arg5 = (m ((c.tc : Thread nD τ).loc main_arg5)) := W1_args m ρ c main_arg5 (by decide)
  refine (W2_arr m ρ c 9).trans ((arr1_9 (V1 m ρ) c (by rw [e3]; exact (h c).2.2.2.1) (by rw [e5]; exact (h c).2.2.2.2.2)).trans ?_)
  rw [e3, e5]

/-- The kernel's results and its arguments at the end. -/
theorem kernel_run (h : RealArgs m) : θ_run (defs (F := Ideal)) (onTc (τ := τ) (main (F := Ideal))) ⟨m, fun _ => 0, ρ⟩ (fun r => ∀ c : Dev nD,
      r.2.mem ((c.tc : Thread nD τ).loc main_v1_0) = DA0 (m ((c.tc : Thread nD τ).loc main_arg0)) (H0 (m ((c.tc : Thread nD τ).loc main_arg0)) (m ((c.tc : Thread nD τ).loc main_arg1))) (m ((c.tc : Thread nD τ).loc main_arg2))
      ∧ r.2.mem ((c.tc : Thread nD τ).loc main_v1_1) = DU0 (m ((c.tc : Thread nD τ).loc main_arg0)) (m ((c.tc : Thread nD τ).loc main_arg2))
      ∧ r.2.mem ((c.tc : Thread nD τ).loc main_v1_2) = DA1 (m ((c.tc : Thread nD τ).loc main_arg3)) (H1 (m ((c.tc : Thread nD τ).loc main_arg3)) (m ((c.tc : Thread nD τ).loc main_arg4))) (m ((c.tc : Thread nD τ).loc main_arg5))
      ∧ r.2.mem ((c.tc : Thread nD τ).loc main_v1_3) = DU1 (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ q c => ⟨(q.1 c _ (mem_uc main_v1_0 (by decide))).trans (v1_0_val ρ h c),
      (q.1 c _ (mem_uc main_v1_1 (by decide))).trans (v1_1_val ρ h c),
      (q.1 c _ (mem_uc main_v1_2 (by decide))).trans (v1_2_val ρ h c),
      (q.1 c _ (mem_uc main_v1_3 (by decide))).trans (v1_3_val ρ h c),
      (q.1 c _ (mem_uc main_arg0 (by decide))).trans (W2_args m ρ c main_arg0 (by decide)),
      (q.1 c _ (mem_uc main_arg1 (by decide))).trans (W2_args m ρ c main_arg1 (by decide)),
      (q.1 c _ (mem_uc main_arg2 (by decide))).trans (W2_args m ρ c main_arg2 (by decide)),
      (q.1 c _ (mem_uc main_arg3 (by decide))).trans (W2_args m ρ c main_arg3 (by decide)),
      (q.1 c _ (mem_uc main_arg4 (by decide))).trans (W2_args m ρ c main_arg4 (by decide)),
      (q.1 c _ (mem_uc main_arg5 (by decide))).trans (W2_args m ρ c main_arg5 (by decide))⟩)
    (run_boundary m ρ)

end Run

theorem frame_ideal : Cert.quiescent_KernelIdeal := fun m ρ _ => kernel_frame (F := Ideal) m ρ

/-- The reference. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v32) = DA0 (m ((c.tc : Thread Cert.ReferenceIdeal.nD Cert.ReferenceIdeal.τ).loc Cert.ReferenceIdeal.main_arg0)) (H0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v31) = DU0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v30) = DA1 (m ((c.tc : Thread Cert.ReferenceIdeal.nD Cert.ReferenceIdeal.τ).loc Cert.ReferenceIdeal.main_arg3)) (H1 (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v28) = DU1 (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run Cert.ReferenceIdeal.defs _ _).mono (fun _ q c => ⟨(q c Cert.ReferenceIdeal.main_v32 (by decide)).trans (Cert.ScanRef.Z_main_v32 m c),
      (q c Cert.ReferenceIdeal.main_v31 (by decide)).trans (Cert.ScanRef.Z_main_v31 m c),
      (q c Cert.ReferenceIdeal.main_v30 (by decide)).trans (Cert.ScanRef.Z_main_v30 m c),
      (q c Cert.ReferenceIdeal.main_v28 (by decide)).trans (Cert.ScanRef.Z_main_v28 m c),
      (q c Cert.ReferenceIdeal.main_arg0 (by decide)).trans (Cert.ScanRef.Z_arg0 m c),
      (q c Cert.ReferenceIdeal.main_arg1 (by decide)).trans (Cert.ScanRef.Z_arg1 m c),
      (q c Cert.ReferenceIdeal.main_arg2 (by decide)).trans (Cert.ScanRef.Z_arg2 m c),
      (q c Cert.ReferenceIdeal.main_arg3 (by decide)).trans (Cert.ScanRef.Z_arg3 m c),
      (q c Cert.ReferenceIdeal.main_arg4 (by decide)).trans (Cert.ScanRef.Z_arg4 m c),
      (q c Cert.ReferenceIdeal.main_arg5 (by decide)).trans (Cert.ScanRef.Z_arg5 m c)⟩)
    (Cert.ScanRef.run_fold m ρ)

theorem frame_reference : Cert.quiescent_ReferenceIdeal := fun m ρ _ =>
  (θ_run Cert.ReferenceIdeal.defs _ _).mono (fun r h => ⟨fun c => (h c).2.2.2.2, sem_eq_zero_of_no_sems (by decide) r.2⟩) (reference_run m ρ)

section Claims

variable [hPre : Cert.Pre_finite.Facts]

theorem frame_ideal_pre : Cert.quiescent_KernelIdeal_pre_finite := fun m ρ _ => kernel_frame (F := Ideal) m ρ

theorem frame_reference_pre : Cert.quiescent_ReferenceIdeal_pre_finite := fun m ρ _ => frame_reference m ρ trivial

/-- Equal results from equal arguments that are real at every entry. -/
theorem algebraic : Cert.algebraic_KernelIdeal_ReferenceIdeal_pre_finite := by
  intro m ρ m' ρ' hpre hagree
  have hr : RealArgs m := fun c => allReal_args _ _ _ _ _ _ (hpre c)
  refine ⟨_, _, _, _, kernel_run ρ hr, ?_⟩
  refine (θ_run Cert.ReferenceIdeal.defs _ _).mono (fun _ h c => ?_) (reference_run m' ρ')
  obtain ⟨h0, h1, h2, h3, hargs⟩ := h c
  obtain ⟨e0, e1, e2, e3, e4, e5⟩ := hagree c
  refine ⟨h0.trans ?_, h1.trans ?_, h2.trans ?_, h3.trans ?_, hargs⟩
  · rw [e0, e1, e2]
  · rw [e0, e2]
  · rw [e3, e4, e5]
  · rw [e3, e5]

end Claims

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.MlpKernel
public import proofs.«01_k».proof.Proof.Gen.MlpKernel.Frame
public import proofs.«01_k».proof.Proof.Gen.MlpKernelIdeal
public import proofs.«01_k».proof.Proof.Gen.MlpKernelIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.MlpClaim
public import proofs.«01_k».proof.Proof.ProjClaim
public import proofs.«01_k».proof.Proof.AdamwClaim
public import proofs.«01_k».proof.Proof.AdamwFfClaim
public import proofs.«01_k».proof.Proof.SmallClaim
public import proofs.«01_k».proof.Proof.SumsClaim
public import proofs.«01_k».proof.Proof.Gen.SumsKernelIdeal.Frame
public import proofs.«01_k».proof.Proof.Gen.SumsKernel.Frame
public import proofs.«01_k».proof.Proof.Gen.SumsReferenceIdeal.Read
public import proofs.«01_k».proof.Proof.Gen.SumsReferenceIdeal.Run
public import proofs.«01_k».proof.Proof.Gen.SmallKernelIdeal.Frame
public import proofs.«01_k».proof.Proof.Gen.SmallKernel.Frame
public import proofs.«01_k».proof.Proof.Gen.SmallReferenceIdeal.Read
public import proofs.«01_k».proof.Proof.Gen.SmallReferenceIdeal.Run
public import proofs.«01_k».proof.Proof.Gen.AdamwKernelIdeal.Frame
public import proofs.«01_k».proof.Proof.Gen.AdamwFfKernelIdeal.Frame
public import proofs.«01_k».proof.Proof.Gen.AdamwReferenceIdeal.Run
public import proofs.«01_k».proof.Proof.Gen.AdamwReferenceIdeal.Read
public import proofs.«01_k».proof.Proof.Gen.AdamwKernel.Frame
public import proofs.«01_k».proof.Proof.Gen.AdamwFfKernel.Frame
public import proofs.«01_k».proof.Proof.Gen.AdamwFfReferenceIdeal.Read
public import proofs.«01_k».proof.Proof.Gen.ProjKernelIdeal.Frame
public import proofs.«01_k».proof.Proof.Gen.ProjReferenceIdeal.Read
public import proofs.«01_k».proof.Proof.Gen.ProjReferenceIdeal.Run
public import proofs.«01_k».proof.Proof.Gen.ProjKernel.Frame
public import proofs.«01_k».proof.Proof.ScanWords
public import proofs.«01_k».proof.Proof.ScanClaim
public import Idealize.ShloMosaic.Adequacy
public import Idealize.ShloMosaic.Init

@[expose] public section

noncomputable section

namespace Cert.Proof

open Idealize.ShloMosaic Idealize.SL.Sem Cert.MlpKernel

theorem claim : Cert.Claim := ⟨Cert.Kernel.Gen.facts, Cert.KernelIdeal.Gen.facts, Cert.ReferenceIdeal.Gen.facts,
  Cert.MlpKernel.Gen.facts, Cert.MlpKernelIdeal.Gen.facts, Cert.MlpReferenceIdeal.Gen.facts,
  Cert.ProjKernel.Gen.facts, Cert.ProjKernelIdeal.Gen.facts, Cert.ProjReferenceIdeal.Gen.facts,
  Cert.AdamwKernel.Gen.facts, Cert.AdamwKernelIdeal.Gen.facts, Cert.AdamwReferenceIdeal.Gen.facts,
  Cert.AdamwFfKernel.Gen.facts, Cert.AdamwFfKernelIdeal.Gen.facts, Cert.AdamwFfReferenceIdeal.Gen.facts,
  Cert.SmallKernel.Gen.facts, Cert.SmallKernelIdeal.Gen.facts, Cert.SmallReferenceIdeal.Gen.facts,
  Cert.SumsKernel.Gen.facts, Cert.SumsKernelIdeal.Gen.facts, Cert.SumsReferenceIdeal.Gen.facts,
  Cert.Scan.preFacts,
  Cert.Scan.frame_words, Cert.Scan.frame_ideal, Cert.Scan.frame_ideal_pre (hPre := Cert.Scan.preFacts),
  Cert.Scan.frame_reference, Cert.Scan.frame_reference_pre (hPre := Cert.Scan.preFacts),
  fun m ρ _ => Cert.MlpKernel.Gen.frame m ρ, fun m ρ _ => Cert.MlpKernelIdeal.Gen.frame m ρ, Cert.Mlp.reference_frame,
  fun m ρ _ => Cert.ProjKernel.Gen.frame m ρ, fun m ρ _ => Cert.ProjKernelIdeal.Gen.frame m ρ, Cert.Proj.reference_frame,
  fun m ρ _ => Cert.AdamwKernel.Gen.frame m ρ, fun m ρ _ => Cert.AdamwKernelIdeal.Gen.frame m ρ, Cert.Adamw.reference_frame,
  fun m ρ _ => Cert.AdamwFfKernel.Gen.frame m ρ, fun m ρ _ => Cert.AdamwFfKernelIdeal.Gen.frame m ρ, Cert.AdamwFf.reference_frame,
  fun m ρ _ => Cert.SmallKernel.Gen.frame m ρ, fun m ρ _ => Cert.SmallKernelIdeal.Gen.frame m ρ, Cert.Small.reference_frame,
  fun m ρ _ => Cert.SumsKernel.Gen.frame m ρ, fun m ρ _ => Cert.SumsKernelIdeal.Gen.frame m ρ, Cert.Sums.reference_frame,
  trivial, Cert.Scan.algebraic (hPre := Cert.Scan.preFacts), trivial, Cert.Mlp.algebraic,
  trivial, Cert.Proj.algebraic,
  trivial, Cert.Adamw.algebraic, trivial, Cert.AdamwFf.algebraic, trivial, Cert.Small.algebraic,
  trivial, Cert.Sums.algebraic⟩

end Cert.Proof

end
